-- ==== Defs.lean ====
def Pre_Kernel [hPre_tables_in_range : Cert.Pre_tables_in_range.Facts] (m : (ℓ : Loc Cert.Kernel.nD Cert.Kernel.τ Cert.Kernel.sig) → Buf (Elt Bits) ℓ) : Prop :=
  ∀ c : Dev Cert.Kernel.nD,
    (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_tables_in_range : Cert.Pre_tables_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_tables_in_range : Cert.Pre_tables_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_tables_in_range : Cert.Pre_tables_in_range.Facts) (hPre_finite : Cert.Pre_finite.Facts),
    quiescent_Kernel (hKernel := hKernel) (hPre_tables_in_range := hPre_tables_in_range)
    ∧ quiescent_KernelIdeal (hKernelIdeal := hKernelIdeal) (hPre_tables_in_range := hPre_tables_in_range)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S65x1x64x512 : Shape := ⟨4, ![65, 1, 64, 512]⟩
abbrev S65x1x64x64 : Shape := ⟨4, ![65, 1, 64, 64]⟩
abbrev S10400x64x656 : Shape := ⟨3, ![10400, 64, 656]⟩
abbrev S65x128 : Shape := ⟨2, ![65, 128]⟩
abbrev S65 : Shape := ⟨1, ![65]⟩
abbrev S65x1x512 : Shape := ⟨3, ![65, 1, 512]⟩
abbrev S65x1x4 : Shape := ⟨3, ![65, 1, 4]⟩
abbrev S65x1x64 : Shape := ⟨3, ![65, 1, 64]⟩
abbrev S_ : Shape := ⟨0, ![]⟩
abbrev S10400x64x512 : Shape := ⟨3, ![10400, 64, 512]⟩
abbrev S10400x64x4 : Shape := ⟨3, ![10400, 64, 4]⟩
abbrev S65x1 : Shape := ⟨2, ![65, 1]⟩

class Facts : Prop where
  bcast_S_S10400x64x656 : S_.BroadcastsInDim S10400x64x656 (![] : Fin 0 → Fin S10400x64x656.rank)
  slices_S10400x64x656_S10400x64x512_0_0_0 : S10400x64x656.Slices ![0, 0, 0] S10400x64x512
  reducesTo_S10400x64x512_S_d0_1_2 : S10400x64x512.ReducesTo [0, 1, 2] S_
  h_S_ : 0 < S_.numel
  slicesBy_S10400x64x656_S10400x64x4_0s1_0s1_515s4 : S10400x64x656.SlicesBy (![0, 0, 515] : Fin 3 → Nat) ![1, 1, 4] S10400x64x4
  slicesBy_S10400x64x656_S10400x64x4_0s1_0s1_514s4 : S10400x64x656.SlicesBy (![0, 0, 514] : Fin 3 → Nat) ![1, 1, 4] S10400x64x4
  reducesTo_S10400x64x4_S_d0_1_2 : S10400x64x4.ReducesTo [0, 1, 2] S_
  bcast_S_S65x1x64x512 : S_.BroadcastsInDim S65x1x64x512 (![] : Fin 0 → Fin S65x1x64x512.rank)
  reducesTo_S65x1x64x512_S_d0_1_2_3 : S65x1x64x512.ReducesTo [0, 1, 2, 3] S_
  bcast_S_S65x128 : S_.BroadcastsInDim S65x128 (![] : Fin 0 → Fin S65x128.rank)
  bcast_S65_S65x1_0 : S65.BroadcastsInDim S65x1 (![0] : Fin 1 → Fin S65x1.rank)
  bcast_S_S65x1 : S_.BroadcastsInDim S65x1 (![] : Fin 0 → Fin S65x1.rank)
  bcast_S65x1_S65x128_0_1 : S65x1.BroadcastsInDim S65x128 (![0, 1] : Fin 2 → Fin S65x128.rank)

variable [Facts]

def fn_part2 {F : FTy → Type} [FloatOps F] (main_v13 : IVec S_ 1) (main_v17 : IVec S_ 1) (main_v32 : IVec S65x128 1) (main_v35 : IVec S65x1 1) : IVec S65x128 1 :=
  let main_v36 : IVec S65x128 1 := broadcastInDim S65x128 ![0, 1] bcast_S65x1_S65x128_0_1 main_v35
  let main_v37 : IVec S65x128 1 := andi main_v32 main_v36
  let main_v38 : IVec S_ 1 := noti main_v13
  let main_v39 : IVec S65x128 1 := broadcastInDim S65x128 ![] bcast_S_S65x128 main_v38
  let main_v40 : IVec S65x128 1 := andi main_v37 main_v39
  let main_v41 : IVec S_ 1 := noti main_v17
  let main_v42 : IVec S65x128 1 := broadcastInDim S65x128 ![] bcast_S_S65x128 main_v41
  let main_v43 : IVec S65x128 1 := andi main_v40 main_v42
  main_v43

def fn_part1 {F : FTy → Type} [FloatOps F] (main_arg3 : IVec S65x128 32) (main_arg4 : IVec S65 32) (main_v13 : IVec S_ 1) (main_v16 : IVec S65x1x64x512 1) (main_c_4 : IVec S_ 1) : IVec S65x128 1 :=
  let main_v17 : IVec S_ 1 := (fun x v => Host.reduce IntOp.ori x v reducesTo_S65x1x64x512_S_d0_1_2_3 h_S_) main_v16 main_c_4
  let main_c_5 : IVec S_ 32 := constantI S_ 32 0#32
  let main_v18 : IVec S65x128 32 := broadcastInDim S65x128 ![] bcast_S_S65x128 main_c_5
  let main_v19 : IVec S65x128 1 := cmpi .sge main_arg3 main_v18
  let main_c_6 : IVec S_ 32 := constantI S_ 32 10400#32
  let main_v20 : IVec S65x128 32 := broadcastInDim S65x128 ![] bcast_S_S65x128 main_c_6
  let main_v21 : IVec S65x128 1 := cmpi .slt main_arg3 main_v20
  let main_v22 : IVec S65x128 1 := andi main_v19 main_v21
  let main_v23 : IVec S65x1 32 := broadcastInDim S65x1 ![0] bcast_S65_S65x1_0 main_arg4
  let main_c_7 : IVec S_ 32 := constantI S_ 32 0#32
  let main_v24 : IVec S65x1 32 := broadcastInDim S65x1 ![] bcast_S_S65x1 main_c_7
  let main_v25 : IVec S65x1 1 := cmpi .sge main_v23 main_v24
  let main_v26 : IVec S65x128 1 := broadcastInDim S65x128 ![0, 1] bcast_S65x1_S65x128_0_1 main_v25
  let main_v27 : IVec S65x128 1 := andi main_v22 main_v26
  let main_v28 : IVec S65x1 32 := broadcastInDim S65x1 ![0] bcast_S65_S65x1_0 main_arg4
  let main_c_8 : IVec S_ 32 := constantI S_ 32 8192#32
  let main_v29 : IVec S65x1 32 := broadcastInDim S65x1 ![] bcast_S_S65x1 main_c_8
  let main_v30 : IVec S65x1 1 := cmpi .sle main_v28 main_v29
  let main_v31 : IVec S65x128 1 := broadcastInDim S65x128 ![0, 1] bcast_S65x1_S65x128_0_1 main_v30
  let main_v32 : IVec S65x128 1 := andi main_v27 main_v31
  let main_v33 : IVec S65x1 32 := broadcastInDim S65x1 ![0] bcast_S65_S65x1_0 main_arg4
  let main_c_9 : IVec S_ 32 := constantI S_ 32 1#32
  let main_v34 : IVec S65x1 32 := broadcastInDim S65x1 ![] bcast_S_S65x1 main_c_9
  let main_v35 : IVec S65x1 1 := cmpi .sge main_v33 main_v34
  fn_part2 (F := F) main_v13 main_v17 main_v32 main_v35

def fn {F : FTy → Type} [FloatOps F] (main_arg0 : FVec F S65x1x64x512 .bf16) (main_arg1 : FVec F S65x1x64x64 .bf16) (main_arg2 : IVec S10400x64x656 8) (main_arg3 : IVec S65x128 32) (main_arg4 : IVec S65 32) (main_arg5 : FVec F S65x1x512 .fp8e4m3) (main_arg6 : FVec F S65x1x4 .f32) (main_arg7 : FVec F S65x1x64 .bf16) : IVec S65x128 1 :=
  let main_c : IVec S_ 8 := constantI S_ 8 127#8
  let main_v0 : IVec S10400x64x656 8 := broadcastInDim S10400x64x656 ![] bcast_S_S10400x64x656 main_c
  let main_v1 : IVec S10400x64x656 1 := cmpi .eq main_arg2 main_v0
  let main_c_0 : IVec S_ 8 := constantI S_ 8 255#8
  let main_v2 : IVec S10400x64x656 8 := broadcastInDim S10400x64x656 ![] bcast_S_S10400x64x656 main_c_0
  let main_v3 : IVec S10400x64x656 1 := cmpi .eq main_arg2 main_v2
  let main_v4 : IVec S10400x64x656 1 := ori main_v1 main_v3
  let main_c_1 : IVec S_ 8 := constantI S_ 8 128#8
  let main_v5 : IVec S10400x64x656 8 := broadcastInDim S10400x64x656 ![] bcast_S_S10400x64x656 main_c_1
  let main_v6 : IVec S10400x64x656 1 := cmpi .uge main_arg2 main_v5
  let main_v7 : IVec S10400x64x512 1 := (extractStridedSlice S10400x64x512 ![0, 0, 0] · slices_S10400x64x656_S10400x64x512_0_0_0) main_v4
  let main_c_2 : IVec S_ 1 := constantI S_ 1 0#1
  let main_v8 : IVec S_ 1 := (fun x v => Host.reduce IntOp.ori x v reducesTo_S10400x64x512_S_d0_1_2 h_S_) main_v7 main_c_2
  let main_v9 : IVec S10400x64x4 1 := (Host.slice S10400x64x4 ![0, 0, 515] ![1, 1, 4] · slicesBy_S10400x64x656_S10400x64x4_0s1_0s1_515s4) main_v4
  let main_v10 : IVec S10400x64x4 1 := (Host.slice S10400x64x4 ![0, 0, 514] ![1, 1, 4] · slicesBy_S10400x64x656_S10400x64x4_0s1_0s1_514s4) main_v6
  let main_v11 : IVec S10400x64x4 1 := andi main_v9 main_v10
  let main_c_3 : IVec S_ 1 := constantI S_ 1 0#1
  let main_v12 : IVec S_ 1 := (fun x v => Host.reduce IntOp.ori x v reducesTo_S10400x64x4_S_d0_1_2 h_S_) main_v11 main_c_3
  let main_v13 : IVec S_ 1 := ori main_v8 main_v12
  let main_v14 : FVec F S65x1x64x512 .bf16 := Host.absf main_arg0
  let main_cst : FVec F S_ .bf16 := constant S_ .bf16 0x7F80#16
  let main_v15 : FVec F S65x1x64x512 .bf16 := broadcastInDim S65x1x64x512 ![] bcast_S_S65x1x64x512 main_cst
  let main_v16 : IVec S65x1x64x512 1 := cmpf .oeq main_v14 main_v15
  let main_c_4 : IVec S_ 1 := constantI S_ 1 0#1
  fn_part1 (F := F) main_arg3 main_arg4 main_v13 main_v16 main_c_4
-- ==== Pre_tables_in_range.lean ====
abbrev S65x1x64x512 : Shape := ⟨4, ![65, 1, 64, 512]⟩
abbrev S65x1x64x64 : Shape := ⟨4, ![65, 1, 64, 64]⟩
abbrev S10400x64x656 : Shape := ⟨3, ![10400, 64, 656]⟩
abbrev S65x128 : Shape := ⟨2, ![65, 128]⟩
abbrev S65 : Shape := ⟨1, ![65]⟩
abbrev S65x1x512 : Shape := ⟨3, ![65, 1, 512]⟩
abbrev S65x1x4 : Shape := ⟨3, ![65, 1, 4]⟩
abbrev S65x1x64 : Shape := ⟨3, ![65, 1, 64]⟩
abbrev S_ : Shape := ⟨0, ![]⟩
abbrev S65x1 : Shape := ⟨2, ![65, 1]⟩

class Facts : Prop where
  bcast_S_S65x128 : S_.BroadcastsInDim S65x128 (![] : Fin 0 → Fin S65x128.rank)
  bcast_S65_S65x1_0 : S65.BroadcastsInDim S65x1 (![0] : Fin 1 → Fin S65x1.rank)
  bcast_S_S65x1 : S_.BroadcastsInDim S65x1 (![] : Fin 0 → Fin S65x1.rank)
  bcast_S65x1_S65x128_0_1 : S65x1.BroadcastsInDim S65x128 (![0, 1] : Fin 2 → Fin S65x128.rank)

variable [Facts]

def fn {F : FTy → Type} [FloatOps F] (main_arg0 : FVec F S65x1x64x512 .bf16) (main_arg1 : FVec F S65x1x64x64 .bf16) (main_arg2 : IVec S10400x64x656 8) (main_arg3 : IVec S65x128 32) (main_arg4 : IVec S65 32) (main_arg5 : FVec F S65x1x512 .fp8e4m3) (main_arg6 : FVec F S65x1x4 .f32) (main_arg7 : FVec F S65x1x64 .bf16) : IVec S65x128 1 :=
  let main_c : IVec S_ 32 := constantI S_ 32 0#32
  let main_v0 : IVec S65x128 32 := broadcastInDim S65x128 ![] bcast_S_S65x128 main_c
  let main_v1 : IVec S65x128 1 := cmpi .sge main_arg3 main_v0
  let main_c_0 : IVec S_ 32 := constantI S_ 32 10400#32
  let main_v2 : IVec S65x128 32 := broadcastInDim S65x128 ![] bcast_S_S65x128 main_c_0
  let main_v3 : IVec S65x128 1 := cmpi .slt main_arg3 main_v2
  let main_v4 : IVec S65x128 1 := andi main_v1 main_v3
  let main_v5 : IVec S65x1 32 := broadcastInDim S65x1 ![0] bcast_S65_S65x1_0 main_arg4
  let main_c_1 : IVec S_ 32 := constantI S_ 32 0#32
  let main_v6 : IVec S65x1 32 := broadcastInDim S65x1 ![] bcast_S_S65x1 main_c_1
  let main_v7 : IVec S65x1 1 := cmpi .sge main_v5 main_v6
  let main_v8 : IVec S65x128 1 := broadcastInDim S65x128 ![0, 1] bcast_S65x1_S65x128_0_1 main_v7
  let main_v9 : IVec S65x128 1 := andi main_v4 main_v8
  let main_v10 : IVec S65x1 32 := broadcastInDim S65x1 ![0] bcast_S65_S65x1_0 main_arg4
  let main_c_2 : IVec S_ 32 := constantI S_ 32 8192#32
  let main_v11 : IVec S65x1 32 := broadcastInDim S65x1 ![] bcast_S_S65x1 main_c_2
  let main_v12 : IVec S65x1 1 := cmpi .sle main_v10 main_v11
  let main_v13 : IVec S65x128 1 := broadcastInDim S65x128 ![0, 1] bcast_S65x1_S65x128_0_1 main_v12
  let main_v14 : IVec S65x128 1 := andi main_v9 main_v13
  main_v14
-- ==== Kernel.lean ====
abbrev S65x1x64x512 : Shape := ⟨4, ![65, 1, 64, 512]⟩
abbrev S65x1x64x64 : Shape := ⟨4, ![65, 1, 64, 64]⟩
abbrev S10400x64x656 : Shape := ⟨3, ![10400, 64, 656]⟩
abbrev S65x128 : Shape := ⟨2, ![65, 128]⟩
abbrev S65 : Shape := ⟨1, ![65]⟩
abbrev S65x1x512 : Shape := ⟨3, ![65, 1, 512]⟩
abbrev S65x1x4 : Shape := ⟨3, ![65, 1, 4]⟩
abbrev S65x1x64 : Shape := ⟨3, ![65, 1, 64]⟩
abbrev S65x64x512 : Shape := ⟨3, ![65, 64, 512]⟩
abbrev S65x64x1 : Shape := ⟨3, ![65, 64, 1]⟩
abbrev S1x1x64x512 : Shape := ⟨4, ![1, 1, 64, 512]⟩
abbrev S1x1x64x64 : Shape := ⟨4, ![1, 1, 64, 64]⟩
abbrev S1x1x512 : Shape := ⟨3, ![1, 1, 512]⟩
abbrev S1x1x4 : Shape := ⟨3, ![1, 1, 4]⟩
abbrev S1x1x64 : Shape := ⟨3, ![1, 1, 64]⟩
abbrev S1x64x512 : Shape := ⟨3, ![1, 64, 512]⟩
abbrev S1x64x1 : Shape := ⟨3, ![1, 64, 1]⟩
abbrev S2x16x64x656 : Shape := ⟨4, ![2, 16, 64, 656]⟩
abbrev S2 : Shape := ⟨1, ![2]⟩
abbrev S1 : Shape := ⟨1, ![1]⟩
abbrev S1x1 : Shape := ⟨2, ![1, 1]⟩
abbrev S_ : Shape := ⟨0, ![]⟩
abbrev S1x1x64x656 : Shape := ⟨4, ![1, 1, 64, 656]⟩
abbrev S64x656 : Shape := ⟨2, ![64, 656]⟩
abbrev S1x64x656 : Shape := ⟨3, ![1, 64, 656]⟩
abbrev S64x512 : Shape := ⟨2, ![64, 512]⟩
abbrev S64x64 : Shape := ⟨2, ![64, 64]⟩
abbrev S1x4 : Shape := ⟨2, ![1, 4]⟩
abbrev S1x512 : Shape := ⟨2, ![1, 512]⟩
abbrev S1x128 : Shape := ⟨2, ![1, 128]⟩
abbrev S64 : Shape := ⟨1, ![64]⟩
abbrev S64x1 : Shape := ⟨2, ![64, 1]⟩
abbrev S1x64 : Shape := ⟨2, ![1, 64]⟩
abbrev S1x16x64x656 : Shape := ⟨4, ![1, 16, 64, 656]⟩
abbrev S16x64x656 : Shape := ⟨3, ![16, 64, 656]⟩
abbrev S1024x656 : Shape := ⟨2, ![1024, 656]⟩
abbrev S1024x128 : Shape := ⟨2, ![1024, 128]⟩
abbrev S128x1024 : Shape := ⟨2, ![128, 1024]⟩
abbrev S1024x16 : Shape := ⟨2, ![1024, 16]⟩
abbrev S16x1024 : Shape := ⟨2, ![16, 1024]⟩
abbrev S32x1024 : Shape := ⟨2, ![32, 1024]⟩
abbrev S4x1024 : Shape := ⟨2, ![4, 1024]⟩
abbrev S64x1024 : Shape := ⟨2, ![64, 1024]⟩
abbrev S56x1024 : Shape := ⟨2, ![56, 1024]⟩
abbrev S8x1024 : Shape := ⟨2, ![8, 1024]⟩
abbrev S1024x512 : Shape := ⟨2, ![1024, 512]⟩
abbrev S64x128 : Shape := ⟨2, ![64, 128]⟩
abbrev S1x1024 : Shape := ⟨2, ![1, 1024]⟩

abbrev nBuf : Space → Nat
  | .hbm => 8
  | .vmem => 15
  | .smem => 2
  | _ => 0

abbrev bufTy : (tb : Table) → Fin (tcTables nBuf tb) → BufTy
  | .hbm, ⟨0, _⟩ => ⟨S65x1x64x512, .bf16⟩
  | .hbm, ⟨1, _⟩ => ⟨S65x1x64x64, .bf16⟩
  | .hbm, ⟨2, _⟩ => ⟨S10400x64x656, .i8⟩
  | .hbm, ⟨3, _⟩ => ⟨S65x1x512, .fp8e4m3⟩
  | .hbm, ⟨4, _⟩ => ⟨S65x1x4, .f32⟩
  | .hbm, ⟨5, _⟩ => ⟨S65x1x64, .bf16⟩
  | .hbm, ⟨6, _⟩ => ⟨S65x64x512, .bf16⟩
  | .hbm, ⟨7, _⟩ => ⟨S65x64x1, .f32⟩
  | .local _ .vmem, ⟨0, _⟩ => ⟨S1x1x64x512, .bf16⟩
  | .local _ .vmem, ⟨1, _⟩ => ⟨S1x1x64x512, .bf16⟩
  | .local _ .vmem, ⟨2, _⟩ => ⟨S1x1x64x64, .bf16⟩
  | .local _ .vmem, ⟨3, _⟩ => ⟨S1x1x64x64, .bf16⟩
  | .local _ .vmem, ⟨4, _⟩ => ⟨S1x1x512, .fp8e4m3⟩
  | .local _ .vmem, ⟨5, _⟩ => ⟨S1x1x512, .fp8e4m3⟩
  | .local _ .vmem, ⟨6, _⟩ => ⟨S1x1x4, .f32⟩
  | .local _ .vmem, ⟨7, _⟩ => ⟨S1x1x4, .f32⟩
  | .local _ .vmem, ⟨8, _⟩ => ⟨S1x1x64, .bf16⟩
  | .local _ .vmem, ⟨9, _⟩ => ⟨S1x1x64, .bf16⟩
  | .local _ .vmem, ⟨10, _⟩ => ⟨S1x64x512, .bf16⟩
  | .local _ .vmem, ⟨11, _⟩ => ⟨S1x64x512, .bf16⟩
  | .local _ .vmem, ⟨12, _⟩ => ⟨S1x64x1, .f32⟩
  | .local _ .vmem, ⟨13, _⟩ => ⟨S1x64x1, .f32⟩
  | .local _ .vmem, ⟨14, _⟩ => ⟨S2x16x64x656, .i8⟩
  | .local _ .smem, ⟨0, _⟩ => ⟨S65x128, .i32⟩
  | .local _ .smem, ⟨1, _⟩ => ⟨S65, .i32⟩
  | _, _ => ⟨S65x1x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0_0 : Ref sig .tc := ⟨.hbm, 6, rfl⟩
abbrev main_v0_1 : Ref sig .tc := ⟨.hbm, 7, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![65], ![false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 2 → Nat :=
  let arg0 : BitVec 32 := BitVec.ofNat 32 (i 0).val
  let v157 : Index := Scalar.indexCast arg0
  let c0_63 : Index := 0#32
  ![v157.toNat, 0]
def k0_off3 (v158 : BitVec 32) : Fin 3 → Nat :=
  let c0_i32_69 : BitVec 32 := 0#32
  let c0_i32_70 : BitVec 32 := 0#32
  ![v158.toNat, 0, 0]
def k0_cond2 (v1 : BitVec 32) : BitVec 1 :=
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c0_i32_16 : BitVec 32 := 0#32
  let v43 : BitVec 1 := Scalar.cmpi .sgt v20 c0_i32_16
  let v44 : BitVec 32 := Scalar.extui v43
  let c0_i32_17 : BitVec 32 := 0#32
  let v45 : BitVec 1 := Scalar.cmpi .ne v44 c0_i32_17
  v45

def k0_chk1 (v1 : BitVec 32) (v158 : BitVec 32) : Prop :=
  (∀ (k0_h2 : k0_cond2 v1 = 1#1), ∀ a, (k0_off3 v158) a + S1x64x656.size a ≤ S10400x64x656.size a) ∧
  (∀ (k0_h2 : k0_cond2 v1 = 1#1), ∀ (hinb : ∀ a, (k0_off3 v158) a + S1x64x656.size a ≤ S10400x64x656.size a), (Rect.unit (s := S10400x64x656) (k0_off3 v158) S1x64x656.size hinb).WholeWords (EltTy.packing .i8))
theorem k0_off3_inb : ∀ (v1 : BitVec 32) (v158 : BitVec 32) (k0_hw1 : k0_chk1 v1 v158), ∀ (k0_h2 : k0_cond2 v1 = 1#1), ∀ a, (k0_off3 v158) a + S1x64x656.size a ≤ S10400x64x656.size a := fun v1 v158 k0_hw1 k0_h2 => k0_hw1.1 k0_h2
theorem k0_off3_wordsi8 : ∀ (v1 : BitVec 32) (v158 : BitVec 32) (k0_hw1 : k0_chk1 v1 v158), ∀ (k0_h2 : k0_cond2 v1 = 1#1), (Rect.unit (s := S10400x64x656) (k0_off3 v158) S1x64x656.size (k0_off3_inb v1 v158 k0_hw1 k0_h2)).WholeWords (EltTy.packing .i8) := fun v1 v158 k0_hw1 k0_h2 => k0_hw1.2 k0_h2 (k0_off3_inb v1 v158 k0_hw1 k0_h2)

def k0_off4 (i : grid0.Coords) : Fin 2 → Nat :=
  let arg0 : BitVec 32 := BitVec.ofNat 32 (i 0).val
  let v157 : Index := Scalar.indexCast arg0
  let c1 : Index := 1#32
  ![v157.toNat, 1]
def k0_off5 (v158 : BitVec 32) : Fin 3 → Nat :=
  let c0_i32_68 : BitVec 32 := 0#32
  let c0_i32_69 : BitVec 32 := 0#32
  ![v158.toNat, 0, 0]
def k0_cond3 (v1 : BitVec 32) : BitVec 1 :=
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c1_i32_18 : BitVec 32 := 1#32
  let v46 : BitVec 1 := Scalar.cmpi .sgt v20 c1_i32_18
  let v47 : BitVec 32 := Scalar.extui v46
  let c0_i32_19 : BitVec 32 := 0#32
  let v48 : BitVec 1 := Scalar.cmpi .ne v47 c0_i32_19
  v48

def k0_chk2 (v1 : BitVec 32) (v158 : BitVec 32) : Prop :=
  (∀ (k0_h3 : k0_cond3 v1 = 1#1), ∀ a, (k0_off5 v158) a + S1x64x656.size a ≤ S10400x64x656.size a) ∧
  (∀ (k0_h3 : k0_cond3 v1 = 1#1), ∀ (hinb : ∀ a, (k0_off5 v158) a + S1x64x656.size a ≤ S10400x64x656.size a), (Rect.unit (s := S10400x64x656) (k0_off5 v158) S1x64x656.size hinb).WholeWords (EltTy.packing .i8))
theorem k0_off5_inb : ∀ (v1 : BitVec 32) (v158 : BitVec 32) (k0_hw2 : k0_chk2 v1 v158), ∀ (k0_h3 : k0_cond3 v1 = 1#1), ∀ a, (k0_off5 v158) a + S1x64x656.size a ≤ S10400x64x656.size a := fun v1 v158 k0_hw2 k0_h3 => k0_hw2.1 k0_h3
theorem k0_off5_wordsi8 : ∀ (v1 : BitVec 32) (v158 : BitVec 32) (k0_hw2 : k0_chk2 v1 v158), ∀ (k0_h3 : k0_cond3 v1 = 1#1), (Rect.unit (s := S10400x64x656) (k0_off5 v158) S1x64x656.size (k0_off5_inb v1 v158 k0_hw2 k0_h3)).WholeWords (EltTy.packing .i8) := fun v1 v158 k0_hw2 k0_h3 => k0_hw2.2 k0_h3 (k0_off5_inb v1 v158 k0_hw2 k0_h3)

def k0_off6 (i : grid0.Coords) : Fin 2 → Nat :=
  let arg0 : BitVec 32 := BitVec.ofNat 32 (i 0).val
  let v157 : Index := Scalar.indexCast arg0
  let c2 : Index := 2#32
  ![v157.toNat, 2]
def k0_off7 (v158 : BitVec 32) : Fin 3 → Nat :=
  let c0_i32_68 : BitVec 32 := 0#32
  let c0_i32_69 : BitVec 32 := 0#32
  ![v158.toNat, 0, 0]
def k0_cond4 (v1 : BitVec 32) : BitVec 1 :=
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c2_i32 : BitVec 32 := 2#32
  let v49 : BitVec 1 := Scalar.cmpi .sgt v20 c2_i32
  let v50 : BitVec 32 := Scalar.extui v49
  let c0_i32_20 : BitVec 32 := 0#32
  let v51 : BitVec 1 := Scalar.cmpi .ne v50 c0_i32_20
  v51

def k0_chk3 (v1 : BitVec 32) (v158 : BitVec 32) : Prop :=
  (∀ (k0_h4 : k0_cond4 v1 = 1#1), ∀ a, (k0_off7 v158) a + S1x64x656.size a ≤ S10400x64x656.size a) ∧
  (∀ (k0_h4 : k0_cond4 v1 = 1#1), ∀ (hinb : ∀ a, (k0_off7 v158) a + S1x64x656.size a ≤ S10400x64x656.size a), (Rect.unit (s := S10400x64x656) (k0_off7 v158) S1x64x656.size hinb).WholeWords (EltTy.packing .i8))
theorem k0_off7_inb : ∀ (v1 : BitVec 32) (v158 : BitVec 32) (k0_hw3 : k0_chk3 v1 v158), ∀ (k0_h4 : k0_cond4 v1 = 1#1), ∀ a, (k0_off7 v158) a + S1x64x656.size a ≤ S10400x64x656.size a := fun v1 v158 k0_hw3 k0_h4 => k0_hw3.1 k0_h4
theorem k0_off7_wordsi8 : ∀ (v1 : BitVec 32) (v158 : BitVec 32) (k0_hw3 : k0_chk3 v1 v158), ∀ (k0_h4 : k0_cond4 v1 = 1#1), (Rect.unit (s := S10400x64x656) (k0_off7 v158) S1x64x656.size (k0_off7_inb v1 v158 k0_hw3 k0_h4)).WholeWords (EltTy.packing .i8) := fun v1 v158 k0_hw3 k0_h4 => k0_hw3.2 k0_h4 (k0_off7_inb v1 v158 k0_hw3 k0_h4)

def k0_off8 (i : grid0.Coords) : Fin 2 → Nat :=
  let arg0 : BitVec 32 := BitVec.ofNat 32 (i 0).val
  let v157 : Index := Scalar.indexCast arg0
  let c3 : Index := 3#32
  ![v157.toNat, 3]
def k0_off9 (v158 : BitVec 32) : Fin 3 → Nat :=
  let c0_i32_68 : BitVec 32 := 0#32
  let c0_i32_69 : BitVec 32 := 0#32
  ![v158.toNat, 0, 0]
def k0_cond5 (v1 : BitVec 32) : BitVec 1 :=
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c3_i32 : BitVec 32 := 3#32
  let v52 : BitVec 1 := Scalar.cmpi .sgt v20 c3_i32
  let v53 : BitVec 32 := Scalar.extui v52
  let c0_i32_21 : BitVec 32 := 0#32
  let v54 : BitVec 1 := Scalar.cmpi .ne v53 c0_i32_21
  v54

def k0_chk4 (v1 : BitVec 32) (v158 : BitVec 32) : Prop :=
  (∀ (k0_h5 : k0_cond5 v1 = 1#1), ∀ a, (k0_off9 v158) a + S1x64x656.size a ≤ S10400x64x656.size a) ∧
  (∀ (k0_h5 : k0_cond5 v1 = 1#1), ∀ (hinb : ∀ a, (k0_off9 v158) a + S1x64x656.size a ≤ S10400x64x656.size a), (Rect.unit (s := S10400x64x656) (k0_off9 v158) S1x64x656.size hinb).WholeWords (EltTy.packing .i8))
theorem k0_off9_inb : ∀ (v1 : BitVec 32) (v158 : BitVec 32) (k0_hw4 : k0_chk4 v1 v158), ∀ (k0_h5 : k0_cond5 v1 = 1#1), ∀ a, (k0_off9 v158) a + S1x64x656.size a ≤ S10400x64x656.size a := fun v1 v158 k0_hw4 k0_h5 => k0_hw4.1 k0_h5
theorem k0_off9_wordsi8 : ∀ (v1 : BitVec 32) (v158 : BitVec 32) (k0_hw4 : k0_chk4 v1 v158), ∀ (k0_h5 : k0_cond5 v1 = 1#1), (Rect.unit (s := S10400x64x656) (k0_off9 v158) S1x64x656.size (k0_off9_inb v1 v158 k0_hw4 k0_h5)).WholeWords (EltTy.packing .i8) := fun v1 v158 k0_hw4 k0_h5 => k0_hw4.2 k0_h5 (k0_off9_inb v1 v158 k0_hw4 k0_h5)

def k0_off10 (i : grid0.Coords) : Fin 2 → Nat :=
  let arg0 : BitVec 32 := BitVec.ofNat 32 (i 0).val
  let v157 : Index := Scalar.indexCast arg0
  let c4 : Index := 4#32
  ![v157.toNat, 4]
def k0_off11 (v158 : BitVec 32) : Fin 3 → Nat :=
  let c0_i32_68 : BitVec 32 := 0#32
  let c0_i32_69 : BitVec 32 := 0#32
  ![v158.toNat, 0, 0]
def k0_cond6 (v1 : BitVec 32) : BitVec 1 :=
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c4_i32 : BitVec 32 := 4#32
  let v55 : BitVec 1 := Scalar.cmpi .sgt v20 c4_i32
  let v56 : BitVec 32 := Scalar.extui v55
  let c0_i32_22 : BitVec 32 := 0#32
  let v57 : BitVec 1 := Scalar.cmpi .ne v56 c0_i32_22
  v57

def k0_chk5 (v1 : BitVec 32) (v158 : BitVec 32) : Prop :=
  (∀ (k0_h6 : k0_cond6 v1 = 1#1), ∀ a, (k0_off11 v158) a + S1x64x656.size a ≤ S10400x64x656.size a) ∧
  (∀ (k0_h6 : k0_cond6 v1 = 1#1), ∀ (hinb : ∀ a, (k0_off11 v158) a + S1x64x656.size a ≤ S10400x64x656.size a), (Rect.unit (s := S10400x64x656) (k0_off11 v158) S1x64x656.size hinb).WholeWords (EltTy.packing .i8))
theorem k0_off11_inb : ∀ (v1 : BitVec 32) (v158 : BitVec 32) (k0_hw5 : k0_chk5 v1 v158), ∀ (k0_h6 : k0_cond6 v1 = 1#1), ∀ a, (k0_off11 v158) a + S1x64x656.size a ≤ S10400x64x656.size a := fun v1 v158 k0_hw5 k0_h6 => k0_hw5.1 k0_h6
theorem k0_off11_wordsi8 : ∀ (v1 : BitVec 32) (v158 : BitVec 32) (k0_hw5 : k0_chk5 v1 v158), ∀ (k0_h6 : k0_cond6 v1 = 1#1), (Rect.unit (s := S10400x64x656) (k0_off11 v158) S1x64x656.size (k0_off11_inb v1 v158 k0_hw5 k0_h6)).WholeWords (EltTy.packing .i8) := fun v1 v158 k0_hw5 k0_h6 => k0_hw5.2 k0_h6 (k0_off11_inb v1 v158 k0_hw5 k0_h6)

def k0_off12 (i : grid0.Coords) : Fin 2 → Nat :=
  let arg0 : BitVec 32 := BitVec.ofNat 32 (i 0).val
  let v157 : Index := Scalar.indexCast arg0
  let c5 : Index := 5#32
  ![v157.toNat, 5]
def k0_off13 (v158 : BitVec 32) : Fin 3 → Nat :=
  let c0_i32_68 : BitVec 32 := 0#32
  let c0_i32_69 : BitVec 32 := 0#32
  ![v158.toNat, 0, 0]
def k0_cond7 (v1 : BitVec 32) : BitVec 1 :=
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c5_i32 : BitVec 32 := 5#32
  let v58 : BitVec 1 := Scalar.cmpi .sgt v20 c5_i32
  let v59 : BitVec 32 := Scalar.extui v58
  let c0_i32_23 : BitVec 32 := 0#32
  let v60 : BitVec 1 := Scalar.cmpi .ne v59 c0_i32_23
  v60

def k0_chk6 (v1 : BitVec 32) (v158 : BitVec 32) : Prop :=
  (∀ (k0_h7 : k0_cond7 v1 = 1#1), ∀ a, (k0_off13 v158) a + S1x64x656.size a ≤ S10400x64x656.size a) ∧
  (∀ (k0_h7 : k0_cond7 v1 = 1#1), ∀ (hinb : ∀ a, (k0_off13 v158) a + S1x64x656.size a ≤ S10400x64x656.size a), (Rect.unit (s := S10400x64x656) (k0_off13 v158) S1x64x656.size hinb).WholeWords (EltTy.packing .i8))
theorem k0_off13_inb : ∀ (v1 : BitVec 32) (v158 : BitVec 32) (k0_hw6 : k0_chk6 v1 v158), ∀ (k0_h7 : k0_cond7 v1 = 1#1), ∀ a, (k0_off13 v158) a + S1x64x656.size a ≤ S10400x64x656.size a := fun v1 v158 k0_hw6 k0_h7 => k0_hw6.1 k0_h7
theorem k0_off13_wordsi8 : ∀ (v1 : BitVec 32) (v158 : BitVec 32) (k0_hw6 : k0_chk6 v1 v158), ∀ (k0_h7 : k0_cond7 v1 = 1#1), (Rect.unit (s := S10400x64x656) (k0_off13 v158) S1x64x656.size (k0_off13_inb v1 v158 k0_hw6 k0_h7)).WholeWords (EltTy.packing .i8) := fun v1 v158 k0_hw6 k0_h7 => k0_hw6.2 k0_h7 (k0_off13_inb v1 v158 k0_hw6 k0_h7)

def k0_off14 (i : grid0.Coords) : Fin 2 → Nat :=
  let arg0 : BitVec 32 := BitVec.ofNat 32 (i 0).val
  let v157 : Index := Scalar.indexCast arg0
  let c6 : Index := 6#32
  ![v157.toNat, 6]
def k0_off15 (v158 : BitVec 32) : Fin 3 → Nat :=
  let c0_i32_68 : BitVec 32 := 0#32
  let c0_i32_69 : BitVec 32 := 0#32
  ![v158.toNat, 0, 0]
def k0_cond8 (v1 : BitVec 32) : BitVec 1 :=
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c6_i32 : BitVec 32 := 6#32
  let v61 : BitVec 1 := Scalar.cmpi .sgt v20 c6_i32
  let v62 : BitVec 32 := Scalar.extui v61
  let c0_i32_24 : BitVec 32 := 0#32
  let v63 : BitVec 1 := Scalar.cmpi .ne v62 c0_i32_24
  v63

def k0_chk7 (v1 : BitVec 32) (v158 : BitVec 32) : Prop :=
  (∀ (k0_h8 : k0_cond8 v1 = 1#1), ∀ a, (k0_off15 v158) a + S1x64x656.size a ≤ S10400x64x656.size a) ∧
  (∀ (k0_h8 : k0_cond8 v1 = 1#1), ∀ (hinb : ∀ a, (k0_off15 v158) a + S1x64x656.size a ≤ S10400x64x656.size a), (Rect.unit (s := S10400x64x656) (k0_off15 v158) S1x64x656.size hinb).WholeWords (EltTy.packing .i8))
theorem k0_off15_inb : ∀ (v1 : BitVec 32) (v158 : BitVec 32) (k0_hw7 : k0_chk7 v1 v158), ∀ (k0_h8 : k0_cond8 v1 = 1#1), ∀ a, (k0_off15 v158) a + S1x64x656.size a ≤ S10400x64x656.size a := fun v1 v158 k0_hw7 k0_h8 => k0_hw7.1 k0_h8
theorem k0_off15_wordsi8 : ∀ (v1 : BitVec 32) (v158 : BitVec 32) (k0_hw7 : k0_chk7 v1 v158), ∀ (k0_h8 : k0_cond8 v1 = 1#1), (Rect.unit (s := S10400x64x656) (k0_off15 v158) S1x64x656.size (k0_off15_inb v1 v158 k0_hw7 k0_h8)).WholeWords (EltTy.packing .i8) := fun v1 v158 k0_hw7 k0_h8 => k0_hw7.2 k0_h8 (k0_off15_inb v1 v158 k0_hw7 k0_h8)

def k0_off16 (i : grid0.Coords) : Fin 2 → Nat :=
  let arg0 : BitVec 32 := BitVec.ofNat 32 (i 0).val
  let v157 : Index := Scalar.indexCast arg0
  let c7 : Index := 7#32
  ![v157.toNat, 7]
def k0_off17 (v158 : BitVec 32) : Fin 3 → Nat :=
  let c0_i32_68 : BitVec 32 := 0#32
  let c0_i32_69 : BitVec 32 := 0#32
  ![v158.toNat, 0, 0]
def k0_cond9 (v1 : BitVec 32) : BitVec 1 :=
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c7_i32 : BitVec 32 := 7#32
  let v64 : BitVec 1 := Scalar.cmpi .sgt v20 c7_i32
  let v65 : BitVec 32 := Scalar.extui v64
  let c0_i32_25 : BitVec 32 := 0#32
  let v66 : BitVec 1 := Scalar.cmpi .ne v65 c0_i32_25
  v66

def k0_chk8 (v1 : BitVec 32) (v158 : BitVec 32) : Prop :=
  (∀ (k0_h9 : k0_cond9 v1 = 1#1), ∀ a, (k0_off17 v158) a + S1x64x656.size a ≤ S10400x64x656.size a) ∧
  (∀ (k0_h9 : k0_cond9 v1 = 1#1), ∀ (hinb : ∀ a, (k0_off17 v158) a + S1x64x656.size a ≤ S10400x64x656.size a), (Rect.unit (s := S10400x64x656) (k0_off17 v158) S1x64x656.size hinb).WholeWords (EltTy.packing .i8))
theorem k0_off17_inb : ∀ (v1 : BitVec 32) (v158 : BitVec 32) (k0_hw8 : k0_chk8 v1 v158), ∀ (k0_h9 : k0_cond9 v1 = 1#1), ∀ a, (k0_off17 v158) a + S1x64x656.size a ≤ S10400x64x656.size a := fun v1 v158 k0_hw8 k0_h9 => k0_hw8.1 k0_h9
theorem k0_off17_wordsi8 : ∀ (v1 : BitVec 32) (v158 : BitVec 32) (k0_hw8 : k0_chk8 v1 v158), ∀ (k0_h9 : k0_cond9 v1 = 1#1), (Rect.unit (s := S10400x64x656) (k0_off17 v158) S1x64x656.size (k0_off17_inb v1 v158 k0_hw8 k0_h9)).WholeWords (EltTy.packing .i8) := fun v1 v158 k0_hw8 k0_h9 => k0_hw8.2 k0_h9 (k0_off17_inb v1 v158 k0_hw8 k0_h9)

def k0_off18 (i : grid0.Coords) : Fin 2 → Nat :=
  let arg0 : BitVec 32 := BitVec.ofNat 32 (i 0).val
  let v157 : Index := Scalar.indexCast arg0
  let c8 : Index := 8#32
  ![v157.toNat, 8]
def k0_off19 (v158 : BitVec 32) : Fin 3 → Nat :=
  let c0_i32_68 : BitVec 32 := 0#32
  let c0_i32_69 : BitVec 32 := 0#32
  ![v158.toNat, 0, 0]
def k0_cond10 (v1 : BitVec 32) : BitVec 1 :=
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c8_i32 : BitVec 32 := 8#32
  let v67 : BitVec 1 := Scalar.cmpi .sgt v20 c8_i32
  let v68 : BitVec 32 := Scalar.extui v67
  let c0_i32_26 : BitVec 32 := 0#32
  let v69 : BitVec 1 := Scalar.cmpi .ne v68 c0_i32_26
  v69

def k0_chk9 (v1 : BitVec 32) (v158 : BitVec 32) : Prop :=
  (∀ (k0_h10 : k0_cond10 v1 = 1#1), ∀ a, (k0_off19 v158) a + S1x64x656.size a ≤ S10400x64x656.size a) ∧
  (∀ (k0_h10 : k0_cond10 v1 = 1#1), ∀ (hinb : ∀ a, (k0_off19 v158) a + S1x64x656.size a ≤ S10400x64x656.size a), (Rect.unit (s := S10400x64x656) (k0_off19 v158) S1x64x656.size hinb).WholeWords (EltTy.packing .i8))
theorem k0_off19_inb : ∀ (v1 : BitVec 32) (v158 : BitVec 32) (k0_hw9 : k0_chk9 v1 v158), ∀ (k0_h10 : k0_cond10 v1 = 1#1), ∀ a, (k0_off19 v158) a + S1x64x656.size a ≤ S10400x64x656.size a := fun v1 v158 k0_hw9 k0_h10 => k0_hw9.1 k0_h10
theorem k0_off19_wordsi8 : ∀ (v1 : BitVec 32) (v158 : BitVec 32) (k0_hw9 : k0_chk9 v1 v158), ∀ (k0_h10 : k0_cond10 v1 = 1#1), (Rect.unit (s := S10400x64x656) (k0_off19 v158) S1x64x656.size (k0_off19_inb v1 v158 k0_hw9 k0_h10)).WholeWords (EltTy.packing .i8) := fun v1 v158 k0_hw9 k0_h10 => k0_hw9.2 k0_h10 (k0_off19_inb v1 v158 k0_hw9 k0_h10)

def k0_off20 (i : grid0.Coords) : Fin 2 → Nat :=
  let arg0 : BitVec 32 := BitVec.ofNat 32 (i 0).val
  let v157 : Index := Scalar.indexCast arg0
  let c9 : Index := 9#32
  ![v157.toNat, 9]
def k0_off21 (v158 : BitVec 32) : Fin 3 → Nat :=
  let c0_i32_68 : BitVec 32 := 0#32
  let c0_i32_69 : BitVec 32 := 0#32
  ![v158.toNat, 0, 0]
def k0_cond11 (v1 : BitVec 32) : BitVec 1 :=
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c9_i32 : BitVec 32 := 9#32
  let v70 : BitVec 1 := Scalar.cmpi .sgt v20 c9_i32
  let v71 : BitVec 32 := Scalar.extui v70
  let c0_i32_27 : BitVec 32 := 0#32
  let v72 : BitVec 1 := Scalar.cmpi .ne v71 c0_i32_27
  v72

def k0_chk10 (v1 : BitVec 32) (v158 : BitVec 32) : Prop :=
  (∀ (k0_h11 : k0_cond11 v1 = 1#1), ∀ a, (k0_off21 v158) a + S1x64x656.size a ≤ S10400x64x656.size a) ∧
  (∀ (k0_h11 : k0_cond11 v1 = 1#1), ∀ (hinb : ∀ a, (k0_off21 v158) a + S1x64x656.size a ≤ S10400x64x656.size a), (Rect.unit (s := S10400x64x656) (k0_off21 v158) S1x64x656.size hinb).WholeWords (EltTy.packing .i8))
theorem k0_off21_inb : ∀ (v1 : BitVec 32) (v158 : BitVec 32) (k0_hw10 : k0_chk10 v1 v158), ∀ (k0_h11 : k0_cond11 v1 = 1#1), ∀ a, (k0_off21 v158) a + S1x64x656.size a ≤ S10400x64x656.size a := fun v1 v158 k0_hw10 k0_h11 => k0_hw10.1 k0_h11
theorem k0_off21_wordsi8 : ∀ (v1 : BitVec 32) (v158 : BitVec 32) (k0_hw10 : k0_chk10 v1 v158), ∀ (k0_h11 : k0_cond11 v1 = 1#1), (Rect.unit (s := S10400x64x656) (k0_off21 v158) S1x64x656.size (k0_off21_inb v1 v158 k0_hw10 k0_h11)).WholeWords (EltTy.packing .i8) := fun v1 v158 k0_hw10 k0_h11 => k0_hw10.2 k0_h11 (k0_off21_inb v1 v158 k0_hw10 k0_h11)

def k0_off22 (i : grid0.Coords) : Fin 2 → Nat :=
  let arg0 : BitVec 32 := BitVec.ofNat 32 (i 0).val
  let v157 : Index := Scalar.indexCast arg0
  let c10 : Index := 10#32
  ![v157.toNat, 10]
def k0_off23 (v158 : BitVec 32) : Fin 3 → Nat :=
  let c0_i32_68 : BitVec 32 := 0#32
  let c0_i32_69 : BitVec 32 := 0#32
  ![v158.toNat, 0, 0]
def k0_cond12 (v1 : BitVec 32) : BitVec 1 :=
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c10_i32 : BitVec 32 := 10#32
  let v73 : BitVec 1 := Scalar.cmpi .sgt v20 c10_i32
  let v74 : BitVec 32 := Scalar.extui v73
  let c0_i32_28 : BitVec 32 := 0#32
  let v75 : BitVec 1 := Scalar.cmpi .ne v74 c0_i32_28
  v75

def k0_chk11 (v1 : BitVec 32) (v158 : BitVec 32) : Prop :=
  (∀ (k0_h12 : k0_cond12 v1 = 1#1), ∀ a, (k0_off23 v158) a + S1x64x656.size a ≤ S10400x64x656.size a) ∧
  (∀ (k0_h12 : k0_cond12 v1 = 1#1), ∀ (hinb : ∀ a, (k0_off23 v158) a + S1x64x656.size a ≤ S10400x64x656.size a), (Rect.unit (s := S10400x64x656) (k0_off23 v158) S1x64x656.size hinb).WholeWords (EltTy.packing .i8))
theorem k0_off23_inb : ∀ (v1 : BitVec 32) (v158 : BitVec 32) (k0_hw11 : k0_chk11 v1 v158), ∀ (k0_h12 : k0_cond12 v1 = 1#1), ∀ a, (k0_off23 v158) a + S1x64x656.size a ≤ S10400x64x656.size a := fun v1 v158 k0_hw11 k0_h12 => k0_hw11.1 k0_h12
theorem k0_off23_wordsi8 : ∀ (v1 : BitVec 32) (v158 : BitVec 32) (k0_hw11 : k0_chk11 v1 v158), ∀ (k0_h12 : k0_cond12 v1 = 1#1), (Rect.unit (s := S10400x64x656) (k0_off23 v158) S1x64x656.size (k0_off23_inb v1 v158 k0_hw11 k0_h12)).WholeWords (EltTy.packing .i8) := fun v1 v158 k0_hw11 k0_h12 => k0_hw11.2 k0_h12 (k0_off23_inb v1 v158 k0_hw11 k0_h12)

def k0_off24 (i : grid0.Coords) : Fin 2 → Nat :=
  let arg0 : BitVec 32 := BitVec.ofNat 32 (i 0).val
  let v157 : Index := Scalar.indexCast arg0
  let c11 : Index := 11#32
  ![v157.toNat, 11]
def k0_off25 (v158 : BitVec 32) : Fin 3 → Nat :=
  let c0_i32_68 : BitVec 32 := 0#32
  let c0_i32_69 : BitVec 32 := 0#32
  ![v158.toNat, 0, 0]
def k0_cond13 (v1 : BitVec 32) : BitVec 1 :=
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c11_i32 : BitVec 32 := 11#32
  let v76 : BitVec 1 := Scalar.cmpi .sgt v20 c11_i32
  let v77 : BitVec 32 := Scalar.extui v76
  let c0_i32_29 : BitVec 32 := 0#32
  let v78 : BitVec 1 := Scalar.cmpi .ne v77 c0_i32_29
  v78

def k0_chk12 (v1 : BitVec 32) (v158 : BitVec 32) : Prop :=
  (∀ (k0_h13 : k0_cond13 v1 = 1#1), ∀ a, (k0_off25 v158) a + S1x64x656.size a ≤ S10400x64x656.size a) ∧
  (∀ (k0_h13 : k0_cond13 v1 = 1#1), ∀ (hinb : ∀ a, (k0_off25 v158) a + S1x64x656.size a ≤ S10400x64x656.size a), (Rect.unit (s := S10400x64x656) (k0_off25 v158) S1x64x656.size hinb).WholeWords (EltTy.packing .i8))
theorem k0_off25_inb : ∀ (v1 : BitVec 32) (v158 : BitVec 32) (k0_hw12 : k0_chk12 v1 v158), ∀ (k0_h13 : k0_cond13 v1 = 1#1), ∀ a, (k0_off25 v158) a + S1x64x656.size a ≤ S10400x64x656.size a := fun v1 v158 k0_hw12 k0_h13 => k0_hw12.1 k0_h13
theorem k0_off25_wordsi8 : ∀ (v1 : BitVec 32) (v158 : BitVec 32) (k0_hw12 : k0_chk12 v1 v158), ∀ (k0_h13 : k0_cond13 v1 = 1#1), (Rect.unit (s := S10400x64x656) (k0_off25 v158) S1x64x656.size (k0_off25_inb v1 v158 k0_hw12 k0_h13)).WholeWords (EltTy.packing .i8) := fun v1 v158 k0_hw12 k0_h13 => k0_hw12.2 k0_h13 (k0_off25_inb v1 v158 k0_hw12 k0_h13)

def k0_off26 (i : grid0.Coords) : Fin 2 → Nat :=
  let arg0 : BitVec 32 := BitVec.ofNat 32 (i 0).val
  let v157 : Index := Scalar.indexCast arg0
  let c12 : Index := 12#32
  ![v157.toNat, 12]
def k0_off27 (v158 : BitVec 32) : Fin 3 → Nat :=
  let c0_i32_68 : BitVec 32 := 0#32
  let c0_i32_69 : BitVec 32 := 0#32
  ![v158.toNat, 0, 0]
def k0_cond14 (v1 : BitVec 32) : BitVec 1 :=
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c12_i32 : BitVec 32 := 12#32
  let v79 : BitVec 1 := Scalar.cmpi .sgt v20 c12_i32
  let v80 : BitVec 32 := Scalar.extui v79
  let c0_i32_30 : BitVec 32 := 0#32
  let v81 : BitVec 1 := Scalar.cmpi .ne v80 c0_i32_30
  v81

def k0_chk13 (v1 : BitVec 32) (v158 : BitVec 32) : Prop :=
  (∀ (k0_h14 : k0_cond14 v1 = 1#1), ∀ a, (k0_off27 v158) a + S1x64x656.size a ≤ S10400x64x656.size a) ∧
  (∀ (k0_h14 : k0_cond14 v1 = 1#1), ∀ (hinb : ∀ a, (k0_off27 v158) a + S1x64x656.size a ≤ S10400x64x656.size a), (Rect.unit (s := S10400x64x656) (k0_off27 v158) S1x64x656.size hinb).WholeWords (EltTy.packing .i8))
theorem k0_off27_inb : ∀ (v1 : BitVec 32) (v158 : BitVec 32) (k0_hw13 : k0_chk13 v1 v158), ∀ (k0_h14 : k0_cond14 v1 = 1#1), ∀ a, (k0_off27 v158) a + S1x64x656.size a ≤ S10400x64x656.size a := fun v1 v158 k0_hw13 k0_h14 => k0_hw13.1 k0_h14
theorem k0_off27_wordsi8 : ∀ (v1 : BitVec 32) (v158 : BitVec 32) (k0_hw13 : k0_chk13 v1 v158), ∀ (k0_h14 : k0_cond14 v1 = 1#1), (Rect.unit (s := S10400x64x656) (k0_off27 v158) S1x64x656.size (k0_off27_inb v1 v158 k0_hw13 k0_h14)).WholeWords (EltTy.packing .i8) := fun v1 v158 k0_hw13 k0_h14 => k0_hw13.2 k0_h14 (k0_off27_inb v1 v158 k0_hw13 k0_h14)

def k0_off28 (i : grid0.Coords) : Fin 2 → Nat :=
  let arg0 : BitVec 32 := BitVec.ofNat 32 (i 0).val
  let v157 : Index := Scalar.indexCast arg0
  let c13 : Index := 13#32
  ![v157.toNat, 13]
def k0_off29 (v158 : BitVec 32) : Fin 3 → Nat :=
  let c0_i32_68 : BitVec 32 := 0#32
  let c0_i32_69 : BitVec 32 := 0#32
  ![v158.toNat, 0, 0]
def k0_cond15 (v1 : BitVec 32) : BitVec 1 :=
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c13_i32 : BitVec 32 := 13#32
  let v82 : BitVec 1 := Scalar.cmpi .sgt v20 c13_i32
  let v83 : BitVec 32 := Scalar.extui v82
  let c0_i32_31 : BitVec 32 := 0#32
  let v84 : BitVec 1 := Scalar.cmpi .ne v83 c0_i32_31
  v84

def k0_chk14 (v1 : BitVec 32) (v158 : BitVec 32) : Prop :=
  (∀ (k0_h15 : k0_cond15 v1 = 1#1), ∀ a, (k0_off29 v158) a + S1x64x656.size a ≤ S10400x64x656.size a) ∧
  (∀ (k0_h15 : k0_cond15 v1 = 1#1), ∀ (hinb : ∀ a, (k0_off29 v158) a + S1x64x656.size a ≤ S10400x64x656.size a), (Rect.unit (s := S10400x64x656) (k0_off29 v158) S1x64x656.size hinb).WholeWords (EltTy.packing .i8))
theorem k0_off29_inb : ∀ (v1 : BitVec 32) (v158 : BitVec 32) (k0_hw14 : k0_chk14 v1 v158), ∀ (k0_h15 : k0_cond15 v1 = 1#1), ∀ a, (k0_off29 v158) a + S1x64x656.size a ≤ S10400x64x656.size a := fun v1 v158 k0_hw14 k0_h15 => k0_hw14.1 k0_h15
theorem k0_off29_wordsi8 : ∀ (v1 : BitVec 32) (v158 : BitVec 32) (k0_hw14 : k0_chk14 v1 v158), ∀ (k0_h15 : k0_cond15 v1 = 1#1), (Rect.unit (s := S10400x64x656) (k0_off29 v158) S1x64x656.size (k0_off29_inb v1 v158 k0_hw14 k0_h15)).WholeWords (EltTy.packing .i8) := fun v1 v158 k0_hw14 k0_h15 => k0_hw14.2 k0_h15 (k0_off29_inb v1 v158 k0_hw14 k0_h15)

def k0_off30 (i : grid0.Coords) : Fin 2 → Nat :=
  let arg0 : BitVec 32 := BitVec.ofNat 32 (i 0).val
  let v157 : Index := Scalar.indexCast arg0
  let c14 : Index := 14#32
  ![v157.toNat, 14]
def k0_off31 (v158 : BitVec 32) : Fin 3 → Nat :=
  let c0_i32_68 : BitVec 32 := 0#32
  let c0_i32_69 : BitVec 32 := 0#32
  ![v158.toNat, 0, 0]
def k0_cond16 (v1 : BitVec 32) : BitVec 1 :=
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c14_i32 : BitVec 32 := 14#32
  let v85 : BitVec 1 := Scalar.cmpi .sgt v20 c14_i32
  let v86 : BitVec 32 := Scalar.extui v85
  let c0_i32_32 : BitVec 32 := 0#32
  let v87 : BitVec 1 := Scalar.cmpi .ne v86 c0_i32_32
  v87

def k0_chk15 (v1 : BitVec 32) (v158 : BitVec 32) : Prop :=
  (∀ (k0_h16 : k0_cond16 v1 = 1#1), ∀ a, (k0_off31 v158) a + S1x64x656.size a ≤ S10400x64x656.size a) ∧
  (∀ (k0_h16 : k0_cond16 v1 = 1#1), ∀ (hinb : ∀ a, (k0_off31 v158) a + S1x64x656.size a ≤ S10400x64x656.size a), (Rect.unit (s := S10400x64x656) (k0_off31 v158) S1x64x656.size hinb).WholeWords (EltTy.packing .i8))
theorem k0_off31_inb : ∀ (v1 : BitVec 32) (v158 : BitVec 32) (k0_hw15 : k0_chk15 v1 v158), ∀ (k0_h16 : k0_cond16 v1 = 1#1), ∀ a, (k0_off31 v158) a + S1x64x656.size a ≤ S10400x64x656.size a := fun v1 v158 k0_hw15 k0_h16 => k0_hw15.1 k0_h16
theorem k0_off31_wordsi8 : ∀ (v1 : BitVec 32) (v158 : BitVec 32) (k0_hw15 : k0_chk15 v1 v158), ∀ (k0_h16 : k0_cond16 v1 = 1#1), (Rect.unit (s := S10400x64x656) (k0_off31 v158) S1x64x656.size (k0_off31_inb v1 v158 k0_hw15 k0_h16)).WholeWords (EltTy.packing .i8) := fun v1 v158 k0_hw15 k0_h16 => k0_hw15.2 k0_h16 (k0_off31_inb v1 v158 k0_hw15 k0_h16)

def k0_off32 (i : grid0.Coords) : Fin 2 → Nat :=
  let arg0 : BitVec 32 := BitVec.ofNat 32 (i 0).val
  let v157 : Index := Scalar.indexCast arg0
  let c15 : Index := 15#32
  ![v157.toNat, 15]
def k0_off33 (v158 : BitVec 32) : Fin 3 → Nat :=
  let c0_i32_68 : BitVec 32 := 0#32
  let c0_i32_69 : BitVec 32 := 0#32
  ![v158.toNat, 0, 0]
def k0_cond17 (v1 : BitVec 32) : BitVec 1 :=
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c15_i32 : BitVec 32 := 15#32
  let v88 : BitVec 1 := Scalar.cmpi .sgt v20 c15_i32
  let v89 : BitVec 32 := Scalar.extui v88
  let c0_i32_33 : BitVec 32 := 0#32
  let v90 : BitVec 1 := Scalar.cmpi .ne v89 c0_i32_33
  v90

def k0_chk16 (v1 : BitVec 32) (v158 : BitVec 32) : Prop :=
  (∀ (k0_h17 : k0_cond17 v1 = 1#1), ∀ a, (k0_off33 v158) a + S1x64x656.size a ≤ S10400x64x656.size a) ∧
  (∀ (k0_h17 : k0_cond17 v1 = 1#1), ∀ (hinb : ∀ a, (k0_off33 v158) a + S1x64x656.size a ≤ S10400x64x656.size a), (Rect.unit (s := S10400x64x656) (k0_off33 v158) S1x64x656.size hinb).WholeWords (EltTy.packing .i8))
theorem k0_off33_inb : ∀ (v1 : BitVec 32) (v158 : BitVec 32) (k0_hw16 : k0_chk16 v1 v158), ∀ (k0_h17 : k0_cond17 v1 = 1#1), ∀ a, (k0_off33 v158) a + S1x64x656.size a ≤ S10400x64x656.size a := fun v1 v158 k0_hw16 k0_h17 => k0_hw16.1 k0_h17
theorem k0_off33_wordsi8 : ∀ (v1 : BitVec 32) (v158 : BitVec 32) (k0_hw16 : k0_chk16 v1 v158), ∀ (k0_h17 : k0_cond17 v1 = 1#1), (Rect.unit (s := S10400x64x656) (k0_off33 v158) S1x64x656.size (k0_off33_inb v1 v158 k0_hw16 k0_h17)).WholeWords (EltTy.packing .i8) := fun v1 v158 k0_hw16 k0_h17 => k0_hw16.2 k0_h17 (k0_off33_inb v1 v158 k0_hw16 k0_h17)

@[reducible] def k0_t1_loop (v1 : BitVec 32) : Scf.Loop 32 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_55 : BitVec 32 := 1#32
  ⟨c0_i32_53, v143, c1_i32_55⟩

def k0_off34 (i : grid0.Coords) (v1 : BitVec 32) (k0_t1 : Fin (k0_t1_loop v1).trips) : Fin 2 → Nat :=
  let arg0 : BitVec 32 := BitVec.ofNat 32 (i 0).val
  let v426 : Index := Scalar.indexCast arg0
  let c0_i32_53 : BitVec 32 := 0#32
  let c1_i32_55 : BitVec 32 := 1#32
  let arg13 : BitVec 32 := Scf.iv c0_i32_53 c1_i32_55 k0_t1
  let c1_i32_130 : BitVec 32 := 1#32
  let v344 : BitVec 32 := Scalar.addi arg13 c1_i32_130
  let c16_i32_132 : BitVec 32 := 16#32
  let v346 : BitVec 32 := Scalar.muli v344 c16_i32_132
  let c0_i32_133 : BitVec 32 := 0#32
  let v347 : BitVec 32 := Scalar.addi v346 c0_i32_133
  let v427 : Index := Scalar.indexCast v347
  ![v426.toNat, v427.toNat]
def k0_cond18 (v1 : BitVec 32) (k0_t1 : Fin (k0_t1_loop v1).trips) : BitVec 1 :=
  let c0_i32_53 : BitVec 32 := 0#32
  let c1_i32_55 : BitVec 32 := 1#32
  let arg13 : BitVec 32 := Scf.iv c0_i32_53 c1_i32_55 k0_t1
  let c1_i32_64 : BitVec 32 := 1#32
  let v158 : BitVec 32 := Scalar.addi arg13 c1_i32_64
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v159 : BitVec 1 := Scalar.cmpi .slt v158 v39
  let v160 : BitVec 32 := Scalar.extui v159
  let c0_i32_65 : BitVec 32 := 0#32
  let v161 : BitVec 1 := Scalar.cmpi .ne v160 c0_i32_65
  v161

def k0_cond19 (v1 : BitVec 32) (k0_t1 : Fin (k0_t1_loop v1).trips) : BitVec 1 :=
  let c0_i32_53 : BitVec 32 := 0#32
  let c1_i32_55 : BitVec 32 := 1#32
  let arg13 : BitVec 32 := Scf.iv c0_i32_53 c1_i32_55 k0_t1
  let c1_i32_130 : BitVec 32 := 1#32
  let v344 : BitVec 32 := Scalar.addi arg13 c1_i32_130
  let c16_i32_132 : BitVec 32 := 16#32
  let v346 : BitVec 32 := Scalar.muli v344 c16_i32_132
  let c0_i32_133 : BitVec 32 := 0#32
  let v347 : BitVec 32 := Scalar.addi v346 c0_i32_133
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v348 : BitVec 1 := Scalar.cmpi .slt v347 v20
  let v349 : BitVec 32 := Scalar.extui v348
  let c0_i32_134 : BitVec 32 := 0#32
  let v350 : BitVec 1 := Scalar.cmpi .ne v349 c0_i32_134
  v350

def k0_off35 (v1 : BitVec 32) (k0_t1 : Fin (k0_t1_loop v1).trips) : Fin 1 → Nat :=
  let c1_i32_131 : BitVec 32 := 1#32
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let v345 : BitVec 32 := Scalar.subi c1_i32_131 v157
  ![v345.toNat]
def k0_off36 (v1 : BitVec 32) (k0_t1 : Fin (k0_t1_loop v1).trips) : Fin 4 → Nat :=
  let c1_i32_131 : BitVec 32 := 1#32
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let v345 : BitVec 32 := Scalar.subi c1_i32_131 v157
  let c0_i32_180 : BitVec 32 := 0#32
  let c0_i32_181 : BitVec 32 := 0#32
  let c0_i32_182 : BitVec 32 := 0#32
  ![v345.toNat, 0, 0, 0]
def k0_off37 (v428 : BitVec 32) : Fin 3 → Nat :=
  let c0_i32_183 : BitVec 32 := 0#32
  let c0_i32_184 : BitVec 32 := 0#32
  ![v428.toNat, 0, 0]

def k0_chk18 (v1 : BitVec 32) (k0_t1 : Fin (k0_t1_loop v1).trips) (v428 : BitVec 32) : Prop :=
  (∀ (k0_h18 : k0_cond18 v1 k0_t1 = 1#1), ∀ (k0_h19 : k0_cond19 v1 k0_t1 = 1#1), ∀ a, (k0_off37 v428) a + S1x64x656.size a ≤ S10400x64x656.size a) ∧
  (∀ (k0_h18 : k0_cond18 v1 k0_t1 = 1#1), ∀ (k0_h19 : k0_cond19 v1 k0_t1 = 1#1), ∀ (hinb : ∀ a, (k0_off37 v428) a + S1x64x656.size a ≤ S10400x64x656.size a), (Rect.unit (s := S10400x64x656) (k0_off37 v428) S1x64x656.size hinb).WholeWords (EltTy.packing .i8))
theorem k0_off37_inb : ∀ (v1 : BitVec 32) (k0_t1 : Fin (k0_t1_loop v1).trips) (v428 : BitVec 32) (k0_hw18 : k0_chk18 v1 k0_t1 v428), ∀ (k0_h18 : k0_cond18 v1 k0_t1 = 1#1), ∀ (k0_h19 : k0_cond19 v1 k0_t1 = 1#1), ∀ a, (k0_off37 v428) a + S1x64x656.size a ≤ S10400x64x656.size a := fun v1 k0_t1 v428 k0_hw18 k0_h18 k0_h19 => k0_hw18.1 k0_h18 k0_h19
theorem k0_off37_wordsi8 : ∀ (v1 : BitVec 32) (k0_t1 : Fin (k0_t1_loop v1).trips) (v428 : BitVec 32) (k0_hw18 : k0_chk18 v1 k0_t1 v428), ∀ (k0_h18 : k0_cond18 v1 k0_t1 = 1#1), ∀ (k0_h19 : k0_cond19 v1 k0_t1 = 1#1), (Rect.unit (s := S10400x64x656) (k0_off37 v428) S1x64x656.size (k0_off37_inb v1 k0_t1 v428 k0_hw18 k0_h18 k0_h19)).WholeWords (EltTy.packing .i8) := fun v1 k0_t1 v428 k0_hw18 k0_h18 k0_h19 => k0_hw18.2 k0_h18 k0_h19 (k0_off37_inb v1 k0_t1 v428 k0_hw18 k0_h18 k0_h19)

def k0_off38 (i : grid0.Coords) (v1 : BitVec 32) (k0_t1 : Fin (k0_t1_loop v1).trips) : Fin 2 → Nat :=
  let arg0 : BitVec 32 := BitVec.ofNat 32 (i 0).val
  let v426 : Index := Scalar.indexCast arg0
  let c0_i32_53 : BitVec 32 := 0#32
  let c1_i32_55 : BitVec 32 := 1#32
  let arg13 : BitVec 32 := Scf.iv c0_i32_53 c1_i32_55 k0_t1
  let c1_i32_130 : BitVec 32 := 1#32
  let v344 : BitVec 32 := Scalar.addi arg13 c1_i32_130
  let c16_i32_135 : BitVec 32 := 16#32
  let v351 : BitVec 32 := Scalar.muli v344 c16_i32_135
  let c1_i32_136 : BitVec 32 := 1#32
  let v352 : BitVec 32 := Scalar.addi v351 c1_i32_136
  let v427 : Index := Scalar.indexCast v352
  ![v426.toNat, v427.toNat]
def k0_cond20 (v1 : BitVec 32) (k0_t1 : Fin (k0_t1_loop v1).trips) : BitVec 1 :=
  let c0_i32_53 : BitVec 32 := 0#32
  let c1_i32_55 : BitVec 32 := 1#32
  let arg13 : BitVec 32 := Scf.iv c0_i32_53 c1_i32_55 k0_t1
  let c1_i32_130 : BitVec 32 := 1#32
  let v344 : BitVec 32 := Scalar.addi arg13 c1_i32_130
  let c16_i32_135 : BitVec 32 := 16#32
  let v351 : BitVec 32 := Scalar.muli v344 c16_i32_135
  let c1_i32_136 : BitVec 32 := 1#32
  let v352 : BitVec 32 := Scalar.addi v351 c1_i32_136
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v353 : BitVec 1 := Scalar.cmpi .slt v352 v20
  let v354 : BitVec 32 := Scalar.extui v353
  let c0_i32_137 : BitVec 32 := 0#32
  let v355 : BitVec 1 := Scalar.cmpi .ne v354 c0_i32_137
  v355

def k0_off39 (v1 : BitVec 32) (k0_t1 : Fin (k0_t1_loop v1).trips) : Fin 1 → Nat :=
  let c1_i32_131 : BitVec 32 := 1#32
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let v345 : BitVec 32 := Scalar.subi c1_i32_131 v157
  ![v345.toNat]
def k0_off40 (v1 : BitVec 32) (k0_t1 : Fin (k0_t1_loop v1).trips) : Fin 4 → Nat :=
  let c1_i32_131 : BitVec 32 := 1#32
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let v345 : BitVec 32 := Scalar.subi c1_i32_131 v157
  let c1_i32_180 : BitVec 32 := 1#32
  let c0_i32_181 : BitVec 32 := 0#32
  let c0_i32_182 : BitVec 32 := 0#32
  ![v345.toNat, 1, 0, 0]
def k0_off41 (v428 : BitVec 32) : Fin 3 → Nat :=
  let c0_i32_183 : BitVec 32 := 0#32
  let c0_i32_184 : BitVec 32 := 0#32
  ![v428.toNat, 0, 0]

def k0_chk19 (v1 : BitVec 32) (k0_t1 : Fin (k0_t1_loop v1).trips) (v428 : BitVec 32) : Prop :=
  (∀ (k0_h18 : k0_cond18 v1 k0_t1 = 1#1), ∀ (k0_h20 : k0_cond20 v1 k0_t1 = 1#1), ∀ a, (k0_off41 v428) a + S1x64x656.size a ≤ S10400x64x656.size a) ∧
  (∀ (k0_h18 : k0_cond18 v1 k0_t1 = 1#1), ∀ (k0_h20 : k0_cond20 v1 k0_t1 = 1#1), ∀ (hinb : ∀ a, (k0_off41 v428) a + S1x64x656.size a ≤ S10400x64x656.size a), (Rect.unit (s := S10400x64x656) (k0_off41 v428) S1x64x656.size hinb).WholeWords (EltTy.packing .i8))
theorem k0_off41_inb : ∀ (v1 : BitVec 32) (k0_t1 : Fin (k0_t1_loop v1).trips) (v428 : BitVec 32) (k0_hw19 : k0_chk19 v1 k0_t1 v428), ∀ (k0_h18 : k0_cond18 v1 k0_t1 = 1#1), ∀ (k0_h20 : k0_cond20 v1 k0_t1 = 1#1), ∀ a, (k0_off41 v428) a + S1x64x656.size a ≤ S10400x64x656.size a := fun v1 k0_t1 v428 k0_hw19 k0_h18 k0_h20 => k0_hw19.1 k0_h18 k0_h20
theorem k0_off41_wordsi8 : ∀ (v1 : BitVec 32) (k0_t1 : Fin (k0_t1_loop v1).trips) (v428 : BitVec 32) (k0_hw19 : k0_chk19 v1 k0_t1 v428), ∀ (k0_h18 : k0_cond18 v1 k0_t1 = 1#1), ∀ (k0_h20 : k0_cond20 v1 k0_t1 = 1#1), (Rect.unit (s := S10400x64x656) (k0_off41 v428) S1x64x656.size (k0_off41_inb v1 k0_t1 v428 k0_hw19 k0_h18 k0_h20)).WholeWords (EltTy.packing .i8) := fun v1 k0_t1 v428 k0_hw19 k0_h18 k0_h20 => k0_hw19.2 k0_h18 k0_h20 (k0_off41_inb v1 k0_t1 v428 k0_hw19 k0_h18 k0_h20)

def k0_off42 (i : grid0.Coords) (v1 : BitVec 32) (k0_t1 : Fin (k0_t1_loop v1).trips) : Fin 2 → Nat :=
  let arg0 : BitVec 32 := BitVec.ofNat 32 (i 0).val
  let v426 : Index := Scalar.indexCast arg0
  let c0_i32_53 : BitVec 32 := 0#32
  let c1_i32_55 : BitVec 32 := 1#32
  let arg13 : BitVec 32 := Scf.iv c0_i32_53 c1_i32_55 k0_t1
  let c1_i32_130 : BitVec 32 := 1#32
  let v344 : BitVec 32 := Scalar.addi arg13 c1_i32_130
  let c16_i32_138 : BitVec 32 := 16#32
  let v356 : BitVec 32 := Scalar.muli v344 c16_i32_138
  let c2_i32_139 : BitVec 32 := 2#32
  let v357 : BitVec 32 := Scalar.addi v356 c2_i32_139
  let v427 : Index := Scalar.indexCast v357
  ![v426.toNat, v427.toNat]
def k0_cond21 (v1 : BitVec 32) (k0_t1 : Fin (k0_t1_loop v1).trips) : BitVec 1 :=
  let c0_i32_53 : BitVec 32 := 0#32
  let c1_i32_55 : BitVec 32 := 1#32
  let arg13 : BitVec 32 := Scf.iv c0_i32_53 c1_i32_55 k0_t1
  let c1_i32_130 : BitVec 32 := 1#32
  let v344 : BitVec 32 := Scalar.addi arg13 c1_i32_130
  let c16_i32_138 : BitVec 32 := 16#32
  let v356 : BitVec 32 := Scalar.muli v344 c16_i32_138
  let c2_i32_139 : BitVec 32 := 2#32
  let v357 : BitVec 32 := Scalar.addi v356 c2_i32_139
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v358 : BitVec 1 := Scalar.cmpi .slt v357 v20
  let v359 : BitVec 32 := Scalar.extui v358
  let c0_i32_140 : BitVec 32 := 0#32
  let v360 : BitVec 1 := Scalar.cmpi .ne v359 c0_i32_140
  v360

def k0_off43 (v1 : BitVec 32) (k0_t1 : Fin (k0_t1_loop v1).trips) : Fin 1 → Nat :=
  let c1_i32_131 : BitVec 32 := 1#32
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let v345 : BitVec 32 := Scalar.subi c1_i32_131 v157
  ![v345.toNat]
def k0_off44 (v1 : BitVec 32) (k0_t1 : Fin (k0_t1_loop v1).trips) : Fin 4 → Nat :=
  let c1_i32_131 : BitVec 32 := 1#32
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let v345 : BitVec 32 := Scalar.subi c1_i32_131 v157
  let c2_i32_180 : BitVec 32 := 2#32
  let c0_i32_181 : BitVec 32 := 0#32
  let c0_i32_182 : BitVec 32 := 0#32
  ![v345.toNat, 2, 0, 0]
def k0_off45 (v428 : BitVec 32) : Fin 3 → Nat :=
  let c0_i32_183 : BitVec 32 := 0#32
  let c0_i32_184 : BitVec 32 := 0#32
  ![v428.toNat, 0, 0]

def k0_chk20 (v1 : BitVec 32) (k0_t1 : Fin (k0_t1_loop v1).trips) (v428 : BitVec 32) : Prop :=
  (∀ (k0_h18 : k0_cond18 v1 k0_t1 = 1#1), ∀ (k0_h21 : k0_cond21 v1 k0_t1 = 1#1), ∀ a, (k0_off45 v428) a + S1x64x656.size a ≤ S10400x64x656.size a) ∧
  (∀ (k0_h18 : k0_cond18 v1 k0_t1 = 1#1), ∀ (k0_h21 : k0_cond21 v1 k0_t1 = 1#1), ∀ (hinb : ∀ a, (k0_off45 v428) a + S1x64x656.size a ≤ S10400x64x656.size a), (Rect.unit (s := S10400x64x656) (k0_off45 v428) S1x64x656.size hinb).WholeWords (EltTy.packing .i8))
theorem k0_off45_inb : ∀ (v1 : BitVec 32) (k0_t1 : Fin (k0_t1_loop v1).trips) (v428 : BitVec 32) (k0_hw20 : k0_chk20 v1 k0_t1 v428), ∀ (k0_h18 : k0_cond18 v1 k0_t1 = 1#1), ∀ (k0_h21 : k0_cond21 v1 k0_t1 = 1#1), ∀ a, (k0_off45 v428) a + S1x64x656.size a ≤ S10400x64x656.size a := fun v1 k0_t1 v428 k0_hw20 k0_h18 k0_h21 => k0_hw20.1 k0_h18 k0_h21
theorem k0_off45_wordsi8 : ∀ (v1 : BitVec 32) (k0_t1 : Fin (k0_t1_loop v1).trips) (v428 : BitVec 32) (k0_hw20 : k0_chk20 v1 k0_t1 v428), ∀ (k0_h18 : k0_cond18 v1 k0_t1 = 1#1), ∀ (k0_h21 : k0_cond21 v1 k0_t1 = 1#1), (Rect.unit (s := S10400x64x656) (k0_off45 v428) S1x64x656.size (k0_off45_inb v1 k0_t1 v428 k0_hw20 k0_h18 k0_h21)).WholeWords (EltTy.packing .i8) := fun v1 k0_t1 v428 k0_hw20 k0_h18 k0_h21 => k0_hw20.2 k0_h18 k0_h21 (k0_off45_inb v1 k0_t1 v428 k0_hw20 k0_h18 k0_h21)

def k0_off46 (i : grid0.Coords) (v1 : BitVec 32) (k0_t1 : Fin (k0_t1_loop v1).trips) : Fin 2 → Nat :=
  let arg0 : BitVec 32 := BitVec.ofNat 32 (i 0).val
  let v426 : Index := Scalar.indexCast arg0
  let c0_i32_53 : BitVec 32 := 0#32
  let c1_i32_55 : BitVec 32 := 1#32
  let arg13 : BitVec 32 := Scf.iv c0_i32_53 c1_i32_55 k0_t1
  let c1_i32_130 : BitVec 32 := 1#32
  let v344 : BitVec 32 := Scalar.addi arg13 c1_i32_130
  let c16_i32_141 : BitVec 32 := 16#32
  let v361 : BitVec 32 := Scalar.muli v344 c16_i32_141
  let c3_i32_142 : BitVec 32 := 3#32
  let v362 : BitVec 32 := Scalar.addi v361 c3_i32_142
  let v427 : Index := Scalar.indexCast v362
  ![v426.toNat, v427.toNat]
def k0_cond22 (v1 : BitVec 32) (k0_t1 : Fin (k0_t1_loop v1).trips) : BitVec 1 :=
  let c0_i32_53 : BitVec 32 := 0#32
  let c1_i32_55 : BitVec 32 := 1#32
  let arg13 : BitVec 32 := Scf.iv c0_i32_53 c1_i32_55 k0_t1
  let c1_i32_130 : BitVec 32 := 1#32
  let v344 : BitVec 32 := Scalar.addi arg13 c1_i32_130
  let c16_i32_141 : BitVec 32 := 16#32
  let v361 : BitVec 32 := Scalar.muli v344 c16_i32_141
  let c3_i32_142 : BitVec 32 := 3#32
  let v362 : BitVec 32 := Scalar.addi v361 c3_i32_142
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v363 : BitVec 1 := Scalar.cmpi .slt v362 v20
  let v364 : BitVec 32 := Scalar.extui v363
  let c0_i32_143 : BitVec 32 := 0#32
  let v365 : BitVec 1 := Scalar.cmpi .ne v364 c0_i32_143
  v365

def k0_off47 (v1 : BitVec 32) (k0_t1 : Fin (k0_t1_loop v1).trips) : Fin 1 → Nat :=
  let c1_i32_131 : BitVec 32 := 1#32
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let v345 : BitVec 32 := Scalar.subi c1_i32_131 v157
  ![v345.toNat]
def k0_off48 (v1 : BitVec 32) (k0_t1 : Fin (k0_t1_loop v1).trips) : Fin 4 → Nat :=
  let c1_i32_131 : BitVec 32 := 1#32
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let v345 : BitVec 32 := Scalar.subi c1_i32_131 v157
  let c3_i32_180 : BitVec 32 := 3#32
  let c0_i32_181 : BitVec 32 := 0#32
  let c0_i32_182 : BitVec 32 := 0#32
  ![v345.toNat, 3, 0, 0]
def k0_off49 (v428 : BitVec 32) : Fin 3 → Nat :=
  let c0_i32_183 : BitVec 32 := 0#32
  let c0_i32_184 : BitVec 32 := 0#32
  ![v428.toNat, 0, 0]

def k0_chk21 (v1 : BitVec 32) (k0_t1 : Fin (k0_t1_loop v1).trips) (v428 : BitVec 32) : Prop :=
  (∀ (k0_h18 : k0_cond18 v1 k0_t1 = 1#1), ∀ (k0_h22 : k0_cond22 v1 k0_t1 = 1#1), ∀ a, (k0_off49 v428) a + S1x64x656.size a ≤ S10400x64x656.size a) ∧
  (∀ (k0_h18 : k0_cond18 v1 k0_t1 = 1#1), ∀ (k0_h22 : k0_cond22 v1 k0_t1 = 1#1), ∀ (hinb : ∀ a, (k0_off49 v428) a + S1x64x656.size a ≤ S10400x64x656.size a), (Rect.unit (s := S10400x64x656) (k0_off49 v428) S1x64x656.size hinb).WholeWords (EltTy.packing .i8))
theorem k0_off49_inb : ∀ (v1 : BitVec 32) (k0_t1 : Fin (k0_t1_loop v1).trips) (v428 : BitVec 32) (k0_hw21 : k0_chk21 v1 k0_t1 v428), ∀ (k0_h18 : k0_cond18 v1 k0_t1 = 1#1), ∀ (k0_h22 : k0_cond22 v1 k0_t1 = 1#1), ∀ a, (k0_off49 v428) a + S1x64x656.size a ≤ S10400x64x656.size a := fun v1 k0_t1 v428 k0_hw21 k0_h18 k0_h22 => k0_hw21.1 k0_h18 k0_h22
theorem k0_off49_wordsi8 : ∀ (v1 : BitVec 32) (k0_t1 : Fin (k0_t1_loop v1).trips) (v428 : BitVec 32) (k0_hw21 : k0_chk21 v1 k0_t1 v428), ∀ (k0_h18 : k0_cond18 v1 k0_t1 = 1#1), ∀ (k0_h22 : k0_cond22 v1 k0_t1 = 1#1), (Rect.unit (s := S10400x64x656) (k0_off49 v428) S1x64x656.size (k0_off49_inb v1 k0_t1 v428 k0_hw21 k0_h18 k0_h22)).WholeWords (EltTy.packing .i8) := fun v1 k0_t1 v428 k0_hw21 k0_h18 k0_h22 => k0_hw21.2 k0_h18 k0_h22 (k0_off49_inb v1 k0_t1 v428 k0_hw21 k0_h18 k0_h22)

def k0_off50 (i : grid0.Coords) (v1 : BitVec 32) (k0_t1 : Fin (k0_t1_loop v1).trips) : Fin 2 → Nat :=
  let arg0 : BitVec 32 := BitVec.ofNat 32 (i 0).val
  let v426 : Index := Scalar.indexCast arg0
  let c0_i32_53 : BitVec 32 := 0#32
  let c1_i32_55 : BitVec 32 := 1#32
  let arg13 : BitVec 32 := Scf.iv c0_i32_53 c1_i32_55 k0_t1
  let c1_i32_130 : BitVec 32 := 1#32
  let v344 : BitVec 32 := Scalar.addi arg13 c1_i32_130
  let c16_i32_144 : BitVec 32 := 16#32
  let v366 : BitVec 32 := Scalar.muli v344 c16_i32_144
  let c4_i32_145 : BitVec 32 := 4#32
  let v367 : BitVec 32 := Scalar.addi v366 c4_i32_145
  let v427 : Index := Scalar.indexCast v367
  ![v426.toNat, v427.toNat]
def k0_cond23 (v1 : BitVec 32) (k0_t1 : Fin (k0_t1_loop v1).trips) : BitVec 1 :=
  let c0_i32_53 : BitVec 32 := 0#32
  let c1_i32_55 : BitVec 32 := 1#32
  let arg13 : BitVec 32 := Scf.iv c0_i32_53 c1_i32_55 k0_t1
  let c1_i32_130 : BitVec 32 := 1#32
  let v344 : BitVec 32 := Scalar.addi arg13 c1_i32_130
  let c16_i32_144 : BitVec 32 := 16#32
  let v366 : BitVec 32 := Scalar.muli v344 c16_i32_144
  let c4_i32_145 : BitVec 32 := 4#32
  let v367 : BitVec 32 := Scalar.addi v366 c4_i32_145
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v368 : BitVec 1 := Scalar.cmpi .slt v367 v20
  let v369 : BitVec 32 := Scalar.extui v368
  let c0_i32_146 : BitVec 32 := 0#32
  let v370 : BitVec 1 := Scalar.cmpi .ne v369 c0_i32_146
  v370

def k0_off51 (v1 : BitVec 32) (k0_t1 : Fin (k0_t1_loop v1).trips) : Fin 1 → Nat :=
  let c1_i32_131 : BitVec 32 := 1#32
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let v345 : BitVec 32 := Scalar.subi c1_i32_131 v157
  ![v345.toNat]
def k0_off52 (v1 : BitVec 32) (k0_t1 : Fin (k0_t1_loop v1).trips) : Fin 4 → Nat :=
  let c1_i32_131 : BitVec 32 := 1#32
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let v345 : BitVec 32 := Scalar.subi c1_i32_131 v157
  let c4_i32_180 : BitVec 32 := 4#32
  let c0_i32_181 : BitVec 32 := 0#32
  let c0_i32_182 : BitVec 32 := 0#32
  ![v345.toNat, 4, 0, 0]
def k0_off53 (v428 : BitVec 32) : Fin 3 → Nat :=
  let c0_i32_183 : BitVec 32 := 0#32
  let c0_i32_184 : BitVec 32 := 0#32
  ![v428.toNat, 0, 0]

def k0_chk22 (v1 : BitVec 32) (k0_t1 : Fin (k0_t1_loop v1).trips) (v428 : BitVec 32) : Prop :=
  (∀ (k0_h18 : k0_cond18 v1 k0_t1 = 1#1), ∀ (k0_h23 : k0_cond23 v1 k0_t1 = 1#1), ∀ a, (k0_off53 v428) a + S1x64x656.size a ≤ S10400x64x656.size a) ∧
  (∀ (k0_h18 : k0_cond18 v1 k0_t1 = 1#1), ∀ (k0_h23 : k0_cond23 v1 k0_t1 = 1#1), ∀ (hinb : ∀ a, (k0_off53 v428) a + S1x64x656.size a ≤ S10400x64x656.size a), (Rect.unit (s := S10400x64x656) (k0_off53 v428) S1x64x656.size hinb).WholeWords (EltTy.packing .i8))
theorem k0_off53_inb : ∀ (v1 : BitVec 32) (k0_t1 : Fin (k0_t1_loop v1).trips) (v428 : BitVec 32) (k0_hw22 : k0_chk22 v1 k0_t1 v428), ∀ (k0_h18 : k0_cond18 v1 k0_t1 = 1#1), ∀ (k0_h23 : k0_cond23 v1 k0_t1 = 1#1), ∀ a, (k0_off53 v428) a + S1x64x656.size a ≤ S10400x64x656.size a := fun v1 k0_t1 v428 k0_hw22 k0_h18 k0_h23 => k0_hw22.1 k0_h18 k0_h23
theorem k0_off53_wordsi8 : ∀ (v1 : BitVec 32) (k0_t1 : Fin (k0_t1_loop v1).trips) (v428 : BitVec 32) (k0_hw22 : k0_chk22 v1 k0_t1 v428), ∀ (k0_h18 : k0_cond18 v1 k0_t1 = 1#1), ∀ (k0_h23 : k0_cond23 v1 k0_t1 = 1#1), (Rect.unit (s := S10400x64x656) (k0_off53 v428) S1x64x656.size (k0_off53_inb v1 k0_t1 v428 k0_hw22 k0_h18 k0_h23)).WholeWords (EltTy.packing .i8) := fun v1 k0_t1 v428 k0_hw22 k0_h18 k0_h23 => k0_hw22.2 k0_h18 k0_h23 (k0_off53_inb v1 k0_t1 v428 k0_hw22 k0_h18 k0_h23)

def k0_off54 (i : grid0.Coords) (v1 : BitVec 32) (k0_t1 : Fin (k0_t1_loop v1).trips) : Fin 2 → Nat :=
  let arg0 : BitVec 32 := BitVec.ofNat 32 (i 0).val
  let v426 : Index := Scalar.indexCast arg0
  let c0_i32_53 : BitVec 32 := 0#32
  let c1_i32_55 : BitVec 32 := 1#32
  let arg13 : BitVec 32 := Scf.iv c0_i32_53 c1_i32_55 k0_t1
  let c1_i32_130 : BitVec 32 := 1#32
  let v344 : BitVec 32 := Scalar.addi arg13 c1_i32_130
  let c16_i32_147 : BitVec 32 := 16#32
  let v371 : BitVec 32 := Scalar.muli v344 c16_i32_147
  let c5_i32_148 : BitVec 32 := 5#32
  let v372 : BitVec 32 := Scalar.addi v371 c5_i32_148
  let v427 : Index := Scalar.indexCast v372
  ![v426.toNat, v427.toNat]
def k0_cond24 (v1 : BitVec 32) (k0_t1 : Fin (k0_t1_loop v1).trips) : BitVec 1 :=
  let c0_i32_53 : BitVec 32 := 0#32
  let c1_i32_55 : BitVec 32 := 1#32
  let arg13 : BitVec 32 := Scf.iv c0_i32_53 c1_i32_55 k0_t1
  let c1_i32_130 : BitVec 32 := 1#32
  let v344 : BitVec 32 := Scalar.addi arg13 c1_i32_130
  let c16_i32_147 : BitVec 32 := 16#32
  let v371 : BitVec 32 := Scalar.muli v344 c16_i32_147
  let c5_i32_148 : BitVec 32 := 5#32
  let v372 : BitVec 32 := Scalar.addi v371 c5_i32_148
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v373 : BitVec 1 := Scalar.cmpi .slt v372 v20
  let v374 : BitVec 32 := Scalar.extui v373
  let c0_i32_149 : BitVec 32 := 0#32
  let v375 : BitVec 1 := Scalar.cmpi .ne v374 c0_i32_149
  v375

def k0_off55 (v1 : BitVec 32) (k0_t1 : Fin (k0_t1_loop v1).trips) : Fin 1 → Nat :=
  let c1_i32_131 : BitVec 32 := 1#32
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let v345 : BitVec 32 := Scalar.subi c1_i32_131 v157
  ![v345.toNat]
def k0_off56 (v1 : BitVec 32) (k0_t1 : Fin (k0_t1_loop v1).trips) : Fin 4 → Nat :=
  let c1_i32_131 : BitVec 32 := 1#32
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let v345 : BitVec 32 := Scalar.subi c1_i32_131 v157
  let c5_i32_180 : BitVec 32 := 5#32
  let c0_i32_181 : BitVec 32 := 0#32
  let c0_i32_182 : BitVec 32 := 0#32
  ![v345.toNat, 5, 0, 0]
def k0_off57 (v428 : BitVec 32) : Fin 3 → Nat :=
  let c0_i32_183 : BitVec 32 := 0#32
  let c0_i32_184 : BitVec 32 := 0#32
  ![v428.toNat, 0, 0]

def k0_chk23 (v1 : BitVec 32) (k0_t1 : Fin (k0_t1_loop v1).trips) (v428 : BitVec 32) : Prop :=
  (∀ (k0_h18 : k0_cond18 v1 k0_t1 = 1#1), ∀ (k0_h24 : k0_cond24 v1 k0_t1 = 1#1), ∀ a, (k0_off57 v428) a + S1x64x656.size a ≤ S10400x64x656.size a) ∧
  (∀ (k0_h18 : k0_cond18 v1 k0_t1 = 1#1), ∀ (k0_h24 : k0_cond24 v1 k0_t1 = 1#1), ∀ (hinb : ∀ a, (k0_off57 v428) a + S1x64x656.size a ≤ S10400x64x656.size a), (Rect.unit (s := S10400x64x656) (k0_off57 v428) S1x64x656.size hinb).WholeWords (EltTy.packing .i8))
theorem k0_off57_inb : ∀ (v1 : BitVec 32) (k0_t1 : Fin (k0_t1_loop v1).trips) (v428 : BitVec 32) (k0_hw23 : k0_chk23 v1 k0_t1 v428), ∀ (k0_h18 : k0_cond18 v1 k0_t1 = 1#1), ∀ (k0_h24 : k0_cond24 v1 k0_t1 = 1#1), ∀ a, (k0_off57 v428) a + S1x64x656.size a ≤ S10400x64x656.size a := fun v1 k0_t1 v428 k0_hw23 k0_h18 k0_h24 => k0_hw23.1 k0_h18 k0_h24
theorem k0_off57_wordsi8 : ∀ (v1 : BitVec 32) (k0_t1 : Fin (k0_t1_loop v1).trips) (v428 : BitVec 32) (k0_hw23 : k0_chk23 v1 k0_t1 v428), ∀ (k0_h18 : k0_cond18 v1 k0_t1 = 1#1), ∀ (k0_h24 : k0_cond24 v1 k0_t1 = 1#1), (Rect.unit (s := S10400x64x656) (k0_off57 v428) S1x64x656.size (k0_off57_inb v1 k0_t1 v428 k0_hw23 k0_h18 k0_h24)).WholeWords (EltTy.packing .i8) := fun v1 k0_t1 v428 k0_hw23 k0_h18 k0_h24 => k0_hw23.2 k0_h18 k0_h24 (k0_off57_inb v1 k0_t1 v428 k0_hw23 k0_h18 k0_h24)

def k0_off58 (i : grid0.Coords) (v1 : BitVec 32) (k0_t1 : Fin (k0_t1_loop v1).trips) : Fin 2 → Nat :=
  let arg0 : BitVec 32 := BitVec.ofNat 32 (i 0).val
  let v426 : Index := Scalar.indexCast arg0
  let c0_i32_53 : BitVec 32 := 0#32
  let c1_i32_55 : BitVec 32 := 1#32
  let arg13 : BitVec 32 := Scf.iv c0_i32_53 c1_i32_55 k0_t1
  let c1_i32_130 : BitVec 32 := 1#32
  let v344 : BitVec 32 := Scalar.addi arg13 c1_i32_130
  let c16_i32_150 : BitVec 32 := 16#32
  let v376 : BitVec 32 := Scalar.muli v344 c16_i32_150
  let c6_i32_151 : BitVec 32 := 6#32
  let v377 : BitVec 32 := Scalar.addi v376 c6_i32_151
  let v427 : Index := Scalar.indexCast v377
  ![v426.toNat, v427.toNat]
def k0_cond25 (v1 : BitVec 32) (k0_t1 : Fin (k0_t1_loop v1).trips) : BitVec 1 :=
  let c0_i32_53 : BitVec 32 := 0#32
  let c1_i32_55 : BitVec 32 := 1#32
  let arg13 : BitVec 32 := Scf.iv c0_i32_53 c1_i32_55 k0_t1
  let c1_i32_130 : BitVec 32 := 1#32
  let v344 : BitVec 32 := Scalar.addi arg13 c1_i32_130
  let c16_i32_150 : BitVec 32 := 16#32
  let v376 : BitVec 32 := Scalar.muli v344 c16_i32_150
  let c6_i32_151 : BitVec 32 := 6#32
  let v377 : BitVec 32 := Scalar.addi v376 c6_i32_151
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v378 : BitVec 1 := Scalar.cmpi .slt v377 v20
  let v379 : BitVec 32 := Scalar.extui v378
  let c0_i32_152 : BitVec 32 := 0#32
  let v380 : BitVec 1 := Scalar.cmpi .ne v379 c0_i32_152
  v380

def k0_off59 (v1 : BitVec 32) (k0_t1 : Fin (k0_t1_loop v1).trips) : Fin 1 → Nat :=
  let c1_i32_131 : BitVec 32 := 1#32
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let v345 : BitVec 32 := Scalar.subi c1_i32_131 v157
  ![v345.toNat]
def k0_off60 (v1 : BitVec 32) (k0_t1 : Fin (k0_t1_loop v1).trips) : Fin 4 → Nat :=
  let c1_i32_131 : BitVec 32 := 1#32
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let v345 : BitVec 32 := Scalar.subi c1_i32_131 v157
  let c6_i32_180 : BitVec 32 := 6#32
  let c0_i32_181 : BitVec 32 := 0#32
  let c0_i32_182 : BitVec 32 := 0#32
  ![v345.toNat, 6, 0, 0]
def k0_off61 (v428 : BitVec 32) : Fin 3 → Nat :=
  let c0_i32_183 : BitVec 32 := 0#32
  let c0_i32_184 : BitVec 32 := 0#32
  ![v428.toNat, 0, 0]

def k0_chk24 (v1 : BitVec 32) (k0_t1 : Fin (k0_t1_loop v1).trips) (v428 : BitVec 32) : Prop :=
  (∀ (k0_h18 : k0_cond18 v1 k0_t1 = 1#1), ∀ (k0_h25 : k0_cond25 v1 k0_t1 = 1#1), ∀ a, (k0_off61 v428) a + S1x64x656.size a ≤ S10400x64x656.size a) ∧
  (∀ (k0_h18 : k0_cond18 v1 k0_t1 = 1#1), ∀ (k0_h25 : k0_cond25 v1 k0_t1 = 1#1), ∀ (hinb : ∀ a, (k0_off61 v428) a + S1x64x656.size a ≤ S10400x64x656.size a), (Rect.unit (s := S10400x64x656) (k0_off61 v428) S1x64x656.size hinb).WholeWords (EltTy.packing .i8))
theorem k0_off61_inb : ∀ (v1 : BitVec 32) (k0_t1 : Fin (k0_t1_loop v1).trips) (v428 : BitVec 32) (k0_hw24 : k0_chk24 v1 k0_t1 v428), ∀ (k0_h18 : k0_cond18 v1 k0_t1 = 1#1), ∀ (k0_h25 : k0_cond25 v1 k0_t1 = 1#1), ∀ a, (k0_off61 v428) a + S1x64x656.size a ≤ S10400x64x656.size a := fun v1 k0_t1 v428 k0_hw24 k0_h18 k0_h25 => k0_hw24.1 k0_h18 k0_h25
theorem k0_off61_wordsi8 : ∀ (v1 : BitVec 32) (k0_t1 : Fin (k0_t1_loop v1).trips) (v428 : BitVec 32) (k0_hw24 : k0_chk24 v1 k0_t1 v428), ∀ (k0_h18 : k0_cond18 v1 k0_t1 = 1#1), ∀ (k0_h25 : k0_cond25 v1 k0_t1 = 1#1), (Rect.unit (s := S10400x64x656) (k0_off61 v428) S1x64x656.size (k0_off61_inb v1 k0_t1 v428 k0_hw24 k0_h18 k0_h25)).WholeWords (EltTy.packing .i8) := fun v1 k0_t1 v428 k0_hw24 k0_h18 k0_h25 => k0_hw24.2 k0_h18 k0_h25 (k0_off61_inb v1 k0_t1 v428 k0_hw24 k0_h18 k0_h25)

def k0_off62 (i : grid0.Coords) (v1 : BitVec 32) (k0_t1 : Fin (k0_t1_loop v1).trips) : Fin 2 → Nat :=
  let arg0 : BitVec 32 := BitVec.ofNat 32 (i 0).val
  let v426 : Index := Scalar.indexCast arg0
  let c0_i32_53 : BitVec 32 := 0#32
  let c1_i32_55 : BitVec 32 := 1#32
  let arg13 : BitVec 32 := Scf.iv c0_i32_53 c1_i32_55 k0_t1
  let c1_i32_130 : BitVec 32 := 1#32
  let v344 : BitVec 32 := Scalar.addi arg13 c1_i32_130
  let c16_i32_153 : BitVec 32 := 16#32
  let v381 : BitVec 32 := Scalar.muli v344 c16_i32_153
  let c7_i32_154 : BitVec 32 := 7#32
  let v382 : BitVec 32 := Scalar.addi v381 c7_i32_154
  let v427 : Index := Scalar.indexCast v382
  ![v426.toNat, v427.toNat]
def k0_cond26 (v1 : BitVec 32) (k0_t1 : Fin (k0_t1_loop v1).trips) : BitVec 1 :=
  let c0_i32_53 : BitVec 32 := 0#32
  let c1_i32_55 : BitVec 32 := 1#32
  let arg13 : BitVec 32 := Scf.iv c0_i32_53 c1_i32_55 k0_t1
  let c1_i32_130 : BitVec 32 := 1#32
  let v344 : BitVec 32 := Scalar.addi arg13 c1_i32_130
  let c16_i32_153 : BitVec 32 := 16#32
  let v381 : BitVec 32 := Scalar.muli v344 c16_i32_153
  let c7_i32_154 : BitVec 32 := 7#32
  let v382 : BitVec 32 := Scalar.addi v381 c7_i32_154
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v383 : BitVec 1 := Scalar.cmpi .slt v382 v20
  let v384 : BitVec 32 := Scalar.extui v383
  let c0_i32_155 : BitVec 32 := 0#32
  let v385 : BitVec 1 := Scalar.cmpi .ne v384 c0_i32_155
  v385

def k0_off63 (v1 : BitVec 32) (k0_t1 : Fin (k0_t1_loop v1).trips) : Fin 1 → Nat :=
  let c1_i32_131 : BitVec 32 := 1#32
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let v345 : BitVec 32 := Scalar.subi c1_i32_131 v157
  ![v345.toNat]
def k0_off64 (v1 : BitVec 32) (k0_t1 : Fin (k0_t1_loop v1).trips) : Fin 4 → Nat :=
  let c1_i32_131 : BitVec 32 := 1#32
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let v345 : BitVec 32 := Scalar.subi c1_i32_131 v157
  let c7_i32_180 : BitVec 32 := 7#32
  let c0_i32_181 : BitVec 32 := 0#32
  let c0_i32_182 : BitVec 32 := 0#32
  ![v345.toNat, 7, 0, 0]
def k0_off65 (v428 : BitVec 32) : Fin 3 → Nat :=
  let c0_i32_183 : BitVec 32 := 0#32
  let c0_i32_184 : BitVec 32 := 0#32
  ![v428.toNat, 0, 0]

def k0_chk25 (v1 : BitVec 32) (k0_t1 : Fin (k0_t1_loop v1).trips) (v428 : BitVec 32) : Prop :=
  (∀ (k0_h18 : k0_cond18 v1 k0_t1 = 1#1), ∀ (k0_h26 : k0_cond26 v1 k0_t1 = 1#1), ∀ a, (k0_off65 v428) a + S1x64x656.size a ≤ S10400x64x656.size a) ∧
  (∀ (k0_h18 : k0_cond18 v1 k0_t1 = 1#1), ∀ (k0_h26 : k0_cond26 v1 k0_t1 = 1#1), ∀ (hinb : ∀ a, (k0_off65 v428) a + S1x64x656.size a ≤ S10400x64x656.size a), (Rect.unit (s := S10400x64x656) (k0_off65 v428) S1x64x656.size hinb).WholeWords (EltTy.packing .i8))
theorem k0_off65_inb : ∀ (v1 : BitVec 32) (k0_t1 : Fin (k0_t1_loop v1).trips) (v428 : BitVec 32) (k0_hw25 : k0_chk25 v1 k0_t1 v428), ∀ (k0_h18 : k0_cond18 v1 k0_t1 = 1#1), ∀ (k0_h26 : k0_cond26 v1 k0_t1 = 1#1), ∀ a, (k0_off65 v428) a + S1x64x656.size a ≤ S10400x64x656.size a := fun v1 k0_t1 v428 k0_hw25 k0_h18 k0_h26 => k0_hw25.1 k0_h18 k0_h26
theorem k0_off65_wordsi8 : ∀ (v1 : BitVec 32) (k0_t1 : Fin (k0_t1_loop v1).trips) (v428 : BitVec 32) (k0_hw25 : k0_chk25 v1 k0_t1 v428), ∀ (k0_h18 : k0_cond18 v1 k0_t1 = 1#1), ∀ (k0_h26 : k0_cond26 v1 k0_t1 = 1#1), (Rect.unit (s := S10400x64x656) (k0_off65 v428) S1x64x656.size (k0_off65_inb v1 k0_t1 v428 k0_hw25 k0_h18 k0_h26)).WholeWords (EltTy.packing .i8) := fun v1 k0_t1 v428 k0_hw25 k0_h18 k0_h26 => k0_hw25.2 k0_h18 k0_h26 (k0_off65_inb v1 k0_t1 v428 k0_hw25 k0_h18 k0_h26)

def k0_off66 (i : grid0.Coords) (v1 : BitVec 32) (k0_t1 : Fin (k0_t1_loop v1).trips) : Fin 2 → Nat :=
  let arg0 : BitVec 32 := BitVec.ofNat 32 (i 0).val
  let v426 : Index := Scalar.indexCast arg0
  let c0_i32_53 : BitVec 32 := 0#32
  let c1_i32_55 : BitVec 32 := 1#32
  let arg13 : BitVec 32 := Scf.iv c0_i32_53 c1_i32_55 k0_t1
  let c1_i32_130 : BitVec 32 := 1#32
  let v344 : BitVec 32 := Scalar.addi arg13 c1_i32_130
  let c16_i32_156 : BitVec 32 := 16#32
  let v386 : BitVec 32 := Scalar.muli v344 c16_i32_156
  let c8_i32_157 : BitVec 32 := 8#32
  let v387 : BitVec 32 := Scalar.addi v386 c8_i32_157
  let v427 : Index := Scalar.indexCast v387
  ![v426.toNat, v427.toNat]
def k0_cond27 (v1 : BitVec 32) (k0_t1 : Fin (k0_t1_loop v1).trips) : BitVec 1 :=
  let c0_i32_53 : BitVec 32 := 0#32
  let c1_i32_55 : BitVec 32 := 1#32
  let arg13 : BitVec 32 := Scf.iv c0_i32_53 c1_i32_55 k0_t1
  let c1_i32_130 : BitVec 32 := 1#32
  let v344 : BitVec 32 := Scalar.addi arg13 c1_i32_130
  let c16_i32_156 : BitVec 32 := 16#32
  let v386 : BitVec 32 := Scalar.muli v344 c16_i32_156
  let c8_i32_157 : BitVec 32 := 8#32
  let v387 : BitVec 32 := Scalar.addi v386 c8_i32_157
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v388 : BitVec 1 := Scalar.cmpi .slt v387 v20
  let v389 : BitVec 32 := Scalar.extui v388
  let c0_i32_158 : BitVec 32 := 0#32
  let v390 : BitVec 1 := Scalar.cmpi .ne v389 c0_i32_158
  v390

def k0_off67 (v1 : BitVec 32) (k0_t1 : Fin (k0_t1_loop v1).trips) : Fin 1 → Nat :=
  let c1_i32_131 : BitVec 32 := 1#32
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let v345 : BitVec 32 := Scalar.subi c1_i32_131 v157
  ![v345.toNat]
def k0_off68 (v1 : BitVec 32) (k0_t1 : Fin (k0_t1_loop v1).trips) : Fin 4 → Nat :=
  let c1_i32_131 : BitVec 32 := 1#32
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let v345 : BitVec 32 := Scalar.subi c1_i32_131 v157
  let c8_i32_180 : BitVec 32 := 8#32
  let c0_i32_181 : BitVec 32 := 0#32
  let c0_i32_182 : BitVec 32 := 0#32
  ![v345.toNat, 8, 0, 0]
def k0_off69 (v428 : BitVec 32) : Fin 3 → Nat :=
  let c0_i32_183 : BitVec 32 := 0#32
  let c0_i32_184 : BitVec 32 := 0#32
  ![v428.toNat, 0, 0]

def k0_chk26 (v1 : BitVec 32) (k0_t1 : Fin (k0_t1_loop v1).trips) (v428 : BitVec 32) : Prop :=
  (∀ (k0_h18 : k0_cond18 v1 k0_t1 = 1#1), ∀ (k0_h27 : k0_cond27 v1 k0_t1 = 1#1), ∀ a, (k0_off69 v428) a + S1x64x656.size a ≤ S10400x64x656.size a) ∧
  (∀ (k0_h18 : k0_cond18 v1 k0_t1 = 1#1), ∀ (k0_h27 : k0_cond27 v1 k0_t1 = 1#1), ∀ (hinb : ∀ a, (k0_off69 v428) a + S1x64x656.size a ≤ S10400x64x656.size a), (Rect.unit (s := S10400x64x656) (k0_off69 v428) S1x64x656.size hinb).WholeWords (EltTy.packing .i8))
theorem k0_off69_inb : ∀ (v1 : BitVec 32) (k0_t1 : Fin (k0_t1_loop v1).trips) (v428 : BitVec 32) (k0_hw26 : k0_chk26 v1 k0_t1 v428), ∀ (k0_h18 : k0_cond18 v1 k0_t1 = 1#1), ∀ (k0_h27 : k0_cond27 v1 k0_t1 = 1#1), ∀ a, (k0_off69 v428) a + S1x64x656.size a ≤ S10400x64x656.size a := fun v1 k0_t1 v428 k0_hw26 k0_h18 k0_h27 => k0_hw26.1 k0_h18 k0_h27
theorem k0_off69_wordsi8 : ∀ (v1 : BitVec 32) (k0_t1 : Fin (k0_t1_loop v1).trips) (v428 : BitVec 32) (k0_hw26 : k0_chk26 v1 k0_t1 v428), ∀ (k0_h18 : k0_cond18 v1 k0_t1 = 1#1), ∀ (k0_h27 : k0_cond27 v1 k0_t1 = 1#1), (Rect.unit (s := S10400x64x656) (k0_off69 v428) S1x64x656.size (k0_off69_inb v1 k0_t1 v428 k0_hw26 k0_h18 k0_h27)).WholeWords (EltTy.packing .i8) := fun v1 k0_t1 v428 k0_hw26 k0_h18 k0_h27 => k0_hw26.2 k0_h18 k0_h27 (k0_off69_inb v1 k0_t1 v428 k0_hw26 k0_h18 k0_h27)

def k0_off70 (i : grid0.Coords) (v1 : BitVec 32) (k0_t1 : Fin (k0_t1_loop v1).trips) : Fin 2 → Nat :=
  let arg0 : BitVec 32 := BitVec.ofNat 32 (i 0).val
  let v426 : Index := Scalar.indexCast arg0
  let c0_i32_53 : BitVec 32 := 0#32
  let c1_i32_55 : BitVec 32 := 1#32
  let arg13 : BitVec 32 := Scf.iv c0_i32_53 c1_i32_55 k0_t1
  let c1_i32_130 : BitVec 32 := 1#32
  let v344 : BitVec 32 := Scalar.addi arg13 c1_i32_130
  let c16_i32_159 : BitVec 32 := 16#32
  let v391 : BitVec 32 := Scalar.muli v344 c16_i32_159
  let c9_i32_160 : BitVec 32 := 9#32
  let v392 : BitVec 32 := Scalar.addi v391 c9_i32_160
  let v427 : Index := Scalar.indexCast v392
  ![v426.toNat, v427.toNat]
def k0_cond28 (v1 : BitVec 32) (k0_t1 : Fin (k0_t1_loop v1).trips) : BitVec 1 :=
  let c0_i32_53 : BitVec 32 := 0#32
  let c1_i32_55 : BitVec 32 := 1#32
  let arg13 : BitVec 32 := Scf.iv c0_i32_53 c1_i32_55 k0_t1
  let c1_i32_130 : BitVec 32 := 1#32
  let v344 : BitVec 32 := Scalar.addi arg13 c1_i32_130
  let c16_i32_159 : BitVec 32 := 16#32
  let v391 : BitVec 32 := Scalar.muli v344 c16_i32_159
  let c9_i32_160 : BitVec 32 := 9#32
  let v392 : BitVec 32 := Scalar.addi v391 c9_i32_160
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v393 : BitVec 1 := Scalar.cmpi .slt v392 v20
  let v394 : BitVec 32 := Scalar.extui v393
  let c0_i32_161 : BitVec 32 := 0#32
  let v395 : BitVec 1 := Scalar.cmpi .ne v394 c0_i32_161
  v395

def k0_off71 (v1 : BitVec 32) (k0_t1 : Fin (k0_t1_loop v1).trips) : Fin 1 → Nat :=
  let c1_i32_131 : BitVec 32 := 1#32
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let v345 : BitVec 32 := Scalar.subi c1_i32_131 v157
  ![v345.toNat]
def k0_off72 (v1 : BitVec 32) (k0_t1 : Fin (k0_t1_loop v1).trips) : Fin 4 → Nat :=
  let c1_i32_131 : BitVec 32 := 1#32
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let v345 : BitVec 32 := Scalar.subi c1_i32_131 v157
  let c9_i32_180 : BitVec 32 := 9#32
  let c0_i32_181 : BitVec 32 := 0#32
  let c0_i32_182 : BitVec 32 := 0#32
  ![v345.toNat, 9, 0, 0]
def k0_off73 (v428 : BitVec 32) : Fin 3 → Nat :=
  let c0_i32_183 : BitVec 32 := 0#32
  let c0_i32_184 : BitVec 32 := 0#32
  ![v428.toNat, 0, 0]

def k0_chk27 (v1 : BitVec 32) (k0_t1 : Fin (k0_t1_loop v1).trips) (v428 : BitVec 32) : Prop :=
  (∀ (k0_h18 : k0_cond18 v1 k0_t1 = 1#1), ∀ (k0_h28 : k0_cond28 v1 k0_t1 = 1#1), ∀ a, (k0_off73 v428) a + S1x64x656.size a ≤ S10400x64x656.size a) ∧
  (∀ (k0_h18 : k0_cond18 v1 k0_t1 = 1#1), ∀ (k0_h28 : k0_cond28 v1 k0_t1 = 1#1), ∀ (hinb : ∀ a, (k0_off73 v428) a + S1x64x656.size a ≤ S10400x64x656.size a), (Rect.unit (s := S10400x64x656) (k0_off73 v428) S1x64x656.size hinb).WholeWords (EltTy.packing .i8))
theorem k0_off73_inb : ∀ (v1 : BitVec 32) (k0_t1 : Fin (k0_t1_loop v1).trips) (v428 : BitVec 32) (k0_hw27 : k0_chk27 v1 k0_t1 v428), ∀ (k0_h18 : k0_cond18 v1 k0_t1 = 1#1), ∀ (k0_h28 : k0_cond28 v1 k0_t1 = 1#1), ∀ a, (k0_off73 v428) a + S1x64x656.size a ≤ S10400x64x656.size a := fun v1 k0_t1 v428 k0_hw27 k0_h18 k0_h28 => k0_hw27.1 k0_h18 k0_h28
theorem k0_off73_wordsi8 : ∀ (v1 : BitVec 32) (k0_t1 : Fin (k0_t1_loop v1).trips) (v428 : BitVec 32) (k0_hw27 : k0_chk27 v1 k0_t1 v428), ∀ (k0_h18 : k0_cond18 v1 k0_t1 = 1#1), ∀ (k0_h28 : k0_cond28 v1 k0_t1 = 1#1), (Rect.unit (s := S10400x64x656) (k0_off73 v428) S1x64x656.size (k0_off73_inb v1 k0_t1 v428 k0_hw27 k0_h18 k0_h28)).WholeWords (EltTy.packing .i8) := fun v1 k0_t1 v428 k0_hw27 k0_h18 k0_h28 => k0_hw27.2 k0_h18 k0_h28 (k0_off73_inb v1 k0_t1 v428 k0_hw27 k0_h18 k0_h28)

def k0_off74 (i : grid0.Coords) (v1 : BitVec 32) (k0_t1 : Fin (k0_t1_loop v1).trips) : Fin 2 → Nat :=
  let arg0 : BitVec 32 := BitVec.ofNat 32 (i 0).val
  let v426 : Index := Scalar.indexCast arg0
  let c0_i32_53 : BitVec 32 := 0#32
  let c1_i32_55 : BitVec 32 := 1#32
  let arg13 : BitVec 32 := Scf.iv c0_i32_53 c1_i32_55 k0_t1
  let c1_i32_130 : BitVec 32 := 1#32
  let v344 : BitVec 32 := Scalar.addi arg13 c1_i32_130
  let c16_i32_162 : BitVec 32 := 16#32
  let v396 : BitVec 32 := Scalar.muli v344 c16_i32_162
  let c10_i32_163 : BitVec 32 := 10#32
  let v397 : BitVec 32 := Scalar.addi v396 c10_i32_163
  let v427 : Index := Scalar.indexCast v397
  ![v426.toNat, v427.toNat]
def k0_cond29 (v1 : BitVec 32) (k0_t1 : Fin (k0_t1_loop v1).trips) : BitVec 1 :=
  let c0_i32_53 : BitVec 32 := 0#32
  let c1_i32_55 : BitVec 32 := 1#32
  let arg13 : BitVec 32 := Scf.iv c0_i32_53 c1_i32_55 k0_t1
  let c1_i32_130 : BitVec 32 := 1#32
  let v344 : BitVec 32 := Scalar.addi arg13 c1_i32_130
  let c16_i32_162 : BitVec 32 := 16#32
  let v396 : BitVec 32 := Scalar.muli v344 c16_i32_162
  let c10_i32_163 : BitVec 32 := 10#32
  let v397 : BitVec 32 := Scalar.addi v396 c10_i32_163
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v398 : BitVec 1 := Scalar.cmpi .slt v397 v20
  let v399 : BitVec 32 := Scalar.extui v398
  let c0_i32_164 : BitVec 32 := 0#32
  let v400 : BitVec 1 := Scalar.cmpi .ne v399 c0_i32_164
  v400

def k0_off75 (v1 : BitVec 32) (k0_t1 : Fin (k0_t1_loop v1).trips) : Fin 1 → Nat :=
  let c1_i32_131 : BitVec 32 := 1#32
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let v345 : BitVec 32 := Scalar.subi c1_i32_131 v157
  ![v345.toNat]
def k0_off76 (v1 : BitVec 32) (k0_t1 : Fin (k0_t1_loop v1).trips) : Fin 4 → Nat :=
  let c1_i32_131 : BitVec 32 := 1#32
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let v345 : BitVec 32 := Scalar.subi c1_i32_131 v157
  let c10_i32_180 : BitVec 32 := 10#32
  let c0_i32_181 : BitVec 32 := 0#32
  let c0_i32_182 : BitVec 32 := 0#32
  ![v345.toNat, 10, 0, 0]
def k0_off77 (v428 : BitVec 32) : Fin 3 → Nat :=
  let c0_i32_183 : BitVec 32 := 0#32
  let c0_i32_184 : BitVec 32 := 0#32
  ![v428.toNat, 0, 0]

def k0_chk28 (v1 : BitVec 32) (k0_t1 : Fin (k0_t1_loop v1).trips) (v428 : BitVec 32) : Prop :=
  (∀ (k0_h18 : k0_cond18 v1 k0_t1 = 1#1), ∀ (k0_h29 : k0_cond29 v1 k0_t1 = 1#1), ∀ a, (k0_off77 v428) a + S1x64x656.size a ≤ S10400x64x656.size a) ∧
  (∀ (k0_h18 : k0_cond18 v1 k0_t1 = 1#1), ∀ (k0_h29 : k0_cond29 v1 k0_t1 = 1#1), ∀ (hinb : ∀ a, (k0_off77 v428) a + S1x64x656.size a ≤ S10400x64x656.size a), (Rect.unit (s := S10400x64x656) (k0_off77 v428) S1x64x656.size hinb).WholeWords (EltTy.packing .i8))
theorem k0_off77_inb : ∀ (v1 : BitVec 32) (k0_t1 : Fin (k0_t1_loop v1).trips) (v428 : BitVec 32) (k0_hw28 : k0_chk28 v1 k0_t1 v428), ∀ (k0_h18 : k0_cond18 v1 k0_t1 = 1#1), ∀ (k0_h29 : k0_cond29 v1 k0_t1 = 1#1), ∀ a, (k0_off77 v428) a + S1x64x656.size a ≤ S10400x64x656.size a := fun v1 k0_t1 v428 k0_hw28 k0_h18 k0_h29 => k0_hw28.1 k0_h18 k0_h29
theorem k0_off77_wordsi8 : ∀ (v1 : BitVec 32) (k0_t1 : Fin (k0_t1_loop v1).trips) (v428 : BitVec 32) (k0_hw28 : k0_chk28 v1 k0_t1 v428), ∀ (k0_h18 : k0_cond18 v1 k0_t1 = 1#1), ∀ (k0_h29 : k0_cond29 v1 k0_t1 = 1#1), (Rect.unit (s := S10400x64x656) (k0_off77 v428) S1x64x656.size (k0_off77_inb v1 k0_t1 v428 k0_hw28 k0_h18 k0_h29)).WholeWords (EltTy.packing .i8) := fun v1 k0_t1 v428 k0_hw28 k0_h18 k0_h29 => k0_hw28.2 k0_h18 k0_h29 (k0_off77_inb v1 k0_t1 v428 k0_hw28 k0_h18 k0_h29)

def k0_off78 (i : grid0.Coords) (v1 : BitVec 32) (k0_t1 : Fin (k0_t1_loop v1).trips) : Fin 2 → Nat :=
  let arg0 : BitVec 32 := BitVec.ofNat 32 (i 0).val
  let v426 : Index := Scalar.indexCast arg0
  let c0_i32_53 : BitVec 32 := 0#32
  let c1_i32_55 : BitVec 32 := 1#32
  let arg13 : BitVec 32 := Scf.iv c0_i32_53 c1_i32_55 k0_t1
  let c1_i32_130 : BitVec 32 := 1#32
  let v344 : BitVec 32 := Scalar.addi arg13 c1_i32_130
  let c16_i32_165 : BitVec 32 := 16#32
  let v401 : BitVec 32 := Scalar.muli v344 c16_i32_165
  let c11_i32_166 : BitVec 32 := 11#32
  let v402 : BitVec 32 := Scalar.addi v401 c11_i32_166
  let v427 : Index := Scalar.indexCast v402
  ![v426.toNat, v427.toNat]
def k0_cond30 (v1 : BitVec 32) (k0_t1 : Fin (k0_t1_loop v1).trips) : BitVec 1 :=
  let c0_i32_53 : BitVec 32 := 0#32
  let c1_i32_55 : BitVec 32 := 1#32
  let arg13 : BitVec 32 := Scf.iv c0_i32_53 c1_i32_55 k0_t1
  let c1_i32_130 : BitVec 32 := 1#32
  let v344 : BitVec 32 := Scalar.addi arg13 c1_i32_130
  let c16_i32_165 : BitVec 32 := 16#32
  let v401 : BitVec 32 := Scalar.muli v344 c16_i32_165
  let c11_i32_166 : BitVec 32 := 11#32
  let v402 : BitVec 32 := Scalar.addi v401 c11_i32_166
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v403 : BitVec 1 := Scalar.cmpi .slt v402 v20
  let v404 : BitVec 32 := Scalar.extui v403
  let c0_i32_167 : BitVec 32 := 0#32
  let v405 : BitVec 1 := Scalar.cmpi .ne v404 c0_i32_167
  v405

def k0_off79 (v1 : BitVec 32) (k0_t1 : Fin (k0_t1_loop v1).trips) : Fin 1 → Nat :=
  let c1_i32_131 : BitVec 32 := 1#32
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let v345 : BitVec 32 := Scalar.subi c1_i32_131 v157
  ![v345.toNat]
def k0_off80 (v1 : BitVec 32) (k0_t1 : Fin (k0_t1_loop v1).trips) : Fin 4 → Nat :=
  let c1_i32_131 : BitVec 32 := 1#32
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let v345 : BitVec 32 := Scalar.subi c1_i32_131 v157
  let c11_i32_180 : BitVec 32 := 11#32
  let c0_i32_181 : BitVec 32 := 0#32
  let c0_i32_182 : BitVec 32 := 0#32
  ![v345.toNat, 11, 0, 0]
def k0_off81 (v428 : BitVec 32) : Fin 3 → Nat :=
  let c0_i32_183 : BitVec 32 := 0#32
  let c0_i32_184 : BitVec 32 := 0#32
  ![v428.toNat, 0, 0]

def k0_chk29 (v1 : BitVec 32) (k0_t1 : Fin (k0_t1_loop v1).trips) (v428 : BitVec 32) : Prop :=
  (∀ (k0_h18 : k0_cond18 v1 k0_t1 = 1#1), ∀ (k0_h30 : k0_cond30 v1 k0_t1 = 1#1), ∀ a, (k0_off81 v428) a + S1x64x656.size a ≤ S10400x64x656.size a) ∧
  (∀ (k0_h18 : k0_cond18 v1 k0_t1 = 1#1), ∀ (k0_h30 : k0_cond30 v1 k0_t1 = 1#1), ∀ (hinb : ∀ a, (k0_off81 v428) a + S1x64x656.size a ≤ S10400x64x656.size a), (Rect.unit (s := S10400x64x656) (k0_off81 v428) S1x64x656.size hinb).WholeWords (EltTy.packing .i8))
theorem k0_off81_inb : ∀ (v1 : BitVec 32) (k0_t1 : Fin (k0_t1_loop v1).trips) (v428 : BitVec 32) (k0_hw29 : k0_chk29 v1 k0_t1 v428), ∀ (k0_h18 : k0_cond18 v1 k0_t1 = 1#1), ∀ (k0_h30 : k0_cond30 v1 k0_t1 = 1#1), ∀ a, (k0_off81 v428) a + S1x64x656.size a ≤ S10400x64x656.size a := fun v1 k0_t1 v428 k0_hw29 k0_h18 k0_h30 => k0_hw29.1 k0_h18 k0_h30
theorem k0_off81_wordsi8 : ∀ (v1 : BitVec 32) (k0_t1 : Fin (k0_t1_loop v1).trips) (v428 : BitVec 32) (k0_hw29 : k0_chk29 v1 k0_t1 v428), ∀ (k0_h18 : k0_cond18 v1 k0_t1 = 1#1), ∀ (k0_h30 : k0_cond30 v1 k0_t1 = 1#1), (Rect.unit (s := S10400x64x656) (k0_off81 v428) S1x64x656.size (k0_off81_inb v1 k0_t1 v428 k0_hw29 k0_h18 k0_h30)).WholeWords (EltTy.packing .i8) := fun v1 k0_t1 v428 k0_hw29 k0_h18 k0_h30 => k0_hw29.2 k0_h18 k0_h30 (k0_off81_inb v1 k0_t1 v428 k0_hw29 k0_h18 k0_h30)

def k0_off82 (i : grid0.Coords) (v1 : BitVec 32) (k0_t1 : Fin (k0_t1_loop v1).trips) : Fin 2 → Nat :=
  let arg0 : BitVec 32 := BitVec.ofNat 32 (i 0).val
  let v426 : Index := Scalar.indexCast arg0
  let c0_i32_53 : BitVec 32 := 0#32
  let c1_i32_55 : BitVec 32 := 1#32
  let arg13 : BitVec 32 := Scf.iv c0_i32_53 c1_i32_55 k0_t1
  let c1_i32_130 : BitVec 32 := 1#32
  let v344 : BitVec 32 := Scalar.addi arg13 c1_i32_130
  let c16_i32_168 : BitVec 32 := 16#32
  let v406 : BitVec 32 := Scalar.muli v344 c16_i32_168
  let c12_i32_169 : BitVec 32 := 12#32
  let v407 : BitVec 32 := Scalar.addi v406 c12_i32_169
  let v427 : Index := Scalar.indexCast v407
  ![v426.toNat, v427.toNat]
def k0_cond31 (v1 : BitVec 32) (k0_t1 : Fin (k0_t1_loop v1).trips) : BitVec 1 :=
  let c0_i32_53 : BitVec 32 := 0#32
  let c1_i32_55 : BitVec 32 := 1#32
  let arg13 : BitVec 32 := Scf.iv c0_i32_53 c1_i32_55 k0_t1
  let c1_i32_130 : BitVec 32 := 1#32
  let v344 : BitVec 32 := Scalar.addi arg13 c1_i32_130
  let c16_i32_168 : BitVec 32 := 16#32
  let v406 : BitVec 32 := Scalar.muli v344 c16_i32_168
  let c12_i32_169 : BitVec 32 := 12#32
  let v407 : BitVec 32 := Scalar.addi v406 c12_i32_169
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v408 : BitVec 1 := Scalar.cmpi .slt v407 v20
  let v409 : BitVec 32 := Scalar.extui v408
  let c0_i32_170 : BitVec 32 := 0#32
  let v410 : BitVec 1 := Scalar.cmpi .ne v409 c0_i32_170
  v410

def k0_off83 (v1 : BitVec 32) (k0_t1 : Fin (k0_t1_loop v1).trips) : Fin 1 → Nat :=
  let c1_i32_131 : BitVec 32 := 1#32
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let v345 : BitVec 32 := Scalar.subi c1_i32_131 v157
  ![v345.toNat]
def k0_off84 (v1 : BitVec 32) (k0_t1 : Fin (k0_t1_loop v1).trips) : Fin 4 → Nat :=
  let c1_i32_131 : BitVec 32 := 1#32
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let v345 : BitVec 32 := Scalar.subi c1_i32_131 v157
  let c12_i32_180 : BitVec 32 := 12#32
  let c0_i32_181 : BitVec 32 := 0#32
  let c0_i32_182 : BitVec 32 := 0#32
  ![v345.toNat, 12, 0, 0]
def k0_off85 (v428 : BitVec 32) : Fin 3 → Nat :=
  let c0_i32_183 : BitVec 32 := 0#32
  let c0_i32_184 : BitVec 32 := 0#32
  ![v428.toNat, 0, 0]

def k0_chk30 (v1 : BitVec 32) (k0_t1 : Fin (k0_t1_loop v1).trips) (v428 : BitVec 32) : Prop :=
  (∀ (k0_h18 : k0_cond18 v1 k0_t1 = 1#1), ∀ (k0_h31 : k0_cond31 v1 k0_t1 = 1#1), ∀ a, (k0_off85 v428) a + S1x64x656.size a ≤ S10400x64x656.size a) ∧
  (∀ (k0_h18 : k0_cond18 v1 k0_t1 = 1#1), ∀ (k0_h31 : k0_cond31 v1 k0_t1 = 1#1), ∀ (hinb : ∀ a, (k0_off85 v428) a + S1x64x656.size a ≤ S10400x64x656.size a), (Rect.unit (s := S10400x64x656) (k0_off85 v428) S1x64x656.size hinb).WholeWords (EltTy.packing .i8))
theorem k0_off85_inb : ∀ (v1 : BitVec 32) (k0_t1 : Fin (k0_t1_loop v1).trips) (v428 : BitVec 32) (k0_hw30 : k0_chk30 v1 k0_t1 v428), ∀ (k0_h18 : k0_cond18 v1 k0_t1 = 1#1), ∀ (k0_h31 : k0_cond31 v1 k0_t1 = 1#1), ∀ a, (k0_off85 v428) a + S1x64x656.size a ≤ S10400x64x656.size a := fun v1 k0_t1 v428 k0_hw30 k0_h18 k0_h31 => k0_hw30.1 k0_h18 k0_h31
theorem k0_off85_wordsi8 : ∀ (v1 : BitVec 32) (k0_t1 : Fin (k0_t1_loop v1).trips) (v428 : BitVec 32) (k0_hw30 : k0_chk30 v1 k0_t1 v428), ∀ (k0_h18 : k0_cond18 v1 k0_t1 = 1#1), ∀ (k0_h31 : k0_cond31 v1 k0_t1 = 1#1), (Rect.unit (s := S10400x64x656) (k0_off85 v428) S1x64x656.size (k0_off85_inb v1 k0_t1 v428 k0_hw30 k0_h18 k0_h31)).WholeWords (EltTy.packing .i8) := fun v1 k0_t1 v428 k0_hw30 k0_h18 k0_h31 => k0_hw30.2 k0_h18 k0_h31 (k0_off85_inb v1 k0_t1 v428 k0_hw30 k0_h18 k0_h31)

def k0_off86 (i : grid0.Coords) (v1 : BitVec 32) (k0_t1 : Fin (k0_t1_loop v1).trips) : Fin 2 → Nat :=
  let arg0 : BitVec 32 := BitVec.ofNat 32 (i 0).val
  let v426 : Index := Scalar.indexCast arg0
  let c0_i32_53 : BitVec 32 := 0#32
  let c1_i32_55 : BitVec 32 := 1#32
  let arg13 : BitVec 32 := Scf.iv c0_i32_53 c1_i32_55 k0_t1
  let c1_i32_130 : BitVec 32 := 1#32
  let v344 : BitVec 32 := Scalar.addi arg13 c1_i32_130
  let c16_i32_171 : BitVec 32 := 16#32
  let v411 : BitVec 32 := Scalar.muli v344 c16_i32_171
  let c13_i32_172 : BitVec 32 := 13#32
  let v412 : BitVec 32 := Scalar.addi v411 c13_i32_172
  let v427 : Index := Scalar.indexCast v412
  ![v426.toNat, v427.toNat]
def k0_cond32 (v1 : BitVec 32) (k0_t1 : Fin (k0_t1_loop v1).trips) : BitVec 1 :=
  let c0_i32_53 : BitVec 32 := 0#32
  let c1_i32_55 : BitVec 32 := 1#32
  let arg13 : BitVec 32 := Scf.iv c0_i32_53 c1_i32_55 k0_t1
  let c1_i32_130 : BitVec 32 := 1#32
  let v344 : BitVec 32 := Scalar.addi arg13 c1_i32_130
  let c16_i32_171 : BitVec 32 := 16#32
  let v411 : BitVec 32 := Scalar.muli v344 c16_i32_171
  let c13_i32_172 : BitVec 32 := 13#32
  let v412 : BitVec 32 := Scalar.addi v411 c13_i32_172
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v413 : BitVec 1 := Scalar.cmpi .slt v412 v20
  let v414 : BitVec 32 := Scalar.extui v413
  let c0_i32_173 : BitVec 32 := 0#32
  let v415 : BitVec 1 := Scalar.cmpi .ne v414 c0_i32_173
  v415

def k0_off87 (v1 : BitVec 32) (k0_t1 : Fin (k0_t1_loop v1).trips) : Fin 1 → Nat :=
  let c1_i32_131 : BitVec 32 := 1#32
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let v345 : BitVec 32 := Scalar.subi c1_i32_131 v157
  ![v345.toNat]
def k0_off88 (v1 : BitVec 32) (k0_t1 : Fin (k0_t1_loop v1).trips) : Fin 4 → Nat :=
  let c1_i32_131 : BitVec 32 := 1#32
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let v345 : BitVec 32 := Scalar.subi c1_i32_131 v157
  let c13_i32_180 : BitVec 32 := 13#32
  let c0_i32_181 : BitVec 32 := 0#32
  let c0_i32_182 : BitVec 32 := 0#32
  ![v345.toNat, 13, 0, 0]
def k0_off89 (v428 : BitVec 32) : Fin 3 → Nat :=
  let c0_i32_183 : BitVec 32 := 0#32
  let c0_i32_184 : BitVec 32 := 0#32
  ![v428.toNat, 0, 0]

def k0_chk31 (v1 : BitVec 32) (k0_t1 : Fin (k0_t1_loop v1).trips) (v428 : BitVec 32) : Prop :=
  (∀ (k0_h18 : k0_cond18 v1 k0_t1 = 1#1), ∀ (k0_h32 : k0_cond32 v1 k0_t1 = 1#1), ∀ a, (k0_off89 v428) a + S1x64x656.size a ≤ S10400x64x656.size a) ∧
  (∀ (k0_h18 : k0_cond18 v1 k0_t1 = 1#1), ∀ (k0_h32 : k0_cond32 v1 k0_t1 = 1#1), ∀ (hinb : ∀ a, (k0_off89 v428) a + S1x64x656.size a ≤ S10400x64x656.size a), (Rect.unit (s := S10400x64x656) (k0_off89 v428) S1x64x656.size hinb).WholeWords (EltTy.packing .i8))
theorem k0_off89_inb : ∀ (v1 : BitVec 32) (k0_t1 : Fin (k0_t1_loop v1).trips) (v428 : BitVec 32) (k0_hw31 : k0_chk31 v1 k0_t1 v428), ∀ (k0_h18 : k0_cond18 v1 k0_t1 = 1#1), ∀ (k0_h32 : k0_cond32 v1 k0_t1 = 1#1), ∀ a, (k0_off89 v428) a + S1x64x656.size a ≤ S10400x64x656.size a := fun v1 k0_t1 v428 k0_hw31 k0_h18 k0_h32 => k0_hw31.1 k0_h18 k0_h32
theorem k0_off89_wordsi8 : ∀ (v1 : BitVec 32) (k0_t1 : Fin (k0_t1_loop v1).trips) (v428 : BitVec 32) (k0_hw31 : k0_chk31 v1 k0_t1 v428), ∀ (k0_h18 : k0_cond18 v1 k0_t1 = 1#1), ∀ (k0_h32 : k0_cond32 v1 k0_t1 = 1#1), (Rect.unit (s := S10400x64x656) (k0_off89 v428) S1x64x656.size (k0_off89_inb v1 k0_t1 v428 k0_hw31 k0_h18 k0_h32)).WholeWords (EltTy.packing .i8) := fun v1 k0_t1 v428 k0_hw31 k0_h18 k0_h32 => k0_hw31.2 k0_h18 k0_h32 (k0_off89_inb v1 k0_t1 v428 k0_hw31 k0_h18 k0_h32)

def k0_off90 (i : grid0.Coords) (v1 : BitVec 32) (k0_t1 : Fin (k0_t1_loop v1).trips) : Fin 2 → Nat :=
  let arg0 : BitVec 32 := BitVec.ofNat 32 (i 0).val
  let v426 : Index := Scalar.indexCast arg0
  let c0_i32_53 : BitVec 32 := 0#32
  let c1_i32_55 : BitVec 32 := 1#32
  let arg13 : BitVec 32 := Scf.iv c0_i32_53 c1_i32_55 k0_t1
  let c1_i32_130 : BitVec 32 := 1#32
  let v344 : BitVec 32 := Scalar.addi arg13 c1_i32_130
  let c16_i32_174 : BitVec 32 := 16#32
  let v416 : BitVec 32 := Scalar.muli v344 c16_i32_174
  let c14_i32_175 : BitVec 32 := 14#32
  let v417 : BitVec 32 := Scalar.addi v416 c14_i32_175
  let v427 : Index := Scalar.indexCast v417
  ![v426.toNat, v427.toNat]
def k0_cond33 (v1 : BitVec 32) (k0_t1 : Fin (k0_t1_loop v1).trips) : BitVec 1 :=
  let c0_i32_53 : BitVec 32 := 0#32
  let c1_i32_55 : BitVec 32 := 1#32
  let arg13 : BitVec 32 := Scf.iv c0_i32_53 c1_i32_55 k0_t1
  let c1_i32_130 : BitVec 32 := 1#32
  let v344 : BitVec 32 := Scalar.addi arg13 c1_i32_130
  let c16_i32_174 : BitVec 32 := 16#32
  let v416 : BitVec 32 := Scalar.muli v344 c16_i32_174
  let c14_i32_175 : BitVec 32 := 14#32
  let v417 : BitVec 32 := Scalar.addi v416 c14_i32_175
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v418 : BitVec 1 := Scalar.cmpi .slt v417 v20
  let v419 : BitVec 32 := Scalar.extui v418
  let c0_i32_176 : BitVec 32 := 0#32
  let v420 : BitVec 1 := Scalar.cmpi .ne v419 c0_i32_176
  v420

def k0_off91 (v1 : BitVec 32) (k0_t1 : Fin (k0_t1_loop v1).trips) : Fin 1 → Nat :=
  let c1_i32_131 : BitVec 32 := 1#32
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let v345 : BitVec 32 := Scalar.subi c1_i32_131 v157
  ![v345.toNat]
def k0_off92 (v1 : BitVec 32) (k0_t1 : Fin (k0_t1_loop v1).trips) : Fin 4 → Nat :=
  let c1_i32_131 : BitVec 32 := 1#32
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let v345 : BitVec 32 := Scalar.subi c1_i32_131 v157
  let c14_i32_180 : BitVec 32 := 14#32
  let c0_i32_181 : BitVec 32 := 0#32
  let c0_i32_182 : BitVec 32 := 0#32
  ![v345.toNat, 14, 0, 0]
def k0_off93 (v428 : BitVec 32) : Fin 3 → Nat :=
  let c0_i32_183 : BitVec 32 := 0#32
  let c0_i32_184 : BitVec 32 := 0#32
  ![v428.toNat, 0, 0]

def k0_chk32 (v1 : BitVec 32) (k0_t1 : Fin (k0_t1_loop v1).trips) (v428 : BitVec 32) : Prop :=
  (∀ (k0_h18 : k0_cond18 v1 k0_t1 = 1#1), ∀ (k0_h33 : k0_cond33 v1 k0_t1 = 1#1), ∀ a, (k0_off93 v428) a + S1x64x656.size a ≤ S10400x64x656.size a) ∧
  (∀ (k0_h18 : k0_cond18 v1 k0_t1 = 1#1), ∀ (k0_h33 : k0_cond33 v1 k0_t1 = 1#1), ∀ (hinb : ∀ a, (k0_off93 v428) a + S1x64x656.size a ≤ S10400x64x656.size a), (Rect.unit (s := S10400x64x656) (k0_off93 v428) S1x64x656.size hinb).WholeWords (EltTy.packing .i8))
theorem k0_off93_inb : ∀ (v1 : BitVec 32) (k0_t1 : Fin (k0_t1_loop v1).trips) (v428 : BitVec 32) (k0_hw32 : k0_chk32 v1 k0_t1 v428), ∀ (k0_h18 : k0_cond18 v1 k0_t1 = 1#1), ∀ (k0_h33 : k0_cond33 v1 k0_t1 = 1#1), ∀ a, (k0_off93 v428) a + S1x64x656.size a ≤ S10400x64x656.size a := fun v1 k0_t1 v428 k0_hw32 k0_h18 k0_h33 => k0_hw32.1 k0_h18 k0_h33
theorem k0_off93_wordsi8 : ∀ (v1 : BitVec 32) (k0_t1 : Fin (k0_t1_loop v1).trips) (v428 : BitVec 32) (k0_hw32 : k0_chk32 v1 k0_t1 v428), ∀ (k0_h18 : k0_cond18 v1 k0_t1 = 1#1), ∀ (k0_h33 : k0_cond33 v1 k0_t1 = 1#1), (Rect.unit (s := S10400x64x656) (k0_off93 v428) S1x64x656.size (k0_off93_inb v1 k0_t1 v428 k0_hw32 k0_h18 k0_h33)).WholeWords (EltTy.packing .i8) := fun v1 k0_t1 v428 k0_hw32 k0_h18 k0_h33 => k0_hw32.2 k0_h18 k0_h33 (k0_off93_inb v1 k0_t1 v428 k0_hw32 k0_h18 k0_h33)

def k0_off94 (i : grid0.Coords) (v1 : BitVec 32) (k0_t1 : Fin (k0_t1_loop v1).trips) : Fin 2 → Nat :=
  let arg0 : BitVec 32 := BitVec.ofNat 32 (i 0).val
  let v426 : Index := Scalar.indexCast arg0
  let c0_i32_53 : BitVec 32 := 0#32
  let c1_i32_55 : BitVec 32 := 1#32
  let arg13 : BitVec 32 := Scf.iv c0_i32_53 c1_i32_55 k0_t1
  let c1_i32_130 : BitVec 32 := 1#32
  let v344 : BitVec 32 := Scalar.addi arg13 c1_i32_130
  let c16_i32_177 : BitVec 32 := 16#32
  let v421 : BitVec 32 := Scalar.muli v344 c16_i32_177
  let c15_i32_178 : BitVec 32 := 15#32
  let v422 : BitVec 32 := Scalar.addi v421 c15_i32_178
  let v427 : Index := Scalar.indexCast v422
  ![v426.toNat, v427.toNat]
def k0_cond34 (v1 : BitVec 32) (k0_t1 : Fin (k0_t1_loop v1).trips) : BitVec 1 :=
  let c0_i32_53 : BitVec 32 := 0#32
  let c1_i32_55 : BitVec 32 := 1#32
  let arg13 : BitVec 32 := Scf.iv c0_i32_53 c1_i32_55 k0_t1
  let c1_i32_130 : BitVec 32 := 1#32
  let v344 : BitVec 32 := Scalar.addi arg13 c1_i32_130
  let c16_i32_177 : BitVec 32 := 16#32
  let v421 : BitVec 32 := Scalar.muli v344 c16_i32_177
  let c15_i32_178 : BitVec 32 := 15#32
  let v422 : BitVec 32 := Scalar.addi v421 c15_i32_178
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v423 : BitVec 1 := Scalar.cmpi .slt v422 v20
  let v424 : BitVec 32 := Scalar.extui v423
  let c0_i32_179 : BitVec 32 := 0#32
  let v425 : BitVec 1 := Scalar.cmpi .ne v424 c0_i32_179
  v425

def k0_off95 (v1 : BitVec 32) (k0_t1 : Fin (k0_t1_loop v1).trips) : Fin 1 → Nat :=
  let c1_i32_131 : BitVec 32 := 1#32
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let v345 : BitVec 32 := Scalar.subi c1_i32_131 v157
  ![v345.toNat]
def k0_off96 (v1 : BitVec 32) (k0_t1 : Fin (k0_t1_loop v1).trips) : Fin 4 → Nat :=
  let c1_i32_131 : BitVec 32 := 1#32
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let v345 : BitVec 32 := Scalar.subi c1_i32_131 v157
  let c15_i32_180 : BitVec 32 := 15#32
  let c0_i32_181 : BitVec 32 := 0#32
  let c0_i32_182 : BitVec 32 := 0#32
  ![v345.toNat, 15, 0, 0]
def k0_off97 (v428 : BitVec 32) : Fin 3 → Nat :=
  let c0_i32_183 : BitVec 32 := 0#32
  let c0_i32_184 : BitVec 32 := 0#32
  ![v428.toNat, 0, 0]

def k0_chk33 (v1 : BitVec 32) (k0_t1 : Fin (k0_t1_loop v1).trips) (v428 : BitVec 32) : Prop :=
  (∀ (k0_h18 : k0_cond18 v1 k0_t1 = 1#1), ∀ (k0_h34 : k0_cond34 v1 k0_t1 = 1#1), ∀ a, (k0_off97 v428) a + S1x64x656.size a ≤ S10400x64x656.size a) ∧
  (∀ (k0_h18 : k0_cond18 v1 k0_t1 = 1#1), ∀ (k0_h34 : k0_cond34 v1 k0_t1 = 1#1), ∀ (hinb : ∀ a, (k0_off97 v428) a + S1x64x656.size a ≤ S10400x64x656.size a), (Rect.unit (s := S10400x64x656) (k0_off97 v428) S1x64x656.size hinb).WholeWords (EltTy.packing .i8))
theorem k0_off97_inb : ∀ (v1 : BitVec 32) (k0_t1 : Fin (k0_t1_loop v1).trips) (v428 : BitVec 32) (k0_hw33 : k0_chk33 v1 k0_t1 v428), ∀ (k0_h18 : k0_cond18 v1 k0_t1 = 1#1), ∀ (k0_h34 : k0_cond34 v1 k0_t1 = 1#1), ∀ a, (k0_off97 v428) a + S1x64x656.size a ≤ S10400x64x656.size a := fun v1 k0_t1 v428 k0_hw33 k0_h18 k0_h34 => k0_hw33.1 k0_h18 k0_h34
theorem k0_off97_wordsi8 : ∀ (v1 : BitVec 32) (k0_t1 : Fin (k0_t1_loop v1).trips) (v428 : BitVec 32) (k0_hw33 : k0_chk33 v1 k0_t1 v428), ∀ (k0_h18 : k0_cond18 v1 k0_t1 = 1#1), ∀ (k0_h34 : k0_cond34 v1 k0_t1 = 1#1), (Rect.unit (s := S10400x64x656) (k0_off97 v428) S1x64x656.size (k0_off97_inb v1 k0_t1 v428 k0_hw33 k0_h18 k0_h34)).WholeWords (EltTy.packing .i8) := fun v1 k0_t1 v428 k0_hw33 k0_h18 k0_h34 => k0_hw33.2 k0_h18 k0_h34 (k0_off97_inb v1 k0_t1 v428 k0_hw33 k0_h18 k0_h34)

def k0_off98 (v1 : BitVec 32) (k0_t1 : Fin (k0_t1_loop v1).trips) : Fin 1 → Nat :=
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  ![v157.toNat]
def k0_cond35 (v1 : BitVec 32) (k0_t1 : Fin (k0_t1_loop v1).trips) : BitVec 1 :=
  let c0_i32_53 : BitVec 32 := 0#32
  let c1_i32_55 : BitVec 32 := 1#32
  let arg13 : BitVec 32 := Scf.iv c0_i32_53 c1_i32_55 k0_t1
  let c16_i32_66 : BitVec 32 := 16#32
  let v162 : BitVec 32 := Scalar.muli arg13 c16_i32_66
  let c0_i32_67 : BitVec 32 := 0#32
  let v163 : BitVec 32 := Scalar.addi v162 c0_i32_67
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v164 : BitVec 1 := Scalar.cmpi .slt v163 v20
  let v165 : BitVec 32 := Scalar.extui v164
  let c0_i32_68 : BitVec 32 := 0#32
  let v166 : BitVec 1 := Scalar.cmpi .ne v165 c0_i32_68
  v166

def k0_off99 (v1 : BitVec 32) (k0_t1 : Fin (k0_t1_loop v1).trips) : Fin 4 → Nat :=
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let c0_i32_131 : BitVec 32 := 0#32
  let c0_i32_132 : BitVec 32 := 0#32
  let c0_i32_133 : BitVec 32 := 0#32
  ![v157.toNat, 0, 0, 0]
def k0_off100 (v1 : BitVec 32) (k0_t1 : Fin (k0_t1_loop v1).trips) : Fin 1 → Nat :=
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  ![v157.toNat]
def k0_cond36 (v1 : BitVec 32) (k0_t1 : Fin (k0_t1_loop v1).trips) : BitVec 1 :=
  let c0_i32_53 : BitVec 32 := 0#32
  let c1_i32_55 : BitVec 32 := 1#32
  let arg13 : BitVec 32 := Scf.iv c0_i32_53 c1_i32_55 k0_t1
  let c16_i32_69 : BitVec 32 := 16#32
  let v167 : BitVec 32 := Scalar.muli arg13 c16_i32_69
  let c1_i32_70 : BitVec 32 := 1#32
  let v168 : BitVec 32 := Scalar.addi v167 c1_i32_70
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v169 : BitVec 1 := Scalar.cmpi .slt v168 v20
  let v170 : BitVec 32 := Scalar.extui v169
  let c0_i32_71 : BitVec 32 := 0#32
  let v171 : BitVec 1 := Scalar.cmpi .ne v170 c0_i32_71
  v171

def k0_off101 (v1 : BitVec 32) (k0_t1 : Fin (k0_t1_loop v1).trips) : Fin 4 → Nat :=
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let c1_i32_131 : BitVec 32 := 1#32
  let c0_i32_132 : BitVec 32 := 0#32
  let c0_i32_133 : BitVec 32 := 0#32
  ![v157.toNat, 1, 0, 0]
def k0_off102 (v1 : BitVec 32) (k0_t1 : Fin (k0_t1_loop v1).trips) : Fin 1 → Nat :=
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  ![v157.toNat]
def k0_cond37 (v1 : BitVec 32) (k0_t1 : Fin (k0_t1_loop v1).trips) : BitVec 1 :=
  let c0_i32_53 : BitVec 32 := 0#32
  let c1_i32_55 : BitVec 32 := 1#32
  let arg13 : BitVec 32 := Scf.iv c0_i32_53 c1_i32_55 k0_t1
  let c16_i32_72 : BitVec 32 := 16#32
  let v172 : BitVec 32 := Scalar.muli arg13 c16_i32_72
  let c2_i32_73 : BitVec 32 := 2#32
  let v173 : BitVec 32 := Scalar.addi v172 c2_i32_73
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v174 : BitVec 1 := Scalar.cmpi .slt v173 v20
  let v175 : BitVec 32 := Scalar.extui v174
  let c0_i32_74 : BitVec 32 := 0#32
  let v176 : BitVec 1 := Scalar.cmpi .ne v175 c0_i32_74
  v176

def k0_off103 (v1 : BitVec 32) (k0_t1 : Fin (k0_t1_loop v1).trips) : Fin 4 → Nat :=
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let c2_i32_131 : BitVec 32 := 2#32
  let c0_i32_132 : BitVec 32 := 0#32
  let c0_i32_133 : BitVec 32 := 0#32
  ![v157.toNat, 2, 0, 0]
def k0_off104 (v1 : BitVec 32) (k0_t1 : Fin (k0_t1_loop v1).trips) : Fin 1 → Nat :=
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  ![v157.toNat]
def k0_cond38 (v1 : BitVec 32) (k0_t1 : Fin (k0_t1_loop v1).trips) : BitVec 1 :=
  let c0_i32_53 : BitVec 32 := 0#32
  let c1_i32_55 : BitVec 32 := 1#32
  let arg13 : BitVec 32 := Scf.iv c0_i32_53 c1_i32_55 k0_t1
  let c16_i32_75 : BitVec 32 := 16#32
  let v177 : BitVec 32 := Scalar.muli arg13 c16_i32_75
  let c3_i32_76 : BitVec 32 := 3#32
  let v178 : BitVec 32 := Scalar.addi v177 c3_i32_76
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v179 : BitVec 1 := Scalar.cmpi .slt v178 v20
  let v180 : BitVec 32 := Scalar.extui v179
  let c0_i32_77 : BitVec 32 := 0#32
  let v181 : BitVec 1 := Scalar.cmpi .ne v180 c0_i32_77
  v181

def k0_off105 (v1 : BitVec 32) (k0_t1 : Fin (k0_t1_loop v1).trips) : Fin 4 → Nat :=
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let c3_i32_131 : BitVec 32 := 3#32
  let c0_i32_132 : BitVec 32 := 0#32
  let c0_i32_133 : BitVec 32 := 0#32
  ![v157.toNat, 3, 0, 0]
def k0_off106 (v1 : BitVec 32) (k0_t1 : Fin (k0_t1_loop v1).trips) : Fin 1 → Nat :=
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  ![v157.toNat]
def k0_cond39 (v1 : BitVec 32) (k0_t1 : Fin (k0_t1_loop v1).trips) : BitVec 1 :=
  let c0_i32_53 : BitVec 32 := 0#32
  let c1_i32_55 : BitVec 32 := 1#32
  let arg13 : BitVec 32 := Scf.iv c0_i32_53 c1_i32_55 k0_t1
  let c16_i32_78 : BitVec 32 := 16#32
  let v182 : BitVec 32 := Scalar.muli arg13 c16_i32_78
  let c4_i32_79 : BitVec 32 := 4#32
  let v183 : BitVec 32 := Scalar.addi v182 c4_i32_79
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v184 : BitVec 1 := Scalar.cmpi .slt v183 v20
  let v185 : BitVec 32 := Scalar.extui v184
  let c0_i32_80 : BitVec 32 := 0#32
  let v186 : BitVec 1 := Scalar.cmpi .ne v185 c0_i32_80
  v186

def k0_off107 (v1 : BitVec 32) (k0_t1 : Fin (k0_t1_loop v1).trips) : Fin 4 → Nat :=
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let c4_i32_131 : BitVec 32 := 4#32
  let c0_i32_132 : BitVec 32 := 0#32
  let c0_i32_133 : BitVec 32 := 0#32
  ![v157.toNat, 4, 0, 0]
def k0_off108 (v1 : BitVec 32) (k0_t1 : Fin (k0_t1_loop v1).trips) : Fin 1 → Nat :=
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  ![v157.toNat]
def k0_cond40 (v1 : BitVec 32) (k0_t1 : Fin (k0_t1_loop v1).trips) : BitVec 1 :=
  let c0_i32_53 : BitVec 32 := 0#32
  let c1_i32_55 : BitVec 32 := 1#32
  let arg13 : BitVec 32 := Scf.iv c0_i32_53 c1_i32_55 k0_t1
  let c16_i32_81 : BitVec 32 := 16#32
  let v187 : BitVec 32 := Scalar.muli arg13 c16_i32_81
  let c5_i32_82 : BitVec 32 := 5#32
  let v188 : BitVec 32 := Scalar.addi v187 c5_i32_82
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v189 : BitVec 1 := Scalar.cmpi .slt v188 v20
  let v190 : BitVec 32 := Scalar.extui v189
  let c0_i32_83 : BitVec 32 := 0#32
  let v191 : BitVec 1 := Scalar.cmpi .ne v190 c0_i32_83
  v191

def k0_off109 (v1 : BitVec 32) (k0_t1 : Fin (k0_t1_loop v1).trips) : Fin 4 → Nat :=
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let c5_i32_131 : BitVec 32 := 5#32
  let c0_i32_132 : BitVec 32 := 0#32
  let c0_i32_133 : BitVec 32 := 0#32
  ![v157.toNat, 5, 0, 0]
def k0_off110 (v1 : BitVec 32) (k0_t1 : Fin (k0_t1_loop v1).trips) : Fin 1 → Nat :=
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  ![v157.toNat]
def k0_cond41 (v1 : BitVec 32) (k0_t1 : Fin (k0_t1_loop v1).trips) : BitVec 1 :=
  let c0_i32_53 : BitVec 32 := 0#32
  let c1_i32_55 : BitVec 32 := 1#32
  let arg13 : BitVec 32 := Scf.iv c0_i32_53 c1_i32_55 k0_t1
  let c16_i32_84 : BitVec 32 := 16#32
  let v192 : BitVec 32 := Scalar.muli arg13 c16_i32_84
  let c6_i32_85 : BitVec 32 := 6#32
  let v193 : BitVec 32 := Scalar.addi v192 c6_i32_85
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v194 : BitVec 1 := Scalar.cmpi .slt v193 v20
  let v195 : BitVec 32 := Scalar.extui v194
  let c0_i32_86 : BitVec 32 := 0#32
  let v196 : BitVec 1 := Scalar.cmpi .ne v195 c0_i32_86
  v196

def k0_off111 (v1 : BitVec 32) (k0_t1 : Fin (k0_t1_loop v1).trips) : Fin 4 → Nat :=
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let c6_i32_131 : BitVec 32 := 6#32
  let c0_i32_132 : BitVec 32 := 0#32
  let c0_i32_133 : BitVec 32 := 0#32
  ![v157.toNat, 6, 0, 0]
def k0_off112 (v1 : BitVec 32) (k0_t1 : Fin (k0_t1_loop v1).trips) : Fin 1 → Nat :=
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  ![v157.toNat]
def k0_cond42 (v1 : BitVec 32) (k0_t1 : Fin (k0_t1_loop v1).trips) : BitVec 1 :=
  let c0_i32_53 : BitVec 32 := 0#32
  let c1_i32_55 : BitVec 32 := 1#32
  let arg13 : BitVec 32 := Scf.iv c0_i32_53 c1_i32_55 k0_t1
  let c16_i32_87 : BitVec 32 := 16#32
  let v197 : BitVec 32 := Scalar.muli arg13 c16_i32_87
  let c7_i32_88 : BitVec 32 := 7#32
  let v198 : BitVec 32 := Scalar.addi v197 c7_i32_88
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v199 : BitVec 1 := Scalar.cmpi .slt v198 v20
  let v200 : BitVec 32 := Scalar.extui v199
  let c0_i32_89 : BitVec 32 := 0#32
  let v201 : BitVec 1 := Scalar.cmpi .ne v200 c0_i32_89
  v201

def k0_off113 (v1 : BitVec 32) (k0_t1 : Fin (k0_t1_loop v1).trips) : Fin 4 → Nat :=
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let c7_i32_131 : BitVec 32 := 7#32
  let c0_i32_132 : BitVec 32 := 0#32
  let c0_i32_133 : BitVec 32 := 0#32
  ![v157.toNat, 7, 0, 0]
def k0_off114 (v1 : BitVec 32) (k0_t1 : Fin (k0_t1_loop v1).trips) : Fin 1 → Nat :=
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  ![v157.toNat]
def k0_cond43 (v1 : BitVec 32) (k0_t1 : Fin (k0_t1_loop v1).trips) : BitVec 1 :=
  let c0_i32_53 : BitVec 32 := 0#32
  let c1_i32_55 : BitVec 32 := 1#32
  let arg13 : BitVec 32 := Scf.iv c0_i32_53 c1_i32_55 k0_t1
  let c16_i32_90 : BitVec 32 := 16#32
  let v202 : BitVec 32 := Scalar.muli arg13 c16_i32_90
  let c8_i32_91 : BitVec 32 := 8#32
  let v203 : BitVec 32 := Scalar.addi v202 c8_i32_91
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v204 : BitVec 1 := Scalar.cmpi .slt v203 v20
  let v205 : BitVec 32 := Scalar.extui v204
  let c0_i32_92 : BitVec 32 := 0#32
  let v206 : BitVec 1 := Scalar.cmpi .ne v205 c0_i32_92
  v206

def k0_off115 (v1 : BitVec 32) (k0_t1 : Fin (k0_t1_loop v1).trips) : Fin 4 → Nat :=
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let c8_i32_131 : BitVec 32 := 8#32
  let c0_i32_132 : BitVec 32 := 0#32
  let c0_i32_133 : BitVec 32 := 0#32
  ![v157.toNat, 8, 0, 0]
def k0_off116 (v1 : BitVec 32) (k0_t1 : Fin (k0_t1_loop v1).trips) : Fin 1 → Nat :=
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  ![v157.toNat]
def k0_cond44 (v1 : BitVec 32) (k0_t1 : Fin (k0_t1_loop v1).trips) : BitVec 1 :=
  let c0_i32_53 : BitVec 32 := 0#32
  let c1_i32_55 : BitVec 32 := 1#32
  let arg13 : BitVec 32 := Scf.iv c0_i32_53 c1_i32_55 k0_t1
  let c16_i32_93 : BitVec 32 := 16#32
  let v207 : BitVec 32 := Scalar.muli arg13 c16_i32_93
  let c9_i32_94 : BitVec 32 := 9#32
  let v208 : BitVec 32 := Scalar.addi v207 c9_i32_94
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v209 : BitVec 1 := Scalar.cmpi .slt v208 v20
  let v210 : BitVec 32 := Scalar.extui v209
  let c0_i32_95 : BitVec 32 := 0#32
  let v211 : BitVec 1 := Scalar.cmpi .ne v210 c0_i32_95
  v211

def k0_off117 (v1 : BitVec 32) (k0_t1 : Fin (k0_t1_loop v1).trips) : Fin 4 → Nat :=
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let c9_i32_131 : BitVec 32 := 9#32
  let c0_i32_132 : BitVec 32 := 0#32
  let c0_i32_133 : BitVec 32 := 0#32
  ![v157.toNat, 9, 0, 0]
def k0_off118 (v1 : BitVec 32) (k0_t1 : Fin (k0_t1_loop v1).trips) : Fin 1 → Nat :=
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  ![v157.toNat]
def k0_cond45 (v1 : BitVec 32) (k0_t1 : Fin (k0_t1_loop v1).trips) : BitVec 1 :=
  let c0_i32_53 : BitVec 32 := 0#32
  let c1_i32_55 : BitVec 32 := 1#32
  let arg13 : BitVec 32 := Scf.iv c0_i32_53 c1_i32_55 k0_t1
  let c16_i32_96 : BitVec 32 := 16#32
  let v212 : BitVec 32 := Scalar.muli arg13 c16_i32_96
  let c10_i32_97 : BitVec 32 := 10#32
  let v213 : BitVec 32 := Scalar.addi v212 c10_i32_97
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v214 : BitVec 1 := Scalar.cmpi .slt v213 v20
  let v215 : BitVec 32 := Scalar.extui v214
  let c0_i32_98 : BitVec 32 := 0#32
  let v216 : BitVec 1 := Scalar.cmpi .ne v215 c0_i32_98
  v216

def k0_off119 (v1 : BitVec 32) (k0_t1 : Fin (k0_t1_loop v1).trips) : Fin 4 → Nat :=
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let c10_i32_131 : BitVec 32 := 10#32
  let c0_i32_132 : BitVec 32 := 0#32
  let c0_i32_133 : BitVec 32 := 0#32
  ![v157.toNat, 10, 0, 0]
def k0_off120 (v1 : BitVec 32) (k0_t1 : Fin (k0_t1_loop v1).trips) : Fin 1 → Nat :=
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  ![v157.toNat]
def k0_cond46 (v1 : BitVec 32) (k0_t1 : Fin (k0_t1_loop v1).trips) : BitVec 1 :=
  let c0_i32_53 : BitVec 32 := 0#32
  let c1_i32_55 : BitVec 32 := 1#32
  let arg13 : BitVec 32 := Scf.iv c0_i32_53 c1_i32_55 k0_t1
  let c16_i32_99 : BitVec 32 := 16#32
  let v217 : BitVec 32 := Scalar.muli arg13 c16_i32_99
  let c11_i32_100 : BitVec 32 := 11#32
  let v218 : BitVec 32 := Scalar.addi v217 c11_i32_100
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v219 : BitVec 1 := Scalar.cmpi .slt v218 v20
  let v220 : BitVec 32 := Scalar.extui v219
  let c0_i32_101 : BitVec 32 := 0#32
  let v221 : BitVec 1 := Scalar.cmpi .ne v220 c0_i32_101
  v221

def k0_off121 (v1 : BitVec 32) (k0_t1 : Fin (k0_t1_loop v1).trips) : Fin 4 → Nat :=
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let c11_i32_131 : BitVec 32 := 11#32
  let c0_i32_132 : BitVec 32 := 0#32
  let c0_i32_133 : BitVec 32 := 0#32
  ![v157.toNat, 11, 0, 0]
def k0_off122 (v1 : BitVec 32) (k0_t1 : Fin (k0_t1_loop v1).trips) : Fin 1 → Nat :=
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  ![v157.toNat]
def k0_cond47 (v1 : BitVec 32) (k0_t1 : Fin (k0_t1_loop v1).trips) : BitVec 1 :=
  let c0_i32_53 : BitVec 32 := 0#32
  let c1_i32_55 : BitVec 32 := 1#32
  let arg13 : BitVec 32 := Scf.iv c0_i32_53 c1_i32_55 k0_t1
  let c16_i32_102 : BitVec 32 := 16#32
  let v222 : BitVec 32 := Scalar.muli arg13 c16_i32_102
  let c12_i32_103 : BitVec 32 := 12#32
  let v223 : BitVec 32 := Scalar.addi v222 c12_i32_103
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v224 : BitVec 1 := Scalar.cmpi .slt v223 v20
  let v225 : BitVec 32 := Scalar.extui v224
  let c0_i32_104 : BitVec 32 := 0#32
  let v226 : BitVec 1 := Scalar.cmpi .ne v225 c0_i32_104
  v226

def k0_off123 (v1 : BitVec 32) (k0_t1 : Fin (k0_t1_loop v1).trips) : Fin 4 → Nat :=
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let c12_i32_131 : BitVec 32 := 12#32
  let c0_i32_132 : BitVec 32 := 0#32
  let c0_i32_133 : BitVec 32 := 0#32
  ![v157.toNat, 12, 0, 0]
def k0_off124 (v1 : BitVec 32) (k0_t1 : Fin (k0_t1_loop v1).trips) : Fin 1 → Nat :=
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  ![v157.toNat]
def k0_cond48 (v1 : BitVec 32) (k0_t1 : Fin (k0_t1_loop v1).trips) : BitVec 1 :=
  let c0_i32_53 : BitVec 32 := 0#32
  let c1_i32_55 : BitVec 32 := 1#32
  let arg13 : BitVec 32 := Scf.iv c0_i32_53 c1_i32_55 k0_t1
  let c16_i32_105 : BitVec 32 := 16#32
  let v227 : BitVec 32 := Scalar.muli arg13 c16_i32_105
  let c13_i32_106 : BitVec 32 := 13#32
  let v228 : BitVec 32 := Scalar.addi v227 c13_i32_106
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v229 : BitVec 1 := Scalar.cmpi .slt v228 v20
  let v230 : BitVec 32 := Scalar.extui v229
  let c0_i32_107 : BitVec 32 := 0#32
  let v231 : BitVec 1 := Scalar.cmpi .ne v230 c0_i32_107
  v231

def k0_off125 (v1 : BitVec 32) (k0_t1 : Fin (k0_t1_loop v1).trips) : Fin 4 → Nat :=
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let c13_i32_131 : BitVec 32 := 13#32
  let c0_i32_132 : BitVec 32 := 0#32
  let c0_i32_133 : BitVec 32 := 0#32
  ![v157.toNat, 13, 0, 0]
def k0_off126 (v1 : BitVec 32) (k0_t1 : Fin (k0_t1_loop v1).trips) : Fin 1 → Nat :=
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  ![v157.toNat]
def k0_cond49 (v1 : BitVec 32) (k0_t1 : Fin (k0_t1_loop v1).trips) : BitVec 1 :=
  let c0_i32_53 : BitVec 32 := 0#32
  let c1_i32_55 : BitVec 32 := 1#32
  let arg13 : BitVec 32 := Scf.iv c0_i32_53 c1_i32_55 k0_t1
  let c16_i32_108 : BitVec 32 := 16#32
  let v232 : BitVec 32 := Scalar.muli arg13 c16_i32_108
  let c14_i32_109 : BitVec 32 := 14#32
  let v233 : BitVec 32 := Scalar.addi v232 c14_i32_109
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v234 : BitVec 1 := Scalar.cmpi .slt v233 v20
  let v235 : BitVec 32 := Scalar.extui v234
  let c0_i32_110 : BitVec 32 := 0#32
  let v236 : BitVec 1 := Scalar.cmpi .ne v235 c0_i32_110
  v236

def k0_off127 (v1 : BitVec 32) (k0_t1 : Fin (k0_t1_loop v1).trips) : Fin 4 → Nat :=
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let c14_i32_131 : BitVec 32 := 14#32
  let c0_i32_132 : BitVec 32 := 0#32
  let c0_i32_133 : BitVec 32 := 0#32
  ![v157.toNat, 14, 0, 0]
def k0_off128 (v1 : BitVec 32) (k0_t1 : Fin (k0_t1_loop v1).trips) : Fin 1 → Nat :=
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  ![v157.toNat]
def k0_cond50 (v1 : BitVec 32) (k0_t1 : Fin (k0_t1_loop v1).trips) : BitVec 1 :=
  let c0_i32_53 : BitVec 32 := 0#32
  let c1_i32_55 : BitVec 32 := 1#32
  let arg13 : BitVec 32 := Scf.iv c0_i32_53 c1_i32_55 k0_t1
  let c16_i32_111 : BitVec 32 := 16#32
  let v237 : BitVec 32 := Scalar.muli arg13 c16_i32_111
  let c15_i32_112 : BitVec 32 := 15#32
  let v238 : BitVec 32 := Scalar.addi v237 c15_i32_112
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let v239 : BitVec 1 := Scalar.cmpi .slt v238 v20
  let v240 : BitVec 32 := Scalar.extui v239
  let c0_i32_113 : BitVec 32 := 0#32
  let v241 : BitVec 1 := Scalar.cmpi .ne v240 c0_i32_113
  v241

def k0_off129 (v1 : BitVec 32) (k0_t1 : Fin (k0_t1_loop v1).trips) : Fin 4 → Nat :=
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let c15_i32_131 : BitVec 32 := 15#32
  let c0_i32_132 : BitVec 32 := 0#32
  let c0_i32_133 : BitVec 32 := 0#32
  ![v157.toNat, 15, 0, 0]
def k0_off130 (v1 : BitVec 32) (k0_t1 : Fin (k0_t1_loop v1).trips) : Fin 4 → Nat :=
  let c0_i32_53 : BitVec 32 := 0#32
  let c1_i32_55 : BitVec 32 := 1#32
  let arg13 : BitVec 32 := Scf.iv c0_i32_53 c1_i32_55 k0_t1
  let c2_i32_63 : BitVec 32 := 2#32
  let v157 : BitVec 32 := Scalar.remsi arg13 c2_i32_63
  let v242 : Index := Scalar.indexCast v157
  let c0_114 : Index := 0#32
  let c0_115 : Index := 0#32
  let c0_116 : Index := 0#32
  ![v242.toNat, 0, 0, 0]
@[reducible] def k0_t2_loop (v1 : BitVec 32) : Scf.Loop 32 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let v140 : BitVec 32 := Scalar.addi c0_i32_53 v139
  let c1_i32_56 : BitVec 32 := 1#32
  ⟨v143, v140, c1_i32_56⟩
def k0_off131 (i : grid0.Coords) (v1 : BitVec 32) (k0_t2 : Fin (k0_t2_loop v1).trips) : Fin 2 → Nat :=
  let arg0 : BitVec 32 := BitVec.ofNat 32 (i 0).val
  let v426 : Index := Scalar.indexCast arg0
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c1_i32_130 : BitVec 32 := 1#32
  let v344 : BitVec 32 := Scalar.addi arg13 c1_i32_130
  let c16_i32_132 : BitVec 32 := 16#32
  let v346 : BitVec 32 := Scalar.muli v344 c16_i32_132
  let c0_i32_133 : BitVec 32 := 0#32
  let v347 : BitVec 32 := Scalar.addi v346 c0_i32_133
  let v427 : Index := Scalar.indexCast v347
  ![v426.toNat, v427.toNat]
def k0_cond51 (v1 : BitVec 32) (k0_t2 : Fin (k0_t2_loop v1).trips) : BitVec 1 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c1_i32_64 : BitVec 32 := 1#32
  let v158 : BitVec 32 := Scalar.addi arg13 c1_i32_64
  let v159 : BitVec 1 := Scalar.cmpi .slt v158 v39
  let v160 : BitVec 32 := Scalar.extui v159
  let c0_i32_65 : BitVec 32 := 0#32
  let v161 : BitVec 1 := Scalar.cmpi .ne v160 c0_i32_65
  v161

def k0_cond52 (v1 : BitVec 32) (k0_t2 : Fin (k0_t2_loop v1).trips) : BitVec 1 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c1_i32_130 : BitVec 32 := 1#32
  let v344 : BitVec 32 := Scalar.addi arg13 c1_i32_130
  let c16_i32_132 : BitVec 32 := 16#32
  let v346 : BitVec 32 := Scalar.muli v344 c16_i32_132
  let c0_i32_133 : BitVec 32 := 0#32
  let v347 : BitVec 32 := Scalar.addi v346 c0_i32_133
  let v348 : BitVec 1 := Scalar.cmpi .slt v347 v20
  let v349 : BitVec 32 := Scalar.extui v348
  let c0_i32_134 : BitVec 32 := 0#32
  let v350 : BitVec 1 := Scalar.cmpi .ne v349 c0_i32_134
  v350

def k0_off132 (v1 : BitVec 32) (k0_t2 : Fin (k0_t2_loop v1).trips) : Fin 1 → Nat :=
  let c1_i32_131 : BitVec 32 := 1#32
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let v345 : BitVec 32 := Scalar.subi c1_i32_131 v157
  ![v345.toNat]
def k0_off133 (v1 : BitVec 32) (k0_t2 : Fin (k0_t2_loop v1).trips) : Fin 4 → Nat :=
  let c1_i32_131 : BitVec 32 := 1#32
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let v345 : BitVec 32 := Scalar.subi c1_i32_131 v157
  let c0_i32_180 : BitVec 32 := 0#32
  let c0_i32_181 : BitVec 32 := 0#32
  let c0_i32_182 : BitVec 32 := 0#32
  ![v345.toNat, 0, 0, 0]
def k0_off134 (v428 : BitVec 32) : Fin 3 → Nat :=
  let c0_i32_183 : BitVec 32 := 0#32
  let c0_i32_184 : BitVec 32 := 0#32
  ![v428.toNat, 0, 0]

def k0_chk34 (v1 : BitVec 32) (k0_t2 : Fin (k0_t2_loop v1).trips) (v428 : BitVec 32) : Prop :=
  (∀ (k0_h51 : k0_cond51 v1 k0_t2 = 1#1), ∀ (k0_h52 : k0_cond52 v1 k0_t2 = 1#1), ∀ a, (k0_off134 v428) a + S1x64x656.size a ≤ S10400x64x656.size a) ∧
  (∀ (k0_h51 : k0_cond51 v1 k0_t2 = 1#1), ∀ (k0_h52 : k0_cond52 v1 k0_t2 = 1#1), ∀ (hinb : ∀ a, (k0_off134 v428) a + S1x64x656.size a ≤ S10400x64x656.size a), (Rect.unit (s := S10400x64x656) (k0_off134 v428) S1x64x656.size hinb).WholeWords (EltTy.packing .i8))
theorem k0_off134_inb : ∀ (v1 : BitVec 32) (k0_t2 : Fin (k0_t2_loop v1).trips) (v428 : BitVec 32) (k0_hw34 : k0_chk34 v1 k0_t2 v428), ∀ (k0_h51 : k0_cond51 v1 k0_t2 = 1#1), ∀ (k0_h52 : k0_cond52 v1 k0_t2 = 1#1), ∀ a, (k0_off134 v428) a + S1x64x656.size a ≤ S10400x64x656.size a := fun v1 k0_t2 v428 k0_hw34 k0_h51 k0_h52 => k0_hw34.1 k0_h51 k0_h52
theorem k0_off134_wordsi8 : ∀ (v1 : BitVec 32) (k0_t2 : Fin (k0_t2_loop v1).trips) (v428 : BitVec 32) (k0_hw34 : k0_chk34 v1 k0_t2 v428), ∀ (k0_h51 : k0_cond51 v1 k0_t2 = 1#1), ∀ (k0_h52 : k0_cond52 v1 k0_t2 = 1#1), (Rect.unit (s := S10400x64x656) (k0_off134 v428) S1x64x656.size (k0_off134_inb v1 k0_t2 v428 k0_hw34 k0_h51 k0_h52)).WholeWords (EltTy.packing .i8) := fun v1 k0_t2 v428 k0_hw34 k0_h51 k0_h52 => k0_hw34.2 k0_h51 k0_h52 (k0_off134_inb v1 k0_t2 v428 k0_hw34 k0_h51 k0_h52)

def k0_off135 (i : grid0.Coords) (v1 : BitVec 32) (k0_t2 : Fin (k0_t2_loop v1).trips) : Fin 2 → Nat :=
  let arg0 : BitVec 32 := BitVec.ofNat 32 (i 0).val
  let v426 : Index := Scalar.indexCast arg0
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c1_i32_130 : BitVec 32 := 1#32
  let v344 : BitVec 32 := Scalar.addi arg13 c1_i32_130
  let c16_i32_135 : BitVec 32 := 16#32
  let v351 : BitVec 32 := Scalar.muli v344 c16_i32_135
  let c1_i32_136 : BitVec 32 := 1#32
  let v352 : BitVec 32 := Scalar.addi v351 c1_i32_136
  let v427 : Index := Scalar.indexCast v352
  ![v426.toNat, v427.toNat]
def k0_cond53 (v1 : BitVec 32) (k0_t2 : Fin (k0_t2_loop v1).trips) : BitVec 1 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c1_i32_130 : BitVec 32 := 1#32
  let v344 : BitVec 32 := Scalar.addi arg13 c1_i32_130
  let c16_i32_135 : BitVec 32 := 16#32
  let v351 : BitVec 32 := Scalar.muli v344 c16_i32_135
  let c1_i32_136 : BitVec 32 := 1#32
  let v352 : BitVec 32 := Scalar.addi v351 c1_i32_136
  let v353 : BitVec 1 := Scalar.cmpi .slt v352 v20
  let v354 : BitVec 32 := Scalar.extui v353
  let c0_i32_137 : BitVec 32 := 0#32
  let v355 : BitVec 1 := Scalar.cmpi .ne v354 c0_i32_137
  v355

def k0_off136 (v1 : BitVec 32) (k0_t2 : Fin (k0_t2_loop v1).trips) : Fin 1 → Nat :=
  let c1_i32_131 : BitVec 32 := 1#32
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let v345 : BitVec 32 := Scalar.subi c1_i32_131 v157
  ![v345.toNat]
def k0_off137 (v1 : BitVec 32) (k0_t2 : Fin (k0_t2_loop v1).trips) : Fin 4 → Nat :=
  let c1_i32_131 : BitVec 32 := 1#32
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let v345 : BitVec 32 := Scalar.subi c1_i32_131 v157
  let c1_i32_180 : BitVec 32 := 1#32
  let c0_i32_181 : BitVec 32 := 0#32
  let c0_i32_182 : BitVec 32 := 0#32
  ![v345.toNat, 1, 0, 0]
def k0_off138 (v428 : BitVec 32) : Fin 3 → Nat :=
  let c0_i32_183 : BitVec 32 := 0#32
  let c0_i32_184 : BitVec 32 := 0#32
  ![v428.toNat, 0, 0]

def k0_chk35 (v1 : BitVec 32) (k0_t2 : Fin (k0_t2_loop v1).trips) (v428 : BitVec 32) : Prop :=
  (∀ (k0_h51 : k0_cond51 v1 k0_t2 = 1#1), ∀ (k0_h53 : k0_cond53 v1 k0_t2 = 1#1), ∀ a, (k0_off138 v428) a + S1x64x656.size a ≤ S10400x64x656.size a) ∧
  (∀ (k0_h51 : k0_cond51 v1 k0_t2 = 1#1), ∀ (k0_h53 : k0_cond53 v1 k0_t2 = 1#1), ∀ (hinb : ∀ a, (k0_off138 v428) a + S1x64x656.size a ≤ S10400x64x656.size a), (Rect.unit (s := S10400x64x656) (k0_off138 v428) S1x64x656.size hinb).WholeWords (EltTy.packing .i8))
theorem k0_off138_inb : ∀ (v1 : BitVec 32) (k0_t2 : Fin (k0_t2_loop v1).trips) (v428 : BitVec 32) (k0_hw35 : k0_chk35 v1 k0_t2 v428), ∀ (k0_h51 : k0_cond51 v1 k0_t2 = 1#1), ∀ (k0_h53 : k0_cond53 v1 k0_t2 = 1#1), ∀ a, (k0_off138 v428) a + S1x64x656.size a ≤ S10400x64x656.size a := fun v1 k0_t2 v428 k0_hw35 k0_h51 k0_h53 => k0_hw35.1 k0_h51 k0_h53
theorem k0_off138_wordsi8 : ∀ (v1 : BitVec 32) (k0_t2 : Fin (k0_t2_loop v1).trips) (v428 : BitVec 32) (k0_hw35 : k0_chk35 v1 k0_t2 v428), ∀ (k0_h51 : k0_cond51 v1 k0_t2 = 1#1), ∀ (k0_h53 : k0_cond53 v1 k0_t2 = 1#1), (Rect.unit (s := S10400x64x656) (k0_off138 v428) S1x64x656.size (k0_off138_inb v1 k0_t2 v428 k0_hw35 k0_h51 k0_h53)).WholeWords (EltTy.packing .i8) := fun v1 k0_t2 v428 k0_hw35 k0_h51 k0_h53 => k0_hw35.2 k0_h51 k0_h53 (k0_off138_inb v1 k0_t2 v428 k0_hw35 k0_h51 k0_h53)

def k0_off139 (i : grid0.Coords) (v1 : BitVec 32) (k0_t2 : Fin (k0_t2_loop v1).trips) : Fin 2 → Nat :=
  let arg0 : BitVec 32 := BitVec.ofNat 32 (i 0).val
  let v426 : Index := Scalar.indexCast arg0
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c1_i32_130 : BitVec 32 := 1#32
  let v344 : BitVec 32 := Scalar.addi arg13 c1_i32_130
  let c16_i32_138 : BitVec 32 := 16#32
  let v356 : BitVec 32 := Scalar.muli v344 c16_i32_138
  let c2_i32_139 : BitVec 32 := 2#32
  let v357 : BitVec 32 := Scalar.addi v356 c2_i32_139
  let v427 : Index := Scalar.indexCast v357
  ![v426.toNat, v427.toNat]
def k0_cond54 (v1 : BitVec 32) (k0_t2 : Fin (k0_t2_loop v1).trips) : BitVec 1 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c1_i32_130 : BitVec 32 := 1#32
  let v344 : BitVec 32 := Scalar.addi arg13 c1_i32_130
  let c16_i32_138 : BitVec 32 := 16#32
  let v356 : BitVec 32 := Scalar.muli v344 c16_i32_138
  let c2_i32_139 : BitVec 32 := 2#32
  let v357 : BitVec 32 := Scalar.addi v356 c2_i32_139
  let v358 : BitVec 1 := Scalar.cmpi .slt v357 v20
  let v359 : BitVec 32 := Scalar.extui v358
  let c0_i32_140 : BitVec 32 := 0#32
  let v360 : BitVec 1 := Scalar.cmpi .ne v359 c0_i32_140
  v360

def k0_off140 (v1 : BitVec 32) (k0_t2 : Fin (k0_t2_loop v1).trips) : Fin 1 → Nat :=
  let c1_i32_131 : BitVec 32 := 1#32
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let v345 : BitVec 32 := Scalar.subi c1_i32_131 v157
  ![v345.toNat]
def k0_off141 (v1 : BitVec 32) (k0_t2 : Fin (k0_t2_loop v1).trips) : Fin 4 → Nat :=
  let c1_i32_131 : BitVec 32 := 1#32
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let v345 : BitVec 32 := Scalar.subi c1_i32_131 v157
  let c2_i32_180 : BitVec 32 := 2#32
  let c0_i32_181 : BitVec 32 := 0#32
  let c0_i32_182 : BitVec 32 := 0#32
  ![v345.toNat, 2, 0, 0]
def k0_off142 (v428 : BitVec 32) : Fin 3 → Nat :=
  let c0_i32_183 : BitVec 32 := 0#32
  let c0_i32_184 : BitVec 32 := 0#32
  ![v428.toNat, 0, 0]

def k0_chk36 (v1 : BitVec 32) (k0_t2 : Fin (k0_t2_loop v1).trips) (v428 : BitVec 32) : Prop :=
  (∀ (k0_h51 : k0_cond51 v1 k0_t2 = 1#1), ∀ (k0_h54 : k0_cond54 v1 k0_t2 = 1#1), ∀ a, (k0_off142 v428) a + S1x64x656.size a ≤ S10400x64x656.size a) ∧
  (∀ (k0_h51 : k0_cond51 v1 k0_t2 = 1#1), ∀ (k0_h54 : k0_cond54 v1 k0_t2 = 1#1), ∀ (hinb : ∀ a, (k0_off142 v428) a + S1x64x656.size a ≤ S10400x64x656.size a), (Rect.unit (s := S10400x64x656) (k0_off142 v428) S1x64x656.size hinb).WholeWords (EltTy.packing .i8))
theorem k0_off142_inb : ∀ (v1 : BitVec 32) (k0_t2 : Fin (k0_t2_loop v1).trips) (v428 : BitVec 32) (k0_hw36 : k0_chk36 v1 k0_t2 v428), ∀ (k0_h51 : k0_cond51 v1 k0_t2 = 1#1), ∀ (k0_h54 : k0_cond54 v1 k0_t2 = 1#1), ∀ a, (k0_off142 v428) a + S1x64x656.size a ≤ S10400x64x656.size a := fun v1 k0_t2 v428 k0_hw36 k0_h51 k0_h54 => k0_hw36.1 k0_h51 k0_h54
theorem k0_off142_wordsi8 : ∀ (v1 : BitVec 32) (k0_t2 : Fin (k0_t2_loop v1).trips) (v428 : BitVec 32) (k0_hw36 : k0_chk36 v1 k0_t2 v428), ∀ (k0_h51 : k0_cond51 v1 k0_t2 = 1#1), ∀ (k0_h54 : k0_cond54 v1 k0_t2 = 1#1), (Rect.unit (s := S10400x64x656) (k0_off142 v428) S1x64x656.size (k0_off142_inb v1 k0_t2 v428 k0_hw36 k0_h51 k0_h54)).WholeWords (EltTy.packing .i8) := fun v1 k0_t2 v428 k0_hw36 k0_h51 k0_h54 => k0_hw36.2 k0_h51 k0_h54 (k0_off142_inb v1 k0_t2 v428 k0_hw36 k0_h51 k0_h54)

def k0_off143 (i : grid0.Coords) (v1 : BitVec 32) (k0_t2 : Fin (k0_t2_loop v1).trips) : Fin 2 → Nat :=
  let arg0 : BitVec 32 := BitVec.ofNat 32 (i 0).val
  let v426 : Index := Scalar.indexCast arg0
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c1_i32_130 : BitVec 32 := 1#32
  let v344 : BitVec 32 := Scalar.addi arg13 c1_i32_130
  let c16_i32_141 : BitVec 32 := 16#32
  let v361 : BitVec 32 := Scalar.muli v344 c16_i32_141
  let c3_i32_142 : BitVec 32 := 3#32
  let v362 : BitVec 32 := Scalar.addi v361 c3_i32_142
  let v427 : Index := Scalar.indexCast v362
  ![v426.toNat, v427.toNat]
def k0_cond55 (v1 : BitVec 32) (k0_t2 : Fin (k0_t2_loop v1).trips) : BitVec 1 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c1_i32_130 : BitVec 32 := 1#32
  let v344 : BitVec 32 := Scalar.addi arg13 c1_i32_130
  let c16_i32_141 : BitVec 32 := 16#32
  let v361 : BitVec 32 := Scalar.muli v344 c16_i32_141
  let c3_i32_142 : BitVec 32 := 3#32
  let v362 : BitVec 32 := Scalar.addi v361 c3_i32_142
  let v363 : BitVec 1 := Scalar.cmpi .slt v362 v20
  let v364 : BitVec 32 := Scalar.extui v363
  let c0_i32_143 : BitVec 32 := 0#32
  let v365 : BitVec 1 := Scalar.cmpi .ne v364 c0_i32_143
  v365

def k0_off144 (v1 : BitVec 32) (k0_t2 : Fin (k0_t2_loop v1).trips) : Fin 1 → Nat :=
  let c1_i32_131 : BitVec 32 := 1#32
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let v345 : BitVec 32 := Scalar.subi c1_i32_131 v157
  ![v345.toNat]
def k0_off145 (v1 : BitVec 32) (k0_t2 : Fin (k0_t2_loop v1).trips) : Fin 4 → Nat :=
  let c1_i32_131 : BitVec 32 := 1#32
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let v345 : BitVec 32 := Scalar.subi c1_i32_131 v157
  let c3_i32_180 : BitVec 32 := 3#32
  let c0_i32_181 : BitVec 32 := 0#32
  let c0_i32_182 : BitVec 32 := 0#32
  ![v345.toNat, 3, 0, 0]
def k0_off146 (v428 : BitVec 32) : Fin 3 → Nat :=
  let c0_i32_183 : BitVec 32 := 0#32
  let c0_i32_184 : BitVec 32 := 0#32
  ![v428.toNat, 0, 0]

def k0_chk37 (v1 : BitVec 32) (k0_t2 : Fin (k0_t2_loop v1).trips) (v428 : BitVec 32) : Prop :=
  (∀ (k0_h51 : k0_cond51 v1 k0_t2 = 1#1), ∀ (k0_h55 : k0_cond55 v1 k0_t2 = 1#1), ∀ a, (k0_off146 v428) a + S1x64x656.size a ≤ S10400x64x656.size a) ∧
  (∀ (k0_h51 : k0_cond51 v1 k0_t2 = 1#1), ∀ (k0_h55 : k0_cond55 v1 k0_t2 = 1#1), ∀ (hinb : ∀ a, (k0_off146 v428) a + S1x64x656.size a ≤ S10400x64x656.size a), (Rect.unit (s := S10400x64x656) (k0_off146 v428) S1x64x656.size hinb).WholeWords (EltTy.packing .i8))
theorem k0_off146_inb : ∀ (v1 : BitVec 32) (k0_t2 : Fin (k0_t2_loop v1).trips) (v428 : BitVec 32) (k0_hw37 : k0_chk37 v1 k0_t2 v428), ∀ (k0_h51 : k0_cond51 v1 k0_t2 = 1#1), ∀ (k0_h55 : k0_cond55 v1 k0_t2 = 1#1), ∀ a, (k0_off146 v428) a + S1x64x656.size a ≤ S10400x64x656.size a := fun v1 k0_t2 v428 k0_hw37 k0_h51 k0_h55 => k0_hw37.1 k0_h51 k0_h55
theorem k0_off146_wordsi8 : ∀ (v1 : BitVec 32) (k0_t2 : Fin (k0_t2_loop v1).trips) (v428 : BitVec 32) (k0_hw37 : k0_chk37 v1 k0_t2 v428), ∀ (k0_h51 : k0_cond51 v1 k0_t2 = 1#1), ∀ (k0_h55 : k0_cond55 v1 k0_t2 = 1#1), (Rect.unit (s := S10400x64x656) (k0_off146 v428) S1x64x656.size (k0_off146_inb v1 k0_t2 v428 k0_hw37 k0_h51 k0_h55)).WholeWords (EltTy.packing .i8) := fun v1 k0_t2 v428 k0_hw37 k0_h51 k0_h55 => k0_hw37.2 k0_h51 k0_h55 (k0_off146_inb v1 k0_t2 v428 k0_hw37 k0_h51 k0_h55)

def k0_off147 (i : grid0.Coords) (v1 : BitVec 32) (k0_t2 : Fin (k0_t2_loop v1).trips) : Fin 2 → Nat :=
  let arg0 : BitVec 32 := BitVec.ofNat 32 (i 0).val
  let v426 : Index := Scalar.indexCast arg0
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c1_i32_130 : BitVec 32 := 1#32
  let v344 : BitVec 32 := Scalar.addi arg13 c1_i32_130
  let c16_i32_144 : BitVec 32 := 16#32
  let v366 : BitVec 32 := Scalar.muli v344 c16_i32_144
  let c4_i32_145 : BitVec 32 := 4#32
  let v367 : BitVec 32 := Scalar.addi v366 c4_i32_145
  let v427 : Index := Scalar.indexCast v367
  ![v426.toNat, v427.toNat]
def k0_cond56 (v1 : BitVec 32) (k0_t2 : Fin (k0_t2_loop v1).trips) : BitVec 1 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c1_i32_130 : BitVec 32 := 1#32
  let v344 : BitVec 32 := Scalar.addi arg13 c1_i32_130
  let c16_i32_144 : BitVec 32 := 16#32
  let v366 : BitVec 32 := Scalar.muli v344 c16_i32_144
  let c4_i32_145 : BitVec 32 := 4#32
  let v367 : BitVec 32 := Scalar.addi v366 c4_i32_145
  let v368 : BitVec 1 := Scalar.cmpi .slt v367 v20
  let v369 : BitVec 32 := Scalar.extui v368
  let c0_i32_146 : BitVec 32 := 0#32
  let v370 : BitVec 1 := Scalar.cmpi .ne v369 c0_i32_146
  v370

def k0_off148 (v1 : BitVec 32) (k0_t2 : Fin (k0_t2_loop v1).trips) : Fin 1 → Nat :=
  let c1_i32_131 : BitVec 32 := 1#32
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let v345 : BitVec 32 := Scalar.subi c1_i32_131 v157
  ![v345.toNat]
def k0_off149 (v1 : BitVec 32) (k0_t2 : Fin (k0_t2_loop v1).trips) : Fin 4 → Nat :=
  let c1_i32_131 : BitVec 32 := 1#32
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let v345 : BitVec 32 := Scalar.subi c1_i32_131 v157
  let c4_i32_180 : BitVec 32 := 4#32
  let c0_i32_181 : BitVec 32 := 0#32
  let c0_i32_182 : BitVec 32 := 0#32
  ![v345.toNat, 4, 0, 0]
def k0_off150 (v428 : BitVec 32) : Fin 3 → Nat :=
  let c0_i32_183 : BitVec 32 := 0#32
  let c0_i32_184 : BitVec 32 := 0#32
  ![v428.toNat, 0, 0]

def k0_chk38 (v1 : BitVec 32) (k0_t2 : Fin (k0_t2_loop v1).trips) (v428 : BitVec 32) : Prop :=
  (∀ (k0_h51 : k0_cond51 v1 k0_t2 = 1#1), ∀ (k0_h56 : k0_cond56 v1 k0_t2 = 1#1), ∀ a, (k0_off150 v428) a + S1x64x656.size a ≤ S10400x64x656.size a) ∧
  (∀ (k0_h51 : k0_cond51 v1 k0_t2 = 1#1), ∀ (k0_h56 : k0_cond56 v1 k0_t2 = 1#1), ∀ (hinb : ∀ a, (k0_off150 v428) a + S1x64x656.size a ≤ S10400x64x656.size a), (Rect.unit (s := S10400x64x656) (k0_off150 v428) S1x64x656.size hinb).WholeWords (EltTy.packing .i8))
theorem k0_off150_inb : ∀ (v1 : BitVec 32) (k0_t2 : Fin (k0_t2_loop v1).trips) (v428 : BitVec 32) (k0_hw38 : k0_chk38 v1 k0_t2 v428), ∀ (k0_h51 : k0_cond51 v1 k0_t2 = 1#1), ∀ (k0_h56 : k0_cond56 v1 k0_t2 = 1#1), ∀ a, (k0_off150 v428) a + S1x64x656.size a ≤ S10400x64x656.size a := fun v1 k0_t2 v428 k0_hw38 k0_h51 k0_h56 => k0_hw38.1 k0_h51 k0_h56
theorem k0_off150_wordsi8 : ∀ (v1 : BitVec 32) (k0_t2 : Fin (k0_t2_loop v1).trips) (v428 : BitVec 32) (k0_hw38 : k0_chk38 v1 k0_t2 v428), ∀ (k0_h51 : k0_cond51 v1 k0_t2 = 1#1), ∀ (k0_h56 : k0_cond56 v1 k0_t2 = 1#1), (Rect.unit (s := S10400x64x656) (k0_off150 v428) S1x64x656.size (k0_off150_inb v1 k0_t2 v428 k0_hw38 k0_h51 k0_h56)).WholeWords (EltTy.packing .i8) := fun v1 k0_t2 v428 k0_hw38 k0_h51 k0_h56 => k0_hw38.2 k0_h51 k0_h56 (k0_off150_inb v1 k0_t2 v428 k0_hw38 k0_h51 k0_h56)

def k0_off151 (i : grid0.Coords) (v1 : BitVec 32) (k0_t2 : Fin (k0_t2_loop v1).trips) : Fin 2 → Nat :=
  let arg0 : BitVec 32 := BitVec.ofNat 32 (i 0).val
  let v426 : Index := Scalar.indexCast arg0
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c1_i32_130 : BitVec 32 := 1#32
  let v344 : BitVec 32 := Scalar.addi arg13 c1_i32_130
  let c16_i32_147 : BitVec 32 := 16#32
  let v371 : BitVec 32 := Scalar.muli v344 c16_i32_147
  let c5_i32_148 : BitVec 32 := 5#32
  let v372 : BitVec 32 := Scalar.addi v371 c5_i32_148
  let v427 : Index := Scalar.indexCast v372
  ![v426.toNat, v427.toNat]
def k0_cond57 (v1 : BitVec 32) (k0_t2 : Fin (k0_t2_loop v1).trips) : BitVec 1 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c1_i32_130 : BitVec 32 := 1#32
  let v344 : BitVec 32 := Scalar.addi arg13 c1_i32_130
  let c16_i32_147 : BitVec 32 := 16#32
  let v371 : BitVec 32 := Scalar.muli v344 c16_i32_147
  let c5_i32_148 : BitVec 32 := 5#32
  let v372 : BitVec 32 := Scalar.addi v371 c5_i32_148
  let v373 : BitVec 1 := Scalar.cmpi .slt v372 v20
  let v374 : BitVec 32 := Scalar.extui v373
  let c0_i32_149 : BitVec 32 := 0#32
  let v375 : BitVec 1 := Scalar.cmpi .ne v374 c0_i32_149
  v375

def k0_off152 (v1 : BitVec 32) (k0_t2 : Fin (k0_t2_loop v1).trips) : Fin 1 → Nat :=
  let c1_i32_131 : BitVec 32 := 1#32
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let v345 : BitVec 32 := Scalar.subi c1_i32_131 v157
  ![v345.toNat]
def k0_off153 (v1 : BitVec 32) (k0_t2 : Fin (k0_t2_loop v1).trips) : Fin 4 → Nat :=
  let c1_i32_131 : BitVec 32 := 1#32
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let v345 : BitVec 32 := Scalar.subi c1_i32_131 v157
  let c5_i32_180 : BitVec 32 := 5#32
  let c0_i32_181 : BitVec 32 := 0#32
  let c0_i32_182 : BitVec 32 := 0#32
  ![v345.toNat, 5, 0, 0]
def k0_off154 (v428 : BitVec 32) : Fin 3 → Nat :=
  let c0_i32_183 : BitVec 32 := 0#32
  let c0_i32_184 : BitVec 32 := 0#32
  ![v428.toNat, 0, 0]

def k0_chk39 (v1 : BitVec 32) (k0_t2 : Fin (k0_t2_loop v1).trips) (v428 : BitVec 32) : Prop :=
  (∀ (k0_h51 : k0_cond51 v1 k0_t2 = 1#1), ∀ (k0_h57 : k0_cond57 v1 k0_t2 = 1#1), ∀ a, (k0_off154 v428) a + S1x64x656.size a ≤ S10400x64x656.size a) ∧
  (∀ (k0_h51 : k0_cond51 v1 k0_t2 = 1#1), ∀ (k0_h57 : k0_cond57 v1 k0_t2 = 1#1), ∀ (hinb : ∀ a, (k0_off154 v428) a + S1x64x656.size a ≤ S10400x64x656.size a), (Rect.unit (s := S10400x64x656) (k0_off154 v428) S1x64x656.size hinb).WholeWords (EltTy.packing .i8))
theorem k0_off154_inb : ∀ (v1 : BitVec 32) (k0_t2 : Fin (k0_t2_loop v1).trips) (v428 : BitVec 32) (k0_hw39 : k0_chk39 v1 k0_t2 v428), ∀ (k0_h51 : k0_cond51 v1 k0_t2 = 1#1), ∀ (k0_h57 : k0_cond57 v1 k0_t2 = 1#1), ∀ a, (k0_off154 v428) a + S1x64x656.size a ≤ S10400x64x656.size a := fun v1 k0_t2 v428 k0_hw39 k0_h51 k0_h57 => k0_hw39.1 k0_h51 k0_h57
theorem k0_off154_wordsi8 : ∀ (v1 : BitVec 32) (k0_t2 : Fin (k0_t2_loop v1).trips) (v428 : BitVec 32) (k0_hw39 : k0_chk39 v1 k0_t2 v428), ∀ (k0_h51 : k0_cond51 v1 k0_t2 = 1#1), ∀ (k0_h57 : k0_cond57 v1 k0_t2 = 1#1), (Rect.unit (s := S10400x64x656) (k0_off154 v428) S1x64x656.size (k0_off154_inb v1 k0_t2 v428 k0_hw39 k0_h51 k0_h57)).WholeWords (EltTy.packing .i8) := fun v1 k0_t2 v428 k0_hw39 k0_h51 k0_h57 => k0_hw39.2 k0_h51 k0_h57 (k0_off154_inb v1 k0_t2 v428 k0_hw39 k0_h51 k0_h57)

def k0_off155 (i : grid0.Coords) (v1 : BitVec 32) (k0_t2 : Fin (k0_t2_loop v1).trips) : Fin 2 → Nat :=
  let arg0 : BitVec 32 := BitVec.ofNat 32 (i 0).val
  let v426 : Index := Scalar.indexCast arg0
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c1_i32_130 : BitVec 32 := 1#32
  let v344 : BitVec 32 := Scalar.addi arg13 c1_i32_130
  let c16_i32_150 : BitVec 32 := 16#32
  let v376 : BitVec 32 := Scalar.muli v344 c16_i32_150
  let c6_i32_151 : BitVec 32 := 6#32
  let v377 : BitVec 32 := Scalar.addi v376 c6_i32_151
  let v427 : Index := Scalar.indexCast v377
  ![v426.toNat, v427.toNat]
def k0_cond58 (v1 : BitVec 32) (k0_t2 : Fin (k0_t2_loop v1).trips) : BitVec 1 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c1_i32_130 : BitVec 32 := 1#32
  let v344 : BitVec 32 := Scalar.addi arg13 c1_i32_130
  let c16_i32_150 : BitVec 32 := 16#32
  let v376 : BitVec 32 := Scalar.muli v344 c16_i32_150
  let c6_i32_151 : BitVec 32 := 6#32
  let v377 : BitVec 32 := Scalar.addi v376 c6_i32_151
  let v378 : BitVec 1 := Scalar.cmpi .slt v377 v20
  let v379 : BitVec 32 := Scalar.extui v378
  let c0_i32_152 : BitVec 32 := 0#32
  let v380 : BitVec 1 := Scalar.cmpi .ne v379 c0_i32_152
  v380

def k0_off156 (v1 : BitVec 32) (k0_t2 : Fin (k0_t2_loop v1).trips) : Fin 1 → Nat :=
  let c1_i32_131 : BitVec 32 := 1#32
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let v345 : BitVec 32 := Scalar.subi c1_i32_131 v157
  ![v345.toNat]
def k0_off157 (v1 : BitVec 32) (k0_t2 : Fin (k0_t2_loop v1).trips) : Fin 4 → Nat :=
  let c1_i32_131 : BitVec 32 := 1#32
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let v345 : BitVec 32 := Scalar.subi c1_i32_131 v157
  let c6_i32_180 : BitVec 32 := 6#32
  let c0_i32_181 : BitVec 32 := 0#32
  let c0_i32_182 : BitVec 32 := 0#32
  ![v345.toNat, 6, 0, 0]
def k0_off158 (v428 : BitVec 32) : Fin 3 → Nat :=
  let c0_i32_183 : BitVec 32 := 0#32
  let c0_i32_184 : BitVec 32 := 0#32
  ![v428.toNat, 0, 0]

def k0_chk40 (v1 : BitVec 32) (k0_t2 : Fin (k0_t2_loop v1).trips) (v428 : BitVec 32) : Prop :=
  (∀ (k0_h51 : k0_cond51 v1 k0_t2 = 1#1), ∀ (k0_h58 : k0_cond58 v1 k0_t2 = 1#1), ∀ a, (k0_off158 v428) a + S1x64x656.size a ≤ S10400x64x656.size a) ∧
  (∀ (k0_h51 : k0_cond51 v1 k0_t2 = 1#1), ∀ (k0_h58 : k0_cond58 v1 k0_t2 = 1#1), ∀ (hinb : ∀ a, (k0_off158 v428) a + S1x64x656.size a ≤ S10400x64x656.size a), (Rect.unit (s := S10400x64x656) (k0_off158 v428) S1x64x656.size hinb).WholeWords (EltTy.packing .i8))
theorem k0_off158_inb : ∀ (v1 : BitVec 32) (k0_t2 : Fin (k0_t2_loop v1).trips) (v428 : BitVec 32) (k0_hw40 : k0_chk40 v1 k0_t2 v428), ∀ (k0_h51 : k0_cond51 v1 k0_t2 = 1#1), ∀ (k0_h58 : k0_cond58 v1 k0_t2 = 1#1), ∀ a, (k0_off158 v428) a + S1x64x656.size a ≤ S10400x64x656.size a := fun v1 k0_t2 v428 k0_hw40 k0_h51 k0_h58 => k0_hw40.1 k0_h51 k0_h58
theorem k0_off158_wordsi8 : ∀ (v1 : BitVec 32) (k0_t2 : Fin (k0_t2_loop v1).trips) (v428 : BitVec 32) (k0_hw40 : k0_chk40 v1 k0_t2 v428), ∀ (k0_h51 : k0_cond51 v1 k0_t2 = 1#1), ∀ (k0_h58 : k0_cond58 v1 k0_t2 = 1#1), (Rect.unit (s := S10400x64x656) (k0_off158 v428) S1x64x656.size (k0_off158_inb v1 k0_t2 v428 k0_hw40 k0_h51 k0_h58)).WholeWords (EltTy.packing .i8) := fun v1 k0_t2 v428 k0_hw40 k0_h51 k0_h58 => k0_hw40.2 k0_h51 k0_h58 (k0_off158_inb v1 k0_t2 v428 k0_hw40 k0_h51 k0_h58)

def k0_off159 (i : grid0.Coords) (v1 : BitVec 32) (k0_t2 : Fin (k0_t2_loop v1).trips) : Fin 2 → Nat :=
  let arg0 : BitVec 32 := BitVec.ofNat 32 (i 0).val
  let v426 : Index := Scalar.indexCast arg0
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c1_i32_130 : BitVec 32 := 1#32
  let v344 : BitVec 32 := Scalar.addi arg13 c1_i32_130
  let c16_i32_153 : BitVec 32 := 16#32
  let v381 : BitVec 32 := Scalar.muli v344 c16_i32_153
  let c7_i32_154 : BitVec 32 := 7#32
  let v382 : BitVec 32 := Scalar.addi v381 c7_i32_154
  let v427 : Index := Scalar.indexCast v382
  ![v426.toNat, v427.toNat]
def k0_cond59 (v1 : BitVec 32) (k0_t2 : Fin (k0_t2_loop v1).trips) : BitVec 1 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c1_i32_130 : BitVec 32 := 1#32
  let v344 : BitVec 32 := Scalar.addi arg13 c1_i32_130
  let c16_i32_153 : BitVec 32 := 16#32
  let v381 : BitVec 32 := Scalar.muli v344 c16_i32_153
  let c7_i32_154 : BitVec 32 := 7#32
  let v382 : BitVec 32 := Scalar.addi v381 c7_i32_154
  let v383 : BitVec 1 := Scalar.cmpi .slt v382 v20
  let v384 : BitVec 32 := Scalar.extui v383
  let c0_i32_155 : BitVec 32 := 0#32
  let v385 : BitVec 1 := Scalar.cmpi .ne v384 c0_i32_155
  v385

def k0_off160 (v1 : BitVec 32) (k0_t2 : Fin (k0_t2_loop v1).trips) : Fin 1 → Nat :=
  let c1_i32_131 : BitVec 32 := 1#32
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let v345 : BitVec 32 := Scalar.subi c1_i32_131 v157
  ![v345.toNat]
def k0_off161 (v1 : BitVec 32) (k0_t2 : Fin (k0_t2_loop v1).trips) : Fin 4 → Nat :=
  let c1_i32_131 : BitVec 32 := 1#32
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let v345 : BitVec 32 := Scalar.subi c1_i32_131 v157
  let c7_i32_180 : BitVec 32 := 7#32
  let c0_i32_181 : BitVec 32 := 0#32
  let c0_i32_182 : BitVec 32 := 0#32
  ![v345.toNat, 7, 0, 0]
def k0_off162 (v428 : BitVec 32) : Fin 3 → Nat :=
  let c0_i32_183 : BitVec 32 := 0#32
  let c0_i32_184 : BitVec 32 := 0#32
  ![v428.toNat, 0, 0]

def k0_chk41 (v1 : BitVec 32) (k0_t2 : Fin (k0_t2_loop v1).trips) (v428 : BitVec 32) : Prop :=
  (∀ (k0_h51 : k0_cond51 v1 k0_t2 = 1#1), ∀ (k0_h59 : k0_cond59 v1 k0_t2 = 1#1), ∀ a, (k0_off162 v428) a + S1x64x656.size a ≤ S10400x64x656.size a) ∧
  (∀ (k0_h51 : k0_cond51 v1 k0_t2 = 1#1), ∀ (k0_h59 : k0_cond59 v1 k0_t2 = 1#1), ∀ (hinb : ∀ a, (k0_off162 v428) a + S1x64x656.size a ≤ S10400x64x656.size a), (Rect.unit (s := S10400x64x656) (k0_off162 v428) S1x64x656.size hinb).WholeWords (EltTy.packing .i8))
theorem k0_off162_inb : ∀ (v1 : BitVec 32) (k0_t2 : Fin (k0_t2_loop v1).trips) (v428 : BitVec 32) (k0_hw41 : k0_chk41 v1 k0_t2 v428), ∀ (k0_h51 : k0_cond51 v1 k0_t2 = 1#1), ∀ (k0_h59 : k0_cond59 v1 k0_t2 = 1#1), ∀ a, (k0_off162 v428) a + S1x64x656.size a ≤ S10400x64x656.size a := fun v1 k0_t2 v428 k0_hw41 k0_h51 k0_h59 => k0_hw41.1 k0_h51 k0_h59
theorem k0_off162_wordsi8 : ∀ (v1 : BitVec 32) (k0_t2 : Fin (k0_t2_loop v1).trips) (v428 : BitVec 32) (k0_hw41 : k0_chk41 v1 k0_t2 v428), ∀ (k0_h51 : k0_cond51 v1 k0_t2 = 1#1), ∀ (k0_h59 : k0_cond59 v1 k0_t2 = 1#1), (Rect.unit (s := S10400x64x656) (k0_off162 v428) S1x64x656.size (k0_off162_inb v1 k0_t2 v428 k0_hw41 k0_h51 k0_h59)).WholeWords (EltTy.packing .i8) := fun v1 k0_t2 v428 k0_hw41 k0_h51 k0_h59 => k0_hw41.2 k0_h51 k0_h59 (k0_off162_inb v1 k0_t2 v428 k0_hw41 k0_h51 k0_h59)

def k0_off163 (i : grid0.Coords) (v1 : BitVec 32) (k0_t2 : Fin (k0_t2_loop v1).trips) : Fin 2 → Nat :=
  let arg0 : BitVec 32 := BitVec.ofNat 32 (i 0).val
  let v426 : Index := Scalar.indexCast arg0
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c1_i32_130 : BitVec 32 := 1#32
  let v344 : BitVec 32 := Scalar.addi arg13 c1_i32_130
  let c16_i32_156 : BitVec 32 := 16#32
  let v386 : BitVec 32 := Scalar.muli v344 c16_i32_156
  let c8_i32_157 : BitVec 32 := 8#32
  let v387 : BitVec 32 := Scalar.addi v386 c8_i32_157
  let v427 : Index := Scalar.indexCast v387
  ![v426.toNat, v427.toNat]
def k0_cond60 (v1 : BitVec 32) (k0_t2 : Fin (k0_t2_loop v1).trips) : BitVec 1 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c1_i32_130 : BitVec 32 := 1#32
  let v344 : BitVec 32 := Scalar.addi arg13 c1_i32_130
  let c16_i32_156 : BitVec 32 := 16#32
  let v386 : BitVec 32 := Scalar.muli v344 c16_i32_156
  let c8_i32_157 : BitVec 32 := 8#32
  let v387 : BitVec 32 := Scalar.addi v386 c8_i32_157
  let v388 : BitVec 1 := Scalar.cmpi .slt v387 v20
  let v389 : BitVec 32 := Scalar.extui v388
  let c0_i32_158 : BitVec 32 := 0#32
  let v390 : BitVec 1 := Scalar.cmpi .ne v389 c0_i32_158
  v390

def k0_off164 (v1 : BitVec 32) (k0_t2 : Fin (k0_t2_loop v1).trips) : Fin 1 → Nat :=
  let c1_i32_131 : BitVec 32 := 1#32
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let v345 : BitVec 32 := Scalar.subi c1_i32_131 v157
  ![v345.toNat]
def k0_off165 (v1 : BitVec 32) (k0_t2 : Fin (k0_t2_loop v1).trips) : Fin 4 → Nat :=
  let c1_i32_131 : BitVec 32 := 1#32
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let v345 : BitVec 32 := Scalar.subi c1_i32_131 v157
  let c8_i32_180 : BitVec 32 := 8#32
  let c0_i32_181 : BitVec 32 := 0#32
  let c0_i32_182 : BitVec 32 := 0#32
  ![v345.toNat, 8, 0, 0]
def k0_off166 (v428 : BitVec 32) : Fin 3 → Nat :=
  let c0_i32_183 : BitVec 32 := 0#32
  let c0_i32_184 : BitVec 32 := 0#32
  ![v428.toNat, 0, 0]

def k0_chk42 (v1 : BitVec 32) (k0_t2 : Fin (k0_t2_loop v1).trips) (v428 : BitVec 32) : Prop :=
  (∀ (k0_h51 : k0_cond51 v1 k0_t2 = 1#1), ∀ (k0_h60 : k0_cond60 v1 k0_t2 = 1#1), ∀ a, (k0_off166 v428) a + S1x64x656.size a ≤ S10400x64x656.size a) ∧
  (∀ (k0_h51 : k0_cond51 v1 k0_t2 = 1#1), ∀ (k0_h60 : k0_cond60 v1 k0_t2 = 1#1), ∀ (hinb : ∀ a, (k0_off166 v428) a + S1x64x656.size a ≤ S10400x64x656.size a), (Rect.unit (s := S10400x64x656) (k0_off166 v428) S1x64x656.size hinb).WholeWords (EltTy.packing .i8))
theorem k0_off166_inb : ∀ (v1 : BitVec 32) (k0_t2 : Fin (k0_t2_loop v1).trips) (v428 : BitVec 32) (k0_hw42 : k0_chk42 v1 k0_t2 v428), ∀ (k0_h51 : k0_cond51 v1 k0_t2 = 1#1), ∀ (k0_h60 : k0_cond60 v1 k0_t2 = 1#1), ∀ a, (k0_off166 v428) a + S1x64x656.size a ≤ S10400x64x656.size a := fun v1 k0_t2 v428 k0_hw42 k0_h51 k0_h60 => k0_hw42.1 k0_h51 k0_h60
theorem k0_off166_wordsi8 : ∀ (v1 : BitVec 32) (k0_t2 : Fin (k0_t2_loop v1).trips) (v428 : BitVec 32) (k0_hw42 : k0_chk42 v1 k0_t2 v428), ∀ (k0_h51 : k0_cond51 v1 k0_t2 = 1#1), ∀ (k0_h60 : k0_cond60 v1 k0_t2 = 1#1), (Rect.unit (s := S10400x64x656) (k0_off166 v428) S1x64x656.size (k0_off166_inb v1 k0_t2 v428 k0_hw42 k0_h51 k0_h60)).WholeWords (EltTy.packing .i8) := fun v1 k0_t2 v428 k0_hw42 k0_h51 k0_h60 => k0_hw42.2 k0_h51 k0_h60 (k0_off166_inb v1 k0_t2 v428 k0_hw42 k0_h51 k0_h60)

def k0_off167 (i : grid0.Coords) (v1 : BitVec 32) (k0_t2 : Fin (k0_t2_loop v1).trips) : Fin 2 → Nat :=
  let arg0 : BitVec 32 := BitVec.ofNat 32 (i 0).val
  let v426 : Index := Scalar.indexCast arg0
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c1_i32_130 : BitVec 32 := 1#32
  let v344 : BitVec 32 := Scalar.addi arg13 c1_i32_130
  let c16_i32_159 : BitVec 32 := 16#32
  let v391 : BitVec 32 := Scalar.muli v344 c16_i32_159
  let c9_i32_160 : BitVec 32 := 9#32
  let v392 : BitVec 32 := Scalar.addi v391 c9_i32_160
  let v427 : Index := Scalar.indexCast v392
  ![v426.toNat, v427.toNat]
def k0_cond61 (v1 : BitVec 32) (k0_t2 : Fin (k0_t2_loop v1).trips) : BitVec 1 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c1_i32_130 : BitVec 32 := 1#32
  let v344 : BitVec 32 := Scalar.addi arg13 c1_i32_130
  let c16_i32_159 : BitVec 32 := 16#32
  let v391 : BitVec 32 := Scalar.muli v344 c16_i32_159
  let c9_i32_160 : BitVec 32 := 9#32
  let v392 : BitVec 32 := Scalar.addi v391 c9_i32_160
  let v393 : BitVec 1 := Scalar.cmpi .slt v392 v20
  let v394 : BitVec 32 := Scalar.extui v393
  let c0_i32_161 : BitVec 32 := 0#32
  let v395 : BitVec 1 := Scalar.cmpi .ne v394 c0_i32_161
  v395

def k0_off168 (v1 : BitVec 32) (k0_t2 : Fin (k0_t2_loop v1).trips) : Fin 1 → Nat :=
  let c1_i32_131 : BitVec 32 := 1#32
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let v345 : BitVec 32 := Scalar.subi c1_i32_131 v157
  ![v345.toNat]
def k0_off169 (v1 : BitVec 32) (k0_t2 : Fin (k0_t2_loop v1).trips) : Fin 4 → Nat :=
  let c1_i32_131 : BitVec 32 := 1#32
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let v345 : BitVec 32 := Scalar.subi c1_i32_131 v157
  let c9_i32_180 : BitVec 32 := 9#32
  let c0_i32_181 : BitVec 32 := 0#32
  let c0_i32_182 : BitVec 32 := 0#32
  ![v345.toNat, 9, 0, 0]
def k0_off170 (v428 : BitVec 32) : Fin 3 → Nat :=
  let c0_i32_183 : BitVec 32 := 0#32
  let c0_i32_184 : BitVec 32 := 0#32
  ![v428.toNat, 0, 0]

def k0_chk43 (v1 : BitVec 32) (k0_t2 : Fin (k0_t2_loop v1).trips) (v428 : BitVec 32) : Prop :=
  (∀ (k0_h51 : k0_cond51 v1 k0_t2 = 1#1), ∀ (k0_h61 : k0_cond61 v1 k0_t2 = 1#1), ∀ a, (k0_off170 v428) a + S1x64x656.size a ≤ S10400x64x656.size a) ∧
  (∀ (k0_h51 : k0_cond51 v1 k0_t2 = 1#1), ∀ (k0_h61 : k0_cond61 v1 k0_t2 = 1#1), ∀ (hinb : ∀ a, (k0_off170 v428) a + S1x64x656.size a ≤ S10400x64x656.size a), (Rect.unit (s := S10400x64x656) (k0_off170 v428) S1x64x656.size hinb).WholeWords (EltTy.packing .i8))
theorem k0_off170_inb : ∀ (v1 : BitVec 32) (k0_t2 : Fin (k0_t2_loop v1).trips) (v428 : BitVec 32) (k0_hw43 : k0_chk43 v1 k0_t2 v428), ∀ (k0_h51 : k0_cond51 v1 k0_t2 = 1#1), ∀ (k0_h61 : k0_cond61 v1 k0_t2 = 1#1), ∀ a, (k0_off170 v428) a + S1x64x656.size a ≤ S10400x64x656.size a := fun v1 k0_t2 v428 k0_hw43 k0_h51 k0_h61 => k0_hw43.1 k0_h51 k0_h61
theorem k0_off170_wordsi8 : ∀ (v1 : BitVec 32) (k0_t2 : Fin (k0_t2_loop v1).trips) (v428 : BitVec 32) (k0_hw43 : k0_chk43 v1 k0_t2 v428), ∀ (k0_h51 : k0_cond51 v1 k0_t2 = 1#1), ∀ (k0_h61 : k0_cond61 v1 k0_t2 = 1#1), (Rect.unit (s := S10400x64x656) (k0_off170 v428) S1x64x656.size (k0_off170_inb v1 k0_t2 v428 k0_hw43 k0_h51 k0_h61)).WholeWords (EltTy.packing .i8) := fun v1 k0_t2 v428 k0_hw43 k0_h51 k0_h61 => k0_hw43.2 k0_h51 k0_h61 (k0_off170_inb v1 k0_t2 v428 k0_hw43 k0_h51 k0_h61)

def k0_off171 (i : grid0.Coords) (v1 : BitVec 32) (k0_t2 : Fin (k0_t2_loop v1).trips) : Fin 2 → Nat :=
  let arg0 : BitVec 32 := BitVec.ofNat 32 (i 0).val
  let v426 : Index := Scalar.indexCast arg0
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c1_i32_130 : BitVec 32 := 1#32
  let v344 : BitVec 32 := Scalar.addi arg13 c1_i32_130
  let c16_i32_162 : BitVec 32 := 16#32
  let v396 : BitVec 32 := Scalar.muli v344 c16_i32_162
  let c10_i32_163 : BitVec 32 := 10#32
  let v397 : BitVec 32 := Scalar.addi v396 c10_i32_163
  let v427 : Index := Scalar.indexCast v397
  ![v426.toNat, v427.toNat]
def k0_cond62 (v1 : BitVec 32) (k0_t2 : Fin (k0_t2_loop v1).trips) : BitVec 1 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c1_i32_130 : BitVec 32 := 1#32
  let v344 : BitVec 32 := Scalar.addi arg13 c1_i32_130
  let c16_i32_162 : BitVec 32 := 16#32
  let v396 : BitVec 32 := Scalar.muli v344 c16_i32_162
  let c10_i32_163 : BitVec 32 := 10#32
  let v397 : BitVec 32 := Scalar.addi v396 c10_i32_163
  let v398 : BitVec 1 := Scalar.cmpi .slt v397 v20
  let v399 : BitVec 32 := Scalar.extui v398
  let c0_i32_164 : BitVec 32 := 0#32
  let v400 : BitVec 1 := Scalar.cmpi .ne v399 c0_i32_164
  v400

def k0_off172 (v1 : BitVec 32) (k0_t2 : Fin (k0_t2_loop v1).trips) : Fin 1 → Nat :=
  let c1_i32_131 : BitVec 32 := 1#32
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let v345 : BitVec 32 := Scalar.subi c1_i32_131 v157
  ![v345.toNat]
def k0_off173 (v1 : BitVec 32) (k0_t2 : Fin (k0_t2_loop v1).trips) : Fin 4 → Nat :=
  let c1_i32_131 : BitVec 32 := 1#32
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let v345 : BitVec 32 := Scalar.subi c1_i32_131 v157
  let c10_i32_180 : BitVec 32 := 10#32
  let c0_i32_181 : BitVec 32 := 0#32
  let c0_i32_182 : BitVec 32 := 0#32
  ![v345.toNat, 10, 0, 0]
def k0_off174 (v428 : BitVec 32) : Fin 3 → Nat :=
  let c0_i32_183 : BitVec 32 := 0#32
  let c0_i32_184 : BitVec 32 := 0#32
  ![v428.toNat, 0, 0]

def k0_chk44 (v1 : BitVec 32) (k0_t2 : Fin (k0_t2_loop v1).trips) (v428 : BitVec 32) : Prop :=
  (∀ (k0_h51 : k0_cond51 v1 k0_t2 = 1#1), ∀ (k0_h62 : k0_cond62 v1 k0_t2 = 1#1), ∀ a, (k0_off174 v428) a + S1x64x656.size a ≤ S10400x64x656.size a) ∧
  (∀ (k0_h51 : k0_cond51 v1 k0_t2 = 1#1), ∀ (k0_h62 : k0_cond62 v1 k0_t2 = 1#1), ∀ (hinb : ∀ a, (k0_off174 v428) a + S1x64x656.size a ≤ S10400x64x656.size a), (Rect.unit (s := S10400x64x656) (k0_off174 v428) S1x64x656.size hinb).WholeWords (EltTy.packing .i8))
theorem k0_off174_inb : ∀ (v1 : BitVec 32) (k0_t2 : Fin (k0_t2_loop v1).trips) (v428 : BitVec 32) (k0_hw44 : k0_chk44 v1 k0_t2 v428), ∀ (k0_h51 : k0_cond51 v1 k0_t2 = 1#1), ∀ (k0_h62 : k0_cond62 v1 k0_t2 = 1#1), ∀ a, (k0_off174 v428) a + S1x64x656.size a ≤ S10400x64x656.size a := fun v1 k0_t2 v428 k0_hw44 k0_h51 k0_h62 => k0_hw44.1 k0_h51 k0_h62
theorem k0_off174_wordsi8 : ∀ (v1 : BitVec 32) (k0_t2 : Fin (k0_t2_loop v1).trips) (v428 : BitVec 32) (k0_hw44 : k0_chk44 v1 k0_t2 v428), ∀ (k0_h51 : k0_cond51 v1 k0_t2 = 1#1), ∀ (k0_h62 : k0_cond62 v1 k0_t2 = 1#1), (Rect.unit (s := S10400x64x656) (k0_off174 v428) S1x64x656.size (k0_off174_inb v1 k0_t2 v428 k0_hw44 k0_h51 k0_h62)).WholeWords (EltTy.packing .i8) := fun v1 k0_t2 v428 k0_hw44 k0_h51 k0_h62 => k0_hw44.2 k0_h51 k0_h62 (k0_off174_inb v1 k0_t2 v428 k0_hw44 k0_h51 k0_h62)

def k0_off175 (i : grid0.Coords) (v1 : BitVec 32) (k0_t2 : Fin (k0_t2_loop v1).trips) : Fin 2 → Nat :=
  let arg0 : BitVec 32 := BitVec.ofNat 32 (i 0).val
  let v426 : Index := Scalar.indexCast arg0
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c1_i32_130 : BitVec 32 := 1#32
  let v344 : BitVec 32 := Scalar.addi arg13 c1_i32_130
  let c16_i32_165 : BitVec 32 := 16#32
  let v401 : BitVec 32 := Scalar.muli v344 c16_i32_165
  let c11_i32_166 : BitVec 32 := 11#32
  let v402 : BitVec 32 := Scalar.addi v401 c11_i32_166
  let v427 : Index := Scalar.indexCast v402
  ![v426.toNat, v427.toNat]
def k0_cond63 (v1 : BitVec 32) (k0_t2 : Fin (k0_t2_loop v1).trips) : BitVec 1 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c1_i32_130 : BitVec 32 := 1#32
  let v344 : BitVec 32 := Scalar.addi arg13 c1_i32_130
  let c16_i32_165 : BitVec 32 := 16#32
  let v401 : BitVec 32 := Scalar.muli v344 c16_i32_165
  let c11_i32_166 : BitVec 32 := 11#32
  let v402 : BitVec 32 := Scalar.addi v401 c11_i32_166
  let v403 : BitVec 1 := Scalar.cmpi .slt v402 v20
  let v404 : BitVec 32 := Scalar.extui v403
  let c0_i32_167 : BitVec 32 := 0#32
  let v405 : BitVec 1 := Scalar.cmpi .ne v404 c0_i32_167
  v405

def k0_off176 (v1 : BitVec 32) (k0_t2 : Fin (k0_t2_loop v1).trips) : Fin 1 → Nat :=
  let c1_i32_131 : BitVec 32 := 1#32
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let v345 : BitVec 32 := Scalar.subi c1_i32_131 v157
  ![v345.toNat]
def k0_off177 (v1 : BitVec 32) (k0_t2 : Fin (k0_t2_loop v1).trips) : Fin 4 → Nat :=
  let c1_i32_131 : BitVec 32 := 1#32
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let v345 : BitVec 32 := Scalar.subi c1_i32_131 v157
  let c11_i32_180 : BitVec 32 := 11#32
  let c0_i32_181 : BitVec 32 := 0#32
  let c0_i32_182 : BitVec 32 := 0#32
  ![v345.toNat, 11, 0, 0]
def k0_off178 (v428 : BitVec 32) : Fin 3 → Nat :=
  let c0_i32_183 : BitVec 32 := 0#32
  let c0_i32_184 : BitVec 32 := 0#32
  ![v428.toNat, 0, 0]

def k0_chk45 (v1 : BitVec 32) (k0_t2 : Fin (k0_t2_loop v1).trips) (v428 : BitVec 32) : Prop :=
  (∀ (k0_h51 : k0_cond51 v1 k0_t2 = 1#1), ∀ (k0_h63 : k0_cond63 v1 k0_t2 = 1#1), ∀ a, (k0_off178 v428) a + S1x64x656.size a ≤ S10400x64x656.size a) ∧
  (∀ (k0_h51 : k0_cond51 v1 k0_t2 = 1#1), ∀ (k0_h63 : k0_cond63 v1 k0_t2 = 1#1), ∀ (hinb : ∀ a, (k0_off178 v428) a + S1x64x656.size a ≤ S10400x64x656.size a), (Rect.unit (s := S10400x64x656) (k0_off178 v428) S1x64x656.size hinb).WholeWords (EltTy.packing .i8))
theorem k0_off178_inb : ∀ (v1 : BitVec 32) (k0_t2 : Fin (k0_t2_loop v1).trips) (v428 : BitVec 32) (k0_hw45 : k0_chk45 v1 k0_t2 v428), ∀ (k0_h51 : k0_cond51 v1 k0_t2 = 1#1), ∀ (k0_h63 : k0_cond63 v1 k0_t2 = 1#1), ∀ a, (k0_off178 v428) a + S1x64x656.size a ≤ S10400x64x656.size a := fun v1 k0_t2 v428 k0_hw45 k0_h51 k0_h63 => k0_hw45.1 k0_h51 k0_h63
theorem k0_off178_wordsi8 : ∀ (v1 : BitVec 32) (k0_t2 : Fin (k0_t2_loop v1).trips) (v428 : BitVec 32) (k0_hw45 : k0_chk45 v1 k0_t2 v428), ∀ (k0_h51 : k0_cond51 v1 k0_t2 = 1#1), ∀ (k0_h63 : k0_cond63 v1 k0_t2 = 1#1), (Rect.unit (s := S10400x64x656) (k0_off178 v428) S1x64x656.size (k0_off178_inb v1 k0_t2 v428 k0_hw45 k0_h51 k0_h63)).WholeWords (EltTy.packing .i8) := fun v1 k0_t2 v428 k0_hw45 k0_h51 k0_h63 => k0_hw45.2 k0_h51 k0_h63 (k0_off178_inb v1 k0_t2 v428 k0_hw45 k0_h51 k0_h63)

def k0_off179 (i : grid0.Coords) (v1 : BitVec 32) (k0_t2 : Fin (k0_t2_loop v1).trips) : Fin 2 → Nat :=
  let arg0 : BitVec 32 := BitVec.ofNat 32 (i 0).val
  let v426 : Index := Scalar.indexCast arg0
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c1_i32_130 : BitVec 32 := 1#32
  let v344 : BitVec 32 := Scalar.addi arg13 c1_i32_130
  let c16_i32_168 : BitVec 32 := 16#32
  let v406 : BitVec 32 := Scalar.muli v344 c16_i32_168
  let c12_i32_169 : BitVec 32 := 12#32
  let v407 : BitVec 32 := Scalar.addi v406 c12_i32_169
  let v427 : Index := Scalar.indexCast v407
  ![v426.toNat, v427.toNat]
def k0_cond64 (v1 : BitVec 32) (k0_t2 : Fin (k0_t2_loop v1).trips) : BitVec 1 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c1_i32_130 : BitVec 32 := 1#32
  let v344 : BitVec 32 := Scalar.addi arg13 c1_i32_130
  let c16_i32_168 : BitVec 32 := 16#32
  let v406 : BitVec 32 := Scalar.muli v344 c16_i32_168
  let c12_i32_169 : BitVec 32 := 12#32
  let v407 : BitVec 32 := Scalar.addi v406 c12_i32_169
  let v408 : BitVec 1 := Scalar.cmpi .slt v407 v20
  let v409 : BitVec 32 := Scalar.extui v408
  let c0_i32_170 : BitVec 32 := 0#32
  let v410 : BitVec 1 := Scalar.cmpi .ne v409 c0_i32_170
  v410

def k0_off180 (v1 : BitVec 32) (k0_t2 : Fin (k0_t2_loop v1).trips) : Fin 1 → Nat :=
  let c1_i32_131 : BitVec 32 := 1#32
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let v345 : BitVec 32 := Scalar.subi c1_i32_131 v157
  ![v345.toNat]
def k0_off181 (v1 : BitVec 32) (k0_t2 : Fin (k0_t2_loop v1).trips) : Fin 4 → Nat :=
  let c1_i32_131 : BitVec 32 := 1#32
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let v345 : BitVec 32 := Scalar.subi c1_i32_131 v157
  let c12_i32_180 : BitVec 32 := 12#32
  let c0_i32_181 : BitVec 32 := 0#32
  let c0_i32_182 : BitVec 32 := 0#32
  ![v345.toNat, 12, 0, 0]
def k0_off182 (v428 : BitVec 32) : Fin 3 → Nat :=
  let c0_i32_183 : BitVec 32 := 0#32
  let c0_i32_184 : BitVec 32 := 0#32
  ![v428.toNat, 0, 0]

def k0_chk46 (v1 : BitVec 32) (k0_t2 : Fin (k0_t2_loop v1).trips) (v428 : BitVec 32) : Prop :=
  (∀ (k0_h51 : k0_cond51 v1 k0_t2 = 1#1), ∀ (k0_h64 : k0_cond64 v1 k0_t2 = 1#1), ∀ a, (k0_off182 v428) a + S1x64x656.size a ≤ S10400x64x656.size a) ∧
  (∀ (k0_h51 : k0_cond51 v1 k0_t2 = 1#1), ∀ (k0_h64 : k0_cond64 v1 k0_t2 = 1#1), ∀ (hinb : ∀ a, (k0_off182 v428) a + S1x64x656.size a ≤ S10400x64x656.size a), (Rect.unit (s := S10400x64x656) (k0_off182 v428) S1x64x656.size hinb).WholeWords (EltTy.packing .i8))
theorem k0_off182_inb : ∀ (v1 : BitVec 32) (k0_t2 : Fin (k0_t2_loop v1).trips) (v428 : BitVec 32) (k0_hw46 : k0_chk46 v1 k0_t2 v428), ∀ (k0_h51 : k0_cond51 v1 k0_t2 = 1#1), ∀ (k0_h64 : k0_cond64 v1 k0_t2 = 1#1), ∀ a, (k0_off182 v428) a + S1x64x656.size a ≤ S10400x64x656.size a := fun v1 k0_t2 v428 k0_hw46 k0_h51 k0_h64 => k0_hw46.1 k0_h51 k0_h64
theorem k0_off182_wordsi8 : ∀ (v1 : BitVec 32) (k0_t2 : Fin (k0_t2_loop v1).trips) (v428 : BitVec 32) (k0_hw46 : k0_chk46 v1 k0_t2 v428), ∀ (k0_h51 : k0_cond51 v1 k0_t2 = 1#1), ∀ (k0_h64 : k0_cond64 v1 k0_t2 = 1#1), (Rect.unit (s := S10400x64x656) (k0_off182 v428) S1x64x656.size (k0_off182_inb v1 k0_t2 v428 k0_hw46 k0_h51 k0_h64)).WholeWords (EltTy.packing .i8) := fun v1 k0_t2 v428 k0_hw46 k0_h51 k0_h64 => k0_hw46.2 k0_h51 k0_h64 (k0_off182_inb v1 k0_t2 v428 k0_hw46 k0_h51 k0_h64)

def k0_off183 (i : grid0.Coords) (v1 : BitVec 32) (k0_t2 : Fin (k0_t2_loop v1).trips) : Fin 2 → Nat :=
  let arg0 : BitVec 32 := BitVec.ofNat 32 (i 0).val
  let v426 : Index := Scalar.indexCast arg0
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c1_i32_130 : BitVec 32 := 1#32
  let v344 : BitVec 32 := Scalar.addi arg13 c1_i32_130
  let c16_i32_171 : BitVec 32 := 16#32
  let v411 : BitVec 32 := Scalar.muli v344 c16_i32_171
  let c13_i32_172 : BitVec 32 := 13#32
  let v412 : BitVec 32 := Scalar.addi v411 c13_i32_172
  let v427 : Index := Scalar.indexCast v412
  ![v426.toNat, v427.toNat]
def k0_cond65 (v1 : BitVec 32) (k0_t2 : Fin (k0_t2_loop v1).trips) : BitVec 1 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c1_i32_130 : BitVec 32 := 1#32
  let v344 : BitVec 32 := Scalar.addi arg13 c1_i32_130
  let c16_i32_171 : BitVec 32 := 16#32
  let v411 : BitVec 32 := Scalar.muli v344 c16_i32_171
  let c13_i32_172 : BitVec 32 := 13#32
  let v412 : BitVec 32 := Scalar.addi v411 c13_i32_172
  let v413 : BitVec 1 := Scalar.cmpi .slt v412 v20
  let v414 : BitVec 32 := Scalar.extui v413
  let c0_i32_173 : BitVec 32 := 0#32
  let v415 : BitVec 1 := Scalar.cmpi .ne v414 c0_i32_173
  v415

def k0_off184 (v1 : BitVec 32) (k0_t2 : Fin (k0_t2_loop v1).trips) : Fin 1 → Nat :=
  let c1_i32_131 : BitVec 32 := 1#32
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let v345 : BitVec 32 := Scalar.subi c1_i32_131 v157
  ![v345.toNat]
def k0_off185 (v1 : BitVec 32) (k0_t2 : Fin (k0_t2_loop v1).trips) : Fin 4 → Nat :=
  let c1_i32_131 : BitVec 32 := 1#32
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let v345 : BitVec 32 := Scalar.subi c1_i32_131 v157
  let c13_i32_180 : BitVec 32 := 13#32
  let c0_i32_181 : BitVec 32 := 0#32
  let c0_i32_182 : BitVec 32 := 0#32
  ![v345.toNat, 13, 0, 0]
def k0_off186 (v428 : BitVec 32) : Fin 3 → Nat :=
  let c0_i32_183 : BitVec 32 := 0#32
  let c0_i32_184 : BitVec 32 := 0#32
  ![v428.toNat, 0, 0]

def k0_chk47 (v1 : BitVec 32) (k0_t2 : Fin (k0_t2_loop v1).trips) (v428 : BitVec 32) : Prop :=
  (∀ (k0_h51 : k0_cond51 v1 k0_t2 = 1#1), ∀ (k0_h65 : k0_cond65 v1 k0_t2 = 1#1), ∀ a, (k0_off186 v428) a + S1x64x656.size a ≤ S10400x64x656.size a) ∧
  (∀ (k0_h51 : k0_cond51 v1 k0_t2 = 1#1), ∀ (k0_h65 : k0_cond65 v1 k0_t2 = 1#1), ∀ (hinb : ∀ a, (k0_off186 v428) a + S1x64x656.size a ≤ S10400x64x656.size a), (Rect.unit (s := S10400x64x656) (k0_off186 v428) S1x64x656.size hinb).WholeWords (EltTy.packing .i8))
theorem k0_off186_inb : ∀ (v1 : BitVec 32) (k0_t2 : Fin (k0_t2_loop v1).trips) (v428 : BitVec 32) (k0_hw47 : k0_chk47 v1 k0_t2 v428), ∀ (k0_h51 : k0_cond51 v1 k0_t2 = 1#1), ∀ (k0_h65 : k0_cond65 v1 k0_t2 = 1#1), ∀ a, (k0_off186 v428) a + S1x64x656.size a ≤ S10400x64x656.size a := fun v1 k0_t2 v428 k0_hw47 k0_h51 k0_h65 => k0_hw47.1 k0_h51 k0_h65
theorem k0_off186_wordsi8 : ∀ (v1 : BitVec 32) (k0_t2 : Fin (k0_t2_loop v1).trips) (v428 : BitVec 32) (k0_hw47 : k0_chk47 v1 k0_t2 v428), ∀ (k0_h51 : k0_cond51 v1 k0_t2 = 1#1), ∀ (k0_h65 : k0_cond65 v1 k0_t2 = 1#1), (Rect.unit (s := S10400x64x656) (k0_off186 v428) S1x64x656.size (k0_off186_inb v1 k0_t2 v428 k0_hw47 k0_h51 k0_h65)).WholeWords (EltTy.packing .i8) := fun v1 k0_t2 v428 k0_hw47 k0_h51 k0_h65 => k0_hw47.2 k0_h51 k0_h65 (k0_off186_inb v1 k0_t2 v428 k0_hw47 k0_h51 k0_h65)

def k0_off187 (i : grid0.Coords) (v1 : BitVec 32) (k0_t2 : Fin (k0_t2_loop v1).trips) : Fin 2 → Nat :=
  let arg0 : BitVec 32 := BitVec.ofNat 32 (i 0).val
  let v426 : Index := Scalar.indexCast arg0
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c1_i32_130 : BitVec 32 := 1#32
  let v344 : BitVec 32 := Scalar.addi arg13 c1_i32_130
  let c16_i32_174 : BitVec 32 := 16#32
  let v416 : BitVec 32 := Scalar.muli v344 c16_i32_174
  let c14_i32_175 : BitVec 32 := 14#32
  let v417 : BitVec 32 := Scalar.addi v416 c14_i32_175
  let v427 : Index := Scalar.indexCast v417
  ![v426.toNat, v427.toNat]
def k0_cond66 (v1 : BitVec 32) (k0_t2 : Fin (k0_t2_loop v1).trips) : BitVec 1 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c1_i32_130 : BitVec 32 := 1#32
  let v344 : BitVec 32 := Scalar.addi arg13 c1_i32_130
  let c16_i32_174 : BitVec 32 := 16#32
  let v416 : BitVec 32 := Scalar.muli v344 c16_i32_174
  let c14_i32_175 : BitVec 32 := 14#32
  let v417 : BitVec 32 := Scalar.addi v416 c14_i32_175
  let v418 : BitVec 1 := Scalar.cmpi .slt v417 v20
  let v419 : BitVec 32 := Scalar.extui v418
  let c0_i32_176 : BitVec 32 := 0#32
  let v420 : BitVec 1 := Scalar.cmpi .ne v419 c0_i32_176
  v420

def k0_off188 (v1 : BitVec 32) (k0_t2 : Fin (k0_t2_loop v1).trips) : Fin 1 → Nat :=
  let c1_i32_131 : BitVec 32 := 1#32
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let v345 : BitVec 32 := Scalar.subi c1_i32_131 v157
  ![v345.toNat]
def k0_off189 (v1 : BitVec 32) (k0_t2 : Fin (k0_t2_loop v1).trips) : Fin 4 → Nat :=
  let c1_i32_131 : BitVec 32 := 1#32
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let v345 : BitVec 32 := Scalar.subi c1_i32_131 v157
  let c14_i32_180 : BitVec 32 := 14#32
  let c0_i32_181 : BitVec 32 := 0#32
  let c0_i32_182 : BitVec 32 := 0#32
  ![v345.toNat, 14, 0, 0]
def k0_off190 (v428 : BitVec 32) : Fin 3 → Nat :=
  let c0_i32_183 : BitVec 32 := 0#32
  let c0_i32_184 : BitVec 32 := 0#32
  ![v428.toNat, 0, 0]

def k0_chk48 (v1 : BitVec 32) (k0_t2 : Fin (k0_t2_loop v1).trips) (v428 : BitVec 32) : Prop :=
  (∀ (k0_h51 : k0_cond51 v1 k0_t2 = 1#1), ∀ (k0_h66 : k0_cond66 v1 k0_t2 = 1#1), ∀ a, (k0_off190 v428) a + S1x64x656.size a ≤ S10400x64x656.size a) ∧
  (∀ (k0_h51 : k0_cond51 v1 k0_t2 = 1#1), ∀ (k0_h66 : k0_cond66 v1 k0_t2 = 1#1), ∀ (hinb : ∀ a, (k0_off190 v428) a + S1x64x656.size a ≤ S10400x64x656.size a), (Rect.unit (s := S10400x64x656) (k0_off190 v428) S1x64x656.size hinb).WholeWords (EltTy.packing .i8))
theorem k0_off190_inb : ∀ (v1 : BitVec 32) (k0_t2 : Fin (k0_t2_loop v1).trips) (v428 : BitVec 32) (k0_hw48 : k0_chk48 v1 k0_t2 v428), ∀ (k0_h51 : k0_cond51 v1 k0_t2 = 1#1), ∀ (k0_h66 : k0_cond66 v1 k0_t2 = 1#1), ∀ a, (k0_off190 v428) a + S1x64x656.size a ≤ S10400x64x656.size a := fun v1 k0_t2 v428 k0_hw48 k0_h51 k0_h66 => k0_hw48.1 k0_h51 k0_h66
theorem k0_off190_wordsi8 : ∀ (v1 : BitVec 32) (k0_t2 : Fin (k0_t2_loop v1).trips) (v428 : BitVec 32) (k0_hw48 : k0_chk48 v1 k0_t2 v428), ∀ (k0_h51 : k0_cond51 v1 k0_t2 = 1#1), ∀ (k0_h66 : k0_cond66 v1 k0_t2 = 1#1), (Rect.unit (s := S10400x64x656) (k0_off190 v428) S1x64x656.size (k0_off190_inb v1 k0_t2 v428 k0_hw48 k0_h51 k0_h66)).WholeWords (EltTy.packing .i8) := fun v1 k0_t2 v428 k0_hw48 k0_h51 k0_h66 => k0_hw48.2 k0_h51 k0_h66 (k0_off190_inb v1 k0_t2 v428 k0_hw48 k0_h51 k0_h66)

def k0_off191 (i : grid0.Coords) (v1 : BitVec 32) (k0_t2 : Fin (k0_t2_loop v1).trips) : Fin 2 → Nat :=
  let arg0 : BitVec 32 := BitVec.ofNat 32 (i 0).val
  let v426 : Index := Scalar.indexCast arg0
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c1_i32_130 : BitVec 32 := 1#32
  let v344 : BitVec 32 := Scalar.addi arg13 c1_i32_130
  let c16_i32_177 : BitVec 32 := 16#32
  let v421 : BitVec 32 := Scalar.muli v344 c16_i32_177
  let c15_i32_178 : BitVec 32 := 15#32
  let v422 : BitVec 32 := Scalar.addi v421 c15_i32_178
  let v427 : Index := Scalar.indexCast v422
  ![v426.toNat, v427.toNat]
def k0_cond67 (v1 : BitVec 32) (k0_t2 : Fin (k0_t2_loop v1).trips) : BitVec 1 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c1_i32_130 : BitVec 32 := 1#32
  let v344 : BitVec 32 := Scalar.addi arg13 c1_i32_130
  let c16_i32_177 : BitVec 32 := 16#32
  let v421 : BitVec 32 := Scalar.muli v344 c16_i32_177
  let c15_i32_178 : BitVec 32 := 15#32
  let v422 : BitVec 32 := Scalar.addi v421 c15_i32_178
  let v423 : BitVec 1 := Scalar.cmpi .slt v422 v20
  let v424 : BitVec 32 := Scalar.extui v423
  let c0_i32_179 : BitVec 32 := 0#32
  let v425 : BitVec 1 := Scalar.cmpi .ne v424 c0_i32_179
  v425

def k0_off192 (v1 : BitVec 32) (k0_t2 : Fin (k0_t2_loop v1).trips) : Fin 1 → Nat :=
  let c1_i32_131 : BitVec 32 := 1#32
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let v345 : BitVec 32 := Scalar.subi c1_i32_131 v157
  ![v345.toNat]
def k0_off193 (v1 : BitVec 32) (k0_t2 : Fin (k0_t2_loop v1).trips) : Fin 4 → Nat :=
  let c1_i32_131 : BitVec 32 := 1#32
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let v345 : BitVec 32 := Scalar.subi c1_i32_131 v157
  let c15_i32_180 : BitVec 32 := 15#32
  let c0_i32_181 : BitVec 32 := 0#32
  let c0_i32_182 : BitVec 32 := 0#32
  ![v345.toNat, 15, 0, 0]
def k0_off194 (v428 : BitVec 32) : Fin 3 → Nat :=
  let c0_i32_183 : BitVec 32 := 0#32
  let c0_i32_184 : BitVec 32 := 0#32
  ![v428.toNat, 0, 0]

def k0_chk49 (v1 : BitVec 32) (k0_t2 : Fin (k0_t2_loop v1).trips) (v428 : BitVec 32) : Prop :=
  (∀ (k0_h51 : k0_cond51 v1 k0_t2 = 1#1), ∀ (k0_h67 : k0_cond67 v1 k0_t2 = 1#1), ∀ a, (k0_off194 v428) a + S1x64x656.size a ≤ S10400x64x656.size a) ∧
  (∀ (k0_h51 : k0_cond51 v1 k0_t2 = 1#1), ∀ (k0_h67 : k0_cond67 v1 k0_t2 = 1#1), ∀ (hinb : ∀ a, (k0_off194 v428) a + S1x64x656.size a ≤ S10400x64x656.size a), (Rect.unit (s := S10400x64x656) (k0_off194 v428) S1x64x656.size hinb).WholeWords (EltTy.packing .i8))
theorem k0_off194_inb : ∀ (v1 : BitVec 32) (k0_t2 : Fin (k0_t2_loop v1).trips) (v428 : BitVec 32) (k0_hw49 : k0_chk49 v1 k0_t2 v428), ∀ (k0_h51 : k0_cond51 v1 k0_t2 = 1#1), ∀ (k0_h67 : k0_cond67 v1 k0_t2 = 1#1), ∀ a, (k0_off194 v428) a + S1x64x656.size a ≤ S10400x64x656.size a := fun v1 k0_t2 v428 k0_hw49 k0_h51 k0_h67 => k0_hw49.1 k0_h51 k0_h67
theorem k0_off194_wordsi8 : ∀ (v1 : BitVec 32) (k0_t2 : Fin (k0_t2_loop v1).trips) (v428 : BitVec 32) (k0_hw49 : k0_chk49 v1 k0_t2 v428), ∀ (k0_h51 : k0_cond51 v1 k0_t2 = 1#1), ∀ (k0_h67 : k0_cond67 v1 k0_t2 = 1#1), (Rect.unit (s := S10400x64x656) (k0_off194 v428) S1x64x656.size (k0_off194_inb v1 k0_t2 v428 k0_hw49 k0_h51 k0_h67)).WholeWords (EltTy.packing .i8) := fun v1 k0_t2 v428 k0_hw49 k0_h51 k0_h67 => k0_hw49.2 k0_h51 k0_h67 (k0_off194_inb v1 k0_t2 v428 k0_hw49 k0_h51 k0_h67)

def k0_off195 (v1 : BitVec 32) (k0_t2 : Fin (k0_t2_loop v1).trips) : Fin 1 → Nat :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  ![v157.toNat]
def k0_cond68 (v1 : BitVec 32) (k0_t2 : Fin (k0_t2_loop v1).trips) : BitVec 1 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c16_i32_66 : BitVec 32 := 16#32
  let v162 : BitVec 32 := Scalar.muli arg13 c16_i32_66
  let c0_i32_67 : BitVec 32 := 0#32
  let v163 : BitVec 32 := Scalar.addi v162 c0_i32_67
  let v164 : BitVec 1 := Scalar.cmpi .slt v163 v20
  let v165 : BitVec 32 := Scalar.extui v164
  let c0_i32_68 : BitVec 32 := 0#32
  let v166 : BitVec 1 := Scalar.cmpi .ne v165 c0_i32_68
  v166

def k0_off196 (v1 : BitVec 32) (k0_t2 : Fin (k0_t2_loop v1).trips) : Fin 4 → Nat :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let c0_i32_131 : BitVec 32 := 0#32
  let c0_i32_132 : BitVec 32 := 0#32
  let c0_i32_133 : BitVec 32 := 0#32
  ![v157.toNat, 0, 0, 0]
def k0_off197 (v1 : BitVec 32) (k0_t2 : Fin (k0_t2_loop v1).trips) : Fin 1 → Nat :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  ![v157.toNat]
def k0_cond69 (v1 : BitVec 32) (k0_t2 : Fin (k0_t2_loop v1).trips) : BitVec 1 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c16_i32_69 : BitVec 32 := 16#32
  let v167 : BitVec 32 := Scalar.muli arg13 c16_i32_69
  let c1_i32_70 : BitVec 32 := 1#32
  let v168 : BitVec 32 := Scalar.addi v167 c1_i32_70
  let v169 : BitVec 1 := Scalar.cmpi .slt v168 v20
  let v170 : BitVec 32 := Scalar.extui v169
  let c0_i32_71 : BitVec 32 := 0#32
  let v171 : BitVec 1 := Scalar.cmpi .ne v170 c0_i32_71
  v171

def k0_off198 (v1 : BitVec 32) (k0_t2 : Fin (k0_t2_loop v1).trips) : Fin 4 → Nat :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let c1_i32_131 : BitVec 32 := 1#32
  let c0_i32_132 : BitVec 32 := 0#32
  let c0_i32_133 : BitVec 32 := 0#32
  ![v157.toNat, 1, 0, 0]
def k0_off199 (v1 : BitVec 32) (k0_t2 : Fin (k0_t2_loop v1).trips) : Fin 1 → Nat :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  ![v157.toNat]
def k0_cond70 (v1 : BitVec 32) (k0_t2 : Fin (k0_t2_loop v1).trips) : BitVec 1 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c16_i32_72 : BitVec 32 := 16#32
  let v172 : BitVec 32 := Scalar.muli arg13 c16_i32_72
  let c2_i32_73 : BitVec 32 := 2#32
  let v173 : BitVec 32 := Scalar.addi v172 c2_i32_73
  let v174 : BitVec 1 := Scalar.cmpi .slt v173 v20
  let v175 : BitVec 32 := Scalar.extui v174
  let c0_i32_74 : BitVec 32 := 0#32
  let v176 : BitVec 1 := Scalar.cmpi .ne v175 c0_i32_74
  v176

def k0_off200 (v1 : BitVec 32) (k0_t2 : Fin (k0_t2_loop v1).trips) : Fin 4 → Nat :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let c2_i32_131 : BitVec 32 := 2#32
  let c0_i32_132 : BitVec 32 := 0#32
  let c0_i32_133 : BitVec 32 := 0#32
  ![v157.toNat, 2, 0, 0]
def k0_off201 (v1 : BitVec 32) (k0_t2 : Fin (k0_t2_loop v1).trips) : Fin 1 → Nat :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  ![v157.toNat]
def k0_cond71 (v1 : BitVec 32) (k0_t2 : Fin (k0_t2_loop v1).trips) : BitVec 1 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c16_i32_75 : BitVec 32 := 16#32
  let v177 : BitVec 32 := Scalar.muli arg13 c16_i32_75
  let c3_i32_76 : BitVec 32 := 3#32
  let v178 : BitVec 32 := Scalar.addi v177 c3_i32_76
  let v179 : BitVec 1 := Scalar.cmpi .slt v178 v20
  let v180 : BitVec 32 := Scalar.extui v179
  let c0_i32_77 : BitVec 32 := 0#32
  let v181 : BitVec 1 := Scalar.cmpi .ne v180 c0_i32_77
  v181

def k0_off202 (v1 : BitVec 32) (k0_t2 : Fin (k0_t2_loop v1).trips) : Fin 4 → Nat :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let c3_i32_131 : BitVec 32 := 3#32
  let c0_i32_132 : BitVec 32 := 0#32
  let c0_i32_133 : BitVec 32 := 0#32
  ![v157.toNat, 3, 0, 0]
def k0_off203 (v1 : BitVec 32) (k0_t2 : Fin (k0_t2_loop v1).trips) : Fin 1 → Nat :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  ![v157.toNat]
def k0_cond72 (v1 : BitVec 32) (k0_t2 : Fin (k0_t2_loop v1).trips) : BitVec 1 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c16_i32_78 : BitVec 32 := 16#32
  let v182 : BitVec 32 := Scalar.muli arg13 c16_i32_78
  let c4_i32_79 : BitVec 32 := 4#32
  let v183 : BitVec 32 := Scalar.addi v182 c4_i32_79
  let v184 : BitVec 1 := Scalar.cmpi .slt v183 v20
  let v185 : BitVec 32 := Scalar.extui v184
  let c0_i32_80 : BitVec 32 := 0#32
  let v186 : BitVec 1 := Scalar.cmpi .ne v185 c0_i32_80
  v186

def k0_off204 (v1 : BitVec 32) (k0_t2 : Fin (k0_t2_loop v1).trips) : Fin 4 → Nat :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let c4_i32_131 : BitVec 32 := 4#32
  let c0_i32_132 : BitVec 32 := 0#32
  let c0_i32_133 : BitVec 32 := 0#32
  ![v157.toNat, 4, 0, 0]
def k0_off205 (v1 : BitVec 32) (k0_t2 : Fin (k0_t2_loop v1).trips) : Fin 1 → Nat :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  ![v157.toNat]
def k0_cond73 (v1 : BitVec 32) (k0_t2 : Fin (k0_t2_loop v1).trips) : BitVec 1 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c16_i32_81 : BitVec 32 := 16#32
  let v187 : BitVec 32 := Scalar.muli arg13 c16_i32_81
  let c5_i32_82 : BitVec 32 := 5#32
  let v188 : BitVec 32 := Scalar.addi v187 c5_i32_82
  let v189 : BitVec 1 := Scalar.cmpi .slt v188 v20
  let v190 : BitVec 32 := Scalar.extui v189
  let c0_i32_83 : BitVec 32 := 0#32
  let v191 : BitVec 1 := Scalar.cmpi .ne v190 c0_i32_83
  v191

def k0_off206 (v1 : BitVec 32) (k0_t2 : Fin (k0_t2_loop v1).trips) : Fin 4 → Nat :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let c5_i32_131 : BitVec 32 := 5#32
  let c0_i32_132 : BitVec 32 := 0#32
  let c0_i32_133 : BitVec 32 := 0#32
  ![v157.toNat, 5, 0, 0]
def k0_off207 (v1 : BitVec 32) (k0_t2 : Fin (k0_t2_loop v1).trips) : Fin 1 → Nat :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  ![v157.toNat]
def k0_cond74 (v1 : BitVec 32) (k0_t2 : Fin (k0_t2_loop v1).trips) : BitVec 1 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c16_i32_84 : BitVec 32 := 16#32
  let v192 : BitVec 32 := Scalar.muli arg13 c16_i32_84
  let c6_i32_85 : BitVec 32 := 6#32
  let v193 : BitVec 32 := Scalar.addi v192 c6_i32_85
  let v194 : BitVec 1 := Scalar.cmpi .slt v193 v20
  let v195 : BitVec 32 := Scalar.extui v194
  let c0_i32_86 : BitVec 32 := 0#32
  let v196 : BitVec 1 := Scalar.cmpi .ne v195 c0_i32_86
  v196

def k0_off208 (v1 : BitVec 32) (k0_t2 : Fin (k0_t2_loop v1).trips) : Fin 4 → Nat :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let c6_i32_131 : BitVec 32 := 6#32
  let c0_i32_132 : BitVec 32 := 0#32
  let c0_i32_133 : BitVec 32 := 0#32
  ![v157.toNat, 6, 0, 0]
def k0_off209 (v1 : BitVec 32) (k0_t2 : Fin (k0_t2_loop v1).trips) : Fin 1 → Nat :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  ![v157.toNat]
def k0_cond75 (v1 : BitVec 32) (k0_t2 : Fin (k0_t2_loop v1).trips) : BitVec 1 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c16_i32_87 : BitVec 32 := 16#32
  let v197 : BitVec 32 := Scalar.muli arg13 c16_i32_87
  let c7_i32_88 : BitVec 32 := 7#32
  let v198 : BitVec 32 := Scalar.addi v197 c7_i32_88
  let v199 : BitVec 1 := Scalar.cmpi .slt v198 v20
  let v200 : BitVec 32 := Scalar.extui v199
  let c0_i32_89 : BitVec 32 := 0#32
  let v201 : BitVec 1 := Scalar.cmpi .ne v200 c0_i32_89
  v201

def k0_off210 (v1 : BitVec 32) (k0_t2 : Fin (k0_t2_loop v1).trips) : Fin 4 → Nat :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let c7_i32_131 : BitVec 32 := 7#32
  let c0_i32_132 : BitVec 32 := 0#32
  let c0_i32_133 : BitVec 32 := 0#32
  ![v157.toNat, 7, 0, 0]
def k0_off211 (v1 : BitVec 32) (k0_t2 : Fin (k0_t2_loop v1).trips) : Fin 1 → Nat :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  ![v157.toNat]
def k0_cond76 (v1 : BitVec 32) (k0_t2 : Fin (k0_t2_loop v1).trips) : BitVec 1 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c16_i32_90 : BitVec 32 := 16#32
  let v202 : BitVec 32 := Scalar.muli arg13 c16_i32_90
  let c8_i32_91 : BitVec 32 := 8#32
  let v203 : BitVec 32 := Scalar.addi v202 c8_i32_91
  let v204 : BitVec 1 := Scalar.cmpi .slt v203 v20
  let v205 : BitVec 32 := Scalar.extui v204
  let c0_i32_92 : BitVec 32 := 0#32
  let v206 : BitVec 1 := Scalar.cmpi .ne v205 c0_i32_92
  v206

def k0_off212 (v1 : BitVec 32) (k0_t2 : Fin (k0_t2_loop v1).trips) : Fin 4 → Nat :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let c8_i32_131 : BitVec 32 := 8#32
  let c0_i32_132 : BitVec 32 := 0#32
  let c0_i32_133 : BitVec 32 := 0#32
  ![v157.toNat, 8, 0, 0]
def k0_off213 (v1 : BitVec 32) (k0_t2 : Fin (k0_t2_loop v1).trips) : Fin 1 → Nat :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  ![v157.toNat]
def k0_cond77 (v1 : BitVec 32) (k0_t2 : Fin (k0_t2_loop v1).trips) : BitVec 1 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c16_i32_93 : BitVec 32 := 16#32
  let v207 : BitVec 32 := Scalar.muli arg13 c16_i32_93
  let c9_i32_94 : BitVec 32 := 9#32
  let v208 : BitVec 32 := Scalar.addi v207 c9_i32_94
  let v209 : BitVec 1 := Scalar.cmpi .slt v208 v20
  let v210 : BitVec 32 := Scalar.extui v209
  let c0_i32_95 : BitVec 32 := 0#32
  let v211 : BitVec 1 := Scalar.cmpi .ne v210 c0_i32_95
  v211

def k0_off214 (v1 : BitVec 32) (k0_t2 : Fin (k0_t2_loop v1).trips) : Fin 4 → Nat :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let c9_i32_131 : BitVec 32 := 9#32
  let c0_i32_132 : BitVec 32 := 0#32
  let c0_i32_133 : BitVec 32 := 0#32
  ![v157.toNat, 9, 0, 0]
def k0_off215 (v1 : BitVec 32) (k0_t2 : Fin (k0_t2_loop v1).trips) : Fin 1 → Nat :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  ![v157.toNat]
def k0_cond78 (v1 : BitVec 32) (k0_t2 : Fin (k0_t2_loop v1).trips) : BitVec 1 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c16_i32_96 : BitVec 32 := 16#32
  let v212 : BitVec 32 := Scalar.muli arg13 c16_i32_96
  let c10_i32_97 : BitVec 32 := 10#32
  let v213 : BitVec 32 := Scalar.addi v212 c10_i32_97
  let v214 : BitVec 1 := Scalar.cmpi .slt v213 v20
  let v215 : BitVec 32 := Scalar.extui v214
  let c0_i32_98 : BitVec 32 := 0#32
  let v216 : BitVec 1 := Scalar.cmpi .ne v215 c0_i32_98
  v216

def k0_off216 (v1 : BitVec 32) (k0_t2 : Fin (k0_t2_loop v1).trips) : Fin 4 → Nat :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let c10_i32_131 : BitVec 32 := 10#32
  let c0_i32_132 : BitVec 32 := 0#32
  let c0_i32_133 : BitVec 32 := 0#32
  ![v157.toNat, 10, 0, 0]
def k0_off217 (v1 : BitVec 32) (k0_t2 : Fin (k0_t2_loop v1).trips) : Fin 1 → Nat :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  ![v157.toNat]
def k0_cond79 (v1 : BitVec 32) (k0_t2 : Fin (k0_t2_loop v1).trips) : BitVec 1 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c16_i32_99 : BitVec 32 := 16#32
  let v217 : BitVec 32 := Scalar.muli arg13 c16_i32_99
  let c11_i32_100 : BitVec 32 := 11#32
  let v218 : BitVec 32 := Scalar.addi v217 c11_i32_100
  let v219 : BitVec 1 := Scalar.cmpi .slt v218 v20
  let v220 : BitVec 32 := Scalar.extui v219
  let c0_i32_101 : BitVec 32 := 0#32
  let v221 : BitVec 1 := Scalar.cmpi .ne v220 c0_i32_101
  v221

def k0_off218 (v1 : BitVec 32) (k0_t2 : Fin (k0_t2_loop v1).trips) : Fin 4 → Nat :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let c11_i32_131 : BitVec 32 := 11#32
  let c0_i32_132 : BitVec 32 := 0#32
  let c0_i32_133 : BitVec 32 := 0#32
  ![v157.toNat, 11, 0, 0]
def k0_off219 (v1 : BitVec 32) (k0_t2 : Fin (k0_t2_loop v1).trips) : Fin 1 → Nat :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  ![v157.toNat]
def k0_cond80 (v1 : BitVec 32) (k0_t2 : Fin (k0_t2_loop v1).trips) : BitVec 1 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c16_i32_102 : BitVec 32 := 16#32
  let v222 : BitVec 32 := Scalar.muli arg13 c16_i32_102
  let c12_i32_103 : BitVec 32 := 12#32
  let v223 : BitVec 32 := Scalar.addi v222 c12_i32_103
  let v224 : BitVec 1 := Scalar.cmpi .slt v223 v20
  let v225 : BitVec 32 := Scalar.extui v224
  let c0_i32_104 : BitVec 32 := 0#32
  let v226 : BitVec 1 := Scalar.cmpi .ne v225 c0_i32_104
  v226

def k0_off220 (v1 : BitVec 32) (k0_t2 : Fin (k0_t2_loop v1).trips) : Fin 4 → Nat :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let c12_i32_131 : BitVec 32 := 12#32
  let c0_i32_132 : BitVec 32 := 0#32
  let c0_i32_133 : BitVec 32 := 0#32
  ![v157.toNat, 12, 0, 0]
def k0_off221 (v1 : BitVec 32) (k0_t2 : Fin (k0_t2_loop v1).trips) : Fin 1 → Nat :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  ![v157.toNat]
def k0_cond81 (v1 : BitVec 32) (k0_t2 : Fin (k0_t2_loop v1).trips) : BitVec 1 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c16_i32_105 : BitVec 32 := 16#32
  let v227 : BitVec 32 := Scalar.muli arg13 c16_i32_105
  let c13_i32_106 : BitVec 32 := 13#32
  let v228 : BitVec 32 := Scalar.addi v227 c13_i32_106
  let v229 : BitVec 1 := Scalar.cmpi .slt v228 v20
  let v230 : BitVec 32 := Scalar.extui v229
  let c0_i32_107 : BitVec 32 := 0#32
  let v231 : BitVec 1 := Scalar.cmpi .ne v230 c0_i32_107
  v231

def k0_off222 (v1 : BitVec 32) (k0_t2 : Fin (k0_t2_loop v1).trips) : Fin 4 → Nat :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let c13_i32_131 : BitVec 32 := 13#32
  let c0_i32_132 : BitVec 32 := 0#32
  let c0_i32_133 : BitVec 32 := 0#32
  ![v157.toNat, 13, 0, 0]
def k0_off223 (v1 : BitVec 32) (k0_t2 : Fin (k0_t2_loop v1).trips) : Fin 1 → Nat :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  ![v157.toNat]
def k0_cond82 (v1 : BitVec 32) (k0_t2 : Fin (k0_t2_loop v1).trips) : BitVec 1 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c16_i32_108 : BitVec 32 := 16#32
  let v232 : BitVec 32 := Scalar.muli arg13 c16_i32_108
  let c14_i32_109 : BitVec 32 := 14#32
  let v233 : BitVec 32 := Scalar.addi v232 c14_i32_109
  let v234 : BitVec 1 := Scalar.cmpi .slt v233 v20
  let v235 : BitVec 32 := Scalar.extui v234
  let c0_i32_110 : BitVec 32 := 0#32
  let v236 : BitVec 1 := Scalar.cmpi .ne v235 c0_i32_110
  v236

def k0_off224 (v1 : BitVec 32) (k0_t2 : Fin (k0_t2_loop v1).trips) : Fin 4 → Nat :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let c14_i32_131 : BitVec 32 := 14#32
  let c0_i32_132 : BitVec 32 := 0#32
  let c0_i32_133 : BitVec 32 := 0#32
  ![v157.toNat, 14, 0, 0]
def k0_off225 (v1 : BitVec 32) (k0_t2 : Fin (k0_t2_loop v1).trips) : Fin 1 → Nat :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  ![v157.toNat]
def k0_cond83 (v1 : BitVec 32) (k0_t2 : Fin (k0_t2_loop v1).trips) : BitVec 1 :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c16_i32_111 : BitVec 32 := 16#32
  let v237 : BitVec 32 := Scalar.muli arg13 c16_i32_111
  let c15_i32_112 : BitVec 32 := 15#32
  let v238 : BitVec 32 := Scalar.addi v237 c15_i32_112
  let v239 : BitVec 1 := Scalar.cmpi .slt v238 v20
  let v240 : BitVec 32 := Scalar.extui v239
  let c0_i32_113 : BitVec 32 := 0#32
  let v241 : BitVec 1 := Scalar.cmpi .ne v240 c0_i32_113
  v241

def k0_off226 (v1 : BitVec 32) (k0_t2 : Fin (k0_t2_loop v1).trips) : Fin 4 → Nat :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let c15_i32_131 : BitVec 32 := 15#32
  let c0_i32_132 : BitVec 32 := 0#32
  let c0_i32_133 : BitVec 32 := 0#32
  ![v157.toNat, 15, 0, 0]
def k0_off227 (v1 : BitVec 32) (k0_t2 : Fin (k0_t2_loop v1).trips) : Fin 4 → Nat :=
  let c0_i32_53 : BitVec 32 := 0#32
  let c64_i32 : BitVec 32 := 64#32
  let v2 : BitVec 32 := Scalar.addi v1 c64_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32_0 : BitVec 32 := 64#32
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let v4 : BitVec 32 := Scalar.divsi v3 c64_i32_0
  let c1_i32_5 : BitVec 32 := 1#32
  let v19 : BitVec 32 := Scalar.subi v4 c1_i32_5
  let v20 : BitVec 32 := Scalar.select v18 v19 v4
  let c16_i32 : BitVec 32 := 16#32
  let v21 : BitVec 32 := Scalar.addi v20 c16_i32
  let c1_i32_6 : BitVec 32 := 1#32
  let v22 : BitVec 32 := Scalar.subi v21 c1_i32_6
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c16_i32_7 : BitVec 32 := 16#32
  let c0_i32_10 : BitVec 32 := 0#32
  let v29 : BitVec 1 := Scalar.cmpi .sgt c16_i32_7 c0_i32_10
  let v30 : BitVec 32 := Scalar.extui v29
  let c0_i32_11 : BitVec 32 := 0#32
  let v31 : BitVec 1 := Scalar.cmpi .slt c16_i32_7 c0_i32_11
  let v32 : BitVec 32 := Scalar.extui v31
  let v33 : BitVec 32 := Scalar.subi v30 v32
  let v34 : BitVec 1 := Scalar.cmpi .ne v28 v33
  let v35 : BitVec 32 := Scalar.remsi v22 c16_i32_7
  let c0_i32_12 : BitVec 32 := 0#32
  let v36 : BitVec 1 := Scalar.cmpi .ne v35 c0_i32_12
  let v37 : BitVec 1 := Scalar.andi v34 v36
  let v23 : BitVec 32 := Scalar.divsi v22 c16_i32_7
  let c1_i32_13 : BitVec 32 := 1#32
  let v38 : BitVec 32 := Scalar.subi v23 c1_i32_13
  let v39 : BitVec 32 := Scalar.select v37 v38 v23
  let v139 : BitVec 32 := Scalar.subi v39 c0_i32_53
  let c1_i32_54 : BitVec 32 := 1#32
  let v141 : BitVec 32 := Scalar.divsi v139 c1_i32_54
  let v142 : BitVec 32 := Scalar.muli v141 c1_i32_54
  let v143 : BitVec 32 := Scalar.addi c0_i32_53 v142
  let c1_i32_56 : BitVec 32 := 1#32
  let arg13 : BitVec 32 := Scf.iv v143 c1_i32_56 k0_t2
  let c2_i32_63 : BitVec 32 := 2#32
  let v157 : BitVec 32 := Scalar.remsi arg13 c2_i32_63
  let v242 : Index := Scalar.indexCast v157
  let c0_114 : Index := 0#32
  let c0_115 : Index := 0#32
  let c0_116 : Index := 0#32
  ![v242.toNat, 0, 0, 0]

def k0_chk17_0 (i : grid0.Coords) (v1 : BitVec 32) : Prop :=
  ((k0_t1_loop v1).OK) ∧
  (∀ k0_t1 : Fin (k0_t1_loop v1).trips, ∀ (k0_h18 : k0_cond18 v1 k0_t1 = 1#1), ∀ (k0_h19 : k0_cond19 v1 k0_t1 = 1#1), ∀ a, (k0_off34 i v1 k0_t1) a + S1x1.size a ≤ S65x128.size a) ∧
  (∀ k0_t1 : Fin (k0_t1_loop v1).trips, ∀ (k0_h18 : k0_cond18 v1 k0_t1 = 1#1), ∀ (k0_h19 : k0_cond19 v1 k0_t1 = 1#1), ∀ a, (k0_off35 v1 k0_t1) a + S1.size a ≤ S2.size a) ∧
  (∀ k0_t1 : Fin (k0_t1_loop v1).trips, ∀ (k0_h18 : k0_cond18 v1 k0_t1 = 1#1), ∀ (k0_h19 : k0_cond19 v1 k0_t1 = 1#1), ∀ a, (k0_off36 v1 k0_t1) a + S1x1x64x656.size a ≤ S2x16x64x656.size a) ∧
  (∀ k0_t1 : Fin (k0_t1_loop v1).trips, ∀ (k0_h18 : k0_cond18 v1 k0_t1 = 1#1), ∀ (k0_h19 : k0_cond19 v1 k0_t1 = 1#1), ∀ (hinb : ∀ a, (k0_off36 v1 k0_t1) a + S1x1x64x656.size a ≤ S2x16x64x656.size a), (Rect.unit (s := S2x16x64x656) (k0_off36 v1 k0_t1) S1x1x64x656.size hinb).WholeWords (EltTy.packing .i8)) ∧
  (∀ k0_t1 : Fin (k0_t1_loop v1).trips, ∀ (k0_h18 : k0_cond18 v1 k0_t1 = 1#1), ∀ (k0_h20 : k0_cond20 v1 k0_t1 = 1#1), ∀ a, (k0_off38 i v1 k0_t1) a + S1x1.size a ≤ S65x128.size a) ∧
  (∀ k0_t1 : Fin (k0_t1_loop v1).trips, ∀ (k0_h18 : k0_cond18 v1 k0_t1 = 1#1), ∀ (k0_h20 : k0_cond20 v1 k0_t1 = 1#1), ∀ a, (k0_off39 v1 k0_t1) a + S1.size a ≤ S2.size a) ∧
  (∀ k0_t1 : Fin (k0_t1_loop v1).trips, ∀ (k0_h18 : k0_cond18 v1 k0_t1 = 1#1), ∀ (k0_h20 : k0_cond20 v1 k0_t1 = 1#1), ∀ a, (k0_off40 v1 k0_t1) a + S1x1x64x656.size a ≤ S2x16x64x656.size a) ∧
  (∀ k0_t1 : Fin (k0_t1_loop v1).trips, ∀ (k0_h18 : k0_cond18 v1 k0_t1 = 1#1), ∀ (k0_h20 : k0_cond20 v1 k0_t1 = 1#1), ∀ (hinb : ∀ a, (k0_off40 v1 k0_t1) a + S1x1x64x656.size a ≤ S2x16x64x656.size a), (Rect.unit (s := S2x16x64x656) (k0_off40 v1 k0_t1) S1x1x64x656.size hinb).WholeWords (EltTy.packing .i8)) ∧
  (∀ k0_t1 : Fin (k0_t1_loop v1).trips, ∀ (k0_h18 : k0_cond18 v1 k0_t1 = 1#1), ∀ (k0_h21 : k0_cond21 v1 k0_t1 = 1#1), ∀ a, (k0_off42 i v1 k0_t1) a + S1x1.size a ≤ S65x128.size a) ∧
  (∀ k0_t1 : Fin (k0_t1_loop v1).trips, ∀ (k0_h18 : k0_cond18 v1 k0_t1 = 1#1), ∀ (k0_h21 : k0_cond21 v1 k0_t1 = 1#1), ∀ a, (k0_off43 v1 k0_t1) a + S1.size a ≤ S2.size a) ∧
  (∀ k0_t1 : Fin (k0_t1_loop v1).trips, ∀ (k0_h18 : k0_cond18 v1 k0_t1 = 1#1), ∀ (k0_h21 : k0_cond21 v1 k0_t1 = 1#1), ∀ a, (k0_off44 v1 k0_t1) a + S1x1x64x656.size a ≤ S2x16x64x656.size a) ∧
  (∀ k0_t1 : Fin (k0_t1_loop v1).trips, ∀ (k0_h18 : k0_cond18 v1 k0_t1 = 1#1), ∀ (k0_h21 : k0_cond21 v1 k0_t1 = 1#1), ∀ (hinb : ∀ a, (k0_off44 v1 k0_t1) a + S1x1x64x656.size a ≤ S2x16x64x656.size a), (Rect.unit (s := S2x16x64x656) (k0_off44 v1 k0_t1) S1x1x64x656.size hinb).WholeWords (EltTy.packing .i8)) ∧
  (∀ k0_t1 : Fin (k0_t1_loop v1).trips, ∀ (k0_h18 : k0_cond18 v1 k0_t1 = 1#1), ∀ (k0_h22 : k0_cond22 v1 k0_t1 = 1#1), ∀ a, (k0_off46 i v1 k0_t1) a + S1x1.size a ≤ S65x128.size a) ∧
  (∀ k0_t1 : Fin (k0_t1_loop v1).trips, ∀ (k0_h18 : k0_cond18 v1 k0_t1 = 1#1), ∀ (k0_h22 : k0_cond22 v1 k0_t1 = 1#1), ∀ a, (k0_off47 v1 k0_t1) a + S1.size a ≤ S2.size a) ∧
  (∀ k0_t1 : Fin (k0_t1_loop v1).trips, ∀ (k0_h18 : k0_cond18 v1 k0_t1 = 1#1), ∀ (k0_h22 : k0_cond22 v1 k0_t1 = 1#1), ∀ a, (k0_off48 v1 k0_t1) a + S1x1x64x656.size a ≤ S2x16x64x656.size a) ∧
  (∀ k0_t1 : Fin (k0_t1_loop v1).trips, ∀ (k0_h18 : k0_cond18 v1 k0_t1 = 1#1), ∀ (k0_h22 : k0_cond22 v1 k0_t1 = 1#1), ∀ (hinb : ∀ a, (k0_off48 v1 k0_t1) a + S1x1x64x656.size a ≤ S2x16x64x656.size a), (Rect.unit (s := S2x16x64x656) (k0_off48 v1 k0_t1) S1x1x64x656.size hinb).WholeWords (EltTy.packing .i8)) ∧
  (∀ k0_t1 : Fin (k0_t1_loop v1).trips, ∀ (k0_h18 : k0_cond18 v1 k0_t1 = 1#1), ∀ (k0_h23 : k0_cond23 v1 k0_t1 = 1#1), ∀ a, (k0_off50 i v1 k0_t1) a + S1x1.size a ≤ S65x128.size a) ∧
  (∀ k0_t1 : Fin (k0_t1_loop v1).trips, ∀ (k0_h18 : k0_cond18 v1 k0_t1 = 1#1), ∀ (k0_h23 : k0_cond23 v1 k0_t1 = 1#1), ∀ a, (k0_off51 v1 k0_t1) a + S1.size a ≤ S2.size a) ∧
  (∀ k0_t1 : Fin (k0_t1_loop v1).trips, ∀ (k0_h18 : k0_cond18 v1 k0_t1 = 1#1), ∀ (k0_h23 : k0_cond23 v1 k0_t1 = 1#1), ∀ a, (k0_off52 v1 k0_t1) a + S1x1x64x656.size a ≤ S2x16x64x656.size a) ∧
  (∀ k0_t1 : Fin (k0_t1_loop v1).trips, ∀ (k0_h18 : k0_cond18 v1 k0_t1 = 1#1), ∀ (k0_h23 : k0_cond23 v1 k0_t1 = 1#1), ∀ (hinb : ∀ a, (k0_off52 v1 k0_t1) a + S1x1x64x656.size a ≤ S2x16x64x656.size a), (Rect.unit (s := S2x16x64x656) (k0_off52 v1 k0_t1) S1x1x64x656.size hinb).WholeWords (EltTy.packing .i8)) ∧
  (∀ k0_t1 : Fin (k0_t1_loop v1).trips, ∀ (k0_h18 : k0_cond18 v1 k0_t1 = 1#1), ∀ (k0_h24 : k0_cond24 v1 k0_t1 = 1#1), ∀ a, (k0_off54 i v1 k0_t1) a + S1x1.size a ≤ S65x128.size a) ∧
  (∀ k0_t1 : Fin (k0_t1_loop v1).trips, ∀ (k0_h18 : k0_cond18 v1 k0_t1 = 1#1), ∀ (k0_h24 : k0_cond24 v1 k0_t1 = 1#1), ∀ a, (k0_off55 v1 k0_t1) a + S1.size a ≤ S2.size a) ∧
  (∀ k0_t1 : Fin (k0_t1_loop v1).trips, ∀ (k0_h18 : k0_cond18 v1 k0_t1 = 1#1), ∀ (k0_h24 : k0_cond24 v1 k0_t1 = 1#1), ∀ a, (k0_off56 v1 k0_t1) a + S1x1x64x656.size a ≤ S2x16x64x656.size a) ∧
  (∀ k0_t1 : Fin (k0_t1_loop v1).trips, ∀ (k0_h18 : k0_cond18 v1 k0_t1 = 1#1), ∀ (k0_h24 : k0_cond24 v1 k0_t1 = 1#1), ∀ (hinb : ∀ a, (k0_off56 v1 k0_t1) a + S1x1x64x656.size a ≤ S2x16x64x656.size a), (Rect.unit (s := S2x16x64x656) (k0_off56 v1 k0_t1) S1x1x64x656.size hinb).WholeWords (EltTy.packing .i8)) ∧
  (∀ k0_t1 : Fin (k0_t1_loop v1).trips, ∀ (k0_h18 : k0_cond18 v1 k0_t1 = 1#1), ∀ (k0_h25 : k0_cond25 v1 k0_t1 = 1#1), ∀ a, (k0_off58 i v1 k0_t1) a + S1x1.size a ≤ S65x128.size a) ∧
  (∀ k0_t1 : Fin (k0_t1_loop v1).trips, ∀ (k0_h18 : k0_cond18 v1 k0_t1 = 1#1), ∀ (k0_h25 : k0_cond25 v1 k0_t1 = 1#1), ∀ a, (k0_off59 v1 k0_t1) a + S1.size a ≤ S2.size a) ∧
  (∀ k0_t1 : Fin (k0_t1_loop v1).trips, ∀ (k0_h18 : k0_cond18 v1 k0_t1 = 1#1), ∀ (k0_h25 : k0_cond25 v1 k0_t1 = 1#1), ∀ a, (k0_off60 v1 k0_t1) a + S1x1x64x656.size a ≤ S2x16x64x656.size a) ∧
  (∀ k0_t1 : Fin (k0_t1_loop v1).trips, ∀ (k0_h18 : k0_cond18 v1 k0_t1 = 1#1), ∀ (k0_h25 : k0_cond25 v1 k0_t1 = 1#1), ∀ (hinb : ∀ a, (k0_off60 v1 k0_t1) a + S1x1x64x656.size a ≤ S2x16x64x656.size a), (Rect.unit (s := S2x16x64x656) (k0_off60 v1 k0_t1) S1x1x64x656.size hinb).WholeWords (EltTy.packing .i8)) ∧
  (∀ k0_t1 : Fin (k0_t1_loop v1).trips, ∀ (k0_h18 : k0_cond18 v1 k0_t1 = 1#1), ∀ (k0_h26 : k0_cond26 v1 k0_t1 = 1#1), ∀ a, (k0_off62 i v1 k0_t1) a + S1x1.size a ≤ S65x128.size a) ∧
  (∀ k0_t1 : Fin (k0_t1_loop v1).trips, ∀ (k0_h18 : k0_cond18 v1 k0_t1 = 1#1), ∀ (k0_h26 : k0_cond26 v1 k0_t1 = 1#1), ∀ a, (k0_off63 v1 k0_t1) a + S1.size a ≤ S2.size a) ∧
  (∀ k0_t1 : Fin (k0_t1_loop v1).trips, ∀ (k0_h18 : k0_cond18 v1 k0_t1 = 1#1), ∀ (k0_h26 : k0_cond26 v1 k0_t1 = 1#1), ∀ a, (k0_off64 v1 k0_t1) a + S1x1x64x656.size a ≤ S2x16x64x656.size a)
def k0_chk17_1 (i : grid0.Coords) (v1 : BitVec 32) : Prop :=
  (∀ k0_t1 : Fin (k0_t1_loop v1).trips, ∀ (k0_h18 : k0_cond18 v1 k0_t1 = 1#1), ∀ (k0_h26 : k0_cond26 v1 k0_t1 = 1#1), ∀ (hinb : ∀ a, (k0_off64 v1 k0_t1) a + S1x1x64x656.size a ≤ S2x16x64x656.size a), (Rect.unit (s := S2x16x64x656) (k0_off64 v1 k0_t1) S1x1x64x656.size hinb).WholeWords (EltTy.packing .i8)) ∧
  (∀ k0_t1 : Fin (k0_t1_loop v1).trips, ∀ (k0_h18 : k0_cond18 v1 k0_t1 = 1#1), ∀ (k0_h27 : k0_cond27 v1 k0_t1 = 1#1), ∀ a, (k0_off66 i v1 k0_t1) a + S1x1.size a ≤ S65x128.size a) ∧
  (∀ k0_t1 : Fin (k0_t1_loop v1).trips, ∀ (k0_h18 : k0_cond18 v1 k0_t1 = 1#1), ∀ (k0_h27 : k0_cond27 v1 k0_t1 = 1#1), ∀ a, (k0_off67 v1 k0_t1) a + S1.size a ≤ S2.size a) ∧
  (∀ k0_t1 : Fin (k0_t1_loop v1).trips, ∀ (k0_h18 : k0_cond18 v1 k0_t1 = 1#1), ∀ (k0_h27 : k0_cond27 v1 k0_t1 = 1#1), ∀ a, (k0_off68 v1 k0_t1) a + S1x1x64x656.size a ≤ S2x16x64x656.size a) ∧
  (∀ k0_t1 : Fin (k0_t1_loop v1).trips, ∀ (k0_h18 : k0_cond18 v1 k0_t1 = 1#1), ∀ (k0_h27 : k0_cond27 v1 k0_t1 = 1#1), ∀ (hinb : ∀ a, (k0_off68 v1 k0_t1) a + S1x1x64x656.size a ≤ S2x16x64x656.size a), (Rect.unit (s := S2x16x64x656) (k0_off68 v1 k0_t1) S1x1x64x656.size hinb).WholeWords (EltTy.packing .i8)) ∧
  (∀ k0_t1 : Fin (k0_t1_loop v1).trips, ∀ (k0_h18 : k0_cond18 v1 k0_t1 = 1#1), ∀ (k0_h28 : k0_cond28 v1 k0_t1 = 1#1), ∀ a, (k0_off70 i v1 k0_t1) a + S1x1.size a ≤ S65x128.size a) ∧
  (∀ k0_t1 : Fin (k0_t1_loop v1).trips, ∀ (k0_h18 : k0_cond18 v1 k0_t1 = 1#1), ∀ (k0_h28 : k0_cond28 v1 k0_t1 = 1#1), ∀ a, (k0_off71 v1 k0_t1) a + S1.size a ≤ S2.size a) ∧
  (∀ k0_t1 : Fin (k0_t1_loop v1).trips, ∀ (k0_h18 : k0_cond18 v1 k0_t1 = 1#1), ∀ (k0_h28 : k0_cond28 v1 k0_t1 = 1#1), ∀ a, (k0_off72 v1 k0_t1) a + S1x1x64x656.size a ≤ S2x16x64x656.size a) ∧
  (∀ k0_t1 : Fin (k0_t1_loop v1).trips, ∀ (k0_h18 : k0_cond18 v1 k0_t1 = 1#1), ∀ (k0_h28 : k0_cond28 v1 k0_t1 = 1#1), ∀ (hinb : ∀ a, (k0_off72 v1 k0_t1) a + S1x1x64x656.size a ≤ S2x16x64x656.size a), (Rect.unit (s := S2x16x64x656) (k0_off72 v1 k0_t1) S1x1x64x656.size hinb).WholeWords (EltTy.packing .i8)) ∧
  (∀ k0_t1 : Fin (k0_t1_loop v1).trips, ∀ (k0_h18 : k0_cond18 v1 k0_t1 = 1#1), ∀ (k0_h29 : k0_cond29 v1 k0_t1 = 1#1), ∀ a, (k0_off74 i v1 k0_t1) a + S1x1.size a ≤ S65x128.size a) ∧
  (∀ k0_t1 : Fin (k0_t1_loop v1).trips, ∀ (k0_h18 : k0_cond18 v1 k0_t1 = 1#1), ∀ (k0_h29 : k0_cond29 v1 k0_t1 = 1#1), ∀ a, (k0_off75 v1 k0_t1) a + S1.size a ≤ S2.size a) ∧
  (∀ k0_t1 : Fin (k0_t1_loop v1).trips, ∀ (k0_h18 : k0_cond18 v1 k0_t1 = 1#1), ∀ (k0_h29 : k0_cond29 v1 k0_t1 = 1#1), ∀ a, (k0_off76 v1 k0_t1) a + S1x1x64x656.size a ≤ S2x16x64x656.size a) ∧
  (∀ k0_t1 : Fin (k0_t1_loop v1).trips, ∀ (k0_h18 : k0_cond18 v1 k0_t1 = 1#1), ∀ (k0_h29 : k0_cond29 v1 k0_t1 = 1#1), ∀ (hinb : ∀ a, (k0_off76 v1 k0_t1) a + S1x1x64x656.size a ≤ S2x16x64x656.size a), (Rect.unit (s := S2x16x64x656) (k0_off76 v1 k0_t1) S1x1x64x656.size hinb).WholeWords (EltTy.packing .i8)) ∧
  (∀ k0_t1 : Fin (k0_t1_loop v1).trips, ∀ (k0_h18 : k0_cond18 v1 k0_t1 = 1#1), ∀ (k0_h30 : k0_cond30 v1 k0_t1 = 1#1), ∀ a, (k0_off78 i v1 k0_t1) a + S1x1.size a ≤ S65x128.size a) ∧
  (∀ k0_t1 : Fin (k0_t1_loop v1).trips, ∀ (k0_h18 : k0_cond18 v1 k0_t1 = 1#1), ∀ (k0_h30 : k0_cond30 v1 k0_t1 = 1#1), ∀ a, (k0_off79 v1 k0_t1) a + S1.size a ≤ S2.size a) ∧
  (∀ k0_t1 : Fin (k0_t1_loop v1).trips, ∀ (k0_h18 : k0_cond18 v1 k0_t1 = 1#1), ∀ (k0_h30 : k0_cond30 v1 k0_t1 = 1#1), ∀ a, (k0_off80 v1 k0_t1) a + S1x1x64x656.size a ≤ S2x16x64x656.size a) ∧
  (∀ k0_t1 : Fin (k0_t1_loop v1).trips, ∀ (k0_h18 : k0_cond18 v1 k0_t1 = 1#1), ∀ (k0_h30 : k0_cond30 v1 k0_t1 = 1#1), ∀ (hinb : ∀ a, (k0_off80 v1 k0_t1) a + S1x1x64x656.size a ≤ S2x16x64x656.size a), (Rect.unit (s := S2x16x64x656) (k0_off80 v1 k0_t1) S1x1x64x656.size hinb).WholeWords (EltTy.packing .i8)) ∧
  (∀ k0_t1 : Fin (k0_t1_loop v1).trips, ∀ (k0_h18 : k0_cond18 v1 k0_t1 = 1#1), ∀ (k0_h31 : k0_cond31 v1 k0_t1 = 1#1), ∀ a, (k0_off82 i v1 k0_t1) a + S1x1.size a ≤ S65x128.size a) ∧
  (∀ k0_t1 : Fin (k0_t1_loop v1).trips, ∀ (k0_h18 : k0_cond18 v1 k0_t1 = 1#1), ∀ (k0_h31 : k0_cond31 v1 k0_t1 = 1#1), ∀ a, (k0_off83 v1 k0_t1) a + S1.size a ≤ S2.size a) ∧
  (∀ k0_t1 : Fin (k0_t1_loop v1).trips, ∀ (k0_h18 : k0_cond18 v1 k0_t1 = 1#1), ∀ (k0_h31 : k0_cond31 v1 k0_t1 = 1#1), ∀ a, (k0_off84 v1 k0_t1) a + S1x1x64x656.size a ≤ S2x16x64x656.size a) ∧
  (∀ k0_t1 : Fin (k0_t1_loop v1).trips, ∀ (k0_h18 : k0_cond18 v1 k0_t1 = 1#1), ∀ (k0_h31 : k0_cond31 v1 k0_t1 = 1#1), ∀ (hinb : ∀ a, (k0_off84 v1 k0_t1) a + S1x1x64x656.size a ≤ S2x16x64x656.size a), (Rect.unit (s := S2x16x64x656) (k0_off84 v1 k0_t1) S1x1x64x656.size hinb).WholeWords (EltTy.packing .i8)) ∧
  (∀ k0_t1 : Fin (k0_t1_loop v1).trips, ∀ (k0_h18 : k0_cond18 v1 k0_t1 = 1#1), ∀ (k0_h32 : k0_cond32 v1 k0_t1 = 1#1), ∀ a, (k0_off86 i v1 k0_t1) a + S1x1.size a ≤ S65x128.size a) ∧
  (∀ k0_t1 : Fin (k0_t1_loop v1).trips, ∀ (k0_h18 : k0_cond18 v1 k0_t1 = 1#1), ∀ (k0_h32 : k0_cond32 v1 k0_t1 = 1#1), ∀ a, (k0_off87 v1 k0_t1) a + S1.size a ≤ S2.size a) ∧
  (∀ k0_t1 : Fin (k0_t1_loop v1).trips, ∀ (k0_h18 : k0_cond18 v1 k0_t1 = 1#1), ∀ (k0_h32 : k0_cond32 v1 k0_t1 = 1#1), ∀ a, (k0_off88 v1 k0_t1) a + S1x1x64x656.size a ≤ S2x16x64x656.size a) ∧
  (∀ k0_t1 : Fin (k0_t1_loop v1).trips, ∀ (k0_h18 : k0_cond18 v1 k0_t1 = 1#1), ∀ (k0_h32 : k0_cond32 v1 k0_t1 = 1#1), ∀ (hinb : ∀ a, (k0_off88 v1 k0_t1) a + S1x1x64x656.size a ≤ S2x16x64x656.size a), (Rect.unit (s := S2x16x64x656) (k0_off88 v1 k0_t1) S1x1x64x656.size hinb).WholeWords (EltTy.packing .i8)) ∧
  (∀ k0_t1 : Fin (k0_t1_loop v1).trips, ∀ (k0_h18 : k0_cond18 v1 k0_t1 = 1#1), ∀ (k0_h33 : k0_cond33 v1 k0_t1 = 1#1), ∀ a, (k0_off90 i v1 k0_t1) a + S1x1.size a ≤ S65x128.size a) ∧
  (∀ k0_t1 : Fin (k0_t1_loop v1).trips, ∀ (k0_h18 : k0_cond18 v1 k0_t1 = 1#1), ∀ (k0_h33 : k0_cond33 v1 k0_t1 = 1#1), ∀ a, (k0_off91 v1 k0_t1) a + S1.size a ≤ S2.size a) ∧
  (∀ k0_t1 : Fin (k0_t1_loop v1).trips, ∀ (k0_h18 : k0_cond18 v1 k0_t1 = 1#1), ∀ (k0_h33 : k0_cond33 v1 k0_t1 = 1#1), ∀ a, (k0_off92 v1 k0_t1) a + S1x1x64x656.size a ≤ S2x16x64x656.size a) ∧
  (∀ k0_t1 : Fin (k0_t1_loop v1).trips, ∀ (k0_h18 : k0_cond18 v1 k0_t1 = 1#1), ∀ (k0_h33 : k0_cond33 v1 k0_t1 = 1#1), ∀ (hinb : ∀ a, (k0_off92 v1 k0_t1) a + S1x1x64x656.size a ≤ S2x16x64x656.size a), (Rect.unit (s := S2x16x64x656) (k0_off92 v1 k0_t1) S1x1x64x656.size hinb).WholeWords (EltTy.packing .i8)) ∧
  (∀ k0_t1 : Fin (k0_t1_loop v1).trips, ∀ (k0_h18 : k0_cond18 v1 k0_t1 = 1#1), ∀ (k0_h34 : k0_cond34 v1 k0_t1 = 1#1), ∀ a, (k0_off94 i v1 k0_t1) a + S1x1.size a ≤ S65x128.size a) ∧
  (∀ k0_t1 : Fin (k0_t1_loop v1).trips, ∀ (k0_h18 : k0_cond18 v1 k0_t1 = 1#1), ∀ (k0_h34 : k0_cond34 v1 k0_t1 = 1#1), ∀ a, (k0_off95 v1 k0_t1) a + S1.size a ≤ S2.size a) ∧
  (∀ k0_t1 : Fin (k0_t1_loop v1).trips, ∀ (k0_h18 : k0_cond18 v1 k0_t1 = 1#1), ∀ (k0_h34 : k0_cond34 v1 k0_t1 = 1#1), ∀ a, (k0_off96 v1 k0_t1) a + S1x1x64x656.size a ≤ S2x16x64x656.size a)
def k0_chk17_2 (i : grid0.Coords) (v1 : BitVec 32) : Prop :=
  (∀ k0_t1 : Fin (k0_t1_loop v1).trips, ∀ (k0_h18 : k0_cond18 v1 k0_t1 = 1#1), ∀ (k0_h34 : k0_cond34 v1 k0_t1 = 1#1), ∀ (hinb : ∀ a, (k0_off96 v1 k0_t1) a + S1x1x64x656.size a ≤ S2x16x64x656.size a), (Rect.unit (s := S2x16x64x656) (k0_off96 v1 k0_t1) S1x1x64x656.size hinb).WholeWords (EltTy.packing .i8)) ∧
  (∀ k0_t1 : Fin (k0_t1_loop v1).trips, ∀ (k0_h35 : k0_cond35 v1 k0_t1 = 1#1), ∀ a, (k0_off98 v1 k0_t1) a + S1.size a ≤ S2.size a) ∧
  (∀ k0_t1 : Fin (k0_t1_loop v1).trips, ∀ (k0_h35 : k0_cond35 v1 k0_t1 = 1#1), ∀ a, (k0_off99 v1 k0_t1) a + S1x1x64x656.size a ≤ S2x16x64x656.size a) ∧
  (∀ k0_t1 : Fin (k0_t1_loop v1).trips, ∀ (k0_h35 : k0_cond35 v1 k0_t1 = 1#1), ∀ (hinb : ∀ a, (k0_off99 v1 k0_t1) a + S1x1x64x656.size a ≤ S2x16x64x656.size a), (Rect.unit (s := S2x16x64x656) (k0_off99 v1 k0_t1) S1x1x64x656.size hinb).WholeWords (EltTy.packing .i8)) ∧
  (∀ k0_t1 : Fin (k0_t1_loop v1).trips, ∀ (k0_h36 : k0_cond36 v1 k0_t1 = 1#1), ∀ a, (k0_off100 v1 k0_t1) a + S1.size a ≤ S2.size a) ∧
  (∀ k0_t1 : Fin (k0_t1_loop v1).trips, ∀ (k0_h36 : k0_cond36 v1 k0_t1 = 1#1), ∀ a, (k0_off101 v1 k0_t1) a + S1x1x64x656.size a ≤ S2x16x64x656.size a) ∧
  (∀ k0_t1 : Fin (k0_t1_loop v1).trips, ∀ (k0_h36 : k0_cond36 v1 k0_t1 = 1#1), ∀ (hinb : ∀ a, (k0_off101 v1 k0_t1) a + S1x1x64x656.size a ≤ S2x16x64x656.size a), (Rect.unit (s := S2x16x64x656) (k0_off101 v1 k0_t1) S1x1x64x656.size hinb).WholeWords (EltTy.packing .i8)) ∧
  (∀ k0_t1 : Fin (k0_t1_loop v1).trips, ∀ (k0_h37 : k0_cond37 v1 k0_t1 = 1#1), ∀ a, (k0_off102 v1 k0_t1) a + S1.size a ≤ S2.size a) ∧
  (∀ k0_t1 : Fin (k0_t1_loop v1).trips, ∀ (k0_h37 : k0_cond37 v1 k0_t1 = 1#1), ∀ a, (k0_off103 v1 k0_t1) a + S1x1x64x656.size a ≤ S2x16x64x656.size a) ∧
  (∀ k0_t1 : Fin (k0_t1_loop v1).trips, ∀ (k0_h37 : k0_cond37 v1 k0_t1 = 1#1), ∀ (hinb : ∀ a, (k0_off103 v1 k0_t1) a + S1x1x64x656.size a ≤ S2x16x64x656.size a), (Rect.unit (s := S2x16x64x656) (k0_off103 v1 k0_t1) S1x1x64x656.size hinb).WholeWords (EltTy.packing .i8)) ∧
  (∀ k0_t1 : Fin (k0_t1_loop v1).trips, ∀ (k0_h38 : k0_cond38 v1 k0_t1 = 1#1), ∀ a, (k0_off104 v1 k0_t1) a + S1.size a ≤ S2.size a) ∧
  (∀ k0_t1 : Fin (k0_t1_loop v1).trips, ∀ (k0_h38 : k0_cond38 v1 k0_t1 = 1#1), ∀ a, (k0_off105 v1 k0_t1) a + S1x1x64x656.size a ≤ S2x16x64x656.size a) ∧
  (∀ k0_t1 : Fin (k0_t1_loop v1).trips, ∀ (k0_h38 : k0_cond38 v1 k0_t1 = 1#1), ∀ (hinb : ∀ a, (k0_off105 v1 k0_t1) a + S1x1x64x656.size a ≤ S2x16x64x656.size a), (Rect.unit (s := S2x16x64x656) (k0_off105 v1 k0_t1) S1x1x64x656.size hinb).WholeWords (EltTy.packing .i8)) ∧
  (∀ k0_t1 : Fin (k0_t1_loop v1).trips, ∀ (k0_h39 : k0_cond39 v1 k0_t1 = 1#1), ∀ a, (k0_off106 v1 k0_t1) a + S1.size a ≤ S2.size a) ∧
  (∀ k0_t1 : Fin (k0_t1_loop v1).trips, ∀ (k0_h39 : k0_cond39 v1 k0_t1 = 1#1), ∀ a, (k0_off107 v1 k0_t1) a + S1x1x64x656.size a ≤ S2x16x64x656.size a) ∧
  (∀ k0_t1 : Fin (k0_t1_loop v1).trips, ∀ (k0_h39 : k0_cond39 v1 k0_t1 = 1#1), ∀ (hinb : ∀ a, (k0_off107 v1 k0_t1) a + S1x1x64x656.size a ≤ S2x16x64x656.size a), (Rect.unit (s := S2x16x64x656) (k0_off107 v1 k0_t1) S1x1x64x656.size hinb).WholeWords (EltTy.packing .i8)) ∧
  (∀ k0_t1 : Fin (k0_t1_loop v1).trips, ∀ (k0_h40 : k0_cond40 v1 k0_t1 = 1#1), ∀ a, (k0_off108 v1 k0_t1) a + S1.size a ≤ S2.size a) ∧
  (∀ k0_t1 : Fin (k0_t1_loop v1).trips, ∀ (k0_h40 : k0_cond40 v1 k0_t1 = 1#1), ∀ a, (k0_off109 v1 k0_t1) a + S1x1x64x656.size a ≤ S2x16x64x656.size a) ∧
  (∀ k0_t1 : Fin (k0_t1_loop v1).trips, ∀ (k0_h40 : k0_cond40 v1 k0_t1 = 1#1), ∀ (hinb : ∀ a, (k0_off109 v1 k0_t1) a + S1x1x64x656.size a ≤ S2x16x64x656.size a), (Rect.unit (s := S2x16x64x656) (k0_off109 v1 k0_t1) S1x1x64x656.size hinb).WholeWords (EltTy.packing .i8)) ∧
  (∀ k0_t1 : Fin (k0_t1_loop v1).trips, ∀ (k0_h41 : k0_cond41 v1 k0_t1 = 1#1), ∀ a, (k0_off110 v1 k0_t1) a + S1.size a ≤ S2.size a) ∧
  (∀ k0_t1 : Fin (k0_t1_loop v1).trips, ∀ (k0_h41 : k0_cond41 v1 k0_t1 = 1#1), ∀ a, (k0_off111 v1 k0_t1) a + S1x1x64x656.size a ≤ S2x16x64x656.size a) ∧
  (∀ k0_t1 : Fin (k0_t1_loop v1).trips, ∀ (k0_h41 : k0_cond41 v1 k0_t1 = 1#1), ∀ (hinb : ∀ a, (k0_off111 v1 k0_t1) a + S1x1x64x656.size a ≤ S2x16x64x656.size a), (Rect.unit (s := S2x16x64x656) (k0_off111 v1 k0_t1) S1x1x64x656.size hinb).WholeWords (EltTy.packing .i8)) ∧
  (∀ k0_t1 : Fin (k0_t1_loop v1).trips, ∀ (k0_h42 : k0_cond42 v1 k0_t1 = 1#1), ∀ a, (k0_off112 v1 k0_t1) a + S1.size a ≤ S2.size a) ∧
  (∀ k0_t1 : Fin (k0_t1_loop v1).trips, ∀ (k0_h42 : k0_cond42 v1 k0_t1 = 1#1), ∀ a, (k0_off113 v1 k0_t1) a + S1x1x64x656.size a ≤ S2x16x64x656.size a) ∧
  (∀ k0_t1 : Fin (k0_t1_loop v1).trips, ∀ (k0_h42 : k0_cond42 v1 k0_t1 = 1#1), ∀ (hinb : ∀ a, (k0_off113 v1 k0_t1) a + S1x1x64x656.size a ≤ S2x16x64x656.size a), (Rect.unit (s := S2x16x64x656) (k0_off113 v1 k0_t1) S1x1x64x656.size hinb).WholeWords (EltTy.packing .i8)) ∧
  (∀ k0_t1 : Fin (k0_t1_loop v1).trips, ∀ (k0_h43 : k0_cond43 v1 k0_t1 = 1#1), ∀ a, (k0_off114 v1 k0_t1) a + S1.size a ≤ S2.size a) ∧
  (∀ k0_t1 : Fin (k0_t1_loop v1).trips, ∀ (k0_h43 : k0_cond43 v1 k0_t1 = 1#1), ∀ a, (k0_off115 v1 k0_t1) a + S1x1x64x656.size a ≤ S2x16x64x656.size a) ∧
  (∀ k0_t1 : Fin (k0_t1_loop v1).trips, ∀ (k0_h43 : k0_cond43 v1 k0_t1 = 1#1), ∀ (hinb : ∀ a, (k0_off115 v1 k0_t1) a + S1x1x64x656.size a ≤ S2x16x64x656.size a), (Rect.unit (s := S2x16x64x656) (k0_off115 v1 k0_t1) S1x1x64x656.size hinb).WholeWords (EltTy.packing .i8)) ∧
  (∀ k0_t1 : Fin (k0_t1_loop v1).trips, ∀ (k0_h44 : k0_cond44 v1 k0_t1 = 1#1), ∀ a, (k0_off116 v1 k0_t1) a + S1.size a ≤ S2.size a) ∧
  (∀ k0_t1 : Fin (k0_t1_loop v1).trips, ∀ (k0_h44 : k0_cond44 v1 k0_t1 = 1#1), ∀ a, (k0_off117 v1 k0_t1) a + S1x1x64x656.size a ≤ S2x16x64x656.size a) ∧
  (∀ k0_t1 : Fin (k0_t1_loop v1).trips, ∀ (k0_h44 : k0_cond44 v1 k0_t1 = 1#1), ∀ (hinb : ∀ a, (k0_off117 v1 k0_t1) a + S1x1x64x656.size a ≤ S2x16x64x656.size a), (Rect.unit (s := S2x16x64x656) (k0_off117 v1 k0_t1) S1x1x64x656.size hinb).WholeWords (EltTy.packing .i8)) ∧
  (∀ k0_t1 : Fin (k0_t1_loop v1).trips, ∀ (k0_h45 : k0_cond45 v1 k0_t1 = 1#1), ∀ a, (k0_off118 v1 k0_t1) a + S1.size a ≤ S2.size a)
def k0_chk17_3 (i : grid0.Coords) (v1 : BitVec 32) : Prop :=
  (∀ k0_t1 : Fin (k0_t1_loop v1).trips, ∀ (k0_h45 : k0_cond45 v1 k0_t1 = 1#1), ∀ a, (k0_off119 v1 k0_t1) a + S1x1x64x656.size a ≤ S2x16x64x656.size a) ∧
  (∀ k0_t1 : Fin (k0_t1_loop v1).trips, ∀ (k0_h45 : k0_cond45 v1 k0_t1 = 1#1), ∀ (hinb : ∀ a, (k0_off119 v1 k0_t1) a + S1x1x64x656.size a ≤ S2x16x64x656.size a), (Rect.unit (s := S2x16x64x656) (k0_off119 v1 k0_t1) S1x1x64x656.size hinb).WholeWords (EltTy.packing .i8)) ∧
  (∀ k0_t1 : Fin (k0_t1_loop v1).trips, ∀ (k0_h46 : k0_cond46 v1 k0_t1 = 1#1), ∀ a, (k0_off120 v1 k0_t1) a + S1.size a ≤ S2.size a) ∧
  (∀ k0_t1 : Fin (k0_t1_loop v1).trips, ∀ (k0_h46 : k0_cond46 v1 k0_t1 = 1#1), ∀ a, (k0_off121 v1 k0_t1) a + S1x1x64x656.size a ≤ S2x16x64x656.size a) ∧
  (∀ k0_t1 : Fin (k0_t1_loop v1).trips, ∀ (k0_h46 : k0_cond46 v1 k0_t1 = 1#1), ∀ (hinb : ∀ a, (k0_off121 v1 k0_t1) a + S1x1x64x656.size a ≤ S2x16x64x656.size a), (Rect.unit (s := S2x16x64x656) (k0_off121 v1 k0_t1) S1x1x64x656.size hinb).WholeWords (EltTy.packing .i8)) ∧
  (∀ k0_t1 : Fin (k0_t1_loop v1).trips, ∀ (k0_h47 : k0_cond47 v1 k0_t1 = 1#1), ∀ a, (k0_off122 v1 k0_t1) a + S1.size a ≤ S2.size a) ∧
  (∀ k0_t1 : Fin (k0_t1_loop v1).trips, ∀ (k0_h47 : k0_cond47 v1 k0_t1 = 1#1), ∀ a, (k0_off123 v1 k0_t1) a + S1x1x64x656.size a ≤ S2x16x64x656.size a) ∧
  (∀ k0_t1 : Fin (k0_t1_loop v1).trips, ∀ (k0_h47 : k0_cond47 v1 k0_t1 = 1#1), ∀ (hinb : ∀ a, (k0_off123 v1 k0_t1) a + S1x1x64x656.size a ≤ S2x16x64x656.size a), (Rect.unit (s := S2x16x64x656) (k0_off123 v1 k0_t1) S1x1x64x656.size hinb).WholeWords (EltTy.packing .i8)) ∧
  (∀ k0_t1 : Fin (k0_t1_loop v1).trips, ∀ (k0_h48 : k0_cond48 v1 k0_t1 = 1#1), ∀ a, (k0_off124 v1 k0_t1) a + S1.size a ≤ S2.size a) ∧
  (∀ k0_t1 : Fin (k0_t1_loop v1).trips, ∀ (k0_h48 : k0_cond48 v1 k0_t1 = 1#1), ∀ a, (k0_off125 v1 k0_t1) a + S1x1x64x656.size a ≤ S2x16x64x656.size a) ∧
  (∀ k0_t1 : Fin (k0_t1_loop v1).trips, ∀ (k0_h48 : k0_cond48 v1 k0_t1 = 1#1), ∀ (hinb : ∀ a, (k0_off125 v1 k0_t1) a + S1x1x64x656.size a ≤ S2x16x64x656.size a), (Rect.unit (s := S2x16x64x656) (k0_off125 v1 k0_t1) S1x1x64x656.size hinb).WholeWords (EltTy.packing .i8)) ∧
  (∀ k0_t1 : Fin (k0_t1_loop v1).trips, ∀ (k0_h49 : k0_cond49 v1 k0_t1 = 1#1), ∀ a, (k0_off126 v1 k0_t1) a + S1.size a ≤ S2.size a) ∧
  (∀ k0_t1 : Fin (k0_t1_loop v1).trips, ∀ (k0_h49 : k0_cond49 v1 k0_t1 = 1#1), ∀ a, (k0_off127 v1 k0_t1) a + S1x1x64x656.size a ≤ S2x16x64x656.size a) ∧
  (∀ k0_t1 : Fin (k0_t1_loop v1).trips, ∀ (k0_h49 : k0_cond49 v1 k0_t1 = 1#1), ∀ (hinb : ∀ a, (k0_off127 v1 k0_t1) a + S1x1x64x656.size a ≤ S2x16x64x656.size a), (Rect.unit (s := S2x16x64x656) (k0_off127 v1 k0_t1) S1x1x64x656.size hinb).WholeWords (EltTy.packing .i8)) ∧
  (∀ k0_t1 : Fin (k0_t1_loop v1).trips, ∀ (k0_h50 : k0_cond50 v1 k0_t1 = 1#1), ∀ a, (k0_off128 v1 k0_t1) a + S1.size a ≤ S2.size a) ∧
  (∀ k0_t1 : Fin (k0_t1_loop v1).trips, ∀ (k0_h50 : k0_cond50 v1 k0_t1 = 1#1), ∀ a, (k0_off129 v1 k0_t1) a + S1x1x64x656.size a ≤ S2x16x64x656.size a) ∧
  (∀ k0_t1 : Fin (k0_t1_loop v1).trips, ∀ (k0_h50 : k0_cond50 v1 k0_t1 = 1#1), ∀ (hinb : ∀ a, (k0_off129 v1 k0_t1) a + S1x1x64x656.size a ≤ S2x16x64x656.size a), (Rect.unit (s := S2x16x64x656) (k0_off129 v1 k0_t1) S1x1x64x656.size hinb).WholeWords (EltTy.packing .i8)) ∧
  (∀ k0_t1 : Fin (k0_t1_loop v1).trips, ∀ a, (k0_off130 v1 k0_t1) a + S1x16x64x656.size a ≤ S2x16x64x656.size a) ∧
  ((k0_t2_loop v1).OK) ∧
  (∀ k0_t2 : Fin (k0_t2_loop v1).trips, ∀ (k0_h51 : k0_cond51 v1 k0_t2 = 1#1), ∀ (k0_h52 : k0_cond52 v1 k0_t2 = 1#1), ∀ a, (k0_off131 i v1 k0_t2) a + S1x1.size a ≤ S65x128.size a) ∧
  (∀ k0_t2 : Fin (k0_t2_loop v1).trips, ∀ (k0_h51 : k0_cond51 v1 k0_t2 = 1#1), ∀ (k0_h52 : k0_cond52 v1 k0_t2 = 1#1), ∀ a, (k0_off132 v1 k0_t2) a + S1.size a ≤ S2.size a) ∧
  (∀ k0_t2 : Fin (k0_t2_loop v1).trips, ∀ (k0_h51 : k0_cond51 v1 k0_t2 = 1#1), ∀ (k0_h52 : k0_cond52 v1 k0_t2 = 1#1), ∀ a, (k0_off133 v1 k0_t2) a + S1x1x64x656.size a ≤ S2x16x64x656.size a) ∧
  (∀ k0_t2 : Fin (k0_t2_loop v1).trips, ∀ (k0_h51 : k0_cond51 v1 k0_t2 = 1#1), ∀ (k0_h52 : k0_cond52 v1 k0_t2 = 1#1), ∀ (hinb : ∀ a, (k0_off133 v1 k0_t2) a + S1x1x64x656.size a ≤ S2x16x64x656.size a), (Rect.unit (s := S2x16x64x656) (k0_off133 v1 k0_t2) S1x1x64x656.size hinb).WholeWords (EltTy.packing .i8)) ∧
  (∀ k0_t2 : Fin (k0_t2_loop v1).trips, ∀ (k0_h51 : k0_cond51 v1 k0_t2 = 1#1), ∀ (k0_h53 : k0_cond53 v1 k0_t2 = 1#1), ∀ a, (k0_off135 i v1 k0_t2) a + S1x1.size a ≤ S65x128.size a) ∧
  (∀ k0_t2 : Fin (k0_t2_loop v1).trips, ∀ (k0_h51 : k0_cond51 v1 k0_t2 = 1#1), ∀ (k0_h53 : k0_cond53 v1 k0_t2 = 1#1), ∀ a, (k0_off136 v1 k0_t2) a + S1.size a ≤ S2.size a) ∧
  (∀ k0_t2 : Fin (k0_t2_loop v1).trips, ∀ (k0_h51 : k0_cond51 v1 k0_t2 = 1#1), ∀ (k0_h53 : k0_cond53 v1 k0_t2 = 1#1), ∀ a, (k0_off137 v1 k0_t2) a + S1x1x64x656.size a ≤ S2x16x64x656.size a) ∧
  (∀ k0_t2 : Fin (k0_t2_loop v1).trips, ∀ (k0_h51 : k0_cond51 v1 k0_t2 = 1#1), ∀ (k0_h53 : k0_cond53 v1 k0_t2 = 1#1), ∀ (hinb : ∀ a, (k0_off137 v1 k0_t2) a + S1x1x64x656.size a ≤ S2x16x64x656.size a), (Rect.unit (s := S2x16x64x656) (k0_off137 v1 k0_t2) S1x1x64x656.size hinb).WholeWords (EltTy.packing .i8)) ∧
  (∀ k0_t2 : Fin (k0_t2_loop v1).trips, ∀ (k0_h51 : k0_cond51 v1 k0_t2 = 1#1), ∀ (k0_h54 : k0_cond54 v1 k0_t2 = 1#1), ∀ a, (k0_off139 i v1 k0_t2) a + S1x1.size a ≤ S65x128.size a) ∧
  (∀ k0_t2 : Fin (k0_t2_loop v1).trips, ∀ (k0_h51 : k0_cond51 v1 k0_t2 = 1#1), ∀ (k0_h54 : k0_cond54 v1 k0_t2 = 1#1), ∀ a, (k0_off140 v1 k0_t2) a + S1.size a ≤ S2.size a) ∧
  (∀ k0_t2 : Fin (k0_t2_loop v1).trips, ∀ (k0_h51 : k0_cond51 v1 k0_t2 = 1#1), ∀ (k0_h54 : k0_cond54 v1 k0_t2 = 1#1), ∀ a, (k0_off141 v1 k0_t2) a + S1x1x64x656.size a ≤ S2x16x64x656.size a) ∧
  (∀ k0_t2 : Fin (k0_t2_loop v1).trips, ∀ (k0_h51 : k0_cond51 v1 k0_t2 = 1#1), ∀ (k0_h54 : k0_cond54 v1 k0_t2 = 1#1), ∀ (hinb : ∀ a, (k0_off141 v1 k0_t2) a + S1x1x64x656.size a ≤ S2x16x64x656.size a), (Rect.unit (s := S2x16x64x656) (k0_off141 v1 k0_t2) S1x1x64x656.size hinb).WholeWords (EltTy.packing .i8)) ∧
  (∀ k0_t2 : Fin (k0_t2_loop v1).trips, ∀ (k0_h51 : k0_cond51 v1 k0_t2 = 1#1), ∀ (k0_h55 : k0_cond55 v1 k0_t2 = 1#1), ∀ a, (k0_off143 i v1 k0_t2) a + S1x1.size a ≤ S65x128.size a)
def k0_chk17_4 (i : grid0.Coords) (v1 : BitVec 32) : Prop :=
  (∀ k0_t2 : Fin (k0_t2_loop v1).trips, ∀ (k0_h51 : k0_cond51 v1 k0_t2 = 1#1), ∀ (k0_h55 : k0_cond55 v1 k0_t2 = 1#1), ∀ a, (k0_off144 v1 k0_t2) a + S1.size a ≤ S2.size a) ∧
  (∀ k0_t2 : Fin (k0_t2_loop v1).trips, ∀ (k0_h51 : k0_cond51 v1 k0_t2 = 1#1), ∀ (k0_h55 : k0_cond55 v1 k0_t2 = 1#1), ∀ a, (k0_off145 v1 k0_t2) a + S1x1x64x656.size a ≤ S2x16x64x656.size a) ∧
  (∀ k0_t2 : Fin (k0_t2_loop v1).trips, ∀ (k0_h51 : k0_cond51 v1 k0_t2 = 1#1), ∀ (k0_h55 : k0_cond55 v1 k0_t2 = 1#1), ∀ (hinb : ∀ a, (k0_off145 v1 k0_t2) a + S1x1x64x656.size a ≤ S2x16x64x656.size a), (Rect.unit (s := S2x16x64x656) (k0_off145 v1 k0_t2) S1x1x64x656.size hinb).WholeWords (EltTy.packing .i8)) ∧
  (∀ k0_t2 : Fin (k0_t2_loop v1).trips, ∀ (k0_h51 : k0_cond51 v1 k0_t2 = 1#1), ∀ (k0_h56 : k0_cond56 v1 k0_t2 = 1#1), ∀ a, (k0_off147 i v1 k0_t2) a + S1x1.size a ≤ S65x128.size a) ∧
  (∀ k0_t2 : Fin (k0_t2_loop v1).trips, ∀ (k0_h51 : k0_cond51 v1 k0_t2 = 1#1), ∀ (k0_h56 : k0_cond56 v1 k0_t2 = 1#1), ∀ a, (k0_off148 v1 k0_t2) a + S1.size a ≤ S2.size a) ∧
  (∀ k0_t2 : Fin (k0_t2_loop v1).trips, ∀ (k0_h51 : k0_cond51 v1 k0_t2 = 1#1), ∀ (k0_h56 : k0_cond56 v1 k0_t2 = 1#1), ∀ a, (k0_off149 v1 k0_t2) a + S1x1x64x656.size a ≤ S2x16x64x656.size a) ∧
  (∀ k0_t2 : Fin (k0_t2_loop v1).trips, ∀ (k0_h51 : k0_cond51 v1 k0_t2 = 1#1), ∀ (k0_h56 : k0_cond56 v1 k0_t2 = 1#1), ∀ (hinb : ∀ a, (k0_off149 v1 k0_t2) a + S1x1x64x656.size a ≤ S2x16x64x656.size a), (Rect.unit (s := S2x16x64x656) (k0_off149 v1 k0_t2) S1x1x64x656.size hinb).WholeWords (EltTy.packing .i8)) ∧
  (∀ k0_t2 : Fin (k0_t2_loop v1).trips, ∀ (k0_h51 : k0_cond51 v1 k0_t2 = 1#1), ∀ (k0_h57 : k0_cond57 v1 k0_t2 = 1#1), ∀ a, (k0_off151 i v1 k0_t2) a + S1x1.size a ≤ S65x128.size a) ∧
  (∀ k0_t2 : Fin (k0_t2_loop v1).trips, ∀ (k0_h51 : k0_cond51 v1 k0_t2 = 1#1), ∀ (k0_h57 : k0_cond57 v1 k0_t2 = 1#1), ∀ a, (k0_off152 v1 k0_t2) a + S1.size a ≤ S2.size a) ∧
  (∀ k0_t2 : Fin (k0_t2_loop v1).trips, ∀ (k0_h51 : k0_cond51 v1 k0_t2 = 1#1), ∀ (k0_h57 : k0_cond57 v1 k0_t2 = 1#1), ∀ a, (k0_off153 v1 k0_t2) a + S1x1x64x656.size a ≤ S2x16x64x656.size a) ∧
  (∀ k0_t2 : Fin (k0_t2_loop v1).trips, ∀ (k0_h51 : k0_cond51 v1 k0_t2 = 1#1), ∀ (k0_h57 : k0_cond57 v1 k0_t2 = 1#1), ∀ (hinb : ∀ a, (k0_off153 v1 k0_t2) a + S1x1x64x656.size a ≤ S2x16x64x656.size a), (Rect.unit (s := S2x16x64x656) (k0_off153 v1 k0_t2) S1x1x64x656.size hinb).WholeWords (EltTy.packing .i8)) ∧
  (∀ k0_t2 : Fin (k0_t2_loop v1).trips, ∀ (k0_h51 : k0_cond51 v1 k0_t2 = 1#1), ∀ (k0_h58 : k0_cond58 v1 k0_t2 = 1#1), ∀ a, (k0_off155 i v1 k0_t2) a + S1x1.size a ≤ S65x128.size a) ∧
  (∀ k0_t2 : Fin (k0_t2_loop v1).trips, ∀ (k0_h51 : k0_cond51 v1 k0_t2 = 1#1), ∀ (k0_h58 : k0_cond58 v1 k0_t2 = 1#1), ∀ a, (k0_off156 v1 k0_t2) a + S1.size a ≤ S2.size a) ∧
  (∀ k0_t2 : Fin (k0_t2_loop v1).trips, ∀ (k0_h51 : k0_cond51 v1 k0_t2 = 1#1), ∀ (k0_h58 : k0_cond58 v1 k0_t2 = 1#1), ∀ a, (k0_off157 v1 k0_t2) a + S1x1x64x656.size a ≤ S2x16x64x656.size a) ∧
  (∀ k0_t2 : Fin (k0_t2_loop v1).trips, ∀ (k0_h51 : k0_cond51 v1 k0_t2 = 1#1), ∀ (k0_h58 : k0_cond58 v1 k0_t2 = 1#1), ∀ (hinb : ∀ a, (k0_off157 v1 k0_t2) a + S1x1x64x656.size a ≤ S2x16x64x656.size a), (Rect.unit (s := S2x16x64x656) (k0_off157 v1 k0_t2) S1x1x64x656.size hinb).WholeWords (EltTy.packing .i8)) ∧
  (∀ k0_t2 : Fin (k0_t2_loop v1).trips, ∀ (k0_h51 : k0_cond51 v1 k0_t2 = 1#1), ∀ (k0_h59 : k0_cond59 v1 k0_t2 = 1#1), ∀ a, (k0_off159 i v1 k0_t2) a + S1x1.size a ≤ S65x128.size a) ∧
  (∀ k0_t2 : Fin (k0_t2_loop v1).trips, ∀ (k0_h51 : k0_cond51 v1 k0_t2 = 1#1), ∀ (k0_h59 : k0_cond59 v1 k0_t2 = 1#1), ∀ a, (k0_off160 v1 k0_t2) a + S1.size a ≤ S2.size a) ∧
  (∀ k0_t2 : Fin (k0_t2_loop v1).trips, ∀ (k0_h51 : k0_cond51 v1 k0_t2 = 1#1), ∀ (k0_h59 : k0_cond59 v1 k0_t2 = 1#1), ∀ a, (k0_off161 v1 k0_t2) a + S1x1x64x656.size a ≤ S2x16x64x656.size a) ∧
  (∀ k0_t2 : Fin (k0_t2_loop v1).trips, ∀ (k0_h51 : k0_cond51 v1 k0_t2 = 1#1), ∀ (k0_h59 : k0_cond59 v1 k0_t2 = 1#1), ∀ (hinb : ∀ a, (k0_off161 v1 k0_t2) a + S1x1x64x656.size a ≤ S2x16x64x656.size a), (Rect.unit (s := S2x16x64x656) (k0_off161 v1 k0_t2) S1x1x64x656.size hinb).WholeWords (EltTy.packing .i8)) ∧
  (∀ k0_t2 : Fin (k0_t2_loop v1).trips, ∀ (k0_h51 : k0_cond51 v1 k0_t2 = 1#1), ∀ (k0_h60 : k0_cond60 v1 k0_t2 = 1#1), ∀ a, (k0_off163 i v1 k0_t2) a + S1x1.size a ≤ S65x128.size a) ∧
  (∀ k0_t2 : Fin (k0_t2_loop v1).trips, ∀ (k0_h51 : k0_cond51 v1 k0_t2 = 1#1), ∀ (k0_h60 : k0_cond60 v1 k0_t2 = 1#1), ∀ a, (k0_off164 v1 k0_t2) a + S1.size a ≤ S2.size a) ∧
  (∀ k0_t2 : Fin (k0_t2_loop v1).trips, ∀ (k0_h51 : k0_cond51 v1 k0_t2 = 1#1), ∀ (k0_h60 : k0_cond60 v1 k0_t2 = 1#1), ∀ a, (k0_off165 v1 k0_t2) a + S1x1x64x656.size a ≤ S2x16x64x656.size a) ∧
  (∀ k0_t2 : Fin (k0_t2_loop v1).trips, ∀ (k0_h51 : k0_cond51 v1 k0_t2 = 1#1), ∀ (k0_h60 : k0_cond60 v1 k0_t2 = 1#1), ∀ (hinb : ∀ a, (k0_off165 v1 k0_t2) a + S1x1x64x656.size a ≤ S2x16x64x656.size a), (Rect.unit (s := S2x16x64x656) (k0_off165 v1 k0_t2) S1x1x64x656.size hinb).WholeWords (EltTy.packing .i8)) ∧
  (∀ k0_t2 : Fin (k0_t2_loop v1).trips, ∀ (k0_h51 : k0_cond51 v1 k0_t2 = 1#1), ∀ (k0_h61 : k0_cond61 v1 k0_t2 = 1#1), ∀ a, (k0_off167 i v1 k0_t2) a + S1x1.size a ≤ S65x128.size a) ∧
  (∀ k0_t2 : Fin (k0_t2_loop v1).trips, ∀ (k0_h51 : k0_cond51 v1 k0_t2 = 1#1), ∀ (k0_h61 : k0_cond61 v1 k0_t2 = 1#1), ∀ a, (k0_off168 v1 k0_t2) a + S1.size a ≤ S2.size a) ∧
  (∀ k0_t2 : Fin (k0_t2_loop v1).trips, ∀ (k0_h51 : k0_cond51 v1 k0_t2 = 1#1), ∀ (k0_h61 : k0_cond61 v1 k0_t2 = 1#1), ∀ a, (k0_off169 v1 k0_t2) a + S1x1x64x656.size a ≤ S2x16x64x656.size a) ∧
  (∀ k0_t2 : Fin (k0_t2_loop v1).trips, ∀ (k0_h51 : k0_cond51 v1 k0_t2 = 1#1), ∀ (k0_h61 : k0_cond61 v1 k0_t2 = 1#1), ∀ (hinb : ∀ a, (k0_off169 v1 k0_t2) a + S1x1x64x656.size a ≤ S2x16x64x656.size a), (Rect.unit (s := S2x16x64x656) (k0_off169 v1 k0_t2) S1x1x64x656.size hinb).WholeWords (EltTy.packing .i8)) ∧
  (∀ k0_t2 : Fin (k0_t2_loop v1).trips, ∀ (k0_h51 : k0_cond51 v1 k0_t2 = 1#1), ∀ (k0_h62 : k0_cond62 v1 k0_t2 = 1#1), ∀ a, (k0_off171 i v1 k0_t2) a + S1x1.size a ≤ S65x128.size a) ∧
  (∀ k0_t2 : Fin (k0_t2_loop v1).trips, ∀ (k0_h51 : k0_cond51 v1 k0_t2 = 1#1), ∀ (k0_h62 : k0_cond62 v1 k0_t2 = 1#1), ∀ a, (k0_off172 v1 k0_t2) a + S1.size a ≤ S2.size a) ∧
  (∀ k0_t2 : Fin (k0_t2_loop v1).trips, ∀ (k0_h51 : k0_cond51 v1 k0_t2 = 1#1), ∀ (k0_h62 : k0_cond62 v1 k0_t2 = 1#1), ∀ a, (k0_off173 v1 k0_t2) a + S1x1x64x656.size a ≤ S2x16x64x656.size a) ∧
  (∀ k0_t2 : Fin (k0_t2_loop v1).trips, ∀ (k0_h51 : k0_cond51 v1 k0_t2 = 1#1), ∀ (k0_h62 : k0_cond62 v1 k0_t2 = 1#1), ∀ (hinb : ∀ a, (k0_off173 v1 k0_t2) a + S1x1x64x656.size a ≤ S2x16x64x656.size a), (Rect.unit (s := S2x16x64x656) (k0_off173 v1 k0_t2) S1x1x64x656.size hinb).WholeWords (EltTy.packing .i8)) ∧
  (∀ k0_t2 : Fin (k0_t2_loop v1).trips, ∀ (k0_h51 : k0_cond51 v1 k0_t2 = 1#1), ∀ (k0_h63 : k0_cond63 v1 k0_t2 = 1#1), ∀ a, (k0_off175 i v1 k0_t2) a + S1x1.size a ≤ S65x128.size a)
def k0_chk17_5 (i : grid0.Coords) (v1 : BitVec 32) : Prop :=
  (∀ k0_t2 : Fin (k0_t2_loop v1).trips, ∀ (k0_h51 : k0_cond51 v1 k0_t2 = 1#1), ∀ (k0_h63 : k0_cond63 v1 k0_t2 = 1#1), ∀ a, (k0_off176 v1 k0_t2) a + S1.size a ≤ S2.size a) ∧
  (∀ k0_t2 : Fin (k0_t2_loop v1).trips, ∀ (k0_h51 : k0_cond51 v1 k0_t2 = 1#1), ∀ (k0_h63 : k0_cond63 v1 k0_t2 = 1#1), ∀ a, (k0_off177 v1 k0_t2) a + S1x1x64x656.size a ≤ S2x16x64x656.size a) ∧
  (∀ k0_t2 : Fin (k0_t2_loop v1).trips, ∀ (k0_h51 : k0_cond51 v1 k0_t2 = 1#1), ∀ (k0_h63 : k0_cond63 v1 k0_t2 = 1#1), ∀ (hinb : ∀ a, (k0_off177 v1 k0_t2) a + S1x1x64x656.size a ≤ S2x16x64x656.size a), (Rect.unit (s := S2x16x64x656) (k0_off177 v1 k0_t2) S1x1x64x656.size hinb).WholeWords (EltTy.packing .i8)) ∧
  (∀ k0_t2 : Fin (k0_t2_loop v1).trips, ∀ (k0_h51 : k0_cond51 v1 k0_t2 = 1#1), ∀ (k0_h64 : k0_cond64 v1 k0_t2 = 1#1), ∀ a, (k0_off179 i v1 k0_t2) a + S1x1.size a ≤ S65x128.size a) ∧
  (∀ k0_t2 : Fin (k0_t2_loop v1).trips, ∀ (k0_h51 : k0_cond51 v1 k0_t2 = 1#1), ∀ (k0_h64 : k0_cond64 v1 k0_t2 = 1#1), ∀ a, (k0_off180 v1 k0_t2) a + S1.size a ≤ S2.size a) ∧
  (∀ k0_t2 : Fin (k0_t2_loop v1).trips, ∀ (k0_h51 : k0_cond51 v1 k0_t2 = 1#1), ∀ (k0_h64 : k0_cond64 v1 k0_t2 = 1#1), ∀ a, (k0_off181 v1 k0_t2) a + S1x1x64x656.size a ≤ S2x16x64x656.size a) ∧
  (∀ k0_t2 : Fin (k0_t2_loop v1).trips, ∀ (k0_h51 : k0_cond51 v1 k0_t2 = 1#1), ∀ (k0_h64 : k0_cond64 v1 k0_t2 = 1#1), ∀ (hinb : ∀ a, (k0_off181 v1 k0_t2) a + S1x1x64x656.size a ≤ S2x16x64x656.size a), (Rect.unit (s := S2x16x64x656) (k0_off181 v1 k0_t2) S1x1x64x656.size hinb).WholeWords (EltTy.packing .i8)) ∧
  (∀ k0_t2 : Fin (k0_t2_loop v1).trips, ∀ (k0_h51 : k0_cond51 v1 k0_t2 = 1#1), ∀ (k0_h65 : k0_cond65 v1 k0_t2 = 1#1), ∀ a, (k0_off183 i v1 k0_t2) a + S1x1.size a ≤ S65x128.size a) ∧
  (∀ k0_t2 : Fin (k0_t2_loop v1).trips, ∀ (k0_h51 : k0_cond51 v1 k0_t2 = 1#1), ∀ (k0_h65 : k0_cond65 v1 k0_t2 = 1#1), ∀ a, (k0_off184 v1 k0_t2) a + S1.size a ≤ S2.size a) ∧
  (∀ k0_t2 : Fin (k0_t2_loop v1).trips, ∀ (k0_h51 : k0_cond51 v1 k0_t2 = 1#1), ∀ (k0_h65 : k0_cond65 v1 k0_t2 = 1#1), ∀ a, (k0_off185 v1 k0_t2) a + S1x1x64x656.size a ≤ S2x16x64x656.size a) ∧
  (∀ k0_t2 : Fin (k0_t2_loop v1).trips, ∀ (k0_h51 : k0_cond51 v1 k0_t2 = 1#1), ∀ (k0_h65 : k0_cond65 v1 k0_t2 = 1#1), ∀ (hinb : ∀ a, (k0_off185 v1 k0_t2) a + S1x1x64x656.size a ≤ S2x16x64x656.size a), (Rect.unit (s := S2x16x64x656) (k0_off185 v1 k0_t2) S1x1x64x656.size hinb).WholeWords (EltTy.packing .i8)) ∧
  (∀ k0_t2 : Fin (k0_t2_loop v1).trips, ∀ (k0_h51 : k0_cond51 v1 k0_t2 = 1#1), ∀ (k0_h66 : k0_cond66 v1 k0_t2 = 1#1), ∀ a, (k0_off187 i v1 k0_t2) a + S1x1.size a ≤ S65x128.size a) ∧
  (∀ k0_t2 : Fin (k0_t2_loop v1).trips, ∀ (k0_h51 : k0_cond51 v1 k0_t2 = 1#1), ∀ (k0_h66 : k0_cond66 v1 k0_t2 = 1#1), ∀ a, (k0_off188 v1 k0_t2) a + S1.size a ≤ S2.size a) ∧
  (∀ k0_t2 : Fin (k0_t2_loop v1).trips, ∀ (k0_h51 : k0_cond51 v1 k0_t2 = 1#1), ∀ (k0_h66 : k0_cond66 v1 k0_t2 = 1#1), ∀ a, (k0_off189 v1 k0_t2) a + S1x1x64x656.size a ≤ S2x16x64x656.size a) ∧
  (∀ k0_t2 : Fin (k0_t2_loop v1).trips, ∀ (k0_h51 : k0_cond51 v1 k0_t2 = 1#1), ∀ (k0_h66 : k0_cond66 v1 k0_t2 = 1#1), ∀ (hinb : ∀ a, (k0_off189 v1 k0_t2) a + S1x1x64x656.size a ≤ S2x16x64x656.size a), (Rect.unit (s := S2x16x64x656) (k0_off189 v1 k0_t2) S1x1x64x656.size hinb).WholeWords (EltTy.packing .i8)) ∧
  (∀ k0_t2 : Fin (k0_t2_loop v1).trips, ∀ (k0_h51 : k0_cond51 v1 k0_t2 = 1#1), ∀ (k0_h67 : k0_cond67 v1 k0_t2 = 1#1), ∀ a, (k0_off191 i v1 k0_t2) a + S1x1.size a ≤ S65x128.size a) ∧
  (∀ k0_t2 : Fin (k0_t2_loop v1).trips, ∀ (k0_h51 : k0_cond51 v1 k0_t2 = 1#1), ∀ (k0_h67 : k0_cond67 v1 k0_t2 = 1#1), ∀ a, (k0_off192 v1 k0_t2) a + S1.size a ≤ S2.size a) ∧
  (∀ k0_t2 : Fin (k0_t2_loop v1).trips, ∀ (k0_h51 : k0_cond51 v1 k0_t2 = 1#1), ∀ (k0_h67 : k0_cond67 v1 k0_t2 = 1#1), ∀ a, (k0_off193 v1 k0_t2) a + S1x1x64x656.size a ≤ S2x16x64x656.size a) ∧
  (∀ k0_t2 : Fin (k0_t2_loop v1).trips, ∀ (k0_h51 : k0_cond51 v1 k0_t2 = 1#1), ∀ (k0_h67 : k0_cond67 v1 k0_t2 = 1#1), ∀ (hinb : ∀ a, (k0_off193 v1 k0_t2) a + S1x1x64x656.size a ≤ S2x16x64x656.size a), (Rect.unit (s := S2x16x64x656) (k0_off193 v1 k0_t2) S1x1x64x656.size hinb).WholeWords (EltTy.packing .i8)) ∧
  (∀ k0_t2 : Fin (k0_t2_loop v1).trips, ∀ (k0_h68 : k0_cond68 v1 k0_t2 = 1#1), ∀ a, (k0_off195 v1 k0_t2) a + S1.size a ≤ S2.size a) ∧
  (∀ k0_t2 : Fin (k0_t2_loop v1).trips, ∀ (k0_h68 : k0_cond68 v1 k0_t2 = 1#1), ∀ a, (k0_off196 v1 k0_t2) a + S1x1x64x656.size a ≤ S2x16x64x656.size a) ∧
  (∀ k0_t2 : Fin (k0_t2_loop v1).trips, ∀ (k0_h68 : k0_cond68 v1 k0_t2 = 1#1), ∀ (hinb : ∀ a, (k0_off196 v1 k0_t2) a + S1x1x64x656.size a ≤ S2x16x64x656.size a), (Rect.unit (s := S2x16x64x656) (k0_off196 v1 k0_t2) S1x1x64x656.size hinb).WholeWords (EltTy.packing .i8)) ∧
  (∀ k0_t2 : Fin (k0_t2_loop v1).trips, ∀ (k0_h69 : k0_cond69 v1 k0_t2 = 1#1), ∀ a, (k0_off197 v1 k0_t2) a + S1.size a ≤ S2.size a) ∧
  (∀ k0_t2 : Fin (k0_t2_loop v1).trips, ∀ (k0_h69 : k0_cond69 v1 k0_t2 = 1#1), ∀ a, (k0_off198 v1 k0_t2) a + S1x1x64x656.size a ≤ S2x16x64x656.size a) ∧
  (∀ k0_t2 : Fin (k0_t2_loop v1).trips, ∀ (k0_h69 : k0_cond69 v1 k0_t2 = 1#1), ∀ (hinb : ∀ a, (k0_off198 v1 k0_t2) a + S1x1x64x656.size a ≤ S2x16x64x656.size a), (Rect.unit (s := S2x16x64x656) (k0_off198 v1 k0_t2) S1x1x64x656.size hinb).WholeWords (EltTy.packing .i8)) ∧
  (∀ k0_t2 : Fin (k0_t2_loop v1).trips, ∀ (k0_h70 : k0_cond70 v1 k0_t2 = 1#1), ∀ a, (k0_off199 v1 k0_t2) a + S1.size a ≤ S2.size a) ∧
  (∀ k0_t2 : Fin (k0_t2_loop v1).trips, ∀ (k0_h70 : k0_cond70 v1 k0_t2 = 1#1), ∀ a, (k0_off200 v1 k0_t2) a + S1x1x64x656.size a ≤ S2x16x64x656.size a) ∧
  (∀ k0_t2 : Fin (k0_t2_loop v1).trips, ∀ (k0_h70 : k0_cond70 v1 k0_t2 = 1#1), ∀ (hinb : ∀ a, (k0_off200 v1 k0_t2) a + S1x1x64x656.size a ≤ S2x16x64x656.size a), (Rect.unit (s := S2x16x64x656) (k0_off200 v1 k0_t2) S1x1x64x656.size hinb).WholeWords (EltTy.packing .i8)) ∧
  (∀ k0_t2 : Fin (k0_t2_loop v1).trips, ∀ (k0_h71 : k0_cond71 v1 k0_t2 = 1#1), ∀ a, (k0_off201 v1 k0_t2) a + S1.size a ≤ S2.size a) ∧
  (∀ k0_t2 : Fin (k0_t2_loop v1).trips, ∀ (k0_h71 : k0_cond71 v1 k0_t2 = 1#1), ∀ a, (k0_off202 v1 k0_t2) a + S1x1x64x656.size a ≤ S2x16x64x656.size a) ∧
  (∀ k0_t2 : Fin (k0_t2_loop v1).trips, ∀ (k0_h71 : k0_cond71 v1 k0_t2 = 1#1), ∀ (hinb : ∀ a, (k0_off202 v1 k0_t2) a + S1x1x64x656.size a ≤ S2x16x64x656.size a), (Rect.unit (s := S2x16x64x656) (k0_off202 v1 k0_t2) S1x1x64x656.size hinb).WholeWords (EltTy.packing .i8)) ∧
  (∀ k0_t2 : Fin (k0_t2_loop v1).trips, ∀ (k0_h72 : k0_cond72 v1 k0_t2 = 1#1), ∀ a, (k0_off203 v1 k0_t2) a + S1.size a ≤ S2.size a)
def k0_chk17_6 (i : grid0.Coords) (v1 : BitVec 32) : Prop :=
  (∀ k0_t2 : Fin (k0_t2_loop v1).trips, ∀ (k0_h72 : k0_cond72 v1 k0_t2 = 1#1), ∀ a, (k0_off204 v1 k0_t2) a + S1x1x64x656.size a ≤ S2x16x64x656.size a) ∧
  (∀ k0_t2 : Fin (k0_t2_loop v1).trips, ∀ (k0_h72 : k0_cond72 v1 k0_t2 = 1#1), ∀ (hinb : ∀ a, (k0_off204 v1 k0_t2) a + S1x1x64x656.size a ≤ S2x16x64x656.size a), (Rect.unit (s := S2x16x64x656) (k0_off204 v1 k0_t2) S1x1x64x656.size hinb).WholeWords (EltTy.packing .i8)) ∧
  (∀ k0_t2 : Fin (k0_t2_loop v1).trips, ∀ (k0_h73 : k0_cond73 v1 k0_t2 = 1#1), ∀ a, (k0_off205 v1 k0_t2) a + S1.size a ≤ S2.size a) ∧
  (∀ k0_t2 : Fin (k0_t2_loop v1).trips, ∀ (k0_h73 : k0_cond73 v1 k0_t2 = 1#1), ∀ a, (k0_off206 v1 k0_t2) a + S1x1x64x656.size a ≤ S2x16x64x656.size a) ∧
  (∀ k0_t2 : Fin (k0_t2_loop v1).trips, ∀ (k0_h73 : k0_cond73 v1 k0_t2 = 1#1), ∀ (hinb : ∀ a, (k0_off206 v1 k0_t2) a + S1x1x64x656.size a ≤ S2x16x64x656.size a), (Rect.unit (s := S2x16x64x656) (k0_off206 v1 k0_t2) S1x1x64x656.size hinb).WholeWords (EltTy.packing .i8)) ∧
  (∀ k0_t2 : Fin (k0_t2_loop v1).trips, ∀ (k0_h74 : k0_cond74 v1 k0_t2 = 1#1), ∀ a, (k0_off207 v1 k0_t2) a + S1.size a ≤ S2.size a) ∧
  (∀ k0_t2 : Fin (k0_t2_loop v1).trips, ∀ (k0_h74 : k0_cond74 v1 k0_t2 = 1#1), ∀ a, (k0_off208 v1 k0_t2) a + S1x1x64x656.size a ≤ S2x16x64x656.size a) ∧
  (∀ k0_t2 : Fin (k0_t2_loop v1).trips, ∀ (k0_h74 : k0_cond74 v1 k0_t2 = 1#1), ∀ (hinb : ∀ a, (k0_off208 v1 k0_t2) a + S1x1x64x656.size a ≤ S2x16x64x656.size a), (Rect.unit (s := S2x16x64x656) (k0_off208 v1 k0_t2) S1x1x64x656.size hinb).WholeWords (EltTy.packing .i8)) ∧
  (∀ k0_t2 : Fin (k0_t2_loop v1).trips, ∀ (k0_h75 : k0_cond75 v1 k0_t2 = 1#1), ∀ a, (k0_off209 v1 k0_t2) a + S1.size a ≤ S2.size a) ∧
  (∀ k0_t2 : Fin (k0_t2_loop v1).trips, ∀ (k0_h75 : k0_cond75 v1 k0_t2 = 1#1), ∀ a, (k0_off210 v1 k0_t2) a + S1x1x64x656.size a ≤ S2x16x64x656.size a) ∧
  (∀ k0_t2 : Fin (k0_t2_loop v1).trips, ∀ (k0_h75 : k0_cond75 v1 k0_t2 = 1#1), ∀ (hinb : ∀ a, (k0_off210 v1 k0_t2) a + S1x1x64x656.size a ≤ S2x16x64x656.size a), (Rect.unit (s := S2x16x64x656) (k0_off210 v1 k0_t2) S1x1x64x656.size hinb).WholeWords (EltTy.packing .i8)) ∧
  (∀ k0_t2 : Fin (k0_t2_loop v1).trips, ∀ (k0_h76 : k0_cond76 v1 k0_t2 = 1#1), ∀ a, (k0_off211 v1 k0_t2) a + S1.size a ≤ S2.size a) ∧
  (∀ k0_t2 : Fin (k0_t2_loop v1).trips, ∀ (k0_h76 : k0_cond76 v1 k0_t2 = 1#1), ∀ a, (k0_off212 v1 k0_t2) a + S1x1x64x656.size a ≤ S2x16x64x656.size a) ∧
  (∀ k0_t2 : Fin (k0_t2_loop v1).trips, ∀ (k0_h76 : k0_cond76 v1 k0_t2 = 1#1), ∀ (hinb : ∀ a, (k0_off212 v1 k0_t2) a + S1x1x64x656.size a ≤ S2x16x64x656.size a), (Rect.unit (s := S2x16x64x656) (k0_off212 v1 k0_t2) S1x1x64x656.size hinb).WholeWords (EltTy.packing .i8)) ∧
  (∀ k0_t2 : Fin (k0_t2_loop v1).trips, ∀ (k0_h77 : k0_cond77 v1 k0_t2 = 1#1), ∀ a, (k0_off213 v1 k0_t2) a + S1.size a ≤ S2.size a) ∧
  (∀ k0_t2 : Fin (k0_t2_loop v1).trips, ∀ (k0_h77 : k0_cond77 v1 k0_t2 = 1#1), ∀ a, (k0_off214 v1 k0_t2) a + S1x1x64x656.size a ≤ S2x16x64x656.size a) ∧
  (∀ k0_t2 : Fin (k0_t2_loop v1).trips, ∀ (k0_h77 : k0_cond77 v1 k0_t2 = 1#1), ∀ (hinb : ∀ a, (k0_off214 v1 k0_t2) a + S1x1x64x656.size a ≤ S2x16x64x656.size a), (Rect.unit (s := S2x16x64x656) (k0_off214 v1 k0_t2) S1x1x64x656.size hinb).WholeWords (EltTy.packing .i8)) ∧
  (∀ k0_t2 : Fin (k0_t2_loop v1).trips, ∀ (k0_h78 : k0_cond78 v1 k0_t2 = 1#1), ∀ a, (k0_off215 v1 k0_t2) a + S1.size a ≤ S2.size a) ∧
  (∀ k0_t2 : Fin (k0_t2_loop v1).trips, ∀ (k0_h78 : k0_cond78 v1 k0_t2 = 1#1), ∀ a, (k0_off216 v1 k0_t2) a + S1x1x64x656.size a ≤ S2x16x64x656.size a) ∧
  (∀ k0_t2 : Fin (k0_t2_loop v1).trips, ∀ (k0_h78 : k0_cond78 v1 k0_t2 = 1#1), ∀ (hinb : ∀ a, (k0_off216 v1 k0_t2) a + S1x1x64x656.size a ≤ S2x16x64x656.size a), (Rect.unit (s := S2x16x64x656) (k0_off216 v1 k0_t2) S1x1x64x656.size hinb).WholeWords (EltTy.packing .i8)) ∧
  (∀ k0_t2 : Fin (k0_t2_loop v1).trips, ∀ (k0_h79 : k0_cond79 v1 k0_t2 = 1#1), ∀ a, (k0_off217 v1 k0_t2) a + S1.size a ≤ S2.size a) ∧
  (∀ k0_t2 : Fin (k0_t2_loop v1).trips, ∀ (k0_h79 : k0_cond79 v1 k0_t2 = 1#1), ∀ a, (k0_off218 v1 k0_t2) a + S1x1x64x656.size a ≤ S2x16x64x656.size a) ∧
  (∀ k0_t2 : Fin (k0_t2_loop v1).trips, ∀ (k0_h79 : k0_cond79 v1 k0_t2 = 1#1), ∀ (hinb : ∀ a, (k0_off218 v1 k0_t2) a + S1x1x64x656.size a ≤ S2x16x64x656.size a), (Rect.unit (s := S2x16x64x656) (k0_off218 v1 k0_t2) S1x1x64x656.size hinb).WholeWords (EltTy.packing .i8)) ∧
  (∀ k0_t2 : Fin (k0_t2_loop v1).trips, ∀ (k0_h80 : k0_cond80 v1 k0_t2 = 1#1), ∀ a, (k0_off219 v1 k0_t2) a + S1.size a ≤ S2.size a) ∧
  (∀ k0_t2 : Fin (k0_t2_loop v1).trips, ∀ (k0_h80 : k0_cond80 v1 k0_t2 = 1#1), ∀ a, (k0_off220 v1 k0_t2) a + S1x1x64x656.size a ≤ S2x16x64x656.size a) ∧
  (∀ k0_t2 : Fin (k0_t2_loop v1).trips, ∀ (k0_h80 : k0_cond80 v1 k0_t2 = 1#1), ∀ (hinb : ∀ a, (k0_off220 v1 k0_t2) a + S1x1x64x656.size a ≤ S2x16x64x656.size a), (Rect.unit (s := S2x16x64x656) (k0_off220 v1 k0_t2) S1x1x64x656.size hinb).WholeWords (EltTy.packing .i8)) ∧
  (∀ k0_t2 : Fin (k0_t2_loop v1).trips, ∀ (k0_h81 : k0_cond81 v1 k0_t2 = 1#1), ∀ a, (k0_off221 v1 k0_t2) a + S1.size a ≤ S2.size a) ∧
  (∀ k0_t2 : Fin (k0_t2_loop v1).trips, ∀ (k0_h81 : k0_cond81 v1 k0_t2 = 1#1), ∀ a, (k0_off222 v1 k0_t2) a + S1x1x64x656.size a ≤ S2x16x64x656.size a) ∧
  (∀ k0_t2 : Fin (k0_t2_loop v1).trips, ∀ (k0_h81 : k0_cond81 v1 k0_t2 = 1#1), ∀ (hinb : ∀ a, (k0_off222 v1 k0_t2) a + S1x1x64x656.size a ≤ S2x16x64x656.size a), (Rect.unit (s := S2x16x64x656) (k0_off222 v1 k0_t2) S1x1x64x656.size hinb).WholeWords (EltTy.packing .i8)) ∧
  (∀ k0_t2 : Fin (k0_t2_loop v1).trips, ∀ (k0_h82 : k0_cond82 v1 k0_t2 = 1#1), ∀ a, (k0_off223 v1 k0_t2) a + S1.size a ≤ S2.size a) ∧
  (∀ k0_t2 : Fin (k0_t2_loop v1).trips, ∀ (k0_h82 : k0_cond82 v1 k0_t2 = 1#1), ∀ a, (k0_off224 v1 k0_t2) a + S1x1x64x656.size a ≤ S2x16x64x656.size a) ∧
  (∀ k0_t2 : Fin (k0_t2_loop v1).trips, ∀ (k0_h82 : k0_cond82 v1 k0_t2 = 1#1), ∀ (hinb : ∀ a, (k0_off224 v1 k0_t2) a + S1x1x64x656.size a ≤ S2x16x64x656.size a), (Rect.unit (s := S2x16x64x656) (k0_off224 v1 k0_t2) S1x1x64x656.size hinb).WholeWords (EltTy.packing .i8))
def k0_chk17_7 (i : grid0.Coords) (v1 : BitVec 32) : Prop :=
  (∀ k0_t2 : Fin (k0_t2_loop v1).trips, ∀ (k0_h83 : k0_cond83 v1 k0_t2 = 1#1), ∀ a, (k0_off225 v1 k0_t2) a + S1.size a ≤ S2.size a) ∧
  (∀ k0_t2 : Fin (k0_t2_loop v1).trips, ∀ (k0_h83 : k0_cond83 v1 k0_t2 = 1#1), ∀ a, (k0_off226 v1 k0_t2) a + S1x1x64x656.size a ≤ S2x16x64x656.size a) ∧
  (∀ k0_t2 : Fin (k0_t2_loop v1).trips, ∀ (k0_h83 : k0_cond83 v1 k0_t2 = 1#1), ∀ (hinb : ∀ a, (k0_off226 v1 k0_t2) a + S1x1x64x656.size a ≤ S2x16x64x656.size a), (Rect.unit (s := S2x16x64x656) (k0_off226 v1 k0_t2) S1x1x64x656.size hinb).WholeWords (EltTy.packing .i8)) ∧
  (∀ k0_t2 : Fin (k0_t2_loop v1).trips, ∀ a, (k0_off227 v1 k0_t2) a + S1x16x64x656.size a ≤ S2x16x64x656.size a)
def k0_chk17 (i : grid0.Coords) (v1 : BitVec 32) : Prop :=
  k0_chk17_0 i v1 ∧
  k0_chk17_1 i v1 ∧
  k0_chk17_2 i v1 ∧
  k0_chk17_3 i v1 ∧
  k0_chk17_4 i v1 ∧
  k0_chk17_5 i v1 ∧
  k0_chk17_6 i v1 ∧
  k0_chk17_7 i v1
theorem k0_t1_ok : ∀ (i : grid0.Coords) (v1 : BitVec 32) (k0_hw17 : k0_chk17 i v1), (k0_t1_loop v1).OK := fun i v1 k0_hw17 => k0_hw17.1.1
theorem k0_off34_inb : ∀ (i : grid0.Coords) (v1 : BitVec 32) (k0_hw17 : k0_chk17 i v1) (k0_t1 : Fin (k0_t1_loop v1).trips), ∀ (k0_h18 : k0_cond18 v1 k0_t1 = 1#1), ∀ (k0_h19 : k0_cond19 v1 k0_t1 = 1#1), ∀ a, (k0_off34 i v1 k0_t1) a + S1x1.size a ≤ S65x128.size a := fun i v1 k0_hw17 k0_t1 k0_h18 k0_h19 => k0_hw17.1.2.1 k0_t1 k0_h18 k0_h19
theorem k0_off35_inb : ∀ (i : grid0.Coords) (v1 : BitVec 32) (k0_hw17 : k0_chk17 i v1) (k0_t1 : Fin (k0_t1_loop v1).trips), ∀ (k0_h18 : k0_cond18 v1 k0_t1 = 1#1), ∀ (k0_h19 : k0_cond19 v1 k0_t1 = 1#1), ∀ a, (k0_off35 v1 k0_t1) a + S1.size a ≤ S2.size a := fun i v1 k0_hw17 k0_t1 k0_h18 k0_h19 => k0_hw17.1.2.2.1 k0_t1 k0_h18 k0_h19
theorem k0_off36_inb : ∀ (i : grid0.Coords) (v1 : BitVec 32) (k0_hw17 : k0_chk17 i v1) (k0_t1 : Fin (k0_t1_loop v1).trips), ∀ (k0_h18 : k0_cond18 v1 k0_t1 = 1#1), ∀ (k0_h19 : k0_cond19 v1 k0_t1 = 1#1), ∀ a, (k0_off36 v1 k0_t1) a + S1x1x64x656.size a ≤ S2x16x64x656.size a := fun i v1 k0_hw17 k0_t1 k0_h18 k0_h19 => k0_hw17.1.2.2.2.1 k0_t1 k0_h18 k0_h19
theorem k0_off36_wordsi8 : ∀ (i : grid0.Coords) (v1 : BitVec 32) (k0_hw17 : k0_chk17 i v1) (k0_t1 : Fin (k0_t1_loop v1).trips), ∀ (k0_h18 : k0_cond18 v1 k0_t1 = 1#1), ∀ (k0_h19 : k0_cond19 v1 k0_t1 = 1#1), (Rect.unit (s := S2x16x64x656) (k0_off36 v1 k0_t1) S1x1x64x656.size (k0_off36_inb i v1 k0_hw17 k0_t1 k0_h18 k0_h19)).WholeWords (EltTy.packing .i8) := fun i v1 k0_hw17 k0_t1 k0_h18 k0_h19 => k0_hw17.1.2.2.2.2.1 k0_t1 k0_h18 k0_h19 (k0_off36_inb i v1 k0_hw17 k0_t1 k0_h18 k0_h19)
theorem k0_off38_inb : ∀ (i : grid0.Coords) (v1 : BitVec 32) (k0_hw17 : k0_chk17 i v1) (k0_t1 : Fin (k0_t1_loop v1).trips), ∀ (k0_h18 : k0_cond18 v1 k0_t1 = 1#1), ∀ (k0_h20 : k0_cond20 v1 k0_t1 = 1#1), ∀ a, (k0_off38 i v1 k0_t1) a + S1x1.size a ≤ S65x128.size a := fun i v1 k0_hw17 k0_t1 k0_h18 k0_h20 => k0_hw17.1.2.2.2.2.2.1 k0_t1 k0_h18 k0_h20
theorem k0_off39_inb : ∀ (i : grid0.Coords) (v1 : BitVec 32) (k0_hw17 : k0_chk17 i v1) (k0_t1 : Fin (k0_t1_loop v1).trips), ∀ (k0_h18 : k0_cond18 v1 k0_t1 = 1#1), ∀ (k0_h20 : k0_cond20 v1 k0_t1 = 1#1), ∀ a, (k0_off39 v1 k0_t1) a + S1.size a ≤ S2.size a := fun i v1 k0_hw17 k0_t1 k0_h18 k0_h20 => k0_hw17.1.2.2.2.2.2.2.1 k0_t1 k0_h18 k0_h20
theorem k0_off40_inb : ∀ (i : grid0.Coords) (v1 : BitVec 32) (k0_hw17 : k0_chk17 i v1) (k0_t1 : Fin (k0_t1_loop v1).trips), ∀ (k0_h18 : k0_cond18 v1 k0_t1 = 1#1), ∀ (k0_h20 : k0_cond20 v1 k0_t1 = 1#1), ∀ a, (k0_off40 v1 k0_t1) a + S1x1x64x656.size a ≤ S2x16x64x656.size a := fun i v1 k0_hw17 k0_t1 k0_h18 k0_h20 => k0_hw17.1.2.2.2.2.2.2.2.1 k0_t1 k0_h18 k0_h20
theorem k0_off40_wordsi8 : ∀ (i : grid0.Coords) (v1 : BitVec 32) (k0_hw17 : k0_chk17 i v1) (k0_t1 : Fin (k0_t1_loop v1).trips), ∀ (k0_h18 : k0_cond18 v1 k0_t1 = 1#1), ∀ (k0_h20 : k0_cond20 v1 k0_t1 = 1#1), (Rect.unit (s := S2x16x64x656) (k0_off40 v1 k0_t1) S1x1x64x656.size (k0_off40_inb i v1 k0_hw17 k0_t1 k0_h18 k0_h20)).WholeWords (EltTy.packing .i8) := fun i v1 k0_hw17 k0_t1 k0_h18 k0_h20 => k0_hw17.1.2.2.2.2.2.2.2.2.1 k0_t1 k0_h18 k0_h20 (k0_off40_inb i v1 k0_hw17 k0_t1 k0_h18 k0_h20)
theorem k0_off42_inb : ∀ (i : grid0.Coords) (v1 : BitVec 32) (k0_hw17 : k0_chk17 i v1) (k0_t1 : Fin (k0_t1_loop v1).trips), ∀ (k0_h18 : k0_cond18 v1 k0_t1 = 1#1), ∀ (k0_h21 : k0_cond21 v1 k0_t1 = 1#1), ∀ a, (k0_off42 i v1 k0_t1) a + S1x1.size a ≤ S65x128.size a := fun i v1 k0_hw17 k0_t1 k0_h18 k0_h21 => k0_hw17.1.2.2.2.2.2.2.2.2.2.1 k0_t1 k0_h18 k0_h21
theorem k0_off43_inb : ∀ (i : grid0.Coords) (v1 : BitVec 32) (k0_hw17 : k0_chk17 i v1) (k0_t1 : Fin (k0_t1_loop v1).trips), ∀ (k0_h18 : k0_cond18 v1 k0_t1 = 1#1), ∀ (k0_h21 : k0_cond21 v1 k0_t1 = 1#1), ∀ a, (k0_off43 v1 k0_t1) a + S1.size a ≤ S2.size a := fun i v1 k0_hw17 k0_t1 k0_h18 k0_h21 => k0_hw17.1.2.2.2.2.2.2.2.2.2.2.1 k0_t1 k0_h18 k0_h21
theorem k0_off44_inb : ∀ (i : grid0.Coords) (v1 : BitVec 32) (k0_hw17 : k0_chk17 i v1) (k0_t1 : Fin (k0_t1_loop v1).trips), ∀ (k0_h18 : k0_cond18 v1 k0_t1 = 1#1), ∀ (k0_h21 : k0_cond21 v1 k0_t1 = 1#1), ∀ a, (k0_off44 v1 k0_t1) a + S1x1x64x656.size a ≤ S2x16x64x656.size a := fun i v1 k0_hw17 k0_t1 k0_h18 k0_h21 => k0_hw17.1.2.2.2.2.2.2.2.2.2.2.2.1 k0_t1 k0_h18 k0_h21
theorem k0_off44_wordsi8 : ∀ (i : grid0.Coords) (v1 : BitVec 32) (k0_hw17 : k0_chk17 i v1) (k0_t1 : Fin (k0_t1_loop v1).trips), ∀ (k0_h18 : k0_cond18 v1 k0_t1 = 1#1), ∀ (k0_h21 : k0_cond21 v1 k0_t1 = 1#1), (Rect.unit (s := S2x16x64x656) (k0_off44 v1 k0_t1) S1x1x64x656.size (k0_off44_inb i v1 k0_hw17 k0_t1 k0_h18 k0_h21)).WholeWords (EltTy.packing .i8) := fun i v1 k0_hw17 k0_t1 k0_h18 k0_h21 => k0_hw17.1.2.2.2.2.2.2.2.2.2.2.2.2.1 k0_t1 k0_h18 k0_h21 (k0_off44_inb i v1 k0_hw17 k0_t1 k0_h18 k0_h21)
theorem k0_off46_inb : ∀ (i : grid0.Coords) (v1 : BitVec 32) (k0_hw17 : k0_chk17 i v1) (k0_t1 : Fin (k0_t1_loop v1).trips), ∀ (k0_h18 : k0_cond18 v1 k0_t1 = 1#1), ∀ (k0_h22 : k0_cond22 v1 k0_t1 = 1#1), ∀ a, (k0_off46 i v1 k0_t1) a + S1x1.size a ≤ S65x128.size a := fun i v1 k0_hw17 k0_t1 k0_h18 k0_h22 => k0_hw17.1.2.2.2.2.2.2.2.2.2.2.2.2.2.1 k0_t1 k0_h18 k0_h22
theorem k0_off47_inb : ∀ (i : grid0.Coords) (v1 : BitVec 32) (k0_hw17 : k0_chk17 i v1) (k0_t1 : Fin (k0_t1_loop v1).trips), ∀ (k0_h18 : k0_cond18 v1 k0_t1 = 1#1), ∀ (k0_h22 : k0_cond22 v1 k0_t1 = 1#1), ∀ a, (k0_off47 v1 k0_t1) a + S1.size a ≤ S2.size a := fun i v1 k0_hw17 k0_t1 k0_h18 k0_h22 => k0_hw17.1.2.2.2.2.2.2.2.2.2.2.2.2.2.2.1 k0_t1 k0_h18 k0_h22
theorem k0_off48_inb : ∀ (i : grid0.Coords) (v1 : BitVec 32) (k0_hw17 : k0_chk17 i v1) (k0_t1 : Fin (k0_t1_loop v1).trips), ∀ (k0_h18 : k0_cond18 v1 k0_t1 = 1#1), ∀ (k0_h22 : k0_cond22 v1 k0_t1 = 1#1), ∀ a, (k0_off48 v1 k0_t1) a + S1x1x64x656.size a ≤ S2x16x64x656.size a := fun i v1 k0_hw17 k0_t1 k0_h18 k0_h22 => k0_hw17.1.2.2.2.2.2.2.2.2.2.2.2.2.2.2.2.1 k0_t1 k0_h18 k0_h22
theorem k0_off48_wordsi8 : ∀ (i : grid0.Coords) (v1 : BitVec 32) (k0_hw17 : k0_chk17 i v1) (k0_t1 : Fin (k0_t1_loop v1).trips), ∀ (k0_h18 : k0_cond18 v1 k0_t1 = 1#1), ∀ (k0_h22 : k0_cond22 v1 k0_t1 = 1#1), (Rect.unit (s := S2x16x64x656) (k0_off48 v1 k0_t1) S1x1x64x656.size (k0_off48_inb i v1 k0_hw17 k0_t1 k0_h18 k0_h22)).WholeWords (EltTy.packing .i8) := fun i v1 k0_hw17 k0_t1 k0_h18 k0_h22 => k0_hw17.1.2.2.2.2.2.2.2.2.2.2.2.2.2.2.2.2.1 k0_t1 k0_h18 k0_h22 (k0_off48_inb i v1 k0_hw17 k0_t1 k0_h18 k0_h22)
theorem k0_off50_inb : ∀ (i : grid0.Coords) (v1 : BitVec 32) (k0_hw17 : k0_chk17 i v1) (k0_t1 : Fin (k0_t1_loop v1).trips), ∀ (k0_h18 : k0_cond18 v1 k0_t1 = 1#1), ∀ (k0_h23 : k0_cond23 v1 k0_t1 = 1#1), ∀ a, (k0_off50 i v1 k0_t1) a + S1x1.size a ≤ S65x128.size a := fun i v1 k0_hw17 k0_t1 k0_h18 k0_h23 => k0_hw17.1.2.2.2.2.2.2.2.2.2.2.2.2.2.2.2.2.2.1 k0_t1 k0_h18 k0_h23
theorem k0_off51_inb : ∀ (i : grid0.Coords) (v1 : BitVec 32) (k0_hw17 : k0_chk17 i v1) (k0_t1 : Fin (k0_t1_loop v1).trips), ∀ (k0_h18 : k0_cond18 v1 k0_t1 = 1#1), ∀ (k0_h23 : k0_cond23 v1 k0_t1 = 1#1), ∀ a, (k0_off51 v1 k0_t1) a + S1.size a ≤ S2.size a := fun i v1 k0_hw17 k0_t1 k0_h18 k0_h23 => k0_hw17.1.2.2.2.2.2.2.2.2.2.2.2.2.2.2.2.2.2.2.1 k0_t1 k0_h18 k0_h23
theorem k0_off52_inb : ∀ (i : grid0.Coords) (v1 : BitVec 32) (k0_hw17 : k0_chk17 i v1) (k0_t1 : Fin (k0_t1_loop v1).trips), ∀ (k0_h18 : k0_cond18 v1 k0_t1 = 1#1), ∀ (k0_h23 : k0_cond23 v1 k0_t1 = 1#1), ∀ a, (k0_off52 v1 k0_t1) a + S1x1x64x656.size a ≤ S2x16x64x656.size a := fun i v1 k0_hw17 k0_t1 k0_h18 k0_h23 => k0_hw17.1.2.2.2.2.2.2.2.2.2.2.2.2.2.2.2.2.2.2.2.1 k0_t1 k0_h18 k0_h23
theorem k0_off52_wordsi8 : ∀ (i : grid0.Coords) (v1 : BitVec 32) (k0_hw17 : k0_chk17 i v1) (k0_t1 : Fin (k0_t1_loop v1).trips), ∀ (k0_h18 : k0_cond18 v1 k0_t1 = 1#1), ∀ (k0_h23 : k0_cond23 v1 k0_t1 = 1#1), (Rect.unit (s := S2x16x64x656) (k0_off52 v1 k0_t1) S1x1x64x656.size (k0_off52_inb i v1 k0_hw17 k0_t1 k0_h18 k0_h23)).WholeWords (EltTy.packing .i8) := fun i v1 k0_hw17 k0_t1 k0_h18 k0_h23 => k0_hw17.1.2.2.2.2.2.2.2.2.2.2.2.2.2.2.2.2.2.2.2.2.1 k0_t1 k0_h18 k0_h23 (k0_off52_inb i v1 k0_hw17 k0_t1 k0_h18 k0_h23)
theorem k0_off54_inb : ∀ (i : grid0.Coords) (v1 : BitVec 32) (k0_hw17 : k0_chk17 i v1) (k0_t1 : Fin (k0_t1_loop v1).trips), ∀ (k0_h18 : k0_cond18 v1 k0_t1 = 1#1), ∀ (k0_h24 : k0_cond24 v1 k0_t1 = 1#1), ∀ a, (k0_off54 i v1 k0_t1) a + S1x1.size a ≤ S65x128.size a := fun i v1 k0_hw17 k0_t1 k0_h18 k0_h24 => k0_hw17.1.2.2.2.2.2.2.2.2.2.2.2.2.2.2.2.2.2.2.2.2.2.1 k0_t1 k0_h18 k0_h24
theorem k0_off55_inb : ∀ (i : grid0.Coords) (v1 : BitVec 32) (k0_hw17 : k0_chk17 i v1) (k0_t1 : Fin (k0_t1_loop v1).trips), ∀ (k0_h18 : k0_cond18 v1 k0_t1 = 1#1), ∀ (k0_h24 : k0_cond24 v1 k0_t1 = 1#1), ∀ a, (k0_off55 v1 k0_t1) a + S1.size a ≤ S2.size a := fun i v1 k0_hw17 k0_t1 k0_h18 k0_h24 => k0_hw17.1.2.2.2.2.2.2.2.2.2.2.2.2.2.2.2.2.2.2.2.2.2.2.1 k0_t1 k0_h18 k0_h24
theorem k0_off56_inb : ∀ (i : grid0.Coords) (v1 : BitVec 32) (k0_hw17 : k0_chk17 i v1) (k0_t1 : Fin (k0_t1_loop v1).trips), ∀ (k0_h18 : k0_cond18 v1 k0_t1 = 1#1), ∀ (k0_h24 : k0_cond24 v1 k0_t1 = 1#1), ∀ a, (k0_off56 v1 k0_t1) a + S1x1x64x656.size a ≤ S2x16x64x656.size a := fun i v1 k0_hw17 k0_t1 k0_h18 k0_h24 => k0_hw17.1.2.2.2.2.2.2.2.2.2.2.2.2.2.2.2.2.2.2.2.2.2.2.2.1 k0_t1 k0_h18 k0_h24
theorem k0_off56_wordsi8 : ∀ (i : grid0.Coords) (v1 : BitVec 32) (k0_hw17 : k0_chk17 i v1) (k0_t1 : Fin (k0_t1_loop v1).trips), ∀ (k0_h18 : k0_cond18 v1 k0_t1 = 1#1), ∀ (k0_h24 : k0_cond24 v1 k0_t1 = 1#1), (Rect.unit (s := S2x16x64x656) (k0_off56 v1 k0_t1) S1x1x64x656.size (k0_off56_inb i v1 k0_hw17 k0_t1 k0_h18 k0_h24)).WholeWords (EltTy.packing .i8) := fun i v1 k0_hw17 k0_t1 k0_h18 k0_h24 => k0_hw17.1.2.2.2.2.2.2.2.2.2.2.2.2.2.2.2.2.2.2.2.2.2.2.2.2.1 k0_t1 k0_h18 k0_h24 (k0_off56_inb i v1 k0_hw17 k0_t1 k0_h18 k0_h24)
theorem k0_off58_inb : ∀ (i : grid0.Coords) (v1 : BitVec 32) (k0_hw17 : k0_chk17 i v1) (k0_t1 : Fin (k0_t1_loop v1).trips), ∀ (k0_h18 : k0_cond18 v1 k0_t1 = 1#1), ∀ (k0_h25 : k0_cond25 v1 k0_t1 = 1#1), ∀ a, (k0_off58 i v1 k0_t1) a + S1x1.size a ≤ S65x128.size a := fun i v1 k0_hw17 k0_t1 k0_h18 k0_h25 => k0_hw17.1.2.2.2.2.2.2.2.2.2.2.2.2.2.2.2.2.2.2.2.2.2.2.2.2.2.1 k0_t1 k0_h18 k0_h25
theorem k0_off59_inb : ∀ (i : grid0.Coords) (v1 : BitVec 32) (k0_hw17 : k0_chk17 i v1) (k0_t1 : Fin (k0_t1_loop v1).trips), ∀ (k0_h18 : k0_cond18 v1 k0_t1 = 1#1), ∀ (k0_h25 : k0_cond25 v1 k0_t1 = 1#1), ∀ a, (k0_off59 v1 k0_t1) a + S1.size a ≤ S2.size a := fun i v1 k0_hw17 k0_t1 k0_h18 k0_h25 => k0_hw17.1.2.2.2.2.2.2.2.2.2.2.2.2.2.2.2.2.2.2.2.2.2.2.2.2.2.2.1 k0_t1 k0_h18 k0_h25
theorem k0_off60_inb : ∀ (i : grid0.Coords) (v1 : BitVec 32) (k0_hw17 : k0_chk17 i v1) (k0_t1 : Fin (k0_t1_loop v1).trips), ∀ (k0_h18 : k0_cond18 v1 k0_t1 = 1#1), ∀ (k0_h25 : k0_cond25 v1 k0_t1 = 1#1), ∀ a, (k0_off60 v1 k0_t1) a + S1x1x64x656.size a ≤ S2x16x64x656.size a := fun i v1 k0_hw17 k0_t1 k0_h18 k0_h25 => k0_hw17.1.2.2.2.2.2.2.2.2.2.2.2.2.2.2.2.2.2.2.2.2.2.2.2.2.2.2.2.1 k0_t1 k0_h18 k0_h25
theorem k0_off60_wordsi8 : ∀ (i : grid0.Coords) (v1 : BitVec 32) (k0_hw17 : k0_chk17 i v1) (k0_t1 : Fin (k0_t1_loop v1).trips), ∀ (k0_h18 : k0_cond18 v1 k0_t1 = 1#1), ∀ (k0_h25 : k0_cond25 v1 k0_t1 = 1#1), (Rect.unit (s := S2x16x64x656) (k0_off60 v1 k0_t1) S1x1x64x656.size (k0_off60_inb i v1 k0_hw17 k0_t1 k0_h18 k0_h25)).WholeWords (EltTy.packing .i8) := fun i v1 k0_hw17 k0_t1 k0_h18 k0_h25 => k0_hw17.1.2.2.2.2.2.2.2.2.2.2.2.2.2.2.2.2.2.2.2.2.2.2.2.2.2.2.2.2.1 k0_t1 k0_h18 k0_h25 (k0_off60_inb i v1 k0_hw17 k0_t1 k0_h18 k0_h25)
theorem k0_off62_inb : ∀ (i : grid0.Coords) (v1 : BitVec 32) (k0_hw17 : k0_chk17 i v1) (k0_t1 : Fin (k0_t1_loop v1).trips), ∀ (k0_h18 : k0_cond18 v1 k0_t1 = 1#1), ∀ (k0_h26 : k0_cond26 v1 k0_t1 = 1#1), ∀ a, (k0_off62 i v1 k0_t1) a + S1x1.size a ≤ S65x128.size a := fun i v1 k0_hw17 k0_t1 k0_h18 k0_h26 => k0_hw17.1.2.2.2.2.2.2.2.2.2.2.2.2.2.2.2.2.2.2.2.2.2.2.2.2.2.2.2.2.2.1 k0_t1 k0_h18 k0_h26
theorem k0_off63_inb : ∀ (i : grid0.Coords) (v1 : BitVec 32) (k0_hw17 : k0_chk17 i v1) (k0_t1 : Fin (k0_t1_loop v1).trips), ∀ (k0_h18 : k0_cond18 v1 k0_t1 = 1#1), ∀ (k0_h26 : k0_cond26 v1 k0_t1 = 1#1), ∀ a, (k0_off63 v1 k0_t1) a + S1.size a ≤ S2.size a := fun i v1 k0_hw17 k0_t1 k0_h18 k0_h26 => k0_hw17.1.2.2.2.2.2.2.2.2.2.2.2.2.2.2.2.2.2.2.2.2.2.2.2.2.2.2.2.2.2.2.1 k0_t1 k0_h18 k0_h26
theorem k0_off64_inb : ∀ (i : grid0.Coords) (v1 : BitVec 32) (k0_hw17 : k0_chk17 i v1) (k0_t1 : Fin (k0_t1_loop v1).trips), ∀ (k0_h18 : k0_cond18 v1 k0_t1 = 1#1), ∀ (k0_h26 : k0_cond26 v1 k0_t1 = 1#1), ∀ a, (k0_off64 v1 k0_t1) a + S1x1x64x656.size a ≤ S2x16x64x656.size a := fun i v1 k0_hw17 k0_t1 k0_h18 k0_h26 => k0_hw17.1.2.2.2.2.2.2.2.2.2.2.2.2.2.2.2.2.2.2.2.2.2.2.2.2.2.2.2.2.2.2.2 k0_t1 k0_h18 k0_h26
theorem k0_off64_wordsi8 : ∀ (i : grid0.Coords) (v1 : BitVec 32) (k0_hw17 : k0_chk17 i v1) (k0_t1 : Fin (k0_t1_loop v1).trips), ∀ (k0_h18 : k0_cond18 v1 k0_t1 = 1#1), ∀ (k0_h26 : k0_cond26 v1 k0_t1 = 1#1), (Rect.unit (s := S2x16x64x656) (k0_off64 v1 k0_t1) S1x1x64x656.size (k0_off64_inb i v1 k0_hw17 k0_t1 k0_h18 k0_h26)).WholeWords (EltTy.packing .i8) := fun i v1 k0_hw17 k0_t1 k0_h18 k0_h26 => k0_hw17.2.1.1 k0_t1 k0_h18 k0_h26 (k0_off64_inb i v1 k0_hw17 k0_t1 k0_h18 k0_h26)
theorem k0_off66_inb : ∀ (i : grid0.Coords) (v1 : BitVec 32) (k0_hw17 : k0_chk17 i v1) (k0_t1 : Fin (k0_t1_loop v1).trips), ∀ (k0_h18 : k0_cond18 v1 k0_t1 = 1#1), ∀ (k0_h27 : k0_cond27 v1 k0_t1 = 1#1), ∀ a, (k0_off66 i v1 k0_t1) a + S1x1.size a ≤ S65x128.size a := fun i v1 k0_hw17 k0_t1 k0_h18 k0_h27 => k0_hw17.2.1.2.1 k0_t1 k0_h18 k0_h27
theorem k0_off67_inb : ∀ (i : grid0.Coords) (v1 : BitVec 32) (k0_hw17 : k0_chk17 i v1) (k0_t1 : Fin (k0_t1_loop v1).trips), ∀ (k0_h18 : k0_cond18 v1 k0_t1 = 1#1), ∀ (k0_h27 : k0_cond27 v1 k0_t1 = 1#1), ∀ a, (k0_off67 v1 k0_t1) a + S1.size a ≤ S2.size a := fun i v1 k0_hw17 k0_t1 k0_h18 k0_h27 => k0_hw17.2.1.2.2.1 k0_t1 k0_h18 k0_h27
theorem k0_off68_inb : ∀ (i : grid0.Coords) (v1 : BitVec 32) (k0_hw17 : k0_chk17 i v1) (k0_t1 : Fin (k0_t1_loop v1).trips), ∀ (k0_h18 : k0_cond18 v1 k0_t1 = 1#1), ∀ (k0_h27 : k0_cond27 v1 k0_t1 = 1#1), ∀ a, (k0_off68 v1 k0_t1) a + S1x1x64x656.size a ≤ S2x16x64x656.size a := fun i v1 k0_hw17 k0_t1 k0_h18 k0_h27 => k0_hw17.2.1.2.2.2.1 k0_t1 k0_h18 k0_h27
theorem k0_off68_wordsi8 : ∀ (i : grid0.Coords) (v1 : BitVec 32) (k0_hw17 : k0_chk17 i v1) (k0_t1 : Fin (k0_t1_loop v1).trips), ∀ (k0_h18 : k0_cond18 v1 k0_t1 = 1#1), ∀ (k0_h27 : k0_cond27 v1 k0_t1 = 1#1), (Rect.unit (s := S2x16x64x656) (k0_off68 v1 k0_t1) S1x1x64x656.size (k0_off68_inb i v1 k0_hw17 k0_t1 k0_h18 k0_h27)).WholeWords (EltTy.packing .i8) := fun i v1 k0_hw17 k0_t1 k0_h18 k0_h27 => k0_hw17.2.1.2.2.2.2.1 k0_t1 k0_h18 k0_h27 (k0_off68_inb i v1 k0_hw17 k0_t1 k0_h18 k0_h27)
theorem k0_off70_inb : ∀ (i : grid0.Coords) (v1 : BitVec 32) (k0_hw17 : k0_chk17 i v1) (k0_t1 : Fin (k0_t1_loop v1).trips), ∀ (k0_h18 : k0_cond18 v1 k0_t1 = 1#1), ∀ (k0_h28 : k0_cond28 v1 k0_t1 = 1#1), ∀ a, (k0_off70 i v1 k0_t1) a + S1x1.size a ≤ S65x128.size a := fun i v1 k0_hw17 k0_t1 k0_h18 k0_h28 => k0_hw17.2.1.2.2.2.2.2.1 k0_t1 k0_h18 k0_h28
theorem k0_off71_inb : ∀ (i : grid0.Coords) (v1 : BitVec 32) (k0_hw17 : k0_chk17 i v1) (k0_t1 : Fin (k0_t1_loop v1).trips), ∀ (k0_h18 : k0_cond18 v1 k0_t1 = 1#1), ∀ (k0_h28 : k0_cond28 v1 k0_t1 = 1#1), ∀ a, (k0_off71 v1 k0_t1) a + S1.size a ≤ S2.size a := fun i v1 k0_hw17 k0_t1 k0_h18 k0_h28 => k0_hw17.2.1.2.2.2.2.2.2.1 k0_t1 k0_h18 k0_h28
theorem k0_off72_inb : ∀ (i : grid0.Coords) (v1 : BitVec 32) (k0_hw17 : k0_chk17 i v1) (k0_t1 : Fin (k0_t1_loop v1).trips), ∀ (k0_h18 : k0_cond18 v1 k0_t1 = 1#1), ∀ (k0_h28 : k0_cond28 v1 k0_t1 = 1#1), ∀ a, (k0_off72 v1 k0_t1) a + S1x1x64x656.size a ≤ S2x16x64x656.size a := fun i v1 k0_hw17 k0_t1 k0_h18 k0_h28 => k0_hw17.2.1.2.2.2.2.2.2.2.1 k0_t1 k0_h18 k0_h28
theorem k0_off72_wordsi8 : ∀ (i : grid0.Coords) (v1 : BitVec 32) (k0_hw17 : k0_chk17 i v1) (k0_t1 : Fin (k0_t1_loop v1).trips), ∀ (k0_h18 : k0_cond18 v1 k0_t1 = 1#1), ∀ (k0_h28 : k0_cond28 v1 k0_t1 = 1#1), (Rect.unit (s := S2x16x64x656) (k0_off72 v1 k0_t1) S1x1x64x656.size (k0_off72_inb i v1 k0_hw17 k0_t1 k0_h18 k0_h28)).WholeWords (EltTy.packing .i8) := fun i v1 k0_hw17 k0_t1 k0_h18 k0_h28 => k0_hw17.2.1.2.2.2.2.2.2.2.2.1 k0_t1 k0_h18 k0_h28 (k0_off72_inb i v1 k0_hw17 k0_t1 k0_h18 k0_h28)
theorem k0_off74_inb : ∀ (i : grid0.Coords) (v1 : BitVec 32) (k0_hw17 : k0_chk17 i v1) (k0_t1 : Fin (k0_t1_loop v1).trips), ∀ (k0_h18 : k0_cond18 v1 k0_t1 = 1#1), ∀ (k0_h29 : k0_cond29 v1 k0_t1 = 1#1), ∀ a, (k0_off74 i v1 k0_t1) a + S1x1.size a ≤ S65x128.size a := fun i v1 k0_hw17 k0_t1 k0_h18 k0_h29 => k0_hw17.2.1.2.2.2.2.2.2.2.2.2.1 k0_t1 k0_h18 k0_h29
theorem k0_off75_inb : ∀ (i : grid0.Coords) (v1 : BitVec 32) (k0_hw17 : k0_chk17 i v1) (k0_t1 : Fin (k0_t1_loop v1).trips), ∀ (k0_h18 : k0_cond18 v1 k0_t1 = 1#1), ∀ (k0_h29 : k0_cond29 v1 k0_t1 = 1#1), ∀ a, (k0_off75 v1 k0_t1) a + S1.size a ≤ S2.size a := fun i v1 k0_hw17 k0_t1 k0_h18 k0_h29 => k0_hw17.2.1.2.2.2.2.2.2.2.2.2.2.1 k0_t1 k0_h18 k0_h29
theorem k0_off76_inb : ∀ (i : grid0.Coords) (v1 : BitVec 32) (k0_hw17 : k0_chk17 i v1) (k0_t1 : Fin (k0_t1_loop v1).trips), ∀ (k0_h18 : k0_cond18 v1 k0_t1 = 1#1), ∀ (k0_h29 : k0_cond29 v1 k0_t1 = 1#1), ∀ a, (k0_off76 v1 k0_t1) a + S1x1x64x656.size a ≤ S2x16x64x656.size a := fun i v1 k0_hw17 k0_t1 k0_h18 k0_h29 => k0_hw17.2.1.2.2.2.2.2.2.2.2.2.2.2.1 k0_t1 k0_h18 k0_h29
theorem k0_off76_wordsi8 : ∀ (i : grid0.Coords) (v1 : BitVec 32) (k0_hw17 : k0_chk17 i v1) (k0_t1 : Fin (k0_t1_loop v1).trips), ∀ (k0_h18 : k0_cond18 v1 k0_t1 = 1#1), ∀ (k0_h29 : k0_cond29 v1 k0_t1 = 1#1), (Rect.unit (s := S2x16x64x656) (k0_off76 v1 k0_t1) S1x1x64x656.size (k0_off76_inb i v1 k0_hw17 k0_t1 k0_h18 k0_h29)).WholeWords (EltTy.packing .i8) := fun i v1 k0_hw17 k0_t1 k0_h18 k0_h29 => k0_hw17.2.1.2.2.2.2.2.2.2.2.2.2.2.2.1 k0_t1 k0_h18 k0_h29 (k0_off76_inb i v1 k0_hw17 k0_t1 k0_h18 k0_h29)
theorem k0_off78_inb : ∀ (i : grid0.Coords) (v1 : BitVec 32) (k0_hw17 : k0_chk17 i v1) (k0_t1 : Fin (k0_t1_loop v1).trips), ∀ (k0_h18 : k0_cond18 v1 k0_t1 = 1#1), ∀ (k0_h30 : k0_cond30 v1 k0_t1 = 1#1), ∀ a, (k0_off78 i v1 k0_t1) a + S1x1.size a ≤ S65x128.size a := fun i v1 k0_hw17 k0_t1 k0_h18 k0_h30 => k0_hw17.2.1.2.2.2.2.2.2.2.2.2.2.2.2.2.1 k0_t1 k0_h18 k0_h30
theorem k0_off79_inb : ∀ (i : grid0.Coords) (v1 : BitVec 32) (k0_hw17 : k0_chk17 i v1) (k0_t1 : Fin (k0_t1_loop v1).trips), ∀ (k0_h18 : k0_cond18 v1 k0_t1 = 1#1), ∀ (k0_h30 : k0_cond30 v1 k0_t1 = 1#1), ∀ a, (k0_off79 v1 k0_t1) a + S1.size a ≤ S2.size a := fun i v1 k0_hw17 k0_t1 k0_h18 k0_h30 => k0_hw17.2.1.2.2.2.2.2.2.2.2.2.2.2.2.2.2.1 k0_t1 k0_h18 k0_h30
theorem k0_off80_inb : ∀ (i : grid0.Coords) (v1 : BitVec 32) (k0_hw17 : k0_chk17 i v1) (k0_t1 : Fin (k0_t1_loop v1).trips), ∀ (k0_h18 : k0_cond18 v1 k0_t1 = 1#1), ∀ (k0_h30 : k0_cond30 v1 k0_t1 = 1#1), ∀ a, (k0_off80 v1 k0_t1) a + S1x1x64x656.size a ≤ S2x16x64x656.size a := fun i v1 k0_hw17 k0_t1 k0_h18 k0_h30 => k0_hw17.2.1.2.2.2.2.2.2.2.2.2.2.2.2.2.2.2.1 k0_t1 k0_h18 k0_h30
theorem k0_off80_wordsi8 : ∀ (i : grid0.Coords) (v1 : BitVec 32) (k0_hw17 : k0_chk17 i v1) (k0_t1 : Fin (k0_t1_loop v1).trips), ∀ (k0_h18 : k0_cond18 v1 k0_t1 = 1#1), ∀ (k0_h30 : k0_cond30 v1 k0_t1 = 1#1), (Rect.unit (s := S2x16x64x656) (k0_off80 v1 k0_t1) S1x1x64x656.size (k0_off80_inb i v1 k0_hw17 k0_t1 k0_h18 k0_h30)).WholeWords (EltTy.packing .i8) := fun i v1 k0_hw17 k0_t1 k0_h18 k0_h30 => k0_hw17.2.1.2.2.2.2.2.2.2.2.2.2.2.2.2.2.2.2.1 k0_t1 k0_h18 k0_h30 (k0_off80_inb i v1 k0_hw17 k0_t1 k0_h18 k0_h30)
theorem k0_off82_inb : ∀ (i : grid0.Coords) (v1 : BitVec 32) (k0_hw17 : k0_chk17 i v1) (k0_t1 : Fin (k0_t1_loop v1).trips), ∀ (k0_h18 : k0_cond18 v1 k0_t1 = 1#1), ∀ (k0_h31 : k0_cond31 v1 k0_t1 = 1#1), ∀ a, (k0_off82 i v1 k0_t1) a + S1x1.size a ≤ S65x128.size a := fun i v1 k0_hw17 k0_t1 k0_h18 k0_h31 => k0_hw17.2.1.2.2.2.2.2.2.2.2.2.2.2.2.2.2.2.2.2.1 k0_t1 k0_h18 k0_h31
theorem k0_off83_inb : ∀ (i : grid0.Coords) (v1 : BitVec 32) (k0_hw17 : k0_chk17 i v1) (k0_t1 : Fin (k0_t1_loop v1).trips), ∀ (k0_h18 : k0_cond18 v1 k0_t1 = 1#1), ∀ (k0_h31 : k0_cond31 v1 k0_t1 = 1#1), ∀ a, (k0_off83 v1 k0_t1) a + S1.size a ≤ S2.size a := fun i v1 k0_hw17 k0_t1 k0_h18 k0_h31 => k0_hw17.2.1.2.2.2.2.2.2.2.2.2.2.2.2.2.2.2.2.2.2.1 k0_t1 k0_h18 k0_h31
theorem k0_off84_inb : ∀ (i : grid0.Coords) (v1 : BitVec 32) (k0_hw17 : k0_chk17 i v1) (k0_t1 : Fin (k0_t1_loop v1).trips), ∀ (k0_h18 : k0_cond18 v1 k0_t1 = 1#1), ∀ (k0_h31 : k0_cond31 v1 k0_t1 = 1#1), ∀ a, (k0_off84 v1 k0_t1) a + S1x1x64x656.size a ≤ S2x16x64x656.size a := fun i v1 k0_hw17 k0_t1 k0_h18 k0_h31 => k0_hw17.2.1.2.2.2.2.2.2.2.2.2.2.2.2.2.2.2.2.2.2.2.1 k0_t1 k0_h18 k0_h31
theorem k0_off84_wordsi8 : ∀ (i : grid0.Coords) (v1 : BitVec 32) (k0_hw17 : k0_chk17 i v1) (k0_t1 : Fin (k0_t1_loop v1).trips), ∀ (k0_h18 : k0_cond18 v1 k0_t1 = 1#1), ∀ (k0_h31 : k0_cond31 v1 k0_t1 = 1#1), (Rect.unit (s := S2x16x64x656) (k0_off84 v1 k0_t1) S1x1x64x656.size (k0_off84_inb i v1 k0_hw17 k0_t1 k0_h18 k0_h31)).WholeWords (EltTy.packing .i8) := fun i v1 k0_hw17 k0_t1 k0_h18 k0_h31 => k0_hw17.2.1.2.2.2.2.2.2.2.2.2.2.2.2.2.2.2.2.2.2.2.2.1 k0_t1 k0_h18 k0_h31 (k0_off84_inb i v1 k0_hw17 k0_t1 k0_h18 k0_h31)
theorem k0_off86_inb : ∀ (i : grid0.Coords) (v1 : BitVec 32) (k0_hw17 : k0_chk17 i v1) (k0_t1 : Fin (k0_t1_loop v1).trips), ∀ (k0_h18 : k0_cond18 v1 k0_t1 = 1#1), ∀ (k0_h32 : k0_cond32 v1 k0_t1 = 1#1), ∀ a, (k0_off86 i v1 k0_t1) a + S1x1.size a ≤ S65x128.size a := fun i v1 k0_hw17 k0_t1 k0_h18 k0_h32 => k0_hw17.2.1.2.2.2.2.2.2.2.2.2.2.2.2.2.2.2.2.2.2.2.2.2.1 k0_t1 k0_h18 k0_h32
theorem k0_off87_inb : ∀ (i : grid0.Coords) (v1 : BitVec 32) (k0_hw17 : k0_chk17 i v1) (k0_t1 : Fin (k0_t1_loop v1).trips), ∀ (k0_h18 : k0_cond18 v1 k0_t1 = 1#1), ∀ (k0_h32 : k0_cond32 v1 k0_t1 = 1#1), ∀ a, (k0_off87 v1 k0_t1) a + S1.size a ≤ S2.size a := fun i v1 k0_hw17 k0_t1 k0_h18 k0_h32 => k0_hw17.2.1.2.2.2.2.2.2.2.2.2.2.2.2.2.2.2.2.2.2.2.2.2.2.1 k0_t1 k0_h18 k0_h32
theorem k0_off88_inb : ∀ (i : grid0.Coords) (v1 : BitVec 32) (k0_hw17 : k0_chk17 i v1) (k0_t1 : Fin (k0_t1_loop v1).trips), ∀ (k0_h18 : k0_cond18 v1 k0_t1 = 1#1), ∀ (k0_h32 : k0_cond32 v1 k0_t1 = 1#1), ∀ a, (k0_off88 v1 k0_t1) a + S1x1x64x656.size a ≤ S2x16x64x656.size a := fun i v1 k0_hw17 k0_t1 k0_h18 k0_h32 => k0_hw17.2.1.2.2.2.2.2.2.2.2.2.2.2.2.2.2.2.2.2.2.2.2.2.2.2.1 k0_t1 k0_h18 k0_h32
theorem k0_off88_wordsi8 : ∀ (i : grid0.Coords) (v1 : BitVec 32) (k0_hw17 : k0_chk17 i v1) (k0_t1 : Fin (k0_t1_loop v1).trips), ∀ (k0_h18 : k0_cond18 v1 k0_t1 = 1#1), ∀ (k0_h32 : k0_cond32 v1 k0_t1 = 1#1), (Rect.unit (s := S2x16x64x656) (k0_off88 v1 k0_t1) S1x1x64x656.size (k0_off88_inb i v1 k0_hw17 k0_t1 k0_h18 k0_h32)).WholeWords (EltTy.packing .i8) := fun i v1 k0_hw17 k0_t1 k0_h18 k0_h32 => k0_hw17.2.1.2.2.2.2.2.2.2.2.2.2.2.2.2.2.2.2.2.2.2.2.2.2.2.2.1 k0_t1 k0_h18 k0_h32 (k0_off88_inb i v1 k0_hw17 k0_t1 k0_h18 k0_h32)
theorem k0_off90_inb : ∀ (i : grid0.Coords) (v1 : BitVec 32) (k0_hw17 : k0_chk17 i v1) (k0_t1 : Fin (k0_t1_loop v1).trips), ∀ (k0_h18 : k0_cond18 v1 k0_t1 = 1#1), ∀ (k0_h33 : k0_cond33 v1 k0_t1 = 1#1), ∀ a, (k0_off90 i v1 k0_t1) a + S1x1.size a ≤ S65x128.size a := fun i v1 k0_hw17 k0_t1 k0_h18 k0_h33 => k0_hw17.2.1.2.2.2.2.2.2.2.2.2.2.2.2.2.2.2.2.2.2.2.2.2.2.2.2.2.1 k0_t1 k0_h18 k0_h33
theorem k0_off91_inb : ∀ (i : grid0.Coords) (v1 : BitVec 32) (k0_hw17 : k0_chk17 i v1) (k0_t1 : Fin (k0_t1_loop v1).trips), ∀ (k0_h18 : k0_cond18 v1 k0_t1 = 1#1), ∀ (k0_h33 : k0_cond33 v1 k0_t1 = 1#1), ∀ a, (k0_off91 v1 k0_t1) a + S1.size a ≤ S2.size a := fun i v1 k0_hw17 k0_t1 k0_h18 k0_h33 => k0_hw17.2.1.2.2.2.2.2.2.2.2.2.2.2.2.2.2.2.2.2.2.2.2.2.2.2.2.2.2.1 k0_t1 k0_h18 k0_h33
theorem k0_off92_inb : ∀ (i : grid0.Coords) (v1 : BitVec 32) (k0_hw17 : k0_chk17 i v1) (k0_t1 : Fin (k0_t1_loop v1).trips), ∀ (k0_h18 : k0_cond18 v1 k0_t1 = 1#1), ∀ (k0_h33 : k0_cond33 v1 k0_t1 = 1#1), ∀ a, (k0_off92 v1 k0_t1) a + S1x1x64x656.size a ≤ S2x16x64x656.size a := fun i v1 k0_hw17 k0_t1 k0_h18 k0_h33 => k0_hw17.2.1.2.2.2.2.2.2.2.2.2.2.2.2.2.2.2.2.2.2.2.2.2.2.2.2.2.2.2.1 k0_t1 k0_h18 k0_h33
theorem k0_off92_wordsi8 : ∀ (i : grid0.Coords) (v1 : BitVec 32) (k0_hw17 : k0_chk17 i v1) (k0_t1 : Fin (k0_t1_loop v1).trips), ∀ (k0_h18 : k0_cond18 v1 k0_t1 = 1#1), ∀ (k0_h33 : k0_cond33 v1 k0_t1 = 1#1), (Rect.unit (s := S2x16x64x656) (k0_off92 v1 k0_t1) S1x1x64x656.size (k0_off92_inb i v1 k0_hw17 k0_t1 k0_h18 k0_h33)).WholeWords (EltTy.packing .i8) := fun i v1 k0_hw17 k0_t1 k0_h18 k0_h33 => k0_hw17.2.1.2.2.2.2.2.2.2.2.2.2.2.2.2.2.2.2.2.2.2.2.2.2.2.2.2.2.2.2.1 k0_t1 k0_h18 k0_h33 (k0_off92_inb i v1 k0_hw17 k0_t1 k0_h18 k0_h33)
theorem k0_off94_inb : ∀ (i : grid0.Coords) (v1 : BitVec 32) (k0_hw17 : k0_chk17 i v1) (k0_t1 : Fin (k0_t1_loop v1).trips), ∀ (k0_h18 : k0_cond18 v1 k0_t1 = 1#1), ∀ (k0_h34 : k0_cond34 v1 k0_t1 = 1#1), ∀ a, (k0_off94 i v1 k0_t1) a + S1x1.size a ≤ S65x128.size a := fun i v1 k0_hw17 k0_t1 k0_h18 k0_h34 => k0_hw17.2.1.2.2.2.2.2.2.2.2.2.2.2.2.2.2.2.2.2.2.2.2.2.2.2.2.2.2.2.2.2.1 k0_t1 k0_h18 k0_h34
theorem k0_off95_inb : ∀ (i : grid0.Coords) (v1 : BitVec 32) (k0_hw17 : k0_chk17 i v1) (k0_t1 : Fin (k0_t1_loop v1).trips), ∀ (k0_h18 : k0_cond18 v1 k0_t1 = 1#1), ∀ (k0_h34 : k0_cond34 v1 k0_t1 = 1#1), ∀ a, (k0_off95 v1 k0_t1) a + S1.size a ≤ S2.size a := fun i v1 k0_hw17 k0_t1 k0_h18 k0_h34 => k0_hw17.2.1.2.2.2.2.2.2.2.2.2.2.2.2.2.2.2.2.2.2.2.2.2.2.2.2.2.2.2.2.2.2.1 k0_t1 k0_h18 k0_h34
theorem k0_off96_inb : ∀ (i : grid0.Coords) (v1 : BitVec 32) (k0_hw17 : k0_chk17 i v1) (k0_t1 : Fin (k0_t1_loop v1).trips), ∀ (k0_h18 : k0_cond18 v1 k0_t1 = 1#1), ∀ (k0_h34 : k0_cond34 v1 k0_t1 = 1#1), ∀ a, (k0_off96 v1 k0_t1) a + S1x1x64x656.size a ≤ S2x16x64x656.size a := fun i v1 k0_hw17 k0_t1 k0_h18 k0_h34 => k0_hw17.2.1.2.2.2.2.2.2.2.2.2.2.2.2.2.2.2.2.2.2.2.2.2.2.2.2.2.2.2.2.2.2.2 k0_t1 k0_h18 k0_h34
theorem k0_off96_wordsi8 : ∀ (i : grid0.Coords) (v1 : BitVec 32) (k0_hw17 : k0_chk17 i v1) (k0_t1 : Fin (k0_t1_loop v1).trips), ∀ (k0_h18 : k0_cond18 v1 k0_t1 = 1#1), ∀ (k0_h34 : k0_cond34 v1 k0_t1 = 1#1), (Rect.unit (s := S2x16x64x656) (k0_off96 v1 k0_t1) S1x1x64x656.size (k0_off96_inb i v1 k0_hw17 k0_t1 k0_h18 k0_h34)).WholeWords (EltTy.packing .i8) := fun i v1 k0_hw17 k0_t1 k0_h18 k0_h34 => k0_hw17.2.2.1.1 k0_t1 k0_h18 k0_h34 (k0_off96_inb i v1 k0_hw17 k0_t1 k0_h18 k0_h34)
theorem k0_off98_inb : ∀ (i : grid0.Coords) (v1 : BitVec 32) (k0_hw17 : k0_chk17 i v1) (k0_t1 : Fin (k0_t1_loop v1).trips), ∀ (k0_h35 : k0_cond35 v1 k0_t1 = 1#1), ∀ a, (k0_off98 v1 k0_t1) a + S1.size a ≤ S2.size a := fun i v1 k0_hw17 k0_t1 k0_h35 => k0_hw17.2.2.1.2.1 k0_t1 k0_h35
theorem k0_off99_inb : ∀ (i : grid0.Coords) (v1 : BitVec 32) (k0_hw17 : k0_chk17 i v1) (k0_t1 : Fin (k0_t1_loop v1).trips), ∀ (k0_h35 : k0_cond35 v1 k0_t1 = 1#1), ∀ a, (k0_off99 v1 k0_t1) a + S1x1x64x656.size a ≤ S2x16x64x656.size a := fun i v1 k0_hw17 k0_t1 k0_h35 => k0_hw17.2.2.1.2.2.1 k0_t1 k0_h35
theorem k0_off99_wordsi8 : ∀ (i : grid0.Coords) (v1 : BitVec 32) (k0_hw17 : k0_chk17 i v1) (k0_t1 : Fin (k0_t1_loop v1).trips), ∀ (k0_h35 : k0_cond35 v1 k0_t1 = 1#1), (Rect.unit (s := S2x16x64x656) (k0_off99 v1 k0_t1) S1x1x64x656.size (k0_off99_inb i v1 k0_hw17 k0_t1 k0_h35)).WholeWords (EltTy.packing .i8) := fun i v1 k0_hw17 k0_t1 k0_h35 => k0_hw17.2.2.1.2.2.2.1 k0_t1 k0_h35 (k0_off99_inb i v1 k0_hw17 k0_t1 k0_h35)
theorem k0_off100_inb : ∀ (i : grid0.Coords) (v1 : BitVec 32) (k0_hw17 : k0_chk17 i v1) (k0_t1 : Fin (k0_t1_loop v1).trips), ∀ (k0_h36 : k0_cond36 v1 k0_t1 = 1#1), ∀ a, (k0_off100 v1 k0_t1) a + S1.size a ≤ S2.size a := fun i v1 k0_hw17 k0_t1 k0_h36 => k0_hw17.2.2.1.2.2.2.2.1 k0_t1 k0_h36
theorem k0_off101_inb : ∀ (i : grid0.Coords) (v1 : BitVec 32) (k0_hw17 : k0_chk17 i v1) (k0_t1 : Fin (k0_t1_loop v1).trips), ∀ (k0_h36 : k0_cond36 v1 k0_t1 = 1#1), ∀ a, (k0_off101 v1 k0_t1) a + S1x1x64x656.size a ≤ S2x16x64x656.size a := fun i v1 k0_hw17 k0_t1 k0_h36 => k0_hw17.2.2.1.2.2.2.2.2.1 k0_t1 k0_h36
theorem k0_off101_wordsi8 : ∀ (i : grid0.Coords) (v1 : BitVec 32) (k0_hw17 : k0_chk17 i v1) (k0_t1 : Fin (k0_t1_loop v1).trips), ∀ (k0_h36 : k0_cond36 v1 k0_t1 = 1#1), (Rect.unit (s := S2x16x64x656) (k0_off101 v1 k0_t1) S1x1x64x656.size (k0_off101_inb i v1 k0_hw17 k0_t1 k0_h36)).WholeWords (EltTy.packing .i8) := fun i v1 k0_hw17 k0_t1 k0_h36 => k0_hw17.2.2.1.2.2.2.2.2.2.1 k0_t1 k0_h36 (k0_off101_inb i v1 k0_hw17 k0_t1 k0_h36)
theorem k0_off102_inb : ∀ (i : grid0.Coords) (v1 : BitVec 32) (k0_hw17 : k0_chk17 i v1) (k0_t1 : Fin (k0_t1_loop v1).trips), ∀ (k0_h37 : k0_cond37 v1 k0_t1 = 1#1), ∀ a, (k0_off102 v1 k0_t1) a + S1.size a ≤ S2.size a := fun i v1 k0_hw17 k0_t1 k0_h37 => k0_hw17.2.2.1.2.2.2.2.2.2.2.1 k0_t1 k0_h37
theorem k0_off103_inb : ∀ (i : grid0.Coords) (v1 : BitVec 32) (k0_hw17 : k0_chk17 i v1) (k0_t1 : Fin (k0_t1_loop v1).trips), ∀ (k0_h37 : k0_cond37 v1 k0_t1 = 1#1), ∀ a, (k0_off103 v1 k0_t1) a + S1x1x64x656.size a ≤ S2x16x64x656.size a := fun i v1 k0_hw17 k0_t1 k0_h37 => k0_hw17.2.2.1.2.2.2.2.2.2.2.2.1 k0_t1 k0_h37
theorem k0_off103_wordsi8 : ∀ (i : grid0.Coords) (v1 : BitVec 32) (k0_hw17 : k0_chk17 i v1) (k0_t1 : Fin (k0_t1_loop v1).trips), ∀ (k0_h37 : k0_cond37 v1 k0_t1 = 1#1), (Rect.unit (s := S2x16x64x656) (k0_off103 v1 k0_t1) S1x1x64x656.size (k0_off103_inb i v1 k0_hw17 k0_t1 k0_h37)).WholeWords (EltTy.packing .i8) := fun i v1 k0_hw17 k0_t1 k0_h37 => k0_hw17.2.2.1.2.2.2.2.2.2.2.2.2.1 k0_t1 k0_h37 (k0_off103_inb i v1 k0_hw17 k0_t1 k0_h37)
theorem k0_off104_inb : ∀ (i : grid0.Coords) (v1 : BitVec 32) (k0_hw17 : k0_chk17 i v1) (k0_t1 : Fin (k0_t1_loop v1).trips), ∀ (k0_h38 : k0_cond38 v1 k0_t1 = 1#1), ∀ a, (k0_off104 v1 k0_t1) a + S1.size a ≤ S2.size a := fun i v1 k0_hw17 k0_t1 k0_h38 => k0_hw17.2.2.1.2.2.2.2.2.2.2.2.2.2.1 k0_t1 k0_h38
theorem k0_off105_inb : ∀ (i : grid0.Coords) (v1 : BitVec 32) (k0_hw17 : k0_chk17 i v1) (k0_t1 : Fin (k0_t1_loop v1).trips), ∀ (k0_h38 : k0_cond38 v1 k0_t1 = 1#1), ∀ a, (k0_off105 v1 k0_t1) a + S1x1x64x656.size a ≤ S2x16x64x656.size a := fun i v1 k0_hw17 k0_t1 k0_h38 => k0_hw17.2.2.1.2.2.2.2.2.2.2.2.2.2.2.1 k0_t1 k0_h38
theorem k0_off105_wordsi8 : ∀ (i : grid0.Coords) (v1 : BitVec 32) (k0_hw17 : k0_chk17 i v1) (k0_t1 : Fin (k0_t1_loop v1).trips), ∀ (k0_h38 : k0_cond38 v1 k0_t1 = 1#1), (Rect.unit (s := S2x16x64x656) (k0_off105 v1 k0_t1) S1x1x64x656.size (k0_off105_inb i v1 k0_hw17 k0_t1 k0_h38)).WholeWords (EltTy.packing .i8) := fun i v1 k0_hw17 k0_t1 k0_h38 => k0_hw17.2.2.1.2.2.2.2.2.2.2.2.2.2.2.2.1 k0_t1 k0_h38 (k0_off105_inb i v1 k0_hw17 k0_t1 k0_h38)
theorem k0_off106_inb : ∀ (i : grid0.Coords) (v1 : BitVec 32) (k0_hw17 : k0_chk17 i v1) (k0_t1 : Fin (k0_t1_loop v1).trips), ∀ (k0_h39 : k0_cond39 v1 k0_t1 = 1#1), ∀ a, (k0_off106 v1 k0_t1) a + S1.size a ≤ S2.size a := fun i v1 k0_hw17 k0_t1 k0_h39 => k0_hw17.2.2.1.2.2.2.2.2.2.2.2.2.2.2.2.2.1 k0_t1 k0_h39
theorem k0_off107_inb : ∀ (i : grid0.Coords) (v1 : BitVec 32) (k0_hw17 : k0_chk17 i v1) (k0_t1 : Fin (k0_t1_loop v1).trips), ∀ (k0_h39 : k0_cond39 v1 k0_t1 = 1#1), ∀ a, (k0_off107 v1 k0_t1) a + S1x1x64x656.size a ≤ S2x16x64x656.size a := fun i v1 k0_hw17 k0_t1 k0_h39 => k0_hw17.2.2.1.2.2.2.2.2.2.2.2.2.2.2.2.2.2.1 k0_t1 k0_h39
theorem k0_off107_wordsi8 : ∀ (i : grid0.Coords) (v1 : BitVec 32) (k0_hw17 : k0_chk17 i v1) (k0_t1 : Fin (k0_t1_loop v1).trips), ∀ (k0_h39 : k0_cond39 v1 k0_t1 = 1#1), (Rect.unit (s := S2x16x64x656) (k0_off107 v1 k0_t1) S1x1x64x656.size (k0_off107_inb i v1 k0_hw17 k0_t1 k0_h39)).WholeWords (EltTy.packing .i8) := fun i v1 k0_hw17 k0_t1 k0_h39 => k0_hw17.2.2.1.2.2.2.2.2.2.2.2.2.2.2.2.2.2.2.1 k0_t1 k0_h39 (k0_off107_inb i v1 k0_hw17 k0_t1 k0_h39)
theorem k0_off108_inb : ∀ (i : grid0.Coords) (v1 : BitVec 32) (k0_hw17 : k0_chk17 i v1) (k0_t1 : Fin (k0_t1_loop v1).trips), ∀ (k0_h40 : k0_cond40 v1 k0_t1 = 1#1), ∀ a, (k0_off108 v1 k0_t1) a + S1.size a ≤ S2.size a := fun i v1 k0_hw17 k0_t1 k0_h40 => k0_hw17.2.2.1.2.2.2.2.2.2.2.2.2.2.2.2.2.2.2.2.1 k0_t1 k0_h40
theorem k0_off109_inb : ∀ (i : grid0.Coords) (v1 : BitVec 32) (k0_hw17 : k0_chk17 i v1) (k0_t1 : Fin (k0_t1_loop v1).trips), ∀ (k0_h40 : k0_cond40 v1 k0_t1 = 1#1), ∀ a, (k0_off109 v1 k0_t1) a + S1x1x64x656.size a ≤ S2x16x64x656.size a := fun i v1 k0_hw17 k0_t1 k0_h40 => k0_hw17.2.2.1.2.2.2.2.2.2.2.2.2.2.2.2.2.2.2.2.2.1 k0_t1 k0_h40
theorem k0_off109_wordsi8 : ∀ (i : grid0.Coords) (v1 : BitVec 32) (k0_hw17 : k0_chk17 i v1) (k0_t1 : Fin (k0_t1_loop v1).trips), ∀ (k0_h40 : k0_cond40 v1 k0_t1 = 1#1), (Rect.unit (s := S2x16x64x656) (k0_off109 v1 k0_t1) S1x1x64x656.size (k0_off109_inb i v1 k0_hw17 k0_t1 k0_h40)).WholeWords (EltTy.packing .i8) := fun i v1 k0_hw17 k0_t1 k0_h40 => k0_hw17.2.2.1.2.2.2.2.2.2.2.2.2.2.2.2.2.2.2.2.2.2.1 k0_t1 k0_h40 (k0_off109_inb i v1 k0_hw17 k0_t1 k0_h40)
theorem k0_off110_inb : ∀ (i : grid0.Coords) (v1 : BitVec 32) (k0_hw17 : k0_chk17 i v1) (k0_t1 : Fin (k0_t1_loop v1).trips), ∀ (k0_h41 : k0_cond41 v1 k0_t1 = 1#1), ∀ a, (k0_off110 v1 k0_t1) a + S1.size a ≤ S2.size a := fun i v1 k0_hw17 k0_t1 k0_h41 => k0_hw17.2.2.1.2.2.2.2.2.2.2.2.2.2.2.2.2.2.2.2.2.2.2.1 k0_t1 k0_h41
theorem k0_off111_inb : ∀ (i : grid0.Coords) (v1 : BitVec 32) (k0_hw17 : k0_chk17 i v1) (k0_t1 : Fin (k0_t1_loop v1).trips), ∀ (k0_h41 : k0_cond41 v1 k0_t1 = 1#1), ∀ a, (k0_off111 v1 k0_t1) a + S1x1x64x656.size a ≤ S2x16x64x656.size a := fun i v1 k0_hw17 k0_t1 k0_h41 => k0_hw17.2.2.1.2.2.2.2.2.2.2.2.2.2.2.2.2.2.2.2.2.2.2.2.1 k0_t1 k0_h41
theorem k0_off111_wordsi8 : ∀ (i : grid0.Coords) (v1 : BitVec 32) (k0_hw17 : k0_chk17 i v1) (k0_t1 : Fin (k0_t1_loop v1).trips), ∀ (k0_h41 : k0_cond41 v1 k0_t1 = 1#1), (Rect.unit (s := S2x16x64x656) (k0_off111 v1 k0_t1) S1x1x64x656.size (k0_off111_inb i v1 k0_hw17 k0_t1 k0_h41)).WholeWords (EltTy.packing .i8) := fun i v1 k0_hw17 k0_t1 k0_h41 => k0_hw17.2.2.1.2.2.2.2.2.2.2.2.2.2.2.2.2.2.2.2.2.2.2.2.2.1 k0_t1 k0_h41 (k0_off111_inb i v1 k0_hw17 k0_t1 k0_h41)
theorem k0_off112_inb : ∀ (i : grid0.Coords) (v1 : BitVec 32) (k0_hw17 : k0_chk17 i v1) (k0_t1 : Fin (k0_t1_loop v1).trips), ∀ (k0_h42 : k0_cond42 v1 k0_t1 = 1#1), ∀ a, (k0_off112 v1 k0_t1) a + S1.size a ≤ S2.size a := fun i v1 k0_hw17 k0_t1 k0_h42 => k0_hw17.2.2.1.2.2.2.2.2.2.2.2.2.2.2.2.2.2.2.2.2.2.2.2.2.2.1 k0_t1 k0_h42
theorem k0_off113_inb : ∀ (i : grid0.Coords) (v1 : BitVec 32) (k0_hw17 : k0_chk17 i v1) (k0_t1 : Fin (k0_t1_loop v1).trips), ∀ (k0_h42 : k0_cond42 v1 k0_t1 = 1#1), ∀ a, (k0_off113 v1 k0_t1) a + S1x1x64x656.size a ≤ S2x16x64x656.size a := fun i v1 k0_hw17 k0_t1 k0_h42 => k0_hw17.2.2.1.2.2.2.2.2.2.2.2.2.2.2.2.2.2.2.2.2.2.2.2.2.2.2.1 k0_t1 k0_h42
theorem k0_off113_wordsi8 : ∀ (i : grid0.Coords) (v1 : BitVec 32) (k0_hw17 : k0_chk17 i v1) (k0_t1 : Fin (k0_t1_loop v1).trips), ∀ (k0_h42 : k0_cond42 v1 k0_t1 = 1#1), (Rect.unit (s := S2x16x64x656) (k0_off113 v1 k0_t1) S1x1x64x656.size (k0_off113_inb i v1 k0_hw17 k0_t1 k0_h42)).WholeWords (EltTy.packing .i8) := fun i v1 k0_hw17 k0_t1 k0_h42 => k0_hw17.2.2.1.2.2.2.2.2.2.2.2.2.2.2.2.2.2.2.2.2.2.2.2.2.2.2.2.1 k0_t1 k0_h42 (k0_off113_inb i v1 k0_hw17 k0_t1 k0_h42)
theorem k0_off114_inb : ∀ (i : grid0.Coords) (v1 : BitVec 32) (k0_hw17 : k0_chk17 i v1) (k0_t1 : Fin (k0_t1_loop v1).trips), ∀ (k0_h43 : k0_cond43 v1 k0_t1 = 1#1), ∀ a, (k0_off114 v1 k0_t1) a + S1.size a ≤ S2.size a := fun i v1 k0_hw17 k0_t1 k0_h43 => k0_hw17.2.2.1.2.2.2.2.2.2.2.2.2.2.2.2.2.2.2.2.2.2.2.2.2.2.2.2.2.1 k0_t1 k0_h43
theorem k0_off115_inb : ∀ (i : grid0.Coords) (v1 : BitVec 32) (k0_hw17 : k0_chk17 i v1) (k0_t1 : Fin (k0_t1_loop v1).trips), ∀ (k0_h43 : k0_cond43 v1 k0_t1 = 1#1), ∀ a, (k0_off115 v1 k0_t1) a + S1x1x64x656.size a ≤ S2x16x64x656.size a := fun i v1 k0_hw17 k0_t1 k0_h43 => k0_hw17.2.2.1.2.2.2.2.2.2.2.2.2.2.2.2.2.2.2.2.2.2.2.2.2.2.2.2.2.2.1 k0_t1 k0_h43
theorem k0_off115_wordsi8 : ∀ (i : grid0.Coords) (v1 : BitVec 32) (k0_hw17 : k0_chk17 i v1) (k0_t1 : Fin (k0_t1_loop v1).trips), ∀ (k0_h43 : k0_cond43 v1 k0_t1 = 1#1), (Rect.unit (s := S2x16x64x656) (k0_off115 v1 k0_t1) S1x1x64x656.size (k0_off115_inb i v1 k0_hw17 k0_t1 k0_h43)).WholeWords (EltTy.packing .i8) := fun i v1 k0_hw17 k0_t1 k0_h43 => k0_hw17.2.2.1.2.2.2.2.2.2.2.2.2.2.2.2.2.2.2.2.2.2.2.2.2.2.2.2.2.2.2.1 k0_t1 k0_h43 (k0_off115_inb i v1 k0_hw17 k0_t1 k0_h43)
theorem k0_off116_inb : ∀ (i : grid0.Coords) (v1 : BitVec 32) (k0_hw17 : k0_chk17 i v1) (k0_t1 : Fin (k0_t1_loop v1).trips), ∀ (k0_h44 : k0_cond44 v1 k0_t1 = 1#1), ∀ a, (k0_off116 v1 k0_t1) a + S1.size a ≤ S2.size a := fun i v1 k0_hw17 k0_t1 k0_h44 => k0_hw17.2.2.1.2.2.2.2.2.2.2.2.2.2.2.2.2.2.2.2.2.2.2.2.2.2.2.2.2.2.2.2.1 k0_t1 k0_h44
theorem k0_off117_inb : ∀ (i : grid0.Coords) (v1 : BitVec 32) (k0_hw17 : k0_chk17 i v1) (k0_t1 : Fin (k0_t1_loop v1).trips), ∀ (k0_h44 : k0_cond44 v1 k0_t1 = 1#1), ∀ a, (k0_off117 v1 k0_t1) a + S1x1x64x656.size a ≤ S2x16x64x656.size a := fun i v1 k0_hw17 k0_t1 k0_h44 => k0_hw17.2.2.1.2.2.2.2.2.2.2.2.2.2.2.2.2.2.2.2.2.2.2.2.2.2.2.2.2.2.2.2.2.1 k0_t1 k0_h44
theorem k0_off117_wordsi8 : ∀ (i : grid0.Coords) (v1 : BitVec 32) (k0_hw17 : k0_chk17 i v1) (k0_t1 : Fin (k0_t1_loop v1).trips), ∀ (k0_h44 : k0_cond44 v1 k0_t1 = 1#1), (Rect.unit (s := S2x16x64x656) (k0_off117 v1 k0_t1) S1x1x64x656.size (k0_off117_inb i v1 k0_hw17 k0_t1 k0_h44)).WholeWords (EltTy.packing .i8) := fun i v1 k0_hw17 k0_t1 k0_h44 => k0_hw17.2.2.1.2.2.2.2.2.2.2.2.2.2.2.2.2.2.2.2.2.2.2.2.2.2.2.2.2.2.2.2.2.2.1 k0_t1 k0_h44 (k0_off117_inb i v1 k0_hw17 k0_t1 k0_h44)
theorem k0_off118_inb : ∀ (i : grid0.Coords) (v1 : BitVec 32) (k0_hw17 : k0_chk17 i v1) (k0_t1 : Fin (k0_t1_loop v1).trips), ∀ (k0_h45 : k0_cond45 v1 k0_t1 = 1#1), ∀ a, (k0_off118 v1 k0_t1) a + S1.size a ≤ S2.size a := fun i v1 k0_hw17 k0_t1 k0_h45 => k0_hw17.2.2.1.2.2.2.2.2.2.2.2.2.2.2.2.2.2.2.2.2.2.2.2.2.2.2.2.2.2.2.2.2.2.2 k0_t1 k0_h45
theorem k0_off119_inb : ∀ (i : grid0.Coords) (v1 : BitVec 32) (k0_hw17 : k0_chk17 i v1) (k0_t1 : Fin (k0_t1_loop v1).trips), ∀ (k0_h45 : k0_cond45 v1 k0_t1 = 1#1), ∀ a, (k0_off119 v1 k0_t1) a + S1x1x64x656.size a ≤ S2x16x64x656.size a := fun i v1 k0_hw17 k0_t1 k0_h45 => k0_hw17.2.2.2.1.1 k0_t1 k0_h45
theorem k0_off119_wordsi8 : ∀ (i : grid0.Coords) (v1 : BitVec 32) (k0_hw17 : k0_chk17 i v1) (k0_t1 : Fin (k0_t1_loop v1).trips), ∀ (k0_h45 : k0_cond45 v1 k0_t1 = 1#1), (Rect.unit (s := S2x16x64x656) (k0_off119 v1 k0_t1) S1x1x64x656.size (k0_off119_inb i v1 k0_hw17 k0_t1 k0_h45)).WholeWords (EltTy.packing .i8) := fun i v1 k0_hw17 k0_t1 k0_h45 => k0_hw17.2.2.2.1.2.1 k0_t1 k0_h45 (k0_off119_inb i v1 k0_hw17 k0_t1 k0_h45)
theorem k0_off120_inb : ∀ (i : grid0.Coords) (v1 : BitVec 32) (k0_hw17 : k0_chk17 i v1) (k0_t1 : Fin (k0_t1_loop v1).trips), ∀ (k0_h46 : k0_cond46 v1 k0_t1 = 1#1), ∀ a, (k0_off120 v1 k0_t1) a + S1.size a ≤ S2.size a := fun i v1 k0_hw17 k0_t1 k0_h46 => k0_hw17.2.2.2.1.2.2.1 k0_t1 k0_h46
theorem k0_off121_inb : ∀ (i : grid0.Coords) (v1 : BitVec 32) (k0_hw17 : k0_chk17 i v1) (k0_t1 : Fin (k0_t1_loop v1).trips), ∀ (k0_h46 : k0_cond46 v1 k0_t1 = 1#1), ∀ a, (k0_off121 v1 k0_t1) a + S1x1x64x656.size a ≤ S2x16x64x656.size a := fun i v1 k0_hw17 k0_t1 k0_h46 => k0_hw17.2.2.2.1.2.2.2.1 k0_t1 k0_h46
theorem k0_off121_wordsi8 : ∀ (i : grid0.Coords) (v1 : BitVec 32) (k0_hw17 : k0_chk17 i v1) (k0_t1 : Fin (k0_t1_loop v1).trips), ∀ (k0_h46 : k0_cond46 v1 k0_t1 = 1#1), (Rect.unit (s := S2x16x64x656) (k0_off121 v1 k0_t1) S1x1x64x656.size (k0_off121_inb i v1 k0_hw17 k0_t1 k0_h46)).WholeWords (EltTy.packing .i8) := fun i v1 k0_hw17 k0_t1 k0_h46 => k0_hw17.2.2.2.1.2.2.2.2.1 k0_t1 k0_h46 (k0_off121_inb i v1 k0_hw17 k0_t1 k0_h46)
theorem k0_off122_inb : ∀ (i : grid0.Coords) (v1 : BitVec 32) (k0_hw17 : k0_chk17 i v1) (k0_t1 : Fin (k0_t1_loop v1).trips), ∀ (k0_h47 : k0_cond47 v1 k0_t1 = 1#1), ∀ a, (k0_off122 v1 k0_t1) a + S1.size a ≤ S2.size a := fun i v1 k0_hw17 k0_t1 k0_h47 => k0_hw17.2.2.2.1.2.2.2.2.2.1 k0_t1 k0_h47
theorem k0_off123_inb : ∀ (i : grid0.Coords) (v1 : BitVec 32) (k0_hw17 : k0_chk17 i v1) (k0_t1 : Fin (k0_t1_loop v1).trips), ∀ (k0_h47 : k0_cond47 v1 k0_t1 = 1#1), ∀ a, (k0_off123 v1 k0_t1) a + S1x1x64x656.size a ≤ S2x16x64x656.size a := fun i v1 k0_hw17 k0_t1 k0_h47 => k0_hw17.2.2.2.1.2.2.2.2.2.2.1 k0_t1 k0_h47
theorem k0_off123_wordsi8 : ∀ (i : grid0.Coords) (v1 : BitVec 32) (k0_hw17 : k0_chk17 i v1) (k0_t1 : Fin (k0_t1_loop v1).trips), ∀ (k0_h47 : k0_cond47 v1 k0_t1 = 1#1), (Rect.unit (s := S2x16x64x656) (k0_off123 v1 k0_t1) S1x1x64x656.size (k0_off123_inb i v1 k0_hw17 k0_t1 k0_h47)).WholeWords (EltTy.packing .i8) := fun i v1 k0_hw17 k0_t1 k0_h47 => k0_hw17.2.2.2.1.2.2.2.2.2.2.2.1 k0_t1 k0_h47 (k0_off123_inb i v1 k0_hw17 k0_t1 k0_h47)
theorem k0_off124_inb : ∀ (i : grid0.Coords) (v1 : BitVec 32) (k0_hw17 : k0_chk17 i v1) (k0_t1 : Fin (k0_t1_loop v1).trips), ∀ (k0_h48 : k0_cond48 v1 k0_t1 = 1#1), ∀ a, (k0_off124 v1 k0_t1) a + S1.size a ≤ S2.size a := fun i v1 k0_hw17 k0_t1 k0_h48 => k0_hw17.2.2.2.1.2.2.2.2.2.2.2.2.1 k0_t1 k0_h48
theorem k0_off125_inb : ∀ (i : grid0.Coords) (v1 : BitVec 32) (k0_hw17 : k0_chk17 i v1) (k0_t1 : Fin (k0_t1_loop v1).trips), ∀ (k0_h48 : k0_cond48 v1 k0_t1 = 1#1), ∀ a, (k0_off125 v1 k0_t1) a + S1x1x64x656.size a ≤ S2x16x64x656.size a := fun i v1 k0_hw17 k0_t1 k0_h48 => k0_hw17.2.2.2.1.2.2.2.2.2.2.2.2.2.1 k0_t1 k0_h48
theorem k0_off125_wordsi8 : ∀ (i : grid0.Coords) (v1 : BitVec 32) (k0_hw17 : k0_chk17 i v1) (k0_t1 : Fin (k0_t1_loop v1).trips), ∀ (k0_h48 : k0_cond48 v1 k0_t1 = 1#1), (Rect.unit (s := S2x16x64x656) (k0_off125 v1 k0_t1) S1x1x64x656.size (k0_off125_inb i v1 k0_hw17 k0_t1 k0_h48)).WholeWords (EltTy.packing .i8) := fun i v1 k0_hw17 k0_t1 k0_h48 => k0_hw17.2.2.2.1.2.2.2.2.2.2.2.2.2.2.1 k0_t1 k0_h48 (k0_off125_inb i v1 k0_hw17 k0_t1 k0_h48)
theorem k0_off126_inb : ∀ (i : grid0.Coords) (v1 : BitVec 32) (k0_hw17 : k0_chk17 i v1) (k0_t1 : Fin (k0_t1_loop v1).trips), ∀ (k0_h49 : k0_cond49 v1 k0_t1 = 1#1), ∀ a, (k0_off126 v1 k0_t1) a + S1.size a ≤ S2.size a := fun i v1 k0_hw17 k0_t1 k0_h49 => k0_hw17.2.2.2.1.2.2.2.2.2.2.2.2.2.2.2.1 k0_t1 k0_h49
theorem k0_off127_inb : ∀ (i : grid0.Coords) (v1 : BitVec 32) (k0_hw17 : k0_chk17 i v1) (k0_t1 : Fin (k0_t1_loop v1).trips), ∀ (k0_h49 : k0_cond49 v1 k0_t1 = 1#1), ∀ a, (k0_off127 v1 k0_t1) a + S1x1x64x656.size a ≤ S2x16x64x656.size a := fun i v1 k0_hw17 k0_t1 k0_h49 => k0_hw17.2.2.2.1.2.2.2.2.2.2.2.2.2.2.2.2.1 k0_t1 k0_h49
theorem k0_off127_wordsi8 : ∀ (i : grid0.Coords) (v1 : BitVec 32) (k0_hw17 : k0_chk17 i v1) (k0_t1 : Fin (k0_t1_loop v1).trips), ∀ (k0_h49 : k0_cond49 v1 k0_t1 = 1#1), (Rect.unit (s := S2x16x64x656) (k0_off127 v1 k0_t1) S1x1x64x656.size (k0_off127_inb i v1 k0_hw17 k0_t1 k0_h49)).WholeWords (EltTy.packing .i8) := fun i v1 k0_hw17 k0_t1 k0_h49 => k0_hw17.2.2.2.1.2.2.2.2.2.2.2.2.2.2.2.2.2.1 k0_t1 k0_h49 (k0_off127_inb i v1 k0_hw17 k0_t1 k0_h49)
theorem k0_off128_inb : ∀ (i : grid0.Coords) (v1 : BitVec 32) (k0_hw17 : k0_chk17 i v1) (k0_t1 : Fin (k0_t1_loop v1).trips), ∀ (k0_h50 : k0_cond50 v1 k0_t1 = 1#1), ∀ a, (k0_off128 v1 k0_t1) a + S1.size a ≤ S2.size a := fun i v1 k0_hw17 k0_t1 k0_h50 => k0_hw17.2.2.2.1.2.2.2.2.2.2.2.2.2.2.2.2.2.2.1 k0_t1 k0_h50
theorem k0_off129_inb : ∀ (i : grid0.Coords) (v1 : BitVec 32) (k0_hw17 : k0_chk17 i v1) (k0_t1 : Fin (k0_t1_loop v1).trips), ∀ (k0_h50 : k0_cond50 v1 k0_t1 = 1#1), ∀ a, (k0_off129 v1 k0_t1) a + S1x1x64x656.size a ≤ S2x16x64x656.size a := fun i v1 k0_hw17 k0_t1 k0_h50 => k0_hw17.2.2.2.1.2.2.2.2.2.2.2.2.2.2.2.2.2.2.2.1 k0_t1 k0_h50
theorem k0_off129_wordsi8 : ∀ (i : grid0.Coords) (v1 : BitVec 32) (k0_hw17 : k0_chk17 i v1) (k0_t1 : Fin (k0_t1_loop v1).trips), ∀ (k0_h50 : k0_cond50 v1 k0_t1 = 1#1), (Rect.unit (s := S2x16x64x656) (k0_off129 v1 k0_t1) S1x1x64x656.size (k0_off129_inb i v1 k0_hw17 k0_t1 k0_h50)).WholeWords (EltTy.packing .i8) := fun i v1 k0_hw17 k0_t1 k0_h50 => k0_hw17.2.2.2.1.2.2.2.2.2.2.2.2.2.2.2.2.2.2.2.2.1 k0_t1 k0_h50 (k0_off129_inb i v1 k0_hw17 k0_t1 k0_h50)
theorem k0_off130_inb : ∀ (i : grid0.Coords) (v1 : BitVec 32) (k0_hw17 : k0_chk17 i v1) (k0_t1 : Fin (k0_t1_loop v1).trips), ∀ a, (k0_off130 v1 k0_t1) a + S1x16x64x656.size a ≤ S2x16x64x656.size a := fun i v1 k0_hw17 k0_t1 => k0_hw17.2.2.2.1.2.2.2.2.2.2.2.2.2.2.2.2.2.2.2.2.2.1 k0_t1
theorem k0_t2_ok : ∀ (i : grid0.Coords) (v1 : BitVec 32) (k0_hw17 : k0_chk17 i v1), (k0_t2_loop v1).OK := fun i v1 k0_hw17 => k0_hw17.2.2.2.1.2.2.2.2.2.2.2.2.2.2.2.2.2.2.2.2.2.2.1
theorem k0_off131_inb : ∀ (i : grid0.Coords) (v1 : BitVec 32) (k0_hw17 : k0_chk17 i v1) (k0_t2 : Fin (k0_t2_loop v1).trips), ∀ (k0_h51 : k0_cond51 v1 k0_t2 = 1#1), ∀ (k0_h52 : k0_cond52 v1 k0_t2 = 1#1), ∀ a, (k0_off131 i v1 k0_t2) a + S1x1.size a ≤ S65x128.size a := fun i v1 k0_hw17 k0_t2 k0_h51 k0_h52 => k0_hw17.2.2.2.1.2.2.2.2.2.2.2.2.2.2.2.2.2.2.2.2.2.2.2.1 k0_t2 k0_h51 k0_h52
theorem k0_off132_inb : ∀ (i : grid0.Coords) (v1 : BitVec 32) (k0_hw17 : k0_chk17 i v1) (k0_t2 : Fin (k0_t2_loop v1).trips), ∀ (k0_h51 : k0_cond51 v1 k0_t2 = 1#1), ∀ (k0_h52 : k0_cond52 v1 k0_t2 = 1#1), ∀ a, (k0_off132 v1 k0_t2) a + S1.size a ≤ S2.size a := fun i v1 k0_hw17 k0_t2 k0_h51 k0_h52 => k0_hw17.2.2.2.1.2.2.2.2.2.2.2.2.2.2.2.2.2.2.2.2.2.2.2.2.1 k0_t2 k0_h51 k0_h52
theorem k0_off133_inb : ∀ (i : grid0.Coords) (v1 : BitVec 32) (k0_hw17 : k0_chk17 i v1) (k0_t2 : Fin (k0_t2_loop v1).trips), ∀ (k0_h51 : k0_cond51 v1 k0_t2 = 1#1), ∀ (k0_h52 : k0_cond52 v1 k0_t2 = 1#1), ∀ a, (k0_off133 v1 k0_t2) a + S1x1x64x656.size a ≤ S2x16x64x656.size a := fun i v1 k0_hw17 k0_t2 k0_h51 k0_h52 => k0_hw17.2.2.2.1.2.2.2.2.2.2.2.2.2.2.2.2.2.2.2.2.2.2.2.2.2.1 k0_t2 k0_h51 k0_h52
theorem k0_off133_wordsi8 : ∀ (i : grid0.Coords) (v1 : BitVec 32) (k0_hw17 : k0_chk17 i v1) (k0_t2 : Fin (k0_t2_loop v1).trips), ∀ (k0_h51 : k0_cond51 v1 k0_t2 = 1#1), ∀ (k0_h52 : k0_cond52 v1 k0_t2 = 1#1), (Rect.unit (s := S2x16x64x656) (k0_off133 v1 k0_t2) S1x1x64x656.size (k0_off133_inb i v1 k0_hw17 k0_t2 k0_h51 k0_h52)).WholeWords (EltTy.packing .i8) := fun i v1 k0_hw17 k0_t2 k0_h51 k0_h52 => k0_hw17.2.2.2.1.2.2.2.2.2.2.2.2.2.2.2.2.2.2.2.2.2.2.2.2.2.2.1 k0_t2 k0_h51 k0_h52 (k0_off133_inb i v1 k0_hw17 k0_t2 k0_h51 k0_h52)
theorem k0_off135_inb : ∀ (i : grid0.Coords) (v1 : BitVec 32) (k0_hw17 : k0_chk17 i v1) (k0_t2 : Fin (k0_t2_loop v1).trips), ∀ (k0_h51 : k0_cond51 v1 k0_t2 = 1#1), ∀ (k0_h53 : k0_cond53 v1 k0_t2 = 1#1), ∀ a, (k0_off135 i v1 k0_t2) a + S1x1.size a ≤ S65x128.size a := fun i v1 k0_hw17 k0_t2 k0_h51 k0_h53 => k0_hw17.2.2.2.1.2.2.2.2.2.2.2.2.2.2.2.2.2.2.2.2.2.2.2.2.2.2.2.1 k0_t2 k0_h51 k0_h53
theorem k0_off136_inb : ∀ (i : grid0.Coords) (v1 : BitVec 32) (k0_hw17 : k0_chk17 i v1) (k0_t2 : Fin (k0_t2_loop v1).trips), ∀ (k0_h51 : k0_cond51 v1 k0_t2 = 1#1), ∀ (k0_h53 : k0_cond53 v1 k0_t2 = 1#1), ∀ a, (k0_off136 v1 k0_t2) a + S1.size a ≤ S2.size a := fun i v1 k0_hw17 k0_t2 k0_h51 k0_h53 => k0_hw17.2.2.2.1.2.2.2.2.2.2.2.2.2.2.2.2.2.2.2.2.2.2.2.2.2.2.2.2.1 k0_t2 k0_h51 k0_h53
theorem k0_off137_inb : ∀ (i : grid0.Coords) (v1 : BitVec 32) (k0_hw17 : k0_chk17 i v1) (k0_t2 : Fin (k0_t2_loop v1).trips), ∀ (k0_h51 : k0_cond51 v1 k0_t2 = 1#1), ∀ (k0_h53 : k0_cond53 v1 k0_t2 = 1#1), ∀ a, (k0_off137 v1 k0_t2) a + S1x1x64x656.size a ≤ S2x16x64x656.size a := fun i v1 k0_hw17 k0_t2 k0_h51 k0_h53 => k0_hw17.2.2.2.1.2.2.2.2.2.2.2.2.2.2.2.2.2.2.2.2.2.2.2.2.2.2.2.2.2.1 k0_t2 k0_h51 k0_h53
theorem k0_off137_wordsi8 : ∀ (i : grid0.Coords) (v1 : BitVec 32) (k0_hw17 : k0_chk17 i v1) (k0_t2 : Fin (k0_t2_loop v1).trips), ∀ (k0_h51 : k0_cond51 v1 k0_t2 = 1#1), ∀ (k0_h53 : k0_cond53 v1 k0_t2 = 1#1), (Rect.unit (s := S2x16x64x656) (k0_off137 v1 k0_t2) S1x1x64x656.size (k0_off137_inb i v1 k0_hw17 k0_t2 k0_h51 k0_h53)).WholeWords (EltTy.packing .i8) := fun i v1 k0_hw17 k0_t2 k0_h51 k0_h53 => k0_hw17.2.2.2.1.2.2.2.2.2.2.2.2.2.2.2.2.2.2.2.2.2.2.2.2.2.2.2.2.2.2.1 k0_t2 k0_h51 k0_h53 (k0_off137_inb i v1 k0_hw17 k0_t2 k0_h51 k0_h53)
theorem k0_off139_inb : ∀ (i : grid0.Coords) (v1 : BitVec 32) (k0_hw17 : k0_chk17 i v1) (k0_t2 : Fin (k0_t2_loop v1).trips), ∀ (k0_h51 : k0_cond51 v1 k0_t2 = 1#1), ∀ (k0_h54 : k0_cond54 v1 k0_t2 = 1#1), ∀ a, (k0_off139 i v1 k0_t2) a + S1x1.size a ≤ S65x128.size a := fun i v1 k0_hw17 k0_t2 k0_h51 k0_h54 => k0_hw17.2.2.2.1.2.2.2.2.2.2.2.2.2.2.2.2.2.2.2.2.2.2.2.2.2.2.2.2.2.2.2.1 k0_t2 k0_h51 k0_h54
theorem k0_off140_inb : ∀ (i : grid0.Coords) (v1 : BitVec 32) (k0_hw17 : k0_chk17 i v1) (k0_t2 : Fin (k0_t2_loop v1).trips), ∀ (k0_h51 : k0_cond51 v1 k0_t2 = 1#1), ∀ (k0_h54 : k0_cond54 v1 k0_t2 = 1#1), ∀ a, (k0_off140 v1 k0_t2) a + S1.size a ≤ S2.size a := fun i v1 k0_hw17 k0_t2 k0_h51 k0_h54 => k0_hw17.2.2.2.1.2.2.2.2.2.2.2.2.2.2.2.2.2.2.2.2.2.2.2.2.2.2.2.2.2.2.2.2.1 k0_t2 k0_h51 k0_h54
theorem k0_off141_inb : ∀ (i : grid0.Coords) (v1 : BitVec 32) (k0_hw17 : k0_chk17 i v1) (k0_t2 : Fin (k0_t2_loop v1).trips), ∀ (k0_h51 : k0_cond51 v1 k0_t2 = 1#1), ∀ (k0_h54 : k0_cond54 v1 k0_t2 = 1#1), ∀ a, (k0_off141 v1 k0_t2) a + S1x1x64x656.size a ≤ S2x16x64x656.size a := fun i v1 k0_hw17 k0_t2 k0_h51 k0_h54 => k0_hw17.2.2.2.1.2.2.2.2.2.2.2.2.2.2.2.2.2.2.2.2.2.2.2.2.2.2.2.2.2.2.2.2.2.1 k0_t2 k0_h51 k0_h54
theorem k0_off141_wordsi8 : ∀ (i : grid0.Coords) (v1 : BitVec 32) (k0_hw17 : k0_chk17 i v1) (k0_t2 : Fin (k0_t2_loop v1).trips), ∀ (k0_h51 : k0_cond51 v1 k0_t2 = 1#1), ∀ (k0_h54 : k0_cond54 v1 k0_t2 = 1#1), (Rect.unit (s := S2x16x64x656) (k0_off141 v1 k0_t2) S1x1x64x656.size (k0_off141_inb i v1 k0_hw17 k0_t2 k0_h51 k0_h54)).WholeWords (EltTy.packing .i8) := fun i v1 k0_hw17 k0_t2 k0_h51 k0_h54 => k0_hw17.2.2.2.1.2.2.2.2.2.2.2.2.2.2.2.2.2.2.2.2.2.2.2.2.2.2.2.2.2.2.2.2.2.2.1 k0_t2 k0_h51 k0_h54 (k0_off141_inb i v1 k0_hw17 k0_t2 k0_h51 k0_h54)
theorem k0_off143_inb : ∀ (i : grid0.Coords) (v1 : BitVec 32) (k0_hw17 : k0_chk17 i v1) (k0_t2 : Fin (k0_t2_loop v1).trips), ∀ (k0_h51 : k0_cond51 v1 k0_t2 = 1#1), ∀ (k0_h55 : k0_cond55 v1 k0_t2 = 1#1), ∀ a, (k0_off143 i v1 k0_t2) a + S1x1.size a ≤ S65x128.size a := fun i v1 k0_hw17 k0_t2 k0_h51 k0_h55 => k0_hw17.2.2.2.1.2.2.2.2.2.2.2.2.2.2.2.2.2.2.2.2.2.2.2.2.2.2.2.2.2.2.2.2.2.2.2 k0_t2 k0_h51 k0_h55
theorem k0_off144_inb : ∀ (i : grid0.Coords) (v1 : BitVec 32) (k0_hw17 : k0_chk17 i v1) (k0_t2 : Fin (k0_t2_loop v1).trips), ∀ (k0_h51 : k0_cond51 v1 k0_t2 = 1#1), ∀ (k0_h55 : k0_cond55 v1 k0_t2 = 1#1), ∀ a, (k0_off144 v1 k0_t2) a + S1.size a ≤ S2.size a := fun i v1 k0_hw17 k0_t2 k0_h51 k0_h55 => k0_hw17.2.2.2.2.1.1 k0_t2 k0_h51 k0_h55
theorem k0_off145_inb : ∀ (i : grid0.Coords) (v1 : BitVec 32) (k0_hw17 : k0_chk17 i v1) (k0_t2 : Fin (k0_t2_loop v1).trips), ∀ (k0_h51 : k0_cond51 v1 k0_t2 = 1#1), ∀ (k0_h55 : k0_cond55 v1 k0_t2 = 1#1), ∀ a, (k0_off145 v1 k0_t2) a + S1x1x64x656.size a ≤ S2x16x64x656.size a := fun i v1 k0_hw17 k0_t2 k0_h51 k0_h55 => k0_hw17.2.2.2.2.1.2.1 k0_t2 k0_h51 k0_h55
theorem k0_off145_wordsi8 : ∀ (i : grid0.Coords) (v1 : BitVec 32) (k0_hw17 : k0_chk17 i v1) (k0_t2 : Fin (k0_t2_loop v1).trips), ∀ (k0_h51 : k0_cond51 v1 k0_t2 = 1#1), ∀ (k0_h55 : k0_cond55 v1 k0_t2 = 1#1), (Rect.unit (s := S2x16x64x656) (k0_off145 v1 k0_t2) S1x1x64x656.size (k0_off145_inb i v1 k0_hw17 k0_t2 k0_h51 k0_h55)).WholeWords (EltTy.packing .i8) := fun i v1 k0_hw17 k0_t2 k0_h51 k0_h55 => k0_hw17.2.2.2.2.1.2.2.1 k0_t2 k0_h51 k0_h55 (k0_off145_inb i v1 k0_hw17 k0_t2 k0_h51 k0_h55)
theorem k0_off147_inb : ∀ (i : grid0.Coords) (v1 : BitVec 32) (k0_hw17 : k0_chk17 i v1) (k0_t2 : Fin (k0_t2_loop v1).trips), ∀ (k0_h51 : k0_cond51 v1 k0_t2 = 1#1), ∀ (k0_h56 : k0_cond56 v1 k0_t2 = 1#1), ∀ a, (k0_off147 i v1 k0_t2) a + S1x1.size a ≤ S65x128.size a := fun i v1 k0_hw17 k0_t2 k0_h51 k0_h56 => k0_hw17.2.2.2.2.1.2.2.2.1 k0_t2 k0_h51 k0_h56
theorem k0_off148_inb : ∀ (i : grid0.Coords) (v1 : BitVec 32) (k0_hw17 : k0_chk17 i v1) (k0_t2 : Fin (k0_t2_loop v1).trips), ∀ (k0_h51 : k0_cond51 v1 k0_t2 = 1#1), ∀ (k0_h56 : k0_cond56 v1 k0_t2 = 1#1), ∀ a, (k0_off148 v1 k0_t2) a + S1.size a ≤ S2.size a := fun i v1 k0_hw17 k0_t2 k0_h51 k0_h56 => k0_hw17.2.2.2.2.1.2.2.2.2.1 k0_t2 k0_h51 k0_h56
theorem k0_off149_inb : ∀ (i : grid0.Coords) (v1 : BitVec 32) (k0_hw17 : k0_chk17 i v1) (k0_t2 : Fin (k0_t2_loop v1).trips), ∀ (k0_h51 : k0_cond51 v1 k0_t2 = 1#1), ∀ (k0_h56 : k0_cond56 v1 k0_t2 = 1#1), ∀ a, (k0_off149 v1 k0_t2) a + S1x1x64x656.size a ≤ S2x16x64x656.size a := fun i v1 k0_hw17 k0_t2 k0_h51 k0_h56 => k0_hw17.2.2.2.2.1.2.2.2.2.2.1 k0_t2 k0_h51 k0_h56
theorem k0_off149_wordsi8 : ∀ (i : grid0.Coords) (v1 : BitVec 32) (k0_hw17 : k0_chk17 i v1) (k0_t2 : Fin (k0_t2_loop v1).trips), ∀ (k0_h51 : k0_cond51 v1 k0_t2 = 1#1), ∀ (k0_h56 : k0_cond56 v1 k0_t2 = 1#1), (Rect.unit (s := S2x16x64x656) (k0_off149 v1 k0_t2) S1x1x64x656.size (k0_off149_inb i v1 k0_hw17 k0_t2 k0_h51 k0_h56)).WholeWords (EltTy.packing .i8) := fun i v1 k0_hw17 k0_t2 k0_h51 k0_h56 => k0_hw17.2.2.2.2.1.2.2.2.2.2.2.1 k0_t2 k0_h51 k0_h56 (k0_off149_inb i v1 k0_hw17 k0_t2 k0_h51 k0_h56)
theorem k0_off151_inb : ∀ (i : grid0.Coords) (v1 : BitVec 32) (k0_hw17 : k0_chk17 i v1) (k0_t2 : Fin (k0_t2_loop v1).trips), ∀ (k0_h51 : k0_cond51 v1 k0_t2 = 1#1), ∀ (k0_h57 : k0_cond57 v1 k0_t2 = 1#1), ∀ a, (k0_off151 i v1 k0_t2) a + S1x1.size a ≤ S65x128.size a := fun i v1 k0_hw17 k0_t2 k0_h51 k0_h57 => k0_hw17.2.2.2.2.1.2.2.2.2.2.2.2.1 k0_t2 k0_h51 k0_h57
theorem k0_off152_inb : ∀ (i : grid0.Coords) (v1 : BitVec 32) (k0_hw17 : k0_chk17 i v1) (k0_t2 : Fin (k0_t2_loop v1).trips), ∀ (k0_h51 : k0_cond51 v1 k0_t2 = 1#1), ∀ (k0_h57 : k0_cond57 v1 k0_t2 = 1#1), ∀ a, (k0_off152 v1 k0_t2) a + S1.size a ≤ S2.size a := fun i v1 k0_hw17 k0_t2 k0_h51 k0_h57 => k0_hw17.2.2.2.2.1.2.2.2.2.2.2.2.2.1 k0_t2 k0_h51 k0_h57
theorem k0_off153_inb : ∀ (i : grid0.Coords) (v1 : BitVec 32) (k0_hw17 : k0_chk17 i v1) (k0_t2 : Fin (k0_t2_loop v1).trips), ∀ (k0_h51 : k0_cond51 v1 k0_t2 = 1#1), ∀ (k0_h57 : k0_cond57 v1 k0_t2 = 1#1), ∀ a, (k0_off153 v1 k0_t2) a + S1x1x64x656.size a ≤ S2x16x64x656.size a := fun i v1 k0_hw17 k0_t2 k0_h51 k0_h57 => k0_hw17.2.2.2.2.1.2.2.2.2.2.2.2.2.2.1 k0_t2 k0_h51 k0_h57
theorem k0_off153_wordsi8 : ∀ (i : grid0.Coords) (v1 : BitVec 32) (k0_hw17 : k0_chk17 i v1) (k0_t2 : Fin (k0_t2_loop v1).trips), ∀ (k0_h51 : k0_cond51 v1 k0_t2 = 1#1), ∀ (k0_h57 : k0_cond57 v1 k0_t2 = 1#1), (Rect.unit (s := S2x16x64x656) (k0_off153 v1 k0_t2) S1x1x64x656.size (k0_off153_inb i v1 k0_hw17 k0_t2 k0_h51 k0_h57)).WholeWords (EltTy.packing .i8) := fun i v1 k0_hw17 k0_t2 k0_h51 k0_h57 => k0_hw17.2.2.2.2.1.2.2.2.2.2.2.2.2.2.2.1 k0_t2 k0_h51 k0_h57 (k0_off153_inb i v1 k0_hw17 k0_t2 k0_h51 k0_h57)
theorem k0_off155_inb : ∀ (i : grid0.Coords) (v1 : BitVec 32) (k0_hw17 : k0_chk17 i v1) (k0_t2 : Fin (k0_t2_loop v1).trips), ∀ (k0_h51 : k0_cond51 v1 k0_t2 = 1#1), ∀ (k0_h58 : k0_cond58 v1 k0_t2 = 1#1), ∀ a, (k0_off155 i v1 k0_t2) a + S1x1.size a ≤ S65x128.size a := fun i v1 k0_hw17 k0_t2 k0_h51 k0_h58 => k0_hw17.2.2.2.2.1.2.2.2.2.2.2.2.2.2.2.2.1 k0_t2 k0_h51 k0_h58
theorem k0_off156_inb : ∀ (i : grid0.Coords) (v1 : BitVec 32) (k0_hw17 : k0_chk17 i v1) (k0_t2 : Fin (k0_t2_loop v1).trips), ∀ (k0_h51 : k0_cond51 v1 k0_t2 = 1#1), ∀ (k0_h58 : k0_cond58 v1 k0_t2 = 1#1), ∀ a, (k0_off156 v1 k0_t2) a + S1.size a ≤ S2.size a := fun i v1 k0_hw17 k0_t2 k0_h51 k0_h58 => k0_hw17.2.2.2.2.1.2.2.2.2.2.2.2.2.2.2.2.2.1 k0_t2 k0_h51 k0_h58
theorem k0_off157_inb : ∀ (i : grid0.Coords) (v1 : BitVec 32) (k0_hw17 : k0_chk17 i v1) (k0_t2 : Fin (k0_t2_loop v1).trips), ∀ (k0_h51 : k0_cond51 v1 k0_t2 = 1#1), ∀ (k0_h58 : k0_cond58 v1 k0_t2 = 1#1), ∀ a, (k0_off157 v1 k0_t2) a + S1x1x64x656.size a ≤ S2x16x64x656.size a := fun i v1 k0_hw17 k0_t2 k0_h51 k0_h58 => k0_hw17.2.2.2.2.1.2.2.2.2.2.2.2.2.2.2.2.2.2.1 k0_t2 k0_h51 k0_h58
theorem k0_off157_wordsi8 : ∀ (i : grid0.Coords) (v1 : BitVec 32) (k0_hw17 : k0_chk17 i v1) (k0_t2 : Fin (k0_t2_loop v1).trips), ∀ (k0_h51 : k0_cond51 v1 k0_t2 = 1#1), ∀ (k0_h58 : k0_cond58 v1 k0_t2 = 1#1), (Rect.unit (s := S2x16x64x656) (k0_off157 v1 k0_t2) S1x1x64x656.size (k0_off157_inb i v1 k0_hw17 k0_t2 k0_h51 k0_h58)).WholeWords (EltTy.packing .i8) := fun i v1 k0_hw17 k0_t2 k0_h51 k0_h58 => k0_hw17.2.2.2.2.1.2.2.2.2.2.2.2.2.2.2.2.2.2.2.1 k0_t2 k0_h51 k0_h58 (k0_off157_inb i v1 k0_hw17 k0_t2 k0_h51 k0_h58)
theorem k0_off159_inb : ∀ (i : grid0.Coords) (v1 : BitVec 32) (k0_hw17 : k0_chk17 i v1) (k0_t2 : Fin (k0_t2_loop v1).trips), ∀ (k0_h51 : k0_cond51 v1 k0_t2 = 1#1), ∀ (k0_h59 : k0_cond59 v1 k0_t2 = 1#1), ∀ a, (k0_off159 i v1 k0_t2) a + S1x1.size a ≤ S65x128.size a := fun i v1 k0_hw17 k0_t2 k0_h51 k0_h59 => k0_hw17.2.2.2.2.1.2.2.2.2.2.2.2.2.2.2.2.2.2.2.2.1 k0_t2 k0_h51 k0_h59
theorem k0_off160_inb : ∀ (i : grid0.Coords) (v1 : BitVec 32) (k0_hw17 : k0_chk17 i v1) (k0_t2 : Fin (k0_t2_loop v1).trips), ∀ (k0_h51 : k0_cond51 v1 k0_t2 = 1#1), ∀ (k0_h59 : k0_cond59 v1 k0_t2 = 1#1), ∀ a, (k0_off160 v1 k0_t2) a + S1.size a ≤ S2.size a := fun i v1 k0_hw17 k0_t2 k0_h51 k0_h59 => k0_hw17.2.2.2.2.1.2.2.2.2.2.2.2.2.2.2.2.2.2.2.2.2.1 k0_t2 k0_h51 k0_h59
theorem k0_off161_inb : ∀ (i : grid0.Coords) (v1 : BitVec 32) (k0_hw17 : k0_chk17 i v1) (k0_t2 : Fin (k0_t2_loop v1).trips), ∀ (k0_h51 : k0_cond51 v1 k0_t2 = 1#1), ∀ (k0_h59 : k0_cond59 v1 k0_t2 = 1#1), ∀ a, (k0_off161 v1 k0_t2) a + S1x1x64x656.size a ≤ S2x16x64x656.size a := fun i v1 k0_hw17 k0_t2 k0_h51 k0_h59 => k0_hw17.2.2.2.2.1.2.2.2.2.2.2.2.2.2.2.2.2.2.2.2.2.2.1 k0_t2 k0_h51 k0_h59
theorem k0_off161_wordsi8 : ∀ (i : grid0.Coords) (v1 : BitVec 32) (k0_hw17 : k0_chk17 i v1) (k0_t2 : Fin (k0_t2_loop v1).trips), ∀ (k0_h51 : k0_cond51 v1 k0_t2 = 1#1), ∀ (k0_h59 : k0_cond59 v1 k0_t2 = 1#1), (Rect.unit (s := S2x16x64x656) (k0_off161 v1 k0_t2) S1x1x64x656.size (k0_off161_inb i v1 k0_hw17 k0_t2 k0_h51 k0_h59)).WholeWords (EltTy.packing .i8) := fun i v1 k0_hw17 k0_t2 k0_h51 k0_h59 => k0_hw17.2.2.2.2.1.2.2.2.2.2.2.2.2.2.2.2.2.2.2.2.2.2.2.1 k0_t2 k0_h51 k0_h59 (k0_off161_inb i v1 k0_hw17 k0_t2 k0_h51 k0_h59)
theorem k0_off163_inb : ∀ (i : grid0.Coords) (v1 : BitVec 32) (k0_hw17 : k0_chk17 i v1) (k0_t2 : Fin (k0_t2_loop v1).trips), ∀ (k0_h51 : k0_cond51 v1 k0_t2 = 1#1), ∀ (k0_h60 : k0_cond60 v1 k0_t2 = 1#1), ∀ a, (k0_off163 i v1 k0_t2) a + S1x1.size a ≤ S65x128.size a := fun i v1 k0_hw17 k0_t2 k0_h51 k0_h60 => k0_hw17.2.2.2.2.1.2.2.2.2.2.2.2.2.2.2.2.2.2.2.2.2.2.2.2.1 k0_t2 k0_h51 k0_h60
theorem k0_off164_inb : ∀ (i : grid0.Coords) (v1 : BitVec 32) (k0_hw17 : k0_chk17 i v1) (k0_t2 : Fin (k0_t2_loop v1).trips), ∀ (k0_h51 : k0_cond51 v1 k0_t2 = 1#1), ∀ (k0_h60 : k0_cond60 v1 k0_t2 = 1#1), ∀ a, (k0_off164 v1 k0_t2) a + S1.size a ≤ S2.size a := fun i v1 k0_hw17 k0_t2 k0_h51 k0_h60 => k0_hw17.2.2.2.2.1.2.2.2.2.2.2.2.2.2.2.2.2.2.2.2.2.2.2.2.2.1 k0_t2 k0_h51 k0_h60
theorem k0_off165_inb : ∀ (i : grid0.Coords) (v1 : BitVec 32) (k0_hw17 : k0_chk17 i v1) (k0_t2 : Fin (k0_t2_loop v1).trips), ∀ (k0_h51 : k0_cond51 v1 k0_t2 = 1#1), ∀ (k0_h60 : k0_cond60 v1 k0_t2 = 1#1), ∀ a, (k0_off165 v1 k0_t2) a + S1x1x64x656.size a ≤ S2x16x64x656.size a := fun i v1 k0_hw17 k0_t2 k0_h51 k0_h60 => k0_hw17.2.2.2.2.1.2.2.2.2.2.2.2.2.2.2.2.2.2.2.2.2.2.2.2.2.2.1 k0_t2 k0_h51 k0_h60
theorem k0_off165_wordsi8 : ∀ (i : grid0.Coords) (v1 : BitVec 32) (k0_hw17 : k0_chk17 i v1) (k0_t2 : Fin (k0_t2_loop v1).trips), ∀ (k0_h51 : k0_cond51 v1 k0_t2 = 1#1), ∀ (k0_h60 : k0_cond60 v1 k0_t2 = 1#1), (Rect.unit (s := S2x16x64x656) (k0_off165 v1 k0_t2) S1x1x64x656.size (k0_off165_inb i v1 k0_hw17 k0_t2 k0_h51 k0_h60)).WholeWords (EltTy.packing .i8) := fun i v1 k0_hw17 k0_t2 k0_h51 k0_h60 => k0_hw17.2.2.2.2.1.2.2.2.2.2.2.2.2.2.2.2.2.2.2.2.2.2.2.2.2.2.2.1 k0_t2 k0_h51 k0_h60 (k0_off165_inb i v1 k0_hw17 k0_t2 k0_h51 k0_h60)
theorem k0_off167_inb : ∀ (i : grid0.Coords) (v1 : BitVec 32) (k0_hw17 : k0_chk17 i v1) (k0_t2 : Fin (k0_t2_loop v1).trips), ∀ (k0_h51 : k0_cond51 v1 k0_t2 = 1#1), ∀ (k0_h61 : k0_cond61 v1 k0_t2 = 1#1), ∀ a, (k0_off167 i v1 k0_t2) a + S1x1.size a ≤ S65x128.size a := fun i v1 k0_hw17 k0_t2 k0_h51 k0_h61 => k0_hw17.2.2.2.2.1.2.2.2.2.2.2.2.2.2.2.2.2.2.2.2.2.2.2.2.2.2.2.2.1 k0_t2 k0_h51 k0_h61
theorem k0_off168_inb : ∀ (i : grid0.Coords) (v1 : BitVec 32) (k0_hw17 : k0_chk17 i v1) (k0_t2 : Fin (k0_t2_loop v1).trips), ∀ (k0_h51 : k0_cond51 v1 k0_t2 = 1#1), ∀ (k0_h61 : k0_cond61 v1 k0_t2 = 1#1), ∀ a, (k0_off168 v1 k0_t2) a + S1.size a ≤ S2.size a := fun i v1 k0_hw17 k0_t2 k0_h51 k0_h61 => k0_hw17.2.2.2.2.1.2.2.2.2.2.2.2.2.2.2.2.2.2.2.2.2.2.2.2.2.2.2.2.2.1 k0_t2 k0_h51 k0_h61
theorem k0_off169_inb : ∀ (i : grid0.Coords) (v1 : BitVec 32) (k0_hw17 : k0_chk17 i v1) (k0_t2 : Fin (k0_t2_loop v1).trips), ∀ (k0_h51 : k0_cond51 v1 k0_t2 = 1#1), ∀ (k0_h61 : k0_cond61 v1 k0_t2 = 1#1), ∀ a, (k0_off169 v1 k0_t2) a + S1x1x64x656.size a ≤ S2x16x64x656.size a := fun i v1 k0_hw17 k0_t2 k0_h51 k0_h61 => k0_hw17.2.2.2.2.1.2.2.2.2.2.2.2.2.2.2.2.2.2.2.2.2.2.2.2.2.2.2.2.2.2.1 k0_t2 k0_h51 k0_h61
theorem k0_off169_wordsi8 : ∀ (i : grid0.Coords) (v1 : BitVec 32) (k0_hw17 : k0_chk17 i v1) (k0_t2 : Fin (k0_t2_loop v1).trips), ∀ (k0_h51 : k0_cond51 v1 k0_t2 = 1#1), ∀ (k0_h61 : k0_cond61 v1 k0_t2 = 1#1), (Rect.unit (s := S2x16x64x656) (k0_off169 v1 k0_t2) S1x1x64x656.size (k0_off169_inb i v1 k0_hw17 k0_t2 k0_h51 k0_h61)).WholeWords (EltTy.packing .i8) := fun i v1 k0_hw17 k0_t2 k0_h51 k0_h61 => k0_hw17.2.2.2.2.1.2.2.2.2.2.2.2.2.2.2.2.2.2.2.2.2.2.2.2.2.2.2.2.2.2.2.1 k0_t2 k0_h51 k0_h61 (k0_off169_inb i v1 k0_hw17 k0_t2 k0_h51 k0_h61)
theorem k0_off171_inb : ∀ (i : grid0.Coords) (v1 : BitVec 32) (k0_hw17 : k0_chk17 i v1) (k0_t2 : Fin (k0_t2_loop v1).trips), ∀ (k0_h51 : k0_cond51 v1 k0_t2 = 1#1), ∀ (k0_h62 : k0_cond62 v1 k0_t2 = 1#1), ∀ a, (k0_off171 i v1 k0_t2) a + S1x1.size a ≤ S65x128.size a := fun i v1 k0_hw17 k0_t2 k0_h51 k0_h62 => k0_hw17.2.2.2.2.1.2.2.2.2.2.2.2.2.2.2.2.2.2.2.2.2.2.2.2.2.2.2.2.2.2.2.2.1 k0_t2 k0_h51 k0_h62
theorem k0_off172_inb : ∀ (i : grid0.Coords) (v1 : BitVec 32) (k0_hw17 : k0_chk17 i v1) (k0_t2 : Fin (k0_t2_loop v1).trips), ∀ (k0_h51 : k0_cond51 v1 k0_t2 = 1#1), ∀ (k0_h62 : k0_cond62 v1 k0_t2 = 1#1), ∀ a, (k0_off172 v1 k0_t2) a + S1.size a ≤ S2.size a := fun i v1 k0_hw17 k0_t2 k0_h51 k0_h62 => k0_hw17.2.2.2.2.1.2.2.2.2.2.2.2.2.2.2.2.2.2.2.2.2.2.2.2.2.2.2.2.2.2.2.2.2.1 k0_t2 k0_h51 k0_h62
theorem k0_off173_inb : ∀ (i : grid0.Coords) (v1 : BitVec 32) (k0_hw17 : k0_chk17 i v1) (k0_t2 : Fin (k0_t2_loop v1).trips), ∀ (k0_h51 : k0_cond51 v1 k0_t2 = 1#1), ∀ (k0_h62 : k0_cond62 v1 k0_t2 = 1#1), ∀ a, (k0_off173 v1 k0_t2) a + S1x1x64x656.size a ≤ S2x16x64x656.size a := fun i v1 k0_hw17 k0_t2 k0_h51 k0_h62 => k0_hw17.2.2.2.2.1.2.2.2.2.2.2.2.2.2.2.2.2.2.2.2.2.2.2.2.2.2.2.2.2.2.2.2.2.2.1 k0_t2 k0_h51 k0_h62
theorem k0_off173_wordsi8 : ∀ (i : grid0.Coords) (v1 : BitVec 32) (k0_hw17 : k0_chk17 i v1) (k0_t2 : Fin (k0_t2_loop v1).trips), ∀ (k0_h51 : k0_cond51 v1 k0_t2 = 1#1), ∀ (k0_h62 : k0_cond62 v1 k0_t2 = 1#1), (Rect.unit (s := S2x16x64x656) (k0_off173 v1 k0_t2) S1x1x64x656.size (k0_off173_inb i v1 k0_hw17 k0_t2 k0_h51 k0_h62)).WholeWords (EltTy.packing .i8) := fun i v1 k0_hw17 k0_t2 k0_h51 k0_h62 => k0_hw17.2.2.2.2.1.2.2.2.2.2.2.2.2.2.2.2.2.2.2.2.2.2.2.2.2.2.2.2.2.2.2.2.2.2.2.1 k0_t2 k0_h51 k0_h62 (k0_off173_inb i v1 k0_hw17 k0_t2 k0_h51 k0_h62)
theorem k0_off175_inb : ∀ (i : grid0.Coords) (v1 : BitVec 32) (k0_hw17 : k0_chk17 i v1) (k0_t2 : Fin (k0_t2_loop v1).trips), ∀ (k0_h51 : k0_cond51 v1 k0_t2 = 1#1), ∀ (k0_h63 : k0_cond63 v1 k0_t2 = 1#1), ∀ a, (k0_off175 i v1 k0_t2) a + S1x1.size a ≤ S65x128.size a := fun i v1 k0_hw17 k0_t2 k0_h51 k0_h63 => k0_hw17.2.2.2.2.1.2.2.2.2.2.2.2.2.2.2.2.2.2.2.2.2.2.2.2.2.2.2.2.2.2.2.2.2.2.2.2 k0_t2 k0_h51 k0_h63
theorem k0_off176_inb : ∀ (i : grid0.Coords) (v1 : BitVec 32) (k0_hw17 : k0_chk17 i v1) (k0_t2 : Fin (k0_t2_loop v1).trips), ∀ (k0_h51 : k0_cond51 v1 k0_t2 = 1#1), ∀ (k0_h63 : k0_cond63 v1 k0_t2 = 1#1), ∀ a, (k0_off176 v1 k0_t2) a + S1.size a ≤ S2.size a := fun i v1 k0_hw17 k0_t2 k0_h51 k0_h63 => k0_hw17.2.2.2.2.2.1.1 k0_t2 k0_h51 k0_h63
theorem k0_off177_inb : ∀ (i : grid0.Coords) (v1 : BitVec 32) (k0_hw17 : k0_chk17 i v1) (k0_t2 : Fin (k0_t2_loop v1).trips), ∀ (k0_h51 : k0_cond51 v1 k0_t2 = 1#1), ∀ (k0_h63 : k0_cond63 v1 k0_t2 = 1#1), ∀ a, (k0_off177 v1 k0_t2) a + S1x1x64x656.size a ≤ S2x16x64x656.size a := fun i v1 k0_hw17 k0_t2 k0_h51 k0_h63 => k0_hw17.2.2.2.2.2.1.2.1 k0_t2 k0_h51 k0_h63
theorem k0_off177_wordsi8 : ∀ (i : grid0.Coords) (v1 : BitVec 32) (k0_hw17 : k0_chk17 i v1) (k0_t2 : Fin (k0_t2_loop v1).trips), ∀ (k0_h51 : k0_cond51 v1 k0_t2 = 1#1), ∀ (k0_h63 : k0_cond63 v1 k0_t2 = 1#1), (Rect.unit (s := S2x16x64x656) (k0_off177 v1 k0_t2) S1x1x64x656.size (k0_off177_inb i v1 k0_hw17 k0_t2 k0_h51 k0_h63)).WholeWords (EltTy.packing .i8) := fun i v1 k0_hw17 k0_t2 k0_h51 k0_h63 => k0_hw17.2.2.2.2.2.1.2.2.1 k0_t2 k0_h51 k0_h63 (k0_off177_inb i v1 k0_hw17 k0_t2 k0_h51 k0_h63)
theorem k0_off179_inb : ∀ (i : grid0.Coords) (v1 : BitVec 32) (k0_hw17 : k0_chk17 i v1) (k0_t2 : Fin (k0_t2_loop v1).trips), ∀ (k0_h51 : k0_cond51 v1 k0_t2 = 1#1), ∀ (k0_h64 : k0_cond64 v1 k0_t2 = 1#1), ∀ a, (k0_off179 i v1 k0_t2) a + S1x1.size a ≤ S65x128.size a := fun i v1 k0_hw17 k0_t2 k0_h51 k0_h64 => k0_hw17.2.2.2.2.2.1.2.2.2.1 k0_t2 k0_h51 k0_h64
theorem k0_off180_inb : ∀ (i : grid0.Coords) (v1 : BitVec 32) (k0_hw17 : k0_chk17 i v1) (k0_t2 : Fin (k0_t2_loop v1).trips), ∀ (k0_h51 : k0_cond51 v1 k0_t2 = 1#1), ∀ (k0_h64 : k0_cond64 v1 k0_t2 = 1#1), ∀ a, (k0_off180 v1 k0_t2) a + S1.size a ≤ S2.size a := fun i v1 k0_hw17 k0_t2 k0_h51 k0_h64 => k0_hw17.2.2.2.2.2.1.2.2.2.2.1 k0_t2 k0_h51 k0_h64
theorem k0_off181_inb : ∀ (i : grid0.Coords) (v1 : BitVec 32) (k0_hw17 : k0_chk17 i v1) (k0_t2 : Fin (k0_t2_loop v1).trips), ∀ (k0_h51 : k0_cond51 v1 k0_t2 = 1#1), ∀ (k0_h64 : k0_cond64 v1 k0_t2 = 1#1), ∀ a, (k0_off181 v1 k0_t2) a + S1x1x64x656.size a ≤ S2x16x64x656.size a := fun i v1 k0_hw17 k0_t2 k0_h51 k0_h64 => k0_hw17.2.2.2.2.2.1.2.2.2.2.2.1 k0_t2 k0_h51 k0_h64
theorem k0_off181_wordsi8 : ∀ (i : grid0.Coords) (v1 : BitVec 32) (k0_hw17 : k0_chk17 i v1) (k0_t2 : Fin (k0_t2_loop v1).trips), ∀ (k0_h51 : k0_cond51 v1 k0_t2 = 1#1), ∀ (k0_h64 : k0_cond64 v1 k0_t2 = 1#1), (Rect.unit (s := S2x16x64x656) (k0_off181 v1 k0_t2) S1x1x64x656.size (k0_off181_inb i v1 k0_hw17 k0_t2 k0_h51 k0_h64)).WholeWords (EltTy.packing .i8) := fun i v1 k0_hw17 k0_t2 k0_h51 k0_h64 => k0_hw17.2.2.2.2.2.1.2.2.2.2.2.2.1 k0_t2 k0_h51 k0_h64 (k0_off181_inb i v1 k0_hw17 k0_t2 k0_h51 k0_h64)
theorem k0_off183_inb : ∀ (i : grid0.Coords) (v1 : BitVec 32) (k0_hw17 : k0_chk17 i v1) (k0_t2 : Fin (k0_t2_loop v1).trips), ∀ (k0_h51 : k0_cond51 v1 k0_t2 = 1#1), ∀ (k0_h65 : k0_cond65 v1 k0_t2 = 1#1), ∀ a, (k0_off183 i v1 k0_t2) a + S1x1.size a ≤ S65x128.size a := fun i v1 k0_hw17 k0_t2 k0_h51 k0_h65 => k0_hw17.2.2.2.2.2.1.2.2.2.2.2.2.2.1 k0_t2 k0_h51 k0_h65
theorem k0_off184_inb : ∀ (i : grid0.Coords) (v1 : BitVec 32) (k0_hw17 : k0_chk17 i v1) (k0_t2 : Fin (k0_t2_loop v1).trips), ∀ (k0_h51 : k0_cond51 v1 k0_t2 = 1#1), ∀ (k0_h65 : k0_cond65 v1 k0_t2 = 1#1), ∀ a, (k0_off184 v1 k0_t2) a + S1.size a ≤ S2.size a := fun i v1 k0_hw17 k0_t2 k0_h51 k0_h65 => k0_hw17.2.2.2.2.2.1.2.2.2.2.2.2.2.2.1 k0_t2 k0_h51 k0_h65
theorem k0_off185_inb : ∀ (i : grid0.Coords) (v1 : BitVec 32) (k0_hw17 : k0_chk17 i v1) (k0_t2 : Fin (k0_t2_loop v1).trips), ∀ (k0_h51 : k0_cond51 v1 k0_t2 = 1#1), ∀ (k0_h65 : k0_cond65 v1 k0_t2 = 1#1), ∀ a, (k0_off185 v1 k0_t2) a + S1x1x64x656.size a ≤ S2x16x64x656.size a := fun i v1 k0_hw17 k0_t2 k0_h51 k0_h65 => k0_hw17.2.2.2.2.2.1.2.2.2.2.2.2.2.2.2.1 k0_t2 k0_h51 k0_h65
theorem k0_off185_wordsi8 : ∀ (i : grid0.Coords) (v1 : BitVec 32) (k0_hw17 : k0_chk17 i v1) (k0_t2 : Fin (k0_t2_loop v1).trips), ∀ (k0_h51 : k0_cond51 v1 k0_t2 = 1#1), ∀ (k0_h65 : k0_cond65 v1 k0_t2 = 1#1), (Rect.unit (s := S2x16x64x656) (k0_off185 v1 k0_t2) S1x1x64x656.size (k0_off185_inb i v1 k0_hw17 k0_t2 k0_h51 k0_h65)).WholeWords (EltTy.packing .i8) := fun i v1 k0_hw17 k0_t2 k0_h51 k0_h65 => k0_hw17.2.2.2.2.2.1.2.2.2.2.2.2.2.2.2.2.1 k0_t2 k0_h51 k0_h65 (k0_off185_inb i v1 k0_hw17 k0_t2 k0_h51 k0_h65)
theorem k0_off187_inb : ∀ (i : grid0.Coords) (v1 : BitVec 32) (k0_hw17 : k0_chk17 i v1) (k0_t2 : Fin (k0_t2_loop v1).trips), ∀ (k0_h51 : k0_cond51 v1 k0_t2 = 1#1), ∀ (k0_h66 : k0_cond66 v1 k0_t2 = 1#1), ∀ a, (k0_off187 i v1 k0_t2) a + S1x1.size a ≤ S65x128.size a := fun i v1 k0_hw17 k0_t2 k0_h51 k0_h66 => k0_hw17.2.2.2.2.2.1.2.2.2.2.2.2.2.2.2.2.2.1 k0_t2 k0_h51 k0_h66
theorem k0_off188_inb : ∀ (i : grid0.Coords) (v1 : BitVec 32) (k0_hw17 : k0_chk17 i v1) (k0_t2 : Fin (k0_t2_loop v1).trips), ∀ (k0_h51 : k0_cond51 v1 k0_t2 = 1#1), ∀ (k0_h66 : k0_cond66 v1 k0_t2 = 1#1), ∀ a, (k0_off188 v1 k0_t2) a + S1.size a ≤ S2.size a := fun i v1 k0_hw17 k0_t2 k0_h51 k0_h66 => k0_hw17.2.2.2.2.2.1.2.2.2.2.2.2.2.2.2.2.2.2.1 k0_t2 k0_h51 k0_h66
theorem k0_off189_inb : ∀ (i : grid0.Coords) (v1 : BitVec 32) (k0_hw17 : k0_chk17 i v1) (k0_t2 : Fin (k0_t2_loop v1).trips), ∀ (k0_h51 : k0_cond51 v1 k0_t2 = 1#1), ∀ (k0_h66 : k0_cond66 v1 k0_t2 = 1#1), ∀ a, (k0_off189 v1 k0_t2) a + S1x1x64x656.size a ≤ S2x16x64x656.size a := fun i v1 k0_hw17 k0_t2 k0_h51 k0_h66 => k0_hw17.2.2.2.2.2.1.2.2.2.2.2.2.2.2.2.2.2.2.2.1 k0_t2 k0_h51 k0_h66
theorem k0_off189_wordsi8 : ∀ (i : grid0.Coords) (v1 : BitVec 32) (k0_hw17 : k0_chk17 i v1) (k0_t2 : Fin (k0_t2_loop v1).trips), ∀ (k0_h51 : k0_cond51 v1 k0_t2 = 1#1), ∀ (k0_h66 : k0_cond66 v1 k0_t2 = 1#1), (Rect.unit (s := S2x16x64x656) (k0_off189 v1 k0_t2) S1x1x64x656.size (k0_off189_inb i v1 k0_hw17 k0_t2 k0_h51 k0_h66)).WholeWords (EltTy.packing .i8) := fun i v1 k0_hw17 k0_t2 k0_h51 k0_h66 => k0_hw17.2.2.2.2.2.1.2.2.2.2.2.2.2.2.2.2.2.2.2.2.1 k0_t2 k0_h51 k0_h66 (k0_off189_inb i v1 k0_hw17 k0_t2 k0_h51 k0_h66)
theorem k0_off191_inb : ∀ (i : grid0.Coords) (v1 : BitVec 32) (k0_hw17 : k0_chk17 i v1) (k0_t2 : Fin (k0_t2_loop v1).trips), ∀ (k0_h51 : k0_cond51 v1 k0_t2 = 1#1), ∀ (k0_h67 : k0_cond67 v1 k0_t2 = 1#1), ∀ a, (k0_off191 i v1 k0_t2) a + S1x1.size a ≤ S65x128.size a := fun i v1 k0_hw17 k0_t2 k0_h51 k0_h67 => k0_hw17.2.2.2.2.2.1.2.2.2.2.2.2.2.2.2.2.2.2.2.2.2.1 k0_t2 k0_h51 k0_h67
theorem k0_off192_inb : ∀ (i : grid0.Coords) (v1 : BitVec 32) (k0_hw17 : k0_chk17 i v1) (k0_t2 : Fin (k0_t2_loop v1).trips), ∀ (k0_h51 : k0_cond51 v1 k0_t2 = 1#1), ∀ (k0_h67 : k0_cond67 v1 k0_t2 = 1#1), ∀ a, (k0_off192 v1 k0_t2) a + S1.size a ≤ S2.size a := fun i v1 k0_hw17 k0_t2 k0_h51 k0_h67 => k0_hw17.2.2.2.2.2.1.2.2.2.2.2.2.2.2.2.2.2.2.2.2.2.2.1 k0_t2 k0_h51 k0_h67
theorem k0_off193_inb : ∀ (i : grid0.Coords) (v1 : BitVec 32) (k0_hw17 : k0_chk17 i v1) (k0_t2 : Fin (k0_t2_loop v1).trips), ∀ (k0_h51 : k0_cond51 v1 k0_t2 = 1#1), ∀ (k0_h67 : k0_cond67 v1 k0_t2 = 1#1), ∀ a, (k0_off193 v1 k0_t2) a + S1x1x64x656.size a ≤ S2x16x64x656.size a := fun i v1 k0_hw17 k0_t2 k0_h51 k0_h67 => k0_hw17.2.2.2.2.2.1.2.2.2.2.2.2.2.2.2.2.2.2.2.2.2.2.2.1 k0_t2 k0_h51 k0_h67
theorem k0_off193_wordsi8 : ∀ (i : grid0.Coords) (v1 : BitVec 32) (k0_hw17 : k0_chk17 i v1) (k0_t2 : Fin (k0_t2_loop v1).trips), ∀ (k0_h51 : k0_cond51 v1 k0_t2 = 1#1), ∀ (k0_h67 : k0_cond67 v1 k0_t2 = 1#1), (Rect.unit (s := S2x16x64x656) (k0_off193 v1 k0_t2) S1x1x64x656.size (k0_off193_inb i v1 k0_hw17 k0_t2 k0_h51 k0_h67)).WholeWords (EltTy.packing .i8) := fun i v1 k0_hw17 k0_t2 k0_h51 k0_h67 => k0_hw17.2.2.2.2.2.1.2.2.2.2.2.2.2.2.2.2.2.2.2.2.2.2.2.2.1 k0_t2 k0_h51 k0_h67 (k0_off193_inb i v1 k0_hw17 k0_t2 k0_h51 k0_h67)
theorem k0_off195_inb : ∀ (i : grid0.Coords) (v1 : BitVec 32) (k0_hw17 : k0_chk17 i v1) (k0_t2 : Fin (k0_t2_loop v1).trips), ∀ (k0_h68 : k0_cond68 v1 k0_t2 = 1#1), ∀ a, (k0_off195 v1 k0_t2) a + S1.size a ≤ S2.size a := fun i v1 k0_hw17 k0_t2 k0_h68 => k0_hw17.2.2.2.2.2.1.2.2.2.2.2.2.2.2.2.2.2.2.2.2.2.2.2.2.2.1 k0_t2 k0_h68
theorem k0_off196_inb : ∀ (i : grid0.Coords) (v1 : BitVec 32) (k0_hw17 : k0_chk17 i v1) (k0_t2 : Fin (k0_t2_loop v1).trips), ∀ (k0_h68 : k0_cond68 v1 k0_t2 = 1#1), ∀ a, (k0_off196 v1 k0_t2) a + S1x1x64x656.size a ≤ S2x16x64x656.size a := fun i v1 k0_hw17 k0_t2 k0_h68 => k0_hw17.2.2.2.2.2.1.2.2.2.2.2.2.2.2.2.2.2.2.2.2.2.2.2.2.2.2.1 k0_t2 k0_h68
theorem k0_off196_wordsi8 : ∀ (i : grid0.Coords) (v1 : BitVec 32) (k0_hw17 : k0_chk17 i v1) (k0_t2 : Fin (k0_t2_loop v1).trips), ∀ (k0_h68 : k0_cond68 v1 k0_t2 = 1#1), (Rect.unit (s := S2x16x64x656) (k0_off196 v1 k0_t2) S1x1x64x656.size (k0_off196_inb i v1 k0_hw17 k0_t2 k0_h68)).WholeWords (EltTy.packing .i8) := fun i v1 k0_hw17 k0_t2 k0_h68 => k0_hw17.2.2.2.2.2.1.2.2.2.2.2.2.2.2.2.2.2.2.2.2.2.2.2.2.2.2.2.1 k0_t2 k0_h68 (k0_off196_inb i v1 k0_hw17 k0_t2 k0_h68)
theorem k0_off197_inb : ∀ (i : grid0.Coords) (v1 : BitVec 32) (k0_hw17 : k0_chk17 i v1) (k0_t2 : Fin (k0_t2_loop v1).trips), ∀ (k0_h69 : k0_cond69 v1 k0_t2 = 1#1), ∀ a, (k0_off197 v1 k0_t2) a + S1.size a ≤ S2.size a := fun i v1 k0_hw17 k0_t2 k0_h69 => k0_hw17.2.2.2.2.2.1.2.2.2.2.2.2.2.2.2.2.2.2.2.2.2.2.2.2.2.2.2.2.1 k0_t2 k0_h69
theorem k0_off198_inb : ∀ (i : grid0.Coords) (v1 : BitVec 32) (k0_hw17 : k0_chk17 i v1) (k0_t2 : Fin (k0_t2_loop v1).trips), ∀ (k0_h69 : k0_cond69 v1 k0_t2 = 1#1), ∀ a, (k0_off198 v1 k0_t2) a + S1x1x64x656.size a ≤ S2x16x64x656.size a := fun i v1 k0_hw17 k0_t2 k0_h69 => k0_hw17.2.2.2.2.2.1.2.2.2.2.2.2.2.2.2.2.2.2.2.2.2.2.2.2.2.2.2.2.2.1 k0_t2 k0_h69
theorem k0_off198_wordsi8 : ∀ (i : grid0.Coords) (v1 : BitVec 32) (k0_hw17 : k0_chk17 i v1) (k0_t2 : Fin (k0_t2_loop v1).trips), ∀ (k0_h69 : k0_cond69 v1 k0_t2 = 1#1), (Rect.unit (s := S2x16x64x656) (k0_off198 v1 k0_t2) S1x1x64x656.size (k0_off198_inb i v1 k0_hw17 k0_t2 k0_h69)).WholeWords (EltTy.packing .i8) := fun i v1 k0_hw17 k0_t2 k0_h69 => k0_hw17.2.2.2.2.2.1.2.2.2.2.2.2.2.2.2.2.2.2.2.2.2.2.2.2.2.2.2.2.2.2.1 k0_t2 k0_h69 (k0_off198_inb i v1 k0_hw17 k0_t2 k0_h69)
theorem k0_off199_inb : ∀ (i : grid0.Coords) (v1 : BitVec 32) (k0_hw17 : k0_chk17 i v1) (k0_t2 : Fin (k0_t2_loop v1).trips), ∀ (k0_h70 : k0_cond70 v1 k0_t2 = 1#1), ∀ a, (k0_off199 v1 k0_t2) a + S1.size a ≤ S2.size a := fun i v1 k0_hw17 k0_t2 k0_h70 => k0_hw17.2.2.2.2.2.1.2.2.2.2.2.2.2.2.2.2.2.2.2.2.2.2.2.2.2.2.2.2.2.2.2.1 k0_t2 k0_h70
theorem k0_off200_inb : ∀ (i : grid0.Coords) (v1 : BitVec 32) (k0_hw17 : k0_chk17 i v1) (k0_t2 : Fin (k0_t2_loop v1).trips), ∀ (k0_h70 : k0_cond70 v1 k0_t2 = 1#1), ∀ a, (k0_off200 v1 k0_t2) a + S1x1x64x656.size a ≤ S2x16x64x656.size a := fun i v1 k0_hw17 k0_t2 k0_h70 => k0_hw17.2.2.2.2.2.1.2.2.2.2.2.2.2.2.2.2.2.2.2.2.2.2.2.2.2.2.2.2.2.2.2.2.1 k0_t2 k0_h70
theorem k0_off200_wordsi8 : ∀ (i : grid0.Coords) (v1 : BitVec 32) (k0_hw17 : k0_chk17 i v1) (k0_t2 : Fin (k0_t2_loop v1).trips), ∀ (k0_h70 : k0_cond70 v1 k0_t2 = 1#1), (Rect.unit (s := S2x16x64x656) (k0_off200 v1 k0_t2) S1x1x64x656.size (k0_off200_inb i v1 k0_hw17 k0_t2 k0_h70)).WholeWords (EltTy.packing .i8) := fun i v1 k0_hw17 k0_t2 k0_h70 => k0_hw17.2.2.2.2.2.1.2.2.2.2.2.2.2.2.2.2.2.2.2.2.2.2.2.2.2.2.2.2.2.2.2.2.2.1 k0_t2 k0_h70 (k0_off200_inb i v1 k0_hw17 k0_t2 k0_h70)
theorem k0_off201_inb : ∀ (i : grid0.Coords) (v1 : BitVec 32) (k0_hw17 : k0_chk17 i v1) (k0_t2 : Fin (k0_t2_loop v1).trips), ∀ (k0_h71 : k0_cond71 v1 k0_t2 = 1#1), ∀ a, (k0_off201 v1 k0_t2) a + S1.size a ≤ S2.size a := fun i v1 k0_hw17 k0_t2 k0_h71 => k0_hw17.2.2.2.2.2.1.2.2.2.2.2.2.2.2.2.2.2.2.2.2.2.2.2.2.2.2.2.2.2.2.2.2.2.2.1 k0_t2 k0_h71
theorem k0_off202_inb : ∀ (i : grid0.Coords) (v1 : BitVec 32) (k0_hw17 : k0_chk17 i v1) (k0_t2 : Fin (k0_t2_loop v1).trips), ∀ (k0_h71 : k0_cond71 v1 k0_t2 = 1#1), ∀ a, (k0_off202 v1 k0_t2) a + S1x1x64x656.size a ≤ S2x16x64x656.size a := fun i v1 k0_hw17 k0_t2 k0_h71 => k0_hw17.2.2.2.2.2.1.2.2.2.2.2.2.2.2.2.2.2.2.2.2.2.2.2.2.2.2.2.2.2.2.2.2.2.2.2.1 k0_t2 k0_h71
theorem k0_off202_wordsi8 : ∀ (i : grid0.Coords) (v1 : BitVec 32) (k0_hw17 : k0_chk17 i v1) (k0_t2 : Fin (k0_t2_loop v1).trips), ∀ (k0_h71 : k0_cond71 v1 k0_t2 = 1#1), (Rect.unit (s := S2x16x64x656) (k0_off202 v1 k0_t2) S1x1x64x656.size (k0_off202_inb i v1 k0_hw17 k0_t2 k0_h71)).WholeWords (EltTy.packing .i8) := fun i v1 k0_hw17 k0_t2 k0_h71 => k0_hw17.2.2.2.2.2.1.2.2.2.2.2.2.2.2.2.2.2.2.2.2.2.2.2.2.2.2.2.2.2.2.2.2.2.2.2.2.1 k0_t2 k0_h71 (k0_off202_inb i v1 k0_hw17 k0_t2 k0_h71)
theorem k0_off203_inb : ∀ (i : grid0.Coords) (v1 : BitVec 32) (k0_hw17 : k0_chk17 i v1) (k0_t2 : Fin (k0_t2_loop v1).trips), ∀ (k0_h72 : k0_cond72 v1 k0_t2 = 1#1), ∀ a, (k0_off203 v1 k0_t2) a + S1.size a ≤ S2.size a := fun i v1 k0_hw17 k0_t2 k0_h72 => k0_hw17.2.2.2.2.2.1.2.2.2.2.2.2.2.2.2.2.2.2.2.2.2.2.2.2.2.2.2.2.2.2.2.2.2.2.2.2.2 k0_t2 k0_h72
theorem k0_off204_inb : ∀ (i : grid0.Coords) (v1 : BitVec 32) (k0_hw17 : k0_chk17 i v1) (k0_t2 : Fin (k0_t2_loop v1).trips), ∀ (k0_h72 : k0_cond72 v1 k0_t2 = 1#1), ∀ a, (k0_off204 v1 k0_t2) a + S1x1x64x656.size a ≤ S2x16x64x656.size a := fun i v1 k0_hw17 k0_t2 k0_h72 => k0_hw17.2.2.2.2.2.2.1.1 k0_t2 k0_h72
theorem k0_off204_wordsi8 : ∀ (i : grid0.Coords) (v1 : BitVec 32) (k0_hw17 : k0_chk17 i v1) (k0_t2 : Fin (k0_t2_loop v1).trips), ∀ (k0_h72 : k0_cond72 v1 k0_t2 = 1#1), (Rect.unit (s := S2x16x64x656) (k0_off204 v1 k0_t2) S1x1x64x656.size (k0_off204_inb i v1 k0_hw17 k0_t2 k0_h72)).WholeWords (EltTy.packing .i8) := fun i v1 k0_hw17 k0_t2 k0_h72 => k0_hw17.2.2.2.2.2.2.1.2.1 k0_t2 k0_h72 (k0_off204_inb i v1 k0_hw17 k0_t2 k0_h72)
theorem k0_off205_inb : ∀ (i : grid0.Coords) (v1 : BitVec 32) (k0_hw17 : k0_chk17 i v1) (k0_t2 : Fin (k0_t2_loop v1).trips), ∀ (k0_h73 : k0_cond73 v1 k0_t2 = 1#1), ∀ a, (k0_off205 v1 k0_t2) a + S1.size a ≤ S2.size a := fun i v1 k0_hw17 k0_t2 k0_h73 => k0_hw17.2.2.2.2.2.2.1.2.2.1 k0_t2 k0_h73
theorem k0_off206_inb : ∀ (i : grid0.Coords) (v1 : BitVec 32) (k0_hw17 : k0_chk17 i v1) (k0_t2 : Fin (k0_t2_loop v1).trips), ∀ (k0_h73 : k0_cond73 v1 k0_t2 = 1#1), ∀ a, (k0_off206 v1 k0_t2) a + S1x1x64x656.size a ≤ S2x16x64x656.size a := fun i v1 k0_hw17 k0_t2 k0_h73 => k0_hw17.2.2.2.2.2.2.1.2.2.2.1 k0_t2 k0_h73
theorem k0_off206_wordsi8 : ∀ (i : grid0.Coords) (v1 : BitVec 32) (k0_hw17 : k0_chk17 i v1) (k0_t2 : Fin (k0_t2_loop v1).trips), ∀ (k0_h73 : k0_cond73 v1 k0_t2 = 1#1), (Rect.unit (s := S2x16x64x656) (k0_off206 v1 k0_t2) S1x1x64x656.size (k0_off206_inb i v1 k0_hw17 k0_t2 k0_h73)).WholeWords (EltTy.packing .i8) := fun i v1 k0_hw17 k0_t2 k0_h73 => k0_hw17.2.2.2.2.2.2.1.2.2.2.2.1 k0_t2 k0_h73 (k0_off206_inb i v1 k0_hw17 k0_t2 k0_h73)
theorem k0_off207_inb : ∀ (i : grid0.Coords) (v1 : BitVec 32) (k0_hw17 : k0_chk17 i v1) (k0_t2 : Fin (k0_t2_loop v1).trips), ∀ (k0_h74 : k0_cond74 v1 k0_t2 = 1#1), ∀ a, (k0_off207 v1 k0_t2) a + S1.size a ≤ S2.size a := fun i v1 k0_hw17 k0_t2 k0_h74 => k0_hw17.2.2.2.2.2.2.1.2.2.2.2.2.1 k0_t2 k0_h74
theorem k0_off208_inb : ∀ (i : grid0.Coords) (v1 : BitVec 32) (k0_hw17 : k0_chk17 i v1) (k0_t2 : Fin (k0_t2_loop v1).trips), ∀ (k0_h74 : k0_cond74 v1 k0_t2 = 1#1), ∀ a, (k0_off208 v1 k0_t2) a + S1x1x64x656.size a ≤ S2x16x64x656.size a := fun i v1 k0_hw17 k0_t2 k0_h74 => k0_hw17.2.2.2.2.2.2.1.2.2.2.2.2.2.1 k0_t2 k0_h74
theorem k0_off208_wordsi8 : ∀ (i : grid0.Coords) (v1 : BitVec 32) (k0_hw17 : k0_chk17 i v1) (k0_t2 : Fin (k0_t2_loop v1).trips), ∀ (k0_h74 : k0_cond74 v1 k0_t2 = 1#1), (Rect.unit (s := S2x16x64x656) (k0_off208 v1 k0_t2) S1x1x64x656.size (k0_off208_inb i v1 k0_hw17 k0_t2 k0_h74)).WholeWords (EltTy.packing .i8) := fun i v1 k0_hw17 k0_t2 k0_h74 => k0_hw17.2.2.2.2.2.2.1.2.2.2.2.2.2.2.1 k0_t2 k0_h74 (k0_off208_inb i v1 k0_hw17 k0_t2 k0_h74)
theorem k0_off209_inb : ∀ (i : grid0.Coords) (v1 : BitVec 32) (k0_hw17 : k0_chk17 i v1) (k0_t2 : Fin (k0_t2_loop v1).trips), ∀ (k0_h75 : k0_cond75 v1 k0_t2 = 1#1), ∀ a, (k0_off209 v1 k0_t2) a + S1.size a ≤ S2.size a := fun i v1 k0_hw17 k0_t2 k0_h75 => k0_hw17.2.2.2.2.2.2.1.2.2.2.2.2.2.2.2.1 k0_t2 k0_h75
theorem k0_off210_inb : ∀ (i : grid0.Coords) (v1 : BitVec 32) (k0_hw17 : k0_chk17 i v1) (k0_t2 : Fin (k0_t2_loop v1).trips), ∀ (k0_h75 : k0_cond75 v1 k0_t2 = 1#1), ∀ a, (k0_off210 v1 k0_t2) a + S1x1x64x656.size a ≤ S2x16x64x656.size a := fun i v1 k0_hw17 k0_t2 k0_h75 => k0_hw17.2.2.2.2.2.2.1.2.2.2.2.2.2.2.2.2.1 k0_t2 k0_h75
theorem k0_off210_wordsi8 : ∀ (i : grid0.Coords) (v1 : BitVec 32) (k0_hw17 : k0_chk17 i v1) (k0_t2 : Fin (k0_t2_loop v1).trips), ∀ (k0_h75 : k0_cond75 v1 k0_t2 = 1#1), (Rect.unit (s := S2x16x64x656) (k0_off210 v1 k0_t2) S1x1x64x656.size (k0_off210_inb i v1 k0_hw17 k0_t2 k0_h75)).WholeWords (EltTy.packing .i8) := fun i v1 k0_hw17 k0_t2 k0_h75 => k0_hw17.2.2.2.2.2.2.1.2.2.2.2.2.2.2.2.2.2.1 k0_t2 k0_h75 (k0_off210_inb i v1 k0_hw17 k0_t2 k0_h75)
theorem k0_off211_inb : ∀ (i : grid0.Coords) (v1 : BitVec 32) (k0_hw17 : k0_chk17 i v1) (k0_t2 : Fin (k0_t2_loop v1).trips), ∀ (k0_h76 : k0_cond76 v1 k0_t2 = 1#1), ∀ a, (k0_off211 v1 k0_t2) a + S1.size a ≤ S2.size a := fun i v1 k0_hw17 k0_t2 k0_h76 => k0_hw17.2.2.2.2.2.2.1.2.2.2.2.2.2.2.2.2.2.2.1 k0_t2 k0_h76
theorem k0_off212_inb : ∀ (i : grid0.Coords) (v1 : BitVec 32) (k0_hw17 : k0_chk17 i v1) (k0_t2 : Fin (k0_t2_loop v1).trips), ∀ (k0_h76 : k0_cond76 v1 k0_t2 = 1#1), ∀ a, (k0_off212 v1 k0_t2) a + S1x1x64x656.size a ≤ S2x16x64x656.size a := fun i v1 k0_hw17 k0_t2 k0_h76 => k0_hw17.2.2.2.2.2.2.1.2.2.2.2.2.2.2.2.2.2.2.2.1 k0_t2 k0_h76
theorem k0_off212_wordsi8 : ∀ (i : grid0.Coords) (v1 : BitVec 32) (k0_hw17 : k0_chk17 i v1) (k0_t2 : Fin (k0_t2_loop v1).trips), ∀ (k0_h76 : k0_cond76 v1 k0_t2 = 1#1), (Rect.unit (s := S2x16x64x656) (k0_off212 v1 k0_t2) S1x1x64x656.size (k0_off212_inb i v1 k0_hw17 k0_t2 k0_h76)).WholeWords (EltTy.packing .i8) := fun i v1 k0_hw17 k0_t2 k0_h76 => k0_hw17.2.2.2.2.2.2.1.2.2.2.2.2.2.2.2.2.2.2.2.2.1 k0_t2 k0_h76 (k0_off212_inb i v1 k0_hw17 k0_t2 k0_h76)
theorem k0_off213_inb : ∀ (i : grid0.Coords) (v1 : BitVec 32) (k0_hw17 : k0_chk17 i v1) (k0_t2 : Fin (k0_t2_loop v1).trips), ∀ (k0_h77 : k0_cond77 v1 k0_t2 = 1#1), ∀ a, (k0_off213 v1 k0_t2) a + S1.size a ≤ S2.size a := fun i v1 k0_hw17 k0_t2 k0_h77 => k0_hw17.2.2.2.2.2.2.1.2.2.2.2.2.2.2.2.2.2.2.2.2.2.1 k0_t2 k0_h77
theorem k0_off214_inb : ∀ (i : grid0.Coords) (v1 : BitVec 32) (k0_hw17 : k0_chk17 i v1) (k0_t2 : Fin (k0_t2_loop v1).trips), ∀ (k0_h77 : k0_cond77 v1 k0_t2 = 1#1), ∀ a, (k0_off214 v1 k0_t2) a + S1x1x64x656.size a ≤ S2x16x64x656.size a := fun i v1 k0_hw17 k0_t2 k0_h77 => k0_hw17.2.2.2.2.2.2.1.2.2.2.2.2.2.2.2.2.2.2.2.2.2.2.1 k0_t2 k0_h77
theorem k0_off214_wordsi8 : ∀ (i : grid0.Coords) (v1 : BitVec 32) (k0_hw17 : k0_chk17 i v1) (k0_t2 : Fin (k0_t2_loop v1).trips), ∀ (k0_h77 : k0_cond77 v1 k0_t2 = 1#1), (Rect.unit (s := S2x16x64x656) (k0_off214 v1 k0_t2) S1x1x64x656.size (k0_off214_inb i v1 k0_hw17 k0_t2 k0_h77)).WholeWords (EltTy.packing .i8) := fun i v1 k0_hw17 k0_t2 k0_h77 => k0_hw17.2.2.2.2.2.2.1.2.2.2.2.2.2.2.2.2.2.2.2.2.2.2.2.1 k0_t2 k0_h77 (k0_off214_inb i v1 k0_hw17 k0_t2 k0_h77)
theorem k0_off215_inb : ∀ (i : grid0.Coords) (v1 : BitVec 32) (k0_hw17 : k0_chk17 i v1) (k0_t2 : Fin (k0_t2_loop v1).trips), ∀ (k0_h78 : k0_cond78 v1 k0_t2 = 1#1), ∀ a, (k0_off215 v1 k0_t2) a + S1.size a ≤ S2.size a := fun i v1 k0_hw17 k0_t2 k0_h78 => k0_hw17.2.2.2.2.2.2.1.2.2.2.2.2.2.2.2.2.2.2.2.2.2.2.2.2.1 k0_t2 k0_h78
theorem k0_off216_inb : ∀ (i : grid0.Coords) (v1 : BitVec 32) (k0_hw17 : k0_chk17 i v1) (k0_t2 : Fin (k0_t2_loop v1).trips), ∀ (k0_h78 : k0_cond78 v1 k0_t2 = 1#1), ∀ a, (k0_off216 v1 k0_t2) a + S1x1x64x656.size a ≤ S2x16x64x656.size a := fun i v1 k0_hw17 k0_t2 k0_h78 => k0_hw17.2.2.2.2.2.2.1.2.2.2.2.2.2.2.2.2.2.2.2.2.2.2.2.2.2.1 k0_t2 k0_h78
theorem k0_off216_wordsi8 : ∀ (i : grid0.Coords) (v1 : BitVec 32) (k0_hw17 : k0_chk17 i v1) (k0_t2 : Fin (k0_t2_loop v1).trips), ∀ (k0_h78 : k0_cond78 v1 k0_t2 = 1#1), (Rect.unit (s := S2x16x64x656) (k0_off216 v1 k0_t2) S1x1x64x656.size (k0_off216_inb i v1 k0_hw17 k0_t2 k0_h78)).WholeWords (EltTy.packing .i8) := fun i v1 k0_hw17 k0_t2 k0_h78 => k0_hw17.2.2.2.2.2.2.1.2.2.2.2.2.2.2.2.2.2.2.2.2.2.2.2.2.2.2.1 k0_t2 k0_h78 (k0_off216_inb i v1 k0_hw17 k0_t2 k0_h78)
theorem k0_off217_inb : ∀ (i : grid0.Coords) (v1 : BitVec 32) (k0_hw17 : k0_chk17 i v1) (k0_t2 : Fin (k0_t2_loop v1).trips), ∀ (k0_h79 : k0_cond79 v1 k0_t2 = 1#1), ∀ a, (k0_off217 v1 k0_t2) a + S1.size a ≤ S2.size a := fun i v1 k0_hw17 k0_t2 k0_h79 => k0_hw17.2.2.2.2.2.2.1.2.2.2.2.2.2.2.2.2.2.2.2.2.2.2.2.2.2.2.2.1 k0_t2 k0_h79
theorem k0_off218_inb : ∀ (i : grid0.Coords) (v1 : BitVec 32) (k0_hw17 : k0_chk17 i v1) (k0_t2 : Fin (k0_t2_loop v1).trips), ∀ (k0_h79 : k0_cond79 v1 k0_t2 = 1#1), ∀ a, (k0_off218 v1 k0_t2) a + S1x1x64x656.size a ≤ S2x16x64x656.size a := fun i v1 k0_hw17 k0_t2 k0_h79 => k0_hw17.2.2.2.2.2.2.1.2.2.2.2.2.2.2.2.2.2.2.2.2.2.2.2.2.2.2.2.2.1 k0_t2 k0_h79
theorem k0_off218_wordsi8 : ∀ (i : grid0.Coords) (v1 : BitVec 32) (k0_hw17 : k0_chk17 i v1) (k0_t2 : Fin (k0_t2_loop v1).trips), ∀ (k0_h79 : k0_cond79 v1 k0_t2 = 1#1), (Rect.unit (s := S2x16x64x656) (k0_off218 v1 k0_t2) S1x1x64x656.size (k0_off218_inb i v1 k0_hw17 k0_t2 k0_h79)).WholeWords (EltTy.packing .i8) := fun i v1 k0_hw17 k0_t2 k0_h79 => k0_hw17.2.2.2.2.2.2.1.2.2.2.2.2.2.2.2.2.2.2.2.2.2.2.2.2.2.2.2.2.2.1 k0_t2 k0_h79 (k0_off218_inb i v1 k0_hw17 k0_t2 k0_h79)
theorem k0_off219_inb : ∀ (i : grid0.Coords) (v1 : BitVec 32) (k0_hw17 : k0_chk17 i v1) (k0_t2 : Fin (k0_t2_loop v1).trips), ∀ (k0_h80 : k0_cond80 v1 k0_t2 = 1#1), ∀ a, (k0_off219 v1 k0_t2) a + S1.size a ≤ S2.size a := fun i v1 k0_hw17 k0_t2 k0_h80 => k0_hw17.2.2.2.2.2.2.1.2.2.2.2.2.2.2.2.2.2.2.2.2.2.2.2.2.2.2.2.2.2.2.1 k0_t2 k0_h80
theorem k0_off220_inb : ∀ (i : grid0.Coords) (v1 : BitVec 32) (k0_hw17 : k0_chk17 i v1) (k0_t2 : Fin (k0_t2_loop v1).trips), ∀ (k0_h80 : k0_cond80 v1 k0_t2 = 1#1), ∀ a, (k0_off220 v1 k0_t2) a + S1x1x64x656.size a ≤ S2x16x64x656.size a := fun i v1 k0_hw17 k0_t2 k0_h80 => k0_hw17.2.2.2.2.2.2.1.2.2.2.2.2.2.2.2.2.2.2.2.2.2.2.2.2.2.2.2.2.2.2.2.1 k0_t2 k0_h80
theorem k0_off220_wordsi8 : ∀ (i : grid0.Coords) (v1 : BitVec 32) (k0_hw17 : k0_chk17 i v1) (k0_t2 : Fin (k0_t2_loop v1).trips), ∀ (k0_h80 : k0_cond80 v1 k0_t2 = 1#1), (Rect.unit (s := S2x16x64x656) (k0_off220 v1 k0_t2) S1x1x64x656.size (k0_off220_inb i v1 k0_hw17 k0_t2 k0_h80)).WholeWords (EltTy.packing .i8) := fun i v1 k0_hw17 k0_t2 k0_h80 => k0_hw17.2.2.2.2.2.2.1.2.2.2.2.2.2.2.2.2.2.2.2.2.2.2.2.2.2.2.2.2.2.2.2.2.1 k0_t2 k0_h80 (k0_off220_inb i v1 k0_hw17 k0_t2 k0_h80)
theorem k0_off221_inb : ∀ (i : grid0.Coords) (v1 : BitVec 32) (k0_hw17 : k0_chk17 i v1) (k0_t2 : Fin (k0_t2_loop v1).trips), ∀ (k0_h81 : k0_cond81 v1 k0_t2 = 1#1), ∀ a, (k0_off221 v1 k0_t2) a + S1.size a ≤ S2.size a := fun i v1 k0_hw17 k0_t2 k0_h81 => k0_hw17.2.2.2.2.2.2.1.2.2.2.2.2.2.2.2.2.2.2.2.2.2.2.2.2.2.2.2.2.2.2.2.2.2.1 k0_t2 k0_h81
theorem k0_off222_inb : ∀ (i : grid0.Coords) (v1 : BitVec 32) (k0_hw17 : k0_chk17 i v1) (k0_t2 : Fin (k0_t2_loop v1).trips), ∀ (k0_h81 : k0_cond81 v1 k0_t2 = 1#1), ∀ a, (k0_off222 v1 k0_t2) a + S1x1x64x656.size a ≤ S2x16x64x656.size a := fun i v1 k0_hw17 k0_t2 k0_h81 => k0_hw17.2.2.2.2.2.2.1.2.2.2.2.2.2.2.2.2.2.2.2.2.2.2.2.2.2.2.2.2.2.2.2.2.2.2.1 k0_t2 k0_h81
theorem k0_off222_wordsi8 : ∀ (i : grid0.Coords) (v1 : BitVec 32) (k0_hw17 : k0_chk17 i v1) (k0_t2 : Fin (k0_t2_loop v1).trips), ∀ (k0_h81 : k0_cond81 v1 k0_t2 = 1#1), (Rect.unit (s := S2x16x64x656) (k0_off222 v1 k0_t2) S1x1x64x656.size (k0_off222_inb i v1 k0_hw17 k0_t2 k0_h81)).WholeWords (EltTy.packing .i8) := fun i v1 k0_hw17 k0_t2 k0_h81 => k0_hw17.2.2.2.2.2.2.1.2.2.2.2.2.2.2.2.2.2.2.2.2.2.2.2.2.2.2.2.2.2.2.2.2.2.2.2.1 k0_t2 k0_h81 (k0_off222_inb i v1 k0_hw17 k0_t2 k0_h81)
theorem k0_off223_inb : ∀ (i : grid0.Coords) (v1 : BitVec 32) (k0_hw17 : k0_chk17 i v1) (k0_t2 : Fin (k0_t2_loop v1).trips), ∀ (k0_h82 : k0_cond82 v1 k0_t2 = 1#1), ∀ a, (k0_off223 v1 k0_t2) a + S1.size a ≤ S2.size a := fun i v1 k0_hw17 k0_t2 k0_h82 => k0_hw17.2.2.2.2.2.2.1.2.2.2.2.2.2.2.2.2.2.2.2.2.2.2.2.2.2.2.2.2.2.2.2.2.2.2.2.2.1 k0_t2 k0_h82
theorem k0_off224_inb : ∀ (i : grid0.Coords) (v1 : BitVec 32) (k0_hw17 : k0_chk17 i v1) (k0_t2 : Fin (k0_t2_loop v1).trips), ∀ (k0_h82 : k0_cond82 v1 k0_t2 = 1#1), ∀ a, (k0_off224 v1 k0_t2) a + S1x1x64x656.size a ≤ S2x16x64x656.size a := fun i v1 k0_hw17 k0_t2 k0_h82 => k0_hw17.2.2.2.2.2.2.1.2.2.2.2.2.2.2.2.2.2.2.2.2.2.2.2.2.2.2.2.2.2.2.2.2.2.2.2.2.2.1 k0_t2 k0_h82
theorem k0_off224_wordsi8 : ∀ (i : grid0.Coords) (v1 : BitVec 32) (k0_hw17 : k0_chk17 i v1) (k0_t2 : Fin (k0_t2_loop v1).trips), ∀ (k0_h82 : k0_cond82 v1 k0_t2 = 1#1), (Rect.unit (s := S2x16x64x656) (k0_off224 v1 k0_t2) S1x1x64x656.size (k0_off224_inb i v1 k0_hw17 k0_t2 k0_h82)).WholeWords (EltTy.packing .i8) := fun i v1 k0_hw17 k0_t2 k0_h82 => k0_hw17.2.2.2.2.2.2.1.2.2.2.2.2.2.2.2.2.2.2.2.2.2.2.2.2.2.2.2.2.2.2.2.2.2.2.2.2.2.2 k0_t2 k0_h82 (k0_off224_inb i v1 k0_hw17 k0_t2 k0_h82)
theorem k0_off225_inb : ∀ (i : grid0.Coords) (v1 : BitVec 32) (k0_hw17 : k0_chk17 i v1) (k0_t2 : Fin (k0_t2_loop v1).trips), ∀ (k0_h83 : k0_cond83 v1 k0_t2 = 1#1), ∀ a, (k0_off225 v1 k0_t2) a + S1.size a ≤ S2.size a := fun i v1 k0_hw17 k0_t2 k0_h83 => k0_hw17.2.2.2.2.2.2.2.1 k0_t2 k0_h83
theorem k0_off226_inb : ∀ (i : grid0.Coords) (v1 : BitVec 32) (k0_hw17 : k0_chk17 i v1) (k0_t2 : Fin (k0_t2_loop v1).trips), ∀ (k0_h83 : k0_cond83 v1 k0_t2 = 1#1), ∀ a, (k0_off226 v1 k0_t2) a + S1x1x64x656.size a ≤ S2x16x64x656.size a := fun i v1 k0_hw17 k0_t2 k0_h83 => k0_hw17.2.2.2.2.2.2.2.2.1 k0_t2 k0_h83
theorem k0_off226_wordsi8 : ∀ (i : grid0.Coords) (v1 : BitVec 32) (k0_hw17 : k0_chk17 i v1) (k0_t2 : Fin (k0_t2_loop v1).trips), ∀ (k0_h83 : k0_cond83 v1 k0_t2 = 1#1), (Rect.unit (s := S2x16x64x656) (k0_off226 v1 k0_t2) S1x1x64x656.size (k0_off226_inb i v1 k0_hw17 k0_t2 k0_h83)).WholeWords (EltTy.packing .i8) := fun i v1 k0_hw17 k0_t2 k0_h83 => k0_hw17.2.2.2.2.2.2.2.2.2.1 k0_t2 k0_h83 (k0_off226_inb i v1 k0_hw17 k0_t2 k0_h83)
theorem k0_off227_inb : ∀ (i : grid0.Coords) (v1 : BitVec 32) (k0_hw17 : k0_chk17 i v1) (k0_t2 : Fin (k0_t2_loop v1).trips), ∀ a, (k0_off227 v1 k0_t2) a + S1x16x64x656.size a ≤ S2x16x64x656.size a := fun i v1 k0_hw17 k0_t2 => k0_hw17.2.2.2.2.2.2.2.2.2.2 k0_t2

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S65x1x64x512 : Shape := ⟨4, ![65, 1, 64, 512]⟩
abbrev S65x1x64x64 : Shape := ⟨4, ![65, 1, 64, 64]⟩
abbrev S10400x64x656 : Shape := ⟨3, ![10400, 64, 656]⟩
abbrev S65x128 : Shape := ⟨2, ![65, 128]⟩
abbrev S65 : Shape := ⟨1, ![65]⟩
abbrev S65x1x512 : Shape := ⟨3, ![65, 1, 512]⟩
abbrev S65x1x4 : Shape := ⟨3, ![65, 1, 4]⟩
abbrev S65x1x64 : Shape := ⟨3, ![65, 1, 64]⟩
abbrev S_ : Shape := ⟨0, ![]⟩
abbrev S65x128x1 : Shape := ⟨3, ![65, 128, 1]⟩
abbrev S65x128x64x656 : Shape := ⟨4, ![65, 128, 64, 656]⟩
abbrev S65x8192x656 : Shape := ⟨3, ![65, 8192, 656]⟩
abbrev S65x8192x512 : Shape := ⟨3, ![65, 8192, 512]⟩
abbrev S65x8192x16 : Shape := ⟨3, ![65, 8192, 16]⟩
abbrev S65x8192x4 : Shape := ⟨3, ![65, 8192, 4]⟩
abbrev S65x8192x128 : Shape := ⟨3, ![65, 8192, 128]⟩
abbrev S65x8192x64 : Shape := ⟨3, ![65, 8192, 64]⟩
abbrev S65x8192x4x128 : Shape := ⟨4, ![65, 8192, 4, 128]⟩
abbrev S65x8192x4x1 : Shape := ⟨4, ![65, 8192, 4, 1]⟩
abbrev S65x1x4x128 : Shape := ⟨4, ![65, 1, 4, 128]⟩
abbrev S65x1x4x1 : Shape := ⟨4, ![65, 1, 4, 1]⟩
abbrev S65x1x64x8192 : Shape := ⟨4, ![65, 1, 64, 8192]⟩
abbrev S8192 : Shape := ⟨1, ![8192]⟩
abbrev S1x8192 : Shape := ⟨2, ![1, 8192]⟩
abbrev S65x1 : Shape := ⟨2, ![65, 1]⟩
abbrev S65x8192 : Shape := ⟨2, ![65, 8192]⟩
abbrev S65x1x1x8192 : Shape := ⟨4, ![65, 1, 1, 8192]⟩
abbrev S65x1x64x1 : Shape := ⟨4, ![65, 1, 64, 1]⟩
abbrev S1 : Shape := ⟨1, ![1]⟩
abbrev S1x1 : Shape := ⟨2, ![1, 1]⟩
abbrev S1x1x1x1 : Shape := ⟨4, ![1, 1, 1, 1]⟩
abbrev S65x64x512 : Shape := ⟨3, ![65, 64, 512]⟩
abbrev S65x64x1 : Shape := ⟨3, ![65, 64, 1]⟩

abbrev nBuf : Space → Nat
  | .hbm => 132
  | .vmem => 4
  | .smem => 0
  | _ => 0

abbrev hbmTy0_0 (i : Nat) : BufTy := match i % 128 with
  | 0 => ⟨S65x1x64x512, .bf16⟩
  | 1 => ⟨S65x1x64x64, .bf16⟩
  | 2 => ⟨S10400x64x656, .i8⟩
  | 3 => ⟨S65x128, .i32⟩
  | 4 => ⟨S65, .i32⟩
  | 5 => ⟨S65x1x512, .fp8e4m3⟩
  | 6 => ⟨S65x1x4, .f32⟩
  | 7 => ⟨S65x1x64, .bf16⟩
  | 8 => ⟨S_, .i32⟩
  | 9 => ⟨S65x128, .i32⟩
  | 10 => ⟨S65x128, .i1⟩
  | 11 => ⟨S_, .i32⟩
  | 12 => ⟨S65x128, .i32⟩
  | 13 => ⟨S65x128, .i32⟩
  | 14 => ⟨S65x128, .i32⟩
  | 15 => ⟨S65x128x1, .i32⟩
  | 16 => ⟨S65x128x64x656, .i8⟩
  | 17 => ⟨S65x8192x656, .i8⟩
  | 18 => ⟨S65x8192x512, .i8⟩
  | 19 => ⟨S65x8192x512, .fp8e4m3⟩
  | 20 => ⟨S65x8192x16, .i8⟩
  | 21 => ⟨S65x8192x16, .i32⟩
  | 22 => ⟨S65x8192x4, .i32⟩
  | 23 => ⟨S65x8192x4, .i32⟩
  | 24 => ⟨S_, .i32⟩
  | 25 => ⟨S65x8192x4, .i32⟩
  | 26 => ⟨S65x8192x4, .i32⟩
  | 27 => ⟨S65x8192x4, .i32⟩
  | 28 => ⟨S65x8192x4, .i32⟩
  | 29 => ⟨S_, .i32⟩
  | 30 => ⟨S65x8192x4, .i32⟩
  | 31 => ⟨S65x8192x4, .i32⟩
  | 32 => ⟨S65x8192x4, .i32⟩
  | 33 => ⟨S65x8192x4, .i32⟩
  | 34 => ⟨S_, .i32⟩
  | 35 => ⟨S65x8192x4, .i32⟩
  | 36 => ⟨S65x8192x4, .i32⟩
  | 37 => ⟨S65x8192x4, .i32⟩
  | 38 => ⟨S65x8192x4, .f32⟩
  | 39 => ⟨S65x8192x128, .i8⟩
  | 40 => ⟨S65x8192x128, .i32⟩
  | 41 => ⟨S65x8192x64, .i32⟩
  | 42 => ⟨S_, .i32⟩
  | 43 => ⟨S65x8192x64, .i32⟩
  | 44 => ⟨S65x8192x64, .i32⟩
  | 45 => ⟨S65x8192x64, .i32⟩
  | 46 => ⟨S_, .i32⟩
  | 47 => ⟨S65x8192x64, .i32⟩
  | 48 => ⟨S65x8192x64, .i32⟩
  | 49 => ⟨S65x8192x64, .i32⟩
  | 50 => ⟨S65x8192x64, .f32⟩
  | 51 => ⟨S65x8192x64, .bf16⟩
  | 52 => ⟨S65x8192x512, .bf16⟩
  | 53 => ⟨S65x1x512, .bf16⟩
  | 54 => ⟨S65x8192x4x128, .bf16⟩
  | 55 => ⟨S65x8192x4, .bf16⟩
  | 56 => ⟨S65x8192x4x1, .bf16⟩
  | 57 => ⟨S65x8192x4x128, .bf16⟩
  | 58 => ⟨S65x8192x4x128, .bf16⟩
  | 59 => ⟨S65x8192x512, .bf16⟩
  | 60 => ⟨S65x1x4x128, .bf16⟩
  | 61 => ⟨S65x1x4, .bf16⟩
  | 62 => ⟨S65x1x4x1, .bf16⟩
  | 63 => ⟨S65x1x4x128, .bf16⟩
  | 64 => ⟨S65x1x4x128, .bf16⟩
  | 65 => ⟨S65x1x512, .bf16⟩
  | 66 => ⟨S65x1x64x8192, .f32⟩
  | 67 => ⟨S65x1x64x8192, .f32⟩
  | 68 => ⟨S65x1x64x8192, .f32⟩
  | 69 => ⟨S_, .f32⟩
  | 70 => ⟨S65x1x64x8192, .f32⟩
  | 71 => ⟨S65x1x64x8192, .f32⟩
  | 72 => ⟨S8192, .i32⟩
  | 73 => ⟨S1x8192, .i32⟩
  | 74 => ⟨S65x1, .i32⟩
  | 75 => ⟨S65x8192, .i32⟩
  | 76 => ⟨S65x8192, .i32⟩
  | 77 => ⟨S65x8192, .i1⟩
  | 78 => ⟨S65x1x1x8192, .i1⟩
  | 79 => ⟨S_, .f32⟩
  | 80 => ⟨S_, .f32⟩
  | 81 => ⟨S65x1x64x8192, .i1⟩
  | 82 => ⟨S65x1x64x8192, .f32⟩
  | 83 => ⟨S65x1x64x8192, .f32⟩
  | 84 => ⟨S65x1x64x1, .f32⟩
  | 85 => ⟨S65x1x64x1, .f32⟩
  | 86 => ⟨S65x1x64x1, .f32⟩
  | 87 => ⟨S_, .f32⟩
  | 88 => ⟨S65x1x64x1, .f32⟩
  | 89 => ⟨S65x1x64x1, .f32⟩
  | 90 => ⟨S1, .i32⟩
  | 91 => ⟨S1x1, .i32⟩
  | 92 => ⟨S1, .i32⟩
  | 93 => ⟨S1x1, .i32⟩
  | 94 => ⟨S1x1, .i1⟩
  | 95 => ⟨S1x1x1x1, .i1⟩
  | 96 => ⟨S_, .f32⟩
  | 97 => ⟨S_, .f32⟩
  | 98 => ⟨S65x1x64x1, .i1⟩
  | 99 => ⟨S65x1x64x1, .f32⟩
  | 100 => ⟨S65x1x64x1, .f32⟩
  | 101 => ⟨S_, .f32⟩
  | 102 => ⟨S65x1x64, .f32⟩
  | 103 => ⟨S65x1x64x1, .f32⟩
  | 104 => ⟨S_, .f32⟩
  | 105 => ⟨S65x1x64, .f32⟩
  | 106 => ⟨S65x1x64x1, .f32⟩
  | 107 => ⟨S65x1x64x1, .f32⟩
  | 108 => ⟨S65x1x64x8192, .f32⟩
  | 109 => ⟨S65x1x64x8192, .f32⟩
  | 110 => ⟨S65x1x64x8192, .f32⟩
  | 111 => ⟨S65x1x64x1, .f32⟩
  | 112 => ⟨S65x1x64x1, .f32⟩
  | 113 => ⟨S_, .f32⟩
  | 114 => ⟨S65x1x64, .f32⟩
  | 115 => ⟨S65x1x64x1, .f32⟩
  | 116 => ⟨S_, .f32⟩
  | 117 => ⟨S65x1x64, .f32⟩
  | 118 => ⟨S65x1x64x1, .f32⟩
  | 119 => ⟨S65x1x64x1, .f32⟩
  | 120 => ⟨S65x1x64x8192, .bf16⟩
  | 121 => ⟨S65x1x64x512, .f32⟩
  | 122 => ⟨S65x1x64x1, .bf16⟩
  | 123 => ⟨S65x1x64x512, .f32⟩
  | 124 => ⟨S65x1x64x512, .f32⟩
  | 125 => ⟨S65x1x64x512, .f32⟩
  | 126 => ⟨S65x1x64x512, .f32⟩
  | 127 => ⟨S65x1x64x1, .f32⟩
  | _ => ⟨S65x1x64x512, .bf16⟩

abbrev hbmTy0_1 (i : Nat) : BufTy := match i % 128 with
  | 0 => ⟨S65x1x64x1, .f32⟩
  | 1 => ⟨S65x1x64x512, .bf16⟩
  | 2 => ⟨S65x64x512, .bf16⟩
  | 3 => ⟨S65x64x1, .f32⟩
  | _ => ⟨S65x1x64x512, .bf16⟩

abbrev hbmTy (i : Nat) : BufTy := match i / 128 with
  | 0 => hbmTy0_0 i
  | 1 => hbmTy0_1 i
  | _ => ⟨S65x1x64x512, .bf16⟩

abbrev bufTy : (tb : Table) → Fin (tcTables nBuf tb) → BufTy
  | .hbm, ⟨i, _⟩ => hbmTy i
  | .local _ .vmem, ⟨0, _⟩ => ⟨S65x8192x512, .fp8e4m3⟩
  | .local _ .vmem, ⟨1, _⟩ => ⟨S65x1x512, .fp8e4m3⟩
  | .local _ .vmem, ⟨2, _⟩ => ⟨S65x8192x512, .bf16⟩
  | .local _ .vmem, ⟨3, _⟩ => ⟨S65x1x512, .bf16⟩
  | _, _ => ⟨S65x1x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37_0 : Ref sig .tc := ⟨.hbm, 52, rfl⟩
abbrev main_v37_1 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_6 : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_7 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_8 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_v74 : Ref sig .tc := ⟨.hbm, 100, rfl⟩
abbrev main_cst_9 : Ref sig .tc := ⟨.hbm, 101, rfl⟩
abbrev main_v75 : Ref sig .tc := ⟨.hbm, 102, rfl⟩
abbrev main_v76 : Ref sig .tc := ⟨.hbm, 103, rfl⟩
abbrev main_cst_10 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_11 : Ref sig .tc := ⟨.hbm, 113, rfl⟩
abbrev main_v85 : Ref sig .tc := ⟨.hbm, 114, rfl⟩
abbrev main_v86 : Ref sig .tc := ⟨.hbm, 115, rfl⟩
abbrev main_cst_12 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S65x8192x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S65x1x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S65x8192x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S65x1x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Tables.lean ====
/- Hand-written, untrusted. What the precondition says of the two tables. -/
module

public import proofs.«01_k».proof.Pre_tables_in_range
public import proofs.«01_k».proof.Proof.Gen.Pre_tables_in_range
public import Idealize.ShloMosaic.Lib.WordCmp
public import Idealize.ShloMosaic.Init

@[expose] public section

noncomputable section

namespace Cert.Pre_tables_in_range.Hand

open Cert.Pre_tables_in_range Idealize.ShloMosaic Idealize.ShloMosaic.StableHlo

variable {F : FTy → Type} [FloatOps F]

theorem and_one {a b : BitVec 1} (h : a &&& b = 1#1) : a = 1#1 ∧ b = 1#1 := by
  revert a b; decide

theorem of_ofBool {b : Bool} (h : BitVec.ofBool b = 1#1) : b = true := by
  revert h; cases b <;> decide

theorem words {x y : BitVec 32} (h : (IntOp.andi (IntOp.andi (IntOp.andi (IntOp.cmpi .sge x 0#32) (IntOp.cmpi .slt x 10400#32)) (IntOp.cmpi .sge y 0#32))
    (IntOp.cmpi .sle y 8192#32)) = 1#1) : x.toNat < 10400 ∧ y.toNat ≤ 8192 := by
  obtain ⟨h, h4⟩ := and_one h
  obtain ⟨h, h3⟩ := and_one h
  obtain ⟨h1, h2⟩ := and_one h
  replace h1 := of_ofBool h1
  replace h2 := of_ofBool h2
  replace h3 := of_ofBool h3
  replace h4 := of_ofBool h4
  simp only [ BitVec.sle, BitVec.slt, decide_eq_true_eq, BitVec.toInt_eq_toNat_cond, BitVec.toNat_ofNat] at h1 h2 h3 h4
  have := x.isLt
  have := y.isLt
  constructor
  · split at h1 <;> split at h2 <;> omega
  · split at h3 <;> split at h4 <;> omega

/-- The sequence of an entry of the page table. -/
def on (x : S65x128.Idx) : S65.Idx := fun a => match a with | 0 => (x 0 : Fin 65)

variable (a0 : FVec F S65x1x64x512 .bf16) (a1 : FVec F S65x1x64x64 .bf16) (a2 : IVec S10400x64x656 8) (a3 : IVec S65x128 32) (a4 : IVec S65 32)
  (a5 : FVec F S65x1x512 .fp8e4m3) (a6 : FVec F S65x1x4 .f32) (a7 : FVec F S65x1x64 .bf16)

/-- Every entry of the page table names a page of the pool, and every length is at most 8192. -/
theorem in_range [Cert.Pre_tables_in_range.Facts] (h : fn a0 a1 a2 a3 a4 a5 a6 a7 = fun _ => 1#1) :
    (∀ x, (a3 x).toNat < 10400) ∧ ∀ x, (a4 x).toNat ≤ 8192 := by
  have key : ∀ x, (a3 x).toNat < 10400 ∧ (a4 (on x)).toNat ≤ 8192 := fun x => by
    have e := congrFun h x
    have e' : IntOp.andi (IntOp.andi (IntOp.andi (IntOp.cmpi .sge (a3 x) 0#32) (IntOp.cmpi .slt (a3 x) 10400#32)) (IntOp.cmpi .sge (a4 (on x)) 0#32))
        (IntOp.cmpi .sle (a4 (on x)) 8192#32) = 1#1 := by
      rw [← e]
      have hx : ∀ y : S65.Idx, (y 0 : Fin 65) = x 0 → on x = y := fun y hy => funext fun a => by match a with | 0 => exact hy.symm
      unfold fn
      simp only [andi, cmpi, constantI, broadcastInDim]
      congr 3 <;> first | exact hx _ rfl | exact congrArg a4 (hx _ rfl)
    exact words e'
  refine ⟨fun x => (key x).1, fun x => ?_⟩
  have e := (key (fun a => match a with | 0 => (x 0 : Fin 65) | 1 => (0 : Fin 128))).2
  have hx : x = on (fun a => match a with | 0 => (x 0 : Fin 65) | 1 => (0 : Fin 128)) := funext fun a => by match a with | 0 => rfl
  rw [hx]; exact e

end Cert.Pre_tables_in_range.Hand

end
-- ==== Proof.Words.lean ====
/- Hand-written, untrusted. The kernel's page arithmetic on 32-bit words: the two rounded-up quotients (pages of a
   length, blocks of a page count), the guard of a page, the slot of a trip and of the next, each read as the natural
   number it is. Used by both printed programs. -/
module

public import Idealize.ShloMosaic.PureOps
public import Idealize.ShloMosaic.Lib.WordCmp
public import Idealize.ShloMosaic.Lib.LoopRemainder
public import Idealize.ShloMosaic.Lib.Routing.Words

@[expose] public section

namespace Cert.Words

open Idealize.ShloMosaic

/-- The quotient rounded towards minus infinity, as the kernel spells it out. -/
def fdivW (x d : BitVec 32) : BitVec 32 :=
  Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

/-- The number of 64-token pages of a length. -/
def npW (v1 : BitVec 32) : BitVec 32 := fdivW (Scalar.subi (Scalar.addi v1 64#32) 1#32) 64#32
/-- The number of 16-page blocks of a page count. -/
def nbW (np : BitVec 32) : BitVec 32 := fdivW (Scalar.subi (Scalar.addi np 16#32) 1#32) 16#32
/-- The guard "`p` is below `np`". -/
def condW (p np : BitVec 32) : BitVec 1 := Scalar.cmpi .ne (Scalar.extui (Scalar.cmpi .slt p np)) 0#32

theorem toNat_ofNat {a : Nat} (h : a < 2 ^ 32) : (BitVec.ofNat 32 a).toNat = a := by
  rw [BitVec.toNat_ofNat]; exact Nat.mod_eq_of_lt h

theorem subi_ofNat {a b : Nat} (hb : b ≤ a) : Scalar.subi (BitVec.ofNat 32 a) (BitVec.ofNat 32 b) = BitVec.ofNat 32 (a - b) := by
  show BitVec.ofNat 32 a - BitVec.ofNat 32 b = _
  conv_lhs => rw [← Nat.sub_add_cancel hb]
  rw [BitVec.ofNat_add, BitVec.add_sub_cancel]

theorem addi_ofNat (a b : Nat) : Scalar.addi (BitVec.ofNat 32 a) (BitVec.ofNat 32 b) = BitVec.ofNat 32 (a + b) :=
  WordCmp.addi_ofNat a b
theorem muli_ofNat (a b : Nat) : Scalar.muli (BitVec.ofNat 32 a) (BitVec.ofNat 32 b) = BitVec.ofNat 32 (a * b) :=
  WordCmp.muli_ofNat a b

theorem fdivW_ofNat {a d : Nat} (ha : a < 2 ^ 31) (h0 : 0 < a) (hd : 0 < d) (hd' : d < 2 ^ 31) :
    fdivW (BitVec.ofNat 32 a) (BitVec.ofNat 32 d) = BitVec.ofNat 32 (a / d) := by
  have e1 : ∀ x : Nat, 0 < x → x < 2 ^ 31 → Scalar.cmpi .sgt (BitVec.ofNat 32 x) 0#32 = 1#1 := fun x h h' =>
    (WordCmp.cmpi_sgt_ofNat_eq_one_iff (w := 32) h' (by decide)).2 h
  have e2 : ∀ x : Nat, x < 2 ^ 31 → Scalar.cmpi .slt (BitVec.ofNat 32 x) 0#32 = 0#1 := fun x h' =>
    (WordCmp.cmpi_slt_ofNat_eq_zero_iff (w := 32) h' (by decide)).2 (Nat.not_lt_zero _)
  unfold fdivW
  rw [e1 a h0 ha, e1 d hd hd', e2 a ha, e2 d hd']
  have e3 : Scalar.cmpi .ne (Scalar.subi (Scalar.extui 1#1) (Scalar.extui 0#1)) (Scalar.subi (Scalar.extui 1#1) (Scalar.extui 0#1)) = 0#1 := by decide
  rw [e3]
  have e4 : ∀ x : BitVec 1, Scalar.andi 0#1 x = 0#1 := by intro x; exact BitVec.zero_and
  rw [e4, WordCmp.select_of_eq_zero rfl]
  exact Routing.divsi_word _ ha hd hd'

theorem npW_ofNat {n : Nat} (hn : n ≤ 8192) : npW (BitVec.ofNat 32 n) = BitVec.ofNat 32 ((n + 63) / 64) := by
  unfold npW
  rw [show (64#32 : BitVec 32) = BitVec.ofNat 32 64 from rfl, addi_ofNat, show (1#32 : BitVec 32) = BitVec.ofNat 32 1 from rfl,
    subi_ofNat (by omega), fdivW_ofNat (by omega) (by omega) (by omega) (by omega)]
  rfl

theorem nbW_ofNat {p : Nat} (hp : p ≤ 128) : nbW (BitVec.ofNat 32 p) = BitVec.ofNat 32 ((p + 15) / 16) := by
  unfold nbW
  rw [show (16#32 : BitVec 32) = BitVec.ofNat 32 16 from rfl, addi_ofNat, show (1#32 : BitVec 32) = BitVec.ofNat 32 1 from rfl,
    subi_ofNat (by omega), fdivW_ofNat (by omega) (by omega) (by omega) (by omega)]
  rfl

theorem condW_eq_one {a b : Nat} (ha : a < 2 ^ 31) (hb : b < 2 ^ 31) :
    condW (BitVec.ofNat 32 a) (BitVec.ofNat 32 b) = 1#1 ↔ a < b := by
  unfold condW
  by_cases h : a < b
  · have := (WordCmp.cmpi_slt_ofNat_eq_one_iff (w := 32) ha hb).2 h
    rw [show Scalar.cmpi .slt (BitVec.ofNat 32 a) (BitVec.ofNat 32 b) = 1#1 from this]
    exact ⟨fun _ => h, fun _ => by decide⟩
  · have := (WordCmp.cmpi_slt_ofNat_eq_zero_iff (w := 32) ha hb).2 (by omega)
    rw [show Scalar.cmpi .slt (BitVec.ofNat 32 a) (BitVec.ofNat 32 b) = 0#1 from this]
    exact ⟨fun e => absurd e (by decide), fun e => absurd e h⟩

/-- A trip's number as the loop counts it. -/
theorem iv_eq (k : Nat) : Scf.iv 0#32 1#32 k = BitVec.ofNat 32 k := by
  unfold Scf.iv; simp

/-- A trip's slot: its parity. -/
theorem remsi2 {k : Nat} (hk : k < 2 ^ 31) : Scalar.remsi (BitVec.ofNat 32 k) 2#32 = BitVec.ofNat 32 (k % 2) :=
  Routing.remsi_word _ hk (by omega) (by omega)

/-- The other slot. -/
theorem other2 {k : Nat} (hk : k < 2 ^ 31) :
    Scalar.subi 1#32 (Scalar.remsi (BitVec.ofNat 32 k) 2#32) = BitVec.ofNat 32 (1 - k % 2) := by
  rw [remsi2 hk, show (1#32 : BitVec 32) = BitVec.ofNat 32 1 from rfl, subi_ofNat (by omega)]

/-- The counted loop over the blocks: lower bound 0, as many trips as blocks. -/
theorem trips_ofNat {b : Nat} (hb : b < 2 ^ 31) : Scf.trips 0#32 (BitVec.ofNat 32 b) 1#32 = b := by
  have h1 : (1#32 : BitVec 32).toInt = 1 := by decide
  have h0 : (0#32 : BitVec 32).toInt = 0 := by decide
  have hb' : (BitVec.ofNat 32 b).toInt = b := by
    rw [WordCmp.toInt_eq_toNat_of_lt_half (by rw [toNat_ofNat (by omega)]; exact hb), toNat_ofNat (by omega)]
  unfold Scf.trips; rw [h1, h0, hb']; omega

theorem ok_ofNat {b : Nat} (hb : b < 2 ^ 31) : Scf.OK 0#32 (BitVec.ofNat 32 b) 1#32 := by
  have h1 : (1#32 : BitVec 32).toInt = 1 := by decide
  have h0 : (0#32 : BitVec 32).toInt = 0 := by decide
  unfold Scf.OK; rw [trips_ofNat hb, h1, h0]; exact ⟨by omega, by omega⟩

/-- The loop's upper bound as the kernel spells it. -/
theorem ub_eq (x : BitVec 32) :
    Scalar.addi 0#32 (Scalar.muli (Scalar.divsi (Scalar.subi x 0#32) 1#32) 1#32) = x := by
  rw [Scalar.muli_divsi_one]
  show 0#32 + (x - 0#32) = x
  simp

/-- The number of page `j` of the block after block `t`. -/
def pw (t j : Nat) : BitVec 32 :=
  Scalar.addi (Scalar.muli (Scalar.addi (Scf.iv 0#32 1#32 t) 1#32) 16#32) (BitVec.ofNat 32 j)
/-- The number of page `j` of block `t`. -/
def pw0 (t j : Nat) : BitVec 32 := Scalar.addi (Scalar.muli (Scf.iv 0#32 1#32 t) 16#32) (BitVec.ofNat 32 j)
/-- The slot of block `t`, and the other. -/
def slW (t : Nat) : BitVec 32 := Scalar.remsi (Scf.iv 0#32 1#32 t) 2#32
def otW (t : Nat) : BitVec 32 := Scalar.subi 1#32 (Scalar.remsi (Scf.iv 0#32 1#32 t) 2#32)

theorem pw_eq (t j : Nat) : pw t j = BitVec.ofNat 32 ((t + 1) * 16 + j) := by
  unfold pw
  rw [iv_eq, show (1#32 : BitVec 32) = BitVec.ofNat 32 1 from rfl, addi_ofNat, show (16#32 : BitVec 32) = BitVec.ofNat 32 16 from rfl,
    muli_ofNat, addi_ofNat]
theorem pw0_eq (t j : Nat) : pw0 t j = BitVec.ofNat 32 (t * 16 + j) := by
  unfold pw0
  rw [iv_eq, show (16#32 : BitVec 32) = BitVec.ofNat 32 16 from rfl, muli_ofNat, addi_ofNat]
theorem slW_toNat {t : Nat} (h : t < 2 ^ 31) : (slW t).toNat = t % 2 := by
  unfold slW; rw [iv_eq, remsi2 h, toNat_ofNat (by omega)]
theorem otW_toNat {t : Nat} (h : t < 2 ^ 31) : (otW t).toNat = 1 - t % 2 := by
  unfold otW; rw [iv_eq, other2 h, toNat_ofNat (by omega)]

/-- The pages and the blocks of a length, as numbers. -/
def np (n : Nat) : Nat := (n + 63) / 64
def nb (n : Nat) : Nat := (np n + 15) / 16

theorem npW_of {v : BitVec 32} (hv : v.toNat ≤ 8192) : npW v = BitVec.ofNat 32 (np v.toNat) := by
  conv_lhs => rw [show v = BitVec.ofNat 32 v.toNat from by simp]
  exact npW_ofNat hv
theorem np_le {n : Nat} (h : n ≤ 8192) : np n ≤ 128 := by unfold np; omega
theorem nb_le {n : Nat} (h : n ≤ 8192) : nb n ≤ 8 := by have := np_le h; unfold nb; omega
theorem nbW_of {v : BitVec 32} (hv : v.toNat ≤ 8192) : nbW (npW v) = BitVec.ofNat 32 (nb v.toNat) := by
  rw [npW_of hv]; exact nbW_ofNat (np_le hv)

theorem cond_pw {v : BitVec 32} (hv : v.toNat ≤ 8192) {t j : Nat} (ht : t < 8) (hj : j < 16) :
    condW (pw t j) (npW v) = 1#1 ↔ (t + 1) * 16 + j < np v.toNat := by
  have := np_le hv
  rw [npW_of hv, pw_eq]; exact condW_eq_one (by omega) (by omega)
theorem cond_pw0 {v : BitVec 32} (hv : v.toNat ≤ 8192) {t j : Nat} (ht : t < 8) (hj : j < 16) :
    condW (pw0 t j) (npW v) = 1#1 ↔ t * 16 + j < np v.toNat := by
  have := np_le hv
  rw [npW_of hv, pw0_eq]; exact condW_eq_one (by omega) (by omega)
theorem cond_blk {v : BitVec 32} (hv : v.toNat ≤ 8192) {t : Nat} (ht : t < 8) :
    condW (Scalar.addi (Scf.iv 0#32 1#32 t) 1#32) (nbW (npW v)) = 1#1 ↔ t + 1 < nb v.toNat := by
  have := nb_le hv
  rw [nbW_of hv, iv_eq, show (1#32 : BitVec 32) = BitVec.ofNat 32 1 from rfl, addi_ofNat]
  exact condW_eq_one (by omega) (by omega)

/-- The same guard spelt the other way round (the first block's). -/
theorem cond_first {v : BitVec 32} (hv : v.toNat ≤ 8192) {j : Nat} (hj : j < 16) :
    Scalar.cmpi .ne (Scalar.extui (Scalar.cmpi .sgt (npW v) (BitVec.ofNat 32 j))) 0#32 = 1#1 ↔ j < np v.toNat := by
  have := np_le hv
  exact Iff.trans (Iff.of_eq rfl) ((npW_of hv) ▸ condW_eq_one (a := j) (b := np v.toNat) (by omega) (by omega))

end Cert.Words
-- ==== Proof.K.Chk.lean ====
/- Hand-written, untrusted. The side conditions the kernel's body assumes of the words it reads — the length of a
   request, the number of a page — proved of every length up to 8192 and of every page number below 10400. -/
module

public import proofs.«01_k».proof.Proof.Words
public import proofs.«01_k».proof.Proof.Gen.Kernel
public import Idealize.ShloMosaic.Lib.Affine

@[expose] public section

namespace Cert.Kernel.Hand

open Cert.Kernel Cert.Kernel.Gen Cert.Words
open Idealize.ShloMosaic

/-- The loop over the blocks runs as many trips as there are blocks. -/
theorem t1_trips {v1 : BitVec 32} (hv : v1.toNat ≤ 8192) : (k0_t1_loop v1).trips = nb v1.toNat := by
  have e : (k0_t1_loop v1).trips = Scf.trips 0#32
    (Scalar.addi 0#32 (Scalar.muli (Scalar.divsi (Scalar.subi (nbW (npW v1)) 0#32) 1#32) 1#32)) 1#32 := rfl
  have := nb_le hv
  rw [e, ub_eq, nbW_of hv, trips_ofNat (by omega)]

theorem t1_ok {v1 : BitVec 32} (hv : v1.toNat ≤ 8192) : (k0_t1_loop v1).OK := by
  have e : (k0_t1_loop v1).OK = Scf.OK 0#32
    (Scalar.addi 0#32 (Scalar.muli (Scalar.divsi (Scalar.subi (nbW (npW v1)) 0#32) 1#32) 1#32)) 1#32 := rfl
  have := nb_le hv
  rw [e, ub_eq, nbW_of hv]; exact ok_ofNat (by omega)

/-- The loop over what is left of the blocks never runs. -/
theorem t2_none {v1 : BitVec 32} (k : Fin (k0_t2_loop v1).trips) : False :=
  Scf.rem_no_trip 0#32 (Scalar.subi (nbW (npW v1)) 0#32) k

theorem t1_lt {v1 : BitVec 32} (hv : v1.toNat ≤ 8192) (t : Fin (k0_t1_loop v1).trips) : t.val < nb v1.toNat :=
  Nat.lt_of_lt_of_eq t.isLt (t1_trips hv)

theorem t1_lt8 {v1 : BitVec 32} (hv : v1.toNat ≤ 8192) (t : Fin (k0_t1_loop v1).trips) : t.val < 8 :=
  Nat.lt_of_lt_of_le (t1_lt hv t) (nb_le hv)

/-- A live page's entry of the table lies inside the table. -/
theorem tab_inb (i : grid0.Coords) {v1 : BitVec 32} (hv : v1.toNat ≤ 8192) {t : Nat} (ht : t < 8) (j : Nat) (hj : j < 16)
    (h : condW (pw t j) (npW v1) = 1#1) (a : Fin 2) :
    (![(Scalar.indexCast (BitVec.ofNat 32 (i 0).val)).toNat, (Scalar.indexCast (pw t j)).toNat] : Fin 2 → Nat) a + S1x1.size a ≤ S65x128.size a := by
  have h' := (cond_pw hv ht hj).1 h
  have := np_le hv
  have hi : (i 0).val < 65 := (i 0).isLt
  match a with
  | ⟨0, _⟩ =>
    show (BitVec.ofNat 32 (i 0).val).toNat + 1 ≤ 65
    rw [toNat_ofNat (by omega)]; omega
  | ⟨1, _⟩ =>
    show (pw t j).toNat + 1 ≤ 128
    rw [pw_eq, toNat_ofNat (by omega)]; omega

theorem sem_inb {x : BitVec 32} (h : x.toNat ≤ 1) (a : Fin 1) : (![x.toNat] : Fin 1 → Nat) a + S1.size a ≤ S2.size a := by
  match a with
  | ⟨0, _⟩ => show x.toNat + 1 ≤ 2; omega

theorem win_inb {x : BitVec 32} (h : x.toNat ≤ 1) (j : Nat) (hj : j < 16) (a : Fin 4) :
    (![x.toNat, j, 0, 0] : Fin 4 → Nat) a + S1x1x64x656.size a ≤ S2x16x64x656.size a := by
  match a with
  | ⟨0, _⟩ => show x.toNat + 1 ≤ 2; omega
  | ⟨1, _⟩ => show j + 1 ≤ 16; omega
  | ⟨2, _⟩ => show 0 + 64 ≤ 64; omega
  | ⟨3, _⟩ => show 0 + 656 ≤ 656; omega

theorem slot_inb {x : BitVec 32} (h : x.toNat ≤ 1) (a : Fin 4) :
    (![x.toNat, 0, 0, 0] : Fin 4 → Nat) a + S1x16x64x656.size a ≤ S2x16x64x656.size a := by
  match a with
  | ⟨0, _⟩ => show x.toNat + 1 ≤ 2; omega
  | ⟨1, _⟩ => show 0 + 16 ≤ 16; omega
  | ⟨2, _⟩ => show 0 + 64 ≤ 64; omega
  | ⟨3, _⟩ => show 0 + 656 ≤ 656; omega

theorem page_inb {w : BitVec 32} (h : w.toNat < 10400) (a : Fin 3) :
    (![w.toNat, 0, 0] : Fin 3 → Nat) a + S1x64x656.size a ≤ S10400x64x656.size a := by
  match a with
  | ⟨0, _⟩ => exact Nat.succ_le_of_lt h
  | ⟨1, _⟩ => show 0 + 64 ≤ 64; omega
  | ⟨2, _⟩ => show 0 + 656 ≤ 656; omega

theorem sl_le {t : Nat} (ht : t < 8) : (slW t).toNat ≤ 1 := by rw [slW_toNat (by omega)]; omega
theorem ot_le {t : Nat} (ht : t < 8) : (otW t).toNat ≤ 1 := by rw [otW_toNat (by omega)]; omega

theorem t2_ok {v1 : BitVec 32} (hv : v1.toNat ≤ 8192) : (k0_t2_loop v1).OK := by
  have e : (k0_t2_loop v1).OK = Scf.OK
    (Scalar.addi 0#32 (Scalar.muli (Scalar.divsi (Scalar.subi (nbW (npW v1)) 0#32) 1#32) 1#32))
    (Scalar.addi 0#32 (Scalar.subi (nbW (npW v1)) 0#32)) 1#32 := rfl
  have := nb_le hv
  rw [e, ub_eq, nbW_of hv]
  generalize nb v1.toNat = n at this
  have h : ∀ n ≤ 8, Scf.OK (BitVec.ofNat 32 n) (Scalar.addi 0#32 (Scalar.subi (BitVec.ofNat 32 n) 0#32)) 1#32 := by
    decide
  exact h n this

set_option maxRecDepth 20000 in
set_option maxHeartbeats 1000000 in
theorem chk17_0 (i : grid0.Coords) {v1 : BitVec 32} (hv : v1.toNat ≤ 8192) : k0_chk17_0 i v1 := by
  unfold k0_chk17_0
  have h8 := t1_lt8 hv
  refine And.intro (t1_ok hv) ?_
  repeat' refine And.intro ?_ ?_
  all_goals first
    | with_reducible exact fun t2 => (t2_none t2).elim
    | exact fun t _ _ _ => Affine.words_rows (by decide) rfl rfl
    | exact fun t _ _ => Affine.words_rows (by decide) rfl rfl
    | exact fun t _ h a => tab_inb i hv (h8 t) _ (by decide) h a
    | exact fun t _ h a => sem_inb (ot_le (h8 t)) a
    | exact fun t _ h a => win_inb (ot_le (h8 t)) _ (by decide) a
    | exact fun t h a => sem_inb (sl_le (h8 t)) a
    | exact fun t h a => win_inb (sl_le (h8 t)) _ (by decide) a
    | exact fun t a => slot_inb (sl_le (h8 t)) a
    | exact (t2_ok hv).1
    | exact (t2_ok hv).2

set_option maxRecDepth 20000 in
set_option maxHeartbeats 1000000 in
theorem chk17_1 (i : grid0.Coords) {v1 : BitVec 32} (hv : v1.toNat ≤ 8192) : k0_chk17_1 i v1 := by
  unfold k0_chk17_1
  have h8 := t1_lt8 hv
  repeat' refine And.intro ?_ ?_
  all_goals first
    | with_reducible exact fun t2 => (t2_none t2).elim
    | exact fun t _ _ _ => Affine.words_rows (by decide) rfl rfl
    | exact fun t _ _ => Affine.words_rows (by decide) rfl rfl
    | exact fun t _ h a => tab_inb i hv (h8 t) _ (by decide) h a
    | exact fun t _ h a => sem_inb (ot_le (h8 t)) a
    | exact fun t _ h a => win_inb (ot_le (h8 t)) _ (by decide) a
    | exact fun t h a => sem_inb (sl_le (h8 t)) a
    | exact fun t h a => win_inb (sl_le (h8 t)) _ (by decide) a
    | exact fun t a => slot_inb (sl_le (h8 t)) a
    | exact (t2_ok hv).1
    | exact (t2_ok hv).2

set_option maxRecDepth 20000 in
set_option maxHeartbeats 1000000 in
theorem chk17_2 (i : grid0.Coords) {v1 : BitVec 32} (hv : v1.toNat ≤ 8192) : k0_chk17_2 i v1 := by
  unfold k0_chk17_2
  have h8 := t1_lt8 hv
  repeat' refine And.intro ?_ ?_
  all_goals first
    | with_reducible exact fun t2 => (t2_none t2).elim
    | exact fun t _ _ _ => Affine.words_rows (by decide) rfl rfl
    | exact fun t _ _ => Affine.words_rows (by decide) rfl rfl
    | exact fun t _ h a => tab_inb i hv (h8 t) _ (by decide) h a
    | exact fun t _ h a => sem_inb (ot_le (h8 t)) a
    | exact fun t _ h a => win_inb (ot_le (h8 t)) _ (by decide) a
    | exact fun t h a => sem_inb (sl_le (h8 t)) a
    | exact fun t h a => win_inb (sl_le (h8 t)) _ (by decide) a
    | exact fun t a => slot_inb (sl_le (h8 t)) a
    | exact (t2_ok hv).1
    | exact (t2_ok hv).2

set_option maxRecDepth 20000 in
set_option maxHeartbeats 1000000 in
theorem chk17_3 (i : grid0.Coords) {v1 : BitVec 32} (hv : v1.toNat ≤ 8192) : k0_chk17_3 i v1 := by
  unfold k0_chk17_3
  have h8 := t1_lt8 hv
  repeat' refine And.intro ?_ ?_
  all_goals first
    | with_reducible exact fun t2 => (t2_none t2).elim
    | exact fun t _ _ _ => Affine.words_rows (by decide) rfl rfl
    | exact fun t _ _ => Affine.words_rows (by decide) rfl rfl
    | exact fun t _ h a => tab_inb i hv (h8 t) _ (by decide) h a
    | exact fun t _ h a => sem_inb (ot_le (h8 t)) a
    | exact fun t _ h a => win_inb (ot_le (h8 t)) _ (by decide) a
    | exact fun t h a => sem_inb (sl_le (h8 t)) a
    | exact fun t h a => win_inb (sl_le (h8 t)) _ (by decide) a
    | exact fun t a => slot_inb (sl_le (h8 t)) a
    | exact (t2_ok hv).1
    | exact (t2_ok hv).2

set_option maxRecDepth 20000 in
theorem chk17_4 (i : grid0.Coords) {v1 : BitVec 32} : k0_chk17_4 i v1 := by
  unfold k0_chk17_4
  repeat' refine And.intro ?_ ?_
  all_goals exact fun t2 => (t2_none t2).elim

set_option maxRecDepth 20000 in
theorem chk17_5 (i : grid0.Coords) {v1 : BitVec 32} : k0_chk17_5 i v1 := by
  unfold k0_chk17_5
  repeat' refine And.intro ?_ ?_
  all_goals exact fun t2 => (t2_none t2).elim

set_option maxRecDepth 20000 in
theorem chk17_6 (i : grid0.Coords) {v1 : BitVec 32} : k0_chk17_6 i v1 := by
  unfold k0_chk17_6
  repeat' refine And.intro ?_ ?_
  all_goals exact fun t2 => (t2_none t2).elim

set_option maxRecDepth 20000 in
theorem chk17_7 (i : grid0.Coords) {v1 : BitVec 32} : k0_chk17_7 i v1 := by
  unfold k0_chk17_7
  repeat' refine And.intro ?_ ?_
  all_goals exact fun t2 => (t2_none t2).elim

/-- What the body assumes of the length of the request. -/
theorem chk17 (i : grid0.Coords) {v1 : BitVec 32} (hv : v1.toNat ≤ 8192) : k0_chk17 i v1 :=
  ⟨chk17_0 i hv, chk17_1 i hv, chk17_2 i hv, chk17_3 i hv, chk17_4 i, chk17_5 i, chk17_6 i, chk17_7 i⟩

end Cert.Kernel.Hand
-- ==== Proof.K.Slots.lean ====
/- Hand-written, untrusted. The scratch buffer's windows: page `j` of slot `s` is a window, a transfer writes the page it
   reads into it, and the windows of a slot make up the slot. -/
module

public import proofs.«01_k».proof.Proof.K.Chk
public import proofs.«01_k».proof.Proof.Gen.Kernel.Launch
public import proofs.«01_k».proof.Proof.Gen.Kernel.Skeleton
public import Idealize.ShloMosaic.Lib.Pipeline.FrameBody
public import Idealize.ShloMosaic.Lib.Pipeline.ValueKit.Geometry
public import Idealize.ShloMosaic.Lib.Batch
public import Idealize.ShloMosaic.Lib.ShareLeaves
public import Idealize.ShloMosaic.Lib.ValueLayout
public import Idealize.ShloMosaic.Lib.Tactic

@[expose] public section

noncomputable section

namespace Cert.Kernel.Hand

open Cert.Kernel Cert.Kernel.Gen Cert.Words
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The window of the scratch at an offset. -/
abbrev winM (o : Fin 4 → ℕ) (h : ∀ a, o a + S1x1x64x656.size a ≤ S2x16x64x656.size a) : Memref sig .tc .vmem S64x656 .i8 :=
  ((Memref.whole cc0_scratch0).slice (Rect.unit (s := S2x16x64x656) o S1x1x64x656.size h) (fun _ => rfl)).squeeze S64x656 squeezes_S1x1x64x656_S64x656

/-- The page of the pool at an offset. -/
abbrev pageM (o : Fin 3 → ℕ) (h : ∀ a, o a + S1x64x656.size a ≤ S10400x64x656.size a) : Memref sig .tc .hbm S64x656 .i8 :=
  ((Memref.whole main_arg2).slice (Rect.unit (s := S10400x64x656) o S1x64x656.size h) (fun _ => rfl)).squeeze S64x656 squeezes_S1x64x656_S64x656

/-- The cell of a slot. -/
abbrev semM (o : Fin 1 → ℕ) (h : ∀ a, o a + S1.size a ≤ S2.size a) : DmaSems sig S_ :=
  (cc0_scratch1.slice (Rect.unit (s := S2) o S1.size h)).squeeze S_ squeezes_S1_S_

/-- Cell `s` as the signature numbers it. -/
def dsem (s : ℕ) : DmaSem sig := if s = 0 then 14 else 15

theorem semM_eq {s : ℕ} (hs : s ≤ 1) (h : ∀ a, (![s] : Fin 1 → ℕ) a + S1.size a ≤ S2.size a) : (semM ![s] h).sem = dsem s := by
  apply Fin.ext
  show 14 + (S2.rowMajor ((Rect.unit (s := S2) ![s] S1.size h).emb (Shape.reshapeEquiv squeezes_S1_S_.numel_eq (fun i => i.elim0)))).val = _
  rw [Shape.rowMajor_val_one, ValueKit.rect_emb_unit_val]
  have : ((Shape.reshapeEquiv squeezes_S1_S_.numel_eq (fun i => i.elim0) : S1.Idx) 0).val < 1 :=
    ((Shape.reshapeEquiv squeezes_S1_S_.numel_eq (fun i => i.elim0) : S1.Idx) 0).isLt
  have e : ((Shape.reshapeEquiv squeezes_S1_S_.numel_eq (fun i => i.elim0) : S1.Idx) 0).val = 0 := by omega
  show 14 + (s + ((Shape.reshapeEquiv squeezes_S1_S_.numel_eq (fun i => i.elim0) : S1.Idx) 0).val) = _
  rw [e]
  unfold dsem
  obtain rfl | rfl : s = 0 ∨ s = 1 := by omega
  · rfl
  · rfl

/-- The elements of window `j` of slot `s`. -/
def winSet (s j : ℕ) : Finset S2x16x64x656.Idx := Finset.univ.filter fun x => (x 0).val = s ∧ (x 1).val = j
/-- The elements of slot `s`. -/
def slotSet (s : ℕ) : Finset S2x16x64x656.Idx := Finset.univ.filter fun x => (x 0).val = s

theorem mem_winSet {s j : ℕ} {x : S2x16x64x656.Idx} : x ∈ winSet s j ↔ (x 0).val = s ∧ (x 1).val = j := by
  unfold winSet; simp
theorem mem_slotSet {s : ℕ} {x : S2x16x64x656.Idx} : x ∈ slotSet s ↔ (x 0).val = s := by
  unfold slotSet; simp

theorem slot_biUnion (s : ℕ) : (Finset.range 16).biUnion (winSet s) = slotSet s := by
  ext x
  have : (x 1).val < 16 := (x 1).isLt
  simp [mem_winSet, mem_slotSet, this]

theorem univ_biUnion : (Finset.range 2).biUnion slotSet = Finset.univ := by
  ext x
  have : (x 0).val < 2 := (x 0).isLt
  simp only [Finset.mem_biUnion, Finset.mem_range, mem_slotSet, Finset.mem_univ, iff_true]
  exact ⟨_, this, rfl⟩

theorem win_disj (s : ℕ) : ∀ i ∈ Finset.range 16, ∀ j ∈ Finset.range 16, i ≠ j → Disjoint (winSet s i) (winSet s j) := by
  intro i _ j _ hij
  rw [Finset.disjoint_left]
  intro x hx hy
  rw [mem_winSet] at hx hy
  exact hij (hx.2.symm.trans hy.2)

theorem slot_disj : ∀ i ∈ Finset.range 2, ∀ j ∈ Finset.range 2, i ≠ j → Disjoint (slotSet i) (slotSet j) := by
  intro i _ j _ hij
  rw [Finset.disjoint_left]
  intro x hx hy
  rw [mem_slotSet] at hx hy
  exact hij (hx.symm.trans hy)

theorem sq4 (k : S64x656.Idx) : Shape.reshapeEquiv squeezes_S1x1x64x656_S64x656.numel_eq k
    = ix4 (⟨0, Nat.one_pos⟩ : Fin 1) (⟨0, Nat.one_pos⟩ : Fin 1) (k 0 : Fin 64) (k 1 : Fin 656) :=
  (congrArg _ (eq_ix2 (n0 := 64) (n1 := 656) k)).trans (reshapeEquiv_ix2_11ab _ _ _)
theorem sq3 (k : S64x656.Idx) : Shape.reshapeEquiv squeezes_S1x64x656_S64x656.numel_eq k
    = ix3 (⟨0, Nat.one_pos⟩ : Fin 1) (k 0 : Fin 64) (k 1 : Fin 656) :=
  (congrArg _ (eq_ix2 (n0 := 64) (n1 := 656) k)).trans (reshapeEquiv_ix2_1ab _ _ _)

/-- The scratch index (slot, window) of an element of a page. -/
theorem win_emb {s j : ℕ} (hs : s < 2) (hj : j < 16) (h) (k : S64x656.Idx) :
    (winM ![s, j, 0, 0] h).view.emb k = ix4 (⟨s, hs⟩ : Fin 2) (⟨j, hj⟩ : Fin 16) (k 0 : Fin 64) (k 1 : Fin 656) := by
  funext a
  apply Fin.ext
  show ((Rect.unit (s := S2x16x64x656) ![s, j, 0, 0] S1x1x64x656.size h).emb (Shape.reshapeEquiv squeezes_S1x1x64x656_S64x656.numel_eq k) a : ℕ) = _
  rw [ValueKit.rect_emb_unit_val]
  rw [sq4]
  match a with
  | ⟨0, _⟩ => rfl
  | ⟨1, _⟩ => rfl
  | ⟨2, _⟩ => exact Nat.zero_add _
  | ⟨3, _⟩ => exact Nat.zero_add _

theorem page_emb {w : ℕ} (hw : w < 10400) (h) (k : S64x656.Idx) :
    (pageM ![w, 0, 0] h).view.emb k = ix3 (⟨w, hw⟩ : Fin 10400) (k 0 : Fin 64) (k 1 : Fin 656) := by
  funext a
  apply Fin.ext
  show ((Rect.unit (s := S10400x64x656) ![w, 0, 0] S1x64x656.size h).emb (Shape.reshapeEquiv squeezes_S1x64x656_S64x656.numel_eq k) a : ℕ) = _
  rw [ValueKit.rect_emb_unit_val]
  rw [sq3]
  match a with
  | ⟨0, _⟩ => rfl
  | ⟨1, _⟩ => exact Nat.zero_add _
  | ⟨2, _⟩ => exact Nat.zero_add _

theorem win_set {s j : ℕ} (hs : s < 2) (hj : j < 16) (h) : (winM ![s, j, 0, 0] h).view.set = winSet s j := by
  ext x
  rw [mem_winSet]
  constructor
  · intro hx
    obtain ⟨k, -, rfl⟩ := Finset.mem_map.1 hx
    rw [win_emb hs hj]
    exact ⟨rfl, rfl⟩
  · rintro ⟨h0, h1⟩
    refine Finset.mem_map.2 ⟨ix2 (n0 := 64) (n1 := 656) (x 2) (x 3), Finset.mem_univ _, ?_⟩
    rw [win_emb hs hj]
    conv_rhs => rw [eq_ix4 (n0 := 2) (n1 := 16) (n2 := 64) (n3 := 656) x]
    congr 1
    · exact Fin.ext h0.symm
    · exact Fin.ext h1.symm

/-- The elements of page `w` of the pool. -/
def pageSet (w : ℕ) : Finset S10400x64x656.Idx := Finset.univ.filter fun x => (x 0).val = w

theorem page_set {w : ℕ} (hw : w < 10400) (h) : (pageM ![w, 0, 0] h).view.set = pageSet w := by
  ext x
  unfold pageSet
  rw [Finset.mem_filter]
  constructor
  · intro hx
    obtain ⟨k, -, rfl⟩ := Finset.mem_map.1 hx
    rw [page_emb hw]
    exact ⟨Finset.mem_univ _, rfl⟩
  · rintro ⟨-, h0⟩
    refine Finset.mem_map.2 ⟨ix2 (n0 := 64) (n1 := 656) (x 1) (x 2), Finset.mem_univ _, ?_⟩
    rw [page_emb hw]
    conv_rhs => rw [eq_ix3 (n0 := 10400) (n1 := 64) (n2 := 656) x]
    congr 1
    exact Fin.ext h0.symm

/-- The pool's contents, and the scratch's. -/
abbrev PoolV (F : FTy → Type) := main_arg2.ty.Contents (Elt F)
abbrev ScrV (F : FTy → Type) := cc0_scratch0.ty.Contents (Elt F)

/-- Element `(a, b)` of page `w`. -/
def pgAt (V : S10400x64x656.Idx → Elt F .i8) (w : BitVec 32) (a : Fin 64) (b : Fin 656) : Elt F .i8 :=
  V (ix3 (⟨w.toNat % 10400, Nat.mod_lt _ (by decide)⟩ : Fin 10400) a b)

/-- A slot's contents once the pages `pg j`, for `j < n`, have landed over `f`. -/
def fillF (V : S10400x64x656.Idx → Elt F .i8) (pg : ℕ → BitVec 32) (n : ℕ) (f : S2x16x64x656.Idx → Elt F .i8) :
    S2x16x64x656.Idx → Elt F .i8 :=
  fun x => if (x 1).val < n then pgAt V (pg (x 1).val) (x 2) (x 3) else f x

/-- What a landed transfer leaves on its window. -/
theorem landed {s j n : ℕ} (hs : s < 2) (hj : j < 16) (hn : j < n) (V : PoolV F) (pg : ℕ → BitVec 32)
    (h : ∀ a, (![s, j, 0, 0] : Fin 4 → ℕ) a + S1x1x64x656.size a ≤ S2x16x64x656.size a)
    (h' : ∀ a, (![(pg j).toNat, 0, 0] : Fin 3 → ℕ) a + S1x64x656.size a ≤ S10400x64x656.size a)
    (hw : (pg j).toNat < 10400) (f : ScrV F) (x : S2x16x64x656.Idx) (hx : x ∈ winSet s j) :
    (winM ![s, j, 0, 0] h).view.write (Elt F) f (ReadAs.same.apply ((pageM ![(pg j).toNat, 0, 0] h').view.read (Elt F) V)) Finset.univ x
      = fillF V pg n f x := by
  rw [mem_winSet] at hx
  have e : x = (winM ![s, j, 0, 0] h).view.emb (ix2 (n0 := 64) (n1 := 656) (x 2) (x 3)) := by
    rw [win_emb hs hj]
    conv_lhs => rw [eq_ix4 (n0 := 2) (n1 := 16) (n2 := 64) (n3 := 656) x]
    congr 1
    · exact Fin.ext hx.1
    · exact Fin.ext hx.2
  conv_lhs => rw [e]
  rw [View.write_emb_of_mem _ _ (Finset.mem_univ _)]
  unfold fillF
  rw [if_pos (by rw [hx.2]; exact hn), hx.2]
  unfold pgAt
  show V ((pageM ![(pg j).toNat, 0, 0] h').view.emb (ix2 (n0 := 64) (n1 := 656) (x 2) (x 3))) = _
  rw [page_emb hw]
  congr 2
  exact Fin.ext (Nat.mod_eq_of_lt hw).symm

end Cert.Kernel.Hand
-- ==== Proof.K.Start.lean ====
/- Hand-written, untrusted. Starting and waiting for one page of a block: the guarded transfer and the guarded wait the
   kernel writes sixteen times each, as one program each, with what they do to the slot's batch. -/
module

public import proofs.«01_k».proof.Proof.K.Slots

@[expose] public section

noncomputable section

namespace Cert.Kernel.Hand

open Cert.Kernel Cert.Kernel.Gen Cert.Words
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Start the transfer of one page, if its guard holds. -/
def startP (cond : BitVec 1) (oT : Fin 2 → ℕ) (hT : cond = 1#1 → ∀ a, oT a + S1x1.size a ≤ S65x128.size a)
    (chk : BitVec 32 → Prop) (dec : ∀ w, Decidable (chk w)) (oP : BitVec 32 → Fin 3 → ℕ)
    (hP : cond = 1#1 → ∀ w, chk w → ∀ a, oP w a + S1x64x656.size a ≤ S10400x64x656.size a)
    (hPw : ∀ (h : cond = 1#1) w (hc : chk w), (Rect.unit (s := S10400x64x656) (oP w) S1x64x656.size (hP h w hc)).WholeWords (EltTy.packing .i8))
    (oS : Fin 1 → ℕ) (hS : cond = 1#1 → ∀ a, oS a + S1.size a ≤ S2.size a)
    (oW : Fin 4 → ℕ) (hW : cond = 1#1 → ∀ a, oW a + S1x1x64x656.size a ≤ S2x16x64x656.size a)
    (hWw : ∀ (h : cond = 1#1), (Rect.unit (s := S2x16x64x656) oW S1x1x64x656.size (hW h)).WholeWords (EltTy.packing .i8)) :
    Prog (TpuEff nD τ sig (Elt F) Λ₀ .tc) PUnit :=
  if h : cond = 1#1 then do
    let w : Elt F .i32 ← smemLoad (Memref.whole main_arg3) (Rect.unit (s := S65x128) oT S1x1.size (hT h)) numel1_S1x1 rfl
    have hw : chk w := (← Prog.lift (TpuEff.assume (chk w) (dec w))).down
    Prog.lift (.enqueueDma (pageM (oP w) (hP h w hw)) (.here (winM oW (hW h))) (.dma (semM oS (hS h)).sem)
      (((Memref.isWhole_whole main_arg2).wordExact_slice rfl _ (hPw h w hw)).reshape _ _)
      (((Memref.isWhole_whole cc0_scratch0).wordExact_slice rfl _ (hWw h)).reshape _ _) ⟨Or.inl rfl, trivial⟩)
    pure ⟨⟩
  else do
    pure ⟨⟩

/-- Wait for the transfer of one page, if its guard holds. -/
def waitP (cond : BitVec 1) (oS : Fin 1 → ℕ) (hS : cond = 1#1 → ∀ a, oS a + S1.size a ≤ S2.size a)
    (oW : Fin 4 → ℕ) (hW : cond = 1#1 → ∀ a, oW a + S1x1x64x656.size a ≤ S2x16x64x656.size a)
    (hWw : ∀ (h : cond = 1#1), (Rect.unit (s := S2x16x64x656) oW S1x1x64x656.size (hW h)).WholeWords (EltTy.packing .i8)) :
    Prog (TpuEff nD τ sig (Elt F) Λ₀ .tc) PUnit :=
  if h : cond = 1#1 then do
    Prog.lift (.waitDma2 (semM oS (hS h)).sem (pageM ![0, 0, 0] inb_S10400x64x656_S1x64x656_0_0_0) (winM oW (hW h))
      (((Memref.isWhole_whole main_arg2).wordExact_slice rfl _ wordsi8_S10400x64x656_S1x64x656_0_0_0).reshape _ _)
      (((Memref.isWhole_whole cc0_scratch0).wordExact_slice rfl _ (hWw h)).reshape _ _))
    pure ⟨⟩
  else do
    pure ⟨⟩

/-- The page table's contents. -/
abbrev TblV (F : FTy → Type) := main_arg3.ty.Contents (Elt F)

/-- The page the table names for page `i` of block `blk` of request `b`. -/
def pgOf (T : TblV F) (b : Fin 65) (blk i : ℕ) : BitVec 32 :=
  T (ix2 b (⟨(blk * 16 + i) % 128, Nat.mod_lt _ (by decide)⟩ : Fin 128))

theorem tab_read (T : TblV F) (b : Fin 65) (p : ℕ) (hp : p < 128)
    (h : ∀ a, (![b.val, p] : Fin 2 → ℕ) a + S1x1.size a ≤ S65x128.size a) (x : S1x1.Idx) :
    ((Memref.whole main_arg3).access (Rect.unit (s := S65x128) ![b.val, p] S1x1.size h)).read (Elt F) T x = T (ix2 b (⟨p, hp⟩ : Fin 128)) := by
  show T ((Rect.unit (s := S65x128) ![b.val, p] S1x1.size h).emb x) = _
  congr 1
  funext a
  apply Fin.ext
  rw [ValueKit.rect_emb_unit_val]
  match a with
  | ⟨0, _⟩ => have : (x 0).val < 1 := (x 0).isLt; show b.val + (x 0).val = b.val; omega
  | ⟨1, _⟩ => have : (x 1).val < 1 := (x 1).isLt; show p + (x 1).val = p; omega

/-- The share of the pool that window `j` of slot `s` reads at. -/
def tk (s j : ℕ) : PosShare TreeShare := ShareLeaves.leaf 5 fullShare ⟨(16 * s + j) % 32, Nat.mod_lt _ (by decide)⟩

/-- What one page moves, in the units its cell counts. -/
def NB : ℕ := cc0_scratch0.dmaCredit S64x656 .i8

section States
variable (c : Dev nD) (V : PoolV F) (pg : ℕ → BitVec 32) (s n : ℕ) (f : ScrV F)

/-- Window `j` of slot `s`, at contents `f`. -/
def Win (f : ScrV F) (s j : ℕ) : sProp 𝕄 := (c : Thread nD τ).loc cc0_scratch0 ↦[winSet s j]{fullShare} f
/-- The elements `I` of the pool at the share of window `j` of slot `s`. -/
def Tok (s j : ℕ) (I : Finset S10400x64x656.Idx) : sProp 𝕄 := (c : Thread nD τ).loc main_arg2 ↦[I]{tk s j} V
/-- What the transfer of page `i` brings back. -/
def Deliv (i : ℕ) : sProp 𝕄 := iprop(Win c (fillF V pg n f) s i ∗ Tok c V s i (pageSet (pg i).toNat))
/-- What stays behind of page `i`'s share of the pool. -/
def Rest (i : ℕ) : sProp 𝕄 := Tok c V s i (Finset.univ \ pageSet (pg i).toNat)
/-- Page `i`'s window and share before its transfer (and after it, at the slot's new contents). -/
def Pre (f : ScrV F) (i : ℕ) : sProp 𝕄 := iprop(Win c f s i ∗ Tok c V s i Finset.univ)
/-- What is in hand for page `i` when the first `j` pages have had their turn. -/
def Hand (j i : ℕ) : sProp 𝕄 := if i < j ∧ i < n then Rest c V pg s i else Pre c V s f i
/-- The slot when the first `j` pages of its block have had their turn to start. -/
def St (j : ℕ) : sProp 𝕄 :=
  iprop(Transfers.Batch (countersEmb (U := Pipeline.UD sig nD τ)) (c : Thread nD τ) (.dma (dsem s)) () NB
      (fun i : Fin n => Deliv c V pg s n f i.val) (min j n) 0
    ∗ bigSep (Finset.range 16) (Hand c V pg s n f j))
/-- The slot when the first `j` pages of its block have had their turn to be waited for. -/
def Wt (j : ℕ) : sProp 𝕄 :=
  iprop(Transfers.Batch (countersEmb (U := Pipeline.UD sig nD τ)) (c : Thread nD τ) (.dma (dsem s)) () NB
      (fun i : Fin n => Deliv c V pg s n f i.val) n (NB * min j n)
    ∗ bigSep (Finset.range 16) (Hand c V pg s n f 16) ∗ ∃ W, owes (c : Thread nD τ) 0 W)
/-- A slot with nothing in flight. -/
def Free : sProp 𝕄 := iprop(bigSep (Finset.range 16) (Pre c V s f) ∗ semVal ((c : Thread nD τ), .dma (dsem s)) 0)
end States

theorem hand_step (c : Dev nD) (V : PoolV F) (pg : ℕ → BitVec 32) (s n : ℕ) (f : ScrV F) {j : ℕ} (hj : j < 16) (hn : j < n) :
    bigSep (Finset.range 16) (Hand c V pg s n f j)
      = iprop(Pre c V s f j ∗ bigSep ((Finset.range 16).erase j) (Hand c V pg s n f (j + 1))) := by
  rw [bigSep_erase (Finset.mem_range.2 hj)]
  congr 1
  · unfold Hand; rw [if_neg (by omega)]
  · refine bigSep_congr fun i hi => ?_
    have := (Finset.mem_erase.1 hi).1
    unfold Hand
    congr 1
    apply propext; omega

theorem hand_back (c : Dev nD) (V : PoolV F) (pg : ℕ → BitVec 32) (s n : ℕ) (f : ScrV F) {j : ℕ} (hj : j < 16) (hn : j < n) :
    bigSep (Finset.range 16) (Hand c V pg s n f (j + 1))
      = iprop(Rest c V pg s j ∗ bigSep ((Finset.range 16).erase j) (Hand c V pg s n f (j + 1))) := by
  rw [bigSep_erase (Finset.mem_range.2 hj)]
  congr 1
  unfold Hand; rw [if_pos (by omega)]

theorem st_dead (c : Dev nD) (V : PoolV F) (pg : ℕ → BitVec 32) (s n : ℕ) (f : ScrV F) {j : ℕ} (hn : n ≤ j) :
    St c V pg s n f j = St c V pg s n f (j + 1) := by
  unfold St
  rw [show min (j + 1) n = min j n by omega]
  congr 1
  refine bigSep_congr fun i _ => ?_
  unfold Hand
  congr 1
  apply propext; omega

theorem pgOf_lt (T : TblV F) (b : Fin 65) {blk j : ℕ} (h : blk * 16 + j < 128) :
    T (ix2 b (⟨blk * 16 + j, h⟩ : Fin 128)) = pgOf T b blk j := by
  unfold pgOf
  congr 2
  exact Fin.ext (Nat.mod_eq_of_lt h).symm

/-- A window's share of the pool, page and rest. -/
theorem tok_split (c : Dev nD) (V : PoolV F) (s j w : ℕ) :
    (Tok c V s j Finset.univ : sProp 𝕄) ⊢ iprop(Tok c V s j (pageSet w) ∗ Tok c V s j (Finset.univ \ pageSet w)) :=
  (pointsTo_split_subset (Finset.subset_univ _)).1

theorem tok_join (c : Dev nD) (V : PoolV F) (s j w : ℕ) :
    iprop(Tok c V s j (pageSet w) ∗ Tok c V s j (Finset.univ \ pageSet w)) ⊢ (Tok c V s j Finset.univ : sProp 𝕄) :=
  (pointsTo_split_subset (Finset.subset_univ _)).2

theorem wp_startP (c : Dev nD) (V : PoolV F) (T : TblV F) (qT : PosShare TreeShare) (b : Fin 65) (blk s n : ℕ) (f : ScrV F)
    (hTr : ∀ x, (T x : BitVec 32).toNat < 10400) {j : ℕ} (hj : j < 16) (hs : s < 2) (hb : n ≠ 0 → blk * 16 + n ≤ 128)
    {cond : BitVec 1} (hcond : cond = 1#1 ↔ j < n)
    {oT hT chk dec oP hP hPw oS hS oW hW hWw}
    (hoT : cond = 1#1 → oT = ![b.val, blk * 16 + j]) (hchk : ∀ w : BitVec 32, w.toNat < 10400 → chk w)
    (hoP : ∀ w : BitVec 32, oP w = ![w.toNat, 0, 0]) (hoS : oS = ![s]) (hoW : oW = ![s, j, 0, 0]) :
    iprop(St c V (pgOf T b blk) s n f j ∗ ((c : Thread nD τ).loc main_arg3 ↦[Finset.univ]{qT} T))
      ⊢ wp frame (wpE (defs₀ (F := F)) Variants.none c none) Set.univ (startP cond oT hT chk dec oP hP hPw oS hS oW hW hWw)
          (fun _ => iprop(St c V (pgOf T b blk) s n f (j + 1) ∗ ((c : Thread nD τ).loc main_arg3 ↦[Finset.univ]{qT} T))) := by
  by_cases h : cond = 1#1
  · have hn := hcond.1 h
    have hb' := hb (by omega)
    unfold startP
    rw [dif_pos h]
    obtain rfl := hoT h
    obtain rfl : oP = fun w => ![w.toNat, 0, 0] := funext hoP
    subst hoS hoW
    have hT' : blk * 16 + j < 128 := by omega
    unfold St
    rw [hand_step _ _ _ _ _ _ hj hn, hand_back _ _ _ _ _ _ hj hn, ← semM_eq (by omega) (hS h)]
    iintro ⟨⟨HB, HP, HH⟩, HT⟩
    rw [wp_bind]
    unfold smemLoad
    iapply (wp_smemLoadElt Variants.none (c : Thread nD τ) none Set.univ (m := Memref.whole main_arg3) (f := T) (S := Finset.univ) (q := qT)
      (r := Rect.unit (s := S65x128) ![b.val, blk * 16 + j] S1x1.size (hT h)) (Finset.subset_univ _)) $$ HT
    iintro HT
    rw [tab_read T b _ hT', pgOf_lt T b hT', wp_ret]
    have hw : (pgOf T b blk j).toNat < 10400 := hTr _
    imodintro
    rw [wp_bind]
    iapply (wp_assume Variants.none (c : Thread nD τ) none Set.univ (hchk _ hw))
    rw [wp_ret]
    imodintro
    rw [wp_bind, show min j n = j by omega, show min (j + 1) n = j + 1 by omega]
    have hD : iprop(((winM ![s, j, 0, 0] (hW h)).view.loc (c : Thread nD τ) ↦[winSet s j]{fullShare}
          ((winM ![s, j, 0, 0] (hW h)).view.write (Elt F) f (ReadAs.same.apply
            ((pageM ![(pgOf T b blk j).toNat, 0, 0] (page_inb hw)).view.read (Elt F) V)) Finset.univ))
        ∗ ((pageM ![(pgOf T b blk j).toNat, 0, 0] (page_inb hw)).view.loc (c : Thread nD τ)
            ↦[(pageM ![(pgOf T b blk j).toNat, 0, 0] (page_inb hw)).view.set]{tk s j} V))
        ⊢ (Deliv c V (pgOf T b blk) s n f j : sProp 𝕄) := by
      unfold Deliv Tok Win
      rw [page_set hw]
      exact sep_mono_left (Entails.of_eq (pointsTo_congr fun x hx => landed hs hj hn V (pgOf T b blk) _ _ hw f x hx))
    unfold Pre
    icases HP with ⟨HW, HK⟩
    ihave HK' := (tok_split c V s j (pgOf T b blk j).toNat) $$ HK
    icases HK' with ⟨HK, HR⟩
    unfold Tok Win
    iapply (Transfers.wp_dmaBatch (countersEmb (U := Pipeline.UD sig nD τ)) Variants.none (c : Thread nD τ) none
      (src := pageM ![(pgOf T b blk j).toNat, 0, 0] (page_inb hw)) (dst := winM ![s, j, 0, 0] (hW h))
      (sm := .dma (semM ![s] (hS h)).sem)
      (fs := V) (fd := f) (q := tk s j) (Sd := winSet s j) (D := fun i : Fin n => Deliv c V (pgOf T b blk) s n f i.val) () NB rfl
      (by rw [win_set hs hj]) hn (Nat.zero_le _) hD) $$ [HK HW HB]
    · isplitl [HK]
      · rw [page_set hw]; iexact HK
      · isplitl [HW]
        · iexact HW
        · iexact HB
    · iintro HB
      rw [wp_ret]
      imodintro
      rw [wp_pure]
      imodintro
      unfold Rest Tok
      isplitr [HT]
      · isplitl [HB]
        · iexact HB
        · isplitl [HR]
          · iexact HR
          · iexact HH
      · iexact HT
  · have hn : n ≤ j := by by_contra hc; exact h (hcond.2 (by omega))
    unfold startP
    rw [dif_neg h, st_dead _ _ _ _ _ _ hn]
    iintro H
    rw [wp_pure]
    imodintro
    iexact H

theorem NB_pos : 0 < NB := by unfold NB; decide

theorem wp_waitP (c : Dev nD) (V : PoolV F) (pg : ℕ → BitVec 32) (s n : ℕ) (f : ScrV F) {j : ℕ} (hs : s < 2)
    {cond : BitVec 1} (hcond : cond = 1#1 ↔ j < n) {oS hS oW hW hWw} (hoS : oS = ![s]) :
    (Wt c V pg s n f j : sProp 𝕄)
      ⊢ wp frame (wpE (defs₀ (F := F)) Variants.none c none) Set.univ (waitP cond oS hS oW hW hWw) (fun _ => Wt c V pg s n f (j + 1)) := by
  by_cases h : cond = 1#1
  · have hn := hcond.1 h
    unfold waitP
    rw [dif_pos h]
    subst hoS
    unfold Wt
    rw [← semM_eq (by omega) (hS h)]
    iintro ⟨HB, HH, ⟨%W, HO⟩⟩
    rw [wp_bind]
    iapply (Transfers.wp_waitBatchMul (countersEmb (U := Pipeline.UD sig nD τ)) Variants.none (c : Thread nD τ) none
      (sem := (semM ![s] (hS h)).sem) (dstw := winM oW (hW h)) (W := W) (N := NB) (D := fun i : Fin n => Deliv c V pg s n f i.val)
      (u := NB * min j n) (j := n)
      () 1 (by rw [Nat.one_mul]; rfl) (by rw [show min j n = j by omega, Nat.one_mul, ← Nat.mul_succ]; exact Nat.mul_le_mul_left _ hn)) $$ [HB HO]
    · isplitl [HB]
      · iexact HB
      · iexact HO
    · iintro ⟨HB, HO⟩
      rw [wp_ret]
      imodintro
      rw [wp_pure]
      imodintro
      rw [show NB * min j n + 1 * NB = NB * min (j + 1) n by
        rw [show min j n = j by omega, show min (j + 1) n = j + 1 by omega, Nat.one_mul, Nat.mul_succ]]
      isplitl [HB]
      · iexact HB
      · isplitl [HH]
        · iexact HH
        · iexists _
          iexact HO
  · have hn : n ≤ j := by by_contra hc; exact h (hcond.2 (by omega))
    unfold waitP
    rw [dif_neg h]
    unfold Wt
    rw [show min (j + 1) n = min j n by omega]
    iintro H
    rw [wp_pure]
    imodintro
    iexact H

instance (c : Dev nD) (V : PoolV F) (pg : ℕ → BitVec 32) (s n : ℕ) (f : ScrV F) (i : ℕ) :
    Storable (upEmb : UEmb _ 𝕄) (Deliv c V pg s n f i) := by
  unfold Deliv Win Tok; infer_instance

/-- A free slot opens a batch. -/
theorem st_begin (c : Dev nD) (V : PoolV F) (pg : ℕ → BitVec 32) (s n : ℕ) (f : ScrV F) :
    (Free c V s f : sProp 𝕄) ⊢ |={Set.univ}=> St c V pg s n f 0 := by
  unfold Free
  iintro ⟨HP, Hs⟩
  imod (Transfers.batch_alloc' (Lvl := ℕ) (countersEmb (U := Pipeline.UD sig nD τ)) (c : Thread nD τ) () NB
    (fun i : Fin n => Deliv c V pg s n f i.val) (sm := .dma (dsem s)) (E := Set.univ)) $$ Hs with HB
  imodintro
  unfold St
  rw [Nat.zero_min]
  isplitl [HB]
  · iexact HB
  · rw [show bigSep (Finset.range 16) (Hand c V pg s n f 0) = bigSep (Finset.range 16) (Pre (F := F) c V s f) from
      bigSep_congr fun i _ => by unfold Hand; rw [if_neg (by omega)]]
    iexact HP

/-- A block all started is a block none waited for. -/
theorem st_wt (c : Dev nD) (V : PoolV F) (pg : ℕ → BitVec 32) (s n : ℕ) (f : ScrV F) (hn : n ≤ 16) (W : Waits sig Unit) :
    iprop(St c V pg s n f 16 ∗ owes (c : Thread nD τ) 0 W) ⊢ (Wt c V pg s n f 0 : sProp 𝕄) := by
  unfold St Wt
  rw [show min 16 n = n by omega, Nat.zero_min, Nat.mul_zero]
  iintro ⟨⟨HB, HH⟩, HO⟩
  isplitl [HB]
  · iexact HB
  · isplitl [HH]
    · iexact HH
    · iexists W
      iexact HO

end Cert.Kernel.Hand
-- ==== Proof.K.Flight.lean ====
/- Hand-written, untrusted. A slot between its blocks: what a finished block leaves, and how the scratch, the pool and the
   two counters make two free slots. -/
module

public import proofs.«01_k».proof.Proof.K.Start
public import Idealize.ShloMosaic.Lib.Ring

@[expose] public section

noncomputable section

namespace Cert.Kernel.Hand

open Cert.Kernel Cert.Kernel.Gen Cert.Words
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem bi_sep_eq (S : Finset ℕ) (Φ Ψ : ℕ → sProp 𝕄) :
    iprop(bigSep S Φ ∗ bigSep S Ψ) = bigSep S (fun i => iprop(Φ i ∗ Ψ i)) := (bigSep_sep S Φ Ψ).symm

variable (c : Dev nD) (V : PoolV F) (pg : ℕ → BitVec 32) (s n : ℕ) (f : ScrV F)

/-- A landed page and the rest of its share are its window and its whole share. -/
theorem deliv_rest (i : ℕ) : iprop(Deliv c V pg s n f i ∗ Rest c V pg s i) ⊢ (Pre c V s (fillF V pg n f) i : sProp 𝕄) := by
  unfold Deliv Rest Pre
  iintro ⟨⟨HW, HT⟩, HR⟩
  isplitl [HW]
  · iexact HW
  · iapply tok_join
    isplitl [HT]
    · iexact HT
    · iexact HR

/-- What a waited block's pages bring back: every window of the slot at its filled contents, every share of the pool whole. -/
theorem hand_end (hn : n ≤ 16) :
    iprop(bigSep Finset.univ (fun i : Fin n => Deliv c V pg s n f i.val) ∗ bigSep (Finset.range 16) (Hand c V pg s n f 16))
      ⊢ (bigSep (Finset.range 16) (Pre c V s (fillF V pg n f)) : sProp 𝕄) := by
  have hsub : Finset.range n ⊆ Finset.range 16 := Finset.range_subset_range.2 hn
  rw [Ring.bigSep_fin_eq_range n (fun i : Fin n => Deliv (F := F) c V pg s n f i.val) (Deliv c V pg s n f) (fun _ _ => rfl),
    bigSep_sdiff_split hsub, bigSep_sdiff_split hsub]
  have e2 : bigSep (Finset.range 16 \ Finset.range n) (Hand c V pg s n f 16)
      = bigSep (Finset.range 16 \ Finset.range n) (Pre (F := F) c V s (fillF V pg n f)) := bigSep_congr fun i hi => by
    have h1 := Finset.mem_sdiff.1 hi
    have h2 : n ≤ i := by have := h1.2; rw [Finset.mem_range] at this; omega
    unfold Hand Pre Win
    rw [if_neg (by omega)]
    congr 1
    refine pointsTo_congr fun x hx => ?_
    unfold fillF
    rw [if_neg (by rw [(mem_winSet.1 hx).2]; omega)]
  have e3 : iprop(bigSep (Finset.range n) (Deliv c V pg s n f) ∗ bigSep (Finset.range n) (Hand c V pg s n f 16))
      ⊢ (bigSep (Finset.range n) (Pre (F := F) c V s (fillF V pg n f)) : sProp 𝕄) := by
    rw [bi_sep_eq]
    refine bigSep_mono fun i hi => ?_
    have := Finset.mem_range.1 hi
    have h : Hand (F := F) c V pg s n f 16 i = Rest c V pg s i := by unfold Hand; rw [if_pos (by omega)]
    rw [h]
    exact deliv_rest c V pg s n f i
  rw [e2]
  show iprop(bigSep (Finset.range n) (Deliv c V pg s n f) ∗ bigSep (Finset.range n) (Hand c V pg s n f 16)
      ∗ bigSep (Finset.range 16 \ Finset.range n) (Pre (F := F) c V s (fillF V pg n f)))
    ⊢ iprop(bigSep (Finset.range n) (Pre (F := F) c V s (fillF V pg n f)) ∗ bigSep (Finset.range 16 \ Finset.range n) (Pre (F := F) c V s (fillF V pg n f)))
  iintro ⟨HD, HH, HR⟩
  isplitr [HR]
  · iapply e3
    isplitl [HD]
    · iexact HD
    · iexact HH
  · iexact HR

/-- A started block with no page is a free slot. -/
theorem st_empty (hn : n = 0) : (St c V pg s n f 16 : sProp 𝕄) ⊢ |={Set.univ}=> Free c V s f := by
  subst hn
  unfold St
  rw [Nat.min_zero]
  iintro ⟨HB, HH⟩
  imod (Transfers.batch_collect' (Lvl := ℕ) (countersEmb (U := Pipeline.UD sig nD τ)) (c : Thread nD τ) (ι := ()) (sm := .dma (dsem s))
    (D := fun i : Fin 0 => Deliv c V pg s 0 f i.val) NB_pos) $$ HB with ⟨-, Hs⟩
  imodintro
  unfold Free
  isplitl [HH]
  · rw [show bigSep (Finset.range 16) (Pre (F := F) c V s f) = bigSep (Finset.range 16) (Hand c V pg s 0 f 16) from
      bigSep_congr fun i _ => by unfold Hand; rw [if_neg (by omega)]]
    iexact HH
  · iexact Hs

/-- A waited block leaves its slot free, filled with the block's pages. -/
theorem wt_end (hn : n ≤ 16) : (Wt c V pg s n f 16 : sProp 𝕄) ⊢ |={Set.univ}=> iprop(Free c V s (fillF V pg n f) ∗ ∃ W, owes (c : Thread nD τ) 0 W) := by
  unfold Wt
  rw [show min 16 n = n by omega]
  iintro ⟨HB, HH, HO⟩
  imod (Transfers.batch_collect' (Lvl := ℕ) (countersEmb (U := Pipeline.UD sig nD τ)) (c : Thread nD τ) (ι := ()) (sm := .dma (dsem s))
    (D := fun i : Fin n => Deliv c V pg s n f i.val) NB_pos) $$ HB with ⟨HD, Hs⟩
  imodintro
  unfold Free
  isplitr [HO]
  · isplitr [Hs]
    · iapply (hand_end c V pg s n f hn)
      isplitl [HD]
      · iexact HD
      · iexact HH
    · iexact Hs
  · iexact HO

/-- Slot `s` at contents `f`. -/
def Slot (f : ScrV F) (s : ℕ) : sProp 𝕄 := (c : Thread nD τ).loc cc0_scratch0 ↦[slotSet s]{fullShare} f

theorem slot_wins : (Slot c f s : sProp 𝕄) = bigSep (Finset.range 16) (Win c f s) := by
  unfold Slot Win
  rw [← slot_biUnion, pointsTo_biUnion _ _ (win_disj s)]

/-- The shares of the pool of slot `s`. -/
def Toks : sProp 𝕄 := bigSep (Finset.range 16) fun j => Tok c V s j Finset.univ

theorem free_eq : (Free c V s f : sProp 𝕄) = iprop((Slot c f s ∗ Toks c V s) ∗ semVal ((c : Thread nD τ), .dma (dsem s)) 0) := by
  unfold Free Toks
  rw [slot_wins, bi_sep_eq]
  rfl

theorem pool_toks : ((c : Thread nD τ).loc main_arg2 ↦[Finset.univ]{fullShare} V : sProp 𝕄) = iprop(Toks c V 0 ∗ Toks c V 1) := by
  have e : Finset.range (2 ^ 5) = Finset.range 16 ∪ (Finset.range 16).map (addLeftEmbedding 16) := by decide
  rw [ShareLeaves.pointsTo_leaves _ _ 5,
    Ring.bigSep_fin_eq_range (2 ^ 5) _ (fun i => Tok (F := F) c V 0 i Finset.univ)
      (fun t h => by
        have ht : (16 * 0 + t) % 32 = t := by have : t < 32 := h; omega
        unfold Tok tk
        exact congrArg (fun i => ((c : Thread nD τ).loc main_arg2 ↦[Finset.univ]{ShareLeaves.leaf 5 fullShare i} V : sProp 𝕄)) (Fin.ext ht)),
    e, bigSep_union (by rw [Finset.disjoint_left]; decide), bigSep_map]
  unfold Toks
  refine congrArg (BI.sep _) (bigSep_congr fun i hi => ?_)
  have hi := Finset.mem_range.1 hi
  unfold Tok tk
  exact congrArg (fun i => ((c : Thread nD τ).loc main_arg2 ↦[Finset.univ]{ShareLeaves.leaf 5 fullShare i} V : sProp 𝕄))
    (Fin.ext (by show (16 * 0 + (16 + i)) % 32 = (16 * 1 + i) % 32; omega))

theorem scr_slots : ((c : Thread nD τ).loc cc0_scratch0 ↦[Finset.univ]{fullShare} f : sProp 𝕄) = iprop(Slot c f 0 ∗ Slot c f 1) := by
  rw [← univ_biUnion, pointsTo_biUnion _ _ slot_disj, show Finset.range 2 = insert 0 {1} by decide, bigSep_insert (by decide), bigSep_singleton]
  rfl

/-- The scratch, the pool and the two counters are two free slots. -/
theorem free_open : iprop(((c : Thread nD τ).loc cc0_scratch0 ↦[Finset.univ]{fullShare} f) ∗ ((c : Thread nD τ).loc main_arg2 ↦[Finset.univ]{fullShare} V)
      ∗ semVal ((c : Thread nD τ), .dma (dsem 0)) 0 ∗ semVal ((c : Thread nD τ), .dma (dsem 1)) 0)
    ⊢ (iprop(Free c V 0 f ∗ Free c V 1 f) : sProp 𝕄) := by
  rw [scr_slots, pool_toks, free_eq, free_eq]
  iintro ⟨⟨A, B⟩, ⟨C, D⟩, E, G⟩
  isplitl [A C E]
  · isplitr [E]
    · isplitl [A]
      · iexact A
      · iexact C
    · iexact E
  · isplitr [G]
    · isplitl [B]
      · iexact B
      · iexact D
    · iexact G

/-- Two free slots are the scratch at some contents, the pool and the two counters. -/
theorem free_close (g : ScrV F) : iprop(Free c V 0 f ∗ Free c V 1 g) ⊢ (iprop((∃ h, (c : Thread nD τ).loc cc0_scratch0 ↦[Finset.univ]{fullShare} h)
      ∗ ((c : Thread nD τ).loc main_arg2 ↦[Finset.univ]{fullShare} V)
      ∗ semVal ((c : Thread nD τ), .dma (dsem 0)) 0 ∗ semVal ((c : Thread nD τ), .dma (dsem 1)) 0) : sProp 𝕄) := by
  have e0 : (Slot c f 0 : sProp 𝕄) = Slot c (fun x => if (x 0).val = 0 then f x else g x) 0 := by
    unfold Slot
    exact pointsTo_congr fun x hx => by rw [if_pos (mem_slotSet.1 hx)]
  have e1 : (Slot c g 1 : sProp 𝕄) = Slot c (fun x => if (x 0).val = 0 then f x else g x) 1 := by
    unfold Slot
    exact pointsTo_congr fun x hx => by rw [if_neg (by rw [mem_slotSet.1 hx]; decide)]
  rw [free_eq, free_eq, e0, e1, pool_toks]
  iintro ⟨⟨⟨A, C⟩, E⟩, ⟨⟨B, D⟩, G⟩⟩
  isplitl [A B]
  · iexists _
    rw [scr_slots]
    isplitl [A]
    · iexact A
    · iexact B
  · isplitl [C D]
    · isplitl [C]
      · iexact C
      · iexact D
    · isplitl [E]
      · iexact E
      · iexact G

end Cert.Kernel.Hand
-- ==== Proof.K.Parts.lean ====
/- Hand-written, untrusted. The guarded starts and waits with what follows them, and the parts of the program that are
   made of them. -/
module

public import proofs.«01_k».proof.Proof.K.Flight
public import proofs.«01_k».proof.Proof.K.Chk

@[expose] public section

noncomputable section

namespace Cert.Kernel.Hand

open Cert.Kernel Cert.Kernel.Gen Cert.Words
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A guarded start and the program after it, as the kernel is printed: the rest in both branches. -/
@[reducible] def startK {α : Type} (cond : BitVec 1) (oT : Fin 2 → ℕ) (hT : cond = 1#1 → ∀ a, oT a + S1x1.size a ≤ S65x128.size a)
    (chk : BitVec 32 → Prop) (dec : ∀ w, Decidable (chk w)) (oP : BitVec 32 → Fin 3 → ℕ)
    (hP : cond = 1#1 → ∀ w, chk w → ∀ a, oP w a + S1x64x656.size a ≤ S10400x64x656.size a)
    (hPw : ∀ (h : cond = 1#1) w (hc : chk w), (Rect.unit (s := S10400x64x656) (oP w) S1x64x656.size (hP h w hc)).WholeWords (EltTy.packing .i8))
    (oS : Fin 1 → ℕ) (hS : cond = 1#1 → ∀ a, oS a + S1.size a ≤ S2.size a)
    (oW : Fin 4 → ℕ) (hW : cond = 1#1 → ∀ a, oW a + S1x1x64x656.size a ≤ S2x16x64x656.size a)
    (hWw : ∀ (h : cond = 1#1), (Rect.unit (s := S2x16x64x656) oW S1x1x64x656.size (hW h)).WholeWords (EltTy.packing .i8))
    (k : Prog (TpuEff nD τ sig (Elt F) Λ₀ .tc) α) : Prog (TpuEff nD τ sig (Elt F) Λ₀ .tc) α :=
  if h : cond = 1#1 then do
    let w : Elt F .i32 ← smemLoad (Memref.whole main_arg3) (Rect.unit (s := S65x128) oT S1x1.size (hT h)) numel1_S1x1 rfl
    have hw : chk w := (← Prog.lift (TpuEff.assume (chk w) (dec w))).down
    Prog.lift (.enqueueDma (pageM (oP w) (hP h w hw)) (.here (winM oW (hW h))) (.dma (semM oS (hS h)).sem)
      (((Memref.isWhole_whole main_arg2).wordExact_slice rfl _ (hPw h w hw)).reshape _ _)
      (((Memref.isWhole_whole cc0_scratch0).wordExact_slice rfl _ (hWw h)).reshape _ _) ⟨Or.inl rfl, trivial⟩)
    k
  else k

/-- A guarded wait and the program after it. -/
@[reducible] def waitK {α : Type} (cond : BitVec 1) (oS : Fin 1 → ℕ) (hS : cond = 1#1 → ∀ a, oS a + S1.size a ≤ S2.size a)
    (oW : Fin 4 → ℕ) (hW : cond = 1#1 → ∀ a, oW a + S1x1x64x656.size a ≤ S2x16x64x656.size a)
    (hWw : ∀ (h : cond = 1#1), (Rect.unit (s := S2x16x64x656) oW S1x1x64x656.size (hW h)).WholeWords (EltTy.packing .i8))
    (k : Prog (TpuEff nD τ sig (Elt F) Λ₀ .tc) α) : Prog (TpuEff nD τ sig (Elt F) Λ₀ .tc) α :=
  if h : cond = 1#1 then do
    Prog.lift (.waitDma2 (semM oS (hS h)).sem (pageM ![0, 0, 0] inb_S10400x64x656_S1x64x656_0_0_0) (winM oW (hW h))
      (((Memref.isWhole_whole main_arg2).wordExact_slice rfl _ wordsi8_S10400x64x656_S1x64x656_0_0_0).reshape _ _)
      (((Memref.isWhole_whole cc0_scratch0).wordExact_slice rfl _ (hWw h)).reshape _ _))
    k
  else k

theorem startK_eq {α : Type} {cond oT hT chk dec oP hP hPw oS hS oW hW hWw} (k : Prog (TpuEff nD τ sig (Elt F) Λ₀ .tc) α) :
    startK cond oT hT chk dec oP hP hPw oS hS oW hW hWw k = (startP cond oT hT chk dec oP hP hPw oS hS oW hW hWw >>= fun _ => k) := by
  unfold startP
  by_cases h : cond = 1#1
  · rw [startK, dif_pos h, dif_pos h]; rfl
  · rw [startK, dif_neg h, dif_neg h]; rfl

theorem waitK_eq {α : Type} {cond oS hS oW hW hWw} (k : Prog (TpuEff nD τ sig (Elt F) Λ₀ .tc) α) :
    waitK cond oS hS oW hW hWw k = (waitP cond oS hS oW hW hWw >>= fun _ => k) := by
  unfold waitP
  by_cases h : cond = 1#1
  · rw [waitK, dif_pos h, dif_pos h]; rfl
  · rw [waitK, dif_neg h, dif_neg h]; rfl

/-- A slot being started, and the page table. -/
def Sx (c : Dev nD) (V : PoolV F) (T : TblV F) (qT : PosShare TreeShare) (b : Fin 65) (blk s n : ℕ) (f : ScrV F) (j : ℕ) : sProp 𝕄 :=
  iprop(St c V (pgOf T b blk) s n f j ∗ ((c : Thread nD τ).loc main_arg3 ↦[Finset.univ]{qT} T))

/-- The number of pages block `blk` has at the length word `v`. -/
def live (v : BitVec 32) (blk : ℕ) : ℕ := min 16 (np v.toNat - blk * 16)

theorem live_le (v : BitVec 32) (blk : ℕ) : live v blk ≤ 16 := Nat.min_le_left _ _
theorem live_in {v : BitVec 32} (hv : v.toNat ≤ 8192) (blk : ℕ) (h : live v blk ≠ 0) : blk * 16 + live v blk ≤ 128 := by
  have := np_le hv
  unfold live at *; omega

/-- A framed entailment into a program. -/
theorem wp_framed (c : Dev nD) {α : Type} {p : Prog (TpuEff nD τ sig (Elt F) Λ₀ .tc) α} {P R : sProp 𝕄} {Q : α → sProp 𝕄}
    (h : P ⊢ wp frame (wpE (defs₀ (F := F)) Variants.none c none) Set.univ p Q) :
    iprop(R ∗ P) ⊢ wp frame (wpE (defs₀ (F := F)) Variants.none c none) Set.univ p (fun a => iprop(R ∗ Q a)) := by
  iintro ⟨HR, HP⟩
  iapply (wp_frame_l _ _ _)
  isplitl [HR]
  · iexact HR
  · iapply h
    iexact HP

/-- An update before a program. -/
theorem wp_open (c : Dev nD) {α : Type} {p : Prog (TpuEff nD τ sig (Elt F) Λ₀ .tc) α} {P P' : sProp 𝕄} {Q : α → sProp 𝕄}
    (h : P ⊢ |={Set.univ}=> P') (h' : P' ⊢ wp frame (wpE (defs₀ (F := F)) Variants.none c none) Set.univ p Q) :
    P ⊢ wp frame (wpE (defs₀ (F := F)) Variants.none c none) Set.univ p Q := by
  iintro HP
  imod h $$ HP with HP
  iapply h'
  iexact HP

theorem wp_startK (c : Dev nD) (V : PoolV F) (T : TblV F) (qT : PosShare TreeShare) (b : Fin 65) (blk s n : ℕ) (f : ScrV F)
    (hTr : ∀ x, (T x : BitVec 32).toNat < 10400) (j : ℕ) (hj : j < 16) (hs : s < 2) (hb : n ≠ 0 → blk * 16 + n ≤ 128)
    {α : Type} {cond oT hT chk dec oP hP hPw oS hS oW hW hWw} {k : Prog (TpuEff nD τ sig (Elt F) Λ₀ .tc) α} {R : sProp 𝕄} {Q : α → sProp 𝕄}
    (hcond : cond = 1#1 ↔ j < n)
    (hoT : cond = 1#1 → oT = ![b.val, blk * 16 + j]) (hchk : ∀ w : BitVec 32, w.toNat < 10400 → chk w)
    (hoP : ∀ w : BitVec 32, oP w = ![w.toNat, 0, 0]) (hoS : oS = ![s]) (hoW : oW = ![s, j, 0, 0])
    (hk : iprop(R ∗ Sx c V T qT b blk s n f (j + 1)) ⊢ wp frame (wpE (defs₀ (F := F)) Variants.none c none) Set.univ k Q) :
    iprop(R ∗ Sx c V T qT b blk s n f j) ⊢ wp frame (wpE (defs₀ (F := F)) Variants.none c none) Set.univ
      (startK cond oT hT chk dec oP hP hPw oS hS oW hW hWw k) Q := by
  rw [startK_eq, wp_bind]
  exact (wp_framed c (wp_startP c V T qT b blk s n f hTr hj hs hb hcond hoT hchk hoP hoS hoW)).trans (wp_mono _ _ _ fun _ => hk)

theorem wp_waitK (c : Dev nD) (V : PoolV F) (pg : ℕ → BitVec 32) (s n : ℕ) (f : ScrV F) (j : ℕ) (hs : s < 2)
    {α : Type} {cond oS hS oW hW hWw} {k : Prog (TpuEff nD τ sig (Elt F) Λ₀ .tc) α} {R : sProp 𝕄} {Q : α → sProp 𝕄}
    (hcond : cond = 1#1 ↔ j < n) (hoS : oS = ![s])
    (hk : iprop(R ∗ Wt c V pg s n f (j + 1)) ⊢ wp frame (wpE (defs₀ (F := F)) Variants.none c none) Set.univ k Q) :
    iprop(R ∗ Wt c V pg s n f j) ⊢ wp frame (wpE (defs₀ (F := F)) Variants.none c none) Set.univ (waitK cond oS hS oW hW hWw k) Q := by
  rw [waitK_eq, wp_bind]
  exact (wp_framed c (wp_waitP c V pg s n f hs hcond hoS)).trans (wp_mono _ _ _ fun _ => hk)

theorem page_words {w : ℕ} (hinb : ∀ a, (![w, 0, 0] : Fin 3 → ℕ) a + S1x64x656.size a ≤ S10400x64x656.size a) :
    (Rect.unit (s := S10400x64x656) ![w, 0, 0] S1x64x656.size hinb).WholeWords (EltTy.packing .i8) :=
  Affine.words_rows (by decide) rfl rfl

theorem win_words {s j : ℕ} (hinb : ∀ a, (![s, j, 0, 0] : Fin 4 → ℕ) a + S1x1x64x656.size a ≤ S2x16x64x656.size a) :
    (Rect.unit (s := S2x16x64x656) ![s, j, 0, 0] S1x1x64x656.size hinb).WholeWords (EltTy.packing .i8) :=
  Affine.words_rows (by decide) rfl rfl

/-- The start of page `j` of the block after trip `t`'s, at the kernel's own words. -/
theorem wp_nextK (c : Dev nD) (V : PoolV F) (T : TblV F) (qT : PosShare TreeShare) (i : grid0.Coords) (v : BitVec 32) (hv : v.toNat ≤ 8192)
    (t : ℕ) (ht : t < 8) (f : ScrV F) (hTr : ∀ x, (T x : BitVec 32).toNat < 10400) (j : ℕ) (hj : j < 16)
    {α : Type} {hT chk dec hP hS hW} {k : Prog (TpuEff nD τ sig (Elt F) Λ₀ .tc) α} {R : sProp 𝕄} {Q : α → sProp 𝕄}
    (hchk : ∀ w : BitVec 32, w.toNat < 10400 → chk w)
    (hk : iprop(R ∗ Sx c V T qT (i 0) (t + 1) (1 - t % 2) (live v (t + 1)) f (j + 1)) ⊢ wp frame (wpE (defs₀ (F := F)) Variants.none c none) Set.univ k Q) :
    iprop(R ∗ Sx c V T qT (i 0) (t + 1) (1 - t % 2) (live v (t + 1)) f j) ⊢ wp frame (wpE (defs₀ (F := F)) Variants.none c none) Set.univ
      (startK (condW (pw t j) (npW v)) ![(Scalar.indexCast (BitVec.ofNat 32 (i 0).val)).toNat, (Scalar.indexCast (pw t j)).toNat] hT chk dec
        (fun w => ![w.toNat, 0, 0]) hP (fun _ _ _ => page_words _) ![(otW t).toNat] hS ![(otW t).toNat, j, 0, 0] hW (fun _ => win_words _) k) Q := by
  refine wp_startK c V T qT (i 0) (t + 1) (1 - t % 2) (live v (t + 1)) f hTr j hj (by omega) (live_in hv _)
    ((cond_pw hv ht hj).trans (by unfold live; omega)) (fun _ => ?_) hchk (fun _ => rfl) ?_ ?_ hk
  · have hi : (i 0).val < 65 := (i 0).isLt
    show ![(BitVec.ofNat 32 (i 0).val).toNat, (pw t j).toNat] = _
    rw [pw_eq, toNat_ofNat (by omega), toNat_ofNat (by omega)]
  · rw [otW_toNat (by omega)]
  · rw [otW_toNat (by omega)]

/-- The start of page `j` of the first block. -/
theorem wp_firstK (c : Dev nD) (V : PoolV F) (T : TblV F) (qT : PosShare TreeShare) (i : grid0.Coords) (v : BitVec 32) (hv : v.toNat ≤ 8192)
    (f : ScrV F) (hTr : ∀ x, (T x : BitVec 32).toNat < 10400) (j : ℕ) (hj : j < 16)
    {α : Type} {hT chk dec hP hS hW} {k : Prog (TpuEff nD τ sig (Elt F) Λ₀ .tc) α} {R : sProp 𝕄} {Q : α → sProp 𝕄}
    (hchk : ∀ w : BitVec 32, w.toNat < 10400 → chk w)
    (hk : iprop(R ∗ Sx c V T qT (i 0) 0 0 (live v 0) f (j + 1)) ⊢ wp frame (wpE (defs₀ (F := F)) Variants.none c none) Set.univ k Q) :
    iprop(R ∗ Sx c V T qT (i 0) 0 0 (live v 0) f j) ⊢ wp frame (wpE (defs₀ (F := F)) Variants.none c none) Set.univ
      (startK (Scalar.cmpi .ne (Scalar.extui (Scalar.cmpi .sgt (npW v) (BitVec.ofNat 32 j)) : BitVec 32) 0#32) ![(Scalar.indexCast (BitVec.ofNat 32 (i 0).val)).toNat, j] hT chk dec
        (fun w => ![w.toNat, 0, 0]) hP (fun _ _ _ => page_words _) ![0] hS ![0, j, 0, 0] hW (fun _ => win_words _) k) Q := by
  refine wp_startK c V T qT (i 0) 0 0 (live v 0) f hTr j hj (by omega) (live_in hv _)
    ((cond_first hv hj).trans (by unfold live; omega)) (fun _ => ?_) hchk (fun _ => rfl) rfl rfl hk
  have hi : (i 0).val < 65 := (i 0).isLt
  show ![(BitVec.ofNat 32 (i 0).val).toNat, j] = _
  rw [toNat_ofNat (by omega), Nat.zero_mul, Nat.zero_add]

/-- The wait for page `j` of trip `t`'s block. -/
theorem wp_curK (c : Dev nD) (V : PoolV F) (pg : ℕ → BitVec 32) (v : BitVec 32) (hv : v.toNat ≤ 8192) (t : ℕ) (ht : t < 8) (f : ScrV F) (j : ℕ) (hj : j < 16)
    {α : Type} {hS hW} {k : Prog (TpuEff nD τ sig (Elt F) Λ₀ .tc) α} {R : sProp 𝕄} {Q : α → sProp 𝕄}
    (hk : iprop(R ∗ Wt c V pg (t % 2) (live v t) f (j + 1)) ⊢ wp frame (wpE (defs₀ (F := F)) Variants.none c none) Set.univ k Q) :
    iprop(R ∗ Wt c V pg (t % 2) (live v t) f j) ⊢ wp frame (wpE (defs₀ (F := F)) Variants.none c none) Set.univ
      (waitK (condW (pw0 t j) (npW v)) ![(slW t).toNat] hS ![(slW t).toNat, j, 0, 0] hW (fun _ => win_words _) k) Q :=
  wp_waitK c V pg (t % 2) (live v t) f j (by omega) ((cond_pw0 hv ht hj).trans (by unfold live; omega)) (by rw [slW_toNat (by omega)]) hk

/-- What a load of slot `s` reads. -/
def slotRd (s : ℕ) (g : ScrV F) : Vec F S1x16x64x656 .i8 :=
  fun x => g (ix4 (⟨s % 2, Nat.mod_lt _ (by decide)⟩ : Fin 2) (x 1 : Fin 16) (x 2 : Fin 64) (x 3 : Fin 656))

theorem slot_emb {s : ℕ} (hs : s < 2) (h : ∀ a, (![s, 0, 0, 0] : Fin 4 → ℕ) a + S1x16x64x656.size a ≤ S2x16x64x656.size a) (x : S1x16x64x656.Idx) :
    (Rect.unit (s := S2x16x64x656) ![s, 0, 0, 0] S1x16x64x656.size h).emb x
      = ix4 (⟨s % 2, Nat.mod_lt _ (by decide)⟩ : Fin 2) (x 1 : Fin 16) (x 2 : Fin 64) (x 3 : Fin 656) := by
  funext a
  apply Fin.ext
  rw [ValueKit.rect_emb_unit_val]
  match a with
  | ⟨0, _⟩ => have : (x 0).val < 1 := (x 0).isLt; show s + (x 0).val = s % 2; omega
  | ⟨1, _⟩ => exact Nat.zero_add _
  | ⟨2, _⟩ => exact Nat.zero_add _
  | ⟨3, _⟩ => exact Nat.zero_add _

theorem slot_rd {s : ℕ} (hs : s < 2) (h : ∀ a, (![s, 0, 0, 0] : Fin 4 → ℕ) a + S1x16x64x656.size a ≤ S2x16x64x656.size a) (g : ScrV F) :
    ((Memref.whole cc0_scratch0).access (Rect.unit (s := S2x16x64x656) ![s, 0, 0, 0] S1x16x64x656.size h)).read (Elt F) g = slotRd s g := by
  funext x
  show g ((Rect.unit (s := S2x16x64x656) ![s, 0, 0, 0] S1x16x64x656.size h).emb x) = _
  rw [slot_emb hs]
  rfl

theorem wp_loadK (c : Dev nD) {s : ℕ} (hs : s < 2) (g : ScrV F) {o} {h : ∀ a, (o : Fin 4 → ℕ) a + S1x16x64x656.size a ≤ S2x16x64x656.size a} {hl}
    {α : Type} {k : Vec F S1x16x64x656 .i8 → Prog (TpuEff nD τ sig (Elt F) Λ₀ .tc) α} {R : sProp 𝕄} {Q : α → sProp 𝕄} (ho : o = ![s, 0, 0, 0])
    (hk : iprop(R ∗ Slot c g s) ⊢ wp frame (wpE (defs₀ (F := F)) Variants.none c none) Set.univ (k (slotRd s g)) Q) :
    iprop(R ∗ Slot c g s) ⊢ wp frame (wpE (defs₀ (F := F)) Variants.none c none) Set.univ
      (Prog.lift (.load (Memref.whole cc0_scratch0) (Rect.unit (s := S2x16x64x656) o S1x16x64x656.size h).toLoadRect hl) >>= k) Q := by
  subst ho
  have hS : ((Memref.whole cc0_scratch0).access (Rect.unit (s := S2x16x64x656) ![s, 0, 0, 0] S1x16x64x656.size h)).set ⊆ slotSet s := by
    intro x hx
    obtain ⟨y, -, rfl⟩ := Finset.mem_map.1 hx
    rw [mem_slotSet]
    show ((Rect.unit (s := S2x16x64x656) ![s, 0, 0, 0] S1x16x64x656.size h).emb y 0).val = s
    rw [slot_emb hs]
    exact Nat.mod_eq_of_lt hs
  rw [← slot_rd hs h] at hk
  have hl' : Slot c g s ⊢ iprop((Slot c g s -∗ wp frame (wpE (defs₀ (F := F)) Variants.none c none) Set.univ
        (k (((Memref.whole cc0_scratch0).access (Rect.unit (s := S2x16x64x656) ![s, 0, 0, 0] S1x16x64x656.size h)).read (Elt F) g)) Q)
      -∗ wp frame (wpE (defs₀ (F := F)) Variants.none c none) Set.univ
        (Prog.lift (.load (Memref.whole cc0_scratch0) (Rect.unit (s := S2x16x64x656) ![s, 0, 0, 0] S1x16x64x656.size h).toLoadRect hl) >>= k) Q) :=
    wp_load_rect (m := Memref.whole cc0_scratch0) (r := Rect.unit (s := S2x16x64x656) ![s, 0, 0, 0] S1x16x64x656.size h) Variants.none (c : Thread nD τ) none Set.univ
      (S := slotSet s) (q := fullShare) (f := g) hS
  iintro ⟨HR, HS⟩
  iapply hl' $$ HS
  iintro HS
  iapply hk
  isplitl [HR]
  · iexact HR
  · iexact HS

theorem wp_done {α : Type} (c : Dev nD) (P : sProp 𝕄) (a : α) (Q : α → sProp 𝕄) (h : P ⊢ Q a) :
    P ⊢ wp frame (wpE (defs₀ (F := F)) Variants.none c none) Set.univ (pure a) Q := by
  rw [wp_pure]
  exact h.trans Idealize.SL.BI.fupd_intro

theorem pure_intro_l {φ : Prop} {P : sProp 𝕄} (h : φ) : P ⊢ iprop(⌜φ⌝ ∗ P) := by
  iintro HP
  isplitr
  · ipureintro; exact h
  · iexact HP

/-- The weakest precondition of a program of the kernel's core. -/
abbrev WP {α : Type} (c : Dev nD) (p : Prog (TpuEff nD τ sig (Elt F) Λ₀ .tc) α) (Q : α → sProp 𝕄) : sProp 𝕄 :=
  wp frame (wpE (defs₀ (F := F)) Variants.none (c : Thread nD τ) none) Set.univ p Q

theorem slot_take (c : Dev nD) (V : PoolV F) (s : ℕ) (g : ScrV F) (R O : sProp 𝕄) :
    iprop(R ∗ Free c V s g ∗ O) ⊢ iprop((R ∗ (Toks c V s ∗ semVal ((c : Thread nD τ), .dma (dsem s)) 0) ∗ O) ∗ Slot c g s) := by
  rw [free_eq]
  iintro ⟨HR, ⟨⟨HS, HT⟩, HV⟩, HO⟩
  isplitr [HS]
  · isplitl [HR]
    · iexact HR
    · isplitr [HO]
      · isplitl [HT]
        · iexact HT
        · iexact HV
      · iexact HO
  · iexact HS

theorem slot_give (c : Dev nD) (V : PoolV F) (s : ℕ) (g : ScrV F) (R O : sProp 𝕄) :
    iprop((R ∗ (Toks c V s ∗ semVal ((c : Thread nD τ), .dma (dsem s)) 0) ∗ O) ∗ Slot c g s) ⊢ iprop(R ∗ Free c V s g ∗ O) := by
  rw [free_eq]
  iintro ⟨⟨HR, ⟨HT, HV⟩, HO⟩, HS⟩
  isplitl [HR]
  · iexact HR
  · isplitr [HO]
    · isplitr [HV]
      · isplitl [HS]
        · iexact HS
        · iexact HT
      · iexact HV
    · iexact HO

section
variable (c : Dev nD) (V : PoolV F) (T : TblV F) (qT : PosShare TreeShare) (i : grid0.Coords) (v : BitVec 32) (hv : v.toNat ≤ 8192)
    (f : ScrV F) (hTr : ∀ x, (T x : BitVec 32).toNat < 10400)
    {h1 : (Memref.whole main_arg3 : Memref sig .tc .smem S65x128 .i32).IsWhole} {a2 : Memref sig .tc .smem S65 .i32} {h2 : a2.IsWhole}
    {a3 : Memref sig .tc .vmem S1x1x64x512 .bf16} {h3 : a3.IsWhole} {a4 : Memref sig .tc .vmem S1x1x64x64 .bf16} {h4 : a4.IsWhole}
    {a5 : Memref sig .tc .vmem S1x1x512 .fp8e4m3} {h5 : a5.IsWhole} {a6 : Memref sig .tc .vmem S1x1x4 .f32} {h6 : a6.IsWhole}
    {a7 : Memref sig .tc .vmem S1x1x64 .bf16} {h7 : a7.IsWhole} {h8 : (Memref.whole main_arg2 : Memref sig .tc .hbm S10400x64x656 .i8).IsWhole}
    {a9 : Memref sig .tc .vmem S1x64x512 .bf16} {h9 : a9.IsWhole} {a10 : Memref sig .tc .vmem S1x64x1 .f32} {h10 : a10.IsWhole}
    {h11 : (Memref.whole cc0_scratch0 : Memref sig .tc .vmem S2x16x64x656 .i8).IsWhole} {a0 v20 v39 : BitVec 32}
include hv

/-- The next block's slot, and the page table, after the first `j` starts of trip `t`. -/
abbrev Nx (t j : ℕ) : sProp 𝕄 := Sx c V T qT (i 0) (t + 1) (1 - t % 2) (live v (t + 1)) f j
/-- The trip's own slot after the first `j` waits. -/
abbrev Cu (t j : ℕ) : sProp 𝕄 := Wt c V (pgOf T (i 0) t) (t % 2) (live v t) f j

include hTr in
/-- The starts of pages 0 to 5 of the next block. -/
theorem wp_part1 {R : sProp 𝕄} {hw} {t : Fin (k0_t1_loop v).trips} {a13 v157 h18} :
    iprop(R ∗ Nx c V T qT i v f t.val 0) ⊢ WP c
        (k0_part1 (F := F) i (Memref.whole main_arg3) h1 a2 h2 a3 h3 a4 h4 a5 h5 a6 h6 a7 h7 (Memref.whole main_arg2) h8 a9 h9 a10 h10 (Memref.whole cc0_scratch0) h11 cc0_scratch1 a0 v hw v20 t a13 v157 h18)
        (fun _ => iprop(R ∗ Nx c V T qT i v f t.val 6)) := by
  have ht := t1_lt8 hv t
  rw [k0_part1_eq_skeleton]
  unfold k0_part1_skel WP
  iterate 6
    refine wp_nextK c V T qT i v hv t.val ht f hTr _ (by decide) (hP := fun h w hc => hc.1 h18 h) (fun w hw => ⟨fun _ _ => page_inb hw, fun _ _ hi => page_words hi⟩) ?_
  exact wp_done c _ _ _ .rfl

include hTr in
/-- The starts of pages 6 to 11 of the next block. -/
theorem wp_part2 {R : sProp 𝕄} {hw} {t : Fin (k0_t1_loop v).trips} {h18 v344 v376} :
    iprop(R ∗ Nx c V T qT i v f t.val 6) ⊢ WP c
        (k0_part2 (F := F) i (Memref.whole main_arg3) h1 a2 h2 a3 h3 a4 h4 a5 h5 a6 h6 a7 h7 (Memref.whole main_arg2) h8 a9 h9 a10 h10 (Memref.whole cc0_scratch0) h11 cc0_scratch1 a0 v hw v20 t h18 v344 v376)
        (fun _ => iprop(R ∗ Nx c V T qT i v f t.val 12)) := by
  have ht := t1_lt8 hv t
  rw [k0_part2_eq_skeleton]
  unfold k0_part2_skel WP
  iterate 6
    refine wp_nextK c V T qT i v hv t.val ht f hTr _ (by decide) (hP := fun h w hc => hc.1 h18 h) (fun w hw => ⟨fun _ _ => page_inb hw, fun _ _ hi => page_words hi⟩) ?_
  exact wp_done c _ _ _ .rfl

omit hv in
/-- A slot with no page to start needs no start. -/
theorem st_none (pg : ℕ → BitVec 32) (s : ℕ) {n : ℕ} (hn : n = 0) : (St c V pg s n f 0 : sProp 𝕄) = St c V pg s n f 16 := by
  subst hn
  unfold St
  rw [Nat.min_zero, Nat.min_zero]
  congr 1

omit hv in
/-- A free slot and the page table open the next block. -/
theorem nx_open (C : sProp 𝕄) (t : ℕ) : iprop((Free c V (1 - t % 2) f ∗ ((c : Thread nD τ).loc main_arg3 ↦[Finset.univ]{qT} T)) ∗ C)
      ⊢ (|={Set.univ}=> iprop(C ∗ Nx c V T qT i v f t 0) : sProp 𝕄) := by
  iintro ⟨⟨HF, HT⟩, HC⟩
  imod (st_begin c V (pgOf T (i 0) (t + 1)) (1 - t % 2) (live v (t + 1)) f) $$ HF with HS
  imodintro
  isplitl [HC]
  · iexact HC
  · unfold Nx Sx
    isplitl [HS]
    · iexact HS
    · iexact HT

/-- The waits for pages 5 to 11 of the trip's own block. -/
theorem wp_part4 {R : sProp 𝕄} {hw} {t : Fin (k0_t1_loop v).trips} {a13 v189} :
    iprop(R ∗ Cu c V T i v f t.val 5) ⊢ WP c
        (k0_part4 (F := F) i (Memref.whole main_arg3) h1 a2 h2 a3 h3 a4 h4 a5 h5 a6 h6 a7 h7 (Memref.whole main_arg2) h8 a9 h9 a10 h10 (Memref.whole cc0_scratch0) h11 cc0_scratch1 v hw v20 t a13 v189)
        (fun _ => iprop(R ∗ Cu c V T i v f t.val 12)) := by
  have ht := t1_lt8 hv t
  rw [k0_part4_eq_skeleton]
  unfold k0_part4_skel WP
  refine wp_curK c V (pgOf T (i 0) t.val) v hv t.val ht f 5 (by decide) ?_
  refine wp_curK c V (pgOf T (i 0) t.val) v hv t.val ht f 6 (by decide) ?_
  refine wp_curK c V (pgOf T (i 0) t.val) v hv t.val ht f 7 (by decide) ?_
  refine wp_curK c V (pgOf T (i 0) t.val) v hv t.val ht f 8 (by decide) ?_
  refine wp_curK c V (pgOf T (i 0) t.val) v hv t.val ht f 9 (by decide) ?_
  refine wp_curK c V (pgOf T (i 0) t.val) v hv t.val ht f 10 (by decide) ?_
  refine wp_curK c V (pgOf T (i 0) t.val) v hv t.val ht f 11 (by decide) ?_
  refine wp_done (F := F) c _ _ _ ?_
  exact .rfl

include hTr in
/-- The next block's starts, and the waits for pages 0 to 4 of the trip's own block. -/
theorem wp_part3 (g : ScrV F) {hw} {t : Fin (k0_t1_loop v).trips} :
    iprop((Free c V (1 - t.val % 2) f ∗ ((c : Thread nD τ).loc main_arg3 ↦[Finset.univ]{qT} T)) ∗ Cu c V T i v g t.val 0)
      ⊢ WP c
        (k0_part3 (F := F) i (Memref.whole main_arg3) h1 a2 h2 a3 h3 a4 h4 a5 h5 a6 h6 a7 h7 (Memref.whole main_arg2) h8 a9 h9 a10 h10 (Memref.whole cc0_scratch0) h11 cc0_scratch1 a0 v hw v20 v39 0#32 1#32 t)
        (fun r => iprop(⌜r.1 = Scf.iv 0#32 1#32 t.val⌝ ∗ Nx c V T qT i v f t.val 16 ∗ Cu c V T i v g t.val 5)) := by
  have ht := t1_lt8 hv t
  rw [k0_part3_eq_skeleton]
  unfold k0_part3_skel WP
  refine wp_open c (nx_open c V T qT i v f _ t.val) ?_
  by_cases h18 : k0_cond18 v t = 1#1
  · rw [dif_pos h18, wp_bind]
    refine (wp_part1 c V T qT i v hv f hTr).trans (wp_mono _ _ _ fun r => ?_)
    rw [wp_bind]
    refine (wp_part2 c V T qT i v hv f hTr).trans (wp_mono _ _ _ fun r2 => ?_)
    iterate 4
      refine wp_nextK c V T qT i v hv t.val ht f hTr _ (by decide) (hP := fun h w hc => hc.1 h18 h) (fun w hw => ⟨fun _ _ => page_inb hw, fun _ _ hi => page_words hi⟩) ?_
    refine BI.sep_comm.trans ?_
    refine wp_curK c V (pgOf T (i 0) t.val) v hv t.val ht g 0 (by decide) ?_
    refine wp_curK c V (pgOf T (i 0) t.val) v hv t.val ht g 1 (by decide) ?_
    refine wp_curK c V (pgOf T (i 0) t.val) v hv t.val ht g 2 (by decide) ?_
    refine wp_curK c V (pgOf T (i 0) t.val) v hv t.val ht g 3 (by decide) ?_
    refine wp_curK c V (pgOf T (i 0) t.val) v hv t.val ht g 4 (by decide) ?_
    refine wp_done (F := F) c _ _ _ ?_
    exact pure_intro_l rfl
  · have hl : live v (t.val + 1) = 0 := by
      have h : ¬ t.val + 1 < nb v.toNat := fun h => h18 ((cond_blk hv ht).2 h)
      unfold live nb at *; omega
    rw [dif_neg h18]
    refine BI.sep_comm.trans ?_
    unfold Nx Sx
    rw [st_none c V f _ _ hl]
    refine wp_curK c V (pgOf T (i 0) t.val) v hv t.val ht g 0 (by decide) ?_
    refine wp_curK c V (pgOf T (i 0) t.val) v hv t.val ht g 1 (by decide) ?_
    refine wp_curK c V (pgOf T (i 0) t.val) v hv t.val ht g 2 (by decide) ?_
    refine wp_curK c V (pgOf T (i 0) t.val) v hv t.val ht g 3 (by decide) ?_
    refine wp_curK c V (pgOf T (i 0) t.val) v hv t.val ht g 4 (by decide) ?_
    refine wp_done (F := F) c _ _ _ ?_
    exact pure_intro_l rfl

/-- The waits for pages 12 to 15 of the trip's own block, and the load of its slot. -/
theorem wp_part5 {R : sProp 𝕄} {hw} {t : Fin (k0_t1_loop v).trips} {v94 a13 v157 v222} :
    iprop(R ∗ Cu c V T i v f t.val 12) ⊢ WP c
        (k0_part5 (F := F) i (Memref.whole main_arg3) h1 a2 h2 a3 h3 a4 h4 a5 h5 a6 h6 a7 h7 (Memref.whole main_arg2) h8 a9 h9 a10 h10 (Memref.whole cc0_scratch0) h11 cc0_scratch1 v hw v20 v94 t a13 v157 v222)
        (fun r => iprop(⌜r = ⟨k0_pay7 (slotRd (t.val % 2) (fillF V (pgOf T (i 0) t.val) (live v t.val) f)), k0_pay8 (slotRd (t.val % 2) (fillF V (pgOf T (i 0) t.val) (live v t.val) f)),
            k0_pay9 v94 (slotRd (t.val % 2) (fillF V (pgOf T (i 0) t.val) (live v t.val) f))⟩⌝
          ∗ R ∗ Free c V (t.val % 2) (fillF V (pgOf T (i 0) t.val) (live v t.val) f) ∗ ∃ W, owes (c : Thread nD τ) 0 W)) := by
  have ht := t1_lt8 hv t
  rw [k0_part5_eq_skeleton]
  unfold k0_part5_skel WP
  refine wp_curK c V (pgOf T (i 0) t.val) v hv t.val ht f 12 (by decide) ?_
  refine wp_curK c V (pgOf T (i 0) t.val) v hv t.val ht f 13 (by decide) ?_
  refine wp_curK c V (pgOf T (i 0) t.val) v hv t.val ht f 14 (by decide) ?_
  refine wp_curK c V (pgOf T (i 0) t.val) v hv t.val ht f 15 (by decide) ?_
  have h : iprop(R ∗ Wt c V (pgOf T (i 0) t.val) (t.val % 2) (live v t.val) f 16)
      ⊢ (|={Set.univ}=> iprop((R ∗ (Toks c V (t.val % 2) ∗ semVal ((c : Thread nD τ), .dma (dsem (t.val % 2))) 0) ∗ ∃ W, owes (c : Thread nD τ) 0 W)
          ∗ Slot c (fillF V (pgOf T (i 0) t.val) (live v t.val) f) (t.val % 2)) : sProp 𝕄) := by
    iintro ⟨HR, HW⟩
    imod (wt_end c V (pgOf T (i 0) t.val) (t.val % 2) (live v t.val) f (live_le _ _)) $$ HW with ⟨HF, HO⟩
    imodintro
    iapply (slot_take c V (t.val % 2) (fillF V (pgOf T (i 0) t.val) (live v t.val) f) R iprop(∃ W, owes (c : Thread nD τ) 0 W))
    isplitl [HR]
    · iexact HR
    · isplitl [HF]
      · iexact HF
      · iexact HO
  refine wp_open c h ?_
  refine wp_loadK c (Nat.mod_lt _ (by decide)) _ (by show ![(slW t.val).toNat, 0, 0, 0] = _; rw [slW_toNat (by omega)]) ?_
  refine wp_done (F := F) c _ _ _ ?_
  refine (?_ : _ ⊢ _).trans (pure_intro_l rfl)
  exact slot_give c V (t.val % 2) (fillF V (pgOf T (i 0) t.val) (live v t.val) f) R iprop(∃ W, owes (c : Thread nD τ) 0 W)

end

end Cert.Kernel.Hand
-- ==== Proof.K.Loop.lean ====
/- Hand-written, untrusted. One trip of the kernel's loop over the blocks of pages, and the loop. -/
module

public import proofs.«01_k».proof.Proof.K.Parts

@[expose] public section

noncomputable section

namespace Cert.Kernel.Hand

open Cert.Kernel Cert.Kernel.Gen Cert.Words
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What the loop carries: running maximum, running sum, running weighted rows. -/
abbrev A3 (F : FTy → Type) : Type := FVec F S64x1 .f32 × FVec F S64x1 .f32 × FVec F S64x512 .f32

/-- The loaded block `kv` holds, in the places of its live pages, the pages the table names. -/
def Blk (V : PoolV F) (T : TblV F) (b : Fin 65) (v : BitVec 32) (t : ℕ) (kv : Vec F S1x16x64x656 .i8) : Prop :=
  ∀ x : S1x16x64x656.Idx, (x 1).val < live v t → kv x = pgAt V (pgOf T b t (x 1).val) (x 2) (x 3)

theorem blk_rd (V : PoolV F) (T : TblV F) (b : Fin 65) (v : BitVec 32) (t s : ℕ) (f : ScrV F) :
    Blk V T b v t (slotRd s (fillF V (pgOf T b t) (live v t) f)) := by
  intro x hx
  exact if_pos hx

/-- What one trip makes of what it carries, from the block it loaded. -/
def stepF (v : BitVec 32) (q : FVec F S64x512 .bf16) (qr : FVec F S64x64 .bf16) (t : ℕ) (kv : Vec F S1x16x64x656 .i8) (a : A3 F) : A3 F :=
  (k0_pay11 v q a.1 (Scf.iv 0#32 1#32 t) (k0_pay7 kv) (k0_pay8 kv) (k0_pay9 qr kv),
   k0_pay35 (k0_pay14 v q a.1 a.2.1 (Scf.iv 0#32 1#32 t) (k0_pay7 kv) (k0_pay8 kv) (k0_pay9 qr kv))
     (k0_pay15 v q a.1 (Scf.iv 0#32 1#32 t) (k0_pay7 kv) (k0_pay8 kv) (k0_pay9 qr kv)),
   k0_pay36 a.2.2 (k0_pay7 kv) (k0_pay8 kv) (k0_pay12 v q a.1 (Scf.iv 0#32 1#32 t) (k0_pay7 kv) (k0_pay8 kv) (k0_pay9 qr kv))
     (k0_pay13 v q a.1 (Scf.iv 0#32 1#32 t) (k0_pay7 kv) (k0_pay8 kv) (k0_pay9 qr kv)))

/-- What the loop may carry after `t` trips from `a0`. -/
def RunTo (V : PoolV F) (T : TblV F) (b : Fin 65) (v : BitVec 32) (q : FVec F S64x512 .bf16) (qr : FVec F S64x64 .bf16) (a0 : A3 F) : ℕ → A3 F → Prop
  | 0, a => a = a0
  | t + 1, a => ∃ kv a', Blk V T b v t kv ∧ RunTo V T b v q qr a0 t a' ∧ a = stepF v q qr t kv a'

theorem pure_out {φ : Prop} {P Q : sProp 𝕄} (h : φ → (P ⊢ Q)) : iprop(⌜φ⌝ ∗ P) ⊢ Q := by
  iintro ⟨%hp, HP⟩
  iapply (h hp)
  iexact HP

section
variable (c : Dev nD) (V : PoolV F) (T : TblV F) (qT : PosShare TreeShare) (i : grid0.Coords) (v : BitVec 32) (hv : v.toNat ≤ 8192)
    (hTr : ∀ x, (T x : BitVec 32).toNat < 10400)
    {h1 : (Memref.whole main_arg3 : Memref sig .tc .smem S65x128 .i32).IsWhole} {a2 : Memref sig .tc .smem S65 .i32} {h2 : a2.IsWhole}
    {a3 : Memref sig .tc .vmem S1x1x64x512 .bf16} {h3 : a3.IsWhole} {a4 : Memref sig .tc .vmem S1x1x64x64 .bf16} {h4 : a4.IsWhole}
    {a5 : Memref sig .tc .vmem S1x1x512 .fp8e4m3} {h5 : a5.IsWhole} {a6 : Memref sig .tc .vmem S1x1x4 .f32} {h6 : a6.IsWhole}
    {a7 : Memref sig .tc .vmem S1x1x64 .bf16} {h7 : a7.IsWhole} {h8 : (Memref.whole main_arg2 : Memref sig .tc .hbm S10400x64x656 .i8).IsWhole}
    {a9 : Memref sig .tc .vmem S1x64x512 .bf16} {h9 : a9.IsWhole} {a10 : Memref sig .tc .vmem S1x64x1 .f32} {h10 : a10.IsWhole}
    {h11 : (Memref.whole cc0_scratch0 : Memref sig .tc .vmem S2x16x64x656 .i8).IsWhole} {a0 v20 v39 : BitVec 32}
    (q : FVec F S64x512 .bf16) (qr : FVec F S64x64 .bf16) (z : A3 F)
include hv

/-- At the head of trip `t`: block `t` under way into its slot, the other slot free, and what is carried reached in `t` trips. -/
def Inv (t : ℕ) (a : A3 F) : sProp 𝕄 :=
  iprop(⌜RunTo V T (i 0) v q qr z t a⌝ ∗ (∃ g, Sx c V T qT (i 0) t (t % 2) (live v t) g 16) ∗ (∃ f, Free c V (1 - t % 2) f)
    ∗ ∃ W, owes (c : Thread nD τ) 0 W)

omit hv in
/-- The head of a trip, as its first part takes it. -/
theorem inv_open (t : ℕ) (a : A3 F) (ht : live v t ≤ 16) :
    (Inv c V T qT i v q qr z t a : sProp 𝕄) ⊢ iprop(∃ f g, ⌜RunTo V T (i 0) v q qr z t a⌝
      ∗ (Free c V (1 - t % 2) f ∗ ((c : Thread nD τ).loc main_arg3 ↦[Finset.univ]{qT} T)) ∗ Cu c V T i v g t 0) := by
  unfold Inv Sx
  iintro ⟨HR, HS, HF, HO⟩
  icases HS with ⟨%g, HS, HT⟩
  icases HF with ⟨%f, HF⟩
  icases HO with ⟨%W, HO⟩
  iexists f; iexists g
  isplitl [HR]
  · iexact HR
  · isplitl [HF HT]
    · isplitl [HF]
      · iexact HF
      · iexact HT
    · iapply (st_wt c V (pgOf T (i 0) t) (t % 2) (live v t) g ht W)
      isplitl [HS]
      · iexact HS
      · iexact HO

omit hv in
/-- The end of a trip is the head of the next. -/
theorem inv_close (t : ℕ) (a a' : A3 F) (f g : ScrV F) (ha : RunTo V T (i 0) v q qr z (t + 1) a') :
    iprop(Nx c V T qT i v f t 16 ∗ Free c V (t % 2) g ∗ ∃ W, owes (c : Thread nD τ) 0 W)
      ⊢ (Inv c V T qT i v q qr z (t + 1) a' : sProp 𝕄) := by
  have e1 : (t + 1) % 2 = 1 - t % 2 := by omega
  have e2 : 1 - (1 - t % 2) = t % 2 := by omega
  unfold Inv Nx
  rw [e1, e2]
  iintro ⟨HS, HF, HO⟩
  isplitr
  · ipureintro; exact ha
  · isplitl [HS]
    · iexists f; iexact HS
    · isplitl [HF]
      · iexists g; iexact HF
      · iexact HO

include hTr in
/-- One trip of the loop. -/
theorem wp_trip {hw} {v97 : FVec F S1x4 .bf16} (t : Fin (k0_t1_loop v).trips) (a : A3 F) :
    Inv c V T qT i v q qr z t.val a ⊢ WP c
      (k0_t1_body (F := F) i (Memref.whole main_arg3) h1 a2 h2 a3 h3 a4 h4 a5 h5 a6 h6 a7 h7 (Memref.whole main_arg2) h8 a9 h9 a10 h10 (Memref.whole cc0_scratch0) h11 cc0_scratch1 a0 v hw v20 v39 q qr v97 t a)
      (fun a' => Inv c V T qT i v q qr z (t.val + 1) a') := by
  unfold k0_t1_body WP
  refine (inv_open c V T qT i v q qr z t.val a (live_le _ _)).trans ?_
  refine exists_elim fun f => exists_elim fun g => ?_
  rw [wp_bind]
  refine (wp_framed c (wp_part3 c V T qT i v hv f hTr g)).trans (wp_mono _ _ _ fun r3 => ?_)
  obtain ⟨a13, v157, v189⟩ := r3
  refine pure_out fun hrun => pure_out fun h13 => ?_
  obtain rfl : a13 = Scf.iv 0#32 1#32 t.val := h13
  show _ ⊢ wp frame (wpE (defs₀ (F := F)) Variants.none (c : Thread nD τ) none) Set.univ (_ >>= _) _
  rw [wp_bind]
  refine (wp_part4 c V T i v hv g).trans (wp_mono _ _ _ fun v222 => ?_)
  rw [wp_bind]
  refine (wp_part5 c V T i v hv g).trans (wp_mono _ _ _ fun r5 => ?_)
  refine pure_out fun h5 => ?_
  subst h5
  show _ ⊢ wp frame (wpE (defs₀ (F := F)) Variants.none (c : Thread nD τ) none) Set.univ (_ >>= _) _
  rw [wp_bind, k0_part6_eq_skeleton]
  unfold k0_part6_skel
  refine wp_done (F := F) c _ _ _ ?_
  refine wp_done (F := F) c _ _ _ ?_
  refine inv_close c V T qT i v q qr z t.val a _ f _ ⟨_, a, blk_rd V T (i 0) v t.val (t.val % 2) g, hrun, ?_⟩
  rfl
end

end Cert.Kernel.Hand
-- ==== Proof.K.Stage.lean ====
/- Hand-written, untrusted. Loads and stores of whole staging buffers, the read of a sequence length, and the first
   fill of the scratch. -/
module

public import proofs.«01_k».proof.Proof.K.Loop

@[expose] public section

noncomputable section

namespace Cert.Kernel.Hand

open Cert.Kernel Cert.Kernel.Gen Cert.Words
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) {α : Type}

theorem emb_zero {s : Shape} {o : Fin s.rank → ℕ} (ho : ∀ a, o a = 0) (h : ∀ a, o a + s.size a ≤ s.size a) (x : s.Idx) :
    (Rect.unit (s := s) o s.size h).emb x = x := by
  funext a
  apply Fin.ext
  rw [ValueKit.rect_emb_unit_val, ho a]
  exact Nat.zero_add _

theorem access_read {sp : Space} {s : Shape} {e : EltTy} (m : Memref sig .tc sp s e) {o : Fin s.rank → ℕ} (ho : ∀ a, o a = 0)
    (h : ∀ a, o a + s.size a ≤ s.size a) (f : m.view.ty.Contents (Elt F)) :
    (m.access (Rect.unit (s := s) o s.size h)).read (Elt F) f = m.view.read (Elt F) f := by
  funext x
  show m.view.read (Elt F) f ((Rect.unit (s := s) o s.size h).emb x) = _
  rw [emb_zero ho]

theorem access_sub {sp : Space} {s : Shape} {e : EltTy} (m : Memref sig .tc sp s e) (r : Rect s) :
    (m.access r).set ⊆ m.view.set := by
  intro y hy
  obtain ⟨x, -, rfl⟩ := Finset.mem_map.1 hy
  exact Finset.mem_map.2 ⟨r.emb x, Finset.mem_univ _, rfl⟩

/-- A load of a whole buffer gives its contents. -/
theorem wp_loadO {Q : α → sProp 𝕄} {s : Shape} {e : EltTy} {m : Memref sig .tc .vmem s e} {o : Fin s.rank → ℕ}
    (ho : ∀ a, o a = 0) {h : ∀ a, o a + s.size a ≤ s.size a} {hl} {k : Vec F s e → Prog (TpuEff nD τ sig (Elt F) Λ₀ .tc) α} (X : Vec F s e) :
    (owns (c : Thread nD τ) m fullShare X : sProp 𝕄) ⊢ iprop((owns (c : Thread nD τ) m fullShare X -∗ WP c (k X) Q)
      -∗ WP c (Prog.lift (.load m (Rect.unit (s := s) o s.size h).toLoadRect hl) >>= k) Q) := by
  have hh : ∀ f : m.view.ty.Contents (Elt F), (m.view.loc (c : Thread nD τ) ↦[m.view.set]{fullShare} f)
      ⊢ iprop(((m.view.loc (c : Thread nD τ) ↦[m.view.set]{fullShare} f) -∗ WP c (k (m.view.read (Elt F) f)) Q)
        -∗ WP c (Prog.lift (.load m (Rect.unit (s := s) o s.size h).toLoadRect hl) >>= k) Q) := by
    intro f
    rw [← access_read m ho h f]
    exact wp_load_rect (m := m) (r := Rect.unit (s := s) o s.size h) Variants.none (c : Thread nD τ) none Set.univ
      (S := m.view.set) (q := fullShare) (f := f) (access_sub m _)
  unfold owns
  iintro ⟨%f, %hf, H⟩ HK
  subst hf
  iapply (hh f) $$ H
  iintro H
  iapply HK
  iexists f
  isplitr
  · ipureintro; rfl
  · iexact H

/-- A store over a whole buffer leaves what it stores. -/
theorem wp_storeO {Q : α → sProp 𝕄} {s : Shape} {e : EltTy} {m : Memref sig .tc .vmem s e} {o : Fin s.rank → ℕ}
    (ho : ∀ a, o a = 0) {h : ∀ a, o a + s.size a ≤ s.size a} (w : Vec F s e) {hx} {hm}
    {k : PUnit → Prog (TpuEff nD τ sig (Elt F) Λ₀ .tc) α} (X : Vec F s e) :
    (owns (c : Thread nD τ) m fullShare X : sProp 𝕄) ⊢ iprop((owns (c : Thread nD τ) m fullShare w -∗ WP c (k ⟨⟩) Q)
      -∗ WP c (Prog.lift (.store m (Rect.unit (s := s) o s.size h) w Finset.univ hx hm) >>= k) Q) := by
  have hh : ∀ f : m.view.ty.Contents (Elt F), (m.view.loc (c : Thread nD τ) ↦[m.view.set]{fullShare} f)
      ⊢ iprop(((m.view.loc (c : Thread nD τ) ↦[m.view.set]{fullShare} ((m.access (Rect.unit (s := s) o s.size h)).write (Elt F) f w Finset.univ)) -∗ WP c (k ⟨⟩) Q)
        -∗ WP c (Prog.lift (.store m (Rect.unit (s := s) o s.size h) w Finset.univ hx hm) >>= k) Q) := by
    intro f
    exact wp_store (m := m) (r := Rect.unit (s := s) o s.size h) Variants.none (c : Thread nD τ) none Set.univ
      (S := m.view.set) (f := f) (access_sub m _)
  have hr : ∀ f : m.view.ty.Contents (Elt F), m.view.read (Elt F) ((m.access (Rect.unit (s := s) o s.size h)).write (Elt F) f w Finset.univ) = w := by
    intro f
    rw [← access_read m ho h]
    exact View.read_write_univ _ _
  unfold owns
  iintro ⟨%f, %hf, H⟩ HK
  iapply (hh f) $$ H
  iintro H
  iapply HK
  iexists _
  isplitr
  · ipureintro; exact hr f
  · iexact H

/-- The scratch's first fill, at the first grid point, and the program after it. -/
@[reducible] def initK (cond : Prop) [Decidable cond] (k : Prog (TpuEff nD τ sig (Elt F) Λ₀ .tc) α) : Prog (TpuEff nD τ sig (Elt F) Λ₀ .tc) α :=
  if h : cond then do
    let _v : Vec F S2x16x64x656 .i8 ← Prog.lift (.load (Memref.whole cc0_scratch0) (Rect.unit (s := S2x16x64x656) ![0, 0, 0, 0] S2x16x64x656.size inb_S2x16x64x656_S2x16x64x656_0_0_0_0).toLoadRect (View.loadsAt_vmem h_S2x16x64x656))
    Prog.lift (.store (Memref.whole cc0_scratch0) (Rect.unit (s := S2x16x64x656) ![0, 0, 0, 0] S2x16x64x656.size inb_S2x16x64x656_S2x16x64x656_0_0_0_0) (k0_pay27 : IVec S2x16x64x656 8) Finset.univ
      (View.stores_vmem h_S2x16x64x656 ((Memref.isWhole_whole cc0_scratch0).storeExact_slice rfl _ packedi8_S2x16x64x656_S2x16x64x656_0_0_0_0) (fun _ => rfl)) (.inl rfl))
    k
  else k

/-- The scratch, at some contents. -/
abbrev Scr (f : ScrV F) : sProp 𝕄 := iprop((c : Thread nD τ).loc cc0_scratch0 ↦[Finset.univ]{fullShare} f)

theorem scr_owns (f : ScrV F) : (Scr c f : sProp 𝕄) = owns (c : Thread nD τ) (Memref.whole cc0_scratch0) fullShare f :=
  (owns_whole _ _ _ _).symm

theorem wp_initK {Q : α → sProp 𝕄} {cond : Prop} [Decidable cond] {k : Prog (TpuEff nD τ sig (Elt F) Λ₀ .tc) α} {R : sProp 𝕄} (f : ScrV F)
    (hk : ∀ f, iprop(R ∗ Scr c f) ⊢ WP c k Q) : iprop(R ∗ Scr c f) ⊢ WP c (initK cond k) Q := by
  have z : ∀ a : Fin 4, (![0, 0, 0, 0] : Fin 4 → ℕ) a = 0 := by decide
  unfold initK
  by_cases h : cond
  · rw [dif_pos h]
    simp only [scr_owns] at hk ⊢
    iintro ⟨HR, HS⟩
    iapply (wp_loadO c (m := Memref.whole cc0_scratch0) z f) $$ HS
    iintro HS
    iapply (wp_storeO c (m := Memref.whole cc0_scratch0) z (k0_pay27 : IVec S2x16x64x656 8) f) $$ HS
    iintro HS
    iapply (hk (k0_pay27 : IVec S2x16x64x656 8))
    isplitl [HR]
    · iexact HR
    · iexact HS
  · rw [dif_neg h]
    exact hk f

/-- The length of sequence `b`. -/
def lenOf (L : S65.Idx → Elt F .i32) (b : Fin 65) : BitVec 32 := L (ix1 b)

theorem len_read (L : S65.Idx → Elt F .i32) (i : grid0.Coords) (h : ∀ a, k0_off1 i a + S1.size a ≤ S65.size a) (x : S1.Idx) :
    ((Memref.whole main_arg4).access (Rect.unit (s := S65) (k0_off1 i) S1.size h)).read (Elt F) L x = lenOf L (i 0) := by
  have hi : (i 0).val < 65 := (i 0).isLt
  have ho : k0_off1 i = ![(i 0).val] := by
    show ![(BitVec.ofNat 32 (i 0).val).toNat] = _
    rw [toNat_ofNat (by omega)]
  show L ((Rect.unit (s := S65) (k0_off1 i) S1.size h).emb x) = L (ix1 (i 0))
  congr 1
  funext a
  apply Fin.ext
  rw [ValueKit.rect_emb_unit_val]
  match a with
  | ⟨0, _⟩ => have : (x 0).val < 1 := (x 0).isLt; show k0_off1 i 0 + (x 0).val = (i 0).val; rw [ho]; show (i 0).val + (x 0).val = (i 0).val; omega

end

end Cert.Kernel.Hand
-- ==== Proof.K.Body.lean ====
/- Hand-written, untrusted. The kernel at one grid point. -/
module

public import proofs.«01_k».proof.Proof.K.Stage

@[expose] public section

noncomputable section

namespace Cert.Kernel.Hand

open Cert.Kernel Cert.Kernel.Gen Cert.Words
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (V : PoolV F) (T : TblV F) (L : S65.Idx → Elt F .i32) (qT qL : PosShare TreeShare) (i : grid0.Coords) (v : BitVec 32) (hv : v.toNat ≤ 8192)
    (hTr : ∀ x, (T x : BitVec 32).toNat < 10400) (hLr : ∀ x, (L x : BitVec 32).toNat ≤ 8192)
    {h1 : (Memref.whole main_arg3 : Memref sig .tc .smem S65x128 .i32).IsWhole} {h2 : (Memref.whole main_arg4 : Memref sig .tc .smem S65 .i32).IsWhole}
    {a3 : Memref sig .tc .vmem S1x1x64x512 .bf16} {h3 : a3.IsWhole} {a4 : Memref sig .tc .vmem S1x1x64x64 .bf16} {h4 : a4.IsWhole}
    {a5 : Memref sig .tc .vmem S1x1x512 .fp8e4m3} {h5 : a5.IsWhole} {a6 : Memref sig .tc .vmem S1x1x4 .f32} {h6 : a6.IsWhole}
    {a7 : Memref sig .tc .vmem S1x1x64 .bf16} {h7 : a7.IsWhole} {h8 : (Memref.whole main_arg2 : Memref sig .tc .hbm S10400x64x656 .i8).IsWhole}
    {a9 : Memref sig .tc .vmem S1x64x512 .bf16} {h9 : a9.IsWhole} {a10 : Memref sig .tc .vmem S1x64x1 .f32} {h10 : a10.IsWhole}
    {h11 : (Memref.whole cc0_scratch0 : Memref sig .tc .vmem S2x16x64x656 .i8).IsWhole} {a0 v20 v39 : BitVec 32}
    (Xq : Vec F S1x1x64x512 .bf16) (Xr : Vec F S1x1x64x64 .bf16) (Xn : Vec F S1x1x512 .fp8e4m3) (Xs : Vec F S1x1x4 .f32) (Xk : Vec F S1x1x64 .bf16)

/-- What the loop starts from: the new token alone. -/
def init3 : A3 F := (k0_pay32 (k0_pay28 Xq) (k0_pay29 Xr) (k0_pay30 Xs) Xn Xk, k0_pay33, k0_pay34 (k0_pay30 Xs) Xn)

/-- What the loop ends with, from these blocks of the operands. -/
def Ends (a : A3 F) : Prop :=
  RunTo V T (i 0) v (k0_pay28 Xq) (k0_pay29 Xr) (init3 Xq Xr Xn Xs Xk) (nb v.toNat) a

/-- The kernel's memory between grid points but for its scratch. -/
def Mem : sProp 𝕄 := iprop(((c : Thread nD τ).loc main_arg2 ↦[Finset.univ]{fullShare} V)
  ∗ semVal ((c : Thread nD τ), .dma (dsem 0)) 0 ∗ semVal ((c : Thread nD τ), .dma (dsem 1)) 0 ∗ ((c : Thread nD τ).loc main_arg3 ↦[Finset.univ]{qT} T))

theorem begin_open (f : ScrV F) (R : sProp 𝕄) : iprop((R ∗ Mem c V T qT) ∗ Scr c f)
    ⊢ (|={Set.univ}=> iprop((R ∗ Free c V 1 f) ∗ Sx c V T qT (i 0) 0 0 (live v 0) f 0) : sProp 𝕄) := by
  unfold Mem Sx
  iintro ⟨⟨HR, HV, H0, H1, HT⟩, HS⟩
  icases (free_open c V f) $$ [HS HV H0 H1] with ⟨HA, HB⟩
  · isplitl [HS]
    · iexact HS
    · isplitl [HV]
      · iexact HV
      · isplitl [H0]
        · iexact H0
        · iexact H1
  imod (st_begin c V (pgOf T (i 0) 0) 0 (live v 0) f) $$ HA with HA
  imodintro
  isplitl [HR HB]
  · isplitl [HR]
    · iexact HR
    · iexact HB
  · isplitl [HA]
    · iexact HA
    · iexact HT

theorem close_any (n : ℕ) (hn : n < 2) (f g : ScrV F) : iprop(Free c V n g ∗ Free c V (1 - n) f) ⊢ (iprop((∃ h, Scr c h)
      ∗ ((c : Thread nD τ).loc main_arg2 ↦[Finset.univ]{fullShare} V)
      ∗ semVal ((c : Thread nD τ), .dma (dsem 0)) 0 ∗ semVal ((c : Thread nD τ), .dma (dsem 1)) 0) : sProp 𝕄) := by
  rcases (by omega : n = 0 ∨ n = 1) with rfl | rfl
  · exact free_close c V g f
  · exact BI.sep_comm.trans (free_close c V f g)

include hv in
/-- The end of the loop: everything back. -/
theorem inv_done (a : A3 F) (q : FVec F S64x512 .bf16) (qr : FVec F S64x64 .bf16) (z : A3 F) :
    (Inv c V T qT i v q qr z (nb v.toNat) a : sProp 𝕄) ⊢ |={Set.univ}=> iprop(⌜RunTo V T (i 0) v q qr z (nb v.toNat) a⌝
      ∗ (∃ h, Scr c h) ∗ Mem c V T qT ∗ ∃ W, owes (c : Thread nD τ) 0 W) := by
  have hl : live v (nb v.toNat) = 0 := by unfold live nb; omega
  unfold Inv Sx Mem
  rw [hl]
  iintro ⟨HR, HS, HF, HO⟩
  icases HS with ⟨%g, HS, HT⟩
  icases HF with ⟨%f, HF⟩
  imod (st_empty c V (pgOf T (i 0) (nb v.toNat)) (nb v.toNat % 2) 0 g rfl) $$ HS with HS
  imodintro
  icases (close_any c V (nb v.toNat % 2) (Nat.mod_lt _ (by decide)) f g) $$ [HS HF] with ⟨HA, HV, H0, H1⟩
  · isplitl [HS]
    · iexact HS
    · iexact HF
  isplitl [HR]
  · iexact HR
  · isplitl [HA]
    · iexact HA
    · isplitr [HO]
      · isplitl [HV]
        · iexact HV
        · isplitl [H0]
          · iexact H0
          · isplitl [H1]
            · iexact H1
            · iexact HT
      · iexact HO

include hLr in
/-- The read of the sequence's length. -/
theorem wp_part13 : ((c : Thread nD τ).loc main_arg4 ↦[Finset.univ]{qL} L : sProp 𝕄) ⊢ WP c
      (k0_part13 (F := F) i (Memref.whole main_arg3) h1 (Memref.whole main_arg4) h2 a3 h3 a4 h4 a5 h5 a6 h6 a7 h7 (Memref.whole main_arg2) h8 a9 h9 a10 h10 (Memref.whole cc0_scratch0) h11 cc0_scratch1)
      (fun r => iprop(⌜r.2.1 = lenOf L (i 0) ∧ r.1 = BitVec.ofNat 32 (i 0).val⌝ ∗ ((c : Thread nD τ).loc main_arg4 ↦[Finset.univ]{qL} L))) := by
  rw [k0_part13_eq_skeleton]
  unfold k0_part13_skel WP
  iintro HT
  rw [wp_bind]
  unfold smemLoad
  iapply (wp_smemLoadElt Variants.none (c : Thread nD τ) none Set.univ (m := Memref.whole main_arg4) (f := L) (S := Finset.univ) (q := qL)
      (r := Rect.unit (s := S65) (k0_off1 i) S1.size (k0_off1_inb i)) (Finset.subset_univ _)) $$ HT
  iintro HT
  rw [len_read L i, wp_ret]
  imodintro
  rw [wp_bind]
  iapply (wp_assume Variants.none (c : Thread nD τ) none Set.univ (chk17 i (hLr (ix1 (i 0)))))
  erw [wp_ret]
  imodintro
  rw [wp_pure]
  imodintro
  isplitr
  · ipureintro; exact ⟨rfl, rfl⟩
  · iexact HT

include hv hTr in
/-- The scratch's first fill and the starts of the first block's pages 0 to 8. -/
theorem wp_part14 {R : sProp 𝕄} (f : ScrV F) : iprop((R ∗ Mem c V T qT) ∗ Scr c f) ⊢ WP c
      (k0_part14 (F := F) i (Memref.whole main_arg3) h1 (Memref.whole main_arg4) h2 a3 h3 a4 h4 a5 h5 a6 h6 a7 h7 (Memref.whole main_arg2) h8 a9 h9 a10 h10 (Memref.whole cc0_scratch0) h11 cc0_scratch1 a0 v v20)
      (fun _ => iprop(∃ f, (R ∗ Free c V 1 f) ∗ Sx c V T qT (i 0) 0 0 (live v 0) f 9)) := by
  rw [k0_part14_eq_skeleton]
  unfold k0_part14_skel WP
  refine wp_initK c f (fun f => ?_)
  refine wp_open c (begin_open c V T qT i v f R) ?_
  iterate 9
    refine wp_firstK c V T qT i v hv f hTr _ (by decide) (hP := fun h w hc => hc.1 h) (fun w hw => ⟨fun _ => page_inb hw, fun _ hi => page_words hi⟩) ?_
  refine wp_done (F := F) c _ _ _ ?_
  iintro H
  iexists f
  iexact H

include hv hTr in
/-- The starts of the first block's pages 9 to 15 and the loads of the queries and the new token's scales. -/
theorem wp_part15 {R : sProp 𝕄} (f : ScrV F) : iprop(((R ∗ owns (c : Thread nD τ) a3 fullShare Xq ∗ owns (c : Thread nD τ) a4 fullShare Xr ∗ owns (c : Thread nD τ) a6 fullShare Xs) ∗ Free c V 1 f) ∗ Sx c V T qT (i 0) 0 0 (live v 0) f 9) ⊢ WP c
      (k0_part15 (F := F) i (Memref.whole main_arg3) h1 (Memref.whole main_arg4) h2 a3 h3 a4 h4 a5 h5 a6 h6 a7 h7 (Memref.whole main_arg2) h8 a9 h9 a10 h10 (Memref.whole cc0_scratch0) h11 cc0_scratch1 a0 v v20)
      (fun r => iprop(⌜r = ⟨k0_pay28 Xq, k0_pay29 Xr, k0_pay30 Xs⟩⌝ ∗ (R ∗ owns (c : Thread nD τ) a3 fullShare Xq ∗ owns (c : Thread nD τ) a4 fullShare Xr ∗ owns (c : Thread nD τ) a6 fullShare Xs)
        ∗ Free c V 1 f ∗ Sx c V T qT (i 0) 0 0 (live v 0) f 16)) := by
  rw [k0_part15_eq_skeleton]
  unfold k0_part15_skel WP
  iterate 7
    refine wp_firstK c V T qT i v hv f hTr _ (by decide) (hP := fun h w hc => hc.1 h) (fun w hw => ⟨fun _ => page_inb hw, fun _ hi => page_words hi⟩) ?_
  iintro ⟨⟨⟨HR, HQ, HK, HC⟩, HF⟩, HS⟩
  iapply (wp_loadO c (m := a3) (by decide) Xq) $$ HQ
  iintro HQ
  iapply (wp_loadO c (m := a4) (by decide) Xr) $$ HK
  iintro HK
  iapply (wp_loadO c (m := a6) (by decide) Xs) $$ HC
  iintro HC
  rw [WP, wp_pure]
  imodintro
  isplitr
  · ipureintro; rfl
  · isplitr [HF HS]
    · isplitl [HR]
      · iexact HR
      · isplitl [HQ]
        · iexact HQ
        · isplitl [HK]
          · iexact HK
          · iexact HC
    · isplitl [HF]
      · iexact HF
      · iexact HS
include hv hTr in
/-- The loop over the blocks, from the first block's pages in flight. -/
theorem wp_part16 {hw} {R : sProp 𝕄} (f : ScrV F) : iprop((((R ∗ owns (c : Thread nD τ) a5 fullShare Xn ∗ owns (c : Thread nD τ) a7 fullShare Xk)
      ∗ Free c V 1 f) ∗ Sx c V T qT (i 0) 0 0 (live v 0) f 16) ∗ ∃ W, owes (c : Thread nD τ) 0 W) ⊢ WP c
      (k0_part16 (F := F) i (Memref.whole main_arg3) h1 (Memref.whole main_arg4) h2 a3 h3 a4 h4 a5 h5 a6 h6 a7 h7 (Memref.whole main_arg2) h8 a9 h9 a10 h10 (Memref.whole cc0_scratch0) h11 cc0_scratch1 a0 v hw v20 v39 (k0_pay28 Xq) (k0_pay29 Xr) (k0_pay30 Xs))
      (fun r => iprop(⌜Ends V T i v Xq Xr Xn Xs Xk (r.2.1, r.2.2.1, r.2.2.2)⌝ ∗ ((R ∗ owns (c : Thread nD τ) a5 fullShare Xn ∗ owns (c : Thread nD τ) a7 fullShare Xk)
        ∗ (∃ h, Scr c h) ∗ Mem c V T qT ∗ ∃ W, owes (c : Thread nD τ) 0 W))) := by
  rw [k0_part16_eq_skeleton]
  unfold k0_part16_skel
  iintro ⟨⟨⟨⟨HR, HN, HK⟩, HF⟩, HS⟩, HO⟩
  iapply (wp_loadO c (m := a5) (by decide) Xn) $$ HN
  iintro HN
  iapply (wp_loadO c (m := a7) (by decide) Xk) $$ HK
  iintro HK
  iapply (Scf.wp_for_bind _ _ _ _ _ _ _ _ _ (fun t a => Inv c V T qT i v (k0_pay28 Xq) (k0_pay29 Xr) (init3 Xq Xr Xn Xs Xk) t a)
    (fun t a => wp_trip c V T qT i v hv hTr (k0_pay28 Xq) (k0_pay29 Xr) (init3 Xq Xr Xn Xs Xk) t a)) $$ [HF HS HO]
  · unfold Inv
    isplitr
    · ipureintro; rfl
    · isplitl [HS]
      · iexists f; iexact HS
      · isplitl [HF]
        · iexists f; iexact HF
        · iexact HO
  iintro %a HI
  rw [show Scf.trips _ _ _ = _ from t1_trips hv]
  obtain ⟨a1, a2, a3'⟩ := a
  rw [wp_pure]
  imod (inv_done c V T qT i v hv _ (k0_pay28 Xq) (k0_pay29 Xr) (init3 Xq Xr Xn Xs Xk)) $$ HI with ⟨%HE, HA, HM, HO⟩
  imodintro
  isplitr
  · ipureintro; exact HE
  · isplitl [HR HN HK]
    · isplitl [HR]
      · iexact HR
      · isplitl [HN]
        · iexact HN
        · iexact HK
    · isplitl [HA]
      · iexact HA
      · isplitl [HM]
        · iexact HM
        · iexact HO

include hTr hLr in
/-- The kernel at one grid point: the inputs' blocks stay, the outputs' blocks become the loop's end, divided and
    in logarithms, and the memory between points is as it was. -/
theorem wp_body (Yo : Vec F S1x64x512 .bf16) (Yl : Vec F S1x64x1 .f32) :
    iprop((∃ f, Scr c f) ∗ Mem c V T qT ∗ ((c : Thread nD τ).loc main_arg4 ↦[Finset.univ]{qL} L) ∗ (∃ W, owes (c : Thread nD τ) 0 W)
      ∗ owns (c : Thread nD τ) a3 fullShare Xq ∗ owns (c : Thread nD τ) a4 fullShare Xr ∗ owns (c : Thread nD τ) a5 fullShare Xn
      ∗ owns (c : Thread nD τ) a6 fullShare Xs ∗ owns (c : Thread nD τ) a7 fullShare Xk ∗ owns (c : Thread nD τ) a9 fullShare Yo ∗ owns (c : Thread nD τ) a10 fullShare Yl) ⊢ WP c
      (cc0_mla_decode (F := F) i (Memref.whole main_arg3) h1 (Memref.whole main_arg4) h2 a3 h3 a4 h4 a5 h5 a6 h6 a7 h7 (Memref.whole main_arg2) h8 a9 h9 a10 h10 (Memref.whole cc0_scratch0) h11 cc0_scratch1)
      (fun _ => iprop((∃ f, Scr c f) ∗ Mem c V T qT ∗ ((c : Thread nD τ).loc main_arg4 ↦[Finset.univ]{qL} L) ∗ (∃ W, owes (c : Thread nD τ) 0 W)
      ∗ owns (c : Thread nD τ) a3 fullShare Xq ∗ owns (c : Thread nD τ) a4 fullShare Xr ∗ owns (c : Thread nD τ) a5 fullShare Xn
      ∗ owns (c : Thread nD τ) a6 fullShare Xs ∗ owns (c : Thread nD τ) a7 fullShare Xk
      ∗ ∃ a, ⌜Ends V T i (lenOf L (i 0)) Xq Xr Xn Xs Xk a⌝ ∗ owns (c : Thread nD τ) a9 fullShare (k0_pay3 a.2.1 a.2.2) ∗ owns (c : Thread nD τ) a10 fullShare (k0_pay4 a.1 a.2.1))) := by
  rw [cc0_mla_decode_eq_skeleton]
  unfold cc0_mla_decode_skel WP
  iintro ⟨⟨%f, HF⟩, HM, HL, HO, HQ, HR, HN, HS, HK, HY, HZ⟩
  rw [wp_bind]
  ihave HW := (wp_part13 c L qL i hLr) $$ HL
  iapply (wp_wand_r _ _ _)
  isplitl [HW]
  · iexact HW
  iintro %r ⟨%he, HL⟩
  obtain ⟨b0, w, hw, w20, w39⟩ := r
  obtain ⟨he, -⟩ := he
  dsimp only at he
  subst he
  have hv := hLr (ix1 (i 0))
  rw [wp_bind]
  ihave HW := (wp_part14 c V T qT i (lenOf L (i 0)) hv hTr (R := iprop(⌜True⌝)) f) $$ [HM HF]
  · isplitl [HM]
    · isplitr
      · ipureintro; trivial
      · iexact HM
    · iexact HF
  iapply (wp_wand_r _ _ _)
  isplitl [HW]
  · iexact HW
  iintro %_ ⟨%g, ⟨-, HF⟩, HX⟩
  rw [wp_bind]
  ihave HW := (wp_part15 c V T qT i (lenOf L (i 0)) hv hTr Xq Xr Xs (R := iprop(⌜True⌝)) g) $$ [HQ HR HS HF HX]
  · isplitr [HX]
    · isplitr [HF]
      · isplitr
        · ipureintro; trivial
        · isplitl [HQ]
          · iexact HQ
          · isplitl [HR]
            · iexact HR
            · iexact HS
      · iexact HF
    · iexact HX
  iapply (wp_wand_r _ _ _)
  isplitl [HW]
  · iexact HW
  iintro %r ⟨%hr, ⟨-, HQ, HR, HS⟩, HF, HX⟩
  subst hr
  rw [wp_bind]
  ihave HW := (wp_part16 c V T qT i (lenOf L (i 0)) hv hTr Xq Xr Xn Xs Xk (R := iprop(⌜True⌝)) g) $$ [HN HK HF HX HO]
  · isplitr [HO]
    · isplitr [HX]
      · isplitr [HF]
        · isplitr
          · ipureintro; trivial
          · isplitl [HN]
            · iexact HN
            · iexact HK
        · iexact HF
      · iexact HX
    · iexact HO
  iapply (wp_wand_r _ _ _)
  isplitl [HW]
  · iexact HW
  iintro %r ⟨%hr, ⟨-, HN, HK⟩, HF, HM, HO⟩
  obtain ⟨w143, b1, b2, b3⟩ := r
  dsimp only at hr
  iapply (Scf.wp_for_bind _ _ _ _ _ _ _ _ _ (fun _ a => (iprop(⌜a = (b1, b2, b3)⌝) : sProp 𝕄))
    (fun t _ => (t2_none t).elim)) $$ []
  · ipureintro; rfl
  iintro %a %ha
  subst ha
  iapply (wp_loadO c (m := a9) (by decide) Yo) $$ HY
  iintro HY
  iapply (wp_storeO c (m := a9) (by decide) _ Yo) $$ HY
  iintro HY
  iapply (wp_loadO c (m := a10) (by decide) Yl) $$ HZ
  iintro HZ
  iapply (wp_storeO c (m := a10) (by decide) _ Yl) $$ HZ
  iintro HZ
  rw [WP, wp_pure]
  imodintro
  isplitl [HF]
  · iexact HF
  isplitl [HM]
  · iexact HM
  isplitl [HL]
  · iexact HL
  isplitl [HO]
  · iexact HO
  isplitl [HQ]
  · iexact HQ
  isplitl [HR]
  · iexact HR
  isplitl [HN]
  · iexact HN
  isplitl [HS]
  · iexact HS
  isplitl [HK]
  · iexact HK
  iexists (b1, b2, b3)
  isplitr
  · ipureintro; exact hr
  isplitl [HY]
  · iexact HY
  · iexact HZ
end

end Cert.Kernel.Hand
-- ==== Proof.K.Launch.lean ====
/- Hand-written, untrusted. The kernel launched: its run from any memory whose tables are in range. -/
module

public import proofs.«01_k».proof.Proof.K.Body

@[expose] public section

noncomputable section

namespace Cert.Kernel.Hand

open Cert.Kernel Cert.Kernel.Gen Cert.Words
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

/-- The tables the region reads. -/
def adm : (p : Fin 1) → (pcfgs (F := F) p).Adm := fun _ => ⟨fun k => V m 0 (pre0.ref k), trivial⟩

abbrev cfgM : Pipeline.Cfg sig Λ₀ := cfg0 (adm m 0)

theorem hmain : Pipeline.HMainP (Ix := Unit) (Name := ℕ) (U := Pipeline.UD sig nD τ) (Lvl := ℕ) (pcfgs (F := F)) 0 defs₀ Variants.none m (main (F := F)) (V m) :=
  Pipeline.hmainP_region (pcfgs (F := F)) 0 defs₀ Variants.none m main fun c => (main_chain c).trans rfl

/-- The body's two cells. -/
abbrev osem0 : Fin 2 → SemLoc sig := fun j => (![SemLoc.dma 14, SemLoc.dma 15] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 14) 0 ∗ semVal ((c : Thread nD τ), SemLoc.dma 15) 0) := by
  rw [Pipeline.ownSems0_eq_of_list c osem0 [0, 1] (by decide) (by decide)]; rfl
def H0 : Finset (Ref sig .tc) := {main_arg2}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = iprop((c : Thread nD τ).loc main_arg2 ↦{fullShare} V m c main_arg2) := by
  rw [BI.bigSep_eq_bigSepL_of_eq [main_arg2] (by decide) (by decide)]; rfl
theorem tables_eq (c : Dev nD) :
    (Pipeline.ΦT (U := Pipeline.UD sig nD τ) pre0 (adm m 0).1 c : sProp 𝕄)
      = iprop(((c : Thread nD τ).loc main_arg3 ↦{fullShare.right} V m 0 main_arg3) ∗ ((c : Thread nD τ).loc main_arg4 ↦{fullShare.right} V m 0 main_arg4)) := by
  unfold Pipeline.ΦT Pipeline.prefHeld
  rw [bigSep_univ_eq_bigSepL [(0 : Fin 2), (1 : Fin 2)] (by decide) (by decide)]; rfl

/-- The memory between grid points. -/
def Phi (c : Dev nD) : sProp 𝕄 := iprop(Pipeline.ΦD osem0 spec0 H0 (V m) c ∗ Pipeline.ΦT (U := Pipeline.UD sig nD τ) pre0 (adm m 0).1 c)

/-- The region's data that names every block the body is handed. -/
def rd0 (c : Dev nD) : Pipeline.RDat τ (Elt F) Unit ℕ (Pipeline.UD sig nD τ) ℕ (cfgM m) c where
  A := fun w => V m c (Pipeline.arrRef spec0 w)
  after := fun _ _ Y X => X = Y
  Φ := fun _ => Phi m c
  q := fun _ => fullShare
  owed := fun _ => 0

/-- At a grid point: some blocks the body may be handed, and what the loop ends with from them. -/
def Got (c : Dev nD) (t : Fin (cfgM m).N) (a : A3 F) : Prop :=
  ∃ Y : (w : Fin (cfgM m).W) → ((cfgM m).win w).block.Idx → Elt F ((cfgM m).win w).elt, (∀ w : Fin 7, w.val < 5 → (rd0 m c).Finds w t (Y w))
    ∧ Ends (V m c main_arg2) (V m 0 main_arg3) (grid0.coords t) (lenOf (V m 0 main_arg4) ((grid0.coords t) 0)) (Y 0) (Y 1) (Y 2) (Y 3) (Y 4) a

/-- What the body leaves in a window's buffer: an input's as found, an output's by the loop's end. -/
def aft (c : Dev nD) : (w : Fin 7) → Fin (cfgM m).N → (Y X : ((cfgM m).win w).block.Idx → Elt F ((cfgM m).win w).elt) → Prop
  | 0 => fun _ Y X => X = Y
  | 1 => fun _ Y X => X = Y
  | 2 => fun _ Y X => X = Y
  | 3 => fun _ Y X => X = Y
  | 4 => fun _ Y X => X = Y
  | 5 => fun t _ X => ∃ a, Got m c t a ∧ X = k0_pay3 a.2.1 a.2.2
  | 6 => fun t _ X => ∃ a, Got m c t a ∧ X = k0_pay4 a.1 a.2.1
  | ⟨_ + 7, h⟩ => absurd h (Nat.not_lt.2 (Nat.le_add_left _ _))

/-- The region's data. -/
def rd (c : Dev nD) : Pipeline.RDat τ (Elt F) Unit ℕ (Pipeline.UD sig nD τ) ℕ (cfgM m) c where
  A := fun w => V m c (Pipeline.arrRef spec0 w)
  after := aft m c
  Φ := fun _ => Phi m c
  q := fun _ => fullShare
  owed := fun _ => 0

theorem finds_in (c : Dev nD) (w : Fin 7) (hw : w.val < 5) (t : Fin (cfgM m).N) (X) : (rd m c).Finds w t X ↔ (rd0 m c).Finds w t X := by
  refine Pipeline.RDat.finds_congr (rd := rd0 m c) (rd' := rd m c) rfl ?_ t X
  match w, hw with
  | 0, _ => rfl
  | 1, _ => rfl
  | 2, _ => rfl
  | 3, _ => rfl
  | 4, _ => rfl

theorem mix {S P A B V T L : sProp 𝕄} : iprop((S ∗ P ∗ (A ∗ B) ∗ V) ∗ T ∗ L) ⊢ iprop(P ∗ S ∗ (V ∗ A ∗ B ∗ T) ∗ L) := by
  iintro ⟨⟨HS, HP, ⟨H0, H1⟩, HV⟩, HT, HL⟩
  isplitl [HP]
  · iexact HP
  isplitl [HS]
  · iexact HS
  isplitr [HL]
  · isplitl [HV]
    · iexact HV
    isplitl [H0]
    · iexact H0
    isplitl [H1]
    · iexact H1
    · iexact HT
  · iexact HL

theorem unmix {S P A B V T L : sProp 𝕄} : iprop(P ∗ S ∗ (V ∗ A ∗ B ∗ T) ∗ L) ⊢ iprop((S ∗ P ∗ (A ∗ B) ∗ V) ∗ T ∗ L) := by
  iintro ⟨HP, HS, ⟨HV, H0, H1, HT⟩, HL⟩
  isplitl [HP HS HV H0 H1]
  · isplitl [HS]
    · iexact HS
    isplitl [HP]
    · iexact HP
    isplitr [HV]
    · isplitl [H0]
      · iexact H0
      · iexact H1
    · iexact HV
  · isplitl [HT]
    · iexact HT
    · iexact HL

/-- The memory between grid points, piece by piece. -/
theorem Phi_eq (c : Dev nD) : (Phi m c : sProp 𝕄) = iprop((∃ r, prngReg c r) ∗ (∃ f, Scr c f) ∗ Mem c (V m c main_arg2) (V m 0 main_arg3) fullShare.right
    ∗ ((c : Thread nD τ).loc main_arg4 ↦[Finset.univ]{fullShare.right} V m 0 main_arg4)) := by
  unfold Phi Mem
  rw [Pipeline.ΦD_eq, scopedRest0_eq, ownSems00_eq, hbmPts0_eq, tables_eq]
  exact Entails.antisymm mix unmix

/-- The windows' buffers, one by one. -/
theorem stages_eq (Φ : Fin 7 → sProp 𝕄) : (bigSep Finset.univ Φ : sProp 𝕄)
    = iprop(Φ 0 ∗ Φ 1 ∗ Φ 2 ∗ Φ 3 ∗ Φ 4 ∗ Φ 5 ∗ Φ 6) := bigSep_W0 Φ

/-- Into the order the kernel's triple takes. -/
theorem into {P S M L O A B C D E' G H : sProp 𝕄} : iprop((P ∗ S ∗ M ∗ L) ∗ O ∗ A ∗ B ∗ C ∗ D ∗ E' ∗ G ∗ H)
    ⊢ iprop(P ∗ S ∗ M ∗ L ∗ O ∗ A ∗ B ∗ C ∗ D ∗ E' ∗ G ∗ H) := by
  iintro ⟨⟨HP, HS, HM, HL⟩, HO, HA⟩
  isplitl [HP]
  · iexact HP
  isplitl [HS]
  · iexact HS
  isplitl [HM]
  · iexact HM
  isplitl [HL]
  · iexact HL
  isplitl [HO]
  · iexact HO
  · iexact HA

theorem keep {β : Type} (y : β) (A : β → sProp 𝕄) : A y ⊢ iprop(∃ x, ⌜x = y⌝ ∗ A x) := by
  iintro H
  iexists y
  isplitr
  · ipureintro; rfl
  · iexact H

theorem give {β : Type} (x : β) {φ : β → Prop} (h : φ x) (A : β → sProp 𝕄) : A x ⊢ iprop(∃ x, ⌜φ x⌝ ∗ A x) := by
  iintro H
  iexists x
  isplitr
  · ipureintro; exact h
  · iexact H

theorem owes_in (c : Dev nD) {B : Set (SemLoc sig × Unit)} : (Pipeline.owesWithin c 0 B : sProp 𝕄) ⊢ iprop(∃ W, owes (c : Thread nD τ) 0 W) := by
  unfold Pipeline.owesWithin
  iintro ⟨%W, %hW, HO⟩
  iexists W
  iexact HO

theorem owes_out (c : Dev nD) {B : Set (SemLoc sig × Unit)} (hB : ∀ x, x ∈ B) : iprop(∃ W, owes (c : Thread nD τ) 0 W) ⊢ (Pipeline.owesWithin c 0 B : sProp 𝕄) := by
  unfold Pipeline.owesWithin
  iintro ⟨%W, HO⟩
  iexists W
  isplitr
  · ipureintro; exact fun _ _ => hB _
  · iexact HO

/-- Back from the order the kernel's triple leaves. -/
theorem outof {α : Type} {P S M L O O' A B C D E' A' B' C' D' E'' G' H' : sProp 𝕄} {φ : α → Prop} {G H : α → sProp 𝕄}
    (hO : O ⊢ O') (hA : A ⊢ A') (hB : B ⊢ B') (hC : C ⊢ C') (hD : D ⊢ D') (hE : E' ⊢ E'') (hG : ∀ a, φ a → (G a ⊢ G')) (hH : ∀ a, φ a → (H a ⊢ H')) :
    iprop(P ∗ S ∗ M ∗ L ∗ O ∗ A ∗ B ∗ C ∗ D ∗ E' ∗ ∃ a, ⌜φ a⌝ ∗ G a ∗ H a) ⊢ iprop((P ∗ S ∗ M ∗ L) ∗ O' ∗ A' ∗ B' ∗ C' ∗ D' ∗ E'' ∗ G' ∗ H') := by
  iintro ⟨HP, HS, HM, HL, HO, HA, HB, HC, HD, HE, %a, %ha, HG, HH⟩
  isplitl [HP HS HM HL]
  · isplitl [HP]
    · iexact HP
    isplitl [HS]
    · iexact HS
    isplitl [HM]
    · iexact HM
    · iexact HL
  isplitl [HO]
  · iapply hO $$ HO
  isplitl [HA]
  · iapply hA $$ HA
  isplitl [HB]
  · iapply hB $$ HB
  isplitl [HC]
  · iapply hC $$ HC
  isplitl [HD]
  · iapply hD $$ HD
  isplitl [HE]
  · iapply hE $$ HE
  isplitl [HG]
  · iapply (hG a ha) $$ HG
  · iapply (hH a ha) $$ HH

theorem owesO {c : Dev nD} {B : Set (SemLoc sig × Unit)} {P Q : sProp 𝕄} : iprop(P ∗ Pipeline.owesWithin c 0 B ∗ Q) ⊢ iprop(P ∗ (∃ W, owes (c : Thread nD τ) 0 W) ∗ Q) := by
  iintro ⟨HP, HO, HQ⟩
  isplitl [HP]
  · iexact HP
  isplitl [HO]
  · iapply (owes_in c) $$ HO
  · iexact HQ

/-- The body meets the region's obligation. -/
theorem body_ob (hTr : ∀ x, (V m 0 main_arg3 x : BitVec 32).toNat < 10400) (hLr : ∀ x, (V m 0 main_arg4 x : BitVec 32).toNat ≤ 8192)
    (c : Dev nD) : (rd m c).BodyObligation defs₀ Variants.none () Set.univ := by
  intro t Y hY
  have hF : ∀ w : Fin 7, w.val < 5 → (rd0 m c).Finds w t (Y w) := fun w hw => (finds_in m c w hw t _).1 (hY w)
  have hb := wp_framed c (R := iprop(∃ r, prngReg c r)) (wp_body (F := F) c (V m c main_arg2) (V m 0 main_arg3) (V m 0 main_arg4) fullShare.right fullShare.right (grid0.coords t) hTr hLr
    (h1 := Memref.isWhole_whole _) (h2 := Memref.isWhole_whole _) (h8 := Memref.isWhole_whole _) (h11 := Memref.isWhole_whole _)
    (h3 := hstage0_0 (((cfgM m).slots t 0).cast nbuf0_0)) (h4 := hstage0_1 (((cfgM m).slots t 1).cast nbuf0_1))
    (h5 := hstage0_2 (((cfgM m).slots t 2).cast nbuf0_2)) (h6 := hstage0_3 (((cfgM m).slots t 3).cast nbuf0_3))
    (h7 := hstage0_4 (((cfgM m).slots t 4).cast nbuf0_4)) (h9 := hstage0_5 (((cfgM m).slots t 5).cast nbuf0_5)) (h10 := hstage0_6 (((cfgM m).slots t 6).cast nbuf0_6))
    (Y 0) (Y 1) (Y 2) (Y 3) (Y 4) (Y 5) (Y 6))
  refine BI.Entails.trans ?_ (hb.trans (wp_mono _ _ _ fun _ => ?_))
  · show iprop(Phi m c ∗ Pipeline.owesWithin c 0 _ ∗ bigSep Finset.univ fun w : Fin 7 => owns (c : Thread nD τ) (((cfgM m).win w).stage ((cfgM m).slots t w)) fullShare (Y w)) ⊢ _
    rw [Phi_eq, stages_eq]
    exact owesO.trans into
  · show _ ⊢ iprop(Phi m c ∗ Pipeline.owesWithin c 0 _ ∗ bigSep Finset.univ fun w : Fin 7 => iprop(∃ X, ⌜aft m c w t (Y w) X⌝ ∗ owns (c : Thread nD τ) (((cfgM m).win w).stage ((cfgM m).slots t w)) fullShare X))
    rw [Phi_eq, stages_eq]
    exact outof (owes_out c fun _ => Or.inl trivial) (keep (Y 0) _) (keep (Y 1) _) (keep (Y 2) _) (keep (Y 3) _) (keep (Y 4) _)
      (fun a ha => give (k0_pay3 a.2.1 a.2.2) ⟨a, ⟨Y, hF, ha⟩, rfl⟩ _) (fun a ha => give (k0_pay4 a.1 a.2.1) ⟨a, ⟨Y, hF, ha⟩, rfl⟩ _)

/-- The run: every window's array at what the region's data say, every other unscoped buffer as launched, every counter at zero. -/
theorem run_main (hTr : ∀ x, (V m 0 main_arg3 x : BitVec 32).toNat < 10400) (hLr : ∀ x, (V m 0 main_arg4 x : BitVec 32).toNat ≤ 8192) :
    θ_run defs (onTc (τ := τ) (main (F := F))) ⟨m, fun _ => 0, ρ⟩ (fun r => Pipeline.RDat.FramePost (cfgM m) (rd m) (V m) r ∧ r.2.sem = fun _ => 0) :=
  Pipeline.RDat.θ_run_frameP_dma (pcfgs (F := F)) (adm m) 0 launch0 osem0 defs₀ Variants.none (rd m) ownSemFacts0 H0 H0_sub m ρ main
    (fun c => body_ob m hTr hLr c) (fun c w => by unfold Pipeline.RDat.share; split <;> rfl) (fun _ _ => rfl) (V m) (hmain m) (fun _ _ => rfl)
    (fun c k => by rw [Subsingleton.elim c 0]; rfl) (fun c => .rfl)
    (fun c => by
      show Phi m c ⊢ _
      unfold Phi
      iintro ⟨H, -⟩
      iexact H) _ (fun _ h => h)

/-- The frame: the eight argument arrays end as launched. -/
theorem frame (hTr : ∀ x, (V m 0 main_arg3 x : BitVec 32).toNat < 10400) (hLr : ∀ x, (V m 0 main_arg4 x : BitVec 32).toNat ≤ 8192) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨h.1.arr_in c 0 rfl, h.1.arr_in c 1 rfl,
      (h.1 c).2 main_arg2 (Pipeline.mem_restRefs_of main_arg2 (by decide) (show ∀ w : Fin 7, (spec0 w).arr.view.ref ≠ main_arg2 by decide)),
      (h.1 c).2 main_arg3 (Pipeline.mem_restRefs_of main_arg3 (by decide) (show ∀ w : Fin 7, (spec0 w).arr.view.ref ≠ main_arg3 by decide)),
      (h.1 c).2 main_arg4 (Pipeline.mem_restRefs_of main_arg4 (by decide) (show ∀ w : Fin 7, (spec0 w).arr.view.ref ≠ main_arg4 by decide)),
      h.1.arr_in c 2 rfl, h.1.arr_in c 3 rfl, h.1.arr_in c 4 rfl⟩, h.2⟩) (run_main m ρ hTr hLr)

end Cert.Kernel.Hand
-- ==== Proof.KI.Chk.lean ====
/- Hand-written, untrusted. The side conditions the kernel's body assumes of the words it reads — the length of a
   request, the number of a page — proved of every length up to 8192 and of every page number below 10400. -/
module

public import proofs.«01_k».proof.Proof.Words
public import proofs.«01_k».proof.Proof.Gen.KernelIdeal
public import Idealize.ShloMosaic.Lib.Affine

@[expose] public section

namespace Cert.KernelIdeal.Hand

open Cert.KernelIdeal Cert.KernelIdeal.Gen Cert.Words
open Idealize.ShloMosaic

/-- The loop over the blocks runs as many trips as there are blocks. -/
theorem t1_trips {v1 : BitVec 32} (hv : v1.toNat ≤ 8192) : (k0_t1_loop v1).trips = nb v1.toNat := by
  have e : (k0_t1_loop v1).trips = Scf.trips 0#32
    (Scalar.addi 0#32 (Scalar.muli (Scalar.divsi (Scalar.subi (nbW (npW v1)) 0#32) 1#32) 1#32)) 1#32 := rfl
  have := nb_le hv
  rw [e, ub_eq, nbW_of hv, trips_ofNat (by omega)]

theorem t1_ok {v1 : BitVec 32} (hv : v1.toNat ≤ 8192) : (k0_t1_loop v1).OK := by
  have e : (k0_t1_loop v1).OK = Scf.OK 0#32
    (Scalar.addi 0#32 (Scalar.muli (Scalar.divsi (Scalar.subi (nbW (npW v1)) 0#32) 1#32) 1#32)) 1#32 := rfl
  have := nb_le hv
  rw [e, ub_eq, nbW_of hv]; exact ok_ofNat (by omega)

/-- The loop over what is left of the blocks never runs. -/
theorem t2_none {v1 : BitVec 32} (k : Fin (k0_t2_loop v1).trips) : False :=
  Scf.rem_no_trip 0#32 (Scalar.subi (nbW (npW v1)) 0#32) k

theorem t1_lt {v1 : BitVec 32} (hv : v1.toNat ≤ 8192) (t : Fin (k0_t1_loop v1).trips) : t.val < nb v1.toNat :=
  Nat.lt_of_lt_of_eq t.isLt (t1_trips hv)

theorem t1_lt8 {v1 : BitVec 32} (hv : v1.toNat ≤ 8192) (t : Fin (k0_t1_loop v1).trips) : t.val < 8 :=
  Nat.lt_of_lt_of_le (t1_lt hv t) (nb_le hv)

/-- A live page's entry of the table lies inside the table. -/
theorem tab_inb (i : grid0.Coords) {v1 : BitVec 32} (hv : v1.toNat ≤ 8192) {t : Nat} (ht : t < 8) (j : Nat) (hj : j < 16)
    (h : condW (pw t j) (npW v1) = 1#1) (a : Fin 2) :
    (![(Scalar.indexCast (BitVec.ofNat 32 (i 0).val)).toNat, (Scalar.indexCast (pw t j)).toNat] : Fin 2 → Nat) a + S1x1.size a ≤ S65x128.size a := by
  have h' := (cond_pw hv ht hj).1 h
  have := np_le hv
  have hi : (i 0).val < 65 := (i 0).isLt
  match a with
  | ⟨0, _⟩ =>
    show (BitVec.ofNat 32 (i 0).val).toNat + 1 ≤ 65
    rw [toNat_ofNat (by omega)]; omega
  | ⟨1, _⟩ =>
    show (pw t j).toNat + 1 ≤ 128
    rw [pw_eq, toNat_ofNat (by omega)]; omega

theorem sem_inb {x : BitVec 32} (h : x.toNat ≤ 1) (a : Fin 1) : (![x.toNat] : Fin 1 → Nat) a + S1.size a ≤ S2.size a := by
  match a with
  | ⟨0, _⟩ => show x.toNat + 1 ≤ 2; omega

theorem win_inb {x : BitVec 32} (h : x.toNat ≤ 1) (j : Nat) (hj : j < 16) (a : Fin 4) :
    (![x.toNat, j, 0, 0] : Fin 4 → Nat) a + S1x1x64x656.size a ≤ S2x16x64x656.size a := by
  match a with
  | ⟨0, _⟩ => show x.toNat + 1 ≤ 2; omega
  | ⟨1, _⟩ => show j + 1 ≤ 16; omega
  | ⟨2, _⟩ => show 0 + 64 ≤ 64; omega
  | ⟨3, _⟩ => show 0 + 656 ≤ 656; omega

theorem slot_inb {x : BitVec 32} (h : x.toNat ≤ 1) (a : Fin 4) :
    (![x.toNat, 0, 0, 0] : Fin 4 → Nat) a + S1x16x64x656.size a ≤ S2x16x64x656.size a := by
  match a with
  | ⟨0, _⟩ => show x.toNat + 1 ≤ 2; omega
  | ⟨1, _⟩ => show 0 + 16 ≤ 16; omega
  | ⟨2, _⟩ => show 0 + 64 ≤ 64; omega
  | ⟨3, _⟩ => show 0 + 656 ≤ 656; omega

theorem page_inb {w : BitVec 32} (h : w.toNat < 10400) (a : Fin 3) :
    (![w.toNat, 0, 0] : Fin 3 → Nat) a + S1x64x656.size a ≤ S10400x64x656.size a := by
  match a with
  | ⟨0, _⟩ => exact Nat.succ_le_of_lt h
  | ⟨1, _⟩ => show 0 + 64 ≤ 64; omega
  | ⟨2, _⟩ => show 0 + 656 ≤ 656; omega

theorem sl_le {t : Nat} (ht : t < 8) : (slW t).toNat ≤ 1 := by rw [slW_toNat (by omega)]; omega
theorem ot_le {t : Nat} (ht : t < 8) : (otW t).toNat ≤ 1 := by rw [otW_toNat (by omega)]; omega

theorem t2_ok {v1 : BitVec 32} (hv : v1.toNat ≤ 8192) : (k0_t2_loop v1).OK := by
  have e : (k0_t2_loop v1).OK = Scf.OK
    (Scalar.addi 0#32 (Scalar.muli (Scalar.divsi (Scalar.subi (nbW (npW v1)) 0#32) 1#32) 1#32))
    (Scalar.addi 0#32 (Scalar.subi (nbW (npW v1)) 0#32)) 1#32 := rfl
  have := nb_le hv
  rw [e, ub_eq, nbW_of hv]
  generalize nb v1.toNat = n at this
  have h : ∀ n ≤ 8, Scf.OK (BitVec.ofNat 32 n) (Scalar.addi 0#32 (Scalar.subi (BitVec.ofNat 32 n) 0#32)) 1#32 := by
    decide
  exact h n this

set_option maxRecDepth 20000 in
set_option maxHeartbeats 1000000 in
theorem chk17_0 (i : grid0.Coords) {v1 : BitVec 32} (hv : v1.toNat ≤ 8192) : k0_chk17_0 i v1 := by
  unfold k0_chk17_0
  have h8 := t1_lt8 hv
  refine And.intro (t1_ok hv) ?_
  repeat' refine And.intro ?_ ?_
  all_goals first
    | with_reducible exact fun t2 => (t2_none t2).elim
    | exact fun t _ _ _ => Affine.words_rows (by decide) rfl rfl
    | exact fun t _ _ => Affine.words_rows (by decide) rfl rfl
    | exact fun t _ h a => tab_inb i hv (h8 t) _ (by decide) h a
    | exact fun t _ h a => sem_inb (ot_le (h8 t)) a
    | exact fun t _ h a => win_inb (ot_le (h8 t)) _ (by decide) a
    | exact fun t h a => sem_inb (sl_le (h8 t)) a
    | exact fun t h a => win_inb (sl_le (h8 t)) _ (by decide) a
    | exact fun t a => slot_inb (sl_le (h8 t)) a
    | exact (t2_ok hv).1
    | exact (t2_ok hv).2

set_option maxRecDepth 20000 in
set_option maxHeartbeats 1000000 in
theorem chk17_1 (i : grid0.Coords) {v1 : BitVec 32} (hv : v1.toNat ≤ 8192) : k0_chk17_1 i v1 := by
  unfold k0_chk17_1
  have h8 := t1_lt8 hv
  repeat' refine And.intro ?_ ?_
  all_goals first
    | with_reducible exact fun t2 => (t2_none t2).elim
    | exact fun t _ _ _ => Affine.words_rows (by decide) rfl rfl
    | exact fun t _ _ => Affine.words_rows (by decide) rfl rfl
    | exact fun t _ h a => tab_inb i hv (h8 t) _ (by decide) h a
    | exact fun t _ h a => sem_inb (ot_le (h8 t)) a
    | exact fun t _ h a => win_inb (ot_le (h8 t)) _ (by decide) a
    | exact fun t h a => sem_inb (sl_le (h8 t)) a
    | exact fun t h a => win_inb (sl_le (h8 t)) _ (by decide) a
    | exact fun t a => slot_inb (sl_le (h8 t)) a
    | exact (t2_ok hv).1
    | exact (t2_ok hv).2

set_option maxRecDepth 20000 in
set_option maxHeartbeats 1000000 in
theorem chk17_2 (i : grid0.Coords) {v1 : BitVec 32} (hv : v1.toNat ≤ 8192) : k0_chk17_2 i v1 := by
  unfold k0_chk17_2
  have h8 := t1_lt8 hv
  repeat' refine And.intro ?_ ?_
  all_goals first
    | with_reducible exact fun t2 => (t2_none t2).elim
    | exact fun t _ _ _ => Affine.words_rows (by decide) rfl rfl
    | exact fun t _ _ => Affine.words_rows (by decide) rfl rfl
    | exact fun t _ h a => tab_inb i hv (h8 t) _ (by decide) h a
    | exact fun t _ h a => sem_inb (ot_le (h8 t)) a
    | exact fun t _ h a => win_inb (ot_le (h8 t)) _ (by decide) a
    | exact fun t h a => sem_inb (sl_le (h8 t)) a
    | exact fun t h a => win_inb (sl_le (h8 t)) _ (by decide) a
    | exact fun t a => slot_inb (sl_le (h8 t)) a
    | exact (t2_ok hv).1
    | exact (t2_ok hv).2

set_option maxRecDepth 20000 in
set_option maxHeartbeats 1000000 in
theorem chk17_3 (i : grid0.Coords) {v1 : BitVec 32} (hv : v1.toNat ≤ 8192) : k0_chk17_3 i v1 := by
  unfold k0_chk17_3
  have h8 := t1_lt8 hv
  repeat' refine And.intro ?_ ?_
  all_goals first
    | with_reducible exact fun t2 => (t2_none t2).elim
    | exact fun t _ _ _ => Affine.words_rows (by decide) rfl rfl
    | exact fun t _ _ => Affine.words_rows (by decide) rfl rfl
    | exact fun t _ h a => tab_inb i hv (h8 t) _ (by decide) h a
    | exact fun t _ h a => sem_inb (ot_le (h8 t)) a
    | exact fun t _ h a => win_inb (ot_le (h8 t)) _ (by decide) a
    | exact fun t h a => sem_inb (sl_le (h8 t)) a
    | exact fun t h a => win_inb (sl_le (h8 t)) _ (by decide) a
    | exact fun t a => slot_inb (sl_le (h8 t)) a
    | exact (t2_ok hv).1
    | exact (t2_ok hv).2

set_option maxRecDepth 20000 in
theorem chk17_4 (i : grid0.Coords) {v1 : BitVec 32} : k0_chk17_4 i v1 := by
  unfold k0_chk17_4
  repeat' refine And.intro ?_ ?_
  all_goals exact fun t2 => (t2_none t2).elim

set_option maxRecDepth 20000 in
theorem chk17_5 (i : grid0.Coords) {v1 : BitVec 32} : k0_chk17_5 i v1 := by
  unfold k0_chk17_5
  repeat' refine And.intro ?_ ?_
  all_goals exact fun t2 => (t2_none t2).elim

set_option maxRecDepth 20000 in
theorem chk17_6 (i : grid0.Coords) {v1 : BitVec 32} : k0_chk17_6 i v1 := by
  unfold k0_chk17_6
  repeat' refine And.intro ?_ ?_
  all_goals exact fun t2 => (t2_none t2).elim

set_option maxRecDepth 20000 in
theorem chk17_7 (i : grid0.Coords) {v1 : BitVec 32} : k0_chk17_7 i v1 := by
  unfold k0_chk17_7
  repeat' refine And.intro ?_ ?_
  all_goals exact fun t2 => (t2_none t2).elim

/-- What the body assumes of the length of the request. -/
theorem chk17 (i : grid0.Coords) {v1 : BitVec 32} (hv : v1.toNat ≤ 8192) : k0_chk17 i v1 :=
  ⟨chk17_0 i hv, chk17_1 i hv, chk17_2 i hv, chk17_3 i hv, chk17_4 i, chk17_5 i, chk17_6 i, chk17_7 i⟩

end Cert.KernelIdeal.Hand
-- ==== Proof.KI.Slots.lean ====
/- Hand-written, untrusted. The scratch buffer's windows: page `j` of slot `s` is a window, a transfer writes the page it
   reads into it, and the windows of a slot make up the slot. -/
module

public import proofs.«01_k».proof.Proof.KI.Chk
public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.ValueKit.Geometry
public import Idealize.ShloMosaic.Lib.Batch
public import Idealize.ShloMosaic.Lib.ShareLeaves
public import Idealize.ShloMosaic.Lib.ValueLayout
public import Idealize.ShloMosaic.Lib.Tactic

@[expose] public section

noncomputable section

namespace Cert.KernelIdeal.Hand

open Cert.KernelIdeal Cert.KernelIdeal.Gen Cert.Words
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The window of the scratch at an offset. -/
abbrev winM (o : Fin 4 → ℕ) (h : ∀ a, o a + S1x1x64x656.size a ≤ S2x16x64x656.size a) : Memref sig .tc .vmem S64x656 .i8 :=
  ((Memref.whole cc0_scratch0).slice (Rect.unit (s := S2x16x64x656) o S1x1x64x656.size h) (fun _ => rfl)).squeeze S64x656 squeezes_S1x1x64x656_S64x656

/-- The page of the pool at an offset. -/
abbrev pageM (o : Fin 3 → ℕ) (h : ∀ a, o a + S1x64x656.size a ≤ S10400x64x656.size a) : Memref sig .tc .hbm S64x656 .i8 :=
  ((Memref.whole main_arg2).slice (Rect.unit (s := S10400x64x656) o S1x64x656.size h) (fun _ => rfl)).squeeze S64x656 squeezes_S1x64x656_S64x656

/-- The cell of a slot. -/
abbrev semM (o : Fin 1 → ℕ) (h : ∀ a, o a + S1.size a ≤ S2.size a) : DmaSems sig S_ :=
  (cc0_scratch1.slice (Rect.unit (s := S2) o S1.size h)).squeeze S_ squeezes_S1_S_

/-- Cell `s` as the signature numbers it. -/
def dsem (s : ℕ) : DmaSem sig := if s = 0 then 14 else 15

theorem semM_eq {s : ℕ} (hs : s ≤ 1) (h : ∀ a, (![s] : Fin 1 → ℕ) a + S1.size a ≤ S2.size a) : (semM ![s] h).sem = dsem s := by
  apply Fin.ext
  show 14 + (S2.rowMajor ((Rect.unit (s := S2) ![s] S1.size h).emb (Shape.reshapeEquiv squeezes_S1_S_.numel_eq (fun i => i.elim0)))).val = _
  rw [Shape.rowMajor_val_one, ValueKit.rect_emb_unit_val]
  have : ((Shape.reshapeEquiv squeezes_S1_S_.numel_eq (fun i => i.elim0) : S1.Idx) 0).val < 1 :=
    ((Shape.reshapeEquiv squeezes_S1_S_.numel_eq (fun i => i.elim0) : S1.Idx) 0).isLt
  have e : ((Shape.reshapeEquiv squeezes_S1_S_.numel_eq (fun i => i.elim0) : S1.Idx) 0).val = 0 := by omega
  show 14 + (s + ((Shape.reshapeEquiv squeezes_S1_S_.numel_eq (fun i => i.elim0) : S1.Idx) 0).val) = _
  rw [e]
  unfold dsem
  obtain rfl | rfl : s = 0 ∨ s = 1 := by omega
  · rfl
  · rfl

/-- The elements of window `j` of slot `s`. -/
def winSet (s j : ℕ) : Finset S2x16x64x656.Idx := Finset.univ.filter fun x => (x 0).val = s ∧ (x 1).val = j
/-- The elements of slot `s`. -/
def slotSet (s : ℕ) : Finset S2x16x64x656.Idx := Finset.univ.filter fun x => (x 0).val = s

theorem mem_winSet {s j : ℕ} {x : S2x16x64x656.Idx} : x ∈ winSet s j ↔ (x 0).val = s ∧ (x 1).val = j := by
  unfold winSet; simp
theorem mem_slotSet {s : ℕ} {x : S2x16x64x656.Idx} : x ∈ slotSet s ↔ (x 0).val = s := by
  unfold slotSet; simp

theorem slot_biUnion (s : ℕ) : (Finset.range 16).biUnion (winSet s) = slotSet s := by
  ext x
  have : (x 1).val < 16 := (x 1).isLt
  simp [mem_winSet, mem_slotSet, this]

theorem univ_biUnion : (Finset.range 2).biUnion slotSet = Finset.univ := by
  ext x
  have : (x 0).val < 2 := (x 0).isLt
  simp only [Finset.mem_biUnion, Finset.mem_range, mem_slotSet, Finset.mem_univ, iff_true]
  exact ⟨_, this, rfl⟩

theorem win_disj (s : ℕ) : ∀ i ∈ Finset.range 16, ∀ j ∈ Finset.range 16, i ≠ j → Disjoint (winSet s i) (winSet s j) := by
  intro i _ j _ hij
  rw [Finset.disjoint_left]
  intro x hx hy
  rw [mem_winSet] at hx hy
  exact hij (hx.2.symm.trans hy.2)

theorem slot_disj : ∀ i ∈ Finset.range 2, ∀ j ∈ Finset.range 2, i ≠ j → Disjoint (slotSet i) (slotSet j) := by
  intro i _ j _ hij
  rw [Finset.disjoint_left]
  intro x hx hy
  rw [mem_slotSet] at hx hy
  exact hij (hx.symm.trans hy)

theorem sq4 (k : S64x656.Idx) : Shape.reshapeEquiv squeezes_S1x1x64x656_S64x656.numel_eq k
    = ix4 (⟨0, Nat.one_pos⟩ : Fin 1) (⟨0, Nat.one_pos⟩ : Fin 1) (k 0 : Fin 64) (k 1 : Fin 656) :=
  (congrArg _ (eq_ix2 (n0 := 64) (n1 := 656) k)).trans (reshapeEquiv_ix2_11ab _ _ _)
theorem sq3 (k : S64x656.Idx) : Shape.reshapeEquiv squeezes_S1x64x656_S64x656.numel_eq k
    = ix3 (⟨0, Nat.one_pos⟩ : Fin 1) (k 0 : Fin 64) (k 1 : Fin 656) :=
  (congrArg _ (eq_ix2 (n0 := 64) (n1 := 656) k)).trans (reshapeEquiv_ix2_1ab _ _ _)

/-- The scratch index (slot, window) of an element of a page. -/
theorem win_emb {s j : ℕ} (hs : s < 2) (hj : j < 16) (h) (k : S64x656.Idx) :
    (winM ![s, j, 0, 0] h).view.emb k = ix4 (⟨s, hs⟩ : Fin 2) (⟨j, hj⟩ : Fin 16) (k 0 : Fin 64) (k 1 : Fin 656) := by
  funext a
  apply Fin.ext
  show ((Rect.unit (s := S2x16x64x656) ![s, j, 0, 0] S1x1x64x656.size h).emb (Shape.reshapeEquiv squeezes_S1x1x64x656_S64x656.numel_eq k) a : ℕ) = _
  rw [ValueKit.rect_emb_unit_val]
  rw [sq4]
  match a with
  | ⟨0, _⟩ => rfl
  | ⟨1, _⟩ => rfl
  | ⟨2, _⟩ => exact Nat.zero_add _
  | ⟨3, _⟩ => exact Nat.zero_add _

theorem page_emb {w : ℕ} (hw : w < 10400) (h) (k : S64x656.Idx) :
    (pageM ![w, 0, 0] h).view.emb k = ix3 (⟨w, hw⟩ : Fin 10400) (k 0 : Fin 64) (k 1 : Fin 656) := by
  funext a
  apply Fin.ext
  show ((Rect.unit (s := S10400x64x656) ![w, 0, 0] S1x64x656.size h).emb (Shape.reshapeEquiv squeezes_S1x64x656_S64x656.numel_eq k) a : ℕ) = _
  rw [ValueKit.rect_emb_unit_val]
  rw [sq3]
  match a with
  | ⟨0, _⟩ => rfl
  | ⟨1, _⟩ => exact Nat.zero_add _
  | ⟨2, _⟩ => exact Nat.zero_add _

theorem win_set {s j : ℕ} (hs : s < 2) (hj : j < 16) (h) : (winM ![s, j, 0, 0] h).view.set = winSet s j := by
  ext x
  rw [mem_winSet]
  constructor
  · intro hx
    obtain ⟨k, -, rfl⟩ := Finset.mem_map.1 hx
    rw [win_emb hs hj]
    exact ⟨rfl, rfl⟩
  · rintro ⟨h0, h1⟩
    refine Finset.mem_map.2 ⟨ix2 (n0 := 64) (n1 := 656) (x 2) (x 3), Finset.mem_univ _, ?_⟩
    rw [win_emb hs hj]
    conv_rhs => rw [eq_ix4 (n0 := 2) (n1 := 16) (n2 := 64) (n3 := 656) x]
    congr 1
    · exact Fin.ext h0.symm
    · exact Fin.ext h1.symm

/-- The elements of page `w` of the pool. -/
def pageSet (w : ℕ) : Finset S10400x64x656.Idx := Finset.univ.filter fun x => (x 0).val = w

theorem page_set {w : ℕ} (hw : w < 10400) (h) : (pageM ![w, 0, 0] h).view.set = pageSet w := by
  ext x
  unfold pageSet
  rw [Finset.mem_filter]
  constructor
  · intro hx
    obtain ⟨k, -, rfl⟩ := Finset.mem_map.1 hx
    rw [page_emb hw]
    exact ⟨Finset.mem_univ _, rfl⟩
  · rintro ⟨-, h0⟩
    refine Finset.mem_map.2 ⟨ix2 (n0 := 64) (n1 := 656) (x 1) (x 2), Finset.mem_univ _, ?_⟩
    rw [page_emb hw]
    conv_rhs => rw [eq_ix3 (n0 := 10400) (n1 := 64) (n2 := 656) x]
    congr 1
    exact Fin.ext h0.symm

/-- The pool's contents, and the scratch's. -/
abbrev PoolV (F : FTy → Type) := main_arg2.ty.Contents (Elt F)
abbrev ScrV (F : FTy → Type) := cc0_scratch0.ty.Contents (Elt F)

/-- Element `(a, b)` of page `w`. -/
def pgAt (V : S10400x64x656.Idx → Elt F .i8) (w : BitVec 32) (a : Fin 64) (b : Fin 656) : Elt F .i8 :=
  V (ix3 (⟨w.toNat % 10400, Nat.mod_lt _ (by decide)⟩ : Fin 10400) a b)

/-- A slot's contents once the pages `pg j`, for `j < n`, have landed over `f`. -/
def fillF (V : S10400x64x656.Idx → Elt F .i8) (pg : ℕ → BitVec 32) (n : ℕ) (f : S2x16x64x656.Idx → Elt F .i8) :
    S2x16x64x656.Idx → Elt F .i8 :=
  fun x => if (x 1).val < n then pgAt V (pg (x 1).val) (x 2) (x 3) else f x

/-- What a landed transfer leaves on its window. -/
theorem landed {s j n : ℕ} (hs : s < 2) (hj : j < 16) (hn : j < n) (V : PoolV F) (pg : ℕ → BitVec 32)
    (h : ∀ a, (![s, j, 0, 0] : Fin 4 → ℕ) a + S1x1x64x656.size a ≤ S2x16x64x656.size a)
    (h' : ∀ a, (![(pg j).toNat, 0, 0] : Fin 3 → ℕ) a + S1x64x656.size a ≤ S10400x64x656.size a)
    (hw : (pg j).toNat < 10400) (f : ScrV F) (x : S2x16x64x656.Idx) (hx : x ∈ winSet s j) :
    (winM ![s, j, 0, 0] h).view.write (Elt F) f (ReadAs.same.apply ((pageM ![(pg j).toNat, 0, 0] h').view.read (Elt F) V)) Finset.univ x
      = fillF V pg n f x := by
  rw [mem_winSet] at hx
  have e : x = (winM ![s, j, 0, 0] h).view.emb (ix2 (n0 := 64) (n1 := 656) (x 2) (x 3)) := by
    rw [win_emb hs hj]
    conv_lhs => rw [eq_ix4 (n0 := 2) (n1 := 16) (n2 := 64) (n3 := 656) x]
    congr 1
    · exact Fin.ext hx.1
    · exact Fin.ext hx.2
  conv_lhs => rw [e]
  rw [View.write_emb_of_mem _ _ (Finset.mem_univ _)]
  unfold fillF
  rw [if_pos (by rw [hx.2]; exact hn), hx.2]
  unfold pgAt
  show V ((pageM ![(pg j).toNat, 0, 0] h').view.emb (ix2 (n0 := 64) (n1 := 656) (x 2) (x 3))) = _
  rw [page_emb hw]
  congr 2
  exact Fin.ext (Nat.mod_eq_of_lt hw).symm

end Cert.KernelIdeal.Hand
-- ==== Proof.KI.Start.lean ====
/- Hand-written, untrusted. Starting and waiting for one page of a block: the guarded transfer and the guarded wait the
   kernel writes sixteen times each, as one program each, with what they do to the slot's batch. -/
module

public import proofs.«01_k».proof.Proof.KI.Slots

@[expose] public section

noncomputable section

namespace Cert.KernelIdeal.Hand

open Cert.KernelIdeal Cert.KernelIdeal.Gen Cert.Words
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Start the transfer of one page, if its guard holds. -/
def startP (cond : BitVec 1) (oT : Fin 2 → ℕ) (hT : cond = 1#1 → ∀ a, oT a + S1x1.size a ≤ S65x128.size a)
    (chk : BitVec 32 → Prop) (dec : ∀ w, Decidable (chk w)) (oP : BitVec 32 → Fin 3 → ℕ)
    (hP : cond = 1#1 → ∀ w, chk w → ∀ a, oP w a + S1x64x656.size a ≤ S10400x64x656.size a)
    (hPw : ∀ (h : cond = 1#1) w (hc : chk w), (Rect.unit (s := S10400x64x656) (oP w) S1x64x656.size (hP h w hc)).WholeWords (EltTy.packing .i8))
    (oS : Fin 1 → ℕ) (hS : cond = 1#1 → ∀ a, oS a + S1.size a ≤ S2.size a)
    (oW : Fin 4 → ℕ) (hW : cond = 1#1 → ∀ a, oW a + S1x1x64x656.size a ≤ S2x16x64x656.size a)
    (hWw : ∀ (h : cond = 1#1), (Rect.unit (s := S2x16x64x656) oW S1x1x64x656.size (hW h)).WholeWords (EltTy.packing .i8)) :
    Prog (TpuEff nD τ sig (Elt F) Λ₀ .tc) PUnit :=
  if h : cond = 1#1 then do
    let w : Elt F .i32 ← smemLoad (Memref.whole main_arg3) (Rect.unit (s := S65x128) oT S1x1.size (hT h)) numel1_S1x1 rfl
    have hw : chk w := (← Prog.lift (TpuEff.assume (chk w) (dec w))).down
    Prog.lift (.enqueueDma (pageM (oP w) (hP h w hw)) (.here (winM oW (hW h))) (.dma (semM oS (hS h)).sem)
      (((Memref.isWhole_whole main_arg2).wordExact_slice rfl _ (hPw h w hw)).reshape _ _)
      (((Memref.isWhole_whole cc0_scratch0).wordExact_slice rfl _ (hWw h)).reshape _ _) ⟨Or.inl rfl, trivial⟩)
    pure ⟨⟩
  else do
    pure ⟨⟩

/-- Wait for the transfer of one page, if its guard holds. -/
def waitP (cond : BitVec 1) (oS : Fin 1 → ℕ) (hS : cond = 1#1 → ∀ a, oS a + S1.size a ≤ S2.size a)
    (oW : Fin 4 → ℕ) (hW : cond = 1#1 → ∀ a, oW a + S1x1x64x656.size a ≤ S2x16x64x656.size a)
    (hWw : ∀ (h : cond = 1#1), (Rect.unit (s := S2x16x64x656) oW S1x1x64x656.size (hW h)).WholeWords (EltTy.packing .i8)) :
    Prog (TpuEff nD τ sig (Elt F) Λ₀ .tc) PUnit :=
  if h : cond = 1#1 then do
    Prog.lift (.waitDma2 (semM oS (hS h)).sem (pageM ![0, 0, 0] inb_S10400x64x656_S1x64x656_0_0_0) (winM oW (hW h))
      (((Memref.isWhole_whole main_arg2).wordExact_slice rfl _ wordsi8_S10400x64x656_S1x64x656_0_0_0).reshape _ _)
      (((Memref.isWhole_whole cc0_scratch0).wordExact_slice rfl _ (hWw h)).reshape _ _))
    pure ⟨⟩
  else do
    pure ⟨⟩

/-- The page table's contents. -/
abbrev TblV (F : FTy → Type) := main_arg3.ty.Contents (Elt F)

/-- The page the table names for page `i` of block `blk` of request `b`. -/
def pgOf (T : TblV F) (b : Fin 65) (blk i : ℕ) : BitVec 32 :=
  T (ix2 b (⟨(blk * 16 + i) % 128, Nat.mod_lt _ (by decide)⟩ : Fin 128))

theorem tab_read (T : TblV F) (b : Fin 65) (p : ℕ) (hp : p < 128)
    (h : ∀ a, (![b.val, p] : Fin 2 → ℕ) a + S1x1.size a ≤ S65x128.size a) (x : S1x1.Idx) :
    ((Memref.whole main_arg3).access (Rect.unit (s := S65x128) ![b.val, p] S1x1.size h)).read (Elt F) T x = T (ix2 b (⟨p, hp⟩ : Fin 128)) := by
  show T ((Rect.unit (s := S65x128) ![b.val, p] S1x1.size h).emb x) = _
  congr 1
  funext a
  apply Fin.ext
  rw [ValueKit.rect_emb_unit_val]
  match a with
  | ⟨0, _⟩ => have : (x 0).val < 1 := (x 0).isLt; show b.val + (x 0).val = b.val; omega
  | ⟨1, _⟩ => have : (x 1).val < 1 := (x 1).isLt; show p + (x 1).val = p; omega

/-- The share of the pool that window `j` of slot `s` reads at. -/
def tk (s j : ℕ) : PosShare TreeShare := ShareLeaves.leaf 5 fullShare ⟨(16 * s + j) % 32, Nat.mod_lt _ (by decide)⟩

/-- What one page moves, in the units its cell counts. -/
def NB : ℕ := cc0_scratch0.dmaCredit S64x656 .i8

section States
variable (c : Dev nD) (V : PoolV F) (pg : ℕ → BitVec 32) (s n : ℕ) (f : ScrV F)

/-- Window `j` of slot `s`, at contents `f`. -/
def Win (f : ScrV F) (s j : ℕ) : sProp 𝕄 := (c : Thread nD τ).loc cc0_scratch0 ↦[winSet s j]{fullShare} f
/-- The elements `I` of the pool at the share of window `j` of slot `s`. -/
def Tok (s j : ℕ) (I : Finset S10400x64x656.Idx) : sProp 𝕄 := (c : Thread nD τ).loc main_arg2 ↦[I]{tk s j} V
/-- What the transfer of page `i` brings back. -/
def Deliv (i : ℕ) : sProp 𝕄 := iprop(Win c (fillF V pg n f) s i ∗ Tok c V s i (pageSet (pg i).toNat))
/-- What stays behind of page `i`'s share of the pool. -/
def Rest (i : ℕ) : sProp 𝕄 := Tok c V s i (Finset.univ \ pageSet (pg i).toNat)
/-- Page `i`'s window and share before its transfer (and after it, at the slot's new contents). -/
def Pre (f : ScrV F) (i : ℕ) : sProp 𝕄 := iprop(Win c f s i ∗ Tok c V s i Finset.univ)
/-- What is in hand for page `i` when the first `j` pages have had their turn. -/
def Hand (j i : ℕ) : sProp 𝕄 := if i < j ∧ i < n then Rest c V pg s i else Pre c V s f i
/-- The slot when the first `j` pages of its block have had their turn to start. -/
def St (j : ℕ) : sProp 𝕄 :=
  iprop(Transfers.Batch (countersEmb (U := Pipeline.UD sig nD τ)) (c : Thread nD τ) (.dma (dsem s)) () NB
      (fun i : Fin n => Deliv c V pg s n f i.val) (min j n) 0
    ∗ bigSep (Finset.range 16) (Hand c V pg s n f j))
/-- The slot when the first `j` pages of its block have had their turn to be waited for. -/
def Wt (j : ℕ) : sProp 𝕄 :=
  iprop(Transfers.Batch (countersEmb (U := Pipeline.UD sig nD τ)) (c : Thread nD τ) (.dma (dsem s)) () NB
      (fun i : Fin n => Deliv c V pg s n f i.val) n (NB * min j n)
    ∗ bigSep (Finset.range 16) (Hand c V pg s n f 16) ∗ ∃ W, owes (c : Thread nD τ) 0 W)
/-- A slot with nothing in flight. -/
def Free : sProp 𝕄 := iprop(bigSep (Finset.range 16) (Pre c V s f) ∗ semVal ((c : Thread nD τ), .dma (dsem s)) 0)
end States

theorem hand_step (c : Dev nD) (V : PoolV F) (pg : ℕ → BitVec 32) (s n : ℕ) (f : ScrV F) {j : ℕ} (hj : j < 16) (hn : j < n) :
    bigSep (Finset.range 16) (Hand c V pg s n f j)
      = iprop(Pre c V s f j ∗ bigSep ((Finset.range 16).erase j) (Hand c V pg s n f (j + 1))) := by
  rw [bigSep_erase (Finset.mem_range.2 hj)]
  congr 1
  · unfold Hand; rw [if_neg (by omega)]
  · refine bigSep_congr fun i hi => ?_
    have := (Finset.mem_erase.1 hi).1
    unfold Hand
    congr 1
    apply propext; omega

theorem hand_back (c : Dev nD) (V : PoolV F) (pg : ℕ → BitVec 32) (s n : ℕ) (f : ScrV F) {j : ℕ} (hj : j < 16) (hn : j < n) :
    bigSep (Finset.range 16) (Hand c V pg s n f (j + 1))
      = iprop(Rest c V pg s j ∗ bigSep ((Finset.range 16).erase j) (Hand c V pg s n f (j + 1))) := by
  rw [bigSep_erase (Finset.mem_range.2 hj)]
  congr 1
  unfold Hand; rw [if_pos (by omega)]

theorem st_dead (c : Dev nD) (V : PoolV F) (pg : ℕ → BitVec 32) (s n : ℕ) (f : ScrV F) {j : ℕ} (hn : n ≤ j) :
    St c V pg s n f j = St c V pg s n f (j + 1) := by
  unfold St
  rw [show min (j + 1) n = min j n by omega]
  congr 1
  refine bigSep_congr fun i _ => ?_
  unfold Hand
  congr 1
  apply propext; omega

theorem pgOf_lt (T : TblV F) (b : Fin 65) {blk j : ℕ} (h : blk * 16 + j < 128) :
    T (ix2 b (⟨blk * 16 + j, h⟩ : Fin 128)) = pgOf T b blk j := by
  unfold pgOf
  congr 2
  exact Fin.ext (Nat.mod_eq_of_lt h).symm

/-- A window's share of the pool, page and rest. -/
theorem tok_split (c : Dev nD) (V : PoolV F) (s j w : ℕ) :
    (Tok c V s j Finset.univ : sProp 𝕄) ⊢ iprop(Tok c V s j (pageSet w) ∗ Tok c V s j (Finset.univ \ pageSet w)) :=
  (pointsTo_split_subset (Finset.subset_univ _)).1

theorem tok_join (c : Dev nD) (V : PoolV F) (s j w : ℕ) :
    iprop(Tok c V s j (pageSet w) ∗ Tok c V s j (Finset.univ \ pageSet w)) ⊢ (Tok c V s j Finset.univ : sProp 𝕄) :=
  (pointsTo_split_subset (Finset.subset_univ _)).2

theorem wp_startP (c : Dev nD) (V : PoolV F) (T : TblV F) (qT : PosShare TreeShare) (b : Fin 65) (blk s n : ℕ) (f : ScrV F)
    (hTr : ∀ x, (T x : BitVec 32).toNat < 10400) {j : ℕ} (hj : j < 16) (hs : s < 2) (hb : n ≠ 0 → blk * 16 + n ≤ 128)
    {cond : BitVec 1} (hcond : cond = 1#1 ↔ j < n)
    {oT hT chk dec oP hP hPw oS hS oW hW hWw}
    (hoT : cond = 1#1 → oT = ![b.val, blk * 16 + j]) (hchk : ∀ w : BitVec 32, w.toNat < 10400 → chk w)
    (hoP : ∀ w : BitVec 32, oP w = ![w.toNat, 0, 0]) (hoS : oS = ![s]) (hoW : oW = ![s, j, 0, 0]) :
    iprop(St c V (pgOf T b blk) s n f j ∗ ((c : Thread nD τ).loc main_arg3 ↦[Finset.univ]{qT} T))
      ⊢ wp frame (wpE (defs₀ (F := F)) Variants.none c none) Set.univ (startP cond oT hT chk dec oP hP hPw oS hS oW hW hWw)
          (fun _ => iprop(St c V (pgOf T b blk) s n f (j + 1) ∗ ((c : Thread nD τ).loc main_arg3 ↦[Finset.univ]{qT} T))) := by
  by_cases h : cond = 1#1
  · have hn := hcond.1 h
    have hb' := hb (by omega)
    unfold startP
    rw [dif_pos h]
    obtain rfl := hoT h
    obtain rfl : oP = fun w => ![w.toNat, 0, 0] := funext hoP
    subst hoS hoW
    have hT' : blk * 16 + j < 128 := by omega
    unfold St
    rw [hand_step _ _ _ _ _ _ hj hn, hand_back _ _ _ _ _ _ hj hn, ← semM_eq (by omega) (hS h)]
    iintro ⟨⟨HB, HP, HH⟩, HT⟩
    rw [wp_bind]
    unfold smemLoad
    iapply (wp_smemLoadElt Variants.none (c : Thread nD τ) none Set.univ (m := Memref.whole main_arg3) (f := T) (S := Finset.univ) (q := qT)
      (r := Rect.unit (s := S65x128) ![b.val, blk * 16 + j] S1x1.size (hT h)) (Finset.subset_univ _)) $$ HT
    iintro HT
    rw [tab_read T b _ hT', pgOf_lt T b hT', wp_ret]
    have hw : (pgOf T b blk j).toNat < 10400 := hTr _
    imodintro
    rw [wp_bind]
    iapply (wp_assume Variants.none (c : Thread nD τ) none Set.univ (hchk _ hw))
    rw [wp_ret]
    imodintro
    rw [wp_bind, show min j n = j by omega, show min (j + 1) n = j + 1 by omega]
    have hD : iprop(((winM ![s, j, 0, 0] (hW h)).view.loc (c : Thread nD τ) ↦[winSet s j]{fullShare}
          ((winM ![s, j, 0, 0] (hW h)).view.write (Elt F) f (ReadAs.same.apply
            ((pageM ![(pgOf T b blk j).toNat, 0, 0] (page_inb hw)).view.read (Elt F) V)) Finset.univ))
        ∗ ((pageM ![(pgOf T b blk j).toNat, 0, 0] (page_inb hw)).view.loc (c : Thread nD τ)
            ↦[(pageM ![(pgOf T b blk j).toNat, 0, 0] (page_inb hw)).view.set]{tk s j} V))
        ⊢ (Deliv c V (pgOf T b blk) s n f j : sProp 𝕄) := by
      unfold Deliv Tok Win
      rw [page_set hw]
      exact sep_mono_left (Entails.of_eq (pointsTo_congr fun x hx => landed hs hj hn V (pgOf T b blk) _ _ hw f x hx))
    unfold Pre
    icases HP with ⟨HW, HK⟩
    ihave HK' := (tok_split c V s j (pgOf T b blk j).toNat) $$ HK
    icases HK' with ⟨HK, HR⟩
    unfold Tok Win
    iapply (Transfers.wp_dmaBatch (countersEmb (U := Pipeline.UD sig nD τ)) Variants.none (c : Thread nD τ) none
      (src := pageM ![(pgOf T b blk j).toNat, 0, 0] (page_inb hw)) (dst := winM ![s, j, 0, 0] (hW h))
      (sm := .dma (semM ![s] (hS h)).sem)
      (fs := V) (fd := f) (q := tk s j) (Sd := winSet s j) (D := fun i : Fin n => Deliv c V (pgOf T b blk) s n f i.val) () NB rfl
      (by rw [win_set hs hj]) hn (Nat.zero_le _) hD) $$ [HK HW HB]
    · isplitl [HK]
      · rw [page_set hw]; iexact HK
      · isplitl [HW]
        · iexact HW
        · iexact HB
    · iintro HB
      rw [wp_ret]
      imodintro
      rw [wp_pure]
      imodintro
      unfold Rest Tok
      isplitr [HT]
      · isplitl [HB]
        · iexact HB
        · isplitl [HR]
          · iexact HR
          · iexact HH
      · iexact HT
  · have hn : n ≤ j := by by_contra hc; exact h (hcond.2 (by omega))
    unfold startP
    rw [dif_neg h, st_dead _ _ _ _ _ _ hn]
    iintro H
    rw [wp_pure]
    imodintro
    iexact H

theorem NB_pos : 0 < NB := by unfold NB; decide

theorem wp_waitP (c : Dev nD) (V : PoolV F) (pg : ℕ → BitVec 32) (s n : ℕ) (f : ScrV F) {j : ℕ} (hs : s < 2)
    {cond : BitVec 1} (hcond : cond = 1#1 ↔ j < n) {oS hS oW hW hWw} (hoS : oS = ![s]) :
    (Wt c V pg s n f j : sProp 𝕄)
      ⊢ wp frame (wpE (defs₀ (F := F)) Variants.none c none) Set.univ (waitP cond oS hS oW hW hWw) (fun _ => Wt c V pg s n f (j + 1)) := by
  by_cases h : cond = 1#1
  · have hn := hcond.1 h
    unfold waitP
    rw [dif_pos h]
    subst hoS
    unfold Wt
    rw [← semM_eq (by omega) (hS h)]
    iintro ⟨HB, HH, ⟨%W, HO⟩⟩
    rw [wp_bind]
    iapply (Transfers.wp_waitBatchMul (countersEmb (U := Pipeline.UD sig nD τ)) Variants.none (c : Thread nD τ) none
      (sem := (semM ![s] (hS h)).sem) (dstw := winM oW (hW h)) (W := W) (N := NB) (D := fun i : Fin n => Deliv c V pg s n f i.val)
      (u := NB * min j n) (j := n)
      () 1 (by rw [Nat.one_mul]; rfl) (by rw [show min j n = j by omega, Nat.one_mul, ← Nat.mul_succ]; exact Nat.mul_le_mul_left _ hn)) $$ [HB HO]
    · isplitl [HB]
      · iexact HB
      · iexact HO
    · iintro ⟨HB, HO⟩
      rw [wp_ret]
      imodintro
      rw [wp_pure]
      imodintro
      rw [show NB * min j n + 1 * NB = NB * min (j + 1) n by
        rw [show min j n = j by omega, show min (j + 1) n = j + 1 by omega, Nat.one_mul, Nat.mul_succ]]
      isplitl [HB]
      · iexact HB
      · isplitl [HH]
        · iexact HH
        · iexists _
          iexact HO
  · have hn : n ≤ j := by by_contra hc; exact h (hcond.2 (by omega))
    unfold waitP
    rw [dif_neg h]
    unfold Wt
    rw [show min (j + 1) n = min j n by omega]
    iintro H
    rw [wp_pure]
    imodintro
    iexact H

instance (c : Dev nD) (V : PoolV F) (pg : ℕ → BitVec 32) (s n : ℕ) (f : ScrV F) (i : ℕ) :
    Storable (upEmb : UEmb _ 𝕄) (Deliv c V pg s n f i) := by
  unfold Deliv Win Tok; infer_instance

/-- A free slot opens a batch. -/
theorem st_begin (c : Dev nD) (V : PoolV F) (pg : ℕ → BitVec 32) (s n : ℕ) (f : ScrV F) :
    (Free c V s f : sProp 𝕄) ⊢ |={Set.univ}=> St c V pg s n f 0 := by
  unfold Free
  iintro ⟨HP, Hs⟩
  imod (Transfers.batch_alloc' (Lvl := ℕ) (countersEmb (U := Pipeline.UD sig nD τ)) (c : Thread nD τ) () NB
    (fun i : Fin n => Deliv c V pg s n f i.val) (sm := .dma (dsem s)) (E := Set.univ)) $$ Hs with HB
  imodintro
  unfold St
  rw [Nat.zero_min]
  isplitl [HB]
  · iexact HB
  · rw [show bigSep (Finset.range 16) (Hand c V pg s n f 0) = bigSep (Finset.range 16) (Pre (F := F) c V s f) from
      bigSep_congr fun i _ => by unfold Hand; rw [if_neg (by omega)]]
    iexact HP

/-- A block all started is a block none waited for. -/
theorem st_wt (c : Dev nD) (V : PoolV F) (pg : ℕ → BitVec 32) (s n : ℕ) (f : ScrV F) (hn : n ≤ 16) (W : Waits sig Unit) :
    iprop(St c V pg s n f 16 ∗ owes (c : Thread nD τ) 0 W) ⊢ (Wt c V pg s n f 0 : sProp 𝕄) := by
  unfold St Wt
  rw [show min 16 n = n by omega, Nat.zero_min, Nat.mul_zero]
  iintro ⟨⟨HB, HH⟩, HO⟩
  isplitl [HB]
  · iexact HB
  · isplitl [HH]
    · iexact HH
    · iexists W
      iexact HO

end Cert.KernelIdeal.Hand
-- ==== Proof.KI.Flight.lean ====
/- Hand-written, untrusted. A slot between its blocks: what a finished block leaves, and how the scratch, the pool and the
   two counters make two free slots. -/
module

public import proofs.«01_k».proof.Proof.KI.Start
public import Idealize.ShloMosaic.Lib.Ring

@[expose] public section

noncomputable section

namespace Cert.KernelIdeal.Hand

open Cert.KernelIdeal Cert.KernelIdeal.Gen Cert.Words
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem bi_sep_eq (S : Finset ℕ) (Φ Ψ : ℕ → sProp 𝕄) :
    iprop(bigSep S Φ ∗ bigSep S Ψ) = bigSep S (fun i => iprop(Φ i ∗ Ψ i)) := (bigSep_sep S Φ Ψ).symm

variable (c : Dev nD) (V : PoolV F) (pg : ℕ → BitVec 32) (s n : ℕ) (f : ScrV F)

/-- A landed page and the rest of its share are its window and its whole share. -/
theorem deliv_rest (i : ℕ) : iprop(Deliv c V pg s n f i ∗ Rest c V pg s i) ⊢ (Pre c V s (fillF V pg n f) i : sProp 𝕄) := by
  unfold Deliv Rest Pre
  iintro ⟨⟨HW, HT⟩, HR⟩
  isplitl [HW]
  · iexact HW
  · iapply tok_join
    isplitl [HT]
    · iexact HT
    · iexact HR

/-- What a waited block's pages bring back: every window of the slot at its filled contents, every share of the pool whole. -/
theorem hand_end (hn : n ≤ 16) :
    iprop(bigSep Finset.univ (fun i : Fin n => Deliv c V pg s n f i.val) ∗ bigSep (Finset.range 16) (Hand c V pg s n f 16))
      ⊢ (bigSep (Finset.range 16) (Pre c V s (fillF V pg n f)) : sProp 𝕄) := by
  have hsub : Finset.range n ⊆ Finset.range 16 := Finset.range_subset_range.2 hn
  rw [Ring.bigSep_fin_eq_range n (fun i : Fin n => Deliv (F := F) c V pg s n f i.val) (Deliv c V pg s n f) (fun _ _ => rfl),
    bigSep_sdiff_split hsub, bigSep_sdiff_split hsub]
  have e2 : bigSep (Finset.range 16 \ Finset.range n) (Hand c V pg s n f 16)
      = bigSep (Finset.range 16 \ Finset.range n) (Pre (F := F) c V s (fillF V pg n f)) := bigSep_congr fun i hi => by
    have h1 := Finset.mem_sdiff.1 hi
    have h2 : n ≤ i := by have := h1.2; rw [Finset.mem_range] at this; omega
    unfold Hand Pre Win
    rw [if_neg (by omega)]
    congr 1
    refine pointsTo_congr fun x hx => ?_
    unfold fillF
    rw [if_neg (by rw [(mem_winSet.1 hx).2]; omega)]
  have e3 : iprop(bigSep (Finset.range n) (Deliv c V pg s n f) ∗ bigSep (Finset.range n) (Hand c V pg s n f 16))
      ⊢ (bigSep (Finset.range n) (Pre (F := F) c V s (fillF V pg n f)) : sProp 𝕄) := by
    rw [bi_sep_eq]
    refine bigSep_mono fun i hi => ?_
    have := Finset.mem_range.1 hi
    have h : Hand (F := F) c V pg s n f 16 i = Rest c V pg s i := by unfold Hand; rw [if_pos (by omega)]
    rw [h]
    exact deliv_rest c V pg s n f i
  rw [e2]
  show iprop(bigSep (Finset.range n) (Deliv c V pg s n f) ∗ bigSep (Finset.range n) (Hand c V pg s n f 16)
      ∗ bigSep (Finset.range 16 \ Finset.range n) (Pre (F := F) c V s (fillF V pg n f)))
    ⊢ iprop(bigSep (Finset.range n) (Pre (F := F) c V s (fillF V pg n f)) ∗ bigSep (Finset.range 16 \ Finset.range n) (Pre (F := F) c V s (fillF V pg n f)))
  iintro ⟨HD, HH, HR⟩
  isplitr [HR]
  · iapply e3
    isplitl [HD]
    · iexact HD
    · iexact HH
  · iexact HR

/-- A started block with no page is a free slot. -/
theorem st_empty (hn : n = 0) : (St c V pg s n f 16 : sProp 𝕄) ⊢ |={Set.univ}=> Free c V s f := by
  subst hn
  unfold St
  rw [Nat.min_zero]
  iintro ⟨HB, HH⟩
  imod (Transfers.batch_collect' (Lvl := ℕ) (countersEmb (U := Pipeline.UD sig nD τ)) (c : Thread nD τ) (ι := ()) (sm := .dma (dsem s))
    (D := fun i : Fin 0 => Deliv c V pg s 0 f i.val) NB_pos) $$ HB with ⟨-, Hs⟩
  imodintro
  unfold Free
  isplitl [HH]
  · rw [show bigSep (Finset.range 16) (Pre (F := F) c V s f) = bigSep (Finset.range 16) (Hand c V pg s 0 f 16) from
      bigSep_congr fun i _ => by unfold Hand; rw [if_neg (by omega)]]
    iexact HH
  · iexact Hs

/-- A waited block leaves its slot free, filled with the block's pages. -/
theorem wt_end (hn : n ≤ 16) : (Wt c V pg s n f 16 : sProp 𝕄) ⊢ |={Set.univ}=> iprop(Free c V s (fillF V pg n f) ∗ ∃ W, owes (c : Thread nD τ) 0 W) := by
  unfold Wt
  rw [show min 16 n = n by omega]
  iintro ⟨HB, HH, HO⟩
  imod (Transfers.batch_collect' (Lvl := ℕ) (countersEmb (U := Pipeline.UD sig nD τ)) (c : Thread nD τ) (ι := ()) (sm := .dma (dsem s))
    (D := fun i : Fin n => Deliv c V pg s n f i.val) NB_pos) $$ HB with ⟨HD, Hs⟩
  imodintro
  unfold Free
  isplitr [HO]
  · isplitr [Hs]
    · iapply (hand_end c V pg s n f hn)
      isplitl [HD]
      · iexact HD
      · iexact HH
    · iexact Hs
  · iexact HO

/-- Slot `s` at contents `f`. -/
def Slot (f : ScrV F) (s : ℕ) : sProp 𝕄 := (c : Thread nD τ).loc cc0_scratch0 ↦[slotSet s]{fullShare} f

theorem slot_wins : (Slot c f s : sProp 𝕄) = bigSep (Finset.range 16) (Win c f s) := by
  unfold Slot Win
  rw [← slot_biUnion, pointsTo_biUnion _ _ (win_disj s)]

/-- The shares of the pool of slot `s`. -/
def Toks : sProp 𝕄 := bigSep (Finset.range 16) fun j => Tok c V s j Finset.univ

theorem free_eq : (Free c V s f : sProp 𝕄) = iprop((Slot c f s ∗ Toks c V s) ∗ semVal ((c : Thread nD τ), .dma (dsem s)) 0) := by
  unfold Free Toks
  rw [slot_wins, bi_sep_eq]
  rfl

theorem pool_toks : ((c : Thread nD τ).loc main_arg2 ↦[Finset.univ]{fullShare} V : sProp 𝕄) = iprop(Toks c V 0 ∗ Toks c V 1) := by
  have e : Finset.range (2 ^ 5) = Finset.range 16 ∪ (Finset.range 16).map (addLeftEmbedding 16) := by decide
  rw [ShareLeaves.pointsTo_leaves _ _ 5,
    Ring.bigSep_fin_eq_range (2 ^ 5) _ (fun i => Tok (F := F) c V 0 i Finset.univ)
      (fun t h => by
        have ht : (16 * 0 + t) % 32 = t := by have : t < 32 := h; omega
        unfold Tok tk
        exact congrArg (fun i => ((c : Thread nD τ).loc main_arg2 ↦[Finset.univ]{ShareLeaves.leaf 5 fullShare i} V : sProp 𝕄)) (Fin.ext ht)),
    e, bigSep_union (by rw [Finset.disjoint_left]; decide), bigSep_map]
  unfold Toks
  refine congrArg (BI.sep _) (bigSep_congr fun i hi => ?_)
  have hi := Finset.mem_range.1 hi
  unfold Tok tk
  exact congrArg (fun i => ((c : Thread nD τ).loc main_arg2 ↦[Finset.univ]{ShareLeaves.leaf 5 fullShare i} V : sProp 𝕄))
    (Fin.ext (by show (16 * 0 + (16 + i)) % 32 = (16 * 1 + i) % 32; omega))

theorem scr_slots : ((c : Thread nD τ).loc cc0_scratch0 ↦[Finset.univ]{fullShare} f : sProp 𝕄) = iprop(Slot c f 0 ∗ Slot c f 1) := by
  rw [← univ_biUnion, pointsTo_biUnion _ _ slot_disj, show Finset.range 2 = insert 0 {1} by decide, bigSep_insert (by decide), bigSep_singleton]
  rfl

/-- The scratch, the pool and the two counters are two free slots. -/
theorem free_open : iprop(((c : Thread nD τ).loc cc0_scratch0 ↦[Finset.univ]{fullShare} f) ∗ ((c : Thread nD τ).loc main_arg2 ↦[Finset.univ]{fullShare} V)
      ∗ semVal ((c : Thread nD τ), .dma (dsem 0)) 0 ∗ semVal ((c : Thread nD τ), .dma (dsem 1)) 0)
    ⊢ (iprop(Free c V 0 f ∗ Free c V 1 f) : sProp 𝕄) := by
  rw [scr_slots, pool_toks, free_eq, free_eq]
  iintro ⟨⟨A, B⟩, ⟨C, D⟩, E, G⟩
  isplitl [A C E]
  · isplitr [E]
    · isplitl [A]
      · iexact A
      · iexact C
    · iexact E
  · isplitr [G]
    · isplitl [B]
      · iexact B
      · iexact D
    · iexact G

/-- Two free slots are the scratch at some contents, the pool and the two counters. -/
theorem free_close (g : ScrV F) : iprop(Free c V 0 f ∗ Free c V 1 g) ⊢ (iprop((∃ h, (c : Thread nD τ).loc cc0_scratch0 ↦[Finset.univ]{fullShare} h)
      ∗ ((c : Thread nD τ).loc main_arg2 ↦[Finset.univ]{fullShare} V)
      ∗ semVal ((c : Thread nD τ), .dma (dsem 0)) 0 ∗ semVal ((c : Thread nD τ), .dma (dsem 1)) 0) : sProp 𝕄) := by
  have e0 : (Slot c f 0 : sProp 𝕄) = Slot c (fun x => if (x 0).val = 0 then f x else g x) 0 := by
    unfold Slot
    exact pointsTo_congr fun x hx => by rw [if_pos (mem_slotSet.1 hx)]
  have e1 : (Slot c g 1 : sProp 𝕄) = Slot c (fun x => if (x 0).val = 0 then f x else g x) 1 := by
    unfold Slot
    exact pointsTo_congr fun x hx => by rw [if_neg (by rw [mem_slotSet.1 hx]; decide)]
  rw [free_eq, free_eq, e0, e1, pool_toks]
  iintro ⟨⟨⟨A, C⟩, E⟩, ⟨⟨B, D⟩, G⟩⟩
  isplitl [A B]
  · iexists _
    rw [scr_slots]
    isplitl [A]
    · iexact A
    · iexact B
  · isplitl [C D]
    · isplitl [C]
      · iexact C
      · iexact D
    · isplitl [E]
      · iexact E
      · iexact G

end Cert.KernelIdeal.Hand
-- ==== Proof.KI.Parts.lean ====
/- Hand-written, untrusted. The guarded starts and waits with what follows them, and the parts of the program that are
   made of them. -/
module

public import proofs.«01_k».proof.Proof.KI.Flight
public import proofs.«01_k».proof.Proof.KI.Chk

@[expose] public section

noncomputable section

namespace Cert.KernelIdeal.Hand

open Cert.KernelIdeal Cert.KernelIdeal.Gen Cert.Words
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A guarded start and the program after it, as the kernel is printed: the rest in both branches. -/
@[reducible] def startK {α : Type} (cond : BitVec 1) (oT : Fin 2 → ℕ) (hT : cond = 1#1 → ∀ a, oT a + S1x1.size a ≤ S65x128.size a)
    (chk : BitVec 32 → Prop) (dec : ∀ w, Decidable (chk w)) (oP : BitVec 32 → Fin 3 → ℕ)
    (hP : cond = 1#1 → ∀ w, chk w → ∀ a, oP w a + S1x64x656.size a ≤ S10400x64x656.size a)
    (hPw : ∀ (h : cond = 1#1) w (hc : chk w), (Rect.unit (s := S10400x64x656) (oP w) S1x64x656.size (hP h w hc)).WholeWords (EltTy.packing .i8))
    (oS : Fin 1 → ℕ) (hS : cond = 1#1 → ∀ a, oS a + S1.size a ≤ S2.size a)
    (oW : Fin 4 → ℕ) (hW : cond = 1#1 → ∀ a, oW a + S1x1x64x656.size a ≤ S2x16x64x656.size a)
    (hWw : ∀ (h : cond = 1#1), (Rect.unit (s := S2x16x64x656) oW S1x1x64x656.size (hW h)).WholeWords (EltTy.packing .i8))
    (k : Prog (TpuEff nD τ sig (Elt F) Λ₀ .tc) α) : Prog (TpuEff nD τ sig (Elt F) Λ₀ .tc) α :=
  if h : cond = 1#1 then do
    let w : Elt F .i32 ← smemLoad (Memref.whole main_arg3) (Rect.unit (s := S65x128) oT S1x1.size (hT h)) numel1_S1x1 rfl
    have hw : chk w := (← Prog.lift (TpuEff.assume (chk w) (dec w))).down
    Prog.lift (.enqueueDma (pageM (oP w) (hP h w hw)) (.here (winM oW (hW h))) (.dma (semM oS (hS h)).sem)
      (((Memref.isWhole_whole main_arg2).wordExact_slice rfl _ (hPw h w hw)).reshape _ _)
      (((Memref.isWhole_whole cc0_scratch0).wordExact_slice rfl _ (hWw h)).reshape _ _) ⟨Or.inl rfl, trivial⟩)
    k
  else k

/-- A guarded wait and the program after it. -/
@[reducible] def waitK {α : Type} (cond : BitVec 1) (oS : Fin 1 → ℕ) (hS : cond = 1#1 → ∀ a, oS a + S1.size a ≤ S2.size a)
    (oW : Fin 4 → ℕ) (hW : cond = 1#1 → ∀ a, oW a + S1x1x64x656.size a ≤ S2x16x64x656.size a)
    (hWw : ∀ (h : cond = 1#1), (Rect.unit (s := S2x16x64x656) oW S1x1x64x656.size (hW h)).WholeWords (EltTy.packing .i8))
    (k : Prog (TpuEff nD τ sig (Elt F) Λ₀ .tc) α) : Prog (TpuEff nD τ sig (Elt F) Λ₀ .tc) α :=
  if h : cond = 1#1 then do
    Prog.lift (.waitDma2 (semM oS (hS h)).sem (pageM ![0, 0, 0] inb_S10400x64x656_S1x64x656_0_0_0) (winM oW (hW h))
      (((Memref.isWhole_whole main_arg2).wordExact_slice rfl _ wordsi8_S10400x64x656_S1x64x656_0_0_0).reshape _ _)
      (((Memref.isWhole_whole cc0_scratch0).wordExact_slice rfl _ (hWw h)).reshape _ _))
    k
  else k

theorem startK_eq {α : Type} {cond oT hT chk dec oP hP hPw oS hS oW hW hWw} (k : Prog (TpuEff nD τ sig (Elt F) Λ₀ .tc) α) :
    startK cond oT hT chk dec oP hP hPw oS hS oW hW hWw k = (startP cond oT hT chk dec oP hP hPw oS hS oW hW hWw >>= fun _ => k) := by
  unfold startP
  by_cases h : cond = 1#1
  · rw [startK, dif_pos h, dif_pos h]; rfl
  · rw [startK, dif_neg h, dif_neg h]; rfl

theorem waitK_eq {α : Type} {cond oS hS oW hW hWw} (k : Prog (TpuEff nD τ sig (Elt F) Λ₀ .tc) α) :
    waitK cond oS hS oW hW hWw k = (waitP cond oS hS oW hW hWw >>= fun _ => k) := by
  unfold waitP
  by_cases h : cond = 1#1
  · rw [waitK, dif_pos h, dif_pos h]; rfl
  · rw [waitK, dif_neg h, dif_neg h]; rfl

/-- A slot being started, and the page table. -/
def Sx (c : Dev nD) (V : PoolV F) (T : TblV F) (qT : PosShare TreeShare) (b : Fin 65) (blk s n : ℕ) (f : ScrV F) (j : ℕ) : sProp 𝕄 :=
  iprop(St c V (pgOf T b blk) s n f j ∗ ((c : Thread nD τ).loc main_arg3 ↦[Finset.univ]{qT} T))

/-- The number of pages block `blk` has at the length word `v`. -/
def live (v : BitVec 32) (blk : ℕ) : ℕ := min 16 (np v.toNat - blk * 16)

theorem live_le (v : BitVec 32) (blk : ℕ) : live v blk ≤ 16 := Nat.min_le_left _ _
theorem live_in {v : BitVec 32} (hv : v.toNat ≤ 8192) (blk : ℕ) (h : live v blk ≠ 0) : blk * 16 + live v blk ≤ 128 := by
  have := np_le hv
  unfold live at *; omega

/-- A framed entailment into a program. -/
theorem wp_framed (c : Dev nD) {α : Type} {p : Prog (TpuEff nD τ sig (Elt F) Λ₀ .tc) α} {P R : sProp 𝕄} {Q : α → sProp 𝕄}
    (h : P ⊢ wp frame (wpE (defs₀ (F := F)) Variants.none c none) Set.univ p Q) :
    iprop(R ∗ P) ⊢ wp frame (wpE (defs₀ (F := F)) Variants.none c none) Set.univ p (fun a => iprop(R ∗ Q a)) := by
  iintro ⟨HR, HP⟩
  iapply (wp_frame_l _ _ _)
  isplitl [HR]
  · iexact HR
  · iapply h
    iexact HP

/-- An update before a program. -/
theorem wp_open (c : Dev nD) {α : Type} {p : Prog (TpuEff nD τ sig (Elt F) Λ₀ .tc) α} {P P' : sProp 𝕄} {Q : α → sProp 𝕄}
    (h : P ⊢ |={Set.univ}=> P') (h' : P' ⊢ wp frame (wpE (defs₀ (F := F)) Variants.none c none) Set.univ p Q) :
    P ⊢ wp frame (wpE (defs₀ (F := F)) Variants.none c none) Set.univ p Q := by
  iintro HP
  imod h $$ HP with HP
  iapply h'
  iexact HP

theorem wp_startK (c : Dev nD) (V : PoolV F) (T : TblV F) (qT : PosShare TreeShare) (b : Fin 65) (blk s n : ℕ) (f : ScrV F)
    (hTr : ∀ x, (T x : BitVec 32).toNat < 10400) (j : ℕ) (hj : j < 16) (hs : s < 2) (hb : n ≠ 0 → blk * 16 + n ≤ 128)
    {α : Type} {cond oT hT chk dec oP hP hPw oS hS oW hW hWw} {k : Prog (TpuEff nD τ sig (Elt F) Λ₀ .tc) α} {R : sProp 𝕄} {Q : α → sProp 𝕄}
    (hcond : cond = 1#1 ↔ j < n)
    (hoT : cond = 1#1 → oT = ![b.val, blk * 16 + j]) (hchk : ∀ w : BitVec 32, w.toNat < 10400 → chk w)
    (hoP : ∀ w : BitVec 32, oP w = ![w.toNat, 0, 0]) (hoS : oS = ![s]) (hoW : oW = ![s, j, 0, 0])
    (hk : iprop(R ∗ Sx c V T qT b blk s n f (j + 1)) ⊢ wp frame (wpE (defs₀ (F := F)) Variants.none c none) Set.univ k Q) :
    iprop(R ∗ Sx c V T qT b blk s n f j) ⊢ wp frame (wpE (defs₀ (F := F)) Variants.none c none) Set.univ
      (startK cond oT hT chk dec oP hP hPw oS hS oW hW hWw k) Q := by
  rw [startK_eq, wp_bind]
  exact (wp_framed c (wp_startP c V T qT b blk s n f hTr hj hs hb hcond hoT hchk hoP hoS hoW)).trans (wp_mono _ _ _ fun _ => hk)

theorem wp_waitK (c : Dev nD) (V : PoolV F) (pg : ℕ → BitVec 32) (s n : ℕ) (f : ScrV F) (j : ℕ) (hs : s < 2)
    {α : Type} {cond oS hS oW hW hWw} {k : Prog (TpuEff nD τ sig (Elt F) Λ₀ .tc) α} {R : sProp 𝕄} {Q : α → sProp 𝕄}
    (hcond : cond = 1#1 ↔ j < n) (hoS : oS = ![s])
    (hk : iprop(R ∗ Wt c V pg s n f (j + 1)) ⊢ wp frame (wpE (defs₀ (F := F)) Variants.none c none) Set.univ k Q) :
    iprop(R ∗ Wt c V pg s n f j) ⊢ wp frame (wpE (defs₀ (F := F)) Variants.none c none) Set.univ (waitK cond oS hS oW hW hWw k) Q := by
  rw [waitK_eq, wp_bind]
  exact (wp_framed c (wp_waitP c V pg s n f hs hcond hoS)).trans (wp_mono _ _ _ fun _ => hk)

theorem page_words {w : ℕ} (hinb : ∀ a, (![w, 0, 0] : Fin 3 → ℕ) a + S1x64x656.size a ≤ S10400x64x656.size a) :
    (Rect.unit (s := S10400x64x656) ![w, 0, 0] S1x64x656.size hinb).WholeWords (EltTy.packing .i8) :=
  Affine.words_rows (by decide) rfl rfl

theorem win_words {s j : ℕ} (hinb : ∀ a, (![s, j, 0, 0] : Fin 4 → ℕ) a + S1x1x64x656.size a ≤ S2x16x64x656.size a) :
    (Rect.unit (s := S2x16x64x656) ![s, j, 0, 0] S1x1x64x656.size hinb).WholeWords (EltTy.packing .i8) :=
  Affine.words_rows (by decide) rfl rfl

/-- The start of page `j` of the block after trip `t`'s, at the kernel's own words. -/
theorem wp_nextK (c : Dev nD) (V : PoolV F) (T : TblV F) (qT : PosShare TreeShare) (i : grid0.Coords) (v : BitVec 32) (hv : v.toNat ≤ 8192)
    (t : ℕ) (ht : t < 8) (f : ScrV F) (hTr : ∀ x, (T x : BitVec 32).toNat < 10400) (j : ℕ) (hj : j < 16)
    {α : Type} {hT chk dec hP hS hW} {k : Prog (TpuEff nD τ sig (Elt F) Λ₀ .tc) α} {R : sProp 𝕄} {Q : α → sProp 𝕄}
    (hchk : ∀ w : BitVec 32, w.toNat < 10400 → chk w)
    (hk : iprop(R ∗ Sx c V T qT (i 0) (t + 1) (1 - t % 2) (live v (t + 1)) f (j + 1)) ⊢ wp frame (wpE (defs₀ (F := F)) Variants.none c none) Set.univ k Q) :
    iprop(R ∗ Sx c V T qT (i 0) (t + 1) (1 - t % 2) (live v (t + 1)) f j) ⊢ wp frame (wpE (defs₀ (F := F)) Variants.none c none) Set.univ
      (startK (condW (pw t j) (npW v)) ![(Scalar.indexCast (BitVec.ofNat 32 (i 0).val)).toNat, (Scalar.indexCast (pw t j)).toNat] hT chk dec
        (fun w => ![w.toNat, 0, 0]) hP (fun _ _ _ => page_words _) ![(otW t).toNat] hS ![(otW t).toNat, j, 0, 0] hW (fun _ => win_words _) k) Q := by
  refine wp_startK c V T qT (i 0) (t + 1) (1 - t % 2) (live v (t + 1)) f hTr j hj (by omega) (live_in hv _)
    ((cond_pw hv ht hj).trans (by unfold live; omega)) (fun _ => ?_) hchk (fun _ => rfl) ?_ ?_ hk
  · have hi : (i 0).val < 65 := (i 0).isLt
    show ![(BitVec.ofNat 32 (i 0).val).toNat, (pw t j).toNat] = _
    rw [pw_eq, toNat_ofNat (by omega), toNat_ofNat (by omega)]
  · rw [otW_toNat (by omega)]
  · rw [otW_toNat (by omega)]

/-- The start of page `j` of the first block. -/
theorem wp_firstK (c : Dev nD) (V : PoolV F) (T : TblV F) (qT : PosShare TreeShare) (i : grid0.Coords) (v : BitVec 32) (hv : v.toNat ≤ 8192)
    (f : ScrV F) (hTr : ∀ x, (T x : BitVec 32).toNat < 10400) (j : ℕ) (hj : j < 16)
    {α : Type} {hT chk dec hP hS hW} {k : Prog (TpuEff nD τ sig (Elt F) Λ₀ .tc) α} {R : sProp 𝕄} {Q : α → sProp 𝕄}
    (hchk : ∀ w : BitVec 32, w.toNat < 10400 → chk w)
    (hk : iprop(R ∗ Sx c V T qT (i 0) 0 0 (live v 0) f (j + 1)) ⊢ wp frame (wpE (defs₀ (F := F)) Variants.none c none) Set.univ k Q) :
    iprop(R ∗ Sx c V T qT (i 0) 0 0 (live v 0) f j) ⊢ wp frame (wpE (defs₀ (F := F)) Variants.none c none) Set.univ
      (startK (Scalar.cmpi .ne (Scalar.extui (Scalar.cmpi .sgt (npW v) (BitVec.ofNat 32 j)) : BitVec 32) 0#32) ![(Scalar.indexCast (BitVec.ofNat 32 (i 0).val)).toNat, j] hT chk dec
        (fun w => ![w.toNat, 0, 0]) hP (fun _ _ _ => page_words _) ![0] hS ![0, j, 0, 0] hW (fun _ => win_words _) k) Q := by
  refine wp_startK c V T qT (i 0) 0 0 (live v 0) f hTr j hj (by omega) (live_in hv _)
    ((cond_first hv hj).trans (by unfold live; omega)) (fun _ => ?_) hchk (fun _ => rfl) rfl rfl hk
  have hi : (i 0).val < 65 := (i 0).isLt
  show ![(BitVec.ofNat 32 (i 0).val).toNat, j] = _
  rw [toNat_ofNat (by omega), Nat.zero_mul, Nat.zero_add]

/-- The wait for page `j` of trip `t`'s block. -/
theorem wp_curK (c : Dev nD) (V : PoolV F) (pg : ℕ → BitVec 32) (v : BitVec 32) (hv : v.toNat ≤ 8192) (t : ℕ) (ht : t < 8) (f : ScrV F) (j : ℕ) (hj : j < 16)
    {α : Type} {hS hW} {k : Prog (TpuEff nD τ sig (Elt F) Λ₀ .tc) α} {R : sProp 𝕄} {Q : α → sProp 𝕄}
    (hk : iprop(R ∗ Wt c V pg (t % 2) (live v t) f (j + 1)) ⊢ wp frame (wpE (defs₀ (F := F)) Variants.none c none) Set.univ k Q) :
    iprop(R ∗ Wt c V pg (t % 2) (live v t) f j) ⊢ wp frame (wpE (defs₀ (F := F)) Variants.none c none) Set.univ
      (waitK (condW (pw0 t j) (npW v)) ![(slW t).toNat] hS ![(slW t).toNat, j, 0, 0] hW (fun _ => win_words _) k) Q :=
  wp_waitK c V pg (t % 2) (live v t) f j (by omega) ((cond_pw0 hv ht hj).trans (by unfold live; omega)) (by rw [slW_toNat (by omega)]) hk

/-- What a load of slot `s` reads. -/
def slotRd (s : ℕ) (g : ScrV F) : Vec F S1x16x64x656 .i8 :=
  fun x => g (ix4 (⟨s % 2, Nat.mod_lt _ (by decide)⟩ : Fin 2) (x 1 : Fin 16) (x 2 : Fin 64) (x 3 : Fin 656))

theorem slot_emb {s : ℕ} (hs : s < 2) (h : ∀ a, (![s, 0, 0, 0] : Fin 4 → ℕ) a + S1x16x64x656.size a ≤ S2x16x64x656.size a) (x : S1x16x64x656.Idx) :
    (Rect.unit (s := S2x16x64x656) ![s, 0, 0, 0] S1x16x64x656.size h).emb x
      = ix4 (⟨s % 2, Nat.mod_lt _ (by decide)⟩ : Fin 2) (x 1 : Fin 16) (x 2 : Fin 64) (x 3 : Fin 656) := by
  funext a
  apply Fin.ext
  rw [ValueKit.rect_emb_unit_val]
  match a with
  | ⟨0, _⟩ => have : (x 0).val < 1 := (x 0).isLt; show s + (x 0).val = s % 2; omega
  | ⟨1, _⟩ => exact Nat.zero_add _
  | ⟨2, _⟩ => exact Nat.zero_add _
  | ⟨3, _⟩ => exact Nat.zero_add _

theorem slot_rd {s : ℕ} (hs : s < 2) (h : ∀ a, (![s, 0, 0, 0] : Fin 4 → ℕ) a + S1x16x64x656.size a ≤ S2x16x64x656.size a) (g : ScrV F) :
    ((Memref.whole cc0_scratch0).access (Rect.unit (s := S2x16x64x656) ![s, 0, 0, 0] S1x16x64x656.size h)).read (Elt F) g = slotRd s g := by
  funext x
  show g ((Rect.unit (s := S2x16x64x656) ![s, 0, 0, 0] S1x16x64x656.size h).emb x) = _
  rw [slot_emb hs]
  rfl

theorem wp_loadK (c : Dev nD) {s : ℕ} (hs : s < 2) (g : ScrV F) {o} {h : ∀ a, (o : Fin 4 → ℕ) a + S1x16x64x656.size a ≤ S2x16x64x656.size a} {hl}
    {α : Type} {k : Vec F S1x16x64x656 .i8 → Prog (TpuEff nD τ sig (Elt F) Λ₀ .tc) α} {R : sProp 𝕄} {Q : α → sProp 𝕄} (ho : o = ![s, 0, 0, 0])
    (hk : iprop(R ∗ Slot c g s) ⊢ wp frame (wpE (defs₀ (F := F)) Variants.none c none) Set.univ (k (slotRd s g)) Q) :
    iprop(R ∗ Slot c g s) ⊢ wp frame (wpE (defs₀ (F := F)) Variants.none c none) Set.univ
      (Prog.lift (.load (Memref.whole cc0_scratch0) (Rect.unit (s := S2x16x64x656) o S1x16x64x656.size h).toLoadRect hl) >>= k) Q := by
  subst ho
  have hS : ((Memref.whole cc0_scratch0).access (Rect.unit (s := S2x16x64x656) ![s, 0, 0, 0] S1x16x64x656.size h)).set ⊆ slotSet s := by
    intro x hx
    obtain ⟨y, -, rfl⟩ := Finset.mem_map.1 hx
    rw [mem_slotSet]
    show ((Rect.unit (s := S2x16x64x656) ![s, 0, 0, 0] S1x16x64x656.size h).emb y 0).val = s
    rw [slot_emb hs]
    exact Nat.mod_eq_of_lt hs
  rw [← slot_rd hs h] at hk
  have hl' : Slot c g s ⊢ iprop((Slot c g s -∗ wp frame (wpE (defs₀ (F := F)) Variants.none c none) Set.univ
        (k (((Memref.whole cc0_scratch0).access (Rect.unit (s := S2x16x64x656) ![s, 0, 0, 0] S1x16x64x656.size h)).read (Elt F) g)) Q)
      -∗ wp frame (wpE (defs₀ (F := F)) Variants.none c none) Set.univ
        (Prog.lift (.load (Memref.whole cc0_scratch0) (Rect.unit (s := S2x16x64x656) ![s, 0, 0, 0] S1x16x64x656.size h).toLoadRect hl) >>= k) Q) :=
    wp_load_rect (m := Memref.whole cc0_scratch0) (r := Rect.unit (s := S2x16x64x656) ![s, 0, 0, 0] S1x16x64x656.size h) Variants.none (c : Thread nD τ) none Set.univ
      (S := slotSet s) (q := fullShare) (f := g) hS
  iintro ⟨HR, HS⟩
  iapply hl' $$ HS
  iintro HS
  iapply hk
  isplitl [HR]
  · iexact HR
  · iexact HS

theorem wp_done {α : Type} (c : Dev nD) (P : sProp 𝕄) (a : α) (Q : α → sProp 𝕄) (h : P ⊢ Q a) :
    P ⊢ wp frame (wpE (defs₀ (F := F)) Variants.none c none) Set.univ (pure a) Q := by
  rw [wp_pure]
  exact h.trans Idealize.SL.BI.fupd_intro

theorem pure_intro_l {φ : Prop} {P : sProp 𝕄} (h : φ) : P ⊢ iprop(⌜φ⌝ ∗ P) := by
  iintro HP
  isplitr
  · ipureintro; exact h
  · iexact HP

/-- The weakest precondition of a program of the kernel's core. -/
abbrev WP {α : Type} (c : Dev nD) (p : Prog (TpuEff nD τ sig (Elt F) Λ₀ .tc) α) (Q : α → sProp 𝕄) : sProp 𝕄 :=
  wp frame (wpE (defs₀ (F := F)) Variants.none (c : Thread nD τ) none) Set.univ p Q

theorem slot_take (c : Dev nD) (V : PoolV F) (s : ℕ) (g : ScrV F) (R O : sProp 𝕄) :
    iprop(R ∗ Free c V s g ∗ O) ⊢ iprop((R ∗ (Toks c V s ∗ semVal ((c : Thread nD τ), .dma (dsem s)) 0) ∗ O) ∗ Slot c g s) := by
  rw [free_eq]
  iintro ⟨HR, ⟨⟨HS, HT⟩, HV⟩, HO⟩
  isplitr [HS]
  · isplitl [HR]
    · iexact HR
    · isplitr [HO]
      · isplitl [HT]
        · iexact HT
        · iexact HV
      · iexact HO
  · iexact HS

theorem slot_give (c : Dev nD) (V : PoolV F) (s : ℕ) (g : ScrV F) (R O : sProp 𝕄) :
    iprop((R ∗ (Toks c V s ∗ semVal ((c : Thread nD τ), .dma (dsem s)) 0) ∗ O) ∗ Slot c g s) ⊢ iprop(R ∗ Free c V s g ∗ O) := by
  rw [free_eq]
  iintro ⟨⟨HR, ⟨HT, HV⟩, HO⟩, HS⟩
  isplitl [HR]
  · iexact HR
  · isplitr [HO]
    · isplitr [HV]
      · isplitl [HS]
        · iexact HS
        · iexact HT
      · iexact HV
    · iexact HO

section
variable (c : Dev nD) (V : PoolV F) (T : TblV F) (qT : PosShare TreeShare) (i : grid0.Coords) (v : BitVec 32) (hv : v.toNat ≤ 8192)
    (f : ScrV F) (hTr : ∀ x, (T x : BitVec 32).toNat < 10400)
    {h1 : (Memref.whole main_arg3 : Memref sig .tc .smem S65x128 .i32).IsWhole} {a2 : Memref sig .tc .smem S65 .i32} {h2 : a2.IsWhole}
    {a3 : Memref sig .tc .vmem S1x1x64x512 .bf16} {h3 : a3.IsWhole} {a4 : Memref sig .tc .vmem S1x1x64x64 .bf16} {h4 : a4.IsWhole}
    {a5 : Memref sig .tc .vmem S1x1x512 .fp8e4m3} {h5 : a5.IsWhole} {a6 : Memref sig .tc .vmem S1x1x4 .f32} {h6 : a6.IsWhole}
    {a7 : Memref sig .tc .vmem S1x1x64 .bf16} {h7 : a7.IsWhole} {h8 : (Memref.whole main_arg2 : Memref sig .tc .hbm S10400x64x656 .i8).IsWhole}
    {a9 : Memref sig .tc .vmem S1x64x512 .bf16} {h9 : a9.IsWhole} {a10 : Memref sig .tc .vmem S1x64x1 .f32} {h10 : a10.IsWhole}
    {h11 : (Memref.whole cc0_scratch0 : Memref sig .tc .vmem S2x16x64x656 .i8).IsWhole} {a0 v20 v39 : BitVec 32}
include hv

/-- The next block's slot, and the page table, after the first `j` starts of trip `t`. -/
abbrev Nx (t j : ℕ) : sProp 𝕄 := Sx c V T qT (i 0) (t + 1) (1 - t % 2) (live v (t + 1)) f j
/-- The trip's own slot after the first `j` waits. -/
abbrev Cu (t j : ℕ) : sProp 𝕄 := Wt c V (pgOf T (i 0) t) (t % 2) (live v t) f j

include hTr in
/-- The starts of pages 0 to 5 of the next block. -/
theorem wp_part1 {R : sProp 𝕄} {hw} {t : Fin (k0_t1_loop v).trips} {a13 v157 h18} :
    iprop(R ∗ Nx c V T qT i v f t.val 0) ⊢ WP c
        (k0_part1 (F := F) i (Memref.whole main_arg3) h1 a2 h2 a3 h3 a4 h4 a5 h5 a6 h6 a7 h7 (Memref.whole main_arg2) h8 a9 h9 a10 h10 (Memref.whole cc0_scratch0) h11 cc0_scratch1 a0 v hw v20 t a13 v157 h18)
        (fun _ => iprop(R ∗ Nx c V T qT i v f t.val 6)) := by
  have ht := t1_lt8 hv t
  rw [k0_part1_eq_skeleton]
  unfold k0_part1_skel WP
  iterate 6
    refine wp_nextK c V T qT i v hv t.val ht f hTr _ (by decide) (hP := fun h w hc => hc.1 h18 h) (fun w hw => ⟨fun _ _ => page_inb hw, fun _ _ hi => page_words hi⟩) ?_
  exact wp_done c _ _ _ .rfl

include hTr in
/-- The starts of pages 6 to 11 of the next block. -/
theorem wp_part2 {R : sProp 𝕄} {hw} {t : Fin (k0_t1_loop v).trips} {h18 v344 v376} :
    iprop(R ∗ Nx c V T qT i v f t.val 6) ⊢ WP c
        (k0_part2 (F := F) i (Memref.whole main_arg3) h1 a2 h2 a3 h3 a4 h4 a5 h5 a6 h6 a7 h7 (Memref.whole main_arg2) h8 a9 h9 a10 h10 (Memref.whole cc0_scratch0) h11 cc0_scratch1 a0 v hw v20 t h18 v344 v376)
        (fun _ => iprop(R ∗ Nx c V T qT i v f t.val 12)) := by
  have ht := t1_lt8 hv t
  rw [k0_part2_eq_skeleton]
  unfold k0_part2_skel WP
  iterate 6
    refine wp_nextK c V T qT i v hv t.val ht f hTr _ (by decide) (hP := fun h w hc => hc.1 h18 h) (fun w hw => ⟨fun _ _ => page_inb hw, fun _ _ hi => page_words hi⟩) ?_
  exact wp_done c _ _ _ .rfl

omit hv in
/-- A slot with no page to start needs no start. -/
theorem st_none (pg : ℕ → BitVec 32) (s : ℕ) {n : ℕ} (hn : n = 0) : (St c V pg s n f 0 : sProp 𝕄) = St c V pg s n f 16 := by
  subst hn
  unfold St
  rw [Nat.min_zero, Nat.min_zero]
  congr 1

omit hv in
/-- A free slot and the page table open the next block. -/
theorem nx_open (C : sProp 𝕄) (t : ℕ) : iprop((Free c V (1 - t % 2) f ∗ ((c : Thread nD τ).loc main_arg3 ↦[Finset.univ]{qT} T)) ∗ C)
      ⊢ (|={Set.univ}=> iprop(C ∗ Nx c V T qT i v f t 0) : sProp 𝕄) := by
  iintro ⟨⟨HF, HT⟩, HC⟩
  imod (st_begin c V (pgOf T (i 0) (t + 1)) (1 - t % 2) (live v (t + 1)) f) $$ HF with HS
  imodintro
  isplitl [HC]
  · iexact HC
  · unfold Nx Sx
    isplitl [HS]
    · iexact HS
    · iexact HT

/-- The waits for pages 5 to 11 of the trip's own block. -/
theorem wp_part4 {R : sProp 𝕄} {hw} {t : Fin (k0_t1_loop v).trips} {a13 v189} :
    iprop(R ∗ Cu c V T i v f t.val 5) ⊢ WP c
        (k0_part4 (F := F) i (Memref.whole main_arg3) h1 a2 h2 a3 h3 a4 h4 a5 h5 a6 h6 a7 h7 (Memref.whole main_arg2) h8 a9 h9 a10 h10 (Memref.whole cc0_scratch0) h11 cc0_scratch1 v hw v20 t a13 v189)
        (fun _ => iprop(R ∗ Cu c V T i v f t.val 12)) := by
  have ht := t1_lt8 hv t
  rw [k0_part4_eq_skeleton]
  unfold k0_part4_skel WP
  refine wp_curK c V (pgOf T (i 0) t.val) v hv t.val ht f 5 (by decide) ?_
  refine wp_curK c V (pgOf T (i 0) t.val) v hv t.val ht f 6 (by decide) ?_
  refine wp_curK c V (pgOf T (i 0) t.val) v hv t.val ht f 7 (by decide) ?_
  refine wp_curK c V (pgOf T (i 0) t.val) v hv t.val ht f 8 (by decide) ?_
  refine wp_curK c V (pgOf T (i 0) t.val) v hv t.val ht f 9 (by decide) ?_
  refine wp_curK c V (pgOf T (i 0) t.val) v hv t.val ht f 10 (by decide) ?_
  refine wp_curK c V (pgOf T (i 0) t.val) v hv t.val ht f 11 (by decide) ?_
  refine wp_done (F := F) c _ _ _ ?_
  exact .rfl

include hTr in
/-- The next block's starts, and the waits for pages 0 to 4 of the trip's own block. -/
theorem wp_part3 (g : ScrV F) {hw} {t : Fin (k0_t1_loop v).trips} :
    iprop((Free c V (1 - t.val % 2) f ∗ ((c : Thread nD τ).loc main_arg3 ↦[Finset.univ]{qT} T)) ∗ Cu c V T i v g t.val 0)
      ⊢ WP c
        (k0_part3 (F := F) i (Memref.whole main_arg3) h1 a2 h2 a3 h3 a4 h4 a5 h5 a6 h6 a7 h7 (Memref.whole main_arg2) h8 a9 h9 a10 h10 (Memref.whole cc0_scratch0) h11 cc0_scratch1 a0 v hw v20 v39 0#32 1#32 t)
        (fun r => iprop(⌜r.1 = Scf.iv 0#32 1#32 t.val⌝ ∗ Nx c V T qT i v f t.val 16 ∗ Cu c V T i v g t.val 5)) := by
  have ht := t1_lt8 hv t
  rw [k0_part3_eq_skeleton]
  unfold k0_part3_skel WP
  refine wp_open c (nx_open c V T qT i v f _ t.val) ?_
  by_cases h18 : k0_cond18 v t = 1#1
  · rw [dif_pos h18, wp_bind]
    refine (wp_part1 c V T qT i v hv f hTr).trans (wp_mono _ _ _ fun r => ?_)
    rw [wp_bind]
    refine (wp_part2 c V T qT i v hv f hTr).trans (wp_mono _ _ _ fun r2 => ?_)
    iterate 4
      refine wp_nextK c V T qT i v hv t.val ht f hTr _ (by decide) (hP := fun h w hc => hc.1 h18 h) (fun w hw => ⟨fun _ _ => page_inb hw, fun _ _ hi => page_words hi⟩) ?_
    refine BI.sep_comm.trans ?_
    refine wp_curK c V (pgOf T (i 0) t.val) v hv t.val ht g 0 (by decide) ?_
    refine wp_curK c V (pgOf T (i 0) t.val) v hv t.val ht g 1 (by decide) ?_
    refine wp_curK c V (pgOf T (i 0) t.val) v hv t.val ht g 2 (by decide) ?_
    refine wp_curK c V (pgOf T (i 0) t.val) v hv t.val ht g 3 (by decide) ?_
    refine wp_curK c V (pgOf T (i 0) t.val) v hv t.val ht g 4 (by decide) ?_
    refine wp_done (F := F) c _ _ _ ?_
    exact pure_intro_l rfl
  · have hl : live v (t.val + 1) = 0 := by
      have h : ¬ t.val + 1 < nb v.toNat := fun h => h18 ((cond_blk hv ht).2 h)
      unfold live nb at *; omega
    rw [dif_neg h18]
    refine BI.sep_comm.trans ?_
    unfold Nx Sx
    rw [st_none c V f _ _ hl]
    refine wp_curK c V (pgOf T (i 0) t.val) v hv t.val ht g 0 (by decide) ?_
    refine wp_curK c V (pgOf T (i 0) t.val) v hv t.val ht g 1 (by decide) ?_
    refine wp_curK c V (pgOf T (i 0) t.val) v hv t.val ht g 2 (by decide) ?_
    refine wp_curK c V (pgOf T (i 0) t.val) v hv t.val ht g 3 (by decide) ?_
    refine wp_curK c V (pgOf T (i 0) t.val) v hv t.val ht g 4 (by decide) ?_
    refine wp_done (F := F) c _ _ _ ?_
    exact pure_intro_l rfl

/-- The waits for pages 12 to 15 of the trip's own block, and the load of its slot. -/
theorem wp_part5 {R : sProp 𝕄} {hw} {t : Fin (k0_t1_loop v).trips} {v94 a13 v157 v222} :
    iprop(R ∗ Cu c V T i v f t.val 12) ⊢ WP c
        (k0_part5 (F := F) i (Memref.whole main_arg3) h1 a2 h2 a3 h3 a4 h4 a5 h5 a6 h6 a7 h7 (Memref.whole main_arg2) h8 a9 h9 a10 h10 (Memref.whole cc0_scratch0) h11 cc0_scratch1 v hw v20 v94 t a13 v157 v222)
        (fun r => iprop(⌜r = ⟨k0_pay7 (slotRd (t.val % 2) (fillF V (pgOf T (i 0) t.val) (live v t.val) f)), k0_pay8 (slotRd (t.val % 2) (fillF V (pgOf T (i 0) t.val) (live v t.val) f)),
            k0_pay9 v94 (slotRd (t.val % 2) (fillF V (pgOf T (i 0) t.val) (live v t.val) f))⟩⌝
          ∗ R ∗ Free c V (t.val % 2) (fillF V (pgOf T (i 0) t.val) (live v t.val) f) ∗ ∃ W, owes (c : Thread nD τ) 0 W)) := by
  have ht := t1_lt8 hv t
  rw [k0_part5_eq_skeleton]
  unfold k0_part5_skel WP
  refine wp_curK c V (pgOf T (i 0) t.val) v hv t.val ht f 12 (by decide) ?_
  refine wp_curK c V (pgOf T (i 0) t.val) v hv t.val ht f 13 (by decide) ?_
  refine wp_curK c V (pgOf T (i 0) t.val) v hv t.val ht f 14 (by decide) ?_
  refine wp_curK c V (pgOf T (i 0) t.val) v hv t.val ht f 15 (by decide) ?_
  have h : iprop(R ∗ Wt c V (pgOf T (i 0) t.val) (t.val % 2) (live v t.val) f 16)
      ⊢ (|={Set.univ}=> iprop((R ∗ (Toks c V (t.val % 2) ∗ semVal ((c : Thread nD τ), .dma (dsem (t.val % 2))) 0) ∗ ∃ W, owes (c : Thread nD τ) 0 W)
          ∗ Slot c (fillF V (pgOf T (i 0) t.val) (live v t.val) f) (t.val % 2)) : sProp 𝕄) := by
    iintro ⟨HR, HW⟩
    imod (wt_end c V (pgOf T (i 0) t.val) (t.val % 2) (live v t.val) f (live_le _ _)) $$ HW with ⟨HF, HO⟩
    imodintro
    iapply (slot_take c V (t.val % 2) (fillF V (pgOf T (i 0) t.val) (live v t.val) f) R iprop(∃ W, owes (c : Thread nD τ) 0 W))
    isplitl [HR]
    · iexact HR
    · isplitl [HF]
      · iexact HF
      · iexact HO
  refine wp_open c h ?_
  refine wp_loadK c (Nat.mod_lt _ (by decide)) _ (by show ![(slW t.val).toNat, 0, 0, 0] = _; rw [slW_toNat (by omega)]) ?_
  refine wp_done (F := F) c _ _ _ ?_
  refine (?_ : _ ⊢ _).trans (pure_intro_l rfl)
  exact slot_give c V (t.val % 2) (fillF V (pgOf T (i 0) t.val) (live v t.val) f) R iprop(∃ W, owes (c : Thread nD τ) 0 W)

end

end Cert.KernelIdeal.Hand
-- ==== Proof.KI.Loop.lean ====
/- Hand-written, untrusted. One trip of the kernel's loop over the blocks of pages, and the loop. -/
module

public import proofs.«01_k».proof.Proof.KI.Parts

@[expose] public section

noncomputable section

namespace Cert.KernelIdeal.Hand

open Cert.KernelIdeal Cert.KernelIdeal.Gen Cert.Words
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What the loop carries: running maximum, running sum, running weighted rows. -/
abbrev A3 (F : FTy → Type) : Type := FVec F S64x1 .f32 × FVec F S64x1 .f32 × FVec F S64x512 .f32

/-- The loaded block `kv` holds, in the places of its live pages, the pages the table names. -/
def Blk (V : PoolV F) (T : TblV F) (b : Fin 65) (v : BitVec 32) (t : ℕ) (kv : Vec F S1x16x64x656 .i8) : Prop :=
  ∀ x : S1x16x64x656.Idx, (x 1).val < live v t → kv x = pgAt V (pgOf T b t (x 1).val) (x 2) (x 3)

theorem blk_rd (V : PoolV F) (T : TblV F) (b : Fin 65) (v : BitVec 32) (t s : ℕ) (f : ScrV F) :
    Blk V T b v t (slotRd s (fillF V (pgOf T b t) (live v t) f)) := by
  intro x hx
  exact if_pos hx

/-- What one trip makes of what it carries, from the block it loaded. -/
def stepF (v : BitVec 32) (q : FVec F S64x512 .bf16) (qr : FVec F S64x64 .bf16) (t : ℕ) (kv : Vec F S1x16x64x656 .i8) (a : A3 F) : A3 F :=
  (k0_pay11 v q a.1 (Scf.iv 0#32 1#32 t) (k0_pay7 kv) (k0_pay8 kv) (k0_pay9 qr kv),
   k0_pay35 (k0_pay14 v q a.1 a.2.1 (Scf.iv 0#32 1#32 t) (k0_pay7 kv) (k0_pay8 kv) (k0_pay9 qr kv))
     (k0_pay15 v q a.1 (Scf.iv 0#32 1#32 t) (k0_pay7 kv) (k0_pay8 kv) (k0_pay9 qr kv)),
   k0_pay36 a.2.2 (k0_pay7 kv) (k0_pay8 kv) (k0_pay12 v q a.1 (Scf.iv 0#32 1#32 t) (k0_pay7 kv) (k0_pay8 kv) (k0_pay9 qr kv))
     (k0_pay13 v q a.1 (Scf.iv 0#32 1#32 t) (k0_pay7 kv) (k0_pay8 kv) (k0_pay9 qr kv)))

/-- What the loop may carry after `t` trips from `a0`. -/
def RunTo (V : PoolV F) (T : TblV F) (b : Fin 65) (v : BitVec 32) (q : FVec F S64x512 .bf16) (qr : FVec F S64x64 .bf16) (a0 : A3 F) : ℕ → A3 F → Prop
  | 0, a => a = a0
  | t + 1, a => ∃ kv a', Blk V T b v t kv ∧ RunTo V T b v q qr a0 t a' ∧ a = stepF v q qr t kv a'

theorem pure_out {φ : Prop} {P Q : sProp 𝕄} (h : φ → (P ⊢ Q)) : iprop(⌜φ⌝ ∗ P) ⊢ Q := by
  iintro ⟨%hp, HP⟩
  iapply (h hp)
  iexact HP

section
variable (c : Dev nD) (V : PoolV F) (T : TblV F) (qT : PosShare TreeShare) (i : grid0.Coords) (v : BitVec 32) (hv : v.toNat ≤ 8192)
    (hTr : ∀ x, (T x : BitVec 32).toNat < 10400)
    {h1 : (Memref.whole main_arg3 : Memref sig .tc .smem S65x128 .i32).IsWhole} {a2 : Memref sig .tc .smem S65 .i32} {h2 : a2.IsWhole}
    {a3 : Memref sig .tc .vmem S1x1x64x512 .bf16} {h3 : a3.IsWhole} {a4 : Memref sig .tc .vmem S1x1x64x64 .bf16} {h4 : a4.IsWhole}
    {a5 : Memref sig .tc .vmem S1x1x512 .fp8e4m3} {h5 : a5.IsWhole} {a6 : Memref sig .tc .vmem S1x1x4 .f32} {h6 : a6.IsWhole}
    {a7 : Memref sig .tc .vmem S1x1x64 .bf16} {h7 : a7.IsWhole} {h8 : (Memref.whole main_arg2 : Memref sig .tc .hbm S10400x64x656 .i8).IsWhole}
    {a9 : Memref sig .tc .vmem S1x64x512 .bf16} {h9 : a9.IsWhole} {a10 : Memref sig .tc .vmem S1x64x1 .f32} {h10 : a10.IsWhole}
    {h11 : (Memref.whole cc0_scratch0 : Memref sig .tc .vmem S2x16x64x656 .i8).IsWhole} {a0 v20 v39 : BitVec 32}
    (q : FVec F S64x512 .bf16) (qr : FVec F S64x64 .bf16) (z : A3 F)
include hv

/-- At the head of trip `t`: block `t` under way into its slot, the other slot free, and what is carried reached in `t` trips. -/
def Inv (t : ℕ) (a : A3 F) : sProp 𝕄 :=
  iprop(⌜RunTo V T (i 0) v q qr z t a⌝ ∗ (∃ g, Sx c V T qT (i 0) t (t % 2) (live v t) g 16) ∗ (∃ f, Free c V (1 - t % 2) f)
    ∗ ∃ W, owes (c : Thread nD τ) 0 W)

omit hv in
/-- The head of a trip, as its first part takes it. -/
theorem inv_open (t : ℕ) (a : A3 F) (ht : live v t ≤ 16) :
    (Inv c V T qT i v q qr z t a : sProp 𝕄) ⊢ iprop(∃ f g, ⌜RunTo V T (i 0) v q qr z t a⌝
      ∗ (Free c V (1 - t % 2) f ∗ ((c : Thread nD τ).loc main_arg3 ↦[Finset.univ]{qT} T)) ∗ Cu c V T i v g t 0) := by
  unfold Inv Sx
  iintro ⟨HR, HS, HF, HO⟩
  icases HS with ⟨%g, HS, HT⟩
  icases HF with ⟨%f, HF⟩
  icases HO with ⟨%W, HO⟩
  iexists f; iexists g
  isplitl [HR]
  · iexact HR
  · isplitl [HF HT]
    · isplitl [HF]
      · iexact HF
      · iexact HT
    · iapply (st_wt c V (pgOf T (i 0) t) (t % 2) (live v t) g ht W)
      isplitl [HS]
      · iexact HS
      · iexact HO

omit hv in
/-- The end of a trip is the head of the next. -/
theorem inv_close (t : ℕ) (a a' : A3 F) (f g : ScrV F) (ha : RunTo V T (i 0) v q qr z (t + 1) a') :
    iprop(Nx c V T qT i v f t 16 ∗ Free c V (t % 2) g ∗ ∃ W, owes (c : Thread nD τ) 0 W)
      ⊢ (Inv c V T qT i v q qr z (t + 1) a' : sProp 𝕄) := by
  have e1 : (t + 1) % 2 = 1 - t % 2 := by omega
  have e2 : 1 - (1 - t % 2) = t % 2 := by omega
  unfold Inv Nx
  rw [e1, e2]
  iintro ⟨HS, HF, HO⟩
  isplitr
  · ipureintro; exact ha
  · isplitl [HS]
    · iexists f; iexact HS
    · isplitl [HF]
      · iexists g; iexact HF
      · iexact HO

include hTr in
/-- One trip of the loop. -/
theorem wp_trip {hw} {v97 : FVec F S1x4 .bf16} (t : Fin (k0_t1_loop v).trips) (a : A3 F) :
    Inv c V T qT i v q qr z t.val a ⊢ WP c
      (k0_t1_body (F := F) i (Memref.whole main_arg3) h1 a2 h2 a3 h3 a4 h4 a5 h5 a6 h6 a7 h7 (Memref.whole main_arg2) h8 a9 h9 a10 h10 (Memref.whole cc0_scratch0) h11 cc0_scratch1 a0 v hw v20 v39 q qr v97 t a)
      (fun a' => Inv c V T qT i v q qr z (t.val + 1) a') := by
  unfold k0_t1_body WP
  refine (inv_open c V T qT i v q qr z t.val a (live_le _ _)).trans ?_
  refine exists_elim fun f => exists_elim fun g => ?_
  rw [wp_bind]
  refine (wp_framed c (wp_part3 c V T qT i v hv f hTr g)).trans (wp_mono _ _ _ fun r3 => ?_)
  obtain ⟨a13, v157, v189⟩ := r3
  refine pure_out fun hrun => pure_out fun h13 => ?_
  obtain rfl : a13 = Scf.iv 0#32 1#32 t.val := h13
  show _ ⊢ wp frame (wpE (defs₀ (F := F)) Variants.none (c : Thread nD τ) none) Set.univ (_ >>= _) _
  rw [wp_bind]
  refine (wp_part4 c V T i v hv g).trans (wp_mono _ _ _ fun v222 => ?_)
  rw [wp_bind]
  refine (wp_part5 c V T i v hv g).trans (wp_mono _ _ _ fun r5 => ?_)
  refine pure_out fun h5 => ?_
  subst h5
  show _ ⊢ wp frame (wpE (defs₀ (F := F)) Variants.none (c : Thread nD τ) none) Set.univ (_ >>= _) _
  rw [wp_bind, k0_part6_eq_skeleton]
  unfold k0_part6_skel
  refine wp_done (F := F) c _ _ _ ?_
  refine wp_done (F := F) c _ _ _ ?_
  refine inv_close c V T qT i v q qr z t.val a _ f _ ⟨_, a, blk_rd V T (i 0) v t.val (t.val % 2) g, hrun, ?_⟩
  rfl
end

end Cert.KernelIdeal.Hand
-- ==== Proof.KI.Stage.lean ====
/- Hand-written, untrusted. Loads and stores of whole staging buffers, the read of a sequence length, and the first
   fill of the scratch. -/
module

public import proofs.«01_k».proof.Proof.KI.Loop

@[expose] public section

noncomputable section

namespace Cert.KernelIdeal.Hand

open Cert.KernelIdeal Cert.KernelIdeal.Gen Cert.Words
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) {α : Type}

theorem emb_zero {s : Shape} {o : Fin s.rank → ℕ} (ho : ∀ a, o a = 0) (h : ∀ a, o a + s.size a ≤ s.size a) (x : s.Idx) :
    (Rect.unit (s := s) o s.size h).emb x = x := by
  funext a
  apply Fin.ext
  rw [ValueKit.rect_emb_unit_val, ho a]
  exact Nat.zero_add _

theorem access_read {sp : Space} {s : Shape} {e : EltTy} (m : Memref sig .tc sp s e) {o : Fin s.rank → ℕ} (ho : ∀ a, o a = 0)
    (h : ∀ a, o a + s.size a ≤ s.size a) (f : m.view.ty.Contents (Elt F)) :
    (m.access (Rect.unit (s := s) o s.size h)).read (Elt F) f = m.view.read (Elt F) f := by
  funext x
  show m.view.read (Elt F) f ((Rect.unit (s := s) o s.size h).emb x) = _
  rw [emb_zero ho]

theorem access_sub {sp : Space} {s : Shape} {e : EltTy} (m : Memref sig .tc sp s e) (r : Rect s) :
    (m.access r).set ⊆ m.view.set := by
  intro y hy
  obtain ⟨x, -, rfl⟩ := Finset.mem_map.1 hy
  exact Finset.mem_map.2 ⟨r.emb x, Finset.mem_univ _, rfl⟩

/-- A load of a whole buffer gives its contents. -/
theorem wp_loadO {Q : α → sProp 𝕄} {s : Shape} {e : EltTy} {m : Memref sig .tc .vmem s e} {o : Fin s.rank → ℕ}
    (ho : ∀ a, o a = 0) {h : ∀ a, o a + s.size a ≤ s.size a} {hl} {k : Vec F s e → Prog (TpuEff nD τ sig (Elt F) Λ₀ .tc) α} (X : Vec F s e) :
    (owns (c : Thread nD τ) m fullShare X : sProp 𝕄) ⊢ iprop((owns (c : Thread nD τ) m fullShare X -∗ WP c (k X) Q)
      -∗ WP c (Prog.lift (.load m (Rect.unit (s := s) o s.size h).toLoadRect hl) >>= k) Q) := by
  have hh : ∀ f : m.view.ty.Contents (Elt F), (m.view.loc (c : Thread nD τ) ↦[m.view.set]{fullShare} f)
      ⊢ iprop(((m.view.loc (c : Thread nD τ) ↦[m.view.set]{fullShare} f) -∗ WP c (k (m.view.read (Elt F) f)) Q)
        -∗ WP c (Prog.lift (.load m (Rect.unit (s := s) o s.size h).toLoadRect hl) >>= k) Q) := by
    intro f
    rw [← access_read m ho h f]
    exact wp_load_rect (m := m) (r := Rect.unit (s := s) o s.size h) Variants.none (c : Thread nD τ) none Set.univ
      (S := m.view.set) (q := fullShare) (f := f) (access_sub m _)
  unfold owns
  iintro ⟨%f, %hf, H⟩ HK
  subst hf
  iapply (hh f) $$ H
  iintro H
  iapply HK
  iexists f
  isplitr
  · ipureintro; rfl
  · iexact H

/-- A store over a whole buffer leaves what it stores. -/
theorem wp_storeO {Q : α → sProp 𝕄} {s : Shape} {e : EltTy} {m : Memref sig .tc .vmem s e} {o : Fin s.rank → ℕ}
    (ho : ∀ a, o a = 0) {h : ∀ a, o a + s.size a ≤ s.size a} (w : Vec F s e) {hx} {hm}
    {k : PUnit → Prog (TpuEff nD τ sig (Elt F) Λ₀ .tc) α} (X : Vec F s e) :
    (owns (c : Thread nD τ) m fullShare X : sProp 𝕄) ⊢ iprop((owns (c : Thread nD τ) m fullShare w -∗ WP c (k ⟨⟩) Q)
      -∗ WP c (Prog.lift (.store m (Rect.unit (s := s) o s.size h) w Finset.univ hx hm) >>= k) Q) := by
  have hh : ∀ f : m.view.ty.Contents (Elt F), (m.view.loc (c : Thread nD τ) ↦[m.view.set]{fullShare} f)
      ⊢ iprop(((m.view.loc (c : Thread nD τ) ↦[m.view.set]{fullShare} ((m.access (Rect.unit (s := s) o s.size h)).write (Elt F) f w Finset.univ)) -∗ WP c (k ⟨⟩) Q)
        -∗ WP c (Prog.lift (.store m (Rect.unit (s := s) o s.size h) w Finset.univ hx hm) >>= k) Q) := by
    intro f
    exact wp_store (m := m) (r := Rect.unit (s := s) o s.size h) Variants.none (c : Thread nD τ) none Set.univ
      (S := m.view.set) (f := f) (access_sub m _)
  have hr : ∀ f : m.view.ty.Contents (Elt F), m.view.read (Elt F) ((m.access (Rect.unit (s := s) o s.size h)).write (Elt F) f w Finset.univ) = w := by
    intro f
    rw [← access_read m ho h]
    exact View.read_write_univ _ _
  unfold owns
  iintro ⟨%f, %hf, H⟩ HK
  iapply (hh f) $$ H
  iintro H
  iapply HK
  iexists _
  isplitr
  · ipureintro; exact hr f
  · iexact H

/-- The scratch's first fill, at the first grid point, and the program after it. -/
@[reducible] def initK (cond : Prop) [Decidable cond] (k : Prog (TpuEff nD τ sig (Elt F) Λ₀ .tc) α) : Prog (TpuEff nD τ sig (Elt F) Λ₀ .tc) α :=
  if h : cond then do
    let _v : Vec F S2x16x64x656 .i8 ← Prog.lift (.load (Memref.whole cc0_scratch0) (Rect.unit (s := S2x16x64x656) ![0, 0, 0, 0] S2x16x64x656.size inb_S2x16x64x656_S2x16x64x656_0_0_0_0).toLoadRect (View.loadsAt_vmem h_S2x16x64x656))
    Prog.lift (.store (Memref.whole cc0_scratch0) (Rect.unit (s := S2x16x64x656) ![0, 0, 0, 0] S2x16x64x656.size inb_S2x16x64x656_S2x16x64x656_0_0_0_0) (k0_pay27 : IVec S2x16x64x656 8) Finset.univ
      (View.stores_vmem h_S2x16x64x656 ((Memref.isWhole_whole cc0_scratch0).storeExact_slice rfl _ packedi8_S2x16x64x656_S2x16x64x656_0_0_0_0) (fun _ => rfl)) (.inl rfl))
    k
  else k

/-- The scratch, at some contents. -/
abbrev Scr (f : ScrV F) : sProp 𝕄 := iprop((c : Thread nD τ).loc cc0_scratch0 ↦[Finset.univ]{fullShare} f)

theorem scr_owns (f : ScrV F) : (Scr c f : sProp 𝕄) = owns (c : Thread nD τ) (Memref.whole cc0_scratch0) fullShare f :=
  (owns_whole _ _ _ _).symm

theorem wp_initK {Q : α → sProp 𝕄} {cond : Prop} [Decidable cond] {k : Prog (TpuEff nD τ sig (Elt F) Λ₀ .tc) α} {R : sProp 𝕄} (f : ScrV F)
    (hk : ∀ f, iprop(R ∗ Scr c f) ⊢ WP c k Q) : iprop(R ∗ Scr c f) ⊢ WP c (initK cond k) Q := by
  have z : ∀ a : Fin 4, (![0, 0, 0, 0] : Fin 4 → ℕ) a = 0 := by decide
  unfold initK
  by_cases h : cond
  · rw [dif_pos h]
    simp only [scr_owns] at hk ⊢
    iintro ⟨HR, HS⟩
    iapply (wp_loadO c (m := Memref.whole cc0_scratch0) z f) $$ HS
    iintro HS
    iapply (wp_storeO c (m := Memref.whole cc0_scratch0) z (k0_pay27 : IVec S2x16x64x656 8) f) $$ HS
    iintro HS
    iapply (hk (k0_pay27 : IVec S2x16x64x656 8))
    isplitl [HR]
    · iexact HR
    · iexact HS
  · rw [dif_neg h]
    exact hk f

/-- The length of sequence `b`. -/
def lenOf (L : S65.Idx → Elt F .i32) (b : Fin 65) : BitVec 32 := L (ix1 b)

theorem len_read (L : S65.Idx → Elt F .i32) (i : grid0.Coords) (h : ∀ a, k0_off1 i a + S1.size a ≤ S65.size a) (x : S1.Idx) :
    ((Memref.whole main_arg4).access (Rect.unit (s := S65) (k0_off1 i) S1.size h)).read (Elt F) L x = lenOf L (i 0) := by
  have hi : (i 0).val < 65 := (i 0).isLt
  have ho : k0_off1 i = ![(i 0).val] := by
    show ![(BitVec.ofNat 32 (i 0).val).toNat] = _
    rw [toNat_ofNat (by omega)]
  show L ((Rect.unit (s := S65) (k0_off1 i) S1.size h).emb x) = L (ix1 (i 0))
  congr 1
  funext a
  apply Fin.ext
  rw [ValueKit.rect_emb_unit_val]
  match a with
  | ⟨0, _⟩ => have : (x 0).val < 1 := (x 0).isLt; show k0_off1 i 0 + (x 0).val = (i 0).val; rw [ho]; show (i 0).val + (x 0).val = (i 0).val; omega

end

end Cert.KernelIdeal.Hand
-- ==== Proof.KI.Body.lean ====
/- Hand-written, untrusted. The kernel at one grid point. -/
module

public import proofs.«01_k».proof.Proof.KI.Stage

@[expose] public section

noncomputable section

namespace Cert.KernelIdeal.Hand

open Cert.KernelIdeal Cert.KernelIdeal.Gen Cert.Words
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (V : PoolV F) (T : TblV F) (L : S65.Idx → Elt F .i32) (qT qL : PosShare TreeShare) (i : grid0.Coords) (v : BitVec 32) (hv : v.toNat ≤ 8192)
    (hTr : ∀ x, (T x : BitVec 32).toNat < 10400) (hLr : ∀ x, (L x : BitVec 32).toNat ≤ 8192)
    {h1 : (Memref.whole main_arg3 : Memref sig .tc .smem S65x128 .i32).IsWhole} {h2 : (Memref.whole main_arg4 : Memref sig .tc .smem S65 .i32).IsWhole}
    {a3 : Memref sig .tc .vmem S1x1x64x512 .bf16} {h3 : a3.IsWhole} {a4 : Memref sig .tc .vmem S1x1x64x64 .bf16} {h4 : a4.IsWhole}
    {a5 : Memref sig .tc .vmem S1x1x512 .fp8e4m3} {h5 : a5.IsWhole} {a6 : Memref sig .tc .vmem S1x1x4 .f32} {h6 : a6.IsWhole}
    {a7 : Memref sig .tc .vmem S1x1x64 .bf16} {h7 : a7.IsWhole} {h8 : (Memref.whole main_arg2 : Memref sig .tc .hbm S10400x64x656 .i8).IsWhole}
    {a9 : Memref sig .tc .vmem S1x64x512 .bf16} {h9 : a9.IsWhole} {a10 : Memref sig .tc .vmem S1x64x1 .f32} {h10 : a10.IsWhole}
    {h11 : (Memref.whole cc0_scratch0 : Memref sig .tc .vmem S2x16x64x656 .i8).IsWhole} {a0 v20 v39 : BitVec 32}
    (Xq : Vec F S1x1x64x512 .bf16) (Xr : Vec F S1x1x64x64 .bf16) (Xn : Vec F S1x1x512 .fp8e4m3) (Xs : Vec F S1x1x4 .f32) (Xk : Vec F S1x1x64 .bf16)

/-- What the loop starts from: the new token alone. -/
def init3 : A3 F := (k0_pay32 (k0_pay28 Xq) (k0_pay29 Xr) (k0_pay30 Xs) Xn Xk, k0_pay33, k0_pay34 (k0_pay30 Xs) Xn)

/-- What the loop ends with, from these blocks of the operands. -/
def Ends (a : A3 F) : Prop :=
  RunTo V T (i 0) v (k0_pay28 Xq) (k0_pay29 Xr) (init3 Xq Xr Xn Xs Xk) (nb v.toNat) a

/-- The kernel's memory between grid points but for its scratch. -/
def Mem : sProp 𝕄 := iprop(((c : Thread nD τ).loc main_arg2 ↦[Finset.univ]{fullShare} V)
  ∗ semVal ((c : Thread nD τ), .dma (dsem 0)) 0 ∗ semVal ((c : Thread nD τ), .dma (dsem 1)) 0 ∗ ((c : Thread nD τ).loc main_arg3 ↦[Finset.univ]{qT} T))

theorem begin_open (f : ScrV F) (R : sProp 𝕄) : iprop((R ∗ Mem c V T qT) ∗ Scr c f)
    ⊢ (|={Set.univ}=> iprop((R ∗ Free c V 1 f) ∗ Sx c V T qT (i 0) 0 0 (live v 0) f 0) : sProp 𝕄) := by
  unfold Mem Sx
  iintro ⟨⟨HR, HV, H0, H1, HT⟩, HS⟩
  icases (free_open c V f) $$ [HS HV H0 H1] with ⟨HA, HB⟩
  · isplitl [HS]
    · iexact HS
    · isplitl [HV]
      · iexact HV
      · isplitl [H0]
        · iexact H0
        · iexact H1
  imod (st_begin c V (pgOf T (i 0) 0) 0 (live v 0) f) $$ HA with HA
  imodintro
  isplitl [HR HB]
  · isplitl [HR]
    · iexact HR
    · iexact HB
  · isplitl [HA]
    · iexact HA
    · iexact HT

theorem close_any (n : ℕ) (hn : n < 2) (f g : ScrV F) : iprop(Free c V n g ∗ Free c V (1 - n) f) ⊢ (iprop((∃ h, Scr c h)
      ∗ ((c : Thread nD τ).loc main_arg2 ↦[Finset.univ]{fullShare} V)
      ∗ semVal ((c : Thread nD τ), .dma (dsem 0)) 0 ∗ semVal ((c : Thread nD τ), .dma (dsem 1)) 0) : sProp 𝕄) := by
  rcases (by omega : n = 0 ∨ n = 1) with rfl | rfl
  · exact free_close c V g f
  · exact BI.sep_comm.trans (free_close c V f g)

include hv in
/-- The end of the loop: everything back. -/
theorem inv_done (a : A3 F) (q : FVec F S64x512 .bf16) (qr : FVec F S64x64 .bf16) (z : A3 F) :
    (Inv c V T qT i v q qr z (nb v.toNat) a : sProp 𝕄) ⊢ |={Set.univ}=> iprop(⌜RunTo V T (i 0) v q qr z (nb v.toNat) a⌝
      ∗ (∃ h, Scr c h) ∗ Mem c V T qT ∗ ∃ W, owes (c : Thread nD τ) 0 W) := by
  have hl : live v (nb v.toNat) = 0 := by unfold live nb; omega
  unfold Inv Sx Mem
  rw [hl]
  iintro ⟨HR, HS, HF, HO⟩
  icases HS with ⟨%g, HS, HT⟩
  icases HF with ⟨%f, HF⟩
  imod (st_empty c V (pgOf T (i 0) (nb v.toNat)) (nb v.toNat % 2) 0 g rfl) $$ HS with HS
  imodintro
  icases (close_any c V (nb v.toNat % 2) (Nat.mod_lt _ (by decide)) f g) $$ [HS HF] with ⟨HA, HV, H0, H1⟩
  · isplitl [HS]
    · iexact HS
    · iexact HF
  isplitl [HR]
  · iexact HR
  · isplitl [HA]
    · iexact HA
    · isplitr [HO]
      · isplitl [HV]
        · iexact HV
        · isplitl [H0]
          · iexact H0
          · isplitl [H1]
            · iexact H1
            · iexact HT
      · iexact HO

include hLr in
/-- The read of the sequence's length. -/
theorem wp_part13 : ((c : Thread nD τ).loc main_arg4 ↦[Finset.univ]{qL} L : sProp 𝕄) ⊢ WP c
      (k0_part13 (F := F) i (Memref.whole main_arg3) h1 (Memref.whole main_arg4) h2 a3 h3 a4 h4 a5 h5 a6 h6 a7 h7 (Memref.whole main_arg2) h8 a9 h9 a10 h10 (Memref.whole cc0_scratch0) h11 cc0_scratch1)
      (fun r => iprop(⌜r.2.1 = lenOf L (i 0) ∧ r.1 = BitVec.ofNat 32 (i 0).val⌝ ∗ ((c : Thread nD τ).loc main_arg4 ↦[Finset.univ]{qL} L))) := by
  rw [k0_part13_eq_skeleton]
  unfold k0_part13_skel WP
  iintro HT
  rw [wp_bind]
  unfold smemLoad
  iapply (wp_smemLoadElt Variants.none (c : Thread nD τ) none Set.univ (m := Memref.whole main_arg4) (f := L) (S := Finset.univ) (q := qL)
      (r := Rect.unit (s := S65) (k0_off1 i) S1.size (k0_off1_inb i)) (Finset.subset_univ _)) $$ HT
  iintro HT
  rw [len_read L i, wp_ret]
  imodintro
  rw [wp_bind]
  iapply (wp_assume Variants.none (c : Thread nD τ) none Set.univ (chk17 i (hLr (ix1 (i 0)))))
  erw [wp_ret]
  imodintro
  rw [wp_pure]
  imodintro
  isplitr
  · ipureintro; exact ⟨rfl, rfl⟩
  · iexact HT

include hv hTr in
/-- The scratch's first fill and the starts of the first block's pages 0 to 8. -/
theorem wp_part14 {R : sProp 𝕄} (f : ScrV F) : iprop((R ∗ Mem c V T qT) ∗ Scr c f) ⊢ WP c
      (k0_part14 (F := F) i (Memref.whole main_arg3) h1 (Memref.whole main_arg4) h2 a3 h3 a4 h4 a5 h5 a6 h6 a7 h7 (Memref.whole main_arg2) h8 a9 h9 a10 h10 (Memref.whole cc0_scratch0) h11 cc0_scratch1 a0 v v20)
      (fun _ => iprop(∃ f, (R ∗ Free c V 1 f) ∗ Sx c V T qT (i 0) 0 0 (live v 0) f 9)) := by
  rw [k0_part14_eq_skeleton]
  unfold k0_part14_skel WP
  refine wp_initK c f (fun f => ?_)
  refine wp_open c (begin_open c V T qT i v f R) ?_
  iterate 9
    refine wp_firstK c V T qT i v hv f hTr _ (by decide) (hP := fun h w hc => hc.1 h) (fun w hw => ⟨fun _ => page_inb hw, fun _ hi => page_words hi⟩) ?_
  refine wp_done (F := F) c _ _ _ ?_
  iintro H
  iexists f
  iexact H

include hv hTr in
/-- The starts of the first block's pages 9 to 15 and the loads of the queries and the new token's scales. -/
theorem wp_part15 {R : sProp 𝕄} (f : ScrV F) : iprop(((R ∗ owns (c : Thread nD τ) a3 fullShare Xq ∗ owns (c : Thread nD τ) a4 fullShare Xr ∗ owns (c : Thread nD τ) a6 fullShare Xs) ∗ Free c V 1 f) ∗ Sx c V T qT (i 0) 0 0 (live v 0) f 9) ⊢ WP c
      (k0_part15 (F := F) i (Memref.whole main_arg3) h1 (Memref.whole main_arg4) h2 a3 h3 a4 h4 a5 h5 a6 h6 a7 h7 (Memref.whole main_arg2) h8 a9 h9 a10 h10 (Memref.whole cc0_scratch0) h11 cc0_scratch1 a0 v v20)
      (fun r => iprop(⌜r = ⟨k0_pay28 Xq, k0_pay29 Xr, k0_pay30 Xs⟩⌝ ∗ (R ∗ owns (c : Thread nD τ) a3 fullShare Xq ∗ owns (c : Thread nD τ) a4 fullShare Xr ∗ owns (c : Thread nD τ) a6 fullShare Xs)
        ∗ Free c V 1 f ∗ Sx c V T qT (i 0) 0 0 (live v 0) f 16)) := by
  rw [k0_part15_eq_skeleton]
  unfold k0_part15_skel WP
  iterate 7
    refine wp_firstK c V T qT i v hv f hTr _ (by decide) (hP := fun h w hc => hc.1 h) (fun w hw => ⟨fun _ => page_inb hw, fun _ hi => page_words hi⟩) ?_
  iintro ⟨⟨⟨HR, HQ, HK, HC⟩, HF⟩, HS⟩
  iapply (wp_loadO c (m := a3) (by decide) Xq) $$ HQ
  iintro HQ
  iapply (wp_loadO c (m := a4) (by decide) Xr) $$ HK
  iintro HK
  iapply (wp_loadO c (m := a6) (by decide) Xs) $$ HC
  iintro HC
  rw [WP, wp_pure]
  imodintro
  isplitr
  · ipureintro; rfl
  · isplitr [HF HS]
    · isplitl [HR]
      · iexact HR
      · isplitl [HQ]
        · iexact HQ
        · isplitl [HK]
          · iexact HK
          · iexact HC
    · isplitl [HF]
      · iexact HF
      · iexact HS
include hv hTr in
/-- The loop over the blocks, from the first block's pages in flight. -/
theorem wp_part16 {hw} {R : sProp 𝕄} (f : ScrV F) : iprop((((R ∗ owns (c : Thread nD τ) a5 fullShare Xn ∗ owns (c : Thread nD τ) a7 fullShare Xk)
      ∗ Free c V 1 f) ∗ Sx c V T qT (i 0) 0 0 (live v 0) f 16) ∗ ∃ W, owes (c : Thread nD τ) 0 W) ⊢ WP c
      (k0_part16 (F := F) i (Memref.whole main_arg3) h1 (Memref.whole main_arg4) h2 a3 h3 a4 h4 a5 h5 a6 h6 a7 h7 (Memref.whole main_arg2) h8 a9 h9 a10 h10 (Memref.whole cc0_scratch0) h11 cc0_scratch1 a0 v hw v20 v39 (k0_pay28 Xq) (k0_pay29 Xr) (k0_pay30 Xs))
      (fun r => iprop(⌜Ends V T i v Xq Xr Xn Xs Xk (r.2.1, r.2.2.1, r.2.2.2)⌝ ∗ ((R ∗ owns (c : Thread nD τ) a5 fullShare Xn ∗ owns (c : Thread nD τ) a7 fullShare Xk)
        ∗ (∃ h, Scr c h) ∗ Mem c V T qT ∗ ∃ W, owes (c : Thread nD τ) 0 W))) := by
  rw [k0_part16_eq_skeleton]
  unfold k0_part16_skel
  iintro ⟨⟨⟨⟨HR, HN, HK⟩, HF⟩, HS⟩, HO⟩
  iapply (wp_loadO c (m := a5) (by decide) Xn) $$ HN
  iintro HN
  iapply (wp_loadO c (m := a7) (by decide) Xk) $$ HK
  iintro HK
  iapply (Scf.wp_for_bind _ _ _ _ _ _ _ _ _ (fun t a => Inv c V T qT i v (k0_pay28 Xq) (k0_pay29 Xr) (init3 Xq Xr Xn Xs Xk) t a)
    (fun t a => wp_trip c V T qT i v hv hTr (k0_pay28 Xq) (k0_pay29 Xr) (init3 Xq Xr Xn Xs Xk) t a)) $$ [HF HS HO]
  · unfold Inv
    isplitr
    · ipureintro; rfl
    · isplitl [HS]
      · iexists f; iexact HS
      · isplitl [HF]
        · iexists f; iexact HF
        · iexact HO
  iintro %a HI
  rw [show Scf.trips _ _ _ = _ from t1_trips hv]
  obtain ⟨a1, a2, a3'⟩ := a
  rw [wp_pure]
  imod (inv_done c V T qT i v hv _ (k0_pay28 Xq) (k0_pay29 Xr) (init3 Xq Xr Xn Xs Xk)) $$ HI with ⟨%HE, HA, HM, HO⟩
  imodintro
  isplitr
  · ipureintro; exact HE
  · isplitl [HR HN HK]
    · isplitl [HR]
      · iexact HR
      · isplitl [HN]
        · iexact HN
        · iexact HK
    · isplitl [HA]
      · iexact HA
      · isplitl [HM]
        · iexact HM
        · iexact HO

include hTr hLr in
/-- The kernel at one grid point: the inputs' blocks stay, the outputs' blocks become the loop's end, divided and
    in logarithms, and the memory between points is as it was. -/
theorem wp_body (Yo : Vec F S1x64x512 .bf16) (Yl : Vec F S1x64x1 .f32) :
    iprop((∃ f, Scr c f) ∗ Mem c V T qT ∗ ((c : Thread nD τ).loc main_arg4 ↦[Finset.univ]{qL} L) ∗ (∃ W, owes (c : Thread nD τ) 0 W)
      ∗ owns (c : Thread nD τ) a3 fullShare Xq ∗ owns (c : Thread nD τ) a4 fullShare Xr ∗ owns (c : Thread nD τ) a5 fullShare Xn
      ∗ owns (c : Thread nD τ) a6 fullShare Xs ∗ owns (c : Thread nD τ) a7 fullShare Xk ∗ owns (c : Thread nD τ) a9 fullShare Yo ∗ owns (c : Thread nD τ) a10 fullShare Yl) ⊢ WP c
      (cc0_mla_decode (F := F) i (Memref.whole main_arg3) h1 (Memref.whole main_arg4) h2 a3 h3 a4 h4 a5 h5 a6 h6 a7 h7 (Memref.whole main_arg2) h8 a9 h9 a10 h10 (Memref.whole cc0_scratch0) h11 cc0_scratch1)
      (fun _ => iprop((∃ f, Scr c f) ∗ Mem c V T qT ∗ ((c : Thread nD τ).loc main_arg4 ↦[Finset.univ]{qL} L) ∗ (∃ W, owes (c : Thread nD τ) 0 W)
      ∗ owns (c : Thread nD τ) a3 fullShare Xq ∗ owns (c : Thread nD τ) a4 fullShare Xr ∗ owns (c : Thread nD τ) a5 fullShare Xn
      ∗ owns (c : Thread nD τ) a6 fullShare Xs ∗ owns (c : Thread nD τ) a7 fullShare Xk
      ∗ ∃ a, ⌜Ends V T i (lenOf L (i 0)) Xq Xr Xn Xs Xk a⌝ ∗ owns (c : Thread nD τ) a9 fullShare (k0_pay3 a.2.1 a.2.2) ∗ owns (c : Thread nD τ) a10 fullShare (k0_pay4 a.1 a.2.1))) := by
  rw [cc0_mla_decode_eq_skeleton]
  unfold cc0_mla_decode_skel WP
  iintro ⟨⟨%f, HF⟩, HM, HL, HO, HQ, HR, HN, HS, HK, HY, HZ⟩
  rw [wp_bind]
  ihave HW := (wp_part13 c L qL i hLr) $$ HL
  iapply (wp_wand_r _ _ _)
  isplitl [HW]
  · iexact HW
  iintro %r ⟨%he, HL⟩
  obtain ⟨b0, w, hw, w20, w39⟩ := r
  obtain ⟨he, -⟩ := he
  dsimp only at he
  subst he
  have hv := hLr (ix1 (i 0))
  rw [wp_bind]
  ihave HW := (wp_part14 c V T qT i (lenOf L (i 0)) hv hTr (R := iprop(⌜True⌝)) f) $$ [HM HF]
  · isplitl [HM]
    · isplitr
      · ipureintro; trivial
      · iexact HM
    · iexact HF
  iapply (wp_wand_r _ _ _)
  isplitl [HW]
  · iexact HW
  iintro %_ ⟨%g, ⟨-, HF⟩, HX⟩
  rw [wp_bind]
  ihave HW := (wp_part15 c V T qT i (lenOf L (i 0)) hv hTr Xq Xr Xs (R := iprop(⌜True⌝)) g) $$ [HQ HR HS HF HX]
  · isplitr [HX]
    · isplitr [HF]
      · isplitr
        · ipureintro; trivial
        · isplitl [HQ]
          · iexact HQ
          · isplitl [HR]
            · iexact HR
            · iexact HS
      · iexact HF
    · iexact HX
  iapply (wp_wand_r _ _ _)
  isplitl [HW]
  · iexact HW
  iintro %r ⟨%hr, ⟨-, HQ, HR, HS⟩, HF, HX⟩
  subst hr
  rw [wp_bind]
  ihave HW := (wp_part16 c V T qT i (lenOf L (i 0)) hv hTr Xq Xr Xn Xs Xk (R := iprop(⌜True⌝)) g) $$ [HN HK HF HX HO]
  · isplitr [HO]
    · isplitr [HX]
      · isplitr [HF]
        · isplitr
          · ipureintro; trivial
          · isplitl [HN]
            · iexact HN
            · iexact HK
        · iexact HF
      · iexact HX
    · iexact HO
  iapply (wp_wand_r _ _ _)
  isplitl [HW]
  · iexact HW
  iintro %r ⟨%hr, ⟨-, HN, HK⟩, HF, HM, HO⟩
  obtain ⟨w143, b1, b2, b3⟩ := r
  dsimp only at hr
  iapply (Scf.wp_for_bind _ _ _ _ _ _ _ _ _ (fun _ a => (iprop(⌜a = (b1, b2, b3)⌝) : sProp 𝕄))
    (fun t _ => (t2_none t).elim)) $$ []
  · ipureintro; rfl
  iintro %a %ha
  subst ha
  iapply (wp_loadO c (m := a9) (by decide) Yo) $$ HY
  iintro HY
  iapply (wp_storeO c (m := a9) (by decide) _ Yo) $$ HY
  iintro HY
  iapply (wp_loadO c (m := a10) (by decide) Yl) $$ HZ
  iintro HZ
  iapply (wp_storeO c (m := a10) (by decide) _ Yl) $$ HZ
  iintro HZ
  rw [WP, wp_pure]
  imodintro
  isplitl [HF]
  · iexact HF
  isplitl [HM]
  · iexact HM
  isplitl [HL]
  · iexact HL
  isplitl [HO]
  · iexact HO
  isplitl [HQ]
  · iexact HQ
  isplitl [HR]
  · iexact HR
  isplitl [HN]
  · iexact HN
  isplitl [HS]
  · iexact HS
  isplitl [HK]
  · iexact HK
  iexists (b1, b2, b3)
  isplitr
  · ipureintro; exact hr
  isplitl [HY]
  · iexact HY
  · iexact HZ
end

end Cert.KernelIdeal.Hand
-- ==== Proof.KI.Launch.lean ====
/- Hand-written, untrusted. The kernel launched: its run from any memory whose tables are in range. -/
module

public import proofs.«01_k».proof.Proof.KI.Body

@[expose] public section

noncomputable section

namespace Cert.KernelIdeal.Hand

open Cert.KernelIdeal Cert.KernelIdeal.Gen Cert.Words
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

/-- The tables the region reads. -/
def adm : (p : Fin 1) → (pcfgs (F := F) p).Adm := fun _ => ⟨fun k => V m 0 (pre0.ref k), trivial⟩

abbrev cfgM : Pipeline.Cfg sig Λ₀ := cfg0 (adm m 0)

theorem hmain : Pipeline.HMainP (Ix := Unit) (Name := ℕ) (U := Pipeline.UD sig nD τ) (Lvl := ℕ) (pcfgs (F := F)) 0 defs₀ Variants.none m (main (F := F)) (V m) :=
  Pipeline.hmainP_region (pcfgs (F := F)) 0 defs₀ Variants.none m main fun c => (main_chain c).trans rfl

/-- The body's two cells. -/
abbrev osem0 : Fin 2 → SemLoc sig := fun j => (![SemLoc.dma 14, SemLoc.dma 15] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 14) 0 ∗ semVal ((c : Thread nD τ), SemLoc.dma 15) 0) := by
  rw [Pipeline.ownSems0_eq_of_list c osem0 [0, 1] (by decide) (by decide)]; rfl
def H0 : Finset (Ref sig .tc) := {main_arg2}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = iprop((c : Thread nD τ).loc main_arg2 ↦{fullShare} V m c main_arg2) := by
  rw [BI.bigSep_eq_bigSepL_of_eq [main_arg2] (by decide) (by decide)]; rfl
theorem tables_eq (c : Dev nD) :
    (Pipeline.ΦT (U := Pipeline.UD sig nD τ) pre0 (adm m 0).1 c : sProp 𝕄)
      = iprop(((c : Thread nD τ).loc main_arg3 ↦{fullShare.right} V m 0 main_arg3) ∗ ((c : Thread nD τ).loc main_arg4 ↦{fullShare.right} V m 0 main_arg4)) := by
  unfold Pipeline.ΦT Pipeline.prefHeld
  rw [bigSep_univ_eq_bigSepL [(0 : Fin 2), (1 : Fin 2)] (by decide) (by decide)]; rfl

/-- The memory between grid points. -/
def Phi (c : Dev nD) : sProp 𝕄 := iprop(Pipeline.ΦD osem0 spec0 H0 (V m) c ∗ Pipeline.ΦT (U := Pipeline.UD sig nD τ) pre0 (adm m 0).1 c)

/-- The region's data that names every block the body is handed. -/
def rd0 (c : Dev nD) : Pipeline.RDat τ (Elt F) Unit ℕ (Pipeline.UD sig nD τ) ℕ (cfgM m) c where
  A := fun w => V m c (Pipeline.arrRef spec0 w)
  after := fun _ _ Y X => X = Y
  Φ := fun _ => Phi m c
  q := fun _ => fullShare
  owed := fun _ => 0

/-- At a grid point: some blocks the body may be handed, and what the loop ends with from them. -/
def Got (c : Dev nD) (t : Fin (cfgM m).N) (a : A3 F) : Prop :=
  ∃ Y : (w : Fin (cfgM m).W) → ((cfgM m).win w).block.Idx → Elt F ((cfgM m).win w).elt, (∀ w : Fin 7, w.val < 5 → (rd0 m c).Finds w t (Y w))
    ∧ Ends (V m c main_arg2) (V m 0 main_arg3) (grid0.coords t) (lenOf (V m 0 main_arg4) ((grid0.coords t) 0)) (Y 0) (Y 1) (Y 2) (Y 3) (Y 4) a

/-- What the body leaves in a window's buffer: an input's as found, an output's by the loop's end. -/
def aft (c : Dev nD) : (w : Fin 7) → Fin (cfgM m).N → (Y X : ((cfgM m).win w).block.Idx → Elt F ((cfgM m).win w).elt) → Prop
  | 0 => fun _ Y X => X = Y
  | 1 => fun _ Y X => X = Y
  | 2 => fun _ Y X => X = Y
  | 3 => fun _ Y X => X = Y
  | 4 => fun _ Y X => X = Y
  | 5 => fun t _ X => ∃ a, Got m c t a ∧ X = k0_pay3 a.2.1 a.2.2
  | 6 => fun t _ X => ∃ a, Got m c t a ∧ X = k0_pay4 a.1 a.2.1
  | ⟨_ + 7, h⟩ => absurd h (Nat.not_lt.2 (Nat.le_add_left _ _))

/-- The region's data. -/
def rd (c : Dev nD) : Pipeline.RDat τ (Elt F) Unit ℕ (Pipeline.UD sig nD τ) ℕ (cfgM m) c where
  A := fun w => V m c (Pipeline.arrRef spec0 w)
  after := aft m c
  Φ := fun _ => Phi m c
  q := fun _ => fullShare
  owed := fun _ => 0

theorem finds_in (c : Dev nD) (w : Fin 7) (hw : w.val < 5) (t : Fin (cfgM m).N) (X) : (rd m c).Finds w t X ↔ (rd0 m c).Finds w t X := by
  refine Pipeline.RDat.finds_congr (rd := rd0 m c) (rd' := rd m c) rfl ?_ t X
  match w, hw with
  | 0, _ => rfl
  | 1, _ => rfl
  | 2, _ => rfl
  | 3, _ => rfl
  | 4, _ => rfl

theorem mix {S P A B V T L : sProp 𝕄} : iprop((S ∗ P ∗ (A ∗ B) ∗ V) ∗ T ∗ L) ⊢ iprop(P ∗ S ∗ (V ∗ A ∗ B ∗ T) ∗ L) := by
  iintro ⟨⟨HS, HP, ⟨H0, H1⟩, HV⟩, HT, HL⟩
  isplitl [HP]
  · iexact HP
  isplitl [HS]
  · iexact HS
  isplitr [HL]
  · isplitl [HV]
    · iexact HV
    isplitl [H0]
    · iexact H0
    isplitl [H1]
    · iexact H1
    · iexact HT
  · iexact HL

theorem unmix {S P A B V T L : sProp 𝕄} : iprop(P ∗ S ∗ (V ∗ A ∗ B ∗ T) ∗ L) ⊢ iprop((S ∗ P ∗ (A ∗ B) ∗ V) ∗ T ∗ L) := by
  iintro ⟨HP, HS, ⟨HV, H0, H1, HT⟩, HL⟩
  isplitl [HP HS HV H0 H1]
  · isplitl [HS]
    · iexact HS
    isplitl [HP]
    · iexact HP
    isplitr [HV]
    · isplitl [H0]
      · iexact H0
      · iexact H1
    · iexact HV
  · isplitl [HT]
    · iexact HT
    · iexact HL

/-- The memory between grid points, piece by piece. -/
theorem Phi_eq (c : Dev nD) : (Phi m c : sProp 𝕄) = iprop((∃ r, prngReg c r) ∗ (∃ f, Scr c f) ∗ Mem c (V m c main_arg2) (V m 0 main_arg3) fullShare.right
    ∗ ((c : Thread nD τ).loc main_arg4 ↦[Finset.univ]{fullShare.right} V m 0 main_arg4)) := by
  unfold Phi Mem
  rw [Pipeline.ΦD_eq, scopedRest0_eq, ownSems00_eq, hbmPts0_eq, tables_eq]
  exact Entails.antisymm mix unmix

/-- The windows' buffers, one by one. -/
theorem stages_eq (Φ : Fin 7 → sProp 𝕄) : (bigSep Finset.univ Φ : sProp 𝕄)
    = iprop(Φ 0 ∗ Φ 1 ∗ Φ 2 ∗ Φ 3 ∗ Φ 4 ∗ Φ 5 ∗ Φ 6) := bigSep_W0 Φ

/-- Into the order the kernel's triple takes. -/
theorem into {P S M L O A B C D E' G H : sProp 𝕄} : iprop((P ∗ S ∗ M ∗ L) ∗ O ∗ A ∗ B ∗ C ∗ D ∗ E' ∗ G ∗ H)
    ⊢ iprop(P ∗ S ∗ M ∗ L ∗ O ∗ A ∗ B ∗ C ∗ D ∗ E' ∗ G ∗ H) := by
  iintro ⟨⟨HP, HS, HM, HL⟩, HO, HA⟩
  isplitl [HP]
  · iexact HP
  isplitl [HS]
  · iexact HS
  isplitl [HM]
  · iexact HM
  isplitl [HL]
  · iexact HL
  isplitl [HO]
  · iexact HO
  · iexact HA

theorem keep {β : Type} (y : β) (A : β → sProp 𝕄) : A y ⊢ iprop(∃ x, ⌜x = y⌝ ∗ A x) := by
  iintro H
  iexists y
  isplitr
  · ipureintro; rfl
  · iexact H

theorem give {β : Type} (x : β) {φ : β → Prop} (h : φ x) (A : β → sProp 𝕄) : A x ⊢ iprop(∃ x, ⌜φ x⌝ ∗ A x) := by
  iintro H
  iexists x
  isplitr
  · ipureintro; exact h
  · iexact H

theorem owes_in (c : Dev nD) {B : Set (SemLoc sig × Unit)} : (Pipeline.owesWithin c 0 B : sProp 𝕄) ⊢ iprop(∃ W, owes (c : Thread nD τ) 0 W) := by
  unfold Pipeline.owesWithin
  iintro ⟨%W, %hW, HO⟩
  iexists W
  iexact HO

theorem owes_out (c : Dev nD) {B : Set (SemLoc sig × Unit)} (hB : ∀ x, x ∈ B) : iprop(∃ W, owes (c : Thread nD τ) 0 W) ⊢ (Pipeline.owesWithin c 0 B : sProp 𝕄) := by
  unfold Pipeline.owesWithin
  iintro ⟨%W, HO⟩
  iexists W
  isplitr
  · ipureintro; exact fun _ _ => hB _
  · iexact HO

/-- Back from the order the kernel's triple leaves. -/
theorem outof {α : Type} {P S M L O O' A B C D E' A' B' C' D' E'' G' H' : sProp 𝕄} {φ : α → Prop} {G H : α → sProp 𝕄}
    (hO : O ⊢ O') (hA : A ⊢ A') (hB : B ⊢ B') (hC : C ⊢ C') (hD : D ⊢ D') (hE : E' ⊢ E'') (hG : ∀ a, φ a → (G a ⊢ G')) (hH : ∀ a, φ a → (H a ⊢ H')) :
    iprop(P ∗ S ∗ M ∗ L ∗ O ∗ A ∗ B ∗ C ∗ D ∗ E' ∗ ∃ a, ⌜φ a⌝ ∗ G a ∗ H a) ⊢ iprop((P ∗ S ∗ M ∗ L) ∗ O' ∗ A' ∗ B' ∗ C' ∗ D' ∗ E'' ∗ G' ∗ H') := by
  iintro ⟨HP, HS, HM, HL, HO, HA, HB, HC, HD, HE, %a, %ha, HG, HH⟩
  isplitl [HP HS HM HL]
  · isplitl [HP]
    · iexact HP
    isplitl [HS]
    · iexact HS
    isplitl [HM]
    · iexact HM
    · iexact HL
  isplitl [HO]
  · iapply hO $$ HO
  isplitl [HA]
  · iapply hA $$ HA
  isplitl [HB]
  · iapply hB $$ HB
  isplitl [HC]
  · iapply hC $$ HC
  isplitl [HD]
  · iapply hD $$ HD
  isplitl [HE]
  · iapply hE $$ HE
  isplitl [HG]
  · iapply (hG a ha) $$ HG
  · iapply (hH a ha) $$ HH

theorem owesO {c : Dev nD} {B : Set (SemLoc sig × Unit)} {P Q : sProp 𝕄} : iprop(P ∗ Pipeline.owesWithin c 0 B ∗ Q) ⊢ iprop(P ∗ (∃ W, owes (c : Thread nD τ) 0 W) ∗ Q) := by
  iintro ⟨HP, HO, HQ⟩
  isplitl [HP]
  · iexact HP
  isplitl [HO]
  · iapply (owes_in c) $$ HO
  · iexact HQ

/-- The body meets the region's obligation. -/
theorem body_ob (hTr : ∀ x, (V m 0 main_arg3 x : BitVec 32).toNat < 10400) (hLr : ∀ x, (V m 0 main_arg4 x : BitVec 32).toNat ≤ 8192)
    (c : Dev nD) : (rd m c).BodyObligation defs₀ Variants.none () Set.univ := by
  intro t Y hY
  have hF : ∀ w : Fin 7, w.val < 5 → (rd0 m c).Finds w t (Y w) := fun w hw => (finds_in m c w hw t _).1 (hY w)
  have hb := wp_framed c (R := iprop(∃ r, prngReg c r)) (wp_body (F := F) c (V m c main_arg2) (V m 0 main_arg3) (V m 0 main_arg4) fullShare.right fullShare.right (grid0.coords t) hTr hLr
    (h1 := Memref.isWhole_whole _) (h2 := Memref.isWhole_whole _) (h8 := Memref.isWhole_whole _) (h11 := Memref.isWhole_whole _)
    (h3 := hstage0_0 (((cfgM m).slots t 0).cast nbuf0_0)) (h4 := hstage0_1 (((cfgM m).slots t 1).cast nbuf0_1))
    (h5 := hstage0_2 (((cfgM m).slots t 2).cast nbuf0_2)) (h6 := hstage0_3 (((cfgM m).slots t 3).cast nbuf0_3))
    (h7 := hstage0_4 (((cfgM m).slots t 4).cast nbuf0_4)) (h9 := hstage0_5 (((cfgM m).slots t 5).cast nbuf0_5)) (h10 := hstage0_6 (((cfgM m).slots t 6).cast nbuf0_6))
    (Y 0) (Y 1) (Y 2) (Y 3) (Y 4) (Y 5) (Y 6))
  refine BI.Entails.trans ?_ (hb.trans (wp_mono _ _ _ fun _ => ?_))
  · show iprop(Phi m c ∗ Pipeline.owesWithin c 0 _ ∗ bigSep Finset.univ fun w : Fin 7 => owns (c : Thread nD τ) (((cfgM m).win w).stage ((cfgM m).slots t w)) fullShare (Y w)) ⊢ _
    rw [Phi_eq, stages_eq]
    exact owesO.trans into
  · show _ ⊢ iprop(Phi m c ∗ Pipeline.owesWithin c 0 _ ∗ bigSep Finset.univ fun w : Fin 7 => iprop(∃ X, ⌜aft m c w t (Y w) X⌝ ∗ owns (c : Thread nD τ) (((cfgM m).win w).stage ((cfgM m).slots t w)) fullShare X))
    rw [Phi_eq, stages_eq]
    exact outof (owes_out c fun _ => Or.inl trivial) (keep (Y 0) _) (keep (Y 1) _) (keep (Y 2) _) (keep (Y 3) _) (keep (Y 4) _)
      (fun a ha => give (k0_pay3 a.2.1 a.2.2) ⟨a, ⟨Y, hF, ha⟩, rfl⟩ _) (fun a ha => give (k0_pay4 a.1 a.2.1) ⟨a, ⟨Y, hF, ha⟩, rfl⟩ _)

/-- The run: every window's array at what the region's data say, every other unscoped buffer as launched, every counter at zero. -/
theorem run_main (hTr : ∀ x, (V m 0 main_arg3 x : BitVec 32).toNat < 10400) (hLr : ∀ x, (V m 0 main_arg4 x : BitVec 32).toNat ≤ 8192) :
    θ_run defs (onTc (τ := τ) (main (F := F))) ⟨m, fun _ => 0, ρ⟩ (fun r => Pipeline.RDat.FramePost (cfgM m) (rd m) (V m) r ∧ r.2.sem = fun _ => 0) :=
  Pipeline.RDat.θ_run_frameP_dma (pcfgs (F := F)) (adm m) 0 launch0 osem0 defs₀ Variants.none (rd m) ownSemFacts0 H0 H0_sub m ρ main
    (fun c => body_ob m hTr hLr c) (fun c w => by unfold Pipeline.RDat.share; split <;> rfl) (fun _ _ => rfl) (V m) (hmain m) (fun _ _ => rfl)
    (fun c k => by rw [Subsingleton.elim c 0]; rfl) (fun c => .rfl)
    (fun c => by
      show Phi m c ⊢ _
      unfold Phi
      iintro ⟨H, -⟩
      iexact H) _ (fun _ h => h)

/-- The frame: the eight argument arrays end as launched. -/
theorem frame (hTr : ∀ x, (V m 0 main_arg3 x : BitVec 32).toNat < 10400) (hLr : ∀ x, (V m 0 main_arg4 x : BitVec 32).toNat ≤ 8192) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨h.1.arr_in c 0 rfl, h.1.arr_in c 1 rfl,
      (h.1 c).2 main_arg2 (Pipeline.mem_restRefs_of main_arg2 (by decide) (show ∀ w : Fin 7, (spec0 w).arr.view.ref ≠ main_arg2 by decide)),
      (h.1 c).2 main_arg3 (Pipeline.mem_restRefs_of main_arg3 (by decide) (show ∀ w : Fin 7, (spec0 w).arr.view.ref ≠ main_arg3 by decide)),
      (h.1 c).2 main_arg4 (Pipeline.mem_restRefs_of main_arg4 (by decide) (show ∀ w : Fin 7, (spec0 w).arr.view.ref ≠ main_arg4 by decide)),
      h.1.arr_in c 2 rfl, h.1.arr_in c 3 rfl, h.1.arr_in c 4 rfl⟩, h.2⟩) (run_main m ρ hTr hLr)

end Cert.KernelIdeal.Hand
-- ==== Proof.V.Bits.lean ====
/- Hand-written, untrusted. Words made of neighbouring bytes. -/
module

public import Idealize.ShloMosaic.Lib.BitcastFour
public import Idealize.ShloMosaic.Lib.BitcastPair
public import Idealize.ShloMosaic.Lib.Pointwise
public import Mathlib.Tactic.IntervalCases

@[expose] public section

noncomputable section

namespace Cert.V

open Idealize.ShloMosaic

/-- Four bytes as one word, the first the lowest. -/
def cat4 (b0 b1 b2 b3 : BitVec 8) : BitVec 32 := (b3 ++ b2 ++ b1 ++ b0 : BitVec (8 + 8 + 8 + 8))

/-- Two bytes as one half-word, the first the lower. -/
def cat2 (b0 b1 : BitVec 8) : BitVec 16 := (b1 ++ b0 : BitVec (8 + 8))

theorem cat4_bit (b : Fin 4 → BitVec 8) (i : ℕ) (hi : i < 32) :
    (cat4 (b 0) (b 1) (b 2) (b 3)).getLsbD i = (b ⟨i / 8, by omega⟩).getLsbD (i % 8) := by
  unfold cat4
  interval_cases i <;> (simp only [BitVec.getLsbD_append]; rfl)

theorem cat2_bit (b : Fin 2 → BitVec 8) (i : ℕ) (hi : i < 16) :
    (cat2 (b 0) (b 1)).getLsbD i = (b ⟨i / 8, by omega⟩).getLsbD (i % 8) := by
  unfold cat2
  interval_cases i <;> (simp only [BitVec.getLsbD_append]; rfl)

/-- Bytes read at thirty-two bits: four rows of a column make one word. -/
theorem bitcast_cat4 {R r n : ℕ} (x : (⟨2, ![R, n]⟩ : Shape).Idx → BitVec 8)
    (h : (⟨2, ![R, n]⟩ : Shape).Bitcasts 8 ⟨2, ![r, n]⟩ 32) (a : Fin r) (l : Fin n) (p : Fin 4 → Fin R)
    (hp : ∀ k, (p k).val = 4 * a.val + k.val) :
    bitcast ⟨2, ![r, n]⟩ 32 x h (ix2 a l) = cat4 (x (ix2 (p 0) l)) (x (ix2 (p 1) l)) (x (ix2 (p 2) l)) (x (ix2 (p 3) l)) := by
  apply BitVec.eq_of_getLsbD_eq
  intro i hi
  rw [cat4_bit (fun k => x (ix2 (p k) l)) i hi]
  simp only [ix2_eq_valueIdx]
  exact bitcast_8_32_getLsbD_ix2 x h a l i hi _ (hp _)

/-- … and the words read again at sixteen: two rows make one half-word. -/
theorem bitcast_cat2 {R r r' n : ℕ} (x : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![r', n]⟩ 16)
    (a : Fin r') (l : Fin n) (a' : Fin r) (ha : a'.val = a.val / 2) (p : Fin 2 → Fin R)
    (hp : ∀ k, (p k).val = 2 * a.val + k.val) :
    bitcast ⟨2, ![r', n]⟩ 16 (bitcast ⟨2, ![r, n]⟩ 32 x h) h' (ix2 a l) = cat2 (x (ix2 (p 0) l)) (x (ix2 (p 1) l)) := by
  apply BitVec.eq_of_getLsbD_eq
  intro i hi
  rw [cat2_bit (fun k => x (ix2 (p k) l)) i hi, bitcast_32_16, BitVec.getLsbD_extractLsb']
  simp only [hi, decide_true, Bool.true_and]
  have hrow : Shape.row (⟨2, ![r', n]⟩ : Shape) (ix2 a l) = a.val := rfl
  have e : h'.srcIdx (ix2 a l) (Shape.row (⟨2, ![r', n]⟩ : Shape) (ix2 a l) / 2) (fun c hc => by
        have := h'.pos_lt (ix2 a l) 0 (by decide) c hc; omega) = ValueIdx.ix2 a' l := by
    funext c
    match c with
    | ⟨0, _⟩ => exact Fin.ext ((h'.srcIdx_row _ _ _ ⟨0, Nat.zero_lt_two⟩ rfl).trans (by rw [hrow]; exact ha.symm))
    | ⟨1, _⟩ => exact Fin.ext (h'.srcIdx_other _ _ _ ⟨1, Nat.one_lt_two⟩ (by show ¬ 1 + 2 = 2; omega))
  rw [e, hrow]
  simp only [ix2_eq_valueIdx]
  have hq : 16 * (a.val % 2) + i < 32 := by omega
  rw [bitcast_8_32_getLsbD_ix2 x h a' l _ hq (p ⟨i / 8, by omega⟩) (by rw [hp, ha]; show 2 * a.val + i / 8 = _; omega)]
  congr 1
  omega

end Cert.V
-- ==== Proof.V.Math.lean ====
/- Hand-written, untrusted. A softmax taken block by block, over the extended reals. -/
module

public import Idealize.ShloMosaic.PureOps.Ideal

@[expose] public section

noncomputable section

namespace Cert.V

open Idealize.ShloMosaic

/-- An exponential is never negative. -/
theorem exp_nonneg (x : EReal) : 0 ≤ Ideal.exp x := by
  induction x with
  | bot => simp
  | top => simp
  | coe r => rw [Ideal.exp_coe]; exact_mod_cast (Real.exp_pos r).le

/-- The exponential of a difference that is not positive is finite. -/
theorem exp_sub_ne_top {a b : EReal} (h : a ≤ b) : Ideal.exp (a - b) ≠ ⊤ := by
  induction a with
  | bot => simp
  | top => rw [top_le_iff] at h; subst h; simp
  | coe r =>
    induction b with
    | bot => simp at h
    | top => simp
    | coe s => rw [← EReal.coe_sub, Ideal.exp_coe]; exact EReal.coe_ne_top _

/-- Rescaling an exponential from one bound to a larger one. -/
theorem exp_rescale {x a b : EReal} (h1 : x ≤ a) (h2 : a ≤ b) :
    Ideal.exp (x - a) * Ideal.exp (a - b) = Ideal.exp (x - b) := by
  induction a with
  | bot => rw [le_bot_iff] at h1; subst h1; simp
  | top =>
    rw [top_le_iff] at h2; subst h2
    simp
  | coe r =>
    induction x with
    | bot => simp
    | top => simp at h1
    | coe s =>
      induction b with
      | bot => simp at h2
      | top => simp
      | coe u =>
        rw [← EReal.coe_sub, ← EReal.coe_sub, ← EReal.coe_sub, Ideal.exp_coe, Ideal.exp_coe, Ideal.exp_coe, ← EReal.coe_mul, ← Real.exp_add]
        congr 2; ring

/-- The running bound: the first score and the next `k` scores. -/
def sm (sn : EReal) (S : ℕ → EReal) (k : ℕ) : EReal := max sn ((Finset.range k).sup S)

/-- The running sum of weights times exponentials, against the running bound. -/
def wt (sn wn : EReal) (S w : ℕ → EReal) (k : ℕ) : EReal :=
  wn * Ideal.exp (sn - sm sn S k) + ∑ j ∈ Finset.range k, w j * Ideal.exp (S j - sm sn S k)

theorem sm_add (sn : EReal) (S : ℕ → EReal) (k d : ℕ) :
    sm sn S (k + d) = max (sm sn S k) ((Finset.range d).sup fun j => S (k + j)) := by
  unfold sm
  rw [max_assoc]
  congr 1
  apply le_antisymm
  · refine Finset.sup_le fun i hi => ?_
    rw [Finset.mem_range] at hi
    by_cases h : i < k
    · exact le_max_of_le_left (Finset.le_sup (f := S) (Finset.mem_range.2 h))
    · have := Finset.le_sup (f := fun j => S (k + j)) (Finset.mem_range.2 (show i - k < d by omega))
      simp only [show k + (i - k) = i by omega] at this
      exact le_max_of_le_right this
  · refine max_le (Finset.sup_mono (by simp)) (Finset.sup_le fun i hi => ?_)
    rw [Finset.mem_range] at hi
    exact Finset.le_sup (f := S) (Finset.mem_range.2 (by omega))

theorem sm_zero (sn : EReal) (S : ℕ → EReal) : sm sn S 0 = sn := by simp [sm]

theorem le_sm (sn : EReal) (S : ℕ → EReal) (k j : ℕ) (h : j < k) : S j ≤ sm sn S k :=
  le_max_of_le_right (Finset.le_sup (f := S) (Finset.mem_range.2 h))

theorem sm_mono (sn : EReal) (S : ℕ → EReal) (k d : ℕ) : sm sn S k ≤ sm sn S (k + d) := by
  rw [sm_add]; exact le_max_left _ _

theorem sum_mul {ι : Type} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- One more block: the old sum rescaled, plus the block's own. -/
theorem wt_add (sn wn : EReal) (S w : ℕ → EReal) (k d : ℕ) :
    wt sn wn S w (k + d) = wt sn wn S w k * Ideal.exp (sm sn S k - sm sn S (k + d))
      + ∑ j ∈ Finset.range d, w (k + j) * Ideal.exp (S (k + j) - sm sn S (k + d)) := by
  have hm := sm_mono sn S k d
  have e : ∀ x u, x ≤ sm sn S k → u * Ideal.exp (x - sm sn S k) * Ideal.exp (sm sn S k - sm sn S (k + d))
      = u * Ideal.exp (x - sm sn S (k + d)) := fun x u hx => by
    rw [mul_assoc, exp_rescale hx hm]
  unfold wt
  rw [EReal.right_distrib_of_nonneg_of_ne_top (exp_nonneg _) (exp_sub_ne_top hm), sum_mul _ _ _ (exp_nonneg _) (exp_sub_ne_top hm),
    e sn wn (le_max_left _ _), Finset.sum_range_add, add_assoc]
  congr 2
  exact Finset.sum_congr rfl fun j hj => (e _ _ (le_sm sn S k j (Finset.mem_range.1 hj))).symm

/-- The first block, from the first score's own weight. -/
theorem wt_first (sn wn : EReal) (S w : ℕ → EReal) (d : ℕ) :
    wt sn wn S w d = wn * Ideal.exp (sn - sm sn S d) + ∑ j ∈ Finset.range d, w j * Ideal.exp (S j - sm sn S d) := rfl

/-- Scores of nothing at all change no bound. -/
theorem sm_dead (sn : EReal) (S : ℕ → EReal) (k N : ℕ) (h : k ≤ N) (hd : ∀ j, k ≤ j → S j = ⊥) : sm sn S N = sm sn S k := by
  obtain ⟨d, rfl⟩ := Nat.exists_eq_add_of_le h
  rw [sm_add]
  refine max_eq_left (Finset.sup_le fun j _ => ?_)
  rw [hd (k + j) (by omega)]; exact bot_le

/-- … and add nothing to the sum. -/
theorem wt_dead (sn wn : EReal) (S w : ℕ → EReal) (k N : ℕ) (h : k ≤ N) (hd : ∀ j, k ≤ j → S j = ⊥) :
    wt sn wn S w N = wt sn wn S w k := by
  have e := sm_dead sn S k N h hd
  obtain ⟨d, rfl⟩ := Nat.exists_eq_add_of_le h
  unfold wt
  rw [e, Finset.sum_range_add, ← add_assoc, Finset.sum_eq_zero (s := Finset.range d), add_zero]
  intro j _
  rw [hd (k + j) (by omega)]; simp

/-- The sum and the bound read the scores and weights only below `k`, and a weight only where its score is something. -/
theorem sm_congr (sn : EReal) (S S' : ℕ → EReal) (k : ℕ) (h : ∀ j < k, S j = S' j) : sm sn S k = sm sn S' k := by
  unfold sm
  congr 1
  exact Finset.sup_congr rfl fun j hj => h j (Finset.mem_range.1 hj)

end Cert.V
-- ==== Proof.V.Token.lean ====
/- Hand-written, untrusted. One token of the pool: its codes, scales and rotary part, and its score. -/
module

public import proofs.«01_k».proof.Proof.V.Bits
public import proofs.«01_k».proof.Proof.V.Math

@[expose] public section

noncomputable section

namespace Cert.V

open Idealize.ShloMosaic

/-- A token's bytes. -/
abbrev Tok := Fin 656 → BitVec 8

/-- The bytes of token `j` of a sequence: byte `j % 64` of the page its table names for `j / 64`. -/
def tokP (V : (⟨3, ![10400, 64, 656]⟩ : Shape).Idx → BitVec 8) (T : (⟨2, ![65, 128]⟩ : Shape).Idx → BitVec 32) (b : Fin 65) (j : ℕ) : Tok := fun c =>
  V (ix3 (⟨(T (ix2 b (⟨j / 64 % 128, Nat.mod_lt _ (by decide)⟩ : Fin 128))).toNat % 10400, Nat.mod_lt _ (by decide)⟩ : Fin 10400)
    (⟨j % 64, Nat.mod_lt _ (by decide)⟩ : Fin 64) c)

/-- The code of column `c`. -/
def codeE (f : Tok) (c : Fin 512) : EReal := Ideal.ofBits .fp8e4m3 (f ⟨c.val, by omega⟩)

/-- The scale of column group `g`. -/
def scE (f : Tok) (g : Fin 4) : EReal :=
  Ideal.ofBits .f32 (cat4 (f ⟨512 + 4 * g.val, by omega⟩) (f ⟨512 + 4 * g.val + 1, by omega⟩) (f ⟨512 + 4 * g.val + 2, by omega⟩)
    (f ⟨512 + 4 * g.val + 3, by omega⟩))

/-- The rotary part. -/
def ropeE (f : Tok) (d : Fin 64) : EReal :=
  Ideal.ofBits .bf16 (cat2 (f ⟨528 + 2 * d.val, by omega⟩) (f ⟨528 + 2 * d.val + 1, by omega⟩))

/-- A column's group. -/
def grp (c : Fin 512) : Fin 4 := ⟨c.val / 128, by omega⟩

/-- The dequantized latent. -/
def latE (f : Tok) (c : Fin 512) : EReal := codeE f c * scE f (grp c)

/-- The score's scale. -/
def cE : EReal := Ideal.ofBits .f32 1033096506#32

/-- The score of a token, from its dequantized latent. -/
def scoreE (q : Fin 512 → EReal) (qr : Fin 64 → EReal) (f : Tok) : EReal :=
  (∑ c : Fin 512, q c * latE f c + ∑ d : Fin 64, qr d * ropeE f d) * cE

/-- The score with each group's scale taken after its dot product. -/
def kscoreE (q : Fin 512 → EReal) (qr : Fin 64 → EReal) (f : Tok) : EReal :=
  ((((∑ d : Fin 64, qr d * ropeE f d)
    + (∑ x : Fin 128, q ⟨x.val, by omega⟩ * codeE f ⟨x.val, by omega⟩) * scE f 0)
    + (∑ x : Fin 128, q ⟨128 + x.val, by omega⟩ * codeE f ⟨128 + x.val, by omega⟩) * scE f 1)
    + (∑ x : Fin 128, q ⟨256 + x.val, by omega⟩ * codeE f ⟨256 + x.val, by omega⟩) * scE f 2
    + (∑ x : Fin 128, q ⟨384 + x.val, by omega⟩ * codeE f ⟨384 + x.val, by omega⟩) * scE f 3) * cE

theorem sum512 (f : Fin 512 → EReal) : ∑ c, f c = ∑ x : Fin 128, f ⟨x.val, by omega⟩ + ∑ x : Fin 128, f ⟨128 + x.val, by omega⟩
    + ∑ x : Fin 128, f ⟨256 + x.val, by omega⟩ + ∑ x : Fin 128, f ⟨384 + x.val, by omega⟩ := by
  have h1 := Fin.sum_univ_add (a := 128 + 128 + 128) (b := 128) f
  have h2 := Fin.sum_univ_add (a := 128 + 128) (b := 128) fun i => f (Fin.castAdd 128 i)
  have h3 := Fin.sum_univ_add (a := 128) (b := 128) fun i => f (Fin.castAdd 128 (Fin.castAdd 128 i))
  rw [h2, h3] at h1
  exact h1

/-- A value that is a real number. -/
def Fin' (x : EReal) : Prop := ∃ r : ℝ, x = r

theorem Fin'.mul {x y : EReal} (hx : Fin' x) (hy : Fin' y) : Fin' (x * y) := by
  obtain ⟨r, rfl⟩ := hx; obtain ⟨s, rfl⟩ := hy
  exact ⟨r * s, (EReal.coe_mul r s).symm⟩

theorem Fin'.add {x y : EReal} (hx : Fin' x) (hy : Fin' y) : Fin' (x + y) := by
  obtain ⟨r, rfl⟩ := hx; obtain ⟨s, rfl⟩ := hy
  exact ⟨r + s, (EReal.coe_add r s).symm⟩

theorem Fin'.sum {ι : Type} (s : Finset ι) {f : ι → EReal} (h : ∀ i, Fin' (f i)) : Fin' (∑ i ∈ s, f i) := by
  classical
  induction s using Finset.induction_on with
  | empty => exact ⟨0, by simp⟩
  | insert a s ha ih => rw [Finset.sum_insert ha]; exact (h a).add ih

/-- A real factor goes into a sum of reals. -/
theorem fin_sum_mul {ι : Type} (s : Finset ι) {f : ι → EReal} {c : EReal} (h : ∀ i, Fin' (f i)) (hc : Fin' c) :
    (∑ i ∈ s, f i) * c = ∑ i ∈ s, f i * c := by
  classical
  induction s using Finset.induction_on with
  | empty => simp
  | insert a s ha ih =>
    rw [Finset.sum_insert ha, Finset.sum_insert ha, ← ih]
    obtain ⟨x, hx⟩ := h a
    obtain ⟨y, hy⟩ := Fin'.sum s h
    obtain ⟨z, rfl⟩ := hc
    rw [hx, hy, ← EReal.coe_add, ← EReal.coe_mul, ← EReal.coe_mul, ← EReal.coe_mul, ← EReal.coe_add, add_mul]

/-- With real codes, scales and queries the two scores are one. -/
theorem kscore_eq {q : Fin 512 → EReal} {qr : Fin 64 → EReal} {f : Tok} (hq : ∀ c, Fin' (q c)) (hc : ∀ c, Fin' (codeE f c))
    (hs : ∀ g, Fin' (scE f g)) : kscoreE q qr f = scoreE q qr f := by
  have e : ∀ (o : ℕ) (ho : o + 128 ≤ 512) (g : Fin 4) (hg : o = 128 * g.val),
      (∑ x : Fin 128, q ⟨o + x.val, by omega⟩ * codeE f ⟨o + x.val, by omega⟩) * scE f g
        = ∑ x : Fin 128, q ⟨o + x.val, by omega⟩ * latE f ⟨o + x.val, by omega⟩ := fun o ho g hg => by
    rw [fin_sum_mul _ (fun x => (hq _).mul (hc _)) (hs g)]
    refine Finset.sum_congr rfl fun x _ => ?_
    unfold latE
    rw [show grp ⟨o + x.val, by omega⟩ = g from Fin.ext (by show (o + x.val) / 128 = g.val; omega), mul_assoc]
  unfold kscoreE scoreE
  rw [sum512 fun c => q c * latE f c]
  have e0 := e 0 (by omega) 0 rfl
  simp only [Nat.zero_add] at e0
  rw [e0, e 128 (by omega) 1 rfl, e 256 (by omega) 2 rfl, e 384 (by omega) 3 rfl]
  congr 1
  rw [add_comm (∑ d : Fin 64, qr d * ropeE f d)]
  simp only [add_assoc, add_comm (∑ d : Fin 64, qr d * ropeE f d)]

theorem ofBits_ninf : Ideal.ofBits .f32 4286578688#32 = ⊥ := by
  simp [Ideal.ofBits, Ideal.ieee]

/-- A fold of maxima is a supremum. -/
theorem fold_max {n : ℕ} (g : ℕ → EReal) : (Finset.univ : Finset (Fin n)).fold max ⊥ (fun x => g x.val) = (Finset.range n).sup g := by
  show (Finset.univ : Finset (Fin n)).sup (fun x => g x.val) = _
  apply le_antisymm
  · exact Finset.sup_le fun x _ => Finset.le_sup (f := g) (Finset.mem_range.2 x.isLt)
  · exact Finset.sup_le fun x hx => Finset.le_sup (f := fun x : Fin n => g x.val) (Finset.mem_univ (⟨x, Finset.mem_range.1 hx⟩ : Fin n))

/-- The mask: a signed comparison of small numbers. -/
theorem mask_select (a b : BitVec 32) (ha : a.toNat < 2 ^ 31) (hb : b.toNat < 2 ^ 31) (x y : EReal) :
    Scalar.select (IntOp.cmpi .slt a b) x y = if a.toNat < b.toNat then x else y := by
  unfold Scalar.select IntOp.cmpi
  have e : (a.slt b) = decide (a.toNat < b.toNat) := by
    rw [BitVec.slt_eq_decide, BitVec.toInt_eq_toNat_of_lt (by omega), BitVec.toInt_eq_toNat_of_lt (by omega)]
    simp
  show (if BitVec.ofBool (a.slt b) = 1 then x else y) = _
  rw [e]
  by_cases h : a.toNat < b.toNat
  · simp [h]
  · simp [h]

end Cert.V
-- ==== Proof.V.Pre.lean ====
/- Hand-written, untrusted. What the value claim's precondition says: tables in range, and every number it covers finite. -/
module

public import proofs.«01_k».proof.Pre_finite
public import proofs.«01_k».proof.Proof.Gen.Pre_finite
public import proofs.«01_k».proof.Proof.V.Token
public import Idealize.ShloMosaic.Lib.WordCmp
public import Idealize.ShloMosaic.Lib.ReduceAll
public import Idealize.ShloMosaic.Init

@[expose] public section

noncomputable section

namespace Cert.V.Pre

open Cert.Pre_finite Idealize.ShloMosaic Idealize.ShloMosaic.StableHlo

/-! ### Words -/

theorem and_one {a b : BitVec 1} (h : a &&& b = 1#1) : a = 1#1 ∧ b = 1#1 := by
  revert a b; decide

theorem or_zero {a b : BitVec 1} (h : a ||| b = 0#1) : a = 0#1 ∧ b = 0#1 := by
  revert a b; decide

theorem not_one {a : BitVec 1} (h : ~~~a = 1#1) : a = 0#1 := by
  revert a; decide

theorem of_ofBool {b : Bool} (h : BitVec.ofBool b = 1#1) : b = true := by
  revert h; cases b <;> decide

theorem of_ofBool0 {b : Bool} (h : BitVec.ofBool b = 0#1) : b = false := by
  revert h; cases b <;> decide

/-- A left fold by `or` that came out 0 met only 0s. -/
theorem foldl_or {ι : Type} (f : ι → BitVec 1) :
    ∀ (l : List ι) (init : BitVec 1), l.foldl (fun r n => IntOp.ori r (f n)) init = 0#1 → init = 0#1 ∧ ∀ n ∈ l, f n = 0#1
  | [], init, h => ⟨h, fun _ hn => nomatch hn⟩
  | a :: l, init, h => by
    obtain ⟨h1, h2⟩ := foldl_or f l _ h
    obtain ⟨hi, ha⟩ := or_zero h1
    exact ⟨hi, fun n hn => by rcases List.mem_cons.1 hn with rfl | hn; exacts [ha, h2 n hn]⟩

/-- A disjunction over a whole array that is 0 had a 0 everywhere. -/
theorem reduce_or {s t u : Shape} {axes : List (Fin s.rank)} [Subsingleton t.Idx] (x : s.Idx → BitVec 1) (init : u.Idx → BitVec 1)
    (h : s.ReducesTo axes t) (hu : 0 < u.numel) (j : t.Idx) (e : Host.reduce IntOp.ori x init h hu j = 0#1) (i : s.Idx) : x i = 0#1 := by
  rw [Host.reduce_eq_foldl] at e
  refine (foldl_or x _ _ e).2 i ?_
  rw [List.mem_filter]
  exact ⟨List.mem_map.2 ⟨s.rowMajor i, List.mem_finRange _, Equiv.symm_apply_apply _ _⟩, by simp [Subsingleton.elim (h.drop i) j]⟩

/-! ### Finite numbers -/

theorem ieee_fin (e m : ℕ) {w : ℕ} (b : BitVec w) (h : (b.extractLsb' m e).toNat ≠ 2 ^ e - 1) : Fin' (Ideal.ieee e m b) := by
  unfold Ideal.ieee
  simp only []
  rw [if_neg h]
  split <;> exact ⟨_, rfl⟩

theorem e4m3_fin (b : BitVec 8) (h : ¬ (b = 127#8 ∨ b = 255#8)) : Fin' (Ideal.e4m3fn b) := by
  unfold Ideal.e4m3fn
  simp only []
  rw [if_neg (by revert h; revert b; decide +kernel)]
  split <;> exact ⟨_, rfl⟩

theorem high (b : BitVec 8) : (∀ i, i < 7 → b.getLsbD i = true) → (b = 127#8 ∨ b = 255#8) := by
  revert b; decide +kernel

theorem top (b : BitVec 8) : b.getLsbD 7 = true → 128 ≤ b.toNat := by
  revert b; decide +kernel

theorem ones {x : BitVec 8} (h : x.toNat = 2 ^ 8 - 1) (i : ℕ) (hi : i < 8) : x.getLsbD i = true := by
  obtain rfl : x = 255#8 := BitVec.eq_of_toNat_eq h
  interval_cases i <;> rfl

theorem cat4_fin (b0 b1 b2 b3 : BitVec 8) (h : ¬ ((b3 = 127#8 ∨ b3 = 255#8) ∧ 128 ≤ b2.toNat)) : Fin' (Ideal.ofBits .f32 (cat4 b0 b1 b2 b3)) := by
  refine ieee_fin 8 23 _ fun e => h ?_
  have k : ∀ i, i < 8 → (cat4 b0 b1 b2 b3).getLsbD (23 + i) = true := fun i hi => by
    have := ones e i hi
    rw [BitVec.getLsbD_extractLsb'] at this
    simp only [hi, decide_true, Bool.true_and] at this
    exact this
  have c := fun i hi => cat4_bit ![b0, b1, b2, b3] i hi
  have k : ∀ i, i < 8 → (![b0, b1, b2, b3] ⟨(23 + i) / 8 % 4, Nat.mod_lt _ (by decide)⟩).getLsbD ((23 + i) % 8) = true := fun i hi => by
    have e := (c (23 + i) (by omega)).symm.trans (k i hi)
    refine Eq.trans ?_ e
    exact congrArg (fun z => (![b0, b1, b2, b3] z).getLsbD ((23 + i) % 8)) (Fin.ext (by show (23 + i) / 8 % 4 = (23 + i) / 8; omega))
  refine ⟨high _ fun i hi => ?_, top _ ?_⟩
  · have := k (i + 1) (by omega)
    interval_cases i <;> exact this
  · exact k 0 (by omega)

/-- A number whose absolute value is not infinite is a real number. -/
theorem abs_fin {x : EReal} (h : Ideal.cmp .oeq (max x (-x)) (Ideal.ofBits .bf16 0x7F80#16) = 0#1) : Fin' x := by
  have e : Ideal.ofBits .bf16 0x7F80#16 = ⊤ := by simp [Ideal.ofBits, Ideal.ieee]
  rw [e] at h
  have h' : ¬ (max x (-x) = ⊤) := by
    have := of_ofBool0 h
    simpa using this
  induction x using EReal.rec with
  | bot => exact absurd (by simp) h'
  | coe r => exact ⟨r, rfl⟩
  | top => exact absurd (by simp) h'

/-! ### The predicate -/

instance : Subsingleton S_.Idx := ⟨fun a b => funext fun i => i.elim0⟩

variable [Facts]

/-- The sequence of an entry of the page table. -/
def on (x : S65x128.Idx) : S65.Idx := fun a => match a with | 0 => (x 0 : Fin 65)

theorem part2 {v13 v17 : IVec S_ 1} {v32 : IVec S65x128 1} {v35 : IVec S65x1 1} (x : S65x128.Idx) (j : S_.Idx)
    (h : fn_part2 (F := Ideal) v13 v17 v32 v35 x = 1#1) :
    v32 x = 1#1 ∧ v35 (ix2 (x 0) 0) = 1#1 ∧ v13 j = 0#1 ∧ v17 j = 0#1 := by
  unfold fn_part2 at h
  simp only [andi, broadcastInDim, noti] at h
  obtain ⟨h, h17⟩ := and_one h
  obtain ⟨h, h13⟩ := and_one h
  obtain ⟨h32, h35⟩ := and_one h
  refine ⟨h32, ?_, ?_, ?_⟩
  · rw [← h35]; exact congrArg v35 (funext fun a => by match a with | 0 => rfl | 1 => rfl)
  · exact (congrArg v13 (Subsingleton.elim _ _)).trans (not_one h13)
  · exact (congrArg v17 (Subsingleton.elim _ _)).trans (not_one h17)

theorem part1 {a3 : IVec S65x128 32} {a4 : IVec S65 32} {v13 : IVec S_ 1} {v16 : IVec S65x1x64x512 1} {c4 : IVec S_ 1}
    (x : S65x128.Idx) (j : S_.Idx) (h : fn_part1 (F := Ideal) a3 a4 v13 v16 c4 x = 1#1) :
    (a3 x).toNat < 10400 ∧ (1 ≤ (a4 (on x)).toNat ∧ (a4 (on x)).toNat ≤ 8192) ∧ v13 j = 0#1 ∧ ∀ y, v16 y = 0#1 := by
  have hx : ∀ y : S65.Idx, (y 0 : Fin 65) = x 0 → y = on x := fun y hy => funext fun a => by match a with | 0 => exact hy
  unfold fn_part1 at h
  obtain ⟨h32, h35, h13, h17⟩ := part2 x j h
  obtain ⟨h27, h31⟩ := and_one h32
  obtain ⟨h22, _⟩ := and_one h27
  have hge : IntOp.cmpi .sge (a4 (on x)) 1#32 = 1#1 := by
    rw [← h35]; exact congrArg (fun y => IntOp.cmpi .sge (a4 y) 1#32) (hx _ rfl).symm
  have hle : IntOp.cmpi .sle (a4 (on x)) 8192#32 = 1#1 := by
    rw [← h31]; exact congrArg (fun y => IntOp.cmpi .sle (a4 y) 8192#32) (hx _ rfl).symm
  refine ⟨?_, ?_, h13, fun y => reduce_or _ _ _ _ j h17 y⟩
  · obtain ⟨h1, h2⟩ := and_one h22
    replace h1 := of_ofBool h1
    replace h2 := of_ofBool h2
    simp only [constantI, broadcastInDim, BitVec.sle, BitVec.slt, decide_eq_true_eq, BitVec.toInt_eq_toNat_cond, BitVec.toNat_ofNat] at h1 h2
    have := (a3 x).isLt
    split at h1 <;> split at h2 <;> omega
  · replace hle := of_ofBool hle
    replace hge := of_ofBool hge
    simp only [BitVec.sle, BitVec.slt, decide_eq_true_eq, BitVec.toInt_eq_toNat_cond, BitVec.toNat_ofNat] at hle hge
    have := (a4 (on x)).isLt
    constructor <;> split at hle <;> split at hge <;> omega

/-- Byte `c` of a pool row. -/
abbrev row (a2 : IVec S10400x64x656 8) (p : Fin 10400) (r : Fin 64) : Tok := fun c => a2 (ix3 p r c)

/-- A byte whose exponent bits are all ones. -/
def full (b : BitVec 8) : Prop := b = 127#8 ∨ b = 255#8

theorem not_full {b : BitVec 8} (h : IntOp.ori (IntOp.cmpi .eq b 127#8) (IntOp.cmpi .eq b 255#8) = 0#1) : ¬ full b := by
  unfold full; revert h; revert b; decide +kernel

theorem not_both {b b' : BitVec 8} (h : IntOp.andi (IntOp.ori (IntOp.cmpi .eq b 127#8) (IntOp.cmpi .eq b 255#8)) (IntOp.cmpi .uge b' 128#8) = 0#1) :
    ¬ ((b = 127#8 ∨ b = 255#8) ∧ 128 ≤ b'.toNat) := by
  rintro ⟨hb, hb'⟩
  have e1 : IntOp.ori (IntOp.cmpi .eq b 127#8) (IntOp.cmpi .eq b 255#8) = 1#1 := by
    rcases hb with rfl | rfl <;> rfl
  have e2 : IntOp.cmpi .uge b' 128#8 = 1#1 := by
    exact (by decide +kernel : ∀ b' : BitVec 8, 128 ≤ b'.toNat → IntOp.cmpi .uge b' 128#8 = 1#1) b' hb'
  rw [e1, e2] at h
  exact absurd h (by decide)

theorem ix_ext {n0 n1 n2 : ℕ} {x y : (⟨3, ![n0, n1, n2]⟩ : Shape).Idx} (h0 : (x 0).val = (y 0).val) (h1 : (x 1).val = (y 1).val)
    (h2 : (x 2).val = (y 2).val) : x = y :=
  funext fun a => Fin.ext (match a with | 0 => h0 | 1 => h1 | 2 => h2)

variable {a0 : FVec Ideal S65x1x64x512 .bf16} {a1 : FVec Ideal S65x1x64x64 .bf16} {a2 : IVec S10400x64x656 8} {a3 : IVec S65x128 32} {a4 : IVec S65 32}
  {a5 : FVec Ideal S65x1x512 .fp8e4m3} {a6 : FVec Ideal S65x1x4 .f32} {a7 : FVec Ideal S65x1x64 .bf16}

/-- What the precondition says at every place. -/
theorem main (h : fn (F := Ideal) a0 a1 a2 a3 a4 a5 a6 a7 = fun _ => 1#1) :
    (∀ x, (a3 x).toNat < 10400) ∧ (∀ x, 1 ≤ (a4 x).toNat ∧ (a4 x).toNat ≤ 8192) ∧ (∀ y, Fin' (a0 y))
    ∧ ∀ p r, (∀ k, Fin' (codeE (row a2 p r) k)) ∧ ∀ g, Fin' (scE (row a2 p r) g) := by
  have j : S_.Idx := fun i => i.elim0
  unfold fn at h
  have k := fun x => part1 x j (congrFun h x)
  obtain ⟨_, _, h13, h16⟩ := k (ix2 0 0)
  obtain ⟨h8, h12⟩ := or_zero h13
  refine ⟨fun x => (k x).1, fun x => ?_, fun y => abs_fin (h16 y), fun p r => ⟨fun c => ?_, fun g => ?_⟩⟩
  · have e := (k (fun a => match a with | 0 => (x 0 : Fin 65) | 1 => (0 : Fin 128))).2.1
    have hx : x = on (fun a => match a with | 0 => (x 0 : Fin 65) | 1 => (0 : Fin 128)) := funext fun a => by match a with | 0 => rfl
    rw [hx]; exact e
  · have e := reduce_or _ _ _ _ j h8 (ix3 p r c)
    refine e4m3_fin _ (not_full (Eq.trans ?_ e))
    refine congrArg (fun z => IntOp.ori (IntOp.cmpi .eq (a2 z) 127#8) (IntOp.cmpi .eq (a2 z) 255#8)) (ix_ext ?_ ?_ ?_)
    · show p.val = 0 + p.val; omega
    · show r.val = 0 + r.val; omega
    · show c.val = 0 + c.val; omega
  · have e := reduce_or _ _ _ _ j h12 (ix3 p r g)
    refine cat4_fin _ _ _ _ (not_both (Eq.trans ?_ e))
    refine congrArg₂ (fun z z' => IntOp.andi (IntOp.ori (IntOp.cmpi .eq (a2 z) 127#8) (IntOp.cmpi .eq (a2 z) 255#8)) (IntOp.cmpi .uge (a2 z') 128#8))
      (ix_ext ?_ ?_ ?_) (ix_ext ?_ ?_ ?_)
    · show p.val = 0 + 1 * p.val; omega
    · show r.val = 0 + 1 * r.val; omega
    · show 512 + 4 * g.val + 3 = 515 + 4 * g.val; omega
    · show p.val = 0 + 1 * p.val; omega
    · show r.val = 0 + 1 * r.val; omega
    · show 512 + 4 * g.val + 2 = 514 + 4 * g.val; omega

end Cert.V.Pre
-- ==== Proof.V.KStep.lean ====
/- Hand-written, untrusted. One block of the kernel's loop, read at an index. -/
module

public import proofs.«01_k».proof.Proof.Gen.KernelIdeal.Skeleton
public import proofs.«01_k».proof.Proof.V.Token
public import Idealize.ShloMosaic.Lib.Pointwise

@[expose] public section

set_option maxRecDepth 16384

noncomputable section

namespace Cert.V

open Cert.KernelIdeal Cert.KernelIdeal.Gen Idealize.ShloMosaic

/-- The bytes of the block's token `j`. -/
def tokB (kv : Vec Ideal S1x16x64x656 .i8) (j : Fin 1024) : Tok := fun c =>
  kv (ix4 (0 : Fin 1) (⟨j.val / 64, by omega⟩ : Fin 16) (⟨j.val % 64, by omega⟩ : Fin 64) c)

theorem pay7_at (kv : Vec Ideal S1x16x64x656 .i8) (g : Fin 4) (j : Fin 1024) :
    k0_pay7 (F := Ideal) kv (ix2 g j) = scE (tokB kv j) g := by
  pointwise [k0_pay7, k0_pay6, k0_pay5]
  unfold scE
  rw [bitcast_cat4 _ _ (⟨g.val, by omega⟩ : Fin 32) j (fun k => ⟨4 * g.val + k.val, by omega⟩) (fun k => rfl)]
  pointwise [tokB]
  rfl

theorem pay8_at (kv : Vec Ideal S1x16x64x656 .i8) (j : Fin 1024) (c : Fin 512) :
    k0_pay8 (F := Ideal) kv (ix2 j c) = codeE (tokB kv j) c := by
  pointwise [k0_pay8, k0_pay6, k0_pay5]
  rfl

theorem pay9_at (qr : FVec Ideal S64x64 .bf16) (kv : Vec Ideal S1x16x64x656 .i8) (h : Fin 64) (j : Fin 1024) :
    k0_pay9 (F := Ideal) qr kv (ix2 h j) = ∑ d : Fin 64, qr (ix2 h d) * ropeE (tokB kv j) d := by
  pointwise [k0_pay9, k0_pay6, k0_pay5]
  refine Eq.trans ?_ (Fin.sum_univ_add (a := 56) (b := 8) fun d => qr (ix2 h d) * ropeE (tokB kv j) d).symm
  congr 1
  · refine Finset.sum_congr rfl fun x _ => ?_
    rw [bitcast_cat2 _ _ _ (⟨8 + x.val, by omega⟩ : Fin 64) j (⟨(8 + x.val) / 2, by omega⟩ : Fin 32) rfl
      (fun k => ⟨2 * (8 + x.val) + k.val, by omega⟩) (fun k => rfl)]
    pointwise [tokB, ropeE]
    congr 4
    · refine congrArg (ix4 (0 : Fin 1) _ _) (Fin.ext ?_); show 512 + 2 * (8 + x.val) = 528 + 2 * x.val; omega
    · refine congrArg (ix4 (0 : Fin 1) _ _) (Fin.ext ?_); show 512 + (2 * (8 + x.val) + 1) = 528 + 2 * x.val + 1; omega
  · refine Finset.sum_congr rfl fun x _ => ?_
    rw [bitcast_cat2 _ _ _ x j (⟨x.val / 2, by omega⟩ : Fin 4) rfl
      (fun k => ⟨2 * x.val + k.val, by omega⟩) (fun k => rfl)]
    pointwise [tokB, ropeE]
    congr 4
    · refine congrArg (ix4 (0 : Fin 1) _ _) (Fin.ext ?_); show 640 + 2 * x.val = 528 + 2 * (56 + x.val); omega
    · refine congrArg (ix4 (0 : Fin 1) _ _) (Fin.ext ?_); show 640 + (2 * x.val + 1) = 528 + 2 * (56 + x.val) + 1; omega

/-- The masked score of a block's token. -/
theorem pay10_at (v : BitVec 32) (q : FVec Ideal S64x512 .bf16) (qr : FVec Ideal S64x64 .bf16) (t : BitVec 32)
    (kv : Vec Ideal S1x16x64x656 .i8) (h : Fin 64) (j : Fin 1024) :
    k0_pay10 (F := Ideal) v q t (k0_pay7 kv) (k0_pay8 kv) (k0_pay9 qr kv) (ix2 h j)
      = Scalar.select (IntOp.cmpi .slt (IntOp.addi (Scalar.muli t 1024#32) (BitVec.ofNat 32 j.val)) v)
          (kscoreE (fun c => q (ix2 h c)) (fun d => qr (ix2 h d)) (tokB kv j)) ⊥ := by
  have e7 := pay7_at kv
  have e8 := pay8_at kv
  have e9 := pay9_at qr kv
  generalize k0_pay7 (F := Ideal) kv = sc at *
  generalize k0_pay8 (F := Ideal) kv = cd at *
  generalize k0_pay9 (F := Ideal) qr kv = rp at *
  pointwise [k0_pay10]
  simp only [e7, e8, e9, ofBits_ninf]
  rfl

theorem pay11_at (v : BitVec 32) (q : FVec Ideal S64x512 .bf16) (m : FVec Ideal S64x1 .f32) (t : BitVec 32) (sc : FVec Ideal S4x1024 .f32)
    (cd : FVec Ideal S1024x512 .fp8e4m3) (rp : FVec Ideal S64x1024 .f32) (h : Fin 64) :
    k0_pay11 (F := Ideal) v q m t sc cd rp (ix2 h 0)
      = max (m (ix2 h 0)) ((Finset.univ : Finset (Fin 1024)).fold max ⊥ fun j => k0_pay10 (F := Ideal) v q t sc cd rp (ix2 h j)) := by
  unfold k0_pay11
  generalize k0_pay10 (F := Ideal) v q t sc cd rp = s
  pointwise []
  rw [ofBits_ninf]

theorem pay12_at (v : BitVec 32) (q : FVec Ideal S64x512 .bf16) (m : FVec Ideal S64x1 .f32) (t : BitVec 32) (sc : FVec Ideal S4x1024 .f32)
    (cd : FVec Ideal S1024x512 .fp8e4m3) (rp : FVec Ideal S64x1024 .f32) (h : Fin 64) (j : Fin 1024) :
    k0_pay12 (F := Ideal) v q m t sc cd rp (ix2 h j)
      = Ideal.exp (k0_pay10 (F := Ideal) v q t sc cd rp (ix2 h j) - k0_pay11 (F := Ideal) v q m t sc cd rp (ix2 h 0)) := by
  unfold k0_pay12
  generalize k0_pay11 (F := Ideal) v q m t sc cd rp = m'
  generalize k0_pay10 (F := Ideal) v q t sc cd rp = s
  pointwise []

theorem pay13_at (v : BitVec 32) (q : FVec Ideal S64x512 .bf16) (m : FVec Ideal S64x1 .f32) (t : BitVec 32) (sc : FVec Ideal S4x1024 .f32)
    (cd : FVec Ideal S1024x512 .fp8e4m3) (rp : FVec Ideal S64x1024 .f32) (h : Fin 64) :
    k0_pay13 (F := Ideal) v q m t sc cd rp (ix2 h 0)
      = Ideal.exp (m (ix2 h 0) - k0_pay11 (F := Ideal) v q m t sc cd rp (ix2 h 0)) := by
  unfold k0_pay13
  generalize k0_pay11 (F := Ideal) v q m t sc cd rp = m'
  pointwise []

theorem pay14_at (v : BitVec 32) (q : FVec Ideal S64x512 .bf16) (m l : FVec Ideal S64x1 .f32) (t : BitVec 32) (sc : FVec Ideal S4x1024 .f32)
    (cd : FVec Ideal S1024x512 .fp8e4m3) (rp : FVec Ideal S64x1024 .f32) (h : Fin 64) :
    k0_pay14 (F := Ideal) v q m l t sc cd rp (ix2 h 0) = l (ix2 h 0) * k0_pay13 (F := Ideal) v q m t sc cd rp (ix2 h 0) := by
  unfold k0_pay14
  generalize k0_pay13 (F := Ideal) v q m t sc cd rp = m'
  pointwise []

theorem pay15_at (v : BitVec 32) (q : FVec Ideal S64x512 .bf16) (m : FVec Ideal S64x1 .f32) (t : BitVec 32) (sc : FVec Ideal S4x1024 .f32)
    (cd : FVec Ideal S1024x512 .fp8e4m3) (rp : FVec Ideal S64x1024 .f32) (h : Fin 64) :
    k0_pay15 (F := Ideal) v q m t sc cd rp (ix2 h 0) = ∑ j : Fin 1024, k0_pay12 (F := Ideal) v q m t sc cd rp (ix2 h j) := by
  unfold k0_pay15
  generalize k0_pay12 (F := Ideal) v q m t sc cd rp = s
  pointwise []

theorem pay35_at (x y : FVec Ideal S64x1 .f32) (h : Fin 64) : k0_pay35 (F := Ideal) x y (ix2 h 0) = x (ix2 h 0) + y (ix2 h 0) := by
  pointwise [k0_pay35]

theorem pay36_at (a : FVec Ideal S64x512 .f32) (kv : Vec Ideal S1x16x64x656 .i8) (p : FVec Ideal S64x1024 .f32) (al : FVec Ideal S64x1 .f32)
    (h : Fin 64) (c : Fin 512) :
    k0_pay36 (F := Ideal) a (k0_pay7 kv) (k0_pay8 kv) p al (ix2 h c)
      = a (ix2 h c) * al (ix2 h 0) + ∑ j : Fin 1024, latE (tokB kv j) c * p (ix2 h j) := by
  have e7 := pay7_at kv
  have e8 := pay8_at kv
  generalize k0_pay7 (F := Ideal) kv = sc at *
  generalize k0_pay8 (F := Ideal) kv = cd at *
  pointwise [k0_pay36]
  have hc := c.isLt
  have key : ∀ (g : Fin 4) (c' : Fin 512), c' = c → g = grp c →
      ∑ x : Fin 1024, p (ix2 h x) * sc (ix2 g x) * cd (ix2 x c') = ∑ j : Fin 1024, latE (tokB kv j) c * p (ix2 h j) := by
    rintro g c' rfl rfl
    refine Finset.sum_congr rfl fun x _ => ?_
    rw [e7, e8, latE, mul_comm (codeE _ _), mul_comm (_ * _) (p _), ← mul_assoc]
  congr 1
  split
  · exact key 0 c rfl (Fin.ext (by show 0 = c.val / 128; omega))
  split
  · exact key 1 _ (Fin.ext (by show 128 + (c.val - 128) = c.val; omega)) (Fin.ext (by show 1 = c.val / 128; omega))
  split
  · exact key 2 _ (Fin.ext (by show 256 + (c.val - 128 - 128) = c.val; omega)) (Fin.ext (by show 2 = c.val / 128; omega))
  · exact key 3 _ (Fin.ext (by show 384 + (c.val - 128 - 128 - 128) = c.val; omega)) (Fin.ext (by show 3 = c.val / 128; omega))

/-! ## What the loop starts from, and the results -/

theorem pay28_at (Xq) (h : Fin 64) (c : Fin 512) : k0_pay28 (F := Ideal) Xq (ix2 h c) = Xq (ix4 0 0 h c) := by
  pointwise [k0_pay28]
theorem pay29_at (Xq) (h : Fin 64) (c : Fin 64) : k0_pay29 (F := Ideal) Xq (ix2 h c) = Xq (ix4 0 0 h c) := by
  pointwise [k0_pay29]
theorem pay30_at (xs) (g : Fin 4) : k0_pay30 (F := Ideal) xs (ix2 0 g) = xs (ix3 0 0 g) := by
  pointwise [k0_pay30]
theorem pay31_at (xs xn) (c : Fin 512) : k0_pay31 (F := Ideal) xs xn (ix2 0 c) = xn (ix3 0 0 c) * xs (ix2 0 (grp c)) := by
  pointwise [k0_pay31]
  have hc := c.isLt
  have key : ∀ (g : Fin 4) (c' : Fin 512), c' = c → g = grp c → xn (ix3 0 0 c') * xs (ix2 0 g) = xn (ix3 0 0 c) * xs (ix2 0 (grp c)) := by
    rintro g c' rfl rfl; rfl
  split
  · exact key 0 c rfl (Fin.ext (by show 0 = c.val / 128; omega))
  split
  · exact key 1 _ (Fin.ext (by show 128 + (c.val - 128) = c.val; omega)) (Fin.ext (by show 1 = c.val / 128; omega))
  split
  · exact key 2 _ (Fin.ext (by show 256 + (c.val - 128 - 128) = c.val; omega)) (Fin.ext (by show 2 = c.val / 128; omega))
  · exact key 3 _ (Fin.ext (by show 384 + (c.val - 128 - 128 - 128) = c.val; omega)) (Fin.ext (by show 3 = c.val / 128; omega))
theorem pay32_at (q qr sc xn xk) (h : Fin 64) : k0_pay32 (F := Ideal) q qr sc xn xk (ix2 h 0)
    = (∑ c : Fin 512, q (ix2 h c) * k0_pay31 (F := Ideal) sc xn (ix2 0 c) + ∑ d : Fin 64, qr (ix2 h d) * xk (ix3 0 0 d)) * cE := by
  unfold k0_pay32
  generalize k0_pay31 (F := Ideal) sc xn = y
  pointwise []
  rfl
theorem pay33_at (h : Fin 64) : k0_pay33 (F := Ideal) (ix2 h 0) = 1 := by
  pointwise [k0_pay33]
theorem pay34_at (sc xn) (h : Fin 64) (c : Fin 512) : k0_pay34 (F := Ideal) sc xn (ix2 h c) = k0_pay31 (F := Ideal) sc xn (ix2 0 c) := by
  unfold k0_pay34
  generalize k0_pay31 (F := Ideal) sc xn = y
  pointwise []
theorem pay3_at (l a) (h : Fin 64) (c : Fin 512) : k0_pay3 (F := Ideal) l a (ix3 0 h c) = Ideal.div (a (ix2 h c)) (l (ix2 h 0)) := by
  pointwise [k0_pay3]
theorem pay4_at (m l) (h : Fin 64) : k0_pay4 (F := Ideal) m l (ix3 0 h 0) = m (ix2 h 0) + Ideal.log (l (ix2 h 0)) := by
  pointwise [k0_pay4]

end Cert.V
-- ==== Proof.V.KRun.lean ====
/- Hand-written, untrusted. What the kernel's loop carries, after any number of blocks, is a softmax over the blocks' tokens. -/
module

public import proofs.«01_k».proof.Proof.KI.Body
public import proofs.«01_k».proof.Proof.V.KStep

@[expose] public section

noncomputable section

namespace Cert.V

open Cert.KernelIdeal Cert.KernelIdeal.Gen Cert.KernelIdeal.Hand Cert.Words Idealize.ShloMosaic

/-- A live token of a loaded block is the sequence's. -/
theorem tokB_eq {V : PoolV Ideal} {T : TblV Ideal} {b : Fin 65} {v : BitVec 32} {t : ℕ} {kv : Vec Ideal S1x16x64x656 .i8}
    (hb : Blk V T b v t kv) (j : Fin 1024) (hj : 1024 * t + j.val < v.toNat) : tokB kv j = tokP V T b (1024 * t + j.val) := by
  funext c
  have hl : j.val / 64 < live v t := by unfold live np; omega
  have e := hb (ix4 (0 : Fin 1) (⟨j.val / 64, by omega⟩ : Fin 16) (⟨j.val % 64, by omega⟩ : Fin 64) c) hl
  refine e.trans ?_
  have h1 : (t * 16 + j.val / 64) % 128 = (1024 * t + j.val) / 64 % 128 := by omega
  have h2 : j.val % 64 = (1024 * t + j.val) % 64 := by omega
  unfold pgAt pgOf tokP
  simp only [ix2_eq_valueIdx, ix3_eq_valueIdx]
  show V (ValueIdx.ix3 (⟨(T (ValueIdx.ix2 b (⟨(t * 16 + j.val / 64) % 128, _⟩ : Fin 128))).toNat % 10400, _⟩ : Fin 10400) (⟨j.val % 64, _⟩ : Fin 64) c) = _
  simp only [h1, h2]

/-- The word comparison of the mask, as numbers. -/
theorem iv_toNat (t : ℕ) (ht : t < 8) (j : Fin 1024) :
    (IntOp.addi (Scalar.muli (Scf.iv 0#32 1#32 t) 1024#32) (BitVec.ofNat 32 j.val)).toNat = 1024 * t + j.val := by
  have hj := j.isLt
  unfold Scf.iv
  simp only [IntOp.addi, Scalar.muli, IntOp.muli, BitVec.toNat_add, BitVec.toNat_mul, BitVec.toNat_ofNat]
  omega

section
variable {V : PoolV Ideal} {T : TblV Ideal} {b : Fin 65} {v : BitVec 32} (hv : v.toNat ≤ 8192)
  {q : FVec Ideal S64x512 .bf16} {qr : FVec Ideal S64x64 .bf16}

/-- The masked scores of a sequence's tokens, for one head. -/
def scK (V : PoolV Ideal) (T : TblV Ideal) (b : Fin 65) (n : ℕ) (q : FVec Ideal S64x512 .bf16) (qr : FVec Ideal S64x64 .bf16)
    (h : Fin 64) (j : ℕ) : EReal :=
  if j < n then kscoreE (fun c => q (ix2 h c)) (fun d => qr (ix2 h d)) (tokP V T b j) else ⊥

include hv in
theorem score_block {t : ℕ} (ht : t < 8) {kv : Vec Ideal S1x16x64x656 .i8} (hb : Blk V T b v t kv) (h : Fin 64) (j : Fin 1024) :
    k0_pay10 (F := Ideal) v q (Scf.iv 0#32 1#32 t) (k0_pay7 kv) (k0_pay8 kv) (k0_pay9 qr kv) (ix2 h j)
      = scK V T b v.toNat q qr h (1024 * t + j.val) := by
  have hj := j.isLt
  rw [pay10_at, mask_select _ _ (by rw [iv_toNat t ht j]; omega) (by omega), iv_toNat t ht j]
  unfold scK
  split
  · rename_i hlt; rw [tokB_eq hb j hlt]
  · rfl

/-- One block, of what the loop carries for one head. -/
theorem step_at {t : ℕ} (hv : v.toNat ≤ 8192) (ht : t < 8) {kv : Vec Ideal S1x16x64x656 .i8} (hb : Blk V T b v t kv) (a : A3 Ideal) (h : Fin 64) (sn : EReal)
    (hm : a.1 (ix2 h 0) = sm sn (scK V T b v.toNat q qr h) (1024 * t)) :
    (stepF v q qr t kv a).1 (ix2 h 0) = sm sn (scK V T b v.toNat q qr h) (1024 * t + 1024)
    ∧ (stepF v q qr t kv a).2.1 (ix2 h 0)
      = a.2.1 (ix2 h 0) * Ideal.exp (sm sn (scK V T b v.toNat q qr h) (1024 * t) - sm sn (scK V T b v.toNat q qr h) (1024 * t + 1024))
        + ∑ j ∈ Finset.range 1024, 1 * Ideal.exp (scK V T b v.toNat q qr h (1024 * t + j) - sm sn (scK V T b v.toNat q qr h) (1024 * t + 1024))
    ∧ ∀ c : Fin 512, (stepF v q qr t kv a).2.2 (ix2 h c)
      = a.2.2 (ix2 h c) * Ideal.exp (sm sn (scK V T b v.toNat q qr h) (1024 * t) - sm sn (scK V T b v.toNat q qr h) (1024 * t + 1024))
        + ∑ j ∈ Finset.range 1024, latE (tokP V T b (1024 * t + j)) c
            * Ideal.exp (scK V T b v.toNat q qr h (1024 * t + j) - sm sn (scK V T b v.toNat q qr h) (1024 * t + 1024)) := by
  have hS := score_block (V := V) (T := T) (b := b) (v := v) hv (q := q) (qr := qr) ht hb h
  have h1 : k0_pay11 (F := Ideal) v q a.1 (Scf.iv 0#32 1#32 t) (k0_pay7 kv) (k0_pay8 kv) (k0_pay9 qr kv) (ix2 h 0)
      = sm sn (scK V T b v.toNat q qr h) (1024 * t + 1024) := by
    rw [pay11_at, sm_add, hm]
    congr 1
    simp only [hS]
    exact fold_max (n := 1024) fun j => scK V T b v.toNat q qr h (1024 * t + j)
  refine ⟨h1, ?_, fun c => ?_⟩
  · show k0_pay35 (F := Ideal) _ _ (ix2 h 0) = _
    rw [pay35_at, pay14_at, pay13_at, pay15_at, h1, hm]
    congr 1
    rw [Finset.sum_range]
    refine Finset.sum_congr rfl fun j _ => ?_
    rw [pay12_at, h1, hS, one_mul]
  · show k0_pay36 (F := Ideal) _ _ _ _ _ (ix2 h c) = _
    rw [pay36_at, pay13_at, h1, hm]
    congr 1
    rw [Finset.sum_range]
    refine Finset.sum_congr rfl fun j _ => ?_
    rw [pay12_at, h1, hS]
    by_cases hl : 1024 * t + j.val < v.toNat
    · rw [tokB_eq hb j hl]
    · unfold scK
      rw [if_neg hl]
      simp

/-- What the loop carries after `t ≥ 1` blocks. -/
theorem run_at (hv : v.toNat ≤ 8192) (h : Fin 64) (a0 : A3 Ideal) (hl0 : a0.2.1 (ix2 h 0) = 1) :
    ∀ (t : ℕ) (ht : t < 8) (a : A3 Ideal), RunTo V T b v q qr a0 (t + 1) a →
      a.1 (ix2 h 0) = sm (a0.1 (ix2 h 0)) (scK V T b v.toNat q qr h) (1024 * (t + 1))
      ∧ a.2.1 (ix2 h 0) = wt (a0.1 (ix2 h 0)) 1 (scK V T b v.toNat q qr h) (fun _ => 1) (1024 * (t + 1))
      ∧ ∀ c : Fin 512, a.2.2 (ix2 h c)
        = wt (a0.1 (ix2 h 0)) (a0.2.2 (ix2 h c)) (scK V T b v.toNat q qr h) (fun j => latE (tokP V T b j) c) (1024 * (t + 1)) := by
  intro t
  induction t with
  | zero =>
    rintro ht a ⟨kv, a', hb, hr, rfl⟩
    have hr' : a' = a0 := hr
    clear hr
    rw [hr']
    clear hr'
    obtain ⟨e1, e2, e3⟩ := step_at (V := V) (T := T) (b := b) (q := q) (qr := qr) hv ht hb a0 h (a0.1 (ix2 h 0)) (by rw [Nat.mul_zero, sm_zero])
    simp only [Nat.mul_zero, Nat.zero_add, sm_zero] at e1 e2 e3
    refine ⟨e1, e2.trans ?_, fun c => (e3 c).trans ?_⟩
    · rw [hl0]; rfl
    · rfl
  | succ t ih =>
    rintro ht a ⟨kv, a', hb, hr, rfl⟩
    obtain ⟨i1, i2, i3⟩ := ih (by omega) a' hr
    obtain ⟨e1, e2, e3⟩ := step_at (V := V) (T := T) (b := b) (q := q) (qr := qr) hv ht hb a' h (a0.1 (ix2 h 0)) i1
    refine ⟨e1, e2.trans ?_, fun c => (e3 c).trans ?_⟩
    · rw [i2]
      exact (wt_add _ 1 _ (fun _ => 1) (1024 * (t + 1)) 1024).symm
    · rw [i3]
      exact (wt_add _ _ _ (fun j => latE (tokP V T b j) c) (1024 * (t + 1)) 1024).symm

end

/-- What the loop ends with, from these blocks of the operands: the softmax over all 8192 places, those past the length being nothing. -/
theorem ends_at {V : PoolV Ideal} {T : TblV Ideal} {i : grid0.Coords} {v : BitVec 32} (hv : v.toNat ≤ 8192) (hn : 1 ≤ v.toNat) {Xq Xr Xn Xs Xk}
    {a : A3 Ideal} (ha : Ends V T i v Xq Xr Xn Xs Xk a) (h : Fin 64)
    (S : ℕ → EReal) (hS : ∀ j, S j = scK V T (i 0) v.toNat (k0_pay28 Xq) (k0_pay29 Xr) h j)
    (sn : EReal) (hsn : sn = (init3 Xq Xr Xn Xs Xk).1 (ix2 h 0)) :
    a.1 (ix2 h 0) = sm sn S 8192 ∧ a.2.1 (ix2 h 0) = wt sn 1 S (fun _ => 1) 8192
    ∧ ∀ c : Fin 512, a.2.2 (ix2 h c) = wt sn ((init3 Xq Xr Xn Xs Xk).2.2 (ix2 h c)) S (fun j => latE (tokP V T (i 0) j) c) 8192 := by
  obtain rfl : S = scK V T (i 0) v.toNat (k0_pay28 Xq) (k0_pay29 Xr) h := funext hS
  subst hsn
  have hnb : ∃ t, nb v.toNat = t + 1 := ⟨nb v.toNat - 1, by unfold nb np; omega⟩
  obtain ⟨t, ht⟩ := hnb
  have ht8 : t < 8 := by unfold nb np at ht; omega
  have hge : v.toNat ≤ 1024 * (t + 1) := by unfold nb np at ht; omega
  unfold Ends at ha
  rw [ht] at ha
  have hd : ∀ j, v.toNat ≤ j → scK V T (i 0) v.toNat (k0_pay28 Xq) (k0_pay29 Xr) h j = ⊥ := fun j hj => if_neg (by omega)
  have hd' : ∀ j, 1024 * (t + 1) ≤ j → scK V T (i 0) v.toNat (k0_pay28 Xq) (k0_pay29 Xr) h j = ⊥ := fun j hj => hd j (by omega)
  obtain ⟨e1, e2, e3⟩ := run_at hv h _ (by exact pay33_at h) t ht8 a ha
  refine ⟨e1.trans (sm_dead _ _ _ _ (by omega) hd').symm, e2.trans (wt_dead _ _ _ _ _ _ (by omega) hd').symm,
    fun c => (e3 c).trans (wt_dead _ _ _ _ _ _ (by omega) hd').symm⟩

end Cert.V
-- ==== Proof.V.KMem.lean ====
/- Hand-written, untrusted. The kernel's final memory, read per batch row. -/
module

public import proofs.«01_k».proof.Proof.KI.Launch
public import proofs.«01_k».proof.Proof.V.KRun
public import Idealize.ShloMosaic.Lib.Pipeline.ArrRel

@[expose] public section

set_option maxRecDepth 16384

noncomputable section

namespace Cert.V

open Cert.KernelIdeal Cert.KernelIdeal.Gen Cert.KernelIdeal.Hand Cert.Words Idealize.ShloMosaic Idealize.ShloMosaic.TcCoe

variable (m : (ℓ : Loc nD τ sig) → Buf (Elt Ideal) ℓ) (c : Dev nD)

/-- The grid point of a batch row. -/
def pt (b : Fin 65) : Fin grid0.N := ⟨b.val, by rw [N_0]; exact b.isLt⟩

theorem pt_val : ∀ b : Fin 65, ((grid0.coords (pt b)) 0).val = b.val := by decide +kernel
theorem pt_coord (b : Fin 65) : (grid0.coords (pt b)) 0 = b := Fin.ext (pt_val b)
theorem ix_0 : ∀ b : Fin 65, ∀ a, cc0_transform_0 (grid0.coords (pt b)) a = ![b.val, 0, 0, 0] a := by decide +kernel
theorem ix_1 : ∀ b : Fin 65, ∀ a, cc0_transform_1 (grid0.coords (pt b)) a = ![b.val, 0, 0, 0] a := by decide +kernel
theorem ix_2 : ∀ b : Fin 65, ∀ a, cc0_transform_2 (grid0.coords (pt b)) a = ![b.val, 0, 0] a := by decide +kernel
theorem ix_3 : ∀ b : Fin 65, ∀ a, cc0_transform_3 (grid0.coords (pt b)) a = ![b.val, 0, 0] a := by decide +kernel
theorem ix_4 : ∀ b : Fin 65, ∀ a, cc0_transform_4 (grid0.coords (pt b)) a = ![b.val, 0, 0] a := by decide +kernel
theorem ix_6 : ∀ b : Fin 65, ∀ a, cc0_transform_6 (grid0.coords (pt b)) a = ![b.val, 0, 0] a := by decide +kernel
theorem ix_7 : ∀ b : Fin 65, ∀ a, cc0_transform_7 (grid0.coords (pt b)) a = ![b.val, 0, 0] a := by decide +kernel
theorem fe_0 : ∀ t : Fin grid0.N, Pipeline.Window.fetchOf grid0 false cc0_transform_0 t = true := by decide +kernel
theorem fe_1 : ∀ t : Fin grid0.N, Pipeline.Window.fetchOf grid0 false cc0_transform_1 t = true := by decide +kernel
theorem fe_2 : ∀ t : Fin grid0.N, Pipeline.Window.fetchOf grid0 false cc0_transform_2 t = true := by decide +kernel
theorem fe_3 : ∀ t : Fin grid0.N, Pipeline.Window.fetchOf grid0 false cc0_transform_3 t = true := by decide +kernel
theorem fe_4 : ∀ t : Fin grid0.N, Pipeline.Window.fetchOf grid0 false cc0_transform_4 t = true := by decide +kernel
theorem fl_6 : ∀ t : Fin grid0.N, Pipeline.Window.flushOf grid0 true cc0_transform_6 t = true := by decide +kernel
theorem fl_7 : ∀ t : Fin grid0.N, Pipeline.Window.flushOf grid0 true cc0_transform_7 t = true := by decide +kernel
theorem in_6 : ∀ t t' : Fin grid0.N, cc0_transform_6 (grid0.coords t) = cc0_transform_6 (grid0.coords t') → t = t' := by decide +kernel
theorem in_7 : ∀ t t' : Fin grid0.N, cc0_transform_7 (grid0.coords t) = cc0_transform_7 (grid0.coords t') → t = t' := by decide +kernel

/-- A block the body may be handed at a fetching point of an uncut input is the array's block. -/
theorem found {w : Fin 7} {t : Fin (cfgM m).N} (hf : ((cfgM m).win w).fetch t = true)
    (hc : ∀ a, ((cfgM m).win w).clip ((cfgM m).grid.coords t) a = none) {Y} (hY : (rd0 m c).Finds w t Y)
    (y : ((cfgM m).win w).block.Idx) :
    Y y = (((cfgM m).win w).blk t).view.read (Elt Ideal) (V m c (Pipeline.arrRef spec0 w)) (fun a => ⟨(y a).val, by
      have := (y a).isLt; show (y a).val < ((cfgM m).win w).xsize ((cfgM m).grid.coords t) a; unfold Pipeline.Window.xsize; rw [hc a]; exact this⟩) := by
  obtain ⟨d, rfl⟩ := ((rd0 m c).finds_of_fetch hf Y).mp hY
  have hm : ((cfgM m).win w).moved ((cfgM m).grid.coords t) y = true :=
      (((cfgM m).win w).moved_iff _ y).mpr fun a => by have := (y a).isLt; unfold Pipeline.Window.xsize; rw [hc a]; exact this
  unfold Pipeline.RDat.fetched Pipeline.Window.fill
  rw [dif_pos hm]
  rfl

/-- Where a block's element sits in its array. -/
theorem place {w : Fin 7} {t : Fin (cfgM m).N} (hk : ((cfgM m).win w).kind = .blocked) (y : (((cfgM m).win w).xblock ((cfgM m).grid.coords t)).Idx)
    (a : Fin ((cfgM m).win w).shape.rank) :
    ((((cfgM m).win w).rect t).emb y a : ℕ) = ((cfgM m).win w).index t a * ((cfgM m).win w).size a + (y a).val :=
  Pipeline.Window.rect_emb_val _ t y a hk

/-- The first input's block at a batch row. -/
theorem found0 (b : Fin 65) {Y : Vec Ideal S1x1x64x512 .bf16} (hY : (rd0 m c).Finds (0 : Fin 7) (pt b) Y) (h : Fin 64) (k : Fin 512) :
    Y (ix4 0 0 h k) = V m c main_arg0 (ix4 b 0 h k) := by
  refine (found m c (w := (0 : Fin 7)) (fe_0 (pt b)) (fun _ => rfl) hY (ix4 0 0 h k)).trans ?_
  refine congrArg (V m c main_arg0) (funext fun a => Fin.ext ?_)
  refine (place m (w := (0 : Fin 7)) rfl _ a).trans ?_
  have e : ((cfgM m).win (0 : Fin 7)).index (pt b) a = ![b.val, 0, 0, 0] a := ix_0 b a
  rw [e]
  match a with
  | 0 => show b.val * 1 + 0 = b.val; omega
  | 1 => rfl
  | 2 => show 0 * 64 + h.val = h.val; omega
  | 3 => show 0 * 512 + k.val = k.val; omega

/-- The second input's block at a batch row. -/
theorem found1 (b : Fin 65) {Y : Vec Ideal S1x1x64x64 .bf16} (hY : (rd0 m c).Finds (1 : Fin 7) (pt b) Y) (h : Fin 64) (k : Fin 64) :
    Y (ix4 0 0 h k) = V m c main_arg1 (ix4 b 0 h k) := by
  refine (found m c (w := (1 : Fin 7)) (fe_1 (pt b)) (fun _ => rfl) hY (ix4 0 0 h k)).trans ?_
  refine congrArg (V m c main_arg1) (funext fun a => Fin.ext ?_)
  refine (place m (w := (1 : Fin 7)) rfl _ a).trans ?_
  have e : ((cfgM m).win (1 : Fin 7)).index (pt b) a = ![b.val, 0, 0, 0] a := ix_1 b a
  rw [e]
  match a with
  | 0 => show b.val * 1 + 0 = b.val; omega
  | 1 => rfl
  | 2 => show 0 * 64 + h.val = h.val; omega
  | 3 => show 0 * 64 + k.val = k.val; omega

/-- The new token's code block at a batch row. -/
theorem found2 (b : Fin 65) {Y : Vec Ideal S1x1x512 .fp8e4m3} (hY : (rd0 m c).Finds (2 : Fin 7) (pt b) Y) (k : Fin 512) :
    Y (ix3 0 0 k) = V m c main_arg5 (ix3 b 0 k) := by
  refine (found m c (w := (2 : Fin 7)) (fe_2 (pt b)) (fun _ => rfl) hY (ix3 0 0 k)).trans ?_
  refine congrArg (V m c main_arg5) (funext fun a => Fin.ext ?_)
  refine (place m (w := (2 : Fin 7)) rfl _ a).trans ?_
  have e : ((cfgM m).win (2 : Fin 7)).index (pt b) a = ![b.val, 0, 0] a := ix_2 b a
  rw [e]
  match a with
  | 0 => show b.val * 1 + 0 = b.val; omega
  | 1 => rfl
  | 2 => show 0 * 512 + k.val = k.val; omega

/-- The new token's scale block at a batch row. -/
theorem found3 (b : Fin 65) {Y : Vec Ideal S1x1x4 .f32} (hY : (rd0 m c).Finds (3 : Fin 7) (pt b) Y) (k : Fin 4) :
    Y (ix3 0 0 k) = V m c main_arg6 (ix3 b 0 k) := by
  refine (found m c (w := (3 : Fin 7)) (fe_3 (pt b)) (fun _ => rfl) hY (ix3 0 0 k)).trans ?_
  refine congrArg (V m c main_arg6) (funext fun a => Fin.ext ?_)
  refine (place m (w := (3 : Fin 7)) rfl _ a).trans ?_
  have e : ((cfgM m).win (3 : Fin 7)).index (pt b) a = ![b.val, 0, 0] a := ix_3 b a
  rw [e]
  match a with
  | 0 => show b.val * 1 + 0 = b.val; omega
  | 1 => rfl
  | 2 => show 0 * 4 + k.val = k.val; omega

/-- The new token's rotary block at a batch row. -/
theorem found4 (b : Fin 65) {Y : Vec Ideal S1x1x64 .bf16} (hY : (rd0 m c).Finds (4 : Fin 7) (pt b) Y) (k : Fin 64) :
    Y (ix3 0 0 k) = V m c main_arg7 (ix3 b 0 k) := by
  refine (found m c (w := (4 : Fin 7)) (fe_4 (pt b)) (fun _ => rfl) hY (ix3 0 0 k)).trans ?_
  refine congrArg (V m c main_arg7) (funext fun a => Fin.ext ?_)
  refine (place m (w := (4 : Fin 7)) rfl _ a).trans ?_
  have e : ((cfgM m).win (4 : Fin 7)).index (pt b) a = ![b.val, 0, 0] a := ix_4 b a
  rw [e]
  match a with
  | 0 => show b.val * 1 + 0 = b.val; omega
  | 1 => rfl
  | 2 => show 0 * 64 + k.val = k.val; omega

/-- The first result, at a batch row: what the loop ended with there. -/
theorem wrote5 {G : FVec Ideal S65x64x512 .bf16} (hG : (rd m c).ArrAt (5 : Fin 7) (cfgM m).N G) (b : Fin 65) :
    ∃ a, Got m c (pt b) a ∧ ∀ (h : Fin 64) (k : Fin 512), G (ix3 b h k) = k0_pay3 (F := Ideal) a.2.1 a.2.2 (ix3 0 h k) := by
  obtain ⟨X, hX, hA⟩ := hG.exists_exact
  obtain ⟨Y, _, a, ha, e⟩ := hX (pt b) (pt b).isLt (fl_6 (pt b))
  refine ⟨a, ha, fun h k => ?_⟩
  have hA' := hA (Function.update (fun _ _ _ => Classical.arbitrary _) (5 : Fin 7) X) fun u _ _ => by rw [Function.update_self]
  have hd := Pipeline.Window.hdisj_of_index_inj ((cfgM m).win (5 : Fin 7)) fun t t' _ _ e => in_6 t t' e
  have hw := Pipeline.Dat.arrAt_emb_eq_flushed ((rd m c).withAfter (Function.update (fun _ _ _ => Classical.arbitrary _) (5 : Fin 7) X))
    (5 : Fin 7) hd (pt b) (fl_6 (pt b)) (ix3 (0 : Fin 1) h k)
  have hi : (((cfgM m).win (5 : Fin 7)).blk (pt b)).view.emb (ix3 (0 : Fin 1) h k) = ix3 b h k := by
    refine funext fun a => Fin.ext ?_
    refine (place m (w := (5 : Fin 7)) rfl _ a).trans ?_
    have e : ((cfgM m).win (5 : Fin 7)).index (pt b) a = ![b.val, 0, 0] a := ix_6 b a
    rw [e]
    match a with
    | 0 => show b.val * 1 + 0 = b.val; omega
    | 1 => show 0 * 64 + h.val = h.val; omega
    | 2 => show 0 * 512 + k.val = k.val; omega
  rw [← hA', hi] at hw
  refine hw.trans ?_
  rw [← e]
  exact congrFun (congrFun (Function.update_self (5 : Fin 7) X (fun _ _ _ => Classical.arbitrary _)) (pt b)) (ix3 (0 : Fin 1) h k)

/-- The second result, at a batch row: what the loop ended with there. -/
theorem wrote6 {G : FVec Ideal S65x64x1 .f32} (hG : (rd m c).ArrAt (6 : Fin 7) (cfgM m).N G) (b : Fin 65) :
    ∃ a, Got m c (pt b) a ∧ ∀ (h : Fin 64) (k : Fin 1), G (ix3 b h k) = k0_pay4 (F := Ideal) a.1 a.2.1 (ix3 0 h k) := by
  obtain ⟨X, hX, hA⟩ := hG.exists_exact
  obtain ⟨Y, _, a, ha, e⟩ := hX (pt b) (pt b).isLt (fl_7 (pt b))
  refine ⟨a, ha, fun h k => ?_⟩
  have hA' := hA (Function.update (fun _ _ _ => Classical.arbitrary _) (6 : Fin 7) X) fun u _ _ => by rw [Function.update_self]
  have hd := Pipeline.Window.hdisj_of_index_inj ((cfgM m).win (6 : Fin 7)) fun t t' _ _ e => in_7 t t' e
  have hw := Pipeline.Dat.arrAt_emb_eq_flushed ((rd m c).withAfter (Function.update (fun _ _ _ => Classical.arbitrary _) (6 : Fin 7) X))
    (6 : Fin 7) hd (pt b) (fl_7 (pt b)) (ix3 (0 : Fin 1) h k)
  have hi : (((cfgM m).win (6 : Fin 7)).blk (pt b)).view.emb (ix3 (0 : Fin 1) h k) = ix3 b h k := by
    refine funext fun a => Fin.ext ?_
    refine (place m (w := (6 : Fin 7)) rfl _ a).trans ?_
    have e : ((cfgM m).win (6 : Fin 7)).index (pt b) a = ![b.val, 0, 0] a := ix_7 b a
    rw [e]
    match a with
    | 0 => show b.val * 1 + 0 = b.val; omega
    | 1 => show 0 * 64 + h.val = h.val; omega
    | 2 => show 0 * 1 + k.val = k.val; omega
  rw [← hA', hi] at hw
  refine hw.trans ?_
  rw [← e]
  exact congrFun (congrFun (Function.update_self (6 : Fin 7) X (fun _ _ _ => Classical.arbitrary _)) (pt b)) (ix3 (0 : Fin 1) h k)

end Cert.V
-- ==== Proof.V.Ref.lean ====
/- Hand-written, untrusted. The reference, read at an index. -/
module

public import proofs.«01_k».proof.Proof.Gen.ReferenceIdeal.Read
public import proofs.«01_k».proof.Proof.V.Token
public import Idealize.ShloMosaic.Lib.Pointwise

@[expose] public section

set_option maxRecDepth 16384

noncomputable section

namespace Cert.V

open Cert.ReferenceIdeal Cert.ReferenceIdeal.Gen Cert.ReferenceIdeal.Read Idealize.ShloMosaic

variable (x0 : (⟨S65x1x64x512, .bf16⟩ : BufTy).Contents (Elt Ideal)) (x1 : (⟨S65x1x64x64, .bf16⟩ : BufTy).Contents (Elt Ideal))
  (x4 : (⟨S65, .i32⟩ : BufTy).Contents (Elt Ideal)) (x6 : (⟨S65x1x4, .f32⟩ : BufTy).Contents (Elt Ideal))
  (x7 : (⟨S65x1x64, .bf16⟩ : BufTy).Contents (Elt Ideal)) (r0 : (⟨S65x8192x512, .bf16⟩ : BufTy).Contents (Elt Ideal))
  (r1 : (⟨S65x1x512, .bf16⟩ : BufTy).Contents (Elt Ideal)) (e0 : (⟨S65x8192x4, .f32⟩ : BufTy).Contents (Elt Ideal))
  (e1 : (⟨S65x8192x64, .bf16⟩ : BufTy).Contents (Elt Ideal))

theorem v43_at (b : Fin 65) (j : Fin 8192) (c : Fin 512) :
    val_main_v43 (F := Ideal) r0 e0 (ix3 b j c) = r0 (ix3 b j c) * e0 (ix3 b j (grp c)) := by
  pointwise [val_main_v43, val_main_v42, val_main_v41, val_main_v40, val_main_v39, val_main_v38]
  rfl

theorem v49_at (b : Fin 65) (c : Fin 512) :
    val_main_v49 (F := Ideal) x6 r1 (ix3 b 0 c) = r1 (ix3 b 0 c) * x6 (ix3 b 0 (grp c)) := by
  pointwise [val_main_v49, val_main_v48, val_main_v47, val_main_v46, val_main_v45, val_main_v44]
  rfl

theorem v62_at (b : Fin 65) (h : Fin 64) (j : Fin 8192) : val_main_v62 (F := Ideal) x0 x1 x4 r0 e0 e1 (ix4 b 0 h j)
    = Scalar.select (IntOp.cmpi .slt (BitVec.ofNat 32 j.val) (x4 (ix1 b)))
      ((∑ x : Fin 512, x0 (ix4 b 0 h x) * val_main_v43 (F := Ideal) r0 e0 (ix3 b j x) + ∑ x : Fin 64, x1 (ix4 b 0 h x) * e1 (ix3 b j x)) * cE) ⊥ := by
  unfold val_main_v62 val_main_v54 val_main_v52 val_main_v50
  generalize val_main_v43 (F := Ideal) r0 e0 = y
  pointwise [val_main_call0_v1, val_main_v61, val_main_v60, val_main_v59, val_main_v58, val_main_v57, val_main_v56, val_main_v55, val_main_call0_v2, val_main_call0_v0, val_main_cst_6, val_main_v53, val_main_cst, val_main_v51]
  rw [show (id (constant (F := Ideal) S_ FTy.f32 4286578688#32) ix0 : EReal) = ⊥ from ofBits_ninf]
  rfl

theorem v74_at (b : Fin 65) (h : Fin 64) : val_main_v74 (F := Ideal) x0 x1 x6 x7 r1 (ix4 b 0 h 0)
    = (∑ x : Fin 512, x0 (ix4 b 0 h x) * val_main_v49 (F := Ideal) x6 r1 (ix3 b 0 x) + ∑ x : Fin 64, x1 (ix4 b 0 h x) * x7 (ix3 b 0 x)) * cE := by
  unfold val_main_v74 val_main_v67 val_main_v65 val_main_v63
  generalize val_main_v49 (F := Ideal) x6 r1 = y
  pointwise [val_main_call1_v1, val_main_v73, val_main_v72, val_main_v71, val_main_v70, val_main_v69, val_main_v68, val_main_call1_v2, val_main_call1_v0, val_main_cst_8, val_main_v66, val_main_cst_7, val_main_v64]
  rfl

theorem gen75 (s : FVec Ideal S65x1x64x8192 .f32) (i : FVec Ideal S_ .f32) (hi : i = constant S_ .f32 0xFF800000#32) (h1 h2) (b : Fin 65) (h : Fin 64) :
    Host.reduce (axes := [3]) (t := S65x1x64) FloatOps.maximumf s i h1 h2 (ix3 b 0 h)
      = (Finset.univ : Finset (Fin 8192)).fold max ⊥ fun x => s (ix4 b 0 h x) := by
  subst hi
  pointwise []
  rw [ofBits_ninf]

theorem gen77 (s : FVec Ideal S65x1x64x1 .f32) (i : FVec Ideal S_ .f32) (hi : i = constant S_ .f32 0xFF800000#32) (h1 h2) (b : Fin 65) (h : Fin 64) :
    Host.reduce (axes := [3]) (t := S65x1x64) FloatOps.maximumf s i h1 h2 (ix3 b 0 h) = s (ix4 b 0 h 0) := by
  subst hi
  pointwise []
  rw [ofBits_ninf]
  show (Finset.univ : Finset (Fin 1)).sup (fun x => s (ix4 b 0 h x)) = _
  simp

theorem idx3 {n : ℕ} (i : (⟨4, ![65, 1, 64, n]⟩ : Shape).Idx) (b : Fin 65) (h : Fin 64) (k : Fin n) (h0 : (i 0).val = b.val)
    (h2 : (i 2).val = h.val) (h3 : (i 3).val = k.val) : i = ix4 b 0 h k := by
  funext a
  match a with
  | ⟨0, _⟩ => exact Fin.ext h0
  | ⟨1, _⟩ => exact Subsingleton.elim (α := Fin 1) _ _
  | ⟨2, _⟩ => exact Fin.ext h2
  | ⟨3, _⟩ => exact Fin.ext h3

theorem idx2 (i : (⟨3, ![65, 1, 64]⟩ : Shape).Idx) (b : Fin 65) (h : Fin 64) (h0 : (i 0).val = b.val)
    (h2 : (i 2).val = h.val) : i = ix3 b 0 h := by
  funext a
  match a with
  | ⟨0, _⟩ => exact Fin.ext h0
  | ⟨1, _⟩ => exact Subsingleton.elim (α := Fin 1) _ _
  | ⟨2, _⟩ => exact Fin.ext h2

theorem v75_at (b : Fin 65) (h : Fin 64) : val_main_v75 (F := Ideal) x0 x1 x4 r0 e0 e1 (ix3 b 0 h)
    = (Finset.univ : Finset (Fin 8192)).fold max ⊥ fun x => val_main_v62 (F := Ideal) x0 x1 x4 r0 e0 e1 (ix4 b 0 h x) := by
  unfold val_main_v75
  generalize val_main_v62 (F := Ideal) x0 x1 x4 r0 e0 e1 = s
  have hi : val_main_cst_9 (F := Ideal) = constant (F := Ideal) S_ .f32 0xFF800000#32 := by unfold val_main_cst_9; rfl
  generalize val_main_cst_9 (F := Ideal) = i at *
  have e := gen75 s i hi reducesTo_S65x1x64x8192_S65x1x64_d3 h_S_ b h
  rw [← e]

theorem v77_at (b : Fin 65) (h : Fin 64) : val_main_v77 (F := Ideal) x0 x1 x6 x7 r1 (ix3 b 0 h)
    = val_main_v74 (F := Ideal) x0 x1 x6 x7 r1 (ix4 b 0 h 0) := by
  unfold val_main_v77
  generalize val_main_v74 (F := Ideal) x0 x1 x6 x7 r1 = s
  have hi : val_main_cst_10 (F := Ideal) = constant (F := Ideal) S_ .f32 0xFF800000#32 := by unfold val_main_cst_10; rfl
  generalize val_main_cst_10 (F := Ideal) = i at *
  have e := gen77 s i hi reducesTo_S65x1x64x1_S65x1x64_d3 h_S_ b h
  rw [← e]

theorem v79_at (b : Fin 65) (h : Fin 64) : val_main_v79 (F := Ideal) x0 x1 x4 x6 x7 r0 r1 e0 e1 (ix4 b 0 h 0)
    = max ((Finset.univ : Finset (Fin 8192)).fold max ⊥ fun x => val_main_v62 (F := Ideal) x0 x1 x4 r0 e0 e1 (ix4 b 0 h x))
      (val_main_v74 (F := Ideal) x0 x1 x6 x7 r1 (ix4 b 0 h 0)) := by
  rw [val_main_v79_apply, val_main_v76_apply, val_main_v78_apply, ← v75_at, ← v77_at]
  generalize val_main_v75 (F := Ideal) x0 x1 x4 r0 e0 e1 = s
  generalize val_main_v77 (F := Ideal) x0 x1 x6 x7 r1 = t
  exact congrArg₂ (max (α := EReal)) (congrArg s (idx2 _ b h rfl rfl)) (congrArg t (idx2 _ b h rfl rfl))

theorem v82_at (b : Fin 65) (h : Fin 64) (j : Fin 8192) : val_main_v82 (F := Ideal) x0 x1 x4 x6 x7 r0 r1 e0 e1 (ix4 b 0 h j)
    = Ideal.exp (val_main_v62 (F := Ideal) x0 x1 x4 r0 e0 e1 (ix4 b 0 h j) - val_main_v79 (F := Ideal) x0 x1 x4 x6 x7 r0 r1 e0 e1 (ix4 b 0 h 0)) := by
  rw [val_main_v82_apply, val_main_v81_apply, val_main_v80_apply]
  generalize val_main_v62 (F := Ideal) x0 x1 x4 r0 e0 e1 = s
  generalize val_main_v79 (F := Ideal) x0 x1 x4 x6 x7 r0 r1 e0 e1 = t
  exact congrArg (fun z : EReal => Ideal.exp (s (ix4 b 0 h j) - z)) (congrArg t (idx3 _ b h 0 rfl rfl rfl))

theorem v84_at (b : Fin 65) (h : Fin 64) : val_main_v84 (F := Ideal) x0 x1 x4 x6 x7 r0 r1 e0 e1 (ix4 b 0 h 0)
    = Ideal.exp (val_main_v74 (F := Ideal) x0 x1 x6 x7 r1 (ix4 b 0 h 0) - val_main_v79 (F := Ideal) x0 x1 x4 x6 x7 r0 r1 e0 e1 (ix4 b 0 h 0)) := by
  rw [val_main_v84_apply, val_main_v83_apply]
  generalize val_main_v74 (F := Ideal) x0 x1 x6 x7 r1 = s
  generalize val_main_v79 (F := Ideal) x0 x1 x4 x6 x7 r0 r1 e0 e1 = t
  rfl

theorem v89_at (b : Fin 65) (h : Fin 64) : val_main_v89 (F := Ideal) x0 x1 x4 x6 x7 r0 r1 e0 e1 (ix4 b 0 h 0)
    = ∑ j : Fin 8192, val_main_v82 (F := Ideal) x0 x1 x4 x6 x7 r0 r1 e0 e1 (ix4 b 0 h j)
      + val_main_v84 (F := Ideal) x0 x1 x4 x6 x7 r0 r1 e0 e1 (ix4 b 0 h 0) := by
  rw [val_main_v89_apply, val_main_v86_apply, val_main_v88_apply, val_main_v85_apply, val_main_v87_apply, val_main_cst_11_apply, val_main_cst_12_apply,
    Fin.sum_univ_one]
  generalize val_main_v82 (F := Ideal) x0 x1 x4 x6 x7 r0 r1 e0 e1 = s
  generalize val_main_v84 (F := Ideal) x0 x1 x4 x6 x7 r0 r1 e0 e1 = t
  rw [show (FloatOps.ofBits FTy.f32 0x00000000#32 : Ideal .f32) = (0 : EReal) from Ideal.ofBits_zero_f32]
  show (0 + ∑ k : Fin 8192, s (idx_main_v85 (idx_main_v86 (ix4 b 0 h 0)) k) : EReal) + (0 + t (idx_main_v87 (idx_main_v88 (ix4 b 0 h 0)) 0)) = _
  rw [zero_add, zero_add]
  congr 1
  · exact Finset.sum_congr rfl fun k _ => congrArg s (idx3 _ b h k rfl rfl rfl)
  · exact congrArg t (idx3 _ b h 0 rfl rfl rfl)

theorem v94_at (b : Fin 65) (h : Fin 64) (c : Fin 512) : val_main_v94 (F := Ideal) x0 x1 x4 x6 x7 r0 r1 e0 e1 (ix4 b 0 h c)
    = ∑ j : Fin 8192, val_main_v82 (F := Ideal) x0 x1 x4 x6 x7 r0 r1 e0 e1 (ix4 b 0 h j) * val_main_v43 (F := Ideal) r0 e0 (ix3 b j c)
      + val_main_v84 (F := Ideal) x0 x1 x4 x6 x7 r0 r1 e0 e1 (ix4 b 0 h 0) * val_main_v49 (F := Ideal) x6 r1 (ix3 b 0 c) := by
  unfold val_main_v94 val_main_v93 val_main_v92 val_main_v91 val_main_v90
  generalize val_main_v82 (F := Ideal) x0 x1 x4 x6 x7 r0 r1 e0 e1 = s
  generalize val_main_v84 (F := Ideal) x0 x1 x4 x6 x7 r0 r1 e0 e1 = t
  generalize val_main_v43 (F := Ideal) r0 e0 = y
  generalize val_main_v49 (F := Ideal) x6 r1 = z
  pointwise []
  simp

theorem gen100 (a : FVec Ideal S65x1x64x512 .f32) (l : FVec Ideal S65x1x64x1 .f32) (h1 h2 h3) (b : Fin 65) (h : Fin 64) (c : Fin 512) :
    shapeCast S65x64x512 (truncf (s := S65x1x64x512) .bf16 (Host.divf a (broadcastInDim S65x1x64x512 ![0, 1, 2, 3] h1 l)) h2) h3 (ix3 b h c)
      = Ideal.div (a (ix4 b 0 h c)) (l (ix4 b 0 h 0)) := by
  pointwise []

theorem gen101 (m l : FVec Ideal S65x1x64x1 .f32) (h1) (b : Fin 65) (h : Fin 64) :
    shapeCast S65x64x1 (addf (s := S65x1x64x1) (φ := .f32) m (Host.log l)) h1 (ix3 b h 0) = m (ix4 b 0 h 0) + Ideal.log (l (ix4 b 0 h 0)) := by
  pointwise []

theorem v101_at (b : Fin 65) (h : Fin 64) : val_main_v101 (F := Ideal) x0 x1 x4 x6 x7 r0 r1 e0 e1 (ix3 b h 0)
    = val_main_v79 (F := Ideal) x0 x1 x4 x6 x7 r0 r1 e0 e1 (ix4 b 0 h 0)
      + Ideal.log (val_main_v89 (F := Ideal) x0 x1 x4 x6 x7 r0 r1 e0 e1 (ix4 b 0 h 0)) := by
  unfold val_main_v101 val_main_v98 val_main_v97
  exact gen101 _ _ _ b h

theorem v100_at (b : Fin 65) (h : Fin 64) (c : Fin 512) : val_main_v100 (F := Ideal) x0 x1 x4 x6 x7 r0 r1 e0 e1 (ix3 b h c)
    = Ideal.div (val_main_v94 (F := Ideal) x0 x1 x4 x6 x7 r0 r1 e0 e1 (ix4 b 0 h c))
      (val_main_v89 (F := Ideal) x0 x1 x4 x6 x7 r0 r1 e0 e1 (ix4 b 0 h 0)) := by
  unfold val_main_v100 val_main_v99 val_main_v96 val_main_v95
  exact gen100 _ _ _ _ _ b h c

end Cert.V
-- ==== Proof.V.RefVal.lean ====
/- Hand-written, untrusted. The reference's two results, as a softmax over a sequence's tokens and the new one. -/
module

public import proofs.«01_k».proof.Proof.V.Ref

@[expose] public section

set_option maxRecDepth 16384

noncomputable section

namespace Cert.V

open Cert.ReferenceIdeal Cert.ReferenceIdeal.Gen Cert.ReferenceIdeal.Read Idealize.ShloMosaic

/-- The masked scores of a sequence's tokens. -/
def scR (V : (⟨3, ![10400, 64, 656]⟩ : Shape).Idx → BitVec 8) (T : (⟨2, ![65, 128]⟩ : Shape).Idx → BitVec 32) (b : Fin 65) (n : ℕ)
    (q : Fin 512 → EReal) (qr : Fin 64 → EReal) (j : ℕ) : EReal :=
  if j < n then scoreE q qr (tokP V T b j) else ⊥

/-- The new token's score. -/
def snR (q : Fin 512 → EReal) (qr : Fin 64 → EReal) (cn : Fin 512 → EReal) (s : Fin 4 → EReal) (k : Fin 64 → EReal) : EReal :=
  (∑ x : Fin 512, q x * (cn x * s (grp x)) + ∑ x : Fin 64, qr x * k x) * cE

variable (x0 : (⟨S65x1x64x512, .bf16⟩ : BufTy).Contents (Elt Ideal)) (x1 : (⟨S65x1x64x64, .bf16⟩ : BufTy).Contents (Elt Ideal))
  (x4 : (⟨S65, .i32⟩ : BufTy).Contents (Elt Ideal)) (x6 : (⟨S65x1x4, .f32⟩ : BufTy).Contents (Elt Ideal))
  (x7 : (⟨S65x1x64, .bf16⟩ : BufTy).Contents (Elt Ideal)) (r0 : (⟨S65x8192x512, .bf16⟩ : BufTy).Contents (Elt Ideal))
  (r1 : (⟨S65x1x512, .bf16⟩ : BufTy).Contents (Elt Ideal)) (e0 : (⟨S65x8192x4, .f32⟩ : BufTy).Contents (Elt Ideal))
  (e1 : (⟨S65x8192x64, .bf16⟩ : BufTy).Contents (Elt Ideal))
  (P : S10400x64x656.Idx → BitVec 8) (T : S65x128.Idx → BitVec 32)

/-- The scores of sequence `b` and head `h`. -/
abbrev Sb (b : Fin 65) (h : Fin 64) : ℕ → EReal :=
  scR P T b (x4 (ix1 b)).toNat (fun c => x0 (ix4 b 0 h c)) (fun d => x1 (ix4 b 0 h d))
abbrev snb (b : Fin 65) (h : Fin 64) : EReal :=
  snR (fun c => x0 (ix4 b 0 h c)) (fun d => x1 (ix4 b 0 h d)) (fun c => r1 (ix3 b 0 c)) (fun g => x6 (ix3 b 0 g)) (fun d => x7 (ix3 b 0 d))

section
variable (hr0 : ∀ b j k, (r0 (ix3 b j k) : EReal) = codeE (tokP P T b j.val) k) (he0 : ∀ b j g, (e0 (ix3 b j g) : EReal) = scE (tokP P T b j.val) g)
  (he1 : ∀ b j d, (e1 (ix3 b j d) : EReal) = ropeE (tokP P T b j.val) d) (hn : ∀ x, (x4 x).toNat ≤ 8192)

include hr0 he0 in
theorem lat_at (b : Fin 65) (j : Fin 8192) (c : Fin 512) : (val_main_v43 (F := Ideal) r0 e0 (ix3 b j c) : EReal) = latE (tokP P T b j.val) c := by
  rw [v43_at, hr0, he0]; rfl

include hr0 he0 he1 hn in
theorem sc_at (b : Fin 65) (h : Fin 64) (j : Fin 8192) :
    (val_main_v62 (F := Ideal) x0 x1 x4 r0 e0 e1 (ix4 b 0 h j) : EReal) = Sb x0 x1 x4 P T b h j.val := by
  have hb := hn (ix1 b)
  have hj := j.isLt
  have hj' : (BitVec.ofNat 32 j.val).toNat = j.val := by rw [BitVec.toNat_ofNat]; omega
  rw [v62_at]
  simp only [lat_at r0 e0 P T hr0 he0, he1]
  rw [mask_select _ _ (by omega) (by omega), hj']
  rfl

theorem new_at (b : Fin 65) (h : Fin 64) : (val_main_v74 (F := Ideal) x0 x1 x6 x7 r1 (ix4 b 0 h 0) : EReal) = snb x0 x1 x6 x7 r1 b h := by
  rw [v74_at]
  simp only [v49_at]
  rfl

include hr0 he0 he1 hn in
theorem max_at (b : Fin 65) (h : Fin 64) : (val_main_v79 (F := Ideal) x0 x1 x4 x6 x7 r0 r1 e0 e1 (ix4 b 0 h 0) : EReal)
    = sm (snb x0 x1 x6 x7 r1 b h) (Sb x0 x1 x4 P T b h) 8192 := by
  rw [v79_at, new_at, max_comm]
  unfold sm
  rw [← fold_max]
  exact congrArg (fun f : Fin 8192 → EReal => max (snb x0 x1 x6 x7 r1 b h) (Finset.univ.fold max ⊥ f)) (funext fun x => sc_at x0 x1 x4 r0 e0 e1 P T hr0 he0 he1 hn b h x)

include hr0 he0 he1 hn in
theorem den_at (b : Fin 65) (h : Fin 64) : (val_main_v89 (F := Ideal) x0 x1 x4 x6 x7 r0 r1 e0 e1 (ix4 b 0 h 0) : EReal)
    = wt (snb x0 x1 x6 x7 r1 b h) 1 (Sb x0 x1 x4 P T b h) (fun _ => 1) 8192 := by
  rw [v89_at, v84_at, new_at, max_at x0 x1 x4 x6 x7 r0 r1 e0 e1 P T hr0 he0 he1 hn, add_comm]
  unfold wt
  rw [Finset.sum_range]
  simp only [one_mul]
  refine congrArg₂ (fun x y : EReal => x + y) rfl ?_
  refine Finset.sum_congr rfl fun j _ => ?_
  rw [v82_at, max_at x0 x1 x4 x6 x7 r0 r1 e0 e1 P T hr0 he0 he1 hn, sc_at x0 x1 x4 r0 e0 e1 P T hr0 he0 he1 hn]

include hr0 he0 he1 hn in
theorem num_at (b : Fin 65) (h : Fin 64) (c : Fin 512) : (val_main_v94 (F := Ideal) x0 x1 x4 x6 x7 r0 r1 e0 e1 (ix4 b 0 h c) : EReal)
    = wt (snb x0 x1 x6 x7 r1 b h) (r1 (ix3 b 0 c) * x6 (ix3 b 0 (grp c))) (Sb x0 x1 x4 P T b h) (fun j => latE (tokP P T b j) c) 8192 := by
  rw [v94_at, v84_at, new_at, max_at x0 x1 x4 x6 x7 r0 r1 e0 e1 P T hr0 he0 he1 hn, add_comm, v49_at]
  unfold wt
  rw [Finset.sum_range]
  refine congrArg₂ (fun x y : EReal => x + y) (mul_comm _ _) ?_
  refine Finset.sum_congr rfl fun j _ => ?_
  rw [v82_at, max_at x0 x1 x4 x6 x7 r0 r1 e0 e1 P T hr0 he0 he1 hn, sc_at x0 x1 x4 r0 e0 e1 P T hr0 he0 he1 hn, lat_at r0 e0 P T hr0 he0]
  exact mul_comm _ _

include hr0 he0 he1 hn in
/-- The reference's first result. -/
theorem ref_out (b : Fin 65) (h : Fin 64) (c : Fin 512) : (val_main_v100 (F := Ideal) x0 x1 x4 x6 x7 r0 r1 e0 e1 (ix3 b h c) : EReal)
    = Ideal.div (wt (snb x0 x1 x6 x7 r1 b h) (r1 (ix3 b 0 c) * x6 (ix3 b 0 (grp c))) (Sb x0 x1 x4 P T b h) (fun j => latE (tokP P T b j) c) 8192)
      (wt (snb x0 x1 x6 x7 r1 b h) 1 (Sb x0 x1 x4 P T b h) (fun _ => 1) 8192) := by
  rw [v100_at, num_at x0 x1 x4 x6 x7 r0 r1 e0 e1 P T hr0 he0 he1 hn, den_at x0 x1 x4 x6 x7 r0 r1 e0 e1 P T hr0 he0 he1 hn]

include hr0 he0 he1 hn in
/-- The reference's second result. -/
theorem ref_lse (b : Fin 65) (h : Fin 64) : (val_main_v101 (F := Ideal) x0 x1 x4 x6 x7 r0 r1 e0 e1 (ix3 b h 0) : EReal)
    = sm (snb x0 x1 x6 x7 r1 b h) (Sb x0 x1 x4 P T b h) 8192
      + Ideal.log (wt (snb x0 x1 x6 x7 r1 b h) 1 (Sb x0 x1 x4 P T b h) (fun _ => 1) 8192) := by
  rw [v101_at, max_at x0 x1 x4 x6 x7 r0 r1 e0 e1 P T hr0 he0 he1 hn, den_at x0 x1 x4 x6 x7 r0 r1 e0 e1 P T hr0 he0 he1 hn]

end
end Cert.V
-- ==== Proof.V.KVal.lean ====
/- Hand-written, untrusted. The kernel's two results at an index, as the softmax over the pool's tokens and the new one. -/
module

public import proofs.«01_k».proof.Proof.V.KMem
public import proofs.«01_k».proof.Proof.V.RefVal

@[expose] public section

set_option maxRecDepth 16384

noncomputable section

namespace Cert.V

open Cert.KernelIdeal Cert.KernelIdeal.Gen Cert.KernelIdeal.Hand Cert.Words Idealize.ShloMosaic Idealize.ShloMosaic.TcCoe

variable (m : (ℓ : Loc nD τ sig) → Buf (Elt Ideal) ℓ) (c : Dev nD)

/-- The arguments. -/
abbrev A0 : S65x1x64x512.Idx → EReal := V m c main_arg0
abbrev A1 : S65x1x64x64.Idx → EReal := V m c main_arg1
abbrev A2 : S10400x64x656.Idx → BitVec 8 := V m c main_arg2
abbrev A3' : S65x128.Idx → BitVec 32 := V m c main_arg3
abbrev A4 : S65.Idx → BitVec 32 := V m c main_arg4
abbrev A5 : S65x1x512.Idx → EReal := V m c main_arg5
abbrev A6 : S65x1x4.Idx → EReal := V m c main_arg6
abbrev A7 : S65x1x64.Idx → EReal := V m c main_arg7

/-- The lengths are in range, and the numbers the claim is of are finite. -/
structure Good : Prop where
  len : ∀ x, 1 ≤ (A4 m c x).toNat ∧ (A4 m c x).toNat ≤ 8192
  q : ∀ y, Fin' (A0 m c y)
  tok : ∀ b j, (∀ k, Fin' (codeE (tokP (A2 m c) (A3' m c) b j) k)) ∧ ∀ g, Fin' (scE (tokP (A2 m c) (A3' m c) b j) g)

/-- The scores and the new token's score of a launch. -/
abbrev SK (b : Fin 65) (h : Fin 64) : ℕ → EReal := Sb (A0 m c) (A1 m c) (A4 m c) (A2 m c) (A3' m c) b h
abbrev snK (b : Fin 65) (h : Fin 64) : EReal := snb (A0 m c) (A1 m c) (A6 m c) (A7 m c) (A5 m c) b h

/-- What the loop ends with at a batch row, from the row's blocks. -/
theorem core (g : Good m 0) (b : Fin 65) {X0 : Vec Ideal S1x1x64x512 .bf16} {X1 : Vec Ideal S1x1x64x64 .bf16} {X2 : Vec Ideal S1x1x512 .fp8e4m3}
    {X3 : Vec Ideal S1x1x4 .f32} {X4 : Vec Ideal S1x1x64 .bf16} (f0 : ∀ h k, X0 (ix4 0 0 h k) = A0 m 0 (ix4 b 0 h k))
    (f1 : ∀ h k, X1 (ix4 0 0 h k) = A1 m 0 (ix4 b 0 h k)) (f2 : ∀ k, X2 (ix3 0 0 k) = A5 m 0 (ix3 b 0 k))
    (f3 : ∀ k, X3 (ix3 0 0 k) = A6 m 0 (ix3 b 0 k)) (f4 : ∀ k, X4 (ix3 0 0 k) = A7 m 0 (ix3 b 0 k)) {i : grid0.Coords} (hb : i 0 = b)
    {v : BitVec 32} (hl : v = A4 m 0 (ix1 b)) {a : A3 Ideal} (hE : Ends (A2 m 0) (A3' m 0) i v X0 X1 X2 X3 X4 a) (h : Fin 64) :
    a.1 (ix2 h 0) = sm (snK m 0 b h) (SK m 0 b h) 8192 ∧ a.2.1 (ix2 h 0) = wt (snK m 0 b h) 1 (SK m 0 b h) (fun _ => 1) 8192
    ∧ ∀ k : Fin 512, a.2.2 (ix2 h k) = wt (snK m 0 b h) (A5 m 0 (ix3 b 0 k) * A6 m 0 (ix3 b 0 (grp k))) (SK m 0 b h)
        (fun j => latE (tokP (A2 m 0) (A3' m 0) b j) k) 8192 := by
  subst hb hl
  have hq : ∀ h k, k0_pay28 (F := Ideal) X0 (ix2 h k) = A0 m 0 (ix4 (i 0) 0 h k) := fun h k => (pay28_at _ h k).trans (f0 h k)
  have hqr : ∀ h k, k0_pay29 (F := Ideal) X1 (ix2 h k) = A1 m 0 (ix4 (i 0) 0 h k) := fun h k => (pay29_at _ h k).trans (f1 h k)
  have hln := g.len (ix1 (i 0))
  have hcn : ∀ k, k0_pay31 (F := Ideal) (k0_pay30 X3) X2 (ix2 0 k) = A5 m 0 (ix3 (i 0) 0 k) * A6 m 0 (ix3 (i 0) 0 (grp k)) := fun k => by
    rw [pay31_at, pay30_at, f2, f3]
  have hS : ∀ j, SK m 0 (i 0) h j = scK (A2 m 0) (A3' m 0) (i 0) (A4 m 0 (ix1 (i 0))).toNat (k0_pay28 X0) (k0_pay29 X1) h j := fun j => by
    unfold scK
    simp only [hq, hqr]
    rw [kscore_eq (fun c => g.q _) (g.tok (i 0) j).1 (g.tok (i 0) j).2]
    rfl
  have hsn : snK m 0 (i 0) h = (init3 X0 X1 X2 X3 X4).1 (ix2 h 0) := by
    refine Eq.trans ?_ (pay32_at _ _ _ _ _ h).symm
    simp only [hq, hqr, hcn, f4]
    rfl
  obtain ⟨e1, e2, e3⟩ := ends_at hln.2 hln.1 hE h (SK m 0 (i 0) h) hS (snK m 0 (i 0) h) hsn
  refine ⟨e1, e2, fun k => (e3 k).trans ?_⟩
  have e4 : (init3 X0 X1 X2 X3 X4).2.2 (ix2 h k) = A5 m 0 (ix3 (i 0) 0 k) * A6 m 0 (ix3 (i 0) 0 (grp k)) :=
    (pay34_at _ _ h k).trans (hcn k)
  rw [e4]

/-- What the loop ends with at a batch row. -/
theorem got_at (g : Good m c) (b : Fin 65) {a : A3 Ideal} (ha : Got m c (pt b) a) (h : Fin 64) :
    a.1 (ix2 h 0) = sm (snK m c b h) (SK m c b h) 8192 ∧ a.2.1 (ix2 h 0) = wt (snK m c b h) 1 (SK m c b h) (fun _ => 1) 8192
    ∧ ∀ k : Fin 512, a.2.2 (ix2 h k) = wt (snK m c b h) (A5 m c (ix3 b 0 k) * A6 m c (ix3 b 0 (grp k))) (SK m c b h)
        (fun j => latE (tokP (A2 m c) (A3' m c) b j) k) 8192 := by
  obtain rfl : (0 : Dev nD) = c := Subsingleton.elim _ _
  obtain ⟨Y, hY, hE⟩ := ha
  exact core m g b (found0 m 0 b (hY 0 (by decide))) (found1 m 0 b (hY 1 (by decide))) (found2 m 0 b (hY 2 (by decide)))
    (found3 m 0 b (hY 3 (by decide))) (found4 m 0 b (hY 4 (by decide))) (pt_coord b) (by rw [pt_coord b]; rfl) hE h

/-- The first result at an index. -/
theorem ker_out (g : Good m c) {G : FVec Ideal S65x64x512 .bf16} (hG : (rd m c).ArrAt (5 : Fin 7) (cfgM m).N G) (b : Fin 65) (h : Fin 64) (k : Fin 512) :
    G (ix3 b h k) = Ideal.div (wt (snK m c b h) (A5 m c (ix3 b 0 k) * A6 m c (ix3 b 0 (grp k))) (SK m c b h)
        (fun j => latE (tokP (A2 m c) (A3' m c) b j) k) 8192) (wt (snK m c b h) 1 (SK m c b h) (fun _ => 1) 8192) := by
  obtain ⟨a, ha, e⟩ := wrote5 m c hG b
  obtain ⟨_, e2, e3⟩ := got_at m c g b ha h
  rw [e, pay3_at, e2, e3]

/-- The second result at an index. -/
theorem ker_lse (g : Good m c) {G : FVec Ideal S65x64x1 .f32} (hG : (rd m c).ArrAt (6 : Fin 7) (cfgM m).N G) (b : Fin 65) (h : Fin 64) :
    G (ix3 b h 0) = sm (snK m c b h) (SK m c b h) 8192 + Ideal.log (wt (snK m c b h) 1 (SK m c b h) (fun _ => 1) 8192) := by
  obtain ⟨a, ha, e⟩ := wrote6 m c hG b
  obtain ⟨e1, e2, _⟩ := got_at m c g b ha h
  rw [e, pay4_at, e1, e2]

end Cert.V
-- ==== Proof.V.Out.lean ====
/- Hand-written, untrusted. The two results as functions of the eight arguments. -/
module

public import proofs.«01_k».proof.Proof.V.RefVal

@[expose] public section

noncomputable section

namespace Cert.V

open Cert.ReferenceIdeal Idealize.ShloMosaic

variable (x0 : S65x1x64x512.Idx → EReal) (x1 : S65x1x64x64.Idx → EReal) (P : S10400x64x656.Idx → BitVec 8) (T : S65x128.Idx → BitVec 32)
  (x4 : S65.Idx → BitVec 32) (x5 : S65x1x512.Idx → EReal) (x6 : S65x1x4.Idx → EReal) (x7 : S65x1x64.Idx → EReal)

/-- The attention output: the softmax-weighted sum of the tokens' latents and the new one's, over the sum of the weights. -/
def outV : S65x64x512.Idx → EReal := fun i =>
  Ideal.div (wt (snb x0 x1 x6 x7 x5 (i 0) (i 1)) (x5 (ix3 (i 0) 0 (i 2)) * x6 (ix3 (i 0) 0 (grp (i 2)))) (Sb x0 x1 x4 P T (i 0) (i 1))
      (fun j => latE (tokP P T (i 0) j) (i 2)) 8192)
    (wt (snb x0 x1 x6 x7 x5 (i 0) (i 1)) 1 (Sb x0 x1 x4 P T (i 0) (i 1)) (fun _ => 1) 8192)

/-- The logarithm of the sum of the exponentials of the scores. -/
def lseV : S65x64x1.Idx → EReal := fun i =>
  sm (snb x0 x1 x6 x7 x5 (i 0) (i 1)) (Sb x0 x1 x4 P T (i 0) (i 1)) 8192
    + Ideal.log (wt (snb x0 x1 x6 x7 x5 (i 0) (i 1)) 1 (Sb x0 x1 x4 P T (i 0) (i 1)) (fun _ => 1) 8192)

/-- An array that is the attention output at every three coordinates is the attention output. -/
theorem eq_outV {G : S65x64x512.Idx → EReal} (h : ∀ b h k, G (ix3 b h k) = outV x0 x1 P T x4 x5 x6 x7 (ix3 b h k)) : G = outV x0 x1 P T x4 x5 x6 x7 := by
  funext i
  obtain ⟨a, b, k, rfl⟩ : ∃ (a : Fin 65) (b : Fin 64) (k : Fin 512), i = ix3 a b k :=
    ⟨i 0, i 1, i 2, funext fun a => by match a with | 0 => rfl | 1 => rfl | 2 => rfl⟩
  exact h a b k

/-- The same for the second result, whose last axis has one element. -/
theorem eq_lseV {G : S65x64x1.Idx → EReal} (h : ∀ b h, G (ix3 b h 0) = lseV x0 x1 P T x4 x5 x6 x7 (ix3 b h 0)) : G = lseV x0 x1 P T x4 x5 x6 x7 := by
  funext i
  obtain ⟨a, b, rfl⟩ : ∃ (a : Fin 65) (b : Fin 64), i = ix3 a b 0 :=
    ⟨i 0, i 1, funext fun a => by match a with | 0 => rfl | 1 => rfl | 2 => exact Subsingleton.elim (α := Fin 1) _ _⟩
  exact h a b

end Cert.V
-- ==== Proof.V.KFin.lean ====
/- Hand-written, untrusted. The kernel's run ends with the two results as functions of its arguments. -/
module

public import proofs.«01_k».proof.Proof.V.KVal
public import proofs.«01_k».proof.Proof.V.Out

@[expose] public section

set_option maxRecDepth 16384

noncomputable section

namespace Cert.V

open Cert.KernelIdeal Cert.KernelIdeal.Gen Cert.KernelIdeal.Hand Idealize.ShloMosaic Idealize.ShloMosaic.TcCoe Idealize.SL.Sem

variable (m : (ℓ : Loc nD τ sig) → Buf (Elt Ideal) ℓ)

/-- The kernel runs to its end with the two results and its arguments unchanged. -/
theorem ker_run (ρ : Dev nD → PrngReg) (hT : ∀ x, (A3' m 0 x).toNat < 10400) (g : ∀ c, Good m c) :
    θ_run defs (onTc (τ := τ) (main (F := Ideal))) ⟨m, fun _ => 0, ρ⟩ fun r => ∀ c : Dev nD,
      r.2.mem ((c.tc : Thread nD τ).loc main_v0_0) = outV (A0 m c) (A1 m c) (A2 m c) (A3' m c) (A4 m c) (A5 m c) (A6 m c) (A7 m c)
      ∧ r.2.mem ((c.tc : Thread nD τ).loc main_v0_1) = lseV (A0 m c) (A1 m c) (A2 m c) (A3' m c) (A4 m c) (A5 m c) (A6 m c) (A7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨
      eq_outV _ _ _ _ _ _ _ _ fun b hh k => ker_out m c (g c) ((h.1 c).1 (5 : Fin 7)) b hh k,
      eq_lseV _ _ _ _ _ _ _ _ fun b hh => ker_lse m c (g c) ((h.1 c).1 (6 : Fin 7)) b hh,
      h.1.arr_in c 0 rfl, h.1.arr_in c 1 rfl,
      (h.1 c).2 main_arg2 (Pipeline.mem_restRefs_of main_arg2 (by decide) (show ∀ w : Fin 7, (spec0 w).arr.view.ref ≠ main_arg2 by decide)),
      (h.1 c).2 main_arg3 (Pipeline.mem_restRefs_of main_arg3 (by decide) (show ∀ w : Fin 7, (spec0 w).arr.view.ref ≠ main_arg3 by decide)),
      (h.1 c).2 main_arg4 (Pipeline.mem_restRefs_of main_arg4 (by decide) (show ∀ w : Fin 7, (spec0 w).arr.view.ref ≠ main_arg4 by decide)),
      h.1.arr_in c 2 rfl, h.1.arr_in c 3 rfl, h.1.arr_in c 4 rfl⟩) (run_main m ρ hT (fun x => ((g 0).len x).2))

end Cert.V
-- ==== Proof.V.Pool.lean ====
/- Hand-written, untrusted. The reference's gather of the pool and its decoding of the bytes. -/
module

public import proofs.«01_k».proof.Proof.Gen.ReferenceIdeal.Run
public import proofs.«01_k».proof.Proof.V.Token
public import Idealize.ShloMosaic.Lib.Pointwise

@[expose] public section

noncomputable section

namespace Cert.V

open Cert.ReferenceIdeal Cert.ReferenceIdeal.Gen Idealize.ShloMosaic

/-- The gather of pages, read at an index. -/
theorem gather_at (x : S10400x64x656.Idx → BitVec 8) (idx : S65x128x1.Idx → BitVec 32) (b : Fin 65) (p : Fin 128) (a : Fin 64) (c : Fin 656) :
    Host.gather gather_S10400x64x656_S65x128x1_S65x128x64x656_23_0_n_n_0_2_164656 x idx (ix4 b p a c)
      = x (ix3 (⟨min (idx (ix3 b p 0)).toInt.toNat 10399, by omega⟩ : Fin 10400) a c) := by
  unfold Host.gather
  congr 1
  funext k
  refine Fin.ext ?_
  generalize hg : gather_S10400x64x656_S65x128x1_S65x128x64x656_23_0_n_n_0_2_164656 = g
  show g.start (ix4 b p a c) idx k + g.batchCoord (ix4 b p a c) k + g.offCoord (ix4 b p a c) k = _
  have hb : g.batchCoord (ix4 b p a c) k = 0 := GatherDims.batchCoord_eq_zero _ _ _ (fun h => by subst hg; simp [gather_S10400x64x656_S65x128x1_S65x128x64x656_23_0_n_n_0_2_164656] at h)
  rw [hb, Nat.add_zero]
  subst hg
  match k with
  | ⟨0, _⟩ =>
    rw [GatherDims.offCoord_eq_zero _ _ _ (fun h => ((GatherDims.mem_sKept _ _).mp h).1 (List.mem_singleton.mpr rfl)), Nat.add_zero]
    have hsi : gather_S10400x64x656_S65x128x1_S65x128x64x656_23_0_n_n_0_2_164656.siIdx (ix4 b p a c) ⟨List.idxOf (0 : Fin 3) [(0 : Fin 3)],
        List.idxOf_lt_length_iff.2 (List.mem_singleton.mpr rfl)⟩ = ix3 b p 0 := by
      funext b; refine Fin.ext ?_
      match b with
      | ⟨0, _⟩ => rfl
      | ⟨1, _⟩ => rfl
      | ⟨2, _⟩ => rfl
    unfold GatherDims.start
    exact (dif_pos (List.mem_singleton.mpr rfl)).trans (congrArg (fun i => min (idx i).toInt.toNat 10399) hsi)
  | ⟨1, _⟩ =>
    have h0 : gather_S10400x64x656_S65x128x1_S65x128x64x656_23_0_n_n_0_2_164656.start (ix4 b p a c) idx ⟨1, by decide⟩ = 0 := by
      unfold GatherDims.start
      exact dif_neg (show ¬ (1 : Fin 3) ∈ [(0 : Fin 3)] by decide)
    exact (congrArg (· + _) h0).trans ((Nat.zero_add _).trans rfl)
  | ⟨2, _⟩ =>
    have h0 : gather_S10400x64x656_S65x128x1_S65x128x64x656_23_0_n_n_0_2_164656.start (ix4 b p a c) idx ⟨2, by decide⟩ = 0 := by
      unfold GatherDims.start
      exact dif_neg (show ¬ (2 : Fin 3) ∈ [(0 : Fin 3)] by decide)
    exact (congrArg (· + _) h0).trans ((Nat.zero_add _).trans rfl)

/-- The tables' words, a negative one counted from the end: in range, themselves. -/
def wrapT (T : S65x128.Idx → BitVec 32) : S65x128x1.Idx → BitVec 32 :=
  broadcastInDim S65x128x1 ![0, 1] bcast_S65x128_S65x128x1_0_1 (select (cmpi .slt T (broadcastInDim S65x128 ![] bcast_S_S65x128 (constantI S_ 32 0#32)))
    (addi T (broadcastInDim S65x128 ![] bcast_S_S65x128 (constantI S_ 32 10400#32))) T)

theorem wrapT_at (T : S65x128.Idx → BitVec 32) (hT : ∀ x, (T x).toNat < 10400) (b : Fin 65) (p : Fin 128) :
    wrapT T (ix3 b p 0) = T (ix2 b p) := by
  have h := hT (ix2 b p)
  unfold wrapT
  pointwise []
  generalize T (ix2 b p) = w at *
  have : IntOp.cmpi .slt w 0#32 = 0#1 := by
    show BitVec.ofBool (w.slt 0#32) = 0#1
    rw [show w.slt 0#32 = false by rw [BitVec.slt_zero_eq_msb]; exact BitVec.msb_eq_false_iff_two_mul_lt.mpr (by omega)]
    rfl
  rw [this]
  rfl

/-- The gathered pages as rows of tokens. -/
def rows (x : S10400x64x656.Idx → BitVec 8) (T : S65x128.Idx → BitVec 32) : S65x8192x656.Idx → BitVec 8 :=
  shapeCast _ (Host.gather gather_S10400x64x656_S65x128x1_S65x128x64x656_23_0_n_n_0_2_164656 x (wrapT T)) shapeCasts_S65x128x64x656_S65x8192x656

theorem rows_at (x : S10400x64x656.Idx → BitVec 8) (T : S65x128.Idx → BitVec 32) (hT : ∀ x, (T x).toNat < 10400) (b : Fin 65) (j : Fin 8192)
    (c : Fin 656) : rows x T (ix3 b j c) = tokP x T b j.val c := by
  unfold rows
  generalize hs : Host.gather gather_S10400x64x656_S65x128x1_S65x128x64x656_23_0_n_n_0_2_164656 x (wrapT T) = s
  have e : shapeCast S65x8192x656 s shapeCasts_S65x128x64x656_S65x8192x656 (ix3 b j c)
      = s (ix4 b (⟨j.val / 64, by omega⟩ : Fin 128) (⟨j.val % 64, Nat.mod_lt _ (by decide)⟩ : Fin 64) c) := by
    pointwise []
  refine e.trans ?_
  subst hs
  rw [gather_at]
  unfold tokP
  have hj : j.val / 64 % 128 = j.val / 64 := by omega
  have h := hT (ix2 b (⟨j.val / 64, by omega⟩ : Fin 128))
  simp only [hj, wrapT_at T hT]
  have hw : min (T (ix2 b (⟨j.val / 64, by omega⟩ : Fin 128))).toInt.toNat 10399 = (T (ix2 b (⟨j.val / 64, by omega⟩ : Fin 128))).toNat % 10400 := by
    rw [BitVec.toInt_eq_toNat_of_lt (by omega)]; omega
  simp only [hw]

/-- Four bytes shifted into place make one word. -/
theorem or4 (b0 b1 b2 b3 : BitVec 8) :
    ((b0.setWidth 32 ||| b1.setWidth 32 <<< 8) ||| b2.setWidth 32 <<< 16) ||| b3.setWidth 32 <<< 24 = cat4 b0 b1 b2 b3 := by
  apply BitVec.eq_of_getLsbD_eq
  intro i hi
  refine Eq.trans ?_ (cat4_bit ![b0, b1, b2, b3] i hi).symm
  interval_cases i <;> simp [BitVec.getLsbD_setWidth]

/-- A half-word's number is the word's with that upper half. -/
theorem or2 (b0 b1 : BitVec 8) :
    b0.setWidth 32 <<< 16 ||| b1.setWidth 32 <<< 24 = (cat2 b0 b1 ++ 0#16 : BitVec (16 + 16)) := by
  apply BitVec.eq_of_getLsbD_eq
  intro i hi
  rw [BitVec.getLsbD_append]
  by_cases h : i < 16
  · interval_cases i <;> simp [BitVec.getLsbD_setWidth]
  · rw [if_neg h]
    refine Eq.trans ?_ (cat2_bit ![b0, b1] (i - 16) (by omega)).symm
    interval_cases i <;> first | omega | simp [BitVec.getLsbD_setWidth]

/-- A half-word's number, read as the upper half of a word. -/
theorem wide (h : BitVec 16) : Ideal.ofBits .f32 (h ++ 0#16 : BitVec (16 + 16)) = Ideal.ofBits .bf16 h := by
  have hn : (h ++ 0#16 : BitVec (16 + 16)).toNat = h.toNat * 65536 := by
    rw [BitVec.toNat_append]; simp [Nat.shiftLeft_eq]
  have hl := h.isLt
  have e1 : (h ++ 0#16 : BitVec (16 + 16)).extractLsb' 31 1 = h.extractLsb' 15 1 := by
    apply BitVec.eq_of_toNat_eq; rw [BitVec.extractLsb'_toNat, BitVec.extractLsb'_toNat, hn, Nat.shiftRight_eq_div_pow, Nat.shiftRight_eq_div_pow]; omega
  have e2 : (h ++ 0#16 : BitVec (16 + 16)).extractLsb' 23 8 = h.extractLsb' 7 8 := by
    apply BitVec.eq_of_toNat_eq; rw [BitVec.extractLsb'_toNat, BitVec.extractLsb'_toNat, hn, Nat.shiftRight_eq_div_pow, Nat.shiftRight_eq_div_pow]; omega
  have e3 : ((h ++ 0#16 : BitVec (16 + 16)).extractLsb' 0 23).toNat = (h.extractLsb' 0 7).toNat * 65536 := by
    rw [BitVec.extractLsb'_toNat, BitVec.extractLsb'_toNat, hn, Nat.shiftRight_eq_div_pow, Nat.shiftRight_eq_div_pow]; omega
  show Ideal.ieee 8 23 _ = Ideal.ieee 8 7 _
  unfold Ideal.ieee
  show (if ((h ++ 0#16 : BitVec (16 + 16)).extractLsb' 23 8).toNat = _ then _ else _) = (if (h.extractLsb' 7 8).toNat = _ then _ else _)
  simp only [show (8 + 23 : ℕ) = 31 from rfl, show (8 + 7 : ℕ) = 15 from rfl, e1, e2, e3]
  generalize (h.extractLsb' 0 7).toNat = fr
  generalize (h.extractLsb' 7 8).toNat = ex
  have hz : ∀ e : ℤ, (2 : ℝ) ^ (e - 7) = 2 ^ (e - 23) * 65536 := fun e => by
    rw [show e - 7 = e - 23 + 16 by ring, zpow_add₀ (by norm_num)]; norm_num
  simp only [Nat.cast_ofNat, hz]
  split_ifs <;> first | rfl | omega | (congr 1; simp only [Nat.cast_mul, Nat.cast_add, Nat.cast_pow, Nat.cast_ofNat]; ring)

/-- The scales, decoded. -/
theorem scales_at (r : S65x8192x656.Idx → BitVec 8) (b : Fin 65) (j : Fin 8192) (g : Fin 4) :
    (bitcastToFloat (F := Ideal) .f32 (ori (ori (ori (Host.slice S65x8192x4 ![0, 0, 0] ![1, 1, 4] (extui 32 (extractStridedSlice S65x8192x16 ![0, 0, 512] r slices_S65x8192x656_S65x8192x16_0_0_512) natLt_8_32) slicesBy_S65x8192x16_S65x8192x4_0s1_0s1_0s4)
      (Host.shli (Host.slice S65x8192x4 ![0, 0, 1] ![1, 1, 4] (extui 32 (extractStridedSlice S65x8192x16 ![0, 0, 512] r slices_S65x8192x656_S65x8192x16_0_0_512) natLt_8_32) slicesBy_S65x8192x16_S65x8192x4_0s1_0s1_1s4) (broadcastInDim S65x8192x4 ![] bcast_S_S65x8192x4 (constantI S_ 32 8#32))))
      (Host.shli (Host.slice S65x8192x4 ![0, 0, 2] ![1, 1, 4] (extui 32 (extractStridedSlice S65x8192x16 ![0, 0, 512] r slices_S65x8192x656_S65x8192x16_0_0_512) natLt_8_32) slicesBy_S65x8192x16_S65x8192x4_0s1_0s1_2s4) (broadcastInDim S65x8192x4 ![] bcast_S_S65x8192x4 (constantI S_ 32 16#32))))
      (Host.shli (Host.slice S65x8192x4 ![0, 0, 3] ![1, 1, 4] (extui 32 (extractStridedSlice S65x8192x16 ![0, 0, 512] r slices_S65x8192x656_S65x8192x16_0_0_512) natLt_8_32) slicesBy_S65x8192x16_S65x8192x4_0s1_0s1_3s4) (broadcastInDim S65x8192x4 ![] bcast_S_S65x8192x4 (constantI S_ 32 24#32))))
      : S65x8192x4.Idx → EReal) (ix3 b j g) = scE (fun c => r (ix3 b j c)) g := by
  pointwise []
  unfold scE
  rw [← or4]
  simp only [show 512 + (1 + 4 * g.val) = 512 + 4 * g.val + 1 by omega, show 512 + (2 + 4 * g.val) = 512 + 4 * g.val + 2 by omega,
    show 512 + (3 + 4 * g.val) = 512 + 4 * g.val + 3 by omega]
  rfl

/-- The rotary part, decoded. -/
theorem ropes_at (r : S65x8192x656.Idx → BitVec 8) (b : Fin 65) (j : Fin 8192) (d : Fin 64) :
    (truncf (F := Ideal) .bf16 (bitcastToFloat (F := Ideal) .f32 (ori (Host.shli (Host.slice S65x8192x64 ![0, 0, 0] ![1, 1, 2] (extui 32 (extractStridedSlice S65x8192x128 ![0, 0, 528] r slices_S65x8192x656_S65x8192x128_0_0_528) natLt_8_32) slicesBy_S65x8192x128_S65x8192x64_0s1_0s1_0s2) (broadcastInDim S65x8192x64 ![] bcast_S_S65x8192x64 (constantI S_ 32 16#32)))
      (Host.shli (Host.slice S65x8192x64 ![0, 0, 1] ![1, 1, 2] (extui 32 (extractStridedSlice S65x8192x128 ![0, 0, 528] r slices_S65x8192x656_S65x8192x128_0_0_528) natLt_8_32) slicesBy_S65x8192x128_S65x8192x64_0s1_0s1_1s2) (broadcastInDim S65x8192x64 ![] bcast_S_S65x8192x64 (constantI S_ 32 24#32))))) bitsLt_bf16_f32
      : S65x8192x64.Idx → EReal) (ix3 b j d) = ropeE (fun c => r (ix3 b j c)) d := by
  pointwise []
  unfold ropeE
  rw [← wide, ← or2]
  simp only [show 528 + (1 + 2 * d.val) = 528 + 2 * d.val + 1 by omega]
  rfl

end Cert.V
-- ==== Proof.V.Exit.lean ====
/- Hand-written, untrusted. What the reference's later operations run from: the codes, scales and rotary parts of the sequences' tokens. -/
module

public import proofs.«01_k».proof.Proof.V.Pool
public import Idealize.ShloMosaic.Lib.Pipeline.ValueKit.Geometry
public import Idealize.ShloMosaic.Lib.Pipeline.ValueKit.Acc

@[expose] public section

set_option maxRecDepth 16384

noncomputable section

namespace Cert.V

open Cert.ReferenceIdeal Cert.ReferenceIdeal.Gen Cert.ReferenceIdeal.Value Idealize.ShloMosaic Idealize.ShloMosaic.TcCoe Idealize.SL.Sem Idealize.ShloMosaic.StableHlo

variable (m : (ℓ : Loc nD τ sig) → Buf (Elt Ideal) ℓ) (c : Dev nD)

/-- The pool and the page table of a launch. -/
abbrev poolR : S10400x64x656.Idx → BitVec 8 := m ((c.tc : Thread nD τ).loc main_arg2)
abbrev tblR : S65x128.Idx → BitVec 32 := m ((c.tc : Thread nD τ).loc main_arg3)

theorem exit_scales (hT : ∀ x, (tblR m c x).toNat < 10400) (b : Fin 65) (j : Fin 8192) (g : Fin 4) :
    (exitV m c (Proc.devRef .tc main_v25) : S65x8192x4.Idx → EReal) (ix3 b j g) = scE (tokP (poolR m c) (tblR m c) b j.val) g := by
  rw [exit_main_v25]
  exact (scales_at (rows (poolR m c) (tblR m c)) b j g).trans (congrArg (fun f => scE f g) (funext fun k => rows_at _ _ hT b j k))

theorem exit_ropes (hT : ∀ x, (tblR m c x).toNat < 10400) (b : Fin 65) (j : Fin 8192) (d : Fin 64) :
    (exitV m c (Proc.devRef .tc main_v36) : S65x8192x64.Idx → EReal) (ix3 b j d) = ropeE (tokP (poolR m c) (tblR m c) b j.val) d := by
  rw [exit_main_v36]
  exact (ropes_at (rows (poolR m c) (tblR m c)) b j d).trans (congrArg (fun f => ropeE f d) (funext fun k => rows_at _ _ hT b j k))

set_option maxHeartbeats 2000000 in
theorem entry_codes : V0 m c (Proc.devRef .tc main_v9)
    = bitcastToFloat (F := Ideal) .fp8e4m3 (extractStridedSlice S65x8192x512 ![0, 0, 0] (rows (poolR m c) (tblR m c)) slices_S65x8192x656_S65x8192x512_0_0_0) := by
  unfold rows wrapT
  simp only [Gen.V0, Gen.hostOps0, List.flatten_cons, List.flatten_nil, List.append_nil, List.cons_append, List.nil_append]
  after_results_simp <;> rfl

theorem codes_at (hT : ∀ x, (tblR m c x).toNat < 10400) (b : Fin 65) (j : Fin 8192) (k : Fin 512) :
    (V0 m c (Proc.devRef .tc main_v9) : S65x8192x512.Idx → EReal) (ix3 b j k) = codeE (tokP (poolR m c) (tblR m c) b j.val) k := by
  rw [entry_codes]
  have e : ∀ r : S65x8192x656.Idx → BitVec 8, (bitcastToFloat (F := Ideal) .fp8e4m3 (extractStridedSlice S65x8192x512 ![0, 0, 0] r slices_S65x8192x656_S65x8192x512_0_0_0) : S65x8192x512.Idx → EReal) (ix3 b j k)
      = codeE (fun c => r (ix3 b j c)) k := fun r => by
    pointwise [codeE]
  exact (e _).trans (congrArg (fun f => codeE f k) (funext fun k => rows_at _ _ hT b j k))

theorem pay1_at (x : Vec Ideal S65x8192x512 .fp8e4m3) (j : S65x8192x512.Idx) : (k0_pay1 (F := Ideal) x j : EReal) = x j := by
  obtain ⟨a, b, k, rfl⟩ : ∃ (a : Fin 65) (b : Fin 8192) (k : Fin 512), j = ix3 a b k :=
    ⟨j 0, j 1, j 2, funext fun a => by match a with | 0 => rfl | 1 => rfl | 2 => rfl⟩
  pointwise [k0_pay1]

theorem pay2_at (x : Vec Ideal S65x1x512 .fp8e4m3) (j : S65x1x512.Idx) : (k0_pay2 (F := Ideal) x j : EReal) = x j := rfl

/-- The region's first result: the codes as they are. -/
theorem reg0 : (reg_main_v37_0 m c : S65x8192x512.Idx → EReal) = (V m c main_v9 : S65x8192x512.Idx → EReal) := by
  unfold reg_main_v37_0
  refine (dats m 0 c).arrAt_eq_of_after_last 2 t0_0 (by decide +kernel) _ fun j => ?_
  blk_simp
  rw [after0_2]
  frame_out
  generalize iblk m c 1 t0_0 = z
  refine (pay1_at _ j).trans ?_
  unfold iblk
  show V m c main_v9 (((cfg0.win 0).blk t0_0).view.emb j) = V m c main_v9 j
  generalize V m c main_v9 = f
  congr 1
  have e0 : ∀ a, win0_0.index t0_0 a = 0 := by decide +kernel
  blk_ext [e0]

/-- The region's second result: the new tokens' codes as they are. -/
theorem reg1 : (reg_main_v37_1 m c : S65x1x512.Idx → EReal) = (m ((c.tc : Thread nD τ).loc main_arg5) : S65x1x512.Idx → EReal) := by
  unfold reg_main_v37_1
  rw [← V_main_arg5 m c]
  refine (dats m 0 c).arrAt_eq_of_after_last 3 t0_0 (by decide +kernel) _ fun j => ?_
  blk_simp
  rw [after0_3]
  frame_out
  generalize iblk m c 0 t0_0 = z
  refine (pay2_at _ j).trans ?_
  unfold iblk
  show V m c main_arg5 (((cfg0.win 1).blk t0_0).view.emb j) = V m c main_arg5 j
  generalize V m c main_arg5 = f
  congr 1
  have e0 : ∀ a, win0_1.index t0_0 a = 0 := by decide +kernel
  blk_ext [e0]

end Cert.V
-- ==== Proof.V.RRun.lean ====
/- Hand-written, untrusted. The reference's run ends with the two results as functions of its arguments. -/
module

public import proofs.«01_k».proof.Proof.V.Exit
public import proofs.«01_k».proof.Proof.V.Out

@[expose] public section

set_option maxRecDepth 16384

noncomputable section

namespace Cert.V

open Cert.ReferenceIdeal Cert.ReferenceIdeal.Gen Cert.ReferenceIdeal.Value Cert.ReferenceIdeal.Read Idealize.ShloMosaic Idealize.ShloMosaic.TcCoe Idealize.SL.Sem

variable (m : (ℓ : Loc nD τ sig) → Buf (Elt Ideal) ℓ) (c : Dev nD)

/-- The arguments, by position; the pool and the table are `poolR` and `tblR`. -/
abbrev R0 : S65x1x64x512.Idx → EReal := m ((c.tc : Thread nD τ).loc main_arg0)
abbrev R1 : S65x1x64x64.Idx → EReal := m ((c.tc : Thread nD τ).loc main_arg1)
abbrev R4 : S65.Idx → BitVec 32 := m ((c.tc : Thread nD τ).loc main_arg4)
abbrev R5 : S65x1x512.Idx → EReal := m ((c.tc : Thread nD τ).loc main_arg5)
abbrev R6 : S65x1x4.Idx → EReal := m ((c.tc : Thread nD τ).loc main_arg6)
abbrev R7 : S65x1x64.Idx → EReal := m ((c.tc : Thread nD τ).loc main_arg7)

/-- The pool's widened codes are the codes of the tokens' rows. -/
theorem exit_codes (hT : ∀ x, (tblR m c x).toNat < 10400) (b : Fin 65) (j : Fin 8192) (k : Fin 512) :
    (exitV m c (Proc.devRef .tc main_v37_0) : S65x8192x512.Idx → EReal) (ix3 b j k) = codeE (tokP (poolR m c) (tblR m c) b j.val) k := by
  rw [exit_main_v37_0]
  exact (congrFun (reg0 m c) _).trans (codes_at m c hT b j k)

/-- The new token's codes are unchanged by the widening. -/
theorem exit_new : (exitV m c (Proc.devRef .tc main_v37_1) : S65x1x512.Idx → EReal) = R5 m c := by
  rw [exit_main_v37_1]
  exact reg1 m c

/-- The reference's first result. -/
theorem out_eq (hT : ∀ x, (tblR m c x).toNat < 10400) (hn : ∀ x, (R4 m c x).toNat ≤ 8192) :
    (val_main_v100 (F := Ideal) (exitV m c (Proc.devRef .tc main_arg0)) (exitV m c (Proc.devRef .tc main_arg1)) (exitV m c (Proc.devRef .tc main_arg4))
      (exitV m c (Proc.devRef .tc main_arg6)) (exitV m c (Proc.devRef .tc main_arg7)) (exitV m c (Proc.devRef .tc main_v37_0))
      (exitV m c (Proc.devRef .tc main_v37_1)) (exitV m c (Proc.devRef .tc main_v25)) (exitV m c (Proc.devRef .tc main_v36)) : S65x64x512.Idx → EReal)
      = outV (R0 m c) (R1 m c) (poolR m c) (tblR m c) (R4 m c) (R5 m c) (R6 m c) (R7 m c) := by
  rw [exit_main_arg0, exit_main_arg1, exit_main_arg4, exit_main_arg6, exit_main_arg7]
  have h0 := exit_codes m c hT
  have h1 := exit_new m c
  have h2 := exit_scales m c hT
  have h3 := exit_ropes m c hT
  revert h0 h1 h2 h3
  generalize exitV m c (Proc.devRef .tc main_v37_0) = r0
  generalize exitV m c (Proc.devRef .tc main_v37_1) = r1
  generalize exitV m c (Proc.devRef .tc main_v25) = e0
  generalize exitV m c (Proc.devRef .tc main_v36) = e1
  intro h0 h1 h2 h3
  subst h1
  exact eq_outV _ _ _ _ _ _ _ _ fun b h k => ref_out (R0 m c) (R1 m c) (R4 m c) (R6 m c) (R7 m c) r0 (R5 m c) e0 e1 (poolR m c) (tblR m c) h0 h2 h3 hn b h k

/-- The reference's second result. -/
theorem lse_eq (hT : ∀ x, (tblR m c x).toNat < 10400) (hn : ∀ x, (R4 m c x).toNat ≤ 8192) :
    (val_main_v101 (F := Ideal) (exitV m c (Proc.devRef .tc main_arg0)) (exitV m c (Proc.devRef .tc main_arg1)) (exitV m c (Proc.devRef .tc main_arg4))
      (exitV m c (Proc.devRef .tc main_arg6)) (exitV m c (Proc.devRef .tc main_arg7)) (exitV m c (Proc.devRef .tc main_v37_0))
      (exitV m c (Proc.devRef .tc main_v37_1)) (exitV m c (Proc.devRef .tc main_v25)) (exitV m c (Proc.devRef .tc main_v36)) : S65x64x1.Idx → EReal)
      = lseV (R0 m c) (R1 m c) (poolR m c) (tblR m c) (R4 m c) (R5 m c) (R6 m c) (R7 m c) := by
  rw [exit_main_arg0, exit_main_arg1, exit_main_arg4, exit_main_arg6, exit_main_arg7]
  have h0 := exit_codes m c hT
  have h1 := exit_new m c
  have h2 := exit_scales m c hT
  have h3 := exit_ropes m c hT
  revert h0 h1 h2 h3
  generalize exitV m c (Proc.devRef .tc main_v37_0) = r0
  generalize exitV m c (Proc.devRef .tc main_v37_1) = r1
  generalize exitV m c (Proc.devRef .tc main_v25) = e0
  generalize exitV m c (Proc.devRef .tc main_v36) = e1
  intro h0 h1 h2 h3
  subst h1
  exact eq_lseV _ _ _ _ _ _ _ _ fun b h => ref_lse (R0 m c) (R1 m c) (R4 m c) (R6 m c) (R7 m c) r0 (R5 m c) e0 e1 (poolR m c) (tblR m c) h0 h2 h3 hn b h

/-- The reference runs to its end with the two results and its arguments unchanged. -/
theorem ref_run (ρ : Dev nD → PrngReg) (hT : ∀ c x, (tblR m c x).toNat < 10400) (hn : ∀ c x, (R4 m c x).toNat ≤ 8192) :
    θ_run defs (onTc (τ := τ) (main (F := Ideal))) ⟨m, fun _ => 0, ρ⟩ fun r => ∀ c : Dev nD,
      r.2.mem ((c.tc : Thread nD τ).loc main_v100) = outV (R0 m c) (R1 m c) (poolR m c) (tblR m c) (R4 m c) (R5 m c) (R6 m c) (R7 m c)
      ∧ r.2.mem ((c.tc : Thread nD τ).loc main_v101) = lseV (R0 m c) (R1 m c) (poolR m c) (tblR m c) (R4 m c) (R5 m c) (R6 m c) (R7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans ((val_main_v100_eq (exitV m c)).trans (out_eq m c (hT c) (hn c))),
    (h c).2.1.trans ((val_main_v101_eq (exitV m c)).trans (lse_eq m c (hT c) (hn c))), (h c).2.2⟩) (Value.run m ρ)

end Cert.V
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.ReferenceIdeal.Frame
public import proofs.«01_k».proof.Proof.Gen.Pre_finite
public import proofs.«01_k».proof.Proof.Gen.Pre_tables_in_range
public import proofs.«01_k».proof.Proof.Tables
public import proofs.«01_k».proof.Proof.K.Launch
public import proofs.«01_k».proof.Proof.KI.Launch
public import proofs.«01_k».proof.Proof.V.Pre
public import proofs.«01_k».proof.Proof.V.KFin
public import proofs.«01_k».proof.Proof.V.RRun

@[expose] public section

noncomputable section

namespace Cert.Proof

open Idealize.ShloMosaic Idealize.SL.Sem

/-- What the precondition says of the kernel's arguments, as the value proofs use it. -/
theorem good {m : (ℓ : Loc Cert.KernelIdeal.nD Cert.KernelIdeal.τ Cert.KernelIdeal.sig) → Buf (Elt Ideal) ℓ} [Cert.Pre_finite.Facts]
    (h : Pre_KernelIdeal_finite m) (c : Dev Cert.KernelIdeal.nD) : (∀ x, (Cert.V.A3' m c x).toNat < 10400) ∧ Cert.V.Good m c := by
  have e := Cert.V.Pre.main (h c)
  exact ⟨e.1, e.2.1, e.2.2.1, fun b j => e.2.2.2 _ _⟩

/-- The kernel and the reference compute the same two arrays over the extended reals. -/
theorem value [hP : Cert.Pre_finite.Facts] :
    algebraic_KernelIdeal_ReferenceIdeal_pre_finite (hKernelIdeal := Cert.KernelIdeal.Gen.facts) (hReferenceIdeal := Cert.ReferenceIdeal.Gen.facts) (hPre_finite := hP) := by
  intro m g m' g' h e
  have hT : ∀ c x, (Cert.V.tblR m' c x).toNat < 10400 := fun c x =>
    (congrArg BitVec.toNat (congrFun (e c).2.2.2.1 x)).trans_lt ((good h c).1 x)
  have hn : ∀ c x, (Cert.V.R4 m' c x).toNat ≤ 8192 := fun c x =>
    (congrArg BitVec.toNat (congrFun (e c).2.2.2.2.1 x)).trans_le (((good h c).2.len x).2)
  refine ⟨_, _, Cert.V.ker_run m g (good h 0).1 (fun c => (good h c).2), ?_⟩
  refine (θ_run _ _ _).mono (fun r hr c => ?_) (Cert.V.ref_run m' g' hT hn)
  obtain ⟨e0, e1, e2, e3, e4, e5, e6, e7⟩ := e c
  have f0 : Cert.V.R0 m' c = Cert.V.A0 m c := e0
  have f1 : Cert.V.R1 m' c = Cert.V.A1 m c := e1
  have f2 : Cert.V.poolR m' c = Cert.V.A2 m c := e2
  have f3 : Cert.V.tblR m' c = Cert.V.A3' m c := e3
  have f4 : Cert.V.R4 m' c = Cert.V.A4 m c := e4
  have f5 : Cert.V.R5 m' c = Cert.V.A5 m c := e5
  have f6 : Cert.V.R6 m' c = Cert.V.A6 m c := e6
  have f7 : Cert.V.R7 m' c = Cert.V.A7 m c := e7
  have q := hr c
  rw [f0, f1, f2, f3, f4, f5, f6, f7] at q
  exact q

/-- All the claims. -/
theorem claim : Cert.Claim :=
  letI := Cert.Pre_finite.Gen.facts
  ⟨Cert.Kernel.Gen.facts, Cert.KernelIdeal.Gen.facts, Cert.ReferenceIdeal.Gen.facts, Cert.Pre_tables_in_range.Gen.facts, Cert.Pre_finite.Gen.facts,
    fun m g h => have e := Cert.Pre_tables_in_range.Hand.in_range _ _ _ _ _ _ _ _ (h 0); Cert.Kernel.Hand.frame m g e.1 e.2,
    fun m g h => have e := Cert.Pre_tables_in_range.Hand.in_range _ _ _ _ _ _ _ _ (h 0); Cert.KernelIdeal.Hand.frame m g e.1 e.2,
    fun m g h => have e := good h 0; Cert.KernelIdeal.Hand.frame m g e.1 (fun x => (e.2.len x).2),
    fun m g _ => Cert.ReferenceIdeal.Gen.frame m g,
    fun m g _ => Cert.ReferenceIdeal.Gen.frame m g,
    trivial,
    value⟩

end Cert.Proof

end
